-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DNorm (m : (ℓ : Loc Cert.DNorm.nD Cert.DNorm.τ Cert.DNorm.sig) → Buf (Elt Bits) ℓ) : Prop :=
  True

def Pre_DNormIdeal (m : (ℓ : Loc Cert.DNormIdeal.nD Cert.DNormIdeal.τ Cert.DNormIdeal.sig) → Buf (Elt Ideal) ℓ) : Prop :=
  True

def Pre_DNormRefIdeal (m : (ℓ : Loc Cert.DNormRefIdeal.nD Cert.DNormRefIdeal.τ Cert.DNormRefIdeal.sig) → Buf (Elt Ideal) ℓ) : Prop :=
  True

def Pre_DGate [hPre_du_finite : Cert.Pre_du_finite.Facts] (m : (ℓ : Loc Cert.DGate.nD Cert.DGate.τ Cert.DGate.sig) → Buf (Elt Bits) ℓ) : Prop :=
  ∀ c : Dev Cert.DGate.nD,
    (Cert.Pre_du_finite.fn (F := Bits) (m ((c.tc : Thread Cert.DGate.nD Cert.DGate.τ).loc Cert.DGate.main_arg0)) (m ((c.tc : Thread Cert.DGate.nD Cert.DGate.τ).loc Cert.DGate.main_arg1)) (m ((c.tc : Thread Cert.DGate.nD Cert.DGate.τ).loc Cert.DGate.main_arg2))) = (fun _ => 1#1)

def Pre_DGate_none (m : (ℓ : Loc Cert.DGate.nD Cert.DGate.τ Cert.DGate.sig) → Buf (Elt Bits) ℓ) : Prop :=
  True

def Pre_DGateIdeal [hPre_du_finite : Cert.Pre_du_finite.Facts] (m : (ℓ : Loc Cert.DGateIdeal.nD Cert.DGateIdeal.τ Cert.DGateIdeal.sig) → Buf (Elt Ideal) ℓ) : Prop :=
  ∀ c : Dev Cert.DGateIdeal.nD,
    (Cert.Pre_du_finite.fn (F := Ideal) (m ((c.tc : Thread Cert.DGateIdeal.nD Cert.DGateIdeal.τ).loc Cert.DGateIdeal.main_arg0)) (m ((c.tc : Thread Cert.DGateIdeal.nD Cert.DGateIdeal.τ).loc Cert.DGateIdeal.main_arg1)) (m ((c.tc : Thread Cert.DGateIdeal.nD Cert.DGateIdeal.τ).loc Cert.DGateIdeal.main_arg2))) = (fun _ => 1#1)

def Pre_DGateIdeal_none (m : (ℓ : Loc Cert.DGateIdeal.nD Cert.DGateIdeal.τ Cert.DGateIdeal.sig) → Buf (Elt Ideal) ℓ) : Prop :=
  True

def Pre_DGateRefIdeal (m : (ℓ : Loc Cert.DGateRefIdeal.nD Cert.DGateRefIdeal.τ Cert.DGateRefIdeal.sig) → Buf (Elt Ideal) ℓ) : Prop :=
  True

def Pre_DGateRefIdeal_du_finite [hPre_du_finite : Cert.Pre_du_finite.Facts] (m : (ℓ : Loc Cert.DGateRefIdeal.nD Cert.DGateRefIdeal.τ Cert.DGateRefIdeal.sig) → Buf (Elt Ideal) ℓ) : Prop :=
  ∀ c : Dev Cert.DGateRefIdeal.nD,
    (Cert.Pre_du_finite.fn (F := Ideal) (m ((c.tc : Thread Cert.DGateRefIdeal.nD Cert.DGateRefIdeal.τ).loc Cert.DGateRefIdeal.main_arg0)) (m ((c.tc : Thread Cert.DGateRefIdeal.nD Cert.DGateRefIdeal.τ).loc Cert.DGateRefIdeal.main_arg1)) (m ((c.tc : Thread Cert.DGateRefIdeal.nD Cert.DGateRefIdeal.τ).loc Cert.DGateRefIdeal.main_arg2))) = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_DNorm [hDNorm : Cert.DNorm.Facts] : Prop :=
  ∀ (m : (ℓ : Loc Cert.DNorm.nD Cert.DNorm.τ Cert.DNorm.sig) → Buf (Elt Bits) ℓ) (g : Dev Cert.DNorm.nD → PrngReg), Pre_DNorm m →
    θ_run (Cert.DNorm.defs (F := Bits)) (onTc (τ := Cert.DNorm.τ) (Cert.DNorm.main (F := Bits))) ⟨m, fun _ => 0, g⟩ (fun r => (∀ c : Dev Cert.DNorm.nD,
      r.2.mem ((c.tc : Thread Cert.DNorm.nD Cert.DNorm.τ).loc Cert.DNorm.main_arg0) = m ((c.tc : Thread Cert.DNorm.nD Cert.DNorm.τ).loc Cert.DNorm.main_arg0)
      ∧ r.2.mem ((c.tc : Thread Cert.DNorm.nD Cert.DNorm.τ).loc Cert.DNorm.main_arg1) = m ((c.tc : Thread Cert.DNorm.nD Cert.DNorm.τ).loc Cert.DNorm.main_arg1)
      ∧ r.2.mem ((c.tc : Thread Cert.DNorm.nD Cert.DNorm.τ).loc Cert.DNorm.main_arg2) = m ((c.tc : Thread Cert.DNorm.nD Cert.DNorm.τ).loc Cert.DNorm.main_arg2)
      ∧ r.2.mem ((c.tc : Thread Cert.DNorm.nD Cert.DNorm.τ).loc Cert.DNorm.main_arg3) = m ((c.tc : Thread Cert.DNorm.nD Cert.DNorm.τ).loc Cert.DNorm.main_arg3))
      ∧ r.2.sem = fun _ => 0)

def quiescent_DNormIdeal [hDNormIdeal : Cert.DNormIdeal.Facts] : Prop :=
  ∀ (m : (ℓ : Loc Cert.DNormIdeal.nD Cert.DNormIdeal.τ Cert.DNormIdeal.sig) → Buf (Elt Ideal) ℓ) (g : Dev Cert.DNormIdeal.nD → PrngReg), Pre_DNormIdeal m →
    θ_run (Cert.DNormIdeal.defs (F := Ideal)) (onTc (τ := Cert.DNormIdeal.τ) (Cert.DNormIdeal.main (F := Ideal))) ⟨m, fun _ => 0, g⟩ (fun r => (∀ c : Dev Cert.DNormIdeal.nD,
      r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
      ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
      ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
      ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ r.2.sem = fun _ => 0)

def quiescent_DNormRefIdeal [hDNormRefIdeal : Cert.DNormRefIdeal.Facts] : Prop :=
  ∀ (m : (ℓ : Loc Cert.DNormRefIdeal.nD Cert.DNormRefIdeal.τ Cert.DNormRefIdeal.sig) → Buf (Elt Ideal) ℓ) (g : Dev Cert.DNormRefIdeal.nD → PrngReg), Pre_DNormRefIdeal m →
    θ_run (Cert.DNormRefIdeal.defs (F := Ideal)) (onTc (τ := Cert.DNormRefIdeal.τ) (Cert.DNormRefIdeal.main (F := Ideal))) ⟨m, fun _ => 0, g⟩ (fun r => (∀ c : Dev Cert.DNormRefIdeal.nD,
      r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
      ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1)
      ∧ r.2.mem ((c.tc : Thread Cert.DNormRefIdeal.nD Cert.DNormRefIdeal.τ).loc Cert.DNormRefIdeal.main_arg2) = m ((c.tc : Thread Cert.DNormRefIdeal.nD Cert.DNormRefIdeal.τ).loc Cert.DNormRefIdeal.main_arg2)
      ∧ r.2.mem ((c.tc : Thread Cert.DNormRefIdeal.nD Cert.DNormRefIdeal.τ).loc Cert.DNormRefIdeal.main_arg3) = m ((c.tc : Thread Cert.DNormRefIdeal.nD Cert.DNormRefIdeal.τ).loc Cert.DNormRefIdeal.main_arg3))
      ∧ r.2.sem = fun _ => 0)

def quiescent_DGate [hDGate : Cert.DGate.Facts] [hPre_du_finite : Cert.Pre_du_finite.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2))
      ∧ r.2.sem = fun _ => 0)

def quiescent_DGate_pre_none [hDGate : Cert.DGate.Facts] : Prop :=
  ∀ (m : (ℓ : Loc Cert.DGate.nD Cert.DGate.τ Cert.DGate.sig) → Buf (Elt Bits) ℓ) (g : Dev Cert.DGate.nD → PrngReg), Pre_DGate_none m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2))
      ∧ r.2.sem = fun _ => 0)

def quiescent_DGateIdeal [hDGateIdeal : Cert.DGateIdeal.Facts] [hPre_du_finite : Cert.Pre_du_finite.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2))
      ∧ r.2.sem = fun _ => 0)

def quiescent_DGateIdeal_pre_none [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal_none m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2))
      ∧ r.2.sem = fun _ => 0)

def quiescent_DGateRefIdeal_pre_du_finite [hDGateRefIdeal : Cert.DGateRefIdeal.Facts] [hPre_du_finite : Cert.Pre_du_finite.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal_du_finite m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_v242) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v3) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v3) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_v30) = v1 c
          ∧ r.2.mem ((c.tc : Thread Cert.MergeRefIdeal.nD Cert.MergeRefIdeal.τ).loc Cert.MergeRefIdeal.main_v31) = v2 c
          ∧ r.2.mem ((c.tc : Thread Cert.MergeRefIdeal.nD Cert.MergeRefIdeal.τ).loc Cert.MergeRefIdeal.main_v32) = v3 c
          ∧ r.2.mem ((c.tc : Thread Cert.MergeRefIdeal.nD Cert.MergeRefIdeal.τ).loc Cert.MergeRefIdeal.main_v33) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v48) = v0 c
          ∧ r.2.mem ((c.tc : Thread Cert.MergeBwdRefIdeal.nD Cert.MergeBwdRefIdeal.τ).loc Cert.MergeBwdRefIdeal.main_v49) = v1 c
          ∧ r.2.mem ((c.tc : Thread Cert.MergeBwdRefIdeal.nD Cert.MergeBwdRefIdeal.τ).loc Cert.MergeBwdRefIdeal.main_v50) = v2 c
          ∧ r.2.mem ((c.tc : Thread Cert.MergeBwdRefIdeal.nD Cert.MergeBwdRefIdeal.τ).loc Cert.MergeBwdRefIdeal.main_v51) = v3 c
          ∧ r.2.mem ((c.tc : Thread Cert.MergeBwdRefIdeal.nD Cert.MergeBwdRefIdeal.τ).loc Cert.MergeBwdRefIdeal.main_v52) = v4 c
          ∧ r.2.mem ((c.tc : Thread Cert.MergeBwdRefIdeal.nD Cert.MergeBwdRefIdeal.τ).loc Cert.MergeBwdRefIdeal.main_v53) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_v15) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_DNorm_DNormIdeal : Prop :=
  True

def algebraic_DNormIdeal_DNormRefIdeal [hDNormIdeal : Cert.DNormIdeal.Facts] [hDNormRefIdeal : Cert.DNormRefIdeal.Facts] : Prop :=
  ∀ (m : (ℓ : Loc Cert.DNormIdeal.nD Cert.DNormIdeal.τ Cert.DNormIdeal.sig) → Buf (Elt Ideal) ℓ) (g : Dev Cert.DNormIdeal.nD → PrngReg)
    (m' : (ℓ : Loc Cert.DNormRefIdeal.nD Cert.DNormRefIdeal.τ Cert.DNormRefIdeal.sig) → Buf (Elt Ideal) ℓ) (g' : Dev Cert.DNormRefIdeal.nD → PrngReg), Pre_DNormIdeal m →
    (∀ c : Dev Cert.DNormIdeal.nD,
      m' ((c.tc : Thread Cert.DNormRefIdeal.nD Cert.DNormRefIdeal.τ).loc Cert.DNormRefIdeal.main_arg0) = m ((c.tc : Thread Cert.DNormIdeal.nD Cert.DNormIdeal.τ).loc Cert.DNormIdeal.main_arg0)
      ∧ m' ((c.tc : Thread Cert.DNormRefIdeal.nD Cert.DNormRefIdeal.τ).loc Cert.DNormRefIdeal.main_arg1) = m ((c.tc : Thread Cert.DNormIdeal.nD Cert.DNormIdeal.τ).loc Cert.DNormIdeal.main_arg1)
      ∧ m' ((c.tc : Thread Cert.DNormRefIdeal.nD Cert.DNormRefIdeal.τ).loc Cert.DNormRefIdeal.main_arg2) = m ((c.tc : Thread Cert.DNormIdeal.nD Cert.DNormIdeal.τ).loc Cert.DNormIdeal.main_arg2)
      ∧ m' ((c.tc : Thread Cert.DNormRefIdeal.nD Cert.DNormRefIdeal.τ).loc Cert.DNormRefIdeal.main_arg3) = m ((c.tc : Thread Cert.DNormIdeal.nD Cert.DNormIdeal.τ).loc Cert.DNormIdeal.main_arg3)) →
    ∃ (v0 : (c : Dev Cert.DNormIdeal.nD) → Buf (Elt Ideal) ((c.tc : Thread Cert.DNormIdeal.nD Cert.DNormIdeal.τ).loc Cert.DNormIdeal.main_v1_0)) (v1 : (c : Dev Cert.DNormIdeal.nD) → Buf (Elt Ideal) ((c.tc : Thread Cert.DNormIdeal.nD Cert.DNormIdeal.τ).loc Cert.DNormIdeal.main_v1_1)) (v2 : (c : Dev Cert.DNormIdeal.nD) → Buf (Elt Ideal) ((c.tc : Thread Cert.DNormIdeal.nD Cert.DNormIdeal.τ).loc Cert.DNormIdeal.main_v1_2)),
      θ_run (Cert.DNormIdeal.defs (F := Ideal)) (onTc (τ := Cert.DNormIdeal.τ) (Cert.DNormIdeal.main (F := Ideal))) ⟨m, fun _ => 0, g⟩ (fun r => ∀ c : Dev Cert.DNormIdeal.nD,
          r.2.mem ((c.tc : Thread Cert.DNormIdeal.nD Cert.DNormIdeal.τ).loc Cert.DNormIdeal.main_v1_0) = v0 c
          ∧ r.2.mem ((c.tc : Thread Cert.DNormIdeal.nD Cert.DNormIdeal.τ).loc Cert.DNormIdeal.main_v1_1) = v1 c
          ∧ r.2.mem ((c.tc : Thread Cert.DNormIdeal.nD Cert.DNormIdeal.τ).loc Cert.DNormIdeal.main_v1_2) = v2 c
          ∧ r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
          ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
          ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
          ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ θ_run (Cert.DNormRefIdeal.defs (F := Ideal)) (onTc (τ := Cert.DNormRefIdeal.τ) (Cert.DNormRefIdeal.main (F := Ideal))) ⟨m', fun _ => 0, g'⟩ (fun r => ∀ c : Dev Cert.DNormRefIdeal.nD,
          r.2.mem ((c.tc : Thread Cert.DNormRefIdeal.nD Cert.DNormRefIdeal.τ).loc Cert.DNormRefIdeal.main_v36) = v0 c
          ∧ r.2.mem ((c.tc : Thread Cert.DNormRefIdeal.nD Cert.DNormRefIdeal.τ).loc Cert.DNormRefIdeal.main_v37) = v1 c
          ∧ r.2.mem ((c.tc : Thread Cert.DNormRefIdeal.nD Cert.DNormRefIdeal.τ).loc Cert.DNormRefIdeal.main_v38) = v2 c
          ∧ r.2.mem ((c.tc : Thread Cert.DNormRefIdeal.nD Cert.DNormRefIdeal.τ).loc Cert.DNormRefIdeal.main_arg0) = m' ((c.tc : Thread Cert.DNormRefIdeal.nD Cert.DNormRefIdeal.τ).loc Cert.DNormRefIdeal.main_arg0)
          ∧ r.2.mem ((c.tc : Thread Cert.DNormRefIdeal.nD Cert.DNormRefIdeal.τ).loc Cert.DNormRefIdeal.main_arg1) = m' ((c.tc : Thread Cert.DNormRefIdeal.nD Cert.DNormRefIdeal.τ).loc Cert.DNormRefIdeal.main_arg1)
          ∧ r.2.mem ((c.tc : Thread Cert.DNormRefIdeal.nD Cert.DNormRefIdeal.τ).loc Cert.DNormRefIdeal.main_arg2) = m' ((c.tc : Thread Cert.DNormRefIdeal.nD Cert.DNormRefIdeal.τ).loc Cert.DNormRefIdeal.main_arg2)
          ∧ r.2.mem ((c.tc : Thread Cert.DNormRefIdeal.nD Cert.DNormRefIdeal.τ).loc Cert.DNormRefIdeal.main_arg3) = m' ((c.tc : Thread Cert.DNormRefIdeal.nD Cert.DNormRefIdeal.τ).loc Cert.DNormRefIdeal.main_arg3))

def preserves_DGate_DGateIdeal : Prop :=
  True

def algebraic_DGateIdeal_DGateRefIdeal [hDGateIdeal : Cert.DGateIdeal.Facts] [hDGateRefIdeal : Cert.DGateRefIdeal.Facts] [hPre_du_finite : Cert.Pre_du_finite.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)
      ∧ m' ((c.tc : Thread Cert.DGateRefIdeal.nD Cert.DGateRefIdeal.τ).loc Cert.DGateRefIdeal.main_arg2) = m ((c.tc : Thread Cert.DGateIdeal.nD Cert.DGateIdeal.τ).loc Cert.DGateIdeal.main_arg2)) →
    ∃ (v0 : (c : Dev Cert.DGateIdeal.nD) → Buf (Elt Ideal) ((c.tc : Thread Cert.DGateIdeal.nD Cert.DGateIdeal.τ).loc Cert.DGateIdeal.main_v0_0)) (v1 : (c : Dev Cert.DGateIdeal.nD) → Buf (Elt Ideal) ((c.tc : Thread Cert.DGateIdeal.nD Cert.DGateIdeal.τ).loc Cert.DGateIdeal.main_v0_1)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0_0) = v0 c
          ∧ r.2.mem ((c.tc : Thread Cert.DGateIdeal.nD Cert.DGateIdeal.τ).loc Cert.DGateIdeal.main_v0_1) = v1 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
          ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v37) = v0 c
          ∧ r.2.mem ((c.tc : Thread Cert.DGateRefIdeal.nD Cert.DGateRefIdeal.τ).loc Cert.DGateRefIdeal.main_v38) = v1 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1)
          ∧ r.2.mem ((c.tc : Thread Cert.DGateRefIdeal.nD Cert.DGateRefIdeal.τ).loc Cert.DGateRefIdeal.main_arg2) = m' ((c.tc : Thread Cert.DGateRefIdeal.nD Cert.DGateRefIdeal.τ).loc Cert.DGateRefIdeal.main_arg2))

def preserves_Adam_AdamIdeal : Prop :=
  IdealRules.named_const.Statement Cert.AdamIdeal.κ "c1" .f32 0x3FC48605#32 ((8388608 / 5463681 : ℝ) : EReal)
  ∧ IdealRules.named_const.Statement Cert.AdamIdeal.κ "c2" .f32 0x42C8E6D3#32 ((268435456 / 2672307 : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v31) = v1 c
          ∧ r.2.mem ((c.tc : Thread Cert.AdamRefIdeal.nD Cert.AdamRefIdeal.τ).loc Cert.AdamRefIdeal.main_v12) = v2 c
          ∧ r.2.mem ((c.tc : Thread Cert.AdamRefIdeal.nD Cert.AdamRefIdeal.τ).loc Cert.AdamRefIdeal.main_v18) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamBranch_AdamBranchIdeal : Prop :=
  IdealRules.named_const.Statement Cert.AdamBranchIdeal.κ "c1" .f32 0x3FC48605#32 ((8388608 / 5463681 : ℝ) : EReal)
  ∧ IdealRules.named_const.Statement Cert.AdamBranchIdeal.κ "c2" .f32 0x42C8E6D3#32 ((268435456 / 2672307 : ℝ) : EReal)

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v1) = v0 c
          ∧ r.2.mem ((c.tc : Thread Cert.AdamBranchRefIdeal.nD Cert.AdamBranchRefIdeal.τ).loc Cert.AdamBranchRefIdeal.main_v31) = v1 c
          ∧ r.2.mem ((c.tc : Thread Cert.AdamBranchRefIdeal.nD Cert.AdamBranchRefIdeal.τ).loc Cert.AdamBranchRefIdeal.main_v12) = v2 c
          ∧ r.2.mem ((c.tc : Thread Cert.AdamBranchRefIdeal.nD Cert.AdamBranchRefIdeal.τ).loc Cert.AdamBranchRefIdeal.main_v18) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hDwIn : Cert.DwIn.Facts) (hDwInIdeal : Cert.DwInIdeal.Facts) (hDwInRefIdeal : Cert.DwInRefIdeal.Facts) (hDh : Cert.Dh.Facts) (hDhIdeal : Cert.DhIdeal.Facts) (hDhRefIdeal : Cert.DhRefIdeal.Facts) (hDu : Cert.Du.Facts) (hDuIdeal : Cert.DuIdeal.Facts) (hDuRefIdeal : Cert.DuRefIdeal.Facts) (hDw : Cert.Dw.Facts) (hDwIdeal : Cert.DwIdeal.Facts) (hDwRefIdeal : Cert.DwRefIdeal.Facts) (hOutProj : Cert.OutProj.Facts) (hOutProjIdeal : Cert.OutProjIdeal.Facts) (hOutProjRefIdeal : Cert.OutProjRefIdeal.Facts) (hDwOut : Cert.DwOut.Facts) (hDwOutIdeal : Cert.DwOutIdeal.Facts) (hDwOutRefIdeal : Cert.DwOutRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hNorm : Cert.Norm.Facts) (hNormIdeal : Cert.NormIdeal.Facts) (hNormRefIdeal : Cert.NormRefIdeal.Facts) (hDNorm : Cert.DNorm.Facts) (hDNormIdeal : Cert.DNormIdeal.Facts) (hDNormRefIdeal : Cert.DNormRefIdeal.Facts) (hDGate : Cert.DGate.Facts) (hDGateIdeal : Cert.DGateIdeal.Facts) (hDGateRefIdeal : Cert.DGateRefIdeal.Facts) (hAdam : Cert.Adam.Facts) (hAdamIdeal : Cert.AdamIdeal.Facts) (hAdamRefIdeal : Cert.AdamRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hPre_du_finite : Cert.Pre_du_finite.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh (hDh := hDh)
    ∧ quiescent_DhIdeal (hDhIdeal := hDhIdeal)
    ∧ quiescent_DhRefIdeal (hDhRefIdeal := hDhRefIdeal)
    ∧ quiescent_Du (hDu := hDu)
    ∧ quiescent_DuIdeal (hDuIdeal := hDuIdeal)
    ∧ quiescent_DuRefIdeal (hDuRefIdeal := hDuRefIdeal)
    ∧ quiescent_Dw (hDw := hDw)
    ∧ quiescent_DwIdeal (hDwIdeal := hDwIdeal)
    ∧ quiescent_DwRefIdeal (hDwRefIdeal := hDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Norm (hNorm := hNorm)
    ∧ quiescent_NormIdeal (hNormIdeal := hNormIdeal)
    ∧ quiescent_NormRefIdeal (hNormRefIdeal := hNormRefIdeal)
    ∧ quiescent_DNorm (hDNorm := hDNorm)
    ∧ quiescent_DNormIdeal (hDNormIdeal := hDNormIdeal)
    ∧ quiescent_DNormRefIdeal (hDNormRefIdeal := hDNormRefIdeal)
    ∧ quiescent_DGate (hDGate := hDGate) (hPre_du_finite := hPre_du_finite)
    ∧ quiescent_DGate_pre_none (hDGate := hDGate)
    ∧ quiescent_DGateIdeal (hDGateIdeal := hDGateIdeal) (hPre_du_finite := hPre_du_finite)
    ∧ quiescent_DGateIdeal_pre_none (hDGateIdeal := hDGateIdeal)
    ∧ quiescent_DGateRefIdeal (hDGateRefIdeal := hDGateRefIdeal)
    ∧ quiescent_DGateRefIdeal_pre_du_finite (hDGateRefIdeal := hDGateRefIdeal) (hPre_du_finite := hPre_du_finite)
    ∧ quiescent_Adam (hAdam := hAdam)
    ∧ quiescent_AdamIdeal (hAdamIdeal := hAdamIdeal)
    ∧ quiescent_AdamRefIdeal (hAdamRefIdeal := hAdamRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_DwIn_DwInIdeal
    ∧ algebraic_DwInIdeal_DwInRefIdeal (hDwInIdeal := hDwInIdeal) (hDwInRefIdeal := hDwInRefIdeal)
    ∧ preserves_Dh_DhIdeal
    ∧ algebraic_DhIdeal_DhRefIdeal (hDhIdeal := hDhIdeal) (hDhRefIdeal := hDhRefIdeal)
    ∧ preserves_Du_DuIdeal
    ∧ algebraic_DuIdeal_DuRefIdeal (hDuIdeal := hDuIdeal) (hDuRefIdeal := hDuRefIdeal)
    ∧ preserves_Dw_DwIdeal
    ∧ algebraic_DwIdeal_DwRefIdeal (hDwIdeal := hDwIdeal) (hDwRefIdeal := hDwRefIdeal)
    ∧ preserves_OutProj_OutProjIdeal
    ∧ algebraic_OutProjIdeal_OutProjRefIdeal (hOutProjIdeal := hOutProjIdeal) (hOutProjRefIdeal := hOutProjRefIdeal)
    ∧ preserves_DwOut_DwOutIdeal
    ∧ algebraic_DwOutIdeal_DwOutRefIdeal (hDwOutIdeal := hDwOutIdeal) (hDwOutRefIdeal := hDwOutRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Norm_NormIdeal
    ∧ algebraic_NormIdeal_NormRefIdeal (hNormIdeal := hNormIdeal) (hNormRefIdeal := hNormRefIdeal)
    ∧ preserves_DNorm_DNormIdeal
    ∧ algebraic_DNormIdeal_DNormRefIdeal (hDNormIdeal := hDNormIdeal) (hDNormRefIdeal := hDNormRefIdeal)
    ∧ preserves_DGate_DGateIdeal
    ∧ algebraic_DGateIdeal_DGateRefIdeal (hDGateIdeal := hDGateIdeal) (hDGateRefIdeal := hDGateRefIdeal) (hPre_du_finite := hPre_du_finite)
    ∧ preserves_Adam_AdamIdeal
    ∧ algebraic_AdamIdeal_AdamRefIdeal (hAdamIdeal := hAdamIdeal) (hAdamRefIdeal := hAdamRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
-- ==== Pre_du_finite.lean ====
abbrev S4096x1024 : Shape := ⟨2, ![4096, 1024]⟩
abbrev S4096x14848 : Shape := ⟨2, ![4096, 14848]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .f32) (main_arg2 : FVec F S4096x14848 .f32) : IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  main_v2
-- ==== Kernel.lean ====
abbrev S4096x14848 : Shape := ⟨2, ![4096, 14848]⟩
abbrev S4096x1024 : Shape := ⟨2, ![4096, 1024]⟩
abbrev S4x32x256x256 : Shape := ⟨4, ![4, 32, 256, 256]⟩
abbrev S4 : Shape := ⟨1, ![4]⟩
abbrev S4096 : Shape := ⟨1, ![4096]⟩
abbrev S4096x1 : Shape := ⟨2, ![4096, 1]⟩
abbrev S_ : Shape := ⟨0, ![]⟩
abbrev S127 : Shape := ⟨1, ![127]⟩
abbrev S1 : Shape := ⟨1, ![1]⟩
abbrev S128 : Shape := ⟨1, ![128]⟩
abbrev S1x128 : Shape := ⟨2, ![1, 128]⟩
abbrev S4096x128 : Shape := ⟨2, ![4096, 128]⟩
abbrev S4x8x128 : Shape := ⟨3, ![4, 8, 128]⟩
abbrev S128x1024 : Shape := ⟨2, ![128, 1024]⟩
abbrev S128x128 : Shape := ⟨2, ![128, 128]⟩
abbrev S4x1x256x256 : Shape := ⟨4, ![4, 1, 256, 256]⟩
abbrev S128x1 : Shape := ⟨2, ![128, 1]⟩
abbrev S8x128 : Shape := ⟨2, ![8, 128]⟩
abbrev S128x256 : Shape := ⟨2, ![128, 256]⟩
abbrev S1x1x256x256 : Shape := ⟨4, ![1, 1, 256, 256]⟩
abbrev S256x256 : Shape := ⟨2, ![256, 256]⟩
abbrev S1x1 : Shape := ⟨2, ![1, 1]⟩
abbrev S256 : Shape := ⟨1, ![256]⟩
abbrev S256x1 : Shape := ⟨2, ![256, 1]⟩
abbrev S1x8x128 : Shape := ⟨3, ![1, 8, 128]⟩

abbrev nBuf : Space → Nat
  | .hbm => 49
  | .vmem => 27
  | .smem => 2
  | _ => 0

abbrev bufTy : (tb : Table) → Fin (tcTables nBuf tb) → BufTy
  | .hbm, ⟨0, _⟩ => ⟨S4096x14848, .f32⟩
  | .hbm, ⟨1, _⟩ => ⟨S4096x1024, .f32⟩
  | .hbm, ⟨2, _⟩ => ⟨S4x32x256x256, .bf16⟩
  | .hbm, ⟨3, _⟩ => ⟨S4x32x256x256, .bf16⟩
  | .hbm, ⟨4, _⟩ => ⟨S4x32x256x256, .bf16⟩
  | .hbm, ⟨5, _⟩ => ⟨S4x32x256x256, .bf16⟩
  | .hbm, ⟨6, _⟩ => ⟨S4, .f32⟩
  | .hbm, ⟨7, _⟩ => ⟨S4, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S127, .f32⟩
  | .hbm, ⟨18, _⟩ => ⟨S_, .f32⟩
  | .hbm, ⟨19, _⟩ => ⟨S127, .f32⟩
  | .hbm, ⟨20, _⟩ => ⟨S127, .f32⟩
  | .hbm, ⟨21, _⟩ => ⟨S1, .f32⟩
  | .hbm, ⟨22, _⟩ => ⟨S_, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S127, .f32⟩
  | .hbm, ⟨27, _⟩ => ⟨S1, .f32⟩
  | .hbm, ⟨28, _⟩ => ⟨S127, .f32⟩
  | .hbm, ⟨29, _⟩ => ⟨S127, .f32⟩
  | .hbm, ⟨30, _⟩ => ⟨S127, .f32⟩
  | .hbm, ⟨31, _⟩ => ⟨S1, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4x8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x1x256x256, .bf16⟩
  | .local _ .vmem, ⟨13, _⟩ => ⟨S4x1x256x256, .bf16⟩
  | .local _ .vmem, ⟨14, _⟩ => ⟨S4x1x256x256, .bf16⟩
  | .local _ .vmem, ⟨15, _⟩ => ⟨S4x1x256x256, .bf16⟩
  | .local _ .vmem, ⟨16, _⟩ => ⟨S4x1x256x256, .bf16⟩
  | .local _ .vmem, ⟨17, _⟩ => ⟨S4x1x256x256, .bf16⟩
  | .local _ .vmem, ⟨18, _⟩ => ⟨S4x1x256x256, .bf16⟩
  | .local _ .vmem, ⟨19, _⟩ => ⟨S4x1x256x256, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S4x8x128, .f32⟩
  | .local _ .smem, ⟨0, _⟩ => ⟨S4, .f32⟩
  | .local _ .smem, ⟨1, _⟩ => ⟨S4, .f32⟩
  | _, _ => ⟨S4096x14848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v2 : Ref sig .tc := ⟨.hbm, 32, rfl⟩
abbrev main_cst_1 : Ref sig .tc := ⟨.hbm, 33, rfl⟩
abbrev main_v3 : Ref sig .tc := ⟨.hbm, 34, rfl⟩
abbrev main_v4 : Ref sig .tc := ⟨.hbm, 35, rfl⟩
abbrev main_cst_2 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v13_2 : Ref sig .tc := ⟨.hbm, 47, rfl⟩
abbrev main_v13_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg10_0 : Ref sig .tc := ⟨.smem, 0, rfl⟩
abbrev cc0_stg11_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x14848 : Shape := ⟨2, ![4096, 14848]⟩
abbrev S4096x1024 : Shape := ⟨2, ![4096, 1024]⟩
abbrev S4x32x256x256 : Shape := ⟨4, ![4, 32, 256, 256]⟩
abbrev S4 : Shape := ⟨1, ![4]⟩
abbrev S1x4096x1024 : Shape := ⟨3, ![1, 4096, 1024]⟩
abbrev S1x4096x4x256 : Shape := ⟨4, ![1, 4096, 4, 256]⟩
abbrev S32x4x256x256 : Shape := ⟨4, ![32, 4, 256, 256]⟩
abbrev S32x1x4x256x256 : Shape := ⟨5, ![32, 1, 4, 256, 256]⟩
abbrev S_ : Shape := ⟨0, ![]⟩
abbrev S127 : Shape := ⟨1, ![127]⟩
abbrev S1 : Shape := ⟨1, ![1]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x32x128x4x256 : Shape := ⟨5, ![1, 32, 128, 4, 256]⟩
abbrev S1x32x4x128x128 : Shape := ⟨5, ![1, 32, 4, 128, 128]⟩
abbrev S1x1x4x128x128 : Shape := ⟨5, ![1, 1, 4, 128, 128]⟩
abbrev S1x32x4x256x128 : Shape := ⟨5, ![1, 32, 4, 256, 128]⟩
abbrev S1x4 : Shape := ⟨2, ![1, 4]⟩
abbrev S128x4 : Shape := ⟨2, ![128, 4]⟩
abbrev S1x1x128x4x1 : Shape := ⟨5, ![1, 1, 128, 4, 1]⟩
abbrev S1x32x4x128x256 : Shape := ⟨5, ![1, 32, 4, 128, 256]⟩
abbrev S32x1x4x256x128 : Shape := ⟨5, ![32, 1, 4, 256, 128]⟩

abbrev nBuf : Space → Nat
  | .hbm => 286
  | .vmem => 0
  | .smem => 0
  | _ => 0

abbrev hbmTy0_0 (i : Nat) : BufTy := match i % 128 with
  | 0 => ⟨S4096x14848, .f32⟩
  | 1 => ⟨S4096x1024, .f32⟩
  | 2 => ⟨S4x32x256x256, .bf16⟩
  | 3 => ⟨S4x32x256x256, .bf16⟩
  | 4 => ⟨S4x32x256x256, .bf16⟩
  | 5 => ⟨S4x32x256x256, .bf16⟩
  | 6 => ⟨S4, .f32⟩
  | 7 => ⟨S4, .f32⟩
  | 8 => ⟨S4096x1024, .f32⟩
  | 9 => ⟨S1x4096x1024, .f32⟩
  | 10 => ⟨S1x4096x4x256, .f32⟩
  | 11 => ⟨S4096x1024, .f32⟩
  | 12 => ⟨S1x4096x1024, .f32⟩
  | 13 => ⟨S1x4096x4x256, .f32⟩
  | 14 => ⟨S4096x1024, .f32⟩
  | 15 => ⟨S1x4096x1024, .f32⟩
  | 16 => ⟨S1x4096x4x256, .f32⟩
  | 17 => ⟨S4x32x256x256, .f32⟩
  | 18 => ⟨S32x4x256x256, .f32⟩
  | 19 => ⟨S32x1x4x256x256, .f32⟩
  | 20 => ⟨S4x32x256x256, .f32⟩
  | 21 => ⟨S32x4x256x256, .f32⟩
  | 22 => ⟨S32x1x4x256x256, .f32⟩
  | 23 => ⟨S4x32x256x256, .f32⟩
  | 24 => ⟨S32x4x256x256, .f32⟩
  | 25 => ⟨S32x1x4x256x256, .f32⟩
  | 26 => ⟨S4x32x256x256, .f32⟩
  | 27 => ⟨S32x4x256x256, .f32⟩
  | 28 => ⟨S32x1x4x256x256, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S127, .f32⟩
  | 37 => ⟨S_, .f32⟩
  | 38 => ⟨S127, .f32⟩
  | 39 => ⟨S127, .f32⟩
  | 40 => ⟨S1, .f32⟩
  | 41 => ⟨S_, .f32⟩
  | 42 => ⟨S127, .f32⟩
  | 43 => ⟨S127, .f32⟩
  | 44 => ⟨S127, .f32⟩
  | 45 => ⟨S127, .f32⟩
  | 46 => ⟨S1, .f32⟩
  | 47 => ⟨S127, .f32⟩
  | 48 => ⟨S127, .f32⟩
  | 49 => ⟨S127, .f32⟩
  | 50 => ⟨S1, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S4096, .f32⟩
  | 59 => ⟨S4096x1, .f32⟩
  | 60 => ⟨S1x128, .f32⟩
  | 61 => ⟨S4096x128, .f32⟩
  | 62 => ⟨S4096x128, .f32⟩
  | 63 => ⟨S4096x128, .f32⟩
  | 64 => ⟨S4096x128, .f32⟩
  | 65 => ⟨S1x4096x1x128, .f32⟩
  | 66 => ⟨S4096x128, .f32⟩
  | 67 => ⟨S1x4096x1x128, .f32⟩
  | 68 => ⟨S1x4096x4x128, .f32⟩
  | 69 => ⟨S1x4096x4x128, .f32⟩
  | 70 => ⟨S1x4096x4x128, .f32⟩
  | 71 => ⟨S1x4096x4x128, .f32⟩
  | 72 => ⟨S1x4096x4x128, .f32⟩
  | 73 => ⟨S1x4096x4x128, .f32⟩
  | 74 => ⟨S1x4096x4x128, .f32⟩
  | 75 => ⟨S1x4096x4x128, .f32⟩
  | 76 => ⟨S1x4096x4x128, .f32⟩
  | 77 => ⟨S1x4096x4x128, .f32⟩
  | 78 => ⟨S1x4096x4x128, .f32⟩
  | 79 => ⟨S1x4096x4x128, .f32⟩
  | 80 => ⟨S1x4096x4x256, .f32⟩
  | 81 => ⟨S4096, .f32⟩
  | 82 => ⟨S4096x1, .f32⟩
  | 83 => ⟨S1x128, .f32⟩
  | 84 => ⟨S4096x128, .f32⟩
  | 85 => ⟨S4096x128, .f32⟩
  | 86 => ⟨S4096x128, .f32⟩
  | 87 => ⟨S4096x128, .f32⟩
  | 88 => ⟨S1x4096x1x128, .f32⟩
  | 89 => ⟨S4096x128, .f32⟩
  | 90 => ⟨S1x4096x1x128, .f32⟩
  | 91 => ⟨S1x4096x4x128, .f32⟩
  | 92 => ⟨S1x4096x4x128, .f32⟩
  | 93 => ⟨S1x4096x4x128, .f32⟩
  | 94 => ⟨S1x4096x4x128, .f32⟩
  | 95 => ⟨S1x4096x4x128, .f32⟩
  | 96 => ⟨S1x4096x4x128, .f32⟩
  | 97 => ⟨S1x4096x4x128, .f32⟩
  | 98 => ⟨S1x4096x4x128, .f32⟩
  | 99 => ⟨S1x4096x4x128, .f32⟩
  | 100 => ⟨S1x4096x4x128, .f32⟩
  | 101 => ⟨S1x4096x4x128, .f32⟩
  | 102 => ⟨S1x4096x4x128, .f32⟩
  | 103 => ⟨S1x4096x4x256, .f32⟩
  | 104 => ⟨S_, .f32⟩
  | 105 => ⟨S1x4096x4x256, .f32⟩
  | 106 => ⟨S1x4096x4x256, .f32⟩
  | 107 => ⟨S4, .f32⟩
  | 108 => ⟨S4, .f32⟩
  | 109 => ⟨S4, .f32⟩
  | 110 => ⟨S4, .f32⟩
  | 111 => ⟨S128, .f32⟩
  | 112 => ⟨S128x1, .f32⟩
  | 113 => ⟨S1x128, .f32⟩
  | 114 => ⟨S128x128, .f32⟩
  | 115 => ⟨S128x128, .f32⟩
  | 116 => ⟨S128x128, .f32⟩
  | 117 => ⟨S128x128, .f32⟩
  | 118 => ⟨S1x128x128, .f32⟩
  | 119 => ⟨S1x128x128, .f32⟩
  | 120 => ⟨S_, .f32⟩
  | 121 => ⟨S1x128x128, .f32⟩
  | 122 => ⟨S1x128x128, .i1⟩
  | 123 => ⟨S4x1x1, .f32⟩
  | 124 => ⟨S4x128x128, .f32⟩
  | 125 => ⟨S4x128x128, .f32⟩
  | 126 => ⟨S4x128x128, .f32⟩
  | 127 => ⟨S4x128x128, .f32⟩
  | _ => ⟨S4096x14848, .f32⟩

abbrev hbmTy0_1 (i : Nat) : BufTy := match i % 128 with
  | 0 => ⟨S4x1x1, .f32⟩
  | 1 => ⟨S4x128x128, .f32⟩
  | 2 => ⟨S4x128x128, .f32⟩
  | 3 => ⟨S4x128x128, .f32⟩
  | 4 => ⟨S4x128x128, .f32⟩
  | 5 => ⟨S4x128x128, .i1⟩
  | 6 => ⟨S4x128x128, .f32⟩
  | 7 => ⟨S1x32x128x4x256, .f32⟩
  | 8 => ⟨S1x32x128x4x256, .f32⟩
  | 9 => ⟨S1x32x128x4x256, .f32⟩
  | 10 => ⟨S1x32x4x128x128, .f32⟩
  | 11 => ⟨S1x1x4x128x128, .f32⟩
  | 12 => ⟨S1x32x4x128x128, .f32⟩
  | 13 => ⟨S1x32x4x128x128, .f32⟩
  | 14 => ⟨S1x32x4x256x128, .f32⟩
  | 15 => ⟨S1x32x128x4x256, .f32⟩
  | 16 => ⟨S1x4, .f32⟩
  | 17 => ⟨S_, .f32⟩
  | 18 => ⟨S128, .f32⟩
  | 19 => ⟨S128, .f32⟩
  | 20 => ⟨S128x1, .f32⟩
  | 21 => ⟨S128x4, .f32⟩
  | 22 => ⟨S128x4, .f32⟩
  | 23 => ⟨S128x4, .f32⟩
  | 24 => ⟨S128x4, .f32⟩
  | 25 => ⟨S1x4, .f32⟩
  | 26 => ⟨S128x1, .f32⟩
  | 27 => ⟨S128x4, .f32⟩
  | 28 => ⟨S128x4, .f32⟩
  | 29 => ⟨S128x4, .f32⟩
  | 30 => ⟨S128x4, .f32⟩
  | 31 => ⟨S1x1x128x4x1, .f32⟩
  | 32 => ⟨S1x32x128x4x256, .f32⟩
  | 33 => ⟨S1x32x128x4x256, .f32⟩
  | 34 => ⟨S32x1x4x256x256, .f32⟩
  | 35 => ⟨S1x1x128x4x1, .f32⟩
  | 36 => ⟨S1x32x128x4x256, .f32⟩
  | 37 => ⟨S1x32x128x4x256, .f32⟩
  | 38 => ⟨S32x1x4x256x256, .f32⟩
  | 39 => ⟨S1x4, .f32⟩
  | 40 => ⟨S_, .f32⟩
  | 41 => ⟨S128, .f32⟩
  | 42 => ⟨S128, .f32⟩
  | 43 => ⟨S128x1, .f32⟩
  | 44 => ⟨S128x4, .f32⟩
  | 45 => ⟨S128x4, .f32⟩
  | 46 => ⟨S128x4, .f32⟩
  | 47 => ⟨S128x4, .f32⟩
  | 48 => ⟨S1x4, .f32⟩
  | 49 => ⟨S_, .f32⟩
  | 50 => ⟨S128, .f32⟩
  | 51 => ⟨S128, .f32⟩
  | 52 => ⟨S128x1, .f32⟩
  | 53 => ⟨S128x4, .f32⟩
  | 54 => ⟨S128x4, .f32⟩
  | 55 => ⟨S128x4, .f32⟩
  | 56 => ⟨S128x4, .f32⟩
  | 57 => ⟨S1x1x128x4x1, .f32⟩
  | 58 => ⟨S1x32x128x4x256, .f32⟩
  | 59 => ⟨S1x32x128x4x256, .f32⟩
  | 60 => ⟨S1x32x4x256x128, .f32⟩
  | 61 => ⟨S1x32x128x4x256, .f32⟩
  | 62 => ⟨S1x32x128x4x256, .f32⟩
  | 63 => ⟨S1x1x128x4x1, .f32⟩
  | 64 => ⟨S1x32x128x4x256, .f32⟩
  | 65 => ⟨S1x32x128x4x256, .f32⟩
  | 66 => ⟨S1x32x4x256x128, .f32⟩
  | 67 => ⟨S1x32x128x4x256, .f32⟩
  | 68 => ⟨S1x32x128x4x256, .f32⟩
  | 69 => ⟨S1x4096x1024, .f32⟩
  | 70 => ⟨S1x4096x1024, .f32⟩
  | 71 => ⟨S1x32x128x4x256, .f32⟩
  | 72 => ⟨S1x32x4x256x128, .f32⟩
  | 73 => ⟨S1x32x4x128x256, .f32⟩
  | 74 => ⟨S1x32x128x4x256, .f32⟩
  | 75 => ⟨S1x32x128x4x256, .f32⟩
  | 76 => ⟨S1x32x128x4x256, .f32⟩
  | 77 => ⟨S1x32x4x256x128, .f32⟩
  | 78 => ⟨S1x32x4x128x256, .f32⟩
  | 79 => ⟨S1x32x128x4x256, .f32⟩
  | 80 => ⟨S1x32x128x4x256, .f32⟩
  | 81 => ⟨S1x32x128x4x256, .f32⟩
  | 82 => ⟨S1x32x128x4x256, .f32⟩
  | 83 => ⟨S32x1x4x256x128, .f32⟩
  | 84 => ⟨S1x32x128x4x256, .f32⟩
  | 85 => ⟨S32x1x4x256x128, .f32⟩
  | 86 => ⟨S1x32x128x4x256, .f32⟩
  | 87 => ⟨S1x32x128x4x256, .f32⟩
  | 88 => ⟨S1x32x128x4x256, .f32⟩
  | 89 => ⟨S32x1x4x256x128, .f32⟩
  | 90 => ⟨S1x32x128x4x256, .f32⟩
  | 91 => ⟨S1x32x128x4x256, .f32⟩
  | 92 => ⟨S32x1x4x256x128, .f32⟩
  | 93 => ⟨S1x32x128x4x256, .f32⟩
  | 94 => ⟨S1x32x128x4x256, .f32⟩
  | 95 => ⟨S1x32x128x4x256, .f32⟩
  | 96 => ⟨S1x32x128x4x256, .f32⟩
  | 97 => ⟨S1x32x4x256x128, .f32⟩
  | 98 => ⟨S1x32x4x128x128, .f32⟩
  | 99 => ⟨S1x32x4x256x128, .f32⟩
  | 100 => ⟨S1x32x128x4x256, .f32⟩
  | 101 => ⟨S1x32x128x4x256, .f32⟩
  | 102 => ⟨S1x32x4x128x128, .f32⟩
  | 103 => ⟨S1x32x4x128x128, .f32⟩
  | 104 => ⟨S1x32x4x128x256, .f32⟩
  | 105 => ⟨S1x32x128x4x256, .f32⟩
  | 106 => ⟨S1x32x128x4x256, .f32⟩
  | 107 => ⟨S1x32x4x128x256, .f32⟩
  | 108 => ⟨S1x32x128x4x256, .f32⟩
  | 109 => ⟨S1x32x128x4x256, .f32⟩
  | 110 => ⟨S1x4096x4x256, .f32⟩
  | 111 => ⟨S1x4096x4x256, .f32⟩
  | 112 => ⟨S1x4096x4x256, .f32⟩
  | 113 => ⟨S_, .f32⟩
  | 114 => ⟨S1x4096x4x256, .f32⟩
  | 115 => ⟨S1x4096x4x256, .f32⟩
  | 116 => ⟨S1x4096x4x128, .f32⟩
  | 117 => ⟨S1x4096x4x128, .f32⟩
  | 118 => ⟨S1x4096x4x128, .f32⟩
  | 119 => ⟨S1x4096x4x128, .f32⟩
  | 120 => ⟨S1x4096x4x128, .f32⟩
  | 121 => ⟨S1x4096x4x128, .f32⟩
  | 122 => ⟨S1x4096x4x128, .f32⟩
  | 123 => ⟨S1x4096x4x128, .f32⟩
  | 124 => ⟨S1x4096x4x128, .f32⟩
  | 125 => ⟨S1x4096x4x128, .f32⟩
  | 126 => ⟨S1x4096x4x128, .f32⟩
  | 127 => ⟨S1x4096x4x128, .f32⟩
  | _ => ⟨S4096x14848, .f32⟩

abbrev hbmTy0_2 (i : Nat) : BufTy := match i % 128 with
  | 0 => ⟨S1x4096x4x128, .f32⟩
  | 1 => ⟨S_, .f32⟩
  | 2 => ⟨S1x4096x4x256, .f32⟩
  | 3 => ⟨S_, .f32⟩
  | 4 => ⟨S1x4096x4x256, .f32⟩
  | 5 => ⟨S1x4096x4x256, .f32⟩
  | 6 => ⟨S1x4096x4x128, .f32⟩
  | 7 => ⟨S1x4096x4x128, .f32⟩
  | 8 => ⟨S1x4096x4x128, .f32⟩
  | 9 => ⟨S1x4096x4x128, .f32⟩
  | 10 => ⟨S1x4096x4x128, .f32⟩
  | 11 => ⟨S1x4096x4x128, .f32⟩
  | 12 => ⟨S1x4096x4x128, .f32⟩
  | 13 => ⟨S1x4096x4x128, .f32⟩
  | 14 => ⟨S1x4096x4x128, .f32⟩
  | 15 => ⟨S1x4096x4x128, .f32⟩
  | 16 => ⟨S1x4096x4x128, .f32⟩
  | 17 => ⟨S1x4096x4x128, .f32⟩
  | 18 => ⟨S1x4096x4x128, .f32⟩
  | 19 => ⟨S_, .f32⟩
  | 20 => ⟨S1x4096x4x256, .f32⟩
  | 21 => ⟨S_, .f32⟩
  | 22 => ⟨S1x4096x4x256, .f32⟩
  | 23 => ⟨S1x4096x4x256, .f32⟩
  | 24 => ⟨S4096x1024, .f32⟩
  | 25 => ⟨S4096x1024, .bf16⟩
  | 26 => ⟨S4096x1024, .f32⟩
  | 27 => ⟨S4096x1024, .bf16⟩
  | 28 => ⟨S4096x1024, .f32⟩
  | 29 => ⟨S4096x1024, .bf16⟩
  | _ => ⟨S4096x14848, .f32⟩

abbrev hbmTy (i : Nat) : BufTy := match i / 128 with
  | 0 => hbmTy0_0 i
  | 1 => hbmTy0_1 i
  | 2 => hbmTy0_2 i
  | _ => ⟨S4096x14848, .f32⟩

abbrev bufTy : (tb : Table) → Fin (tcTables nBuf tb) → BufTy
  | .hbm, ⟨i, _⟩ => hbmTy i
  | _, _ => ⟨S4096x14848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_cst : Ref sig .tc := ⟨.hbm, 34, rfl⟩
abbrev main_call0_v3 : Ref sig .tc := ⟨.hbm, 35, rfl⟩
abbrev main_call0_v4 : Ref sig .tc := ⟨.hbm, 36, rfl⟩
abbrev main_call0_cst_0 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_v15 : Ref sig .tc := ⟨.hbm, 49, rfl⟩
abbrev main_call0_v16 : Ref sig .tc := ⟨.hbm, 50, rfl⟩
abbrev main_v21 : Ref sig .tc := ⟨.hbm, 51, rfl⟩
abbrev main_cst_1 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_3 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_4 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call1_v0 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_5 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_6 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_7 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_cst_8 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_cst_9 : Ref sig .tc := ⟨.hbm, 257, rfl⟩
abbrev main_v218 : Ref sig .tc := ⟨.hbm, 258, rfl⟩
abbrev main_cst_10 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_cst_11 : Ref sig .tc := ⟨.hbm, 275, rfl⟩
abbrev main_v234 : Ref sig .tc := ⟨.hbm, 276, rfl⟩
abbrev main_cst_12 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩

abbrev nD : Nat := 1
abbrev τ : Topo := Topo.v7x

variable {F : FTy → Type} [FloatOps F]
-- ==== InProj.lean ====
abbrev S4096x2048 : Shape := ⟨2, ![4096, 2048]⟩
abbrev S14848x2048 : Shape := ⟨2, ![14848, 2048]⟩
abbrev S4096x14848 : Shape := ⟨2, ![4096, 14848]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S14848x2048, .bf16⟩
  | .hbm, ⟨2, _⟩ => ⟨S4096x14848, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 29, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S14848x2048 : Shape := ⟨2, ![14848, 2048]⟩
abbrev S2048x14848 : Shape := ⟨2, ![2048, 14848]⟩
abbrev S4096x14848 : Shape := ⟨2, ![4096, 14848]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S14848x2048, .bf16⟩
  | .hbm, ⟨2, _⟩ => ⟨S4096x2048, .f32⟩
  | .hbm, ⟨3, _⟩ => ⟨S14848x2048, .f32⟩
  | .hbm, ⟨4, _⟩ => ⟨S2048x14848, .f32⟩
  | .hbm, ⟨5, _⟩ => ⟨S4096x14848, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwIn.lean ====
abbrev S2048x4096 : Shape := ⟨2, ![2048, 4096]⟩
abbrev S4096x14848 : Shape := ⟨2, ![4096, 14848]⟩
abbrev S14848x2048 : Shape := ⟨2, ![14848, 2048]⟩
abbrev S1024x4096 : Shape := ⟨2, ![1024, 4096]⟩
abbrev S4096x512 : Shape := ⟨2, ![4096, 512]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x14848, .bf16⟩
  | .hbm, ⟨2, _⟩ => ⟨S14848x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S512x1024, .bf16⟩
  | .local _ .vmem, ⟨5, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 29, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S2048x4096 : Shape := ⟨2, ![2048, 4096]⟩
abbrev S4096x14848 : Shape := ⟨2, ![4096, 14848]⟩
abbrev S4096x2048 : Shape := ⟨2, ![4096, 2048]⟩
abbrev S14848x2048 : Shape := ⟨2, ![14848, 2048]⟩
abbrev S2048x14848 : Shape := ⟨2, ![2048, 14848]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x14848, .bf16⟩
  | .hbm, ⟨2, _⟩ => ⟨S2048x4096, .f32⟩
  | .hbm, ⟨3, _⟩ => ⟨S4096x14848, .f32⟩
  | .hbm, ⟨4, _⟩ => ⟨S4096x2048, .f32⟩
  | .hbm, ⟨5, _⟩ => ⟨S14848x2048, .f32⟩
  | .hbm, ⟨6, _⟩ => ⟨S2048x14848, .f32⟩
  | .hbm, ⟨7, _⟩ => ⟨S14848x2048, .f32⟩
  | .hbm, ⟨8, _⟩ => ⟨S14848x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Dh.lean ====
abbrev S4096x14848 : Shape := ⟨2, ![4096, 14848]⟩
abbrev S14848x2048 : Shape := ⟨2, ![14848, 2048]⟩
abbrev S8x128 : Shape := ⟨2, ![8, 128]⟩
abbrev S4096x2048 : Shape := ⟨2, ![4096, 2048]⟩
abbrev S1024x3712 : Shape := ⟨2, ![1024, 3712]⟩
abbrev S3712x1024 : Shape := ⟨2, ![3712, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x14848, .bf16⟩
  | .hbm, ⟨1, _⟩ => ⟨S14848x2048, .bf16⟩
  | .hbm, ⟨2, _⟩ => ⟨S8x128, .f32⟩
  | .hbm, ⟨3, _⟩ => ⟨S4096x2048, .f32⟩
  | .local _ .vmem, ⟨0, _⟩ => ⟨S1024x3712, .bf16⟩
  | .local _ .vmem, ⟨1, _⟩ => ⟨S1024x3712, .bf16⟩
  | .local _ .vmem, ⟨2, _⟩ => ⟨S3712x1024, .bf16⟩
  | .local _ .vmem, ⟨3, _⟩ => ⟨S3712x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3712x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S4096x14848 : Shape := ⟨2, ![4096, 14848]⟩
abbrev S14848x2048 : Shape := ⟨2, ![14848, 2048]⟩
abbrev S8x128 : Shape := ⟨2, ![8, 128]⟩
abbrev S2048x14848 : Shape := ⟨2, ![2048, 14848]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x14848, .bf16⟩
  | .hbm, ⟨1, _⟩ => ⟨S14848x2048, .bf16⟩
  | .hbm, ⟨2, _⟩ => ⟨S8x128, .f32⟩
  | .hbm, ⟨3, _⟩ => ⟨S4096x14848, .f32⟩
  | .hbm, ⟨4, _⟩ => ⟨S14848x2048, .f32⟩
  | .hbm, ⟨5, _⟩ => ⟨S2048x14848, .f32⟩
  | .hbm, ⟨6, _⟩ => ⟨S4096x2048, .f32⟩
  | _, _ => ⟨S4096x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Du.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuRefIdeal.lean ====
abbrev S4096x2048 : Shape := ⟨2, ![4096, 2048]⟩
abbrev S1024x2048 : Shape := ⟨2, ![1024, 2048]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dw.lean ====
abbrev S1024x4096 : Shape := ⟨2, ![1024, 4096]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S1024x2048, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S1024x4096 : Shape := ⟨2, ![1024, 4096]⟩
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S1024x4096, .f32⟩
  | .hbm, ⟨3, _⟩ => ⟨S4096x2048, .f32⟩
  | .hbm, ⟨4, _⟩ => ⟨S4096x1024, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S2048x4096 : Shape := ⟨2, ![2048, 4096]⟩
abbrev S4096x2048 : Shape := ⟨2, ![4096, 2048]⟩
abbrev S2048x2048 : Shape := ⟨2, ![2048, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x4096, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S4096x1024 : Shape := ⟨2, ![4096, 1024]⟩
abbrev S1024x2048 : Shape := ⟨2, ![1024, 2048]⟩
abbrev S4096x14848 : Shape := ⟨2, ![4096, 14848]⟩
abbrev S4096x2048 : Shape := ⟨2, ![4096, 2048]⟩
abbrev S2048x4096 : Shape := ⟨2, ![2048, 4096]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 12
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S4096x14848, .f32⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S4096x1024 : Shape := ⟨2, ![4096, 1024]⟩
abbrev S1024x2048 : Shape := ⟨2, ![1024, 2048]⟩
abbrev S4096x14848 : Shape := ⟨2, ![4096, 14848]⟩
abbrev S4096x2048 : Shape := ⟨2, ![4096, 2048]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩
abbrev S2048x4096 : Shape := ⟨2, ![2048, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S4096x14848, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S_, .f32⟩
  | .hbm, ⟨20, _⟩ => ⟨S4096x6144, .f32⟩
  | .hbm, ⟨21, _⟩ => ⟨S4096x6144, .f32⟩
  | .hbm, ⟨22, _⟩ => ⟨S_, .f32⟩
  | .hbm, ⟨23, _⟩ => ⟨S4096x6144, .f32⟩
  | .hbm, ⟨24, _⟩ => ⟨S4096x6144, .f32⟩
  | .hbm, ⟨25, _⟩ => ⟨S4096x3x2048, .f32⟩
  | .hbm, ⟨26, _⟩ => ⟨S4096x1x2048, .f32⟩
  | .hbm, ⟨27, _⟩ => ⟨S4096x2048, .f32⟩
  | .hbm, ⟨28, _⟩ => ⟨S4096x2048, .f32⟩
  | .hbm, ⟨29, _⟩ => ⟨S4096x1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S2048x4096, .f32⟩
  | .hbm, ⟨38, _⟩ => ⟨S4096x2048, .bf16⟩
  | .hbm, ⟨39, _⟩ => ⟨S4096x2048, .bf16⟩
  | .hbm, ⟨40, _⟩ => ⟨S4096x2048, .bf16⟩
  | .hbm, ⟨41, _⟩ => ⟨S4096x2048, .bf16⟩
  | .hbm, ⟨42, _⟩ => ⟨S2048x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== MergeBwd.lean ====
abbrev S4096x2048 : Shape := ⟨2, ![4096, 2048]⟩
abbrev S2048x2048 : Shape := ⟨2, ![2048, 2048]⟩
abbrev S4096x14848 : Shape := ⟨2, ![4096, 14848]⟩
abbrev S512x2048 : Shape := ⟨2, ![512, 2048]⟩
abbrev S512x512 : Shape := ⟨2, ![512, 512]⟩

abbrev nBuf : Space → Nat
  | .hbm => 12
  | .vmem => 28
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x14848, .f32⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeBwdRefIdeal.lean ====
abbrev S4096x2048 : Shape := ⟨2, ![4096, 2048]⟩
abbrev S2048x2048 : Shape := ⟨2, ![2048, 2048]⟩
abbrev S4096x14848 : Shape := ⟨2, ![4096, 14848]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x14848, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S_, .f32⟩
  | .hbm, ⟨18, _⟩ => ⟨S4096x6144, .f32⟩
  | .hbm, ⟨19, _⟩ => ⟨S4096x6144, .f32⟩
  | .hbm, ⟨20, _⟩ => ⟨S_, .f32⟩
  | .hbm, ⟨21, _⟩ => ⟨S4096x6144, .f32⟩
  | .hbm, ⟨22, _⟩ => ⟨S4096x6144, .f32⟩
  | .hbm, ⟨23, _⟩ => ⟨S4096x6144, .f32⟩
  | .hbm, ⟨24, _⟩ => ⟨S4096x3x2048, .f32⟩
  | .hbm, ⟨25, _⟩ => ⟨S4096x1x2048, .f32⟩
  | .hbm, ⟨26, _⟩ => ⟨S4096x2048, .f32⟩
  | .hbm, ⟨27, _⟩ => ⟨S4096x2048, .f32⟩
  | .hbm, ⟨28, _⟩ => ⟨S4096x1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1x2048, .f32⟩
  | .hbm, ⟨41, _⟩ => ⟨S_, .f32⟩
  | .hbm, ⟨42, _⟩ => ⟨S4096x3x2048, .f32⟩
  | .hbm, ⟨43, _⟩ => ⟨S4096x2048, .f32⟩
  | .hbm, ⟨44, _⟩ => ⟨S4096x2048, .f32⟩
  | .hbm, ⟨45, _⟩ => ⟨S4096x1x2048, .f32⟩
  | .hbm, ⟨46, _⟩ => ⟨S_, .f32⟩
  | .hbm, ⟨47, _⟩ => ⟨S4096x3x2048, .f32⟩
  | .hbm, ⟨48, _⟩ => ⟨S4096x3x2048, .f32⟩
  | .hbm, ⟨49, _⟩ => ⟨S4096x2048, .f32⟩
  | .hbm, ⟨50, _⟩ => ⟨S4096x2048, .f32⟩
  | .hbm, ⟨51, _⟩ => ⟨S4096x1x2048, .f32⟩
  | .hbm, ⟨52, _⟩ => ⟨S_, .f32⟩
  | .hbm, ⟨53, _⟩ => ⟨S4096x3x2048, .f32⟩
  | .hbm, ⟨54, _⟩ => ⟨S4096x3x2048, .f32⟩
  | .hbm, ⟨55, _⟩ => ⟨S4096x6144, .f32⟩
  | .hbm, ⟨56, _⟩ => ⟨S4096x6144, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S4096x2048, .bf16⟩
  | .hbm, ⟨62, _⟩ => ⟨S4096x2048, .bf16⟩
  | .hbm, ⟨63, _⟩ => ⟨S4096x2048, .bf16⟩
  | .hbm, ⟨64, _⟩ => ⟨S4096x2048, .bf16⟩
  | .hbm, ⟨65, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S2048x4096, .f32⟩
  | .hbm, ⟨20, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== DNorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DNormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DGate.lean ====
abbrev S4096x1024 : Shape := ⟨2, ![4096, 1024]⟩
abbrev S4096x14848 : Shape := ⟨2, ![4096, 14848]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x14848, .f32⟩
  | .hbm, ⟨3, _⟩ => ⟨S4096x1024, .f32⟩
  | .hbm, ⟨4, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DGateRefIdeal.lean ====
abbrev S4096x1024 : Shape := ⟨2, ![4096, 1024]⟩
abbrev S4096x14848 : Shape := ⟨2, ![4096, 14848]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x14848, .f32⟩
  | .hbm, ⟨3, _⟩ => ⟨S4096x1024, .f32⟩
  | .hbm, ⟨4, _⟩ => ⟨S4096x4x256, .f32⟩
  | .hbm, ⟨5, _⟩ => ⟨S4096x4x256, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x256, .f32⟩
  | .hbm, ⟨21, _⟩ => ⟨S4096x4x256, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x4x256, .f32⟩
  | .hbm, ⟨45, _⟩ => ⟨S4096x4x256, .f32⟩
  | .hbm, ⟨46, _⟩ => ⟨S_, .f32⟩
  | .hbm, ⟨47, _⟩ => ⟨S4096x4, .f32⟩
  | .hbm, ⟨48, _⟩ => ⟨S4096x4x1, .f32⟩
  | .hbm, ⟨49, _⟩ => ⟨S4096x4x256, .f32⟩
  | .hbm, ⟨50, _⟩ => ⟨S4096x4x256, .f32⟩
  | .hbm, ⟨51, _⟩ => ⟨S4096x4x1, .f32⟩
  | .hbm, ⟨52, _⟩ => ⟨S_, .f32⟩
  | .hbm, ⟨53, _⟩ => ⟨S4096x4x1, .f32⟩
  | .hbm, ⟨54, _⟩ => ⟨S4096x4x1, .f32⟩
  | .hbm, ⟨55, _⟩ => ⟨S_, .f32⟩
  | .hbm, ⟨56, _⟩ => ⟨S4096x4, .f32⟩
  | .hbm, ⟨57, _⟩ => ⟨S4096x4x256, .f32⟩
  | .hbm, ⟨58, _⟩ => ⟨S4096x4x256, .f32⟩
  | .hbm, ⟨59, _⟩ => ⟨S4096x4x256, .f32⟩
  | .hbm, ⟨60, _⟩ => ⟨S4096x4x256, .f32⟩
  | .hbm, ⟨61, _⟩ => ⟨S4096x4x256, .f32⟩
  | .hbm, ⟨62, _⟩ => ⟨S4096x1024, .f32⟩
  | .hbm, ⟨63, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v16_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v16_1 : Ref sig .tc := ⟨.hbm, 34, rfl⟩
abbrev main_v16_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Adam.lean ====
abbrev S4x1856x2048 : Shape := ⟨3, ![4, 1856, 2048]⟩
abbrev S8x1856x2048 : Shape := ⟨3, ![8, 1856, 2048]⟩
abbrev S1856x2048 : Shape := ⟨2, ![1856, 2048]⟩
abbrev S1x64x2048 : Shape := ⟨3, ![1, 64, 2048]⟩
abbrev S8x64x2048 : Shape := ⟨3, ![8, 64, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1856x2048, .f32⟩
  | .hbm, ⟨1, _⟩ => ⟨S8x1856x2048, .bf16⟩
  | .hbm, ⟨2, _⟩ => ⟨S4x1856x2048, .f32⟩
  | .hbm, ⟨3, _⟩ => ⟨S4x1856x2048, .f32⟩
  | .hbm, ⟨4, _⟩ => ⟨S1856x2048, .f32⟩
  | .hbm, ⟨5, _⟩ => ⟨S1856x2048, .f32⟩
  | .hbm, ⟨6, _⟩ => ⟨S1856x2048, .f32⟩
  | .hbm, ⟨7, _⟩ => ⟨S1856x2048, .f32⟩
  | .local _ .vmem, ⟨0, _⟩ => ⟨S1x64x2048, .f32⟩
  | .local _ .vmem, ⟨1, _⟩ => ⟨S1x64x2048, .f32⟩
  | .local _ .vmem, ⟨2, _⟩ => ⟨S8x64x2048, .bf16⟩
  | .local _ .vmem, ⟨3, _⟩ => ⟨S8x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S4x1856x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRefIdeal.lean ====
abbrev S4x1856x2048 : Shape := ⟨3, ![4, 1856, 2048]⟩
abbrev S8x1856x2048 : Shape := ⟨3, ![8, 1856, 2048]⟩
abbrev S_ : Shape := ⟨0, ![]⟩
abbrev S1856x2048 : Shape := ⟨2, ![1856, 2048]⟩
abbrev S1x1856x2048 : Shape := ⟨3, ![1, 1856, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x1856x2048, .f32⟩
  | .hbm, ⟨1, _⟩ => ⟨S8x1856x2048, .bf16⟩
  | .hbm, ⟨2, _⟩ => ⟨S4x1856x2048, .f32⟩
  | .hbm, ⟨3, _⟩ => ⟨S4x1856x2048, .f32⟩
  | .hbm, ⟨4, _⟩ => ⟨S8x1856x2048, .f32⟩
  | .hbm, ⟨5, _⟩ => ⟨S_, .f32⟩
  | .hbm, ⟨6, _⟩ => ⟨S1856x2048, .f32⟩
  | .hbm, ⟨7, _⟩ => ⟨S1x1856x2048, .f32⟩
  | .hbm, ⟨8, _⟩ => ⟨S1856x2048, .f32⟩
  | .hbm, ⟨9, _⟩ => ⟨S1x1856x2048, .f32⟩
  | .hbm, ⟨10, _⟩ => ⟨S1856x2048, .f32⟩
  | .hbm, ⟨11, _⟩ => ⟨S1x1856x2048, .f32⟩
  | .hbm, ⟨12, _⟩ => ⟨S1856x2048, .f32⟩
  | .hbm, ⟨13, _⟩ => ⟨S_, .f32⟩
  | .hbm, ⟨14, _⟩ => ⟨S1856x2048, .f32⟩
  | .hbm, ⟨15, _⟩ => ⟨S1856x2048, .f32⟩
  | .hbm, ⟨16, _⟩ => ⟨S_, .f32⟩
  | .hbm, ⟨17, _⟩ => ⟨S1856x2048, .f32⟩
  | .hbm, ⟨18, _⟩ => ⟨S1856x2048, .f32⟩
  | .hbm, ⟨19, _⟩ => ⟨S1856x2048, .f32⟩
  | .hbm, ⟨20, _⟩ => ⟨S_, .f32⟩
  | .hbm, ⟨21, _⟩ => ⟨S1856x2048, .f32⟩
  | .hbm, ⟨22, _⟩ => ⟨S1856x2048, .f32⟩
  | .hbm, ⟨23, _⟩ => ⟨S1856x2048, .f32⟩
  | .hbm, ⟨24, _⟩ => ⟨S_, .f32⟩
  | .hbm, ⟨25, _⟩ => ⟨S1856x2048, .f32⟩
  | .hbm, ⟨26, _⟩ => ⟨S1856x2048, .f32⟩
  | .hbm, ⟨27, _⟩ => ⟨S1856x2048, .f32⟩
  | .hbm, ⟨28, _⟩ => ⟨S_, .f32⟩
  | .hbm, ⟨29, _⟩ => ⟨S1856x2048, .f32⟩
  | .hbm, ⟨30, _⟩ => ⟨S1856x2048, .f32⟩
  | .hbm, ⟨31, _⟩ => ⟨S_, .f32⟩
  | .hbm, ⟨32, _⟩ => ⟨S1856x2048, .f32⟩
  | .hbm, ⟨33, _⟩ => ⟨S1856x2048, .f32⟩
  | .hbm, ⟨34, _⟩ => ⟨S1856x2048, .f32⟩
  | .hbm, ⟨35, _⟩ => ⟨S_, .f32⟩
  | .hbm, ⟨36, _⟩ => ⟨S1856x2048, .f32⟩
  | .hbm, ⟨37, _⟩ => ⟨S1856x2048, .f32⟩
  | .hbm, ⟨38, _⟩ => ⟨S1856x2048, .f32⟩
  | .hbm, ⟨39, _⟩ => ⟨S_, .f32⟩
  | .hbm, ⟨40, _⟩ => ⟨S1856x2048, .f32⟩
  | .hbm, ⟨41, _⟩ => ⟨S1856x2048, .f32⟩
  | .hbm, ⟨42, _⟩ => ⟨S1856x2048, .f32⟩
  | .hbm, ⟨43, _⟩ => ⟨S_, .f32⟩
  | .hbm, ⟨44, _⟩ => ⟨S1856x2048, .f32⟩
  | .hbm, ⟨45, _⟩ => ⟨S1856x2048, .f32⟩
  | _, _ => ⟨S4x1856x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamBranch.lean ====
abbrev S4x1024x256 : Shape := ⟨3, ![4, 1024, 256]⟩
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x1024x256, .f32⟩
  | .hbm, ⟨1, _⟩ => ⟨S8x1024x256, .bf16⟩
  | .hbm, ⟨2, _⟩ => ⟨S4x1024x256, .f32⟩
  | .hbm, ⟨3, _⟩ => ⟨S4x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1x1024x256, .f32⟩
  | .local _ .vmem, ⟨1, _⟩ => ⟨S8x1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamBranchRefIdeal.lean ====
abbrev S4x1024x256 : Shape := ⟨3, ![4, 1024, 256]⟩
abbrev S8x1024x256 : Shape := ⟨3, ![8, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S8x1024x256, .bf16⟩
  | .hbm, ⟨2, _⟩ => ⟨S4x1024x256, .f32⟩
  | .hbm, ⟨3, _⟩ => ⟨S4x1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S1024x256, .f32⟩
  | .hbm, ⟨9, _⟩ => ⟨S1x1024x256, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamOut.lean ====
abbrev S4x256x2048 : Shape := ⟨3, ![4, 256, 2048]⟩
abbrev S8x256x2048 : Shape := ⟨3, ![8, 256, 2048]⟩
abbrev S256x2048 : Shape := ⟨2, ![256, 2048]⟩
abbrev S1x128x2048 : Shape := ⟨3, ![1, 128, 2048]⟩
abbrev S8x128x2048 : Shape := ⟨3, ![8, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .f32⟩
  | .hbm, ⟨1, _⟩ => ⟨S8x256x2048, .bf16⟩
  | .hbm, ⟨2, _⟩ => ⟨S4x256x2048, .f32⟩
  | .hbm, ⟨3, _⟩ => ⟨S4x256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S1x128x2048, .f32⟩
  | .local _ .vmem, ⟨1, _⟩ => ⟨S1x128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamOutRefIdeal.lean ====
abbrev S4x256x2048 : Shape := ⟨3, ![4, 256, 2048]⟩
abbrev S8x256x2048 : Shape := ⟨3, ![8, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S8x256x2048, .bf16⟩
  | .hbm, ⟨2, _⟩ => ⟨S4x256x2048, .f32⟩
  | .hbm, ⟨3, _⟩ => ⟨S4x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S256x2048, .f32⟩
  | .hbm, ⟨9, _⟩ => ⟨S1x256x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Spec.lean ====
/- Hand-written, untrusted: WHAT ONE CHUNK OF ONE HEAD OF THE RETENTION GRADIENT IS, index by index, on the extended reals.
   Every function here takes the chunk's rows as plain functions (`q`, `k`, `v` and the incoming gradient `g` over 128
   positions and 256 features, the rotary tables over 128 positions and 128 frequencies, the four state matrices) and the
   head's two raw decays `a` and `b`. Both sides of the claim are read back to these functions. -/
module

public import Idealize.ShloMosaic.PureOps.Ideal.Laws
public import Idealize.ShloMosaic.Lib.ValueIdx

@[expose] public section

noncomputable section

namespace Cert.Proof.Spec

open Idealize.ShloMosaic

/-- The value of position `l` of a chunk. -/
def pos (l : Fin 128) : EReal := FloatOps.sitofp (F := Ideal) .f32 (BitVec.ofNat 32 l.val)

/-- The scale of the keys, one over the square root of the head width. -/
def kap : EReal := Ideal.ofBits .f32 0x3D800000#32

/-- The logarithm of a decay from its raw parameter. -/
def lg (a : EReal) : EReal := -(Ideal.exp a)

/-- The absolute value of the distance of two positions. -/
def dist (l j : Fin 128) : EReal := max (pos l - pos j) (-(pos l - pos j))

/-- The decay from position `j` to position `l` inside a chunk: the forward one where `l` is not before `j`. -/
def dm (a b : EReal) (l j : Fin 128) : EReal :=
  Scalar.select (Ideal.cmp .oge (pos l - pos j) (Ideal.ofBits .f32 0x00000000#32)) (Ideal.exp (lg a * dist l j))
    (Ideal.exp (lg b * dist l j))

/-- What a query at position `l` reads the forward state with. -/
def qf (a : EReal) (l : Fin 128) : EReal := Ideal.exp (lg a * (pos l + Ideal.ofBits .f32 0x3F800000#32))
/-- What a query at position `l` reads the backward state with. -/
def qb (b : EReal) (l : Fin 128) : EReal := Ideal.exp (lg b * (Ideal.ofBits .f32 0x43000000#32 - pos l))
/-- What a key at position `l` enters the forward state with. -/
def wf (a : EReal) (l : Fin 128) : EReal := Ideal.exp (lg a * (Ideal.ofBits .f32 0x42FE0000#32 - pos l))
/-- What a key at position `l` enters the backward state with. -/
def wb (b : EReal) (l : Fin 128) : EReal := Ideal.exp (lg b * pos l)

/-- Index `d` of the lower half of a row. -/
abbrev lo (d : Fin 128) : Fin 256 := ⟨d.val, by have := d.isLt; omega⟩
/-- Index `d` of the upper half of a row. -/
abbrev hi (d : Fin 128) : Fin 256 := ⟨d.val + 128, by have := d.isLt; omega⟩

/-- A row of 256 put together from its halves. -/
def halves (f g : Fin 128 → EReal) (d : Fin 256) : EReal :=
  if h : d.val < 128 then f ⟨d.val, h⟩ else g ⟨d.val - 128, by have := d.isLt; omega⟩

theorem halves_lo (f g : Fin 128 → EReal) (d : Fin 128) : halves f g (lo d) = f d := dif_pos d.isLt
theorem halves_hi (f g : Fin 128 → EReal) (d : Fin 128) : halves f g (hi d) = g d := by
  unfold halves
  rw [dif_neg (show ¬(d.val + 128 < 128) by omega)]
  exact congrArg g (Fin.ext (Nat.add_sub_cancel _ _))

/-- Two functions of a row's index agree if they do on its two halves. -/
theorem half_cases {f g : Fin 256 → EReal} (h0 : ∀ d, f (lo d) = g (lo d)) (h1 : ∀ d, f (hi d) = g (hi d)) (d : Fin 256) :
    f d = g d := by
  by_cases h : d.val < 128
  · exact h0 ⟨d.val, h⟩
  · have e : d = hi ⟨d.val - 128, by have := d.isLt; omega⟩ := Fin.ext (by show d.val = d.val - 128 + 128; omega)
    rw [e]; exact h1 _

/-- The rotary embedding of a row. -/
def rot (c s : Fin 128 → EReal) (x : Fin 256 → EReal) : Fin 256 → EReal :=
  halves (fun p => x (lo p) * c p - x (hi p) * s p) (fun p => x (hi p) * c p + x (lo p) * s p)

/-- Its transpose. -/
def rotT (c s : Fin 128 → EReal) (x : Fin 256 → EReal) : Fin 256 → EReal :=
  halves (fun p => x (lo p) * c p + x (hi p) * s p) (fun p => x (hi p) * c p - x (lo p) * s p)

/-- The rotary embedding of a chunk. -/
def rotQ (c s : Fin 128 → Fin 128 → EReal) (x : Fin 128 → Fin 256 → EReal) (l : Fin 128) : Fin 256 → EReal :=
  rot (c l) (s l) (x l)

/-- The scaled rotary embedding of a chunk's keys. -/
def rotK (c s : Fin 128 → Fin 128 → EReal) (x : Fin 128 → Fin 256 → EReal) (l : Fin 128) (d : Fin 256) : EReal :=
  rot (c l) (s l) (x l) d * kap

/-- Products of the rows of two chunks. -/
def prod (x y : Fin 128 → Fin 256 → EReal) (l j : Fin 128) : EReal := ∑ e : Fin 256, x l e * y j e

/-- A row of a chunk against a row of a matrix. -/
def against (x : Fin 128 → Fin 256 → EReal) (S : Fin 256 → Fin 256 → EReal) (l : Fin 128) (d : Fin 256) : EReal :=
  ∑ e : Fin 256, x l e * S d e

/-- The gradient of the rotated queries. -/
def dqPre (K v g : Fin 128 → Fin 256 → EReal) (sf sb : Fin 256 → Fin 256 → EReal) (a b : EReal) (l : Fin 128) (d : Fin 256) : EReal :=
  ((∑ j : Fin 128, prod g v l j * dm a b l j * K j d) + against g sf l d * qf a l) + against g sb l d * qb b l

/-- The gradient of the rotated and scaled keys. -/
def dkPre (Q v g : Fin 128 → Fin 256 → EReal) (ef eb : Fin 256 → Fin 256 → EReal) (a b : EReal) (l : Fin 128) (d : Fin 256) : EReal :=
  ((∑ j : Fin 128, prod g v j l * dm a b j l * Q j d) + against v ef l d * wf a l) + against v eb l d * wb b l

/-- The gradient of the queries. -/
def dq (c s : Fin 128 → Fin 128 → EReal) (k v g : Fin 128 → Fin 256 → EReal) (sf sb : Fin 256 → Fin 256 → EReal) (a b : EReal)
    (l : Fin 128) (d : Fin 256) : EReal :=
  rotT (c l) (s l) (dqPre (rotK c s k) v g sf sb a b l) d

/-- The gradient of the keys. -/
def dk (c s : Fin 128 → Fin 128 → EReal) (q v g : Fin 128 → Fin 256 → EReal) (ef eb : Fin 256 → Fin 256 → EReal) (a b : EReal)
    (l : Fin 128) (d : Fin 256) : EReal :=
  rotT (c l) (s l) (dkPre (rotQ c s q) v g ef eb a b l) d * kap

/-- The gradient of the values. -/
def dv (c s : Fin 128 → Fin 128 → EReal) (q k g : Fin 128 → Fin 256 → EReal) (ef eb : Fin 256 → Fin 256 → EReal) (a b : EReal)
    (l : Fin 128) (e : Fin 256) : EReal :=
  ((∑ j : Fin 128, prod (rotQ c s q) (rotK c s k) j l * dm a b j l * g j e)
      + ∑ d : Fin 256, rotK c s k l d * wf a l * ef d e)
    + ∑ d : Fin 256, rotK c s k l d * wb b l * eb d e

/-- The scale is one sixteenth. -/
theorem kap_eq : kap = ((1 / 16 : ℝ) : EReal) := by
  unfold kap
  simp [Ideal.ofBits, Ideal.ieee]
  rw [← EReal.coe_mul]
  norm_num

/-- It goes through the transposed rotary embedding. -/
theorem rotT_kap (c s : Fin 128 → EReal) (x : Fin 256 → EReal) (d : Fin 256) :
    rotT c s (fun e => x e * kap) d = rotT c s x d * kap := by
  have h0 : (0 : EReal) ≤ kap := by rw [kap_eq]; exact_mod_cast (by norm_num : (0 : ℝ) ≤ 1 / 16)
  have h1 : kap ≠ ⊤ := by rw [kap_eq]; exact EReal.coe_ne_top _
  refine half_cases (f := rotT c s (fun e => x e * kap)) (g := fun d => rotT c s x d * kap) (fun p => ?_) (fun p => ?_) d
  · show halves _ _ _ = halves _ _ _ * kap
    rw [halves_lo, halves_lo, EReal.right_distrib_of_nonneg_of_ne_top h0 h1, mul_right_comm, mul_right_comm (x (hi p))]
  · show halves _ _ _ = halves _ _ _ * kap
    rw [halves_hi, halves_hi, sub_eq_add_neg, sub_eq_add_neg, EReal.right_distrib_of_nonneg_of_ne_top h0 h1, EReal.neg_mul,
      mul_right_comm, mul_right_comm (x (lo p))]

end Cert.Proof.Spec

end
-- ==== Proof.Head.lean ====
/- Hand-written, untrusted: ONE HEAD OF THE KERNEL'S BODY. From the head's blocks (queries, keys, values, incoming gradient,
   the rotary tables, the four state matrices, the two raw decays) the three blocks the body stores (`hq`, `hk`, `hv`), at any
   float values; then, at the ideal values, each of them read at an index is the function of Proof/Spec.lean. -/
module

public import proofs.«01_k».proof.Proof.Gen.KernelIdeal.Skeleton
public import proofs.«01_k».proof.Proof.Spec
public import Idealize.ShloMosaic.Lib.MatmulPlain
public import Idealize.ShloMosaic.Lib.ValueLayout
public import Idealize.ShloMosaic.Lib.Pipeline.Value
public import Idealize.ShloMosaic.Lib.KernelVsHost

@[expose] public section

noncomputable section

namespace Cert.Proof.Head

open Cert.KernelIdeal Cert.KernelIdeal.Gen Idealize.ShloMosaic Idealize.ShloMosaic.ValueIdx

section Any
variable {F : FTy → Type} [FloatOps F]

/-- The logarithm of the forward decay, down a column. -/
def la (a : F .f32) : FVec F S128x1 .f32 := k0_pay6 a
def lb (b : F .f32) : FVec F S128x1 .f32 := k0_pay7 b
/-- The chunk's decay matrix. -/
def mask (a b : F .f32) : FVec F S128x128 .f32 := k0_pay23 (k0_pay18 (lb b)) k0_pay20 (k0_pay21 (F := F)) (k0_pay22 (la a))
/-- The block of the query gradient. -/
def hq (c s : FVec F S128x128 .f32) (k v g : FVec F S128x256 .f32) (sf sb : FVec F S1x1x256x256 .bf16) (a b : F .f32) :
    FVec F S128x256 .bf16 :=
  k0_pay35 (k0_pay4 c) (k0_pay5 s) (k0_pay31 (k0_pay9 c s k) v g (k0_pay10 sf) (k0_pay11 sb) (k0_pay14 k0_pay3 (la a))
    (k0_pay15 k0_pay3 (lb b)) (k0_pay18 (lb b)) k0_pay20 (k0_pay21 (F := F)) (k0_pay22 (la a)))
/-- The block of the key gradient. -/
def hk (c s : FVec F S128x128 .f32) (q v g : FVec F S128x256 .f32) (ef eb : FVec F S1x1x256x256 .bf16) (a b : F .f32) :
    FVec F S128x256 .bf16 :=
  k0_pay36 (k0_pay4 c) (k0_pay5 s) (k0_pay32 (k0_pay8 c s q) v g (k0_pay12 ef) (k0_pay13 eb) (k0_pay16 k0_pay3 (la a))
    (k0_pay17 k0_pay3 (lb b)) (k0_pay18 (lb b)) k0_pay20 (k0_pay21 (F := F)) (k0_pay22 (la a)))
/-- The block of the value gradient. -/
def hv (c s : FVec F S128x128 .f32) (q k g : FVec F S128x256 .f32) (ef eb : FVec F S1x1x256x256 .bf16) (a b : F .f32) :
    FVec F S128x256 .bf16 :=
  k0_pay37 (k0_pay13 eb) (k0_pay33 (k0_pay8 c s q) (k0_pay9 c s k) g (k0_pay12 ef) (k0_pay16 k0_pay3 (la a))
    (k0_pay18 (lb b)) k0_pay20 (k0_pay21 (F := F)) (k0_pay22 (la a))) (k0_pay34 (k0_pay9 c s k) (k0_pay17 k0_pay3 (lb b)))
end Any

/-! ## Reading the operations at an index -/

/-- A product over the rows of both operands. -/
theorem matmul_rows_apply {K M N : ℕ} {φ₁ φ₂ : FTy} (d : DotDims ⟨2, ![K, M]⟩ ⟨2, ![K, N]⟩ ⟨2, ![M, N]⟩)
    (hd : d.lhsContracting = [0] ∧ d.rhsContracting = [0] ∧ d.lhsNonContracting = [1] ∧ d.rhsNonContracting = [1]
      ∧ d.lhsBatch = [] ∧ d.rhsBatch = []) (prec : Option ContractPrecision)
    (x : FVec Ideal ⟨2, ![K, M]⟩ φ₁) (y : FVec Ideal ⟨2, ![K, N]⟩ φ₂) (r : Fin M) (c : Fin N) :
    FloatOps.matmul d prec x y (constant (F := Ideal) ⟨2, ![M, N]⟩ .f32 0x00000000#32) (ix2 r c)
      = ∑ k : Fin K, x (ix2 k r) * y (ix2 k c) := by
  obtain ⟨lc, rc, ln, rn, lbt, rbt, wf⟩ := d
  obtain ⟨rfl, rfl, rfl, rfl, rfl, rfl⟩ := hd
  rw [Ideal.matmul_constant_zero_apply]
  rw [← Equiv.sum_comp (contrEquiv1 _ K rfl rfl).symm]
  refine Finset.sum_congr rfl fun k _ => ?_
  have hk := contrEquiv1_symm_val (DotDims.mk (sl := ⟨2, ![K, M]⟩) (sr := ⟨2, ![K, N]⟩) (so := ⟨2, ![M, N]⟩) [0] [0] [1] [1] [] [] wf) K rfl rfl k
  congr 1
  · exact congrArg x (funext fun a => Fin.ext (by
      match a with
      | ⟨0, _⟩ => exact hk
      | ⟨1, _⟩ => rfl))
  · exact congrArg y (funext fun a => Fin.ext (by
      match a with
      | ⟨0, _⟩ => exact hk
      | ⟨1, _⟩ => rfl))

theorem plain_apply {M K N : ℕ} {φ₁ φ₂ : FTy} (prec : Option ContractPrecision)
    (x : FVec Ideal ⟨2, ![M, K]⟩ φ₁) (y : FVec Ideal ⟨2, ![K, N]⟩ φ₂) (r : Fin M) (c : Fin N) :
    FloatOps.matmul (DotDims.plain M K N) prec x y (constant (F := Ideal) ⟨2, ![M, N]⟩ .f32 0x00000000#32) (ix2 r c)
      = ∑ k : Fin K, x (ix2 r k) * y (ix2 k c) := by
  rw [Ideal.matmul_plain_apply, constant_apply, Ideal.ofBits_zero_f32, zero_add]

theorem rhsT_apply {M K N : ℕ} {φ₁ φ₂ : FTy} (prec : Option ContractPrecision)
    (x : FVec Ideal ⟨2, ![M, K]⟩ φ₁) (y : FVec Ideal ⟨2, ![N, K]⟩ φ₂) (r : Fin M) (c : Fin N) :
    FloatOps.matmul (DotDims.transposedRhs M K N) prec x y (constant (F := Ideal) ⟨2, ![M, N]⟩ .f32 0x00000000#32) (ix2 r c)
      = ∑ k : Fin K, x (ix2 r k) * y (ix2 c k) := by
  rw [Ideal.matmul_transposedRhs_apply, constant_apply, Ideal.ofBits_zero_f32, zero_add]

/-- A column broadcast along rows. -/
theorem col_apply {α : Type} (x : S128x1.Idx → α) (l : Fin 128) (d : Fin 256) :
    broadcastTo S128x256 x broadcasts_S128x1_S128x256 (ix2 l d) = x (ix2 l 0) :=
  broadcastTo_apply x broadcasts_S128x1_S128x256 (ix2 l d) (ix2 l 0) (fun a => match a with
    | ⟨0, _⟩ => rfl
    | ⟨1, _⟩ => rfl)

/-- One value broadcast over a square. -/
theorem one_apply {α : Type} (x : S1x1.Idx → α) (l j : Fin 128) :
    broadcastTo S128x128 x broadcasts_S1x1_S128x128 (ix2 l j) = x (ix2 0 0) :=
  broadcastTo_apply x broadcasts_S1x1_S128x128 (ix2 l j) (ix2 0 0) (fun a => match a with
    | ⟨0, _⟩ => rfl
    | ⟨1, _⟩ => rfl)

theorem left_apply {α : Type} (x : S128x256.Idx → α) (l p : Fin 128) :
    extractStridedSlice S128x128 ![0, 0] x slices_S128x256_o0_0_S128x128 (ix2 l p) = x (ix2 l (Spec.lo p)) :=
  extractStridedSlice_apply _ x slices_S128x256_o0_0_S128x128 (ix2 l p) (ix2 l (Spec.lo p)) (fun a => match a with
    | ⟨0, _⟩ => (Nat.zero_add _).symm
    | ⟨1, _⟩ => (Nat.zero_add _).symm)

theorem right_apply {α : Type} (x : S128x256.Idx → α) (l p : Fin 128) :
    extractStridedSlice S128x128 ![0, 128] x slices_S128x256_o0_128_S128x128 (ix2 l p) = x (ix2 l (Spec.hi p)) :=
  extractStridedSlice_apply _ x slices_S128x256_o0_128_S128x128 (ix2 l p) (ix2 l (Spec.hi p)) (fun a => match a with
    | ⟨0, _⟩ => (Nat.zero_add _).symm
    | ⟨1, _⟩ => Nat.add_comm _ _)

/-- Two squares side by side. -/
theorem beside_apply (x y : S128x128.Idx → EReal) (l : Fin 128) (d : Fin 256) :
    concatenate S128x256 1 [⟨S128x128, x⟩, ⟨S128x128, y⟩] concatenates_S128x128_S128x128_S128x256_d1 (ix2 l d)
      = Spec.halves (fun p => x (ix2 l p)) (fun p => y (ix2 l p)) d := by
  refine Spec.half_cases (f := fun d => concatenate S128x256 1 [⟨S128x128, x⟩, ⟨S128x128, y⟩]
    concatenates_S128x128_S128x128_S128x256_d1 (ix2 l d)) (fun p => ?_) (fun p => ?_) d
  · rw [Spec.halves_lo]
    exact concatenate_pair_apply_left (t := S128x256) (1 : Fin 2) x y concatenates_S128x128_S128x128_S128x256_d1
      (ix2 l (Spec.lo p)) rfl (ix2 l p) (fun b => match b with
        | ⟨0, _⟩ => rfl
        | ⟨1, _⟩ => rfl)
  · rw [Spec.halves_hi]
    exact concatenate_pair_apply_right (t := S128x256) (1 : Fin 2) x y concatenates_S128x128_S128x128_S128x256_d1
      (ix2 l (Spec.hi p)) rfl rfl (ix2 l p) (fun b hb => match b, hb with
        | ⟨0, _⟩, _ => rfl
        | ⟨1, _⟩, hb => absurd rfl hb) rfl

/-- A state block of one head and one chunk as a matrix. -/
theorem mat_apply {α : Type} (x : S1x1x256x256.Idx → α) (d e : Fin 256) :
    shapeCast S256x256 x shapeCasts_S1x1x256x256_S256x256 (ix2 d e) = x (ix4 0 0 d e) :=
  shapeCast_apply x shapeCasts_S1x1x256x256_S256x256 (ix2 d e) (ix4 0 0 d e)
    (by rw [Shape.rowMajor_val_four, Shape.rowMajor_val_two]; show ((0 * 1 + 0) * 256 + d.val) * 256 + e.val = d.val * 256 + e.val; omega)

/-! ## The small vectors -/

theorem pos_apply (l : Fin 128) : k0_pay3 (F := Ideal) (ix2 l 0) = Spec.pos l := by
  show FloatOps.sitofp (F := Ideal) .f32 (iota .tc S128x1 32 [0] iota_S128x1_d0_w32 (ix2 l 0)) = _
  rw [iota_single_apply]
  rfl

theorem la_apply (a : EReal) (l : Fin 128) : la (F := Ideal) a (ix2 l 0) = Spec.lg a := by
  show Ideal.ofBits .f32 0x00000000#32 - Ideal.exp a = -(Ideal.exp a)
  rw [Ideal.ofBits_zero_f32, zero_sub]

theorem lb_apply (a : EReal) (l : Fin 128) : lb (F := Ideal) a (ix2 l 0) = Spec.lg a := la_apply a l

theorem diff_apply (l j : Fin 128) : k0_pay19 (F := Ideal) (ix2 l j) = Spec.pos l - Spec.pos j := by
  show FloatOps.sitofp (F := Ideal) .f32 (iota .tc S128x128 32 [0] iota_S128x128_d0_w32 (ix2 l j))
    - FloatOps.sitofp (F := Ideal) .f32 (iota .tc S128x128 32 [1] iota_S128x128_d1_w32 (ix2 l j)) = _
  rw [iota_single_apply, iota_single_apply]
  rfl

theorem corner_apply (x : FVec Ideal S128x1 .f32) :
    extractStridedSlice S1x1 ![0, 0] x slices_S128x1_o0_0_S1x1 (ix2 0 0) = x (ix2 0 0) :=
  extractStridedSlice_apply _ x slices_S128x1_o0_0_S1x1 (ix2 0 0) (ix2 0 0) (fun a => match a with
    | ⟨0, _⟩ => rfl
    | ⟨1, _⟩ => rfl)

theorem mask_apply (a b : EReal) (l j : Fin 128) : mask (F := Ideal) a b (ix2 l j) = Spec.dm a b l j := by
  show Scalar.select (Ideal.cmp .oge (k0_pay19 (F := Ideal) (ix2 l j)) (Ideal.ofBits .f32 0x00000000#32))
    (Ideal.exp (broadcastTo S128x128 (extractStridedSlice S1x1 ![0, 0] (la (F := Ideal) a) slices_S128x1_o0_0_S1x1)
        broadcasts_S1x1_S128x128 (ix2 l j) * max (k0_pay19 (F := Ideal) (ix2 l j)) (-(k0_pay19 (F := Ideal) (ix2 l j)))))
    (Ideal.exp (broadcastTo S128x128 (extractStridedSlice S1x1 ![0, 0] (lb (F := Ideal) b) slices_S128x1_o0_0_S1x1)
        broadcasts_S1x1_S128x128 (ix2 l j) * max (k0_pay19 (F := Ideal) (ix2 l j)) (-(k0_pay19 (F := Ideal) (ix2 l j))))) = _
  rw [one_apply, one_apply, corner_apply, corner_apply, la_apply, lb_apply, diff_apply]
  rfl

theorem qf_apply (a : EReal) (l : Fin 128) : k0_pay14 (F := Ideal) k0_pay3 (la a) (ix2 l 0) = Spec.qf a l := by
  show Ideal.exp (la (F := Ideal) a (ix2 l 0) * (k0_pay3 (F := Ideal) (ix2 l 0) + Ideal.ofBits .f32 0x3F800000#32)) = _
  rw [la_apply, pos_apply]; rfl
theorem qb_apply (b : EReal) (l : Fin 128) : k0_pay15 (F := Ideal) k0_pay3 (lb b) (ix2 l 0) = Spec.qb b l := by
  show Ideal.exp (lb (F := Ideal) b (ix2 l 0) * (Ideal.ofBits .f32 0x43000000#32 - k0_pay3 (F := Ideal) (ix2 l 0))) = _
  rw [lb_apply, pos_apply]; rfl
theorem wf_apply (a : EReal) (l : Fin 128) : k0_pay16 (F := Ideal) k0_pay3 (la a) (ix2 l 0) = Spec.wf a l := by
  show Ideal.exp (la (F := Ideal) a (ix2 l 0) * (Ideal.ofBits .f32 0x42FE0000#32 - k0_pay3 (F := Ideal) (ix2 l 0))) = _
  rw [la_apply, pos_apply]; rfl
theorem wb_apply (b : EReal) (l : Fin 128) : k0_pay17 (F := Ideal) k0_pay3 (lb b) (ix2 l 0) = Spec.wb b l := by
  show Ideal.exp (lb (F := Ideal) b (ix2 l 0) * k0_pay3 (F := Ideal) (ix2 l 0)) = _
  rw [lb_apply, pos_apply]; rfl

/-! ## The blocks -/

/-- A block's rows as a plain function. -/
abbrev rows {n : ℕ} (x : (⟨2, ![128, n]⟩ : Shape).Idx → EReal) (l : Fin 128) (d : Fin n) : EReal := x (ix2 l d)
/-- A state block as a plain function. -/
abbrev mat (x : S1x1x256x256.Idx → EReal) (d e : Fin 256) : EReal := x (ix4 0 0 d e)

theorem cos_eq (c : FVec Ideal S128x128 .f32) : k0_pay4 (F := Ideal) c = c := shapeCast_self c _
theorem sin_eq (s : FVec Ideal S128x128 .f32) : k0_pay5 (F := Ideal) s = s := shapeCast_self s _

theorem rotQ_apply (c s : FVec Ideal S128x128 .f32) (q : FVec Ideal S128x256 .f32) (l : Fin 128) (d : Fin 256) :
    k0_pay8 (F := Ideal) c s q (ix2 l d) = Spec.rotQ (rows c) (rows s) (rows q) l d := by
  unfold k0_pay8
  rw [cos_eq, sin_eq]

  rw [beside_apply]
  unfold Spec.rotQ Spec.rot
  congr 1 <;> funext p <;> simp only [subf_apply, addf_apply, mulf_apply, left_apply, right_apply]

theorem rotK_apply (c s : FVec Ideal S128x128 .f32) (k : FVec Ideal S128x256 .f32) (l : Fin 128) (d : Fin 256) :
    k0_pay9 (F := Ideal) c s k (ix2 l d) = Spec.rotK (rows c) (rows s) (rows k) l d :=
  congrArg (· * Ideal.ofBits .f32 0x3D800000#32) (rotQ_apply c s k l d)

theorem rotT_apply (c s : FVec Ideal S128x128 .f32) (x : FVec Ideal S128x256 .f32) (l : Fin 128) (d : Fin 256) :
    k0_pay35 (F := Ideal) c s x (ix2 l d) = Spec.rotT (rows c l) (rows s l) (rows x l) d := by
  unfold k0_pay35

  rw [truncf_apply, beside_apply]
  unfold Spec.rotT
  congr 1 <;> funext p <;> simp only [subf_apply, addf_apply, mulf_apply, left_apply, right_apply]

theorem rotTk_apply (c s : FVec Ideal S128x128 .f32) (x : FVec Ideal S128x256 .f32) (l : Fin 128) (d : Fin 256) :
    k0_pay36 (F := Ideal) c s x (ix2 l d) = Spec.rotT (rows c l) (rows s l) (rows x l) d * Spec.kap :=
  congrArg (· * Ideal.ofBits .f32 0x3D800000#32) (rotT_apply c s x l d)

theorem gg_apply (v g : FVec Ideal S128x256 .f32) (l j : Fin 128) :
    k0_pay25 (F := Ideal) v g (ix2 l j) = Spec.prod (rows g) (rows v) l j :=
  rhsT_apply (M := 128) (K := 256) (N := 128) none _ _ l j

theorem sc_apply (q k : FVec Ideal S128x256 .f32) (l j : Fin 128) :
    k0_pay24 (F := Ideal) q k (ix2 l j) = Spec.prod (rows q) (rows k) l j :=
  rhsT_apply (M := 128) (K := 256) (N := 128) none _ _ l j

theorem against_apply (x : FVec Ideal S128x256 .f32) (S : FVec Ideal S1x1x256x256 .bf16) (w : FVec Ideal S128x1 .f32) (l : Fin 128) (d : Fin 256) :
    k0_pay27 (F := Ideal) x (k0_pay10 S) w (ix2 l d) = Spec.against (rows x) (mat S) l d * w (ix2 l 0) := by
  unfold k0_pay27

  rw [mulf_apply, col_apply]
  refine congrArg (· * w (ix2 l 0)) ((rhsT_apply (M := 128) (K := 256) (N := 256) none _ _ l d).trans ?_)
  refine Finset.sum_congr rfl fun e _ => ?_
  rw [truncf_apply]
  exact congrArg (x (ix2 l e) * ·) (mat_apply S d e)

theorem inner_apply (x : FVec Ideal S128x128 .f32) (y : FVec Ideal S128x256 .f32) (l : Fin 128) (d : Fin 256) :
    matmul dot_S128x128_S128x256_S128x256_1_0_0_1_n_n none (truncf .bf16 x bitsLt_bf16_f32) (truncf .bf16 y bitsLt_bf16_f32)
      (constant (F := Ideal) S128x256 .f32 0x00000000#32) (ix2 l d) = ∑ j : Fin 128, x (ix2 l j) * y (ix2 j d) :=
  plain_apply (M := 128) (K := 128) (N := 256) none _ _ l d

theorem innerT_apply (x : FVec Ideal S128x128 .f32) (y : FVec Ideal S128x256 .f32) (l : Fin 128) (d : Fin 256) :
    matmul dot_S128x128_S128x256_S128x256_0_0_1_1_n_n none (truncf .bf16 x bitsLt_bf16_f32) (truncf .bf16 y bitsLt_bf16_f32)
      (constant (F := Ideal) S128x256 .f32 0x00000000#32) (ix2 l d) = ∑ j : Fin 128, x (ix2 j l) * y (ix2 j d) :=
  matmul_rows_apply dot_S128x128_S128x256_S128x256_0_0_1_1_n_n ⟨rfl, rfl, rfl, rfl, rfl, rfl⟩ none _ _ l d

theorem through_apply (x : FVec Ideal S128x256 .f32) (w : FVec Ideal S128x1 .f32) (S : FVec Ideal S1x1x256x256 .bf16) (l : Fin 128) (e : Fin 256) :
    matmul dot_S128x256_S256x256_S128x256_1_0_0_1_n_n none
      (truncf .bf16 (mulf x (broadcastTo S128x256 w broadcasts_S128x1_S128x256)) bitsLt_bf16_f32) (k0_pay12 (F := Ideal) S)
      (constant (F := Ideal) S128x256 .f32 0x00000000#32) (ix2 l e) = ∑ d : Fin 256, x (ix2 l d) * w (ix2 l 0) * S (ix4 0 0 d e) := by
  refine (plain_apply (M := 128) (K := 256) (N := 256) none _ _ l e).trans ?_
  refine Finset.sum_congr rfl fun d _ => ?_
  rw [truncf_apply, mulf_apply, col_apply]
  exact congrArg (x (ix2 l d) * w (ix2 l 0) * ·) (mat_apply S d e)

/-- The block of the query gradient at an index. -/
theorem hq_apply (c s : FVec Ideal S128x128 .f32) (k v g : FVec Ideal S128x256 .f32) (sf sb : FVec Ideal S1x1x256x256 .bf16) (a b : EReal)
    (l : Fin 128) (d : Fin 256) :
    hq (F := Ideal) c s k v g sf sb a b (ix2 l d)
      = Spec.dq (rows c) (rows s) (rows k) (rows v) (rows g) (mat sf) (mat sb) a b l d := by
  unfold hq
  rw [rotT_apply, cos_eq, sin_eq]
  unfold Spec.dq
  congr 1
  funext d
  show (matmul dot_S128x128_S128x256_S128x256_1_0_0_1_n_n none
      (truncf .bf16 (mulf (k0_pay25 (F := Ideal) v g) (mask a b)) bitsLt_bf16_f32)
      (truncf .bf16 (k0_pay9 c s k) bitsLt_bf16_f32) (constant (F := Ideal) S128x256 .f32 0x00000000#32) (ix2 l d)
        + k0_pay27 (F := Ideal) g (k0_pay10 sf) (k0_pay14 k0_pay3 (la a)) (ix2 l d))
      + k0_pay27 (F := Ideal) g (k0_pay10 sb) (k0_pay15 k0_pay3 (lb b)) (ix2 l d) = _
  rw [inner_apply, against_apply, against_apply, qf_apply, qb_apply]
  simp only [mulf_apply, gg_apply, mask_apply, rotK_apply]
  rfl

/-- The block of the key gradient at an index. -/
theorem hk_apply (c s : FVec Ideal S128x128 .f32) (q v g : FVec Ideal S128x256 .f32) (ef eb : FVec Ideal S1x1x256x256 .bf16) (a b : EReal)
    (l : Fin 128) (d : Fin 256) :
    hk (F := Ideal) c s q v g ef eb a b (ix2 l d)
      = Spec.dk (rows c) (rows s) (rows q) (rows v) (rows g) (mat ef) (mat eb) a b l d := by
  unfold hk
  rw [rotTk_apply, cos_eq, sin_eq]
  unfold Spec.dk
  congr 2
  funext d
  show (matmul dot_S128x128_S128x256_S128x256_0_0_1_1_n_n none
      (truncf .bf16 (mulf (k0_pay25 (F := Ideal) v g) (mask a b)) bitsLt_bf16_f32)
      (truncf .bf16 (k0_pay8 c s q) bitsLt_bf16_f32) (constant (F := Ideal) S128x256 .f32 0x00000000#32) (ix2 l d)
        + k0_pay27 (F := Ideal) v (k0_pay10 ef) (k0_pay16 k0_pay3 (la a)) (ix2 l d))
      + k0_pay27 (F := Ideal) v (k0_pay10 eb) (k0_pay17 k0_pay3 (lb b)) (ix2 l d) = _
  rw [innerT_apply, against_apply, against_apply, wf_apply, wb_apply]
  simp only [mulf_apply, gg_apply, mask_apply, rotQ_apply]
  rfl

/-- The block of the value gradient at an index. -/
theorem hv_apply (c s : FVec Ideal S128x128 .f32) (q k g : FVec Ideal S128x256 .f32) (ef eb : FVec Ideal S1x1x256x256 .bf16) (a b : EReal)
    (l : Fin 128) (e : Fin 256) :
    hv (F := Ideal) c s q k g ef eb a b (ix2 l e)
      = Spec.dv (rows c) (rows s) (rows q) (rows k) (rows g) (mat ef) (mat eb) a b l e := by
  show (matmul dot_S128x128_S128x256_S128x256_0_0_1_1_n_n none
      (truncf .bf16 (mulf (k0_pay24 (F := Ideal) (k0_pay8 c s q) (k0_pay9 c s k)) (mask a b)) bitsLt_bf16_f32)
      (truncf .bf16 g bitsLt_bf16_f32) (constant (F := Ideal) S128x256 .f32 0x00000000#32) (ix2 l e)
        + matmul dot_S128x256_S256x256_S128x256_1_0_0_1_n_n none
          (truncf .bf16 (mulf (k0_pay9 c s k) (broadcastTo S128x256 (k0_pay16 k0_pay3 (la a)) broadcasts_S128x1_S128x256)) bitsLt_bf16_f32)
          (k0_pay12 (F := Ideal) ef) (constant (F := Ideal) S128x256 .f32 0x00000000#32) (ix2 l e))
      + matmul dot_S128x256_S256x256_S128x256_1_0_0_1_n_n none
          (truncf .bf16 (mulf (k0_pay9 c s k) (broadcastTo S128x256 (k0_pay17 k0_pay3 (lb b)) broadcasts_S128x1_S128x256)) bitsLt_bf16_f32)
          (k0_pay12 (F := Ideal) eb) (constant (F := Ideal) S128x256 .f32 0x00000000#32) (ix2 l e) = _
  rw [innerT_apply, through_apply, through_apply, wf_apply, wb_apply]
  simp only [mulf_apply, sc_apply, mask_apply, rotK_apply]
  unfold Spec.dv
  have eq : rows (k0_pay8 (F := Ideal) c s q) = Spec.rotQ (rows c) (rows s) (rows q) := funext fun l => funext fun d => rotQ_apply c s q l d
  have ek : rows (k0_pay9 (F := Ideal) c s k) = Spec.rotK (rows c) (rows s) (rows k) := funext fun l => funext fun d => rotK_apply c s k l d
  rw [eq, ek]

end Cert.Proof.Head

end
-- ==== Proof.Same.lean ====
module

public import proofs.«01_k».proof.Proof.Gen.KernelIdeal.Frame
public import proofs.«01_k».proof.Proof.Head

/-! The four heads are the same computation.  The body names the values of each head separately; here the blocks that are
stored for heads 1, 2 and 3 are shown to be the functions of `Head` as well. -/

@[expose] public section

set_option maxRecDepth 16384

noncomputable section

namespace Cert.Proof.Same

open Cert.KernelIdeal Cert.KernelIdeal.Gen Idealize.ShloMosaic Idealize.ShloMosaic.TcCoe Idealize.SL.Sem Idealize.ShloMosaic.ValueIdx
open Idealize.ShloMosaic.Tactic

variable {F : FTy → Type} [FloatOps F]

/-- What is stored for head 0 of the query gradient. -/
def stq0 (c s : FVec F S128x128 .f32) (k v g : FVec F S128x256 .f32) (sf sb : FVec F S1x1x256x256 .bf16) (a b : F .f32) : FVec F S128x256 .bf16 :=
  (k0_pay35 (k0_pay4 c) (k0_pay5 s) (k0_pay31 (k0_pay9 c s k) v g (k0_pay10 sf) (k0_pay11 sb) (k0_pay14 (k0_pay3 (F := F)) (k0_pay6 a)) (k0_pay15 (k0_pay3 (F := F)) (k0_pay7 b)) (k0_pay18 (k0_pay7 b)) (k0_pay20 (F := F)) (k0_pay21 (F := F)) (k0_pay22 (k0_pay6 a))))

/-- What is stored for head 0 of the key gradient. -/
def stk0 (c s : FVec F S128x128 .f32) (q v g : FVec F S128x256 .f32) (ef eb : FVec F S1x1x256x256 .bf16) (a b : F .f32) : FVec F S128x256 .bf16 :=
  (k0_pay36 (k0_pay4 c) (k0_pay5 s) (k0_pay32 (k0_pay8 c s q) v g (k0_pay12 ef) (k0_pay13 eb) (k0_pay16 (k0_pay3 (F := F)) (k0_pay6 a)) (k0_pay17 (k0_pay3 (F := F)) (k0_pay7 b)) (k0_pay18 (k0_pay7 b)) (k0_pay20 (F := F)) (k0_pay21 (F := F)) (k0_pay22 (k0_pay6 a))))

/-- What is stored for head 0 of the value gradient. -/
def stv0 (c s : FVec F S128x128 .f32) (q k g : FVec F S128x256 .f32) (ef eb : FVec F S1x1x256x256 .bf16) (a b : F .f32) : FVec F S128x256 .bf16 :=
  (k0_pay37 (k0_pay13 eb) (k0_pay33 (k0_pay8 c s q) (k0_pay9 c s k) g (k0_pay12 ef) (k0_pay16 (k0_pay3 (F := F)) (k0_pay6 a)) (k0_pay18 (k0_pay7 b)) (k0_pay20 (F := F)) (k0_pay21 (F := F)) (k0_pay22 (k0_pay6 a))) (k0_pay34 (k0_pay9 c s k) (k0_pay17 (k0_pay3 (F := F)) (k0_pay7 b))))

/-- What is stored for head 1 of the query gradient. -/
def stq1 (c s : FVec F S128x128 .f32) (k v g : FVec F S128x256 .f32) (sf sb : FVec F S1x1x256x256 .bf16) (a b : F .f32) : FVec F S128x256 .bf16 :=
  (k0_pay83 (k0_pay4 c) (k0_pay5 s) (k0_pay79 (k0_pay56 (k0_pay4 c) (k0_pay5 s) k) v g (k0_pay57 sf) (k0_pay58 sb) (k0_pay61 (k0_pay3 (F := F)) (k0_pay53 a)) (k0_pay62 (k0_pay3 (F := F)) (k0_pay54 b)) (k0_pay66 (k0_pay53 a) (k0_pay54 b))) (k0_pay80 (k0_pay56 (k0_pay4 c) (k0_pay5 s) k) v g (k0_pay57 sf) (k0_pay58 sb) (k0_pay61 (k0_pay3 (F := F)) (k0_pay53 a)) (k0_pay62 (k0_pay3 (F := F)) (k0_pay54 b)) (k0_pay66 (k0_pay53 a) (k0_pay54 b))) (k0_pay81 (k0_pay4 c) (k0_pay56 (k0_pay4 c) (k0_pay5 s) k) v g (k0_pay57 sf) (k0_pay58 sb) (k0_pay61 (k0_pay3 (F := F)) (k0_pay53 a)) (k0_pay62 (k0_pay3 (F := F)) (k0_pay54 b)) (k0_pay66 (k0_pay53 a) (k0_pay54 b))) (k0_pay82 (k0_pay5 s) (k0_pay56 (k0_pay4 c) (k0_pay5 s) k) v g (k0_pay57 sf) (k0_pay58 sb) (k0_pay61 (k0_pay3 (F := F)) (k0_pay53 a)) (k0_pay62 (k0_pay3 (F := F)) (k0_pay54 b)) (k0_pay66 (k0_pay53 a) (k0_pay54 b))))

/-- What is stored for head 1 of the key gradient. -/
def stk1 (c s : FVec F S128x128 .f32) (q v g : FVec F S128x256 .f32) (ef eb : FVec F S1x1x256x256 .bf16) (a b : F .f32) : FVec F S128x256 .bf16 :=
  (k0_pay84 (k0_pay4 c) (k0_pay5 s) (k0_pay77 (k0_pay55 (k0_pay4 c) (k0_pay5 s) q) v g (k0_pay59 ef) (k0_pay60 eb) (k0_pay63 (k0_pay3 (F := F)) (k0_pay53 a)) (k0_pay64 (k0_pay3 (F := F)) (k0_pay54 b)) (k0_pay66 (k0_pay53 a) (k0_pay54 b))))

/-- What is stored for head 1 of the value gradient. -/
def stv1 (c s : FVec F S128x128 .f32) (q k g : FVec F S128x256 .f32) (ef eb : FVec F S1x1x256x256 .bf16) (a b : F .f32) : FVec F S128x256 .bf16 :=
  (k0_pay85 (k0_pay78 (k0_pay56 (k0_pay4 c) (k0_pay5 s) k) g (k0_pay59 ef) (k0_pay60 eb) (k0_pay63 (k0_pay3 (F := F)) (k0_pay53 a)) (k0_pay64 (k0_pay3 (F := F)) (k0_pay54 b)) (k0_pay66 (k0_pay53 a) (k0_pay54 b)) (k0_pay67 (k0_pay55 (k0_pay4 c) (k0_pay5 s) q)) (k0_pay68 (k0_pay56 (k0_pay4 c) (k0_pay5 s) k))))

/-- What is stored for head 2 of the query gradient. -/
def stq2 (c s : FVec F S128x128 .f32) (k v g : FVec F S128x256 .f32) (sf sb : FVec F S1x1x256x256 .bf16) (a b : F .f32) : FVec F S128x256 .bf16 :=
  (k0_pay120 (k0_pay4 c) (k0_pay5 s) (k0_pay100 (k0_pay4 c) (k0_pay5 s) k) g (k0_pay101 sf) (k0_pay102 sb) (k0_pay105 (k0_pay3 (F := F)) (k0_pay97 a)) (k0_pay106 (k0_pay3 (F := F)) (k0_pay98 b)) (k0_pay113 (k0_pay97 a) (k0_pay98 b) v g))

/-- What is stored for head 2 of the key gradient. -/
def stk2 (c s : FVec F S128x128 .f32) (q v g : FVec F S128x256 .f32) (ef eb : FVec F S1x1x256x256 .bf16) (a b : F .f32) : FVec F S128x256 .bf16 :=
  (k0_pay121 (k0_pay4 c) (k0_pay5 s) (k0_pay118 (k0_pay99 (k0_pay4 c) (k0_pay5 s) q) v (k0_pay103 ef) (k0_pay104 eb) (k0_pay107 (k0_pay3 (F := F)) (k0_pay97 a)) (k0_pay108 (k0_pay3 (F := F)) (k0_pay98 b)) (k0_pay113 (k0_pay97 a) (k0_pay98 b) v g)))

/-- What is stored for head 2 of the value gradient. -/
def stv2 (c s : FVec F S128x128 .f32) (q k g : FVec F S128x256 .f32) (ef eb : FVec F S1x1x256x256 .bf16) (a b : F .f32) : FVec F S128x256 .bf16 :=
  (k0_pay122 (k0_pay119 (k0_pay100 (k0_pay4 c) (k0_pay5 s) k) g (k0_pay103 ef) (k0_pay104 eb) (k0_pay107 (k0_pay3 (F := F)) (k0_pay97 a)) (k0_pay108 (k0_pay3 (F := F)) (k0_pay98 b)) (k0_pay110 (k0_pay97 a) (k0_pay98 b)) (k0_pay111 (k0_pay99 (k0_pay4 c) (k0_pay5 s) q) (k0_pay100 (k0_pay4 c) (k0_pay5 s) k))))

/-- What is stored for head 3 of the query gradient. -/
def stq3 (c s : FVec F S128x128 .f32) (k v g : FVec F S128x256 .f32) (sf sb : FVec F S1x1x256x256 .bf16) (a b : F .f32) : FVec F S128x256 .bf16 :=
  (k0_pay155 (k0_pay4 c) (k0_pay5 s) (k0_pay135 (k0_pay4 c) (k0_pay5 s) k) (k0_pay137 sb) (k0_pay140 (k0_pay3 (F := F)) (k0_pay133 b)) (k0_pay147 (k0_pay132 a) (k0_pay133 b) v g) (k0_pay148 (k0_pay3 (F := F)) (k0_pay132 a) g (k0_pay136 sf)) (k0_pay149 g) (constant S128x256 .f32 0x00000000#32))

/-- What is stored for head 3 of the key gradient. -/
def stk3 (c s : FVec F S128x128 .f32) (q v g : FVec F S128x256 .f32) (ef eb : FVec F S1x1x256x256 .bf16) (a b : F .f32) : FVec F S128x256 .bf16 :=
  (k0_pay160 (k0_pay4 c) (k0_pay5 s) (k0_pay156 (k0_pay134 (k0_pay4 c) (k0_pay5 s) q) v (k0_pay138 ef) (k0_pay139 eb) (k0_pay141 (k0_pay3 (F := F)) (k0_pay132 a)) (k0_pay142 (k0_pay3 (F := F)) (k0_pay133 b)) (k0_pay147 (k0_pay132 a) (k0_pay133 b) v g)) (k0_pay157 (k0_pay134 (k0_pay4 c) (k0_pay5 s) q) v (k0_pay138 ef) (k0_pay139 eb) (k0_pay141 (k0_pay3 (F := F)) (k0_pay132 a)) (k0_pay142 (k0_pay3 (F := F)) (k0_pay133 b)) (k0_pay147 (k0_pay132 a) (k0_pay133 b) v g)) (k0_pay158 (k0_pay4 c) (k0_pay134 (k0_pay4 c) (k0_pay5 s) q) v (k0_pay138 ef) (k0_pay139 eb) (k0_pay141 (k0_pay3 (F := F)) (k0_pay132 a)) (k0_pay142 (k0_pay3 (F := F)) (k0_pay133 b)) (k0_pay147 (k0_pay132 a) (k0_pay133 b) v g)) (k0_pay159 (k0_pay5 s) (k0_pay134 (k0_pay4 c) (k0_pay5 s) q) v (k0_pay138 ef) (k0_pay139 eb) (k0_pay141 (k0_pay3 (F := F)) (k0_pay132 a)) (k0_pay142 (k0_pay3 (F := F)) (k0_pay133 b)) (k0_pay147 (k0_pay132 a) (k0_pay133 b) v g)))

/-- What is stored for head 3 of the value gradient. -/
def stv3 (c s : FVec F S128x128 .f32) (q k g : FVec F S128x256 .f32) (ef eb : FVec F S1x1x256x256 .bf16) (a b : F .f32) : FVec F S128x256 .bf16 :=
  (k0_pay161 (k0_pay154 (k0_pay135 (k0_pay4 c) (k0_pay5 s) k) g (k0_pay138 ef) (k0_pay139 eb) (k0_pay141 (k0_pay3 (F := F)) (k0_pay132 a)) (k0_pay142 (k0_pay3 (F := F)) (k0_pay133 b)) (k0_pay144 (k0_pay132 a) (k0_pay133 b)) (k0_pay145 (k0_pay134 (k0_pay4 c) (k0_pay5 s) q) (k0_pay135 (k0_pay4 c) (k0_pay5 s) k))))

theorem stq0_eq (c s : FVec F S128x128 .f32) (k v g : FVec F S128x256 .f32) (sf sb : FVec F S1x1x256x256 .bf16) (a b : F .f32) :
    stq0 c s k v g sf sb a b = Head.hq c s k v g sf sb a b := rfl

theorem stq1_eq (c s : FVec F S128x128 .f32) (k v g : FVec F S128x256 .f32) (sf sb : FVec F S1x1x256x256 .bf16) (a b : F .f32) :
    stq1 c s k v g sf sb a b = Head.hq c s k v g sf sb a b := by sl_kernel_rfl

theorem stq2_eq (c s : FVec F S128x128 .f32) (k v g : FVec F S128x256 .f32) (sf sb : FVec F S1x1x256x256 .bf16) (a b : F .f32) :
    stq2 c s k v g sf sb a b = Head.hq c s k v g sf sb a b := by sl_kernel_rfl

theorem stq3_eq (c s : FVec F S128x128 .f32) (k v g : FVec F S128x256 .f32) (sf sb : FVec F S1x1x256x256 .bf16) (a b : F .f32) :
    stq3 c s k v g sf sb a b = Head.hq c s k v g sf sb a b := by sl_kernel_rfl

theorem stk0_eq (c s : FVec F S128x128 .f32) (q v g : FVec F S128x256 .f32) (ef eb : FVec F S1x1x256x256 .bf16) (a b : F .f32) :
    stk0 c s q v g ef eb a b = Head.hk c s q v g ef eb a b := rfl

theorem stk1_eq (c s : FVec F S128x128 .f32) (q v g : FVec F S128x256 .f32) (ef eb : FVec F S1x1x256x256 .bf16) (a b : F .f32) :
    stk1 c s q v g ef eb a b = Head.hk c s q v g ef eb a b := by sl_kernel_rfl

theorem stk2_eq (c s : FVec F S128x128 .f32) (q v g : FVec F S128x256 .f32) (ef eb : FVec F S1x1x256x256 .bf16) (a b : F .f32) :
    stk2 c s q v g ef eb a b = Head.hk c s q v g ef eb a b := by sl_kernel_rfl

theorem stk3_eq (c s : FVec F S128x128 .f32) (q v g : FVec F S128x256 .f32) (ef eb : FVec F S1x1x256x256 .bf16) (a b : F .f32) :
    stk3 c s q v g ef eb a b = Head.hk c s q v g ef eb a b := by sl_kernel_rfl

theorem stv0_eq (c s : FVec F S128x128 .f32) (q k g : FVec F S128x256 .f32) (ef eb : FVec F S1x1x256x256 .bf16) (a b : F .f32) :
    stv0 c s q k g ef eb a b = Head.hv c s q k g ef eb a b := rfl

theorem stv1_eq (c s : FVec F S128x128 .f32) (q k g : FVec F S128x256 .f32) (ef eb : FVec F S1x1x256x256 .bf16) (a b : F .f32) :
    stv1 c s q k g ef eb a b = Head.hv c s q k g ef eb a b := by sl_kernel_rfl

theorem stv2_eq (c s : FVec F S128x128 .f32) (q k g : FVec F S128x256 .f32) (ef eb : FVec F S1x1x256x256 .bf16) (a b : F .f32) :
    stv2 c s q k g ef eb a b = Head.hv c s q k g ef eb a b := by sl_kernel_rfl

theorem stv3_eq (c s : FVec F S128x128 .f32) (q k g : FVec F S128x256 .f32) (ef eb : FVec F S1x1x256x256 .bf16) (a b : F .f32) :
    stv3 c s q k g ef eb a b = Head.hv c s q k g ef eb a b := by sl_kernel_rfl

end Cert.Proof.Same

end
-- ==== Proof.Block.lean ====
/- Hand-written, untrusted: WHAT A GRID POINT STORES. The body stores each result block head by head, four pieces of 256
   columns; read back they are the head functions of Proof/Head.lean of the point's blocks (`out12_A` to `out14_B`, at any
   float values). -/
module

public import proofs.«01_k».proof.Proof.Gen.KernelIdeal.Value
public import proofs.«01_k».proof.Proof.Same

@[expose] public section

set_option maxRecDepth 16384

noncomputable section

namespace Cert.Proof.Block

open Cert.KernelIdeal Cert.KernelIdeal.Gen Idealize.ShloMosaic Idealize.ShloMosaic.TcCoe Idealize.SL.Sem Idealize.ShloMosaic.ValueIdx
open Idealize.ShloMosaic.Tactic

variable {F : FTy → Type} [FloatOps F]

/-- Column `d` of head `h`. -/
abbrev col (h : Fin 4) (d : Fin 256) : Fin 1024 := ⟨256 * h.val + d.val, by have := h.isLt; have := d.isLt; omega⟩

/-- The columns of head `h` of a block. -/
def cols {α : Type} (h : Fin 4) (x : S128x1024.Idx → α) : S128x256.Idx → α := fun j => x (ix2 (j 0) (col h (j 1)))
/-- The state block of head `h`. -/
def state {α : Type} (h : Fin 4) (x : S4x1x256x256.Idx → α) : S1x1x256x256.Idx → α := fun j => x (ix4 h (j 1) (j 2) (j 3))

/-- Four blocks of 256 columns side by side. -/
def glue {α : Type} (G : Fin 4 → S128x256.Idx → α) : S128x1024.Idx → α := fun y =>
  G ⟨(y 1).val / 256, by have : (y 1).val < 1024 := (y 1).isLt; omega⟩ (ix2 (y 0) ⟨(y 1).val % 256, Nat.mod_lt _ (by decide)⟩)

theorem glue_apply {α : Type} (G : Fin 4 → S128x256.Idx → α) (l : Fin 128) (h : Fin 4) (d : Fin 256) :
    glue G (ix2 l (col h d)) = G h (ix2 l d) := by
  have e1 : (⟨(256 * h.val + d.val) / 256, by have := h.isLt; have := d.isLt; omega⟩ : Fin 4) = h :=
    Fin.ext (by show (256 * h.val + d.val) / 256 = h.val; have := d.isLt; omega)
  have e2 : (⟨(256 * h.val + d.val) % 256, Nat.mod_lt _ (by decide)⟩ : Fin 256) = d :=
    Fin.ext (by show (256 * h.val + d.val) % 256 = d.val; have := d.isLt; omega)
  show G ⟨(256 * h.val + d.val) / 256, _⟩ (ix2 l ⟨(256 * h.val + d.val) % 256, _⟩) = _
  rw [e1, e2]

theorem emb_col (h : Fin 4) (inb : ∀ a, (![0, 256 * h.val] : Fin 2 → Nat) a + S128x256.size a ≤ S128x1024.size a) (j : S128x256.Idx) :
    (Rect.unit (s := S128x1024) ![0, 256 * h.val] S128x256.size inb).emb j = ix2 (j 0) (col h (j 1)) :=
  funext fun a => Fin.ext (match a with
    | ⟨0, _⟩ => by show 0 + 1 * (j 0).val = (j 0).val; omega
    | ⟨1, _⟩ => by show 256 * h.val + 1 * (j 1).val = 256 * h.val + (j 1).val; omega)

/-- The four stores read back. -/
theorem canon_glue (G : Fin 4 → Vec F S128x256 .bf16) :
    View.canon ([⟨Rect.unit (s := S128x1024) ![0, 768] S128x256.size inb_S128x1024_S128x256_0_768, G 3⟩,
        ⟨Rect.unit (s := S128x1024) ![0, 512] S128x256.size inb_S128x1024_S128x256_0_512, G 2⟩,
        ⟨Rect.unit (s := S128x1024) ![0, 256] S128x256.size inb_S128x1024_S128x256_0_256, G 1⟩,
        ⟨Rect.unit (s := S128x1024) ![0, 0] S128x256.size inb_S128x1024_S128x256_0_0, G 0⟩] : List (View.Piece (Elt F) S128x1024 .bf16)) = glue G := by
  funext y
  refine View.canon_apply_of_pieces (glue G) _ (fun p hp x => ?_) y (View.cover_of_tiledL (s := S128x1024) _ S128x256.size (by sl_kernel_rfl) y)
  simp only [List.mem_cons, List.not_mem_nil, or_false] at hp
  rcases hp with rfl | rfl | rfl | rfl
  · exact ((congrArg (glue G) (emb_col 3 inb_S128x1024_S128x256_0_768 x)).trans ((glue_apply G _ _ _).trans (congrArg (G 3) (eq_ix2 x).symm))).symm
  · exact ((congrArg (glue G) (emb_col 2 inb_S128x1024_S128x256_0_512 x)).trans ((glue_apply G _ _ _).trans (congrArg (G 2) (eq_ix2 x).symm))).symm
  · exact ((congrArg (glue G) (emb_col 1 inb_S128x1024_S128x256_0_256 x)).trans ((glue_apply G _ _ _).trans (congrArg (G 1) (eq_ix2 x).symm))).symm
  · exact ((congrArg (glue G) (emb_col 0 inb_S128x1024_S128x256_0_0 x)).trans ((glue_apply G _ _ _).trans (congrArg (G 0) (eq_ix2 x).symm))).symm

/-- A load of a head's columns of a whole staging buffer. -/
theorem load_cols {m : Space} {e : EltTy} (M : Memref sig .tc m S128x1024 e) (hM : M.IsWhole) (x : Vec F S128x1024 e) (h : Fin 4)
    (inb : ∀ a, (![0, 256 * h.val] : Fin 2 → Nat) a + S128x256.size a ≤ S128x1024.size a) :
    View.readAt (Elt F) M.view (Rect.unit (s := S128x1024) ![0, 256 * h.val] S128x256.size inb).toLoadRect (hM.unread x) = cols h x := by
  rw [View.readAt_eq_ld, hM.read_unread]
  funext j
  exact congrArg x (emb_col h inb j)

theorem load_state {m : Space} {e : EltTy} (M : Memref sig .tc m S4x1x256x256 e) (hM : M.IsWhole) (x : Vec F S4x1x256x256 e) (h : Fin 4)
    (inb : ∀ a, (![h.val, 0, 0, 0] : Fin 4 → Nat) a + S1x1x256x256.size a ≤ S4x1x256x256.size a) :
    View.readAt (Elt F) M.view (Rect.unit (s := S4x1x256x256) ![h.val, 0, 0, 0] S1x1x256x256.size inb).toLoadRect (hM.unread x) = state h x := by
  rw [View.readAt_eq_ld, hM.read_unread]
  funext j
  exact congrArg x (funext fun a => Fin.ext (match a with
    | ⟨0, _⟩ => by show h.val + 1 * (j 0).val = h.val; have : (j 0).val < 1 := (j 0).isLt; omega
    | ⟨1, _⟩ => by show 0 + 1 * (j 1).val = (j 1).val; omega
    | ⟨2, _⟩ => by show 0 + 1 * (j 2).val = (j 2).val; omega
    | ⟨3, _⟩ => by show 0 + 1 * (j 3).val = (j 3).val; omega))

theorem one : 0 < S1.numel := by decide

theorem load_word {m : Space} {e : EltTy} (M : Memref sig .tc m S4 e) (hM : M.IsWhole) (x : Vec F S4 e) (h : Fin 4)
    (inb : ∀ a, (![h.val] : Fin 1 → Nat) a + S1.size a ≤ S4.size a) :
    View.readAt (Elt F) M.view (Rect.unit (s := S4) ![h.val] S1.size inb).toLoadRect (hM.unread x) (Shape.Idx.first one) = x (ix1 h) := by
  rw [View.readAt_eq_ld, hM.read_unread]
  exact congrArg x (funext fun a => Fin.ext (match a with
    | ⟨0, _⟩ => by show h.val + 1 * 0 = h.val; omega))

theorem load_table {m : Space} {e : EltTy} (M : Memref sig .tc m S128x128 e) (hM : M.IsWhole) (x : Vec F S128x128 e) :
    View.readAt (Elt F) M.view (Rect.unit (s := S128x128) ![0, 0] S128x128.size inb_S128x128_S128x128_0_0).toLoadRect (hM.unread x) = x := by
  rw [View.readAt_eq_ld, hM.read_unread]
  exact View.ld_unit_zero (funext fun a => by fin_cases a <;> rfl) _ _

set_option maxHeartbeats 400000 in
theorem out12_A (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x1x256x256 .bf16) (harg7 : arg7.IsWhole) (arg8 : Memref sig .tc .vmem S4x1x256x256 .bf16) (harg8 : arg8.IsWhole) (arg9 : Memref sig .tc .vmem S4x1x256x256 .bf16) (harg9 : arg9.IsWhole) (arg10 : Memref sig .tc .vmem S4x1x256x256 .bf16) (harg10 : arg10.IsWhole) (arg11 : Memref sig .tc .smem S4 .f32) (harg11 : arg11.IsWhole) (arg12 : Memref sig .tc .smem S4 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S4x8x128 .f32) (harg16 : arg16.IsWhole) (hc0 : cond0_0 i)
    (x0 : Vec F S128x1024 .f32) (x1 : Vec F S128x1024 .f32) (x2 : Vec F S128x1024 .f32) (x3 : Vec F S128x1024 .f32) (x4 : Vec F S128x128 .f32) (x5 : Vec F S128x128 .f32) (x6 : Vec F S4x1x256x256 .bf16) (x7 : Vec F S4x1x256x256 .bf16) (x8 : Vec F S4x1x256x256 .bf16) (x9 : Vec F S4x1x256x256 .bf16) (x10 : Vec F S4 .f32) (x11 : Vec F S4 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
      = glue fun h => Head.hq x4 x5 (cols h x1) (cols h x2) (cols h x3) (state h x6) (state h x7) (x10 (ix1 h)) (x11 (ix1 h)) := by
  unfold out0_A_12
  rw [View.read_writes_junk_eq_canon]
  refine Eq.trans ?_ (canon_glue fun h => Head.hq x4 x5 (cols h x1) (cols h x2) (cols h x3) (state h x6) (state h x7) (x10 (ix1 h)) (x11 (ix1 h)))
  refine Eq.trans (b := View.canon ([⟨Rect.unit (s := S128x1024) ![0, 768] S128x256.size inb_S128x1024_S128x256_0_768,
        Same.stq3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 768] S128x256.size inb_S128x1024_S128x256_0_768).toLoadRect (harg2.unread x1)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg7.view (Rect.unit (s := S4x1x256x256) ![3, 0, 0, 0] S1x1x256x256.size inb_S4x1x256x256_S1x1x256x256_3_0_0_0).toLoadRect (harg7.unread x6)) (View.readAt (Elt F) arg8.view (Rect.unit (s := S4x1x256x256) ![3, 0, 0, 0] S1x1x256x256.size inb_S4x1x256x256_S1x1x256x256_3_0_0_0).toLoadRect (harg8.unread x7)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))⟩,
      ⟨Rect.unit (s := S128x1024) ![0, 512] S128x256.size inb_S128x1024_S128x256_0_512,
        Same.stq2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 512] S128x256.size inb_S128x1024_S128x256_0_512).toLoadRect (harg2.unread x1)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg7.view (Rect.unit (s := S4x1x256x256) ![2, 0, 0, 0] S1x1x256x256.size inb_S4x1x256x256_S1x1x256x256_2_0_0_0).toLoadRect (harg7.unread x6)) (View.readAt (Elt F) arg8.view (Rect.unit (s := S4x1x256x256) ![2, 0, 0, 0] S1x1x256x256.size inb_S4x1x256x256_S1x1x256x256_2_0_0_0).toLoadRect (harg8.unread x7)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))⟩,
      ⟨Rect.unit (s := S128x1024) ![0, 256] S128x256.size inb_S128x1024_S128x256_0_256,
        Same.stq1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 256] S128x256.size inb_S128x1024_S128x256_0_256).toLoadRect (harg2.unread x1)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg7.view (Rect.unit (s := S4x1x256x256) ![1, 0, 0, 0] S1x1x256x256.size inb_S4x1x256x256_S1x1x256x256_1_0_0_0).toLoadRect (harg7.unread x6)) (View.readAt (Elt F) arg8.view (Rect.unit (s := S4x1x256x256) ![1, 0, 0, 0] S1x1x256x256.size inb_S4x1x256x256_S1x1x256x256_1_0_0_0).toLoadRect (harg8.unread x7)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))⟩,
      ⟨Rect.unit (s := S128x1024) ![0, 0] S128x256.size inb_S128x1024_S128x256_0_0,
        Same.stq0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 0] S128x256.size inb_S128x1024_S128x256_0_0).toLoadRect (harg2.unread x1)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg7.view (Rect.unit (s := S4x1x256x256) ![0, 0, 0, 0] S1x1x256x256.size inb_S4x1x256x256_S1x1x256x256_0_0_0_0).toLoadRect (harg7.unread x6)) (View.readAt (Elt F) arg8.view (Rect.unit (s := S4x1x256x256) ![0, 0, 0, 0] S1x1x256x256.size inb_S4x1x256x256_S1x1x256x256_0_0_0_0).toLoadRect (harg8.unread x7)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))⟩] :
      List (View.Piece (Elt F) S128x1024 .bf16))) (by sl_kernel_rfl) ?_
  have e3 : Same.stq3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 768] S128x256.size inb_S128x1024_S128x256_0_768).toLoadRect (harg2.unread x1)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg7.view (Rect.unit (s := S4x1x256x256) ![3, 0, 0, 0] S1x1x256x256.size inb_S4x1x256x256_S1x1x256x256_3_0_0_0).toLoadRect (harg7.unread x6)) (View.readAt (Elt F) arg8.view (Rect.unit (s := S4x1x256x256) ![3, 0, 0, 0] S1x1x256x256.size inb_S4x1x256x256_S1x1x256x256_3_0_0_0).toLoadRect (harg8.unread x7)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))
      = Head.hq x4 x5 (cols 3 x1) (cols 3 x2) (cols 3 x3) (state 3 x6) (state 3 x7) (x10 (ix1 3)) (x11 (ix1 3)) := by
    rw [Same.stq3_eq, load_table arg5 harg5 x4, load_table arg6 harg6 x5]
    exact congr (congr (congr (congr (congr (congr (congrArg (Head.hq x4 x5) (load_cols arg2 harg2 x1 3 inb_S128x1024_S128x256_0_768)) (load_cols arg3 harg3 x2 3 inb_S128x1024_S128x256_0_768)) (load_cols arg4 harg4 x3 3 inb_S128x1024_S128x256_0_768)) (load_state arg7 harg7 x6 3 inb_S4x1x256x256_S1x1x256x256_3_0_0_0)) (load_state arg8 harg8 x7 3 inb_S4x1x256x256_S1x1x256x256_3_0_0_0)) (load_word arg11 harg11 x10 3 inb_S4_S1_3)) (load_word arg12 harg12 x11 3 inb_S4_S1_3)
  have e2 : Same.stq2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 512] S128x256.size inb_S128x1024_S128x256_0_512).toLoadRect (harg2.unread x1)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg7.view (Rect.unit (s := S4x1x256x256) ![2, 0, 0, 0] S1x1x256x256.size inb_S4x1x256x256_S1x1x256x256_2_0_0_0).toLoadRect (harg7.unread x6)) (View.readAt (Elt F) arg8.view (Rect.unit (s := S4x1x256x256) ![2, 0, 0, 0] S1x1x256x256.size inb_S4x1x256x256_S1x1x256x256_2_0_0_0).toLoadRect (harg8.unread x7)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))
      = Head.hq x4 x5 (cols 2 x1) (cols 2 x2) (cols 2 x3) (state 2 x6) (state 2 x7) (x10 (ix1 2)) (x11 (ix1 2)) := by
    rw [Same.stq2_eq, load_table arg5 harg5 x4, load_table arg6 harg6 x5]
    exact congr (congr (congr (congr (congr (congr (congrArg (Head.hq x4 x5) (load_cols arg2 harg2 x1 2 inb_S128x1024_S128x256_0_512)) (load_cols arg3 harg3 x2 2 inb_S128x1024_S128x256_0_512)) (load_cols arg4 harg4 x3 2 inb_S128x1024_S128x256_0_512)) (load_state arg7 harg7 x6 2 inb_S4x1x256x256_S1x1x256x256_2_0_0_0)) (load_state arg8 harg8 x7 2 inb_S4x1x256x256_S1x1x256x256_2_0_0_0)) (load_word arg11 harg11 x10 2 inb_S4_S1_2)) (load_word arg12 harg12 x11 2 inb_S4_S1_2)
  have e1 : Same.stq1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 256] S128x256.size inb_S128x1024_S128x256_0_256).toLoadRect (harg2.unread x1)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg7.view (Rect.unit (s := S4x1x256x256) ![1, 0, 0, 0] S1x1x256x256.size inb_S4x1x256x256_S1x1x256x256_1_0_0_0).toLoadRect (harg7.unread x6)) (View.readAt (Elt F) arg8.view (Rect.unit (s := S4x1x256x256) ![1, 0, 0, 0] S1x1x256x256.size inb_S4x1x256x256_S1x1x256x256_1_0_0_0).toLoadRect (harg8.unread x7)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))
      = Head.hq x4 x5 (cols 1 x1) (cols 1 x2) (cols 1 x3) (state 1 x6) (state 1 x7) (x10 (ix1 1)) (x11 (ix1 1)) := by
    rw [Same.stq1_eq, load_table arg5 harg5 x4, load_table arg6 harg6 x5]
    exact congr (congr (congr (congr (congr (congr (congrArg (Head.hq x4 x5) (load_cols arg2 harg2 x1 1 inb_S128x1024_S128x256_0_256)) (load_cols arg3 harg3 x2 1 inb_S128x1024_S128x256_0_256)) (load_cols arg4 harg4 x3 1 inb_S128x1024_S128x256_0_256)) (load_state arg7 harg7 x6 1 inb_S4x1x256x256_S1x1x256x256_1_0_0_0)) (load_state arg8 harg8 x7 1 inb_S4x1x256x256_S1x1x256x256_1_0_0_0)) (load_word arg11 harg11 x10 1 inb_S4_S1_1)) (load_word arg12 harg12 x11 1 inb_S4_S1_1)
  have e0 : Same.stq0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 0] S128x256.size inb_S128x1024_S128x256_0_0).toLoadRect (harg2.unread x1)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg7.view (Rect.unit (s := S4x1x256x256) ![0, 0, 0, 0] S1x1x256x256.size inb_S4x1x256x256_S1x1x256x256_0_0_0_0).toLoadRect (harg7.unread x6)) (View.readAt (Elt F) arg8.view (Rect.unit (s := S4x1x256x256) ![0, 0, 0, 0] S1x1x256x256.size inb_S4x1x256x256_S1x1x256x256_0_0_0_0).toLoadRect (harg8.unread x7)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))
      = Head.hq x4 x5 (cols 0 x1) (cols 0 x2) (cols 0 x3) (state 0 x6) (state 0 x7) (x10 (ix1 0)) (x11 (ix1 0)) := by
    rw [Same.stq0_eq, load_table arg5 harg5 x4, load_table arg6 harg6 x5]
    exact congr (congr (congr (congr (congr (congr (congrArg (Head.hq x4 x5) (load_cols arg2 harg2 x1 0 inb_S128x1024_S128x256_0_0)) (load_cols arg3 harg3 x2 0 inb_S128x1024_S128x256_0_0)) (load_cols arg4 harg4 x3 0 inb_S128x1024_S128x256_0_0)) (load_state arg7 harg7 x6 0 inb_S4x1x256x256_S1x1x256x256_0_0_0_0)) (load_state arg8 harg8 x7 0 inb_S4x1x256x256_S1x1x256x256_0_0_0_0)) (load_word arg11 harg11 x10 0 inb_S4_S1_0)) (load_word arg12 harg12 x11 0 inb_S4_S1_0)
  rw [e3, e2, e1, e0]

set_option maxHeartbeats 400000 in
theorem out13_A (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x1x256x256 .bf16) (harg7 : arg7.IsWhole) (arg8 : Memref sig .tc .vmem S4x1x256x256 .bf16) (harg8 : arg8.IsWhole) (arg9 : Memref sig .tc .vmem S4x1x256x256 .bf16) (harg9 : arg9.IsWhole) (arg10 : Memref sig .tc .vmem S4x1x256x256 .bf16) (harg10 : arg10.IsWhole) (arg11 : Memref sig .tc .smem S4 .f32) (harg11 : arg11.IsWhole) (arg12 : Memref sig .tc .smem S4 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S4x8x128 .f32) (harg16 : arg16.IsWhole) (hc0 : cond0_0 i)
    (x0 : Vec F S128x1024 .f32) (x1 : Vec F S128x1024 .f32) (x2 : Vec F S128x1024 .f32) (x3 : Vec F S128x1024 .f32) (x4 : Vec F S128x128 .f32) (x5 : Vec F S128x128 .f32) (x6 : Vec F S4x1x256x256 .bf16) (x7 : Vec F S4x1x256x256 .bf16) (x8 : Vec F S4x1x256x256 .bf16) (x9 : Vec F S4x1x256x256 .bf16) (x10 : Vec F S4 .f32) (x11 : Vec F S4 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
      = glue fun h => Head.hk x4 x5 (cols h x0) (cols h x2) (cols h x3) (state h x8) (state h x9) (x10 (ix1 h)) (x11 (ix1 h)) := by
  unfold out0_A_13
  rw [View.read_writes_junk_eq_canon]
  refine Eq.trans ?_ (canon_glue fun h => Head.hk x4 x5 (cols h x0) (cols h x2) (cols h x3) (state h x8) (state h x9) (x10 (ix1 h)) (x11 (ix1 h)))
  refine Eq.trans (b := View.canon ([⟨Rect.unit (s := S128x1024) ![0, 768] S128x256.size inb_S128x1024_S128x256_0_768,
        Same.stk3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))⟩,
      ⟨Rect.unit (s := S128x1024) ![0, 512] S128x256.size inb_S128x1024_S128x256_0_512,
        Same.stk2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))⟩,
      ⟨Rect.unit (s := S128x1024) ![0, 256] S128x256.size inb_S128x1024_S128x256_0_256,
        Same.stk1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))⟩,
      ⟨Rect.unit (s := S128x1024) ![0, 0] S128x256.size inb_S128x1024_S128x256_0_0,
        Same.stk0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))⟩] :
      List (View.Piece (Elt F) S128x1024 .bf16))) (by sl_kernel_rfl) ?_
  have e3 : Same.stk3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))
      = Head.hk x4 x5 (cols 3 x0) (cols 3 x2) (cols 3 x3) (state 3 x8) (state 3 x9) (x10 (ix1 3)) (x11 (ix1 3)) := by
    rw [Same.stk3_eq, load_table arg5 harg5 x4, load_table arg6 harg6 x5]
    exact congr (congr (congr (congr (congr (congr (congrArg (Head.hk x4 x5) (load_cols arg1 harg1 x0 3 inb_S128x1024_S128x256_0_768)) (load_cols arg3 harg3 x2 3 inb_S128x1024_S128x256_0_768)) (load_cols arg4 harg4 x3 3 inb_S128x1024_S128x256_0_768)) (load_state arg9 harg9 x8 3 inb_S4x1x256x256_S1x1x256x256_3_0_0_0)) (load_state arg10 harg10 x9 3 inb_S4x1x256x256_S1x1x256x256_3_0_0_0)) (load_word arg11 harg11 x10 3 inb_S4_S1_3)) (load_word arg12 harg12 x11 3 inb_S4_S1_3)
  have e2 : Same.stk2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))
      = Head.hk x4 x5 (cols 2 x0) (cols 2 x2) (cols 2 x3) (state 2 x8) (state 2 x9) (x10 (ix1 2)) (x11 (ix1 2)) := by
    rw [Same.stk2_eq, load_table arg5 harg5 x4, load_table arg6 harg6 x5]
    exact congr (congr (congr (congr (congr (congr (congrArg (Head.hk x4 x5) (load_cols arg1 harg1 x0 2 inb_S128x1024_S128x256_0_512)) (load_cols arg3 harg3 x2 2 inb_S128x1024_S128x256_0_512)) (load_cols arg4 harg4 x3 2 inb_S128x1024_S128x256_0_512)) (load_state arg9 harg9 x8 2 inb_S4x1x256x256_S1x1x256x256_2_0_0_0)) (load_state arg10 harg10 x9 2 inb_S4x1x256x256_S1x1x256x256_2_0_0_0)) (load_word arg11 harg11 x10 2 inb_S4_S1_2)) (load_word arg12 harg12 x11 2 inb_S4_S1_2)
  have e1 : Same.stk1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))
      = Head.hk x4 x5 (cols 1 x0) (cols 1 x2) (cols 1 x3) (state 1 x8) (state 1 x9) (x10 (ix1 1)) (x11 (ix1 1)) := by
    rw [Same.stk1_eq, load_table arg5 harg5 x4, load_table arg6 harg6 x5]
    exact congr (congr (congr (congr (congr (congr (congrArg (Head.hk x4 x5) (load_cols arg1 harg1 x0 1 inb_S128x1024_S128x256_0_256)) (load_cols arg3 harg3 x2 1 inb_S128x1024_S128x256_0_256)) (load_cols arg4 harg4 x3 1 inb_S128x1024_S128x256_0_256)) (load_state arg9 harg9 x8 1 inb_S4x1x256x256_S1x1x256x256_1_0_0_0)) (load_state arg10 harg10 x9 1 inb_S4x1x256x256_S1x1x256x256_1_0_0_0)) (load_word arg11 harg11 x10 1 inb_S4_S1_1)) (load_word arg12 harg12 x11 1 inb_S4_S1_1)
  have e0 : Same.stk0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))
      = Head.hk x4 x5 (cols 0 x0) (cols 0 x2) (cols 0 x3) (state 0 x8) (state 0 x9) (x10 (ix1 0)) (x11 (ix1 0)) := by
    rw [Same.stk0_eq, load_table arg5 harg5 x4, load_table arg6 harg6 x5]
    exact congr (congr (congr (congr (congr (congr (congrArg (Head.hk x4 x5) (load_cols arg1 harg1 x0 0 inb_S128x1024_S128x256_0_0)) (load_cols arg3 harg3 x2 0 inb_S128x1024_S128x256_0_0)) (load_cols arg4 harg4 x3 0 inb_S128x1024_S128x256_0_0)) (load_state arg9 harg9 x8 0 inb_S4x1x256x256_S1x1x256x256_0_0_0_0)) (load_state arg10 harg10 x9 0 inb_S4x1x256x256_S1x1x256x256_0_0_0_0)) (load_word arg11 harg11 x10 0 inb_S4_S1_0)) (load_word arg12 harg12 x11 0 inb_S4_S1_0)
  rw [e3, e2, e1, e0]

set_option maxHeartbeats 400000 in
theorem out14_A (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x1x256x256 .bf16) (harg7 : arg7.IsWhole) (arg8 : Memref sig .tc .vmem S4x1x256x256 .bf16) (harg8 : arg8.IsWhole) (arg9 : Memref sig .tc .vmem S4x1x256x256 .bf16) (harg9 : arg9.IsWhole) (arg10 : Memref sig .tc .vmem S4x1x256x256 .bf16) (harg10 : arg10.IsWhole) (arg11 : Memref sig .tc .smem S4 .f32) (harg11 : arg11.IsWhole) (arg12 : Memref sig .tc .smem S4 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S4x8x128 .f32) (harg16 : arg16.IsWhole) (hc0 : cond0_0 i)
    (x0 : Vec F S128x1024 .f32) (x1 : Vec F S128x1024 .f32) (x2 : Vec F S128x1024 .f32) (x3 : Vec F S128x1024 .f32) (x4 : Vec F S128x128 .f32) (x5 : Vec F S128x128 .f32) (x6 : Vec F S4x1x256x256 .bf16) (x7 : Vec F S4x1x256x256 .bf16) (x8 : Vec F S4x1x256x256 .bf16) (x9 : Vec F S4x1x256x256 .bf16) (x10 : Vec F S4 .f32) (x11 : Vec F S4 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
      = glue fun h => Head.hv x4 x5 (cols h x0) (cols h x1) (cols h x3) (state h x8) (state h x9) (x10 (ix1 h)) (x11 (ix1 h)) := by
  unfold out0_A_14
  rw [View.read_writes_junk_eq_canon]
  refine Eq.trans ?_ (canon_glue fun h => Head.hv x4 x5 (cols h x0) (cols h x1) (cols h x3) (state h x8) (state h x9) (x10 (ix1 h)) (x11 (ix1 h)))
  refine Eq.trans (b := View.canon ([⟨Rect.unit (s := S128x1024) ![0, 768] S128x256.size inb_S128x1024_S128x256_0_768,
        Same.stv3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg2.view (Rect.unit (s := S128x1024) ![0, 768] S128x256.size inb_S128x1024_S128x256_0_768).toLoadRect (harg2.unread x1)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))⟩,
      ⟨Rect.unit (s := S128x1024) ![0, 512] S128x256.size inb_S128x1024_S128x256_0_512,
        Same.stv2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg2.view (Rect.unit (s := S128x1024) ![0, 512] S128x256.size inb_S128x1024_S128x256_0_512).toLoadRect (harg2.unread x1)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))⟩,
      ⟨Rect.unit (s := S128x1024) ![0, 256] S128x256.size inb_S128x1024_S128x256_0_256,
        Same.stv1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg2.view (Rect.unit (s := S128x1024) ![0, 256] S128x256.size inb_S128x1024_S128x256_0_256).toLoadRect (harg2.unread x1)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))⟩,
      ⟨Rect.unit (s := S128x1024) ![0, 0] S128x256.size inb_S128x1024_S128x256_0_0,
        Same.stv0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg2.view (Rect.unit (s := S128x1024) ![0, 0] S128x256.size inb_S128x1024_S128x256_0_0).toLoadRect (harg2.unread x1)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))⟩] :
      List (View.Piece (Elt F) S128x1024 .bf16))) (by sl_kernel_rfl) ?_
  have e3 : Same.stv3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg2.view (Rect.unit (s := S128x1024) ![0, 768] S128x256.size inb_S128x1024_S128x256_0_768).toLoadRect (harg2.unread x1)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))
      = Head.hv x4 x5 (cols 3 x0) (cols 3 x1) (cols 3 x3) (state 3 x8) (state 3 x9) (x10 (ix1 3)) (x11 (ix1 3)) := by
    rw [Same.stv3_eq, load_table arg5 harg5 x4, load_table arg6 harg6 x5]
    exact congr (congr (congr (congr (congr (congr (congrArg (Head.hv x4 x5) (load_cols arg1 harg1 x0 3 inb_S128x1024_S128x256_0_768)) (load_cols arg2 harg2 x1 3 inb_S128x1024_S128x256_0_768)) (load_cols arg4 harg4 x3 3 inb_S128x1024_S128x256_0_768)) (load_state arg9 harg9 x8 3 inb_S4x1x256x256_S1x1x256x256_3_0_0_0)) (load_state arg10 harg10 x9 3 inb_S4x1x256x256_S1x1x256x256_3_0_0_0)) (load_word arg11 harg11 x10 3 inb_S4_S1_3)) (load_word arg12 harg12 x11 3 inb_S4_S1_3)
  have e2 : Same.stv2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg2.view (Rect.unit (s := S128x1024) ![0, 512] S128x256.size inb_S128x1024_S128x256_0_512).toLoadRect (harg2.unread x1)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))
      = Head.hv x4 x5 (cols 2 x0) (cols 2 x1) (cols 2 x3) (state 2 x8) (state 2 x9) (x10 (ix1 2)) (x11 (ix1 2)) := by
    rw [Same.stv2_eq, load_table arg5 harg5 x4, load_table arg6 harg6 x5]
    exact congr (congr (congr (congr (congr (congr (congrArg (Head.hv x4 x5) (load_cols arg1 harg1 x0 2 inb_S128x1024_S128x256_0_512)) (load_cols arg2 harg2 x1 2 inb_S128x1024_S128x256_0_512)) (load_cols arg4 harg4 x3 2 inb_S128x1024_S128x256_0_512)) (load_state arg9 harg9 x8 2 inb_S4x1x256x256_S1x1x256x256_2_0_0_0)) (load_state arg10 harg10 x9 2 inb_S4x1x256x256_S1x1x256x256_2_0_0_0)) (load_word arg11 harg11 x10 2 inb_S4_S1_2)) (load_word arg12 harg12 x11 2 inb_S4_S1_2)
  have e1 : Same.stv1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg2.view (Rect.unit (s := S128x1024) ![0, 256] S128x256.size inb_S128x1024_S128x256_0_256).toLoadRect (harg2.unread x1)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))
      = Head.hv x4 x5 (cols 1 x0) (cols 1 x1) (cols 1 x3) (state 1 x8) (state 1 x9) (x10 (ix1 1)) (x11 (ix1 1)) := by
    rw [Same.stv1_eq, load_table arg5 harg5 x4, load_table arg6 harg6 x5]
    exact congr (congr (congr (congr (congr (congr (congrArg (Head.hv x4 x5) (load_cols arg1 harg1 x0 1 inb_S128x1024_S128x256_0_256)) (load_cols arg2 harg2 x1 1 inb_S128x1024_S128x256_0_256)) (load_cols arg4 harg4 x3 1 inb_S128x1024_S128x256_0_256)) (load_state arg9 harg9 x8 1 inb_S4x1x256x256_S1x1x256x256_1_0_0_0)) (load_state arg10 harg10 x9 1 inb_S4x1x256x256_S1x1x256x256_1_0_0_0)) (load_word arg11 harg11 x10 1 inb_S4_S1_1)) (load_word arg12 harg12 x11 1 inb_S4_S1_1)
  have e0 : Same.stv0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg2.view (Rect.unit (s := S128x1024) ![0, 0] S128x256.size inb_S128x1024_S128x256_0_0).toLoadRect (harg2.unread x1)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))
      = Head.hv x4 x5 (cols 0 x0) (cols 0 x1) (cols 0 x3) (state 0 x8) (state 0 x9) (x10 (ix1 0)) (x11 (ix1 0)) := by
    rw [Same.stv0_eq, load_table arg5 harg5 x4, load_table arg6 harg6 x5]
    exact congr (congr (congr (congr (congr (congr (congrArg (Head.hv x4 x5) (load_cols arg1 harg1 x0 0 inb_S128x1024_S128x256_0_0)) (load_cols arg2 harg2 x1 0 inb_S128x1024_S128x256_0_0)) (load_cols arg4 harg4 x3 0 inb_S128x1024_S128x256_0_0)) (load_state arg9 harg9 x8 0 inb_S4x1x256x256_S1x1x256x256_0_0_0_0)) (load_state arg10 harg10 x9 0 inb_S4x1x256x256_S1x1x256x256_0_0_0_0)) (load_word arg11 harg11 x10 0 inb_S4_S1_0)) (load_word arg12 harg12 x11 0 inb_S4_S1_0)
  rw [e3, e2, e1, e0]

set_option maxHeartbeats 400000 in
theorem out12_B (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x1x256x256 .bf16) (harg7 : arg7.IsWhole) (arg8 : Memref sig .tc .vmem S4x1x256x256 .bf16) (harg8 : arg8.IsWhole) (arg9 : Memref sig .tc .vmem S4x1x256x256 .bf16) (harg9 : arg9.IsWhole) (arg10 : Memref sig .tc .vmem S4x1x256x256 .bf16) (harg10 : arg10.IsWhole) (arg11 : Memref sig .tc .smem S4 .f32) (harg11 : arg11.IsWhole) (arg12 : Memref sig .tc .smem S4 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S4x8x128 .f32) (harg16 : arg16.IsWhole) (hc0 : ¬cond0_0 i)
    (x0 : Vec F S128x1024 .f32) (x1 : Vec F S128x1024 .f32) (x2 : Vec F S128x1024 .f32) (x3 : Vec F S128x1024 .f32) (x4 : Vec F S128x128 .f32) (x5 : Vec F S128x128 .f32) (x6 : Vec F S4x1x256x256 .bf16) (x7 : Vec F S4x1x256x256 .bf16) (x8 : Vec F S4x1x256x256 .bf16) (x9 : Vec F S4x1x256x256 .bf16) (x10 : Vec F S4 .f32) (x11 : Vec F S4 .f32) (x15 : Vec F S4x8x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x15
      = glue fun h => Head.hq x4 x5 (cols h x1) (cols h x2) (cols h x3) (state h x6) (state h x7) (x10 (ix1 h)) (x11 (ix1 h)) := by
  unfold out0_B_12
  rw [View.read_writes_junk_eq_canon]
  refine Eq.trans ?_ (canon_glue fun h => Head.hq x4 x5 (cols h x1) (cols h x2) (cols h x3) (state h x6) (state h x7) (x10 (ix1 h)) (x11 (ix1 h)))
  refine Eq.trans (b := View.canon ([⟨Rect.unit (s := S128x1024) ![0, 768] S128x256.size inb_S128x1024_S128x256_0_768,
        Same.stq3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 768] S128x256.size inb_S128x1024_S128x256_0_768).toLoadRect (harg2.unread x1)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg7.view (Rect.unit (s := S4x1x256x256) ![3, 0, 0, 0] S1x1x256x256.size inb_S4x1x256x256_S1x1x256x256_3_0_0_0).toLoadRect (harg7.unread x6)) (View.readAt (Elt F) arg8.view (Rect.unit (s := S4x1x256x256) ![3, 0, 0, 0] S1x1x256x256.size inb_S4x1x256x256_S1x1x256x256_3_0_0_0).toLoadRect (harg8.unread x7)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))⟩,
      ⟨Rect.unit (s := S128x1024) ![0, 512] S128x256.size inb_S128x1024_S128x256_0_512,
        Same.stq2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 512] S128x256.size inb_S128x1024_S128x256_0_512).toLoadRect (harg2.unread x1)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg7.view (Rect.unit (s := S4x1x256x256) ![2, 0, 0, 0] S1x1x256x256.size inb_S4x1x256x256_S1x1x256x256_2_0_0_0).toLoadRect (harg7.unread x6)) (View.readAt (Elt F) arg8.view (Rect.unit (s := S4x1x256x256) ![2, 0, 0, 0] S1x1x256x256.size inb_S4x1x256x256_S1x1x256x256_2_0_0_0).toLoadRect (harg8.unread x7)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))⟩,
      ⟨Rect.unit (s := S128x1024) ![0, 256] S128x256.size inb_S128x1024_S128x256_0_256,
        Same.stq1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 256] S128x256.size inb_S128x1024_S128x256_0_256).toLoadRect (harg2.unread x1)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg7.view (Rect.unit (s := S4x1x256x256) ![1, 0, 0, 0] S1x1x256x256.size inb_S4x1x256x256_S1x1x256x256_1_0_0_0).toLoadRect (harg7.unread x6)) (View.readAt (Elt F) arg8.view (Rect.unit (s := S4x1x256x256) ![1, 0, 0, 0] S1x1x256x256.size inb_S4x1x256x256_S1x1x256x256_1_0_0_0).toLoadRect (harg8.unread x7)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))⟩,
      ⟨Rect.unit (s := S128x1024) ![0, 0] S128x256.size inb_S128x1024_S128x256_0_0,
        Same.stq0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 0] S128x256.size inb_S128x1024_S128x256_0_0).toLoadRect (harg2.unread x1)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg7.view (Rect.unit (s := S4x1x256x256) ![0, 0, 0, 0] S1x1x256x256.size inb_S4x1x256x256_S1x1x256x256_0_0_0_0).toLoadRect (harg7.unread x6)) (View.readAt (Elt F) arg8.view (Rect.unit (s := S4x1x256x256) ![0, 0, 0, 0] S1x1x256x256.size inb_S4x1x256x256_S1x1x256x256_0_0_0_0).toLoadRect (harg8.unread x7)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))⟩] :
      List (View.Piece (Elt F) S128x1024 .bf16))) (by sl_kernel_rfl) ?_
  have e3 : Same.stq3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 768] S128x256.size inb_S128x1024_S128x256_0_768).toLoadRect (harg2.unread x1)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg7.view (Rect.unit (s := S4x1x256x256) ![3, 0, 0, 0] S1x1x256x256.size inb_S4x1x256x256_S1x1x256x256_3_0_0_0).toLoadRect (harg7.unread x6)) (View.readAt (Elt F) arg8.view (Rect.unit (s := S4x1x256x256) ![3, 0, 0, 0] S1x1x256x256.size inb_S4x1x256x256_S1x1x256x256_3_0_0_0).toLoadRect (harg8.unread x7)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))
      = Head.hq x4 x5 (cols 3 x1) (cols 3 x2) (cols 3 x3) (state 3 x6) (state 3 x7) (x10 (ix1 3)) (x11 (ix1 3)) := by
    rw [Same.stq3_eq, load_table arg5 harg5 x4, load_table arg6 harg6 x5]
    exact congr (congr (congr (congr (congr (congr (congrArg (Head.hq x4 x5) (load_cols arg2 harg2 x1 3 inb_S128x1024_S128x256_0_768)) (load_cols arg3 harg3 x2 3 inb_S128x1024_S128x256_0_768)) (load_cols arg4 harg4 x3 3 inb_S128x1024_S128x256_0_768)) (load_state arg7 harg7 x6 3 inb_S4x1x256x256_S1x1x256x256_3_0_0_0)) (load_state arg8 harg8 x7 3 inb_S4x1x256x256_S1x1x256x256_3_0_0_0)) (load_word arg11 harg11 x10 3 inb_S4_S1_3)) (load_word arg12 harg12 x11 3 inb_S4_S1_3)
  have e2 : Same.stq2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 512] S128x256.size inb_S128x1024_S128x256_0_512).toLoadRect (harg2.unread x1)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg7.view (Rect.unit (s := S4x1x256x256) ![2, 0, 0, 0] S1x1x256x256.size inb_S4x1x256x256_S1x1x256x256_2_0_0_0).toLoadRect (harg7.unread x6)) (View.readAt (Elt F) arg8.view (Rect.unit (s := S4x1x256x256) ![2, 0, 0, 0] S1x1x256x256.size inb_S4x1x256x256_S1x1x256x256_2_0_0_0).toLoadRect (harg8.unread x7)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))
      = Head.hq x4 x5 (cols 2 x1) (cols 2 x2) (cols 2 x3) (state 2 x6) (state 2 x7) (x10 (ix1 2)) (x11 (ix1 2)) := by
    rw [Same.stq2_eq, load_table arg5 harg5 x4, load_table arg6 harg6 x5]
    exact congr (congr (congr (congr (congr (congr (congrArg (Head.hq x4 x5) (load_cols arg2 harg2 x1 2 inb_S128x1024_S128x256_0_512)) (load_cols arg3 harg3 x2 2 inb_S128x1024_S128x256_0_512)) (load_cols arg4 harg4 x3 2 inb_S128x1024_S128x256_0_512)) (load_state arg7 harg7 x6 2 inb_S4x1x256x256_S1x1x256x256_2_0_0_0)) (load_state arg8 harg8 x7 2 inb_S4x1x256x256_S1x1x256x256_2_0_0_0)) (load_word arg11 harg11 x10 2 inb_S4_S1_2)) (load_word arg12 harg12 x11 2 inb_S4_S1_2)
  have e1 : Same.stq1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 256] S128x256.size inb_S128x1024_S128x256_0_256).toLoadRect (harg2.unread x1)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg7.view (Rect.unit (s := S4x1x256x256) ![1, 0, 0, 0] S1x1x256x256.size inb_S4x1x256x256_S1x1x256x256_1_0_0_0).toLoadRect (harg7.unread x6)) (View.readAt (Elt F) arg8.view (Rect.unit (s := S4x1x256x256) ![1, 0, 0, 0] S1x1x256x256.size inb_S4x1x256x256_S1x1x256x256_1_0_0_0).toLoadRect (harg8.unread x7)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))
      = Head.hq x4 x5 (cols 1 x1) (cols 1 x2) (cols 1 x3) (state 1 x6) (state 1 x7) (x10 (ix1 1)) (x11 (ix1 1)) := by
    rw [Same.stq1_eq, load_table arg5 harg5 x4, load_table arg6 harg6 x5]
    exact congr (congr (congr (congr (congr (congr (congrArg (Head.hq x4 x5) (load_cols arg2 harg2 x1 1 inb_S128x1024_S128x256_0_256)) (load_cols arg3 harg3 x2 1 inb_S128x1024_S128x256_0_256)) (load_cols arg4 harg4 x3 1 inb_S128x1024_S128x256_0_256)) (load_state arg7 harg7 x6 1 inb_S4x1x256x256_S1x1x256x256_1_0_0_0)) (load_state arg8 harg8 x7 1 inb_S4x1x256x256_S1x1x256x256_1_0_0_0)) (load_word arg11 harg11 x10 1 inb_S4_S1_1)) (load_word arg12 harg12 x11 1 inb_S4_S1_1)
  have e0 : Same.stq0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg2.view (Rect.unit (s := S128x1024) ![0, 0] S128x256.size inb_S128x1024_S128x256_0_0).toLoadRect (harg2.unread x1)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg7.view (Rect.unit (s := S4x1x256x256) ![0, 0, 0, 0] S1x1x256x256.size inb_S4x1x256x256_S1x1x256x256_0_0_0_0).toLoadRect (harg7.unread x6)) (View.readAt (Elt F) arg8.view (Rect.unit (s := S4x1x256x256) ![0, 0, 0, 0] S1x1x256x256.size inb_S4x1x256x256_S1x1x256x256_0_0_0_0).toLoadRect (harg8.unread x7)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))
      = Head.hq x4 x5 (cols 0 x1) (cols 0 x2) (cols 0 x3) (state 0 x6) (state 0 x7) (x10 (ix1 0)) (x11 (ix1 0)) := by
    rw [Same.stq0_eq, load_table arg5 harg5 x4, load_table arg6 harg6 x5]
    exact congr (congr (congr (congr (congr (congr (congrArg (Head.hq x4 x5) (load_cols arg2 harg2 x1 0 inb_S128x1024_S128x256_0_0)) (load_cols arg3 harg3 x2 0 inb_S128x1024_S128x256_0_0)) (load_cols arg4 harg4 x3 0 inb_S128x1024_S128x256_0_0)) (load_state arg7 harg7 x6 0 inb_S4x1x256x256_S1x1x256x256_0_0_0_0)) (load_state arg8 harg8 x7 0 inb_S4x1x256x256_S1x1x256x256_0_0_0_0)) (load_word arg11 harg11 x10 0 inb_S4_S1_0)) (load_word arg12 harg12 x11 0 inb_S4_S1_0)
  rw [e3, e2, e1, e0]

set_option maxHeartbeats 400000 in
theorem out13_B (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x1x256x256 .bf16) (harg7 : arg7.IsWhole) (arg8 : Memref sig .tc .vmem S4x1x256x256 .bf16) (harg8 : arg8.IsWhole) (arg9 : Memref sig .tc .vmem S4x1x256x256 .bf16) (harg9 : arg9.IsWhole) (arg10 : Memref sig .tc .vmem S4x1x256x256 .bf16) (harg10 : arg10.IsWhole) (arg11 : Memref sig .tc .smem S4 .f32) (harg11 : arg11.IsWhole) (arg12 : Memref sig .tc .smem S4 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S4x8x128 .f32) (harg16 : arg16.IsWhole) (hc0 : ¬cond0_0 i)
    (x0 : Vec F S128x1024 .f32) (x1 : Vec F S128x1024 .f32) (x2 : Vec F S128x1024 .f32) (x3 : Vec F S128x1024 .f32) (x4 : Vec F S128x128 .f32) (x5 : Vec F S128x128 .f32) (x6 : Vec F S4x1x256x256 .bf16) (x7 : Vec F S4x1x256x256 .bf16) (x8 : Vec F S4x1x256x256 .bf16) (x9 : Vec F S4x1x256x256 .bf16) (x10 : Vec F S4 .f32) (x11 : Vec F S4 .f32) (x15 : Vec F S4x8x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x15
      = glue fun h => Head.hk x4 x5 (cols h x0) (cols h x2) (cols h x3) (state h x8) (state h x9) (x10 (ix1 h)) (x11 (ix1 h)) := by
  unfold out0_B_13
  rw [View.read_writes_junk_eq_canon]
  refine Eq.trans ?_ (canon_glue fun h => Head.hk x4 x5 (cols h x0) (cols h x2) (cols h x3) (state h x8) (state h x9) (x10 (ix1 h)) (x11 (ix1 h)))
  refine Eq.trans (b := View.canon ([⟨Rect.unit (s := S128x1024) ![0, 768] S128x256.size inb_S128x1024_S128x256_0_768,
        Same.stk3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))⟩,
      ⟨Rect.unit (s := S128x1024) ![0, 512] S128x256.size inb_S128x1024_S128x256_0_512,
        Same.stk2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))⟩,
      ⟨Rect.unit (s := S128x1024) ![0, 256] S128x256.size inb_S128x1024_S128x256_0_256,
        Same.stk1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))⟩,
      ⟨Rect.unit (s := S128x1024) ![0, 0] S128x256.size inb_S128x1024_S128x256_0_0,
        Same.stk0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))⟩] :
      List (View.Piece (Elt F) S128x1024 .bf16))) (by sl_kernel_rfl) ?_
  have e3 : Same.stk3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg3.view (Rect.unit (s := S128x1024) ![0, 768] S128x256.size inb_S128x1024_S128x256_0_768).toLoadRect (harg3.unread x2)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))
      = Head.hk x4 x5 (cols 3 x0) (cols 3 x2) (cols 3 x3) (state 3 x8) (state 3 x9) (x10 (ix1 3)) (x11 (ix1 3)) := by
    rw [Same.stk3_eq, load_table arg5 harg5 x4, load_table arg6 harg6 x5]
    exact congr (congr (congr (congr (congr (congr (congrArg (Head.hk x4 x5) (load_cols arg1 harg1 x0 3 inb_S128x1024_S128x256_0_768)) (load_cols arg3 harg3 x2 3 inb_S128x1024_S128x256_0_768)) (load_cols arg4 harg4 x3 3 inb_S128x1024_S128x256_0_768)) (load_state arg9 harg9 x8 3 inb_S4x1x256x256_S1x1x256x256_3_0_0_0)) (load_state arg10 harg10 x9 3 inb_S4x1x256x256_S1x1x256x256_3_0_0_0)) (load_word arg11 harg11 x10 3 inb_S4_S1_3)) (load_word arg12 harg12 x11 3 inb_S4_S1_3)
  have e2 : Same.stk2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg3.view (Rect.unit (s := S128x1024) ![0, 512] S128x256.size inb_S128x1024_S128x256_0_512).toLoadRect (harg3.unread x2)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))
      = Head.hk x4 x5 (cols 2 x0) (cols 2 x2) (cols 2 x3) (state 2 x8) (state 2 x9) (x10 (ix1 2)) (x11 (ix1 2)) := by
    rw [Same.stk2_eq, load_table arg5 harg5 x4, load_table arg6 harg6 x5]
    exact congr (congr (congr (congr (congr (congr (congrArg (Head.hk x4 x5) (load_cols arg1 harg1 x0 2 inb_S128x1024_S128x256_0_512)) (load_cols arg3 harg3 x2 2 inb_S128x1024_S128x256_0_512)) (load_cols arg4 harg4 x3 2 inb_S128x1024_S128x256_0_512)) (load_state arg9 harg9 x8 2 inb_S4x1x256x256_S1x1x256x256_2_0_0_0)) (load_state arg10 harg10 x9 2 inb_S4x1x256x256_S1x1x256x256_2_0_0_0)) (load_word arg11 harg11 x10 2 inb_S4_S1_2)) (load_word arg12 harg12 x11 2 inb_S4_S1_2)
  have e1 : Same.stk1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg3.view (Rect.unit (s := S128x1024) ![0, 256] S128x256.size inb_S128x1024_S128x256_0_256).toLoadRect (harg3.unread x2)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))
      = Head.hk x4 x5 (cols 1 x0) (cols 1 x2) (cols 1 x3) (state 1 x8) (state 1 x9) (x10 (ix1 1)) (x11 (ix1 1)) := by
    rw [Same.stk1_eq, load_table arg5 harg5 x4, load_table arg6 harg6 x5]
    exact congr (congr (congr (congr (congr (congr (congrArg (Head.hk x4 x5) (load_cols arg1 harg1 x0 1 inb_S128x1024_S128x256_0_256)) (load_cols arg3 harg3 x2 1 inb_S128x1024_S128x256_0_256)) (load_cols arg4 harg4 x3 1 inb_S128x1024_S128x256_0_256)) (load_state arg9 harg9 x8 1 inb_S4x1x256x256_S1x1x256x256_1_0_0_0)) (load_state arg10 harg10 x9 1 inb_S4x1x256x256_S1x1x256x256_1_0_0_0)) (load_word arg11 harg11 x10 1 inb_S4_S1_1)) (load_word arg12 harg12 x11 1 inb_S4_S1_1)
  have e0 : Same.stk0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg3.view (Rect.unit (s := S128x1024) ![0, 0] S128x256.size inb_S128x1024_S128x256_0_0).toLoadRect (harg3.unread x2)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))
      = Head.hk x4 x5 (cols 0 x0) (cols 0 x2) (cols 0 x3) (state 0 x8) (state 0 x9) (x10 (ix1 0)) (x11 (ix1 0)) := by
    rw [Same.stk0_eq, load_table arg5 harg5 x4, load_table arg6 harg6 x5]
    exact congr (congr (congr (congr (congr (congr (congrArg (Head.hk x4 x5) (load_cols arg1 harg1 x0 0 inb_S128x1024_S128x256_0_0)) (load_cols arg3 harg3 x2 0 inb_S128x1024_S128x256_0_0)) (load_cols arg4 harg4 x3 0 inb_S128x1024_S128x256_0_0)) (load_state arg9 harg9 x8 0 inb_S4x1x256x256_S1x1x256x256_0_0_0_0)) (load_state arg10 harg10 x9 0 inb_S4x1x256x256_S1x1x256x256_0_0_0_0)) (load_word arg11 harg11 x10 0 inb_S4_S1_0)) (load_word arg12 harg12 x11 0 inb_S4_S1_0)
  rw [e3, e2, e1, e0]

set_option maxHeartbeats 400000 in
theorem out14_B (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x1x256x256 .bf16) (harg7 : arg7.IsWhole) (arg8 : Memref sig .tc .vmem S4x1x256x256 .bf16) (harg8 : arg8.IsWhole) (arg9 : Memref sig .tc .vmem S4x1x256x256 .bf16) (harg9 : arg9.IsWhole) (arg10 : Memref sig .tc .vmem S4x1x256x256 .bf16) (harg10 : arg10.IsWhole) (arg11 : Memref sig .tc .smem S4 .f32) (harg11 : arg11.IsWhole) (arg12 : Memref sig .tc .smem S4 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S4x8x128 .f32) (harg16 : arg16.IsWhole) (hc0 : ¬cond0_0 i)
    (x0 : Vec F S128x1024 .f32) (x1 : Vec F S128x1024 .f32) (x2 : Vec F S128x1024 .f32) (x3 : Vec F S128x1024 .f32) (x4 : Vec F S128x128 .f32) (x5 : Vec F S128x128 .f32) (x6 : Vec F S4x1x256x256 .bf16) (x7 : Vec F S4x1x256x256 .bf16) (x8 : Vec F S4x1x256x256 .bf16) (x9 : Vec F S4x1x256x256 .bf16) (x10 : Vec F S4 .f32) (x11 : Vec F S4 .f32) (x15 : Vec F S4x8x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x15
      = glue fun h => Head.hv x4 x5 (cols h x0) (cols h x1) (cols h x3) (state h x8) (state h x9) (x10 (ix1 h)) (x11 (ix1 h)) := by
  unfold out0_B_14
  rw [View.read_writes_junk_eq_canon]
  refine Eq.trans ?_ (canon_glue fun h => Head.hv x4 x5 (cols h x0) (cols h x1) (cols h x3) (state h x8) (state h x9) (x10 (ix1 h)) (x11 (ix1 h)))
  refine Eq.trans (b := View.canon ([⟨Rect.unit (s := S128x1024) ![0, 768] S128x256.size inb_S128x1024_S128x256_0_768,
        Same.stv3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg2.view (Rect.unit (s := S128x1024) ![0, 768] S128x256.size inb_S128x1024_S128x256_0_768).toLoadRect (harg2.unread x1)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))⟩,
      ⟨Rect.unit (s := S128x1024) ![0, 512] S128x256.size inb_S128x1024_S128x256_0_512,
        Same.stv2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg2.view (Rect.unit (s := S128x1024) ![0, 512] S128x256.size inb_S128x1024_S128x256_0_512).toLoadRect (harg2.unread x1)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))⟩,
      ⟨Rect.unit (s := S128x1024) ![0, 256] S128x256.size inb_S128x1024_S128x256_0_256,
        Same.stv1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg2.view (Rect.unit (s := S128x1024) ![0, 256] S128x256.size inb_S128x1024_S128x256_0_256).toLoadRect (harg2.unread x1)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))⟩,
      ⟨Rect.unit (s := S128x1024) ![0, 0] S128x256.size inb_S128x1024_S128x256_0_0,
        Same.stv0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg2.view (Rect.unit (s := S128x1024) ![0, 0] S128x256.size inb_S128x1024_S128x256_0_0).toLoadRect (harg2.unread x1)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))⟩] :
      List (View.Piece (Elt F) S128x1024 .bf16))) (by sl_kernel_rfl) ?_
  have e3 : Same.stv3 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 768] S128x256.size inb_S128x1024_S128x256_0_768).toLoadRect (harg1.unread x0)) (View.readAt (Elt F) arg2.view (Rect.unit (s := S128x1024) ![0, 768] S128x256.size inb_S128x1024_S128x256_0_768).toLoadRect (harg2.unread x1)) (View.readAt (Elt F) arg4.view (Rect.unit (s := S128x1024) ![0, 768] S128x256.size inb_S128x1024_S128x256_0_768).toLoadRect (harg4.unread x3)) (View.readAt (Elt F) arg9.view (Rect.unit (s := S4x1x256x256) ![3, 0, 0, 0] S1x1x256x256.size inb_S4x1x256x256_S1x1x256x256_3_0_0_0).toLoadRect (harg9.unread x8)) (View.readAt (Elt F) arg10.view (Rect.unit (s := S4x1x256x256) ![3, 0, 0, 0] S1x1x256x256.size inb_S4x1x256x256_S1x1x256x256_3_0_0_0).toLoadRect (harg10.unread x9)) (View.readAt (Elt F) arg11.view (Rect.unit (s := S4) ![3] S1.size inb_S4_S1_3).toLoadRect (harg11.unread x10) (Shape.Idx.first one)) (View.readAt (Elt F) arg12.view (Rect.unit (s := S4) ![3] S1.size inb_S4_S1_3).toLoadRect (harg12.unread x11) (Shape.Idx.first one))
      = Head.hv x4 x5 (cols 3 x0) (cols 3 x1) (cols 3 x3) (state 3 x8) (state 3 x9) (x10 (ix1 3)) (x11 (ix1 3)) := by
    rw [Same.stv3_eq, load_table arg5 harg5 x4, load_table arg6 harg6 x5]
    exact congr (congr (congr (congr (congr (congr (congrArg (Head.hv x4 x5) (load_cols arg1 harg1 x0 3 inb_S128x1024_S128x256_0_768)) (load_cols arg2 harg2 x1 3 inb_S128x1024_S128x256_0_768)) (load_cols arg4 harg4 x3 3 inb_S128x1024_S128x256_0_768)) (load_state arg9 harg9 x8 3 inb_S4x1x256x256_S1x1x256x256_3_0_0_0)) (load_state arg10 harg10 x9 3 inb_S4x1x256x256_S1x1x256x256_3_0_0_0)) (load_word arg11 harg11 x10 3 inb_S4_S1_3)) (load_word arg12 harg12 x11 3 inb_S4_S1_3)
  have e2 : Same.stv2 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 512] S128x256.size inb_S128x1024_S128x256_0_512).toLoadRect (harg1.unread x0)) (View.readAt (Elt F) arg2.view (Rect.unit (s := S128x1024) ![0, 512] S128x256.size inb_S128x1024_S128x256_0_512).toLoadRect (harg2.unread x1)) (View.readAt (Elt F) arg4.view (Rect.unit (s := S128x1024) ![0, 512] S128x256.size inb_S128x1024_S128x256_0_512).toLoadRect (harg4.unread x3)) (View.readAt (Elt F) arg9.view (Rect.unit (s := S4x1x256x256) ![2, 0, 0, 0] S1x1x256x256.size inb_S4x1x256x256_S1x1x256x256_2_0_0_0).toLoadRect (harg9.unread x8)) (View.readAt (Elt F) arg10.view (Rect.unit (s := S4x1x256x256) ![2, 0, 0, 0] S1x1x256x256.size inb_S4x1x256x256_S1x1x256x256_2_0_0_0).toLoadRect (harg10.unread x9)) (View.readAt (Elt F) arg11.view (Rect.unit (s := S4) ![2] S1.size inb_S4_S1_2).toLoadRect (harg11.unread x10) (Shape.Idx.first one)) (View.readAt (Elt F) arg12.view (Rect.unit (s := S4) ![2] S1.size inb_S4_S1_2).toLoadRect (harg12.unread x11) (Shape.Idx.first one))
      = Head.hv x4 x5 (cols 2 x0) (cols 2 x1) (cols 2 x3) (state 2 x8) (state 2 x9) (x10 (ix1 2)) (x11 (ix1 2)) := by
    rw [Same.stv2_eq, load_table arg5 harg5 x4, load_table arg6 harg6 x5]
    exact congr (congr (congr (congr (congr (congr (congrArg (Head.hv x4 x5) (load_cols arg1 harg1 x0 2 inb_S128x1024_S128x256_0_512)) (load_cols arg2 harg2 x1 2 inb_S128x1024_S128x256_0_512)) (load_cols arg4 harg4 x3 2 inb_S128x1024_S128x256_0_512)) (load_state arg9 harg9 x8 2 inb_S4x1x256x256_S1x1x256x256_2_0_0_0)) (load_state arg10 harg10 x9 2 inb_S4x1x256x256_S1x1x256x256_2_0_0_0)) (load_word arg11 harg11 x10 2 inb_S4_S1_2)) (load_word arg12 harg12 x11 2 inb_S4_S1_2)
  have e1 : Same.stv1 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 256] S128x256.size inb_S128x1024_S128x256_0_256).toLoadRect (harg1.unread x0)) (View.readAt (Elt F) arg2.view (Rect.unit (s := S128x1024) ![0, 256] S128x256.size inb_S128x1024_S128x256_0_256).toLoadRect (harg2.unread x1)) (View.readAt (Elt F) arg4.view (Rect.unit (s := S128x1024) ![0, 256] S128x256.size inb_S128x1024_S128x256_0_256).toLoadRect (harg4.unread x3)) (View.readAt (Elt F) arg9.view (Rect.unit (s := S4x1x256x256) ![1, 0, 0, 0] S1x1x256x256.size inb_S4x1x256x256_S1x1x256x256_1_0_0_0).toLoadRect (harg9.unread x8)) (View.readAt (Elt F) arg10.view (Rect.unit (s := S4x1x256x256) ![1, 0, 0, 0] S1x1x256x256.size inb_S4x1x256x256_S1x1x256x256_1_0_0_0).toLoadRect (harg10.unread x9)) (View.readAt (Elt F) arg11.view (Rect.unit (s := S4) ![1] S1.size inb_S4_S1_1).toLoadRect (harg11.unread x10) (Shape.Idx.first one)) (View.readAt (Elt F) arg12.view (Rect.unit (s := S4) ![1] S1.size inb_S4_S1_1).toLoadRect (harg12.unread x11) (Shape.Idx.first one))
      = Head.hv x4 x5 (cols 1 x0) (cols 1 x1) (cols 1 x3) (state 1 x8) (state 1 x9) (x10 (ix1 1)) (x11 (ix1 1)) := by
    rw [Same.stv1_eq, load_table arg5 harg5 x4, load_table arg6 harg6 x5]
    exact congr (congr (congr (congr (congr (congr (congrArg (Head.hv x4 x5) (load_cols arg1 harg1 x0 1 inb_S128x1024_S128x256_0_256)) (load_cols arg2 harg2 x1 1 inb_S128x1024_S128x256_0_256)) (load_cols arg4 harg4 x3 1 inb_S128x1024_S128x256_0_256)) (load_state arg9 harg9 x8 1 inb_S4x1x256x256_S1x1x256x256_1_0_0_0)) (load_state arg10 harg10 x9 1 inb_S4x1x256x256_S1x1x256x256_1_0_0_0)) (load_word arg11 harg11 x10 1 inb_S4_S1_1)) (load_word arg12 harg12 x11 1 inb_S4_S1_1)
  have e0 : Same.stv0 (View.readAt (Elt F) arg5.view (Rect.unit (s := S128x128) ![0, 0] S128x128.size inb_S128x128_S128x128_0_0).toLoadRect (harg5.unread x4)) (View.readAt (Elt F) arg6.view (Rect.unit (s := S128x128) ![0, 0] S128x128.size inb_S128x128_S128x128_0_0).toLoadRect (harg6.unread x5)) (View.readAt (Elt F) arg1.view (Rect.unit (s := S128x1024) ![0, 0] S128x256.size inb_S128x1024_S128x256_0_0).toLoadRect (harg1.unread x0)) (View.readAt (Elt F) arg2.view (Rect.unit (s := S128x1024) ![0, 0] S128x256.size inb_S128x1024_S128x256_0_0).toLoadRect (harg2.unread x1)) (View.readAt (Elt F) arg4.view (Rect.unit (s := S128x1024) ![0, 0] S128x256.size inb_S128x1024_S128x256_0_0).toLoadRect (harg4.unread x3)) (View.readAt (Elt F) arg9.view (Rect.unit (s := S4x1x256x256) ![0, 0, 0, 0] S1x1x256x256.size inb_S4x1x256x256_S1x1x256x256_0_0_0_0).toLoadRect (harg9.unread x8)) (View.readAt (Elt F) arg10.view (Rect.unit (s := S4x1x256x256) ![0, 0, 0, 0] S1x1x256x256.size inb_S4x1x256x256_S1x1x256x256_0_0_0_0).toLoadRect (harg10.unread x9)) (View.readAt (Elt F) arg11.view (Rect.unit (s := S4) ![0] S1.size inb_S4_S1_0).toLoadRect (harg11.unread x10) (Shape.Idx.first one)) (View.readAt (Elt F) arg12.view (Rect.unit (s := S4) ![0] S1.size inb_S4_S1_0).toLoadRect (harg12.unread x11) (Shape.Idx.first one))
      = Head.hv x4 x5 (cols 0 x0) (cols 0 x1) (cols 0 x3) (state 0 x8) (state 0 x9) (x10 (ix1 0)) (x11 (ix1 0)) := by
    rw [Same.stv0_eq, load_table arg5 harg5 x4, load_table arg6 harg6 x5]
    exact congr (congr (congr (congr (congr (congr (congrArg (Head.hv x4 x5) (load_cols arg1 harg1 x0 0 inb_S128x1024_S128x256_0_0)) (load_cols arg2 harg2 x1 0 inb_S128x1024_S128x256_0_0)) (load_cols arg4 harg4 x3 0 inb_S128x1024_S128x256_0_0)) (load_state arg9 harg9 x8 0 inb_S4x1x256x256_S1x1x256x256_0_0_0_0)) (load_state arg10 harg10 x9 0 inb_S4x1x256x256_S1x1x256x256_0_0_0_0)) (load_word arg11 harg11 x10 0 inb_S4_S1_0)) (load_word arg12 harg12 x11 0 inb_S4_S1_0)
  rw [e3, e2, e1, e0]

end Cert.Proof.Block

end
-- ==== Proof.Run.lean ====
/- Hand-written, untrusted: THE RESULT ARRAYS AS FUNCTIONS OF THE ARGUMENT ARRAYS (`outQ`, `outK`, `outV`, `run`), at any float
   values. The 32 grid points tile the rows: point `t` reads rows `128·t` and following of the activations, the cotangent and
   the rotary tables, and entry `t` of the four state arrays. -/
module

public import proofs.«01_k».proof.Proof.Block
public import proofs.«01_k».proof.Proof.Gen.ReferenceIdeal.Read

@[expose] public section

set_option maxRecDepth 16384

noncomputable section

namespace Cert.Proof.Run

open Cert.KernelIdeal Cert.KernelIdeal.Gen Cert.KernelIdeal.Value Idealize.ShloMosaic Idealize.ShloMosaic.TcCoe Idealize.SL.Sem Idealize.ShloMosaic.ValueIdx
open Idealize.ShloMosaic.Tactic Cert.Proof.Block

variable {F : FTy → Type} [FloatOps F]

/-- Row `l` of block `t`. -/
abbrev row (t : Fin 32) (l : Fin 128) : Fin 4096 := ⟨128 * t.val + l.val, by have := t.isLt; have := l.isLt; omega⟩
/-- Column `d` of column group `k` (0 the queries, 1 the keys, 2 the values). -/
abbrev zcol (k : Fin 3) (d : Fin 1024) : Fin 14848 := ⟨1024 * k.val + d.val, by have := k.isLt; have := d.isLt; omega⟩

/-- Block `t` of column group `k` of the activations. -/
def zb {α : Type} (k : Fin 3) (z : S4096x14848.Idx → α) (t : Fin 32) : S128x1024.Idx → α := fun j => z (ix2 (row t (j 0)) (zcol k (j 1)))
/-- Block `t` of the cotangent. -/
def gb {α : Type} (g : S4096x1024.Idx → α) (t : Fin 32) : S128x1024.Idx → α := fun j => g (ix2 (row t (j 0)) (j 1))
/-- Block `t` of a rotary table. -/
def tb {α : Type} (x : S4096x128.Idx → α) (t : Fin 32) : S128x128.Idx → α := fun j => x (ix2 (row t (j 0)) (j 1))
/-- Entry `t` of a state array. -/
def eb {α : Type} (x : S4x32x256x256.Idx → α) (t : Fin 32) : S4x1x256x256.Idx → α := fun j => x (ix4 (j 0) t (j 2) (j 3))

/-- The rotary tables. -/
def cosT : Vec F S4096x128 .f32 := Cert.ReferenceIdeal.Read.val_main_v32 (F := F)
def sinT : Vec F S4096x128 .f32 := Cert.ReferenceIdeal.Read.val_main_v34 (F := F)

/-- Blocks of 128 rows under one another. -/
def stack {α : Type} (B : Fin 32 → S128x1024.Idx → α) : S4096x1024.Idx → α := fun y =>
  B ⟨(y 0).val / 128, by have : (y 0).val < 4096 := (y 0).isLt; omega⟩ (ix2 ⟨(y 0).val % 128, Nat.mod_lt _ (by decide)⟩ (y 1))

theorem stack_apply {α : Type} (B : Fin 32 → S128x1024.Idx → α) (t : Fin 32) (l : Fin 128) (d : Fin 1024) :
    stack B (ix2 (row t l) d) = B t (ix2 l d) := by
  have e1 : (⟨(128 * t.val + l.val) / 128, by have := t.isLt; have := l.isLt; omega⟩ : Fin 32) = t :=
    Fin.ext (by show (128 * t.val + l.val) / 128 = t.val; have := l.isLt; omega)
  have e2 : (⟨(128 * t.val + l.val) % 128, Nat.mod_lt _ (by decide)⟩ : Fin 128) = l :=
    Fin.ext (by show (128 * t.val + l.val) % 128 = l.val; have := l.isLt; omega)
  show B ⟨(128 * t.val + l.val) / 128, _⟩ (ix2 ⟨(128 * t.val + l.val) % 128, _⟩ d) = _
  rw [e1, e2]

/-- The whole query gradient, of the activations, the cotangent, two state arrays and the decay exponents. -/
def outQ (z : Vec F S4096x14848 .f32) (g : Vec F S4096x1024 .f32) (s1 s2 : Vec F S4x32x256x256 .bf16) (a b : Vec F S4 .f32) : Vec F S4096x1024 .bf16 :=
  stack fun t => glue fun h => Head.hq (tb cosT t) (tb sinT t) (cols h (zb 1 z t)) (cols h (zb 2 z t)) (cols h (gb g t)) (state h (eb s1 t)) (state h (eb s2 t)) (a (ix1 h)) (b (ix1 h))

/-- The whole key gradient, of the activations, the cotangent, two state arrays and the decay exponents. -/
def outK (z : Vec F S4096x14848 .f32) (g : Vec F S4096x1024 .f32) (s1 s2 : Vec F S4x32x256x256 .bf16) (a b : Vec F S4 .f32) : Vec F S4096x1024 .bf16 :=
  stack fun t => glue fun h => Head.hk (tb cosT t) (tb sinT t) (cols h (zb 0 z t)) (cols h (zb 2 z t)) (cols h (gb g t)) (state h (eb s1 t)) (state h (eb s2 t)) (a (ix1 h)) (b (ix1 h))

/-- The whole value gradient, of the activations, the cotangent, two state arrays and the decay exponents. -/
def outV (z : Vec F S4096x14848 .f32) (g : Vec F S4096x1024 .f32) (s1 s2 : Vec F S4x32x256x256 .bf16) (a b : Vec F S4 .f32) : Vec F S4096x1024 .bf16 :=
  stack fun t => glue fun h => Head.hv (tb cosT t) (tb sinT t) (cols h (zb 0 z t)) (cols h (zb 1 z t)) (cols h (gb g t)) (state h (eb s1 t)) (state h (eb s2 t)) (a (ix1 h)) (b (ix1 h))

variable (m : (ℓ : Loc nD τ sig) → Buf (Elt F) ℓ) (ρ : Dev nD → PrngReg)

/-- The host's tables, as the region finds them. -/
theorem V_cos (c : Dev nD) : V m c main_v11 = cosT (F := F) := by sl_kernel_rfl
theorem V_sin (c : Dev nD) : V m c main_v12 = sinT (F := F) := by sl_kernel_rfl

/-- Block indices, decided over the 32 points. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 1 := (by decide +kernel : ∀ t : Fin grid0.N, _)
theorem idx2 : ∀ t : Fin cfg0.N, win0_2.index t (0 : Fin 2) = t.val ∧ win0_2.index t (1 : Fin 2) = 2 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx6 : ∀ t : Fin cfg0.N, win0_6.index t (0 : Fin 4) = 0 ∧ win0_6.index t (1 : Fin 4) = t.val ∧ win0_6.index t (2 : Fin 4) = 0 ∧ win0_6.index t (3 : Fin 4) = 0 := (by decide +kernel : ∀ t : Fin grid0.N, _)
theorem idx7 : ∀ t : Fin cfg0.N, win0_7.index t (0 : Fin 4) = 0 ∧ win0_7.index t (1 : Fin 4) = t.val ∧ win0_7.index t (2 : Fin 4) = 0 ∧ win0_7.index t (3 : Fin 4) = 0 := (by decide +kernel : ∀ t : Fin grid0.N, _)
theorem idx8 : ∀ t : Fin cfg0.N, win0_8.index t (0 : Fin 4) = 0 ∧ win0_8.index t (1 : Fin 4) = t.val ∧ win0_8.index t (2 : Fin 4) = 0 ∧ win0_8.index t (3 : Fin 4) = 0 := (by decide +kernel : ∀ t : Fin grid0.N, _)
theorem idx9 : ∀ t : Fin cfg0.N, win0_9.index t (0 : Fin 4) = 0 ∧ win0_9.index t (1 : Fin 4) = t.val ∧ win0_9.index t (2 : Fin 4) = 0 ∧ win0_9.index t (3 : Fin 4) = 0 := (by decide +kernel : ∀ t : Fin grid0.N, _)
theorem idx10 : ∀ t : Fin cfg0.N, win0_10.index t (0 : Fin 1) = 0 := (by decide +kernel : ∀ t : Fin grid0.N, _)
theorem idx11 : ∀ t : Fin cfg0.N, win0_11.index t (0 : Fin 1) = 0 := (by decide +kernel : ∀ t : Fin grid0.N, _)

/-- The grid point as a block number. -/
abbrev pt (t : Fin cfg0.N) : Fin 32 := ⟨t.val, t.isLt⟩

/-- The block of an entry of a result, and its place there. -/
def blockOf (i : S4096x1024.Idx) : Fin cfg0.N := ⟨(i 0).val / 128, by have hi : (i 0).val < 4096 := (i 0).isLt; show (i 0).val / 128 < 32; omega⟩
def within (i : S4096x1024.Idx) : S128x1024.Idx := ix2 ⟨(i 0).val % 128, Nat.mod_lt _ (by decide)⟩ (i 1)
theorem place (i : S4096x1024.Idx) : ix2 (row (pt (blockOf i)) (within i 0)) (within i 1) = i := by
  funext a
  match a with
  | ⟨0, _⟩ => exact Fin.ext (by show 128 * ((i 0).val / 128) + (i 0).val % 128 = (i 0).val; omega)
  | ⟨1, _⟩ => rfl

theorem blk0 (c : Dev nD) (t : Fin cfg0.N) : X0_0 m c t = zb 0 (m ((c : Thread nD τ).loc main_arg0)) (pt t) := by
  obtain ⟨e0, e1⟩ := idx0 t
  funext j
  unfold X0_0 Pipeline.Window.fill
  rw [dif_pos (moved0_0 t j)]
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 128 + 1 * (j 0).val = 128 * t.val + (j 0).val; omega
  | ⟨1, _⟩ => show win0_0.index t (1 : Fin 2) * 1024 + 1 * (j 1).val = 1024 * 0 + (j 1).val; omega

theorem blk1 (c : Dev nD) (t : Fin cfg0.N) : X0_1 m c t = zb 1 (m ((c : Thread nD τ).loc main_arg0)) (pt t) := by
  obtain ⟨e0, e1⟩ := idx1 t
  funext j
  unfold X0_1 Pipeline.Window.fill
  rw [dif_pos (moved0_1 t j)]
  show V m c main_arg0 (((cfg0.win 1).blk t).view.emb _) = _
  rw [V_main_arg0]
  refine congrArg (m ((c : Thread nD τ).loc main_arg0)) (funext fun a => Fin.ext ?_)
  match a with
  | ⟨0, _⟩ => show win0_1.index t (0 : Fin 2) * 128 + 1 * (j 0).val = 128 * t.val + (j 0).val; omega
  | ⟨1, _⟩ => show win0_1.index t (1 : Fin 2) * 1024 + 1 * (j 1).val = 1024 * 1 + (j 1).val; omega

theorem blk2 (c : Dev nD) (t : Fin cfg0.N) : X0_2 m c t = zb 2 (m ((c : Thread nD τ).loc main_arg0)) (pt t) := by
  obtain ⟨e0, e1⟩ := idx2 t
  funext j
  unfold X0_2 Pipeline.Window.fill
  rw [dif_pos (moved0_2 t j)]
  show V m c main_arg0 (((cfg0.win 2).blk t).view.emb _) = _
  rw [V_main_arg0]
  refine congrArg (m ((c : Thread nD τ).loc main_arg0)) (funext fun a => Fin.ext ?_)
  match a with
  | ⟨0, _⟩ => show win0_2.index t (0 : Fin 2) * 128 + 1 * (j 0).val = 128 * t.val + (j 0).val; omega
  | ⟨1, _⟩ => show win0_2.index t (1 : Fin 2) * 1024 + 1 * (j 1).val = 1024 * 2 + (j 1).val; omega

theorem blk3 (c : Dev nD) (t : Fin cfg0.N) : iblk m c 3 t = gb (m ((c : Thread nD τ).loc main_arg1)) (pt t) := by
  obtain ⟨e0, e1⟩ := idx3 t
  funext j
  show V m c main_arg1 (((cfg0.win 3).blk t).view.emb j) = _
  rw [V_main_arg1]
  refine congrArg (m ((c : Thread nD τ).loc main_arg1)) (funext fun a => Fin.ext ?_)
  match a with
  | ⟨0, _⟩ => show win0_3.index t (0 : Fin 2) * 128 + 1 * (j 0).val = 128 * t.val + (j 0).val; omega
  | ⟨1, _⟩ => show win0_3.index t (1 : Fin 2) * 1024 + 1 * (j 1).val = (j 1).val; omega

theorem blk4 (c : Dev nD) (t : Fin cfg0.N) : iblk m c 4 t = tb cosT (pt t) := by
  obtain ⟨e0, e1⟩ := idx4 t
  funext j
  show V m c main_v11 (((cfg0.win 4).blk t).view.emb j) = _
  rw [V_cos]
  refine congrArg cosT (funext fun a => Fin.ext ?_)
  match a with
  | ⟨0, _⟩ => show win0_4.index t (0 : Fin 2) * 128 + 1 * (j 0).val = 128 * t.val + (j 0).val; omega
  | ⟨1, _⟩ => show win0_4.index t (1 : Fin 2) * 128 + 1 * (j 1).val = (j 1).val; omega

theorem blk5 (c : Dev nD) (t : Fin cfg0.N) : iblk m c 5 t = tb sinT (pt t) := by
  obtain ⟨e0, e1⟩ := idx5 t
  funext j
  show V m c main_v12 (((cfg0.win 5).blk t).view.emb j) = _
  rw [V_sin]
  refine congrArg sinT (funext fun a => Fin.ext ?_)
  match a with
  | ⟨0, _⟩ => show win0_5.index t (0 : Fin 2) * 128 + 1 * (j 0).val = 128 * t.val + (j 0).val; omega
  | ⟨1, _⟩ => show win0_5.index t (1 : Fin 2) * 128 + 1 * (j 1).val = (j 1).val; omega

theorem blk6 (c : Dev nD) (t : Fin cfg0.N) : iblk m c 6 t = eb (m ((c : Thread nD τ).loc main_arg2)) (pt t) := by
  obtain ⟨e0, e1, e2, e3⟩ := idx6 t
  funext j
  show V m c main_arg2 (((cfg0.win 6).blk t).view.emb j) = _
  rw [V_main_arg2]
  refine congrArg (m ((c : Thread nD τ).loc main_arg2)) (funext fun a => Fin.ext ?_)
  match a with
  | ⟨0, _⟩ => show win0_6.index t (0 : Fin 4) * 4 + 1 * (j 0).val = (j 0).val; omega
  | ⟨1, _⟩ => show win0_6.index t (1 : Fin 4) * 1 + 1 * (j 1).val = t.val; have : (j 1).val < 1 := (j 1).isLt; omega
  | ⟨2, _⟩ => show win0_6.index t (2 : Fin 4) * 256 + 1 * (j 2).val = (j 2).val; omega
  | ⟨3, _⟩ => show win0_6.index t (3 : Fin 4) * 256 + 1 * (j 3).val = (j 3).val; omega

theorem blk7 (c : Dev nD) (t : Fin cfg0.N) : iblk m c 7 t = eb (m ((c : Thread nD τ).loc main_arg3)) (pt t) := by
  obtain ⟨e0, e1, e2, e3⟩ := idx7 t
  funext j
  show V m c main_arg3 (((cfg0.win 7).blk t).view.emb j) = _
  rw [V_main_arg3]
  refine congrArg (m ((c : Thread nD τ).loc main_arg3)) (funext fun a => Fin.ext ?_)
  match a with
  | ⟨0, _⟩ => show win0_7.index t (0 : Fin 4) * 4 + 1 * (j 0).val = (j 0).val; omega
  | ⟨1, _⟩ => show win0_7.index t (1 : Fin 4) * 1 + 1 * (j 1).val = t.val; have : (j 1).val < 1 := (j 1).isLt; omega
  | ⟨2, _⟩ => show win0_7.index t (2 : Fin 4) * 256 + 1 * (j 2).val = (j 2).val; omega
  | ⟨3, _⟩ => show win0_7.index t (3 : Fin 4) * 256 + 1 * (j 3).val = (j 3).val; omega

theorem blk8 (c : Dev nD) (t : Fin cfg0.N) : iblk m c 8 t = eb (m ((c : Thread nD τ).loc main_arg4)) (pt t) := by
  obtain ⟨e0, e1, e2, e3⟩ := idx8 t
  funext j
  show V m c main_arg4 (((cfg0.win 8).blk t).view.emb j) = _
  rw [V_main_arg4]
  refine congrArg (m ((c : Thread nD τ).loc main_arg4)) (funext fun a => Fin.ext ?_)
  match a with
  | ⟨0, _⟩ => show win0_8.index t (0 : Fin 4) * 4 + 1 * (j 0).val = (j 0).val; omega
  | ⟨1, _⟩ => show win0_8.index t (1 : Fin 4) * 1 + 1 * (j 1).val = t.val; have : (j 1).val < 1 := (j 1).isLt; omega
  | ⟨2, _⟩ => show win0_8.index t (2 : Fin 4) * 256 + 1 * (j 2).val = (j 2).val; omega
  | ⟨3, _⟩ => show win0_8.index t (3 : Fin 4) * 256 + 1 * (j 3).val = (j 3).val; omega

theorem blk9 (c : Dev nD) (t : Fin cfg0.N) : iblk m c 9 t = eb (m ((c : Thread nD τ).loc main_arg5)) (pt t) := by
  obtain ⟨e0, e1, e2, e3⟩ := idx9 t
  funext j
  show V m c main_arg5 (((cfg0.win 9).blk t).view.emb j) = _
  rw [V_main_arg5]
  refine congrArg (m ((c : Thread nD τ).loc main_arg5)) (funext fun a => Fin.ext ?_)
  match a with
  | ⟨0, _⟩ => show win0_9.index t (0 : Fin 4) * 4 + 1 * (j 0).val = (j 0).val; omega
  | ⟨1, _⟩ => show win0_9.index t (1 : Fin 4) * 1 + 1 * (j 1).val = t.val; have : (j 1).val < 1 := (j 1).isLt; omega
  | ⟨2, _⟩ => show win0_9.index t (2 : Fin 4) * 256 + 1 * (j 2).val = (j 2).val; omega
  | ⟨3, _⟩ => show win0_9.index t (3 : Fin 4) * 256 + 1 * (j 3).val = (j 3).val; omega

theorem blk10 (c : Dev nD) (t : Fin cfg0.N) : iblk m c 10 t = m ((c : Thread nD τ).loc main_arg6) := by
  have e0 := idx10 t
  funext j
  show V m c main_arg6 (((cfg0.win 10).blk t).view.emb j) = _
  rw [V_main_arg6]
  refine congrArg (m ((c : Thread nD τ).loc main_arg6)) (funext fun a => Fin.ext ?_)
  match a with
  | ⟨0, _⟩ => show win0_10.index t (0 : Fin 1) * 4 + 1 * (j 0).val = (j 0).val; omega

theorem blk11 (c : Dev nD) (t : Fin cfg0.N) : iblk m c 11 t = m ((c : Thread nD τ).loc main_arg7) := by
  have e0 := idx11 t
  funext j
  show V m c main_arg7 (((cfg0.win 11).blk t).view.emb j) = _
  rw [V_main_arg7]
  refine congrArg (m ((c : Thread nD τ).loc main_arg7)) (funext fun a => Fin.ext ?_)
  match a with
  | ⟨0, _⟩ => show win0_11.index t (0 : Fin 1) * 4 + 1 * (j 0).val = (j 0).val; omega

theorem emb12 (t : Fin cfg0.N) (j : S128x1024.Idx) : ((cfg0.win 12).blk t).view.emb j = ix2 (row (pt t) (j 0)) (j 1) := by
  obtain ⟨e0, e1⟩ := idx12 t
  funext a; apply Fin.ext
  match a with
  | ⟨0, _⟩ => show win0_12.index t (0 : Fin 2) * 128 + 1 * (j 0).val = 128 * t.val + (j 0).val; omega
  | ⟨1, _⟩ => show win0_12.index t (1 : Fin 2) * 1024 + 1 * (j 1).val = (j 1).val; omega

theorem cut12 (t : Fin cfg0.N) (B : Fin 32 → Vec F S128x1024 .bf16) :
    (cfg0.win 12).cut (grid0.coords t) (B (pt t)) = ((cfg0.win 12).blk t).view.read (Elt F) (stack B) := by
  funext j
  exact (congrArg (B (pt t)) (eq_ix2 (n0 := 128) (n1 := 1024) j)).trans ((stack_apply B (pt t) (j 0) (j 1)).symm.trans (congrArg (stack B) (emb12 t j).symm))

theorem flushed12_eq (c : Dev nD) (t : Fin cfg0.N) :
    (dats m 0 c).flushed 12 t = ((cfg0.win 12).blk t).view.read (Elt F) (outQ (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) := by
  refine Eq.trans ?_ (cut12 t _)
  by_cases h0 : t.val % 32 = 0
  · rw [flushed12_A m c t h0, out12_A, blk4, blk5, blk1, blk2, blk3, blk6, blk7, blk10, blk11]
  · rw [flushed12_B m c t h0, out12_B, blk4, blk5, blk1, blk2, blk3, blk6, blk7, blk10, blk11]

theorem inside12 (t : Fin cfg0.N) (j : S128x1024.Idx) (i : S4096x1024.Idx) (e : ix2 (row (pt t) (j 0)) (j 1) = i) :
    i ∈ ((cfg0.win 12).blk t).view.set :=
  Eq.subst (motive := fun x => x ∈ ((cfg0.win 12).blk t).view.set) ((emb12 t j).trans e) (((cfg0.win 12).blk t).view.emb_mem_set j)

theorem covered12 (i : S4096x1024.Idx) :
    ∃ t : Fin cfg0.N, (cfg0.win 12).flush t = true ∧ i ∈ ((cfg0.win 12).blk t).view.set :=
  ⟨blockOf i, flush0_12 _, inside12 _ (within i) i (place i)⟩

/-- The query gradient after the run. -/
theorem final12 (c : Dev nD) : (dats m 0 c).arrAt 12 cfg0.N
    = outQ (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (dats m 0 c).arrAt_eq_of_cover 12 _ (fun t _ => flushed12_eq m c t) covered12

theorem emb13 (t : Fin cfg0.N) (j : S128x1024.Idx) : ((cfg0.win 13).blk t).view.emb j = ix2 (row (pt t) (j 0)) (j 1) := by
  obtain ⟨e0, e1⟩ := idx13 t
  funext a; apply Fin.ext
  match a with
  | ⟨0, _⟩ => show win0_13.index t (0 : Fin 2) * 128 + 1 * (j 0).val = 128 * t.val + (j 0).val; omega
  | ⟨1, _⟩ => show win0_13.index t (1 : Fin 2) * 1024 + 1 * (j 1).val = (j 1).val; omega

theorem cut13 (t : Fin cfg0.N) (B : Fin 32 → Vec F S128x1024 .bf16) :
    (cfg0.win 13).cut (grid0.coords t) (B (pt t)) = ((cfg0.win 13).blk t).view.read (Elt F) (stack B) := by
  funext j
  exact (congrArg (B (pt t)) (eq_ix2 (n0 := 128) (n1 := 1024) j)).trans ((stack_apply B (pt t) (j 0) (j 1)).symm.trans (congrArg (stack B) (emb13 t j).symm))

theorem flushed13_eq (c : Dev nD) (t : Fin cfg0.N) :
    (dats m 0 c).flushed 13 t = ((cfg0.win 13).blk t).view.read (Elt F) (outK (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine Eq.trans ?_ (cut13 t _)
  by_cases h0 : t.val % 32 = 0
  · rw [flushed13_A m c t h0, out13_A, blk4, blk5, blk0, blk2, blk3, blk8, blk9, blk10, blk11]
  · rw [flushed13_B m c t h0, out13_B, blk4, blk5, blk0, blk2, blk3, blk8, blk9, blk10, blk11]

theorem inside13 (t : Fin cfg0.N) (j : S128x1024.Idx) (i : S4096x1024.Idx) (e : ix2 (row (pt t) (j 0)) (j 1) = i) :
    i ∈ ((cfg0.win 13).blk t).view.set :=
  Eq.subst (motive := fun x => x ∈ ((cfg0.win 13).blk t).view.set) ((emb13 t j).trans e) (((cfg0.win 13).blk t).view.emb_mem_set j)

theorem covered13 (i : S4096x1024.Idx) :
    ∃ t : Fin cfg0.N, (cfg0.win 13).flush t = true ∧ i ∈ ((cfg0.win 13).blk t).view.set :=
  ⟨blockOf i, flush0_13 _, inside13 _ (within i) i (place i)⟩

/-- The key gradient after the run. -/
theorem final13 (c : Dev nD) : (dats m 0 c).arrAt 13 cfg0.N
    = outK (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (dats m 0 c).arrAt_eq_of_cover 13 _ (fun t _ => flushed13_eq m c t) covered13

theorem emb14 (t : Fin cfg0.N) (j : S128x1024.Idx) : ((cfg0.win 14).blk t).view.emb j = ix2 (row (pt t) (j 0)) (j 1) := by
  obtain ⟨e0, e1⟩ := idx14 t
  funext a; apply Fin.ext
  match a with
  | ⟨0, _⟩ => show win0_14.index t (0 : Fin 2) * 128 + 1 * (j 0).val = 128 * t.val + (j 0).val; omega
  | ⟨1, _⟩ => show win0_14.index t (1 : Fin 2) * 1024 + 1 * (j 1).val = (j 1).val; omega

theorem cut14 (t : Fin cfg0.N) (B : Fin 32 → Vec F S128x1024 .bf16) :
    (cfg0.win 14).cut (grid0.coords t) (B (pt t)) = ((cfg0.win 14).blk t).view.read (Elt F) (stack B) := by
  funext j
  exact (congrArg (B (pt t)) (eq_ix2 (n0 := 128) (n1 := 1024) j)).trans ((stack_apply B (pt t) (j 0) (j 1)).symm.trans (congrArg (stack B) (emb14 t j).symm))

theorem flushed14_eq (c : Dev nD) (t : Fin cfg0.N) :
    (dats m 0 c).flushed 14 t = ((cfg0.win 14).blk t).view.read (Elt F) (outV (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine Eq.trans ?_ (cut14 t _)
  by_cases h0 : t.val % 32 = 0
  · rw [flushed14_A m c t h0, out14_A, blk4, blk5, blk0, blk1, blk3, blk8, blk9, blk10, blk11]
  · rw [flushed14_B m c t h0, out14_B, blk4, blk5, blk0, blk1, blk3, blk8, blk9, blk10, blk11]

theorem inside14 (t : Fin cfg0.N) (j : S128x1024.Idx) (i : S4096x1024.Idx) (e : ix2 (row (pt t) (j 0)) (j 1) = i) :
    i ∈ ((cfg0.win 14).blk t).view.set :=
  Eq.subst (motive := fun x => x ∈ ((cfg0.win 14).blk t).view.set) ((emb14 t j).trans e) (((cfg0.win 14).blk t).view.emb_mem_set j)

theorem covered14 (i : S4096x1024.Idx) :
    ∃ t : Fin cfg0.N, (cfg0.win 14).flush t = true ∧ i ∈ ((cfg0.win 14).blk t).view.set :=
  ⟨blockOf i, flush0_14 _, inside14 _ (within i) i (place i)⟩

/-- The value gradient after the run. -/
theorem final14 (c : Dev nD) : (dats m 0 c).arrAt 14 cfg0.N
    = outV (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (dats m 0 c).arrAt_eq_of_cover 14 _ (fun t _ => flushed14_eq m c t) covered14

/-- The generated run with the three gradients at their functions of the arguments. -/
theorem run : θ_run defs (onTc (τ := τ) (main (F := F))) ⟨m, fun _ => 0, ρ⟩ fun r => ∀ c : Dev nD,
      r.2.mem ((c : Thread nD τ).loc main_v13_0) = outQ (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
      ∧ r.2.mem ((c : Thread nD τ).loc main_v13_1) = outK (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
      ∧ r.2.mem ((c : Thread nD τ).loc main_v13_2) = outV (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final12 m c), (h c).2.1.trans (final13 m c), (h c).2.2.1.trans (final14 m c), (h c).2.2.2.2⟩) (run_blocks m ρ)

end Cert.Proof.Run

end
-- ==== Proof.RefSide.lean ====
/- Hand-written, untrusted: THE REFERENCE READ AT AN INDEX, on the extended reals. Its values are read stage by stage at explicit
   coordinates (block `t`, position `l` in the block, head `h`, feature `d`), up to the functions of Proof/Spec.lean; then the
   three arrays it returns are the three arrays of Proof/Run.lean. The stages differ from the kernel's body in the order of
   sums and products, in where the scale of the keys is multiplied, and in the transposed rotary embedding, which is a sum
   of two arrays padded with zeros here. -/
module

public import proofs.«01_k».proof.Proof.Run

@[expose] public section

set_option maxRecDepth 16384

noncomputable section

namespace Cert.Proof.RefSide

open Cert.ReferenceIdeal Cert.ReferenceIdeal.Gen Cert.ReferenceIdeal.Read Idealize.ShloMosaic Idealize.ShloMosaic.ValueIdx
open Cert.Proof Cert.Proof.Block Cert.Proof.Run

/-- The rotary tables of block `t`. -/
abbrev C (t : Fin 32) : Fin 128 → Fin 128 → EReal := Head.rows (tb (cosT (F := Ideal)) t)
abbrev Sn (t : Fin 32) : Fin 128 → Fin 128 → EReal := Head.rows (tb (sinT (F := Ideal)) t)
/-- Head `h` of block `t` of column group `k` of the activations. -/
abbrev X (k : Fin 3) (z : S4096x14848.Idx → EReal) (t : Fin 32) (h : Fin 4) : Fin 128 → Fin 256 → EReal := Head.rows (cols h (zb k z t))
/-- Head `h` of block `t` of the cotangent. -/
abbrev G (g : S4096x1024.Idx → EReal) (t : Fin 32) (h : Fin 4) : Fin 128 → Fin 256 → EReal := Head.rows (cols h (gb g t))
/-- The state of head `h` at block `t`. -/
abbrev M (x : S4x32x256x256.Idx → EReal) (t : Fin 32) (h : Fin 4) : Fin 256 → Fin 256 → EReal := Head.mat (state h (eb x t))
/-- The rotated queries, and the rotated and scaled keys. -/
abbrev Q (z : S4096x14848.Idx → EReal) (t : Fin 32) (h : Fin 4) : Fin 128 → Fin 256 → EReal := Spec.rotQ (C t) (Sn t) (X 0 z t h)
abbrev K (z : S4096x14848.Idx → EReal) (t : Fin 32) (h : Fin 4) : Fin 128 → Fin 256 → EReal := Spec.rotK (C t) (Sn t) (X 1 z t h)

theorem rotQ_lo (c s : Fin 128 → Fin 128 → EReal) (x : Fin 128 → Fin 256 → EReal) (l p : Fin 128) :
    Spec.rotQ c s x l (Spec.lo p) = x l (Spec.lo p) * c l p - x l (Spec.hi p) * s l p := by unfold Spec.rotQ Spec.rot; exact Spec.halves_lo _ _ p
theorem rotQ_hi (c s : Fin 128 → Fin 128 → EReal) (x : Fin 128 → Fin 256 → EReal) (l p : Fin 128) :
    Spec.rotQ c s x l (Spec.hi p) = x l (Spec.hi p) * c l p + x l (Spec.lo p) * s l p := by unfold Spec.rotQ Spec.rot; exact Spec.halves_hi _ _ p
theorem turn (x y z : EReal) : (x + y) + z = (z + y) + x := by rw [add_comm (x + y) z, add_comm x y, add_assoc]
theorem minus (x y z : EReal) : x + -y * z = x - y * z := by rw [sub_eq_add_neg, EReal.neg_mul]

/-- The coordinates of an entry of a result. -/
def blockNo (i : S4096x1024.Idx) : Fin 32 := ⟨(i 0).val / 128, by have hi : (i 0).val < 4096 := (i 0).isLt; omega⟩
def posNo (i : S4096x1024.Idx) : Fin 128 := ⟨(i 0).val % 128, Nat.mod_lt _ (by decide)⟩
def headNo (i : S4096x1024.Idx) : Fin 4 := ⟨(i 1).val / 256, by have hi : (i 1).val < 1024 := (i 1).isLt; omega⟩
def featNo (i : S4096x1024.Idx) : Fin 256 := ⟨(i 1).val % 256, Nat.mod_lt _ (by decide)⟩
theorem spot (i : S4096x1024.Idx) : ix2 (row (blockNo i) (posNo i)) (col (headNo i) (featNo i)) = i := by
  funext a
  match a with
  | ⟨0, _⟩ => exact Fin.ext (by show 128 * ((i 0).val / 128) + (i 0).val % 128 = (i 0).val; omega)
  | ⟨1, _⟩ => exact Fin.ext (by show 256 * ((i 1).val / 256) + (i 1).val % 256 = (i 1).val; omega)

/-! ## Columns of the activations -/
theorem at_v0 (x0 : (⟨S4096x14848, .f32⟩ : BufTy).Contents (Elt Ideal)) (t : Fin 32) (l : Fin 128) (h : Fin 4) (d : Fin 256) : val_main_v0 (F := Ideal) x0 (ix2 (row t l) (col h d)) = x0 (ix2 (row t l) (zcol 0 (col h d))) :=
  (val_main_v0_apply x0 _).trans (congrArg (x0) (show idx_main_v0 (ix2 (row t l) (col h d)) = ix2 (row t l) (zcol 0 (col h d)) from funext fun a => Fin.ext (match a with | ⟨0, _⟩ => rfl | ⟨1, _⟩ => by show (256 * h.val + d.val) = (1024 * 0 + (256 * h.val + d.val)); have := d.isLt; have := h.isLt; omega)))
theorem at_v1 (x0 : (⟨S4096x14848, .f32⟩ : BufTy).Contents (Elt Ideal)) (t : Fin 32) (l : Fin 128) (h : Fin 4) (d : Fin 256) : val_main_v1 (F := Ideal) x0 (ix3 0 (row t l) (col h d)) = x0 (ix2 (row t l) (zcol 0 (col h d))) :=
  (val_main_v1_apply x0 _).trans ((congrArg (val_main_v0 (F := Ideal) x0) (show idx_main_v1 (ix3 0 (row t l) (col h d)) = ix2 (row t l) (col h d) from funext fun a => Fin.ext (match a with | ⟨0, _⟩ => rfl | ⟨1, _⟩ => rfl))).trans (at_v0 x0 t l h d))
theorem at_v2 (x0 : (⟨S4096x14848, .f32⟩ : BufTy).Contents (Elt Ideal)) (t : Fin 32) (l : Fin 128) (h : Fin 4) (d : Fin 256) : val_main_v2 (F := Ideal) x0 (ix4 0 (row t l) h d) = X 0 x0 t h l d :=
  (val_main_v2_apply x0 _).trans ((congrArg (val_main_v1 (F := Ideal) x0) (show idx_main_v2 (ix4 0 (row t l) h d) = ix3 0 (row t l) (col h d) from funext fun a => Fin.ext (match a with | ⟨0, _⟩ => rfl | ⟨1, _⟩ => by show (((0 * 4096 + (128 * t.val + l.val)) * 4 + h.val) * 256 + d.val) / 1024 % 4096 = (128 * t.val + l.val); have := d.isLt; have := h.isLt; have := l.isLt; have := t.isLt; omega | ⟨2, _⟩ => by show (((0 * 4096 + (128 * t.val + l.val)) * 4 + h.val) * 256 + d.val) % 1024 = (256 * h.val + d.val); have := d.isLt; have := h.isLt; have := l.isLt; have := t.isLt; omega))).trans (at_v1 x0 t l h d))
theorem at_v3 (x0 : (⟨S4096x14848, .f32⟩ : BufTy).Contents (Elt Ideal)) (t : Fin 32) (l : Fin 128) (h : Fin 4) (d : Fin 256) : val_main_v3 (F := Ideal) x0 (ix2 (row t l) (col h d)) = x0 (ix2 (row t l) (zcol 1 (col h d))) :=
  (val_main_v3_apply x0 _).trans (congrArg (x0) (show idx_main_v3 (ix2 (row t l) (col h d)) = ix2 (row t l) (zcol 1 (col h d)) from funext fun a => Fin.ext (match a with | ⟨0, _⟩ => rfl | ⟨1, _⟩ => by show 1024 + (256 * h.val + d.val) = (1024 * 1 + (256 * h.val + d.val)); have := d.isLt; have := h.isLt; omega)))
theorem at_v4 (x0 : (⟨S4096x14848, .f32⟩ : BufTy).Contents (Elt Ideal)) (t : Fin 32) (l : Fin 128) (h : Fin 4) (d : Fin 256) : val_main_v4 (F := Ideal) x0 (ix3 0 (row t l) (col h d)) = x0 (ix2 (row t l) (zcol 1 (col h d))) :=
  (val_main_v4_apply x0 _).trans ((congrArg (val_main_v3 (F := Ideal) x0) (show idx_main_v4 (ix3 0 (row t l) (col h d)) = ix2 (row t l) (col h d) from funext fun a => Fin.ext (match a with | ⟨0, _⟩ => rfl | ⟨1, _⟩ => rfl))).trans (at_v3 x0 t l h d))
theorem at_v5 (x0 : (⟨S4096x14848, .f32⟩ : BufTy).Contents (Elt Ideal)) (t : Fin 32) (l : Fin 128) (h : Fin 4) (d : Fin 256) : val_main_v5 (F := Ideal) x0 (ix4 0 (row t l) h d) = X 1 x0 t h l d :=
  (val_main_v5_apply x0 _).trans ((congrArg (val_main_v4 (F := Ideal) x0) (show idx_main_v5 (ix4 0 (row t l) h d) = ix3 0 (row t l) (col h d) from funext fun a => Fin.ext (match a with | ⟨0, _⟩ => rfl | ⟨1, _⟩ => by show (((0 * 4096 + (128 * t.val + l.val)) * 4 + h.val) * 256 + d.val) / 1024 % 4096 = (128 * t.val + l.val); have := d.isLt; have := h.isLt; have := l.isLt; have := t.isLt; omega | ⟨2, _⟩ => by show (((0 * 4096 + (128 * t.val + l.val)) * 4 + h.val) * 256 + d.val) % 1024 = (256 * h.val + d.val); have := d.isLt; have := h.isLt; have := l.isLt; have := t.isLt; omega))).trans (at_v4 x0 t l h d))
theorem at_v6 (x0 : (⟨S4096x14848, .f32⟩ : BufTy).Contents (Elt Ideal)) (t : Fin 32) (l : Fin 128) (h : Fin 4) (d : Fin 256) : val_main_v6 (F := Ideal) x0 (ix2 (row t l) (col h d)) = x0 (ix2 (row t l) (zcol 2 (col h d))) :=
  (val_main_v6_apply x0 _).trans (congrArg (x0) (show idx_main_v6 (ix2 (row t l) (col h d)) = ix2 (row t l) (zcol 2 (col h d)) from funext fun a => Fin.ext (match a with | ⟨0, _⟩ => rfl | ⟨1, _⟩ => by show 2048 + (256 * h.val + d.val) = (1024 * 2 + (256 * h.val + d.val)); have := d.isLt; have := h.isLt; omega)))
theorem at_v7 (x0 : (⟨S4096x14848, .f32⟩ : BufTy).Contents (Elt Ideal)) (t : Fin 32) (l : Fin 128) (h : Fin 4) (d : Fin 256) : val_main_v7 (F := Ideal) x0 (ix3 0 (row t l) (col h d)) = x0 (ix2 (row t l) (zcol 2 (col h d))) :=
  (val_main_v7_apply x0 _).trans ((congrArg (val_main_v6 (F := Ideal) x0) (show idx_main_v7 (ix3 0 (row t l) (col h d)) = ix2 (row t l) (col h d) from funext fun a => Fin.ext (match a with | ⟨0, _⟩ => rfl | ⟨1, _⟩ => rfl))).trans (at_v6 x0 t l h d))
theorem at_v8 (x0 : (⟨S4096x14848, .f32⟩ : BufTy).Contents (Elt Ideal)) (t : Fin 32) (l : Fin 128) (h : Fin 4) (d : Fin 256) : val_main_v8 (F := Ideal) x0 (ix4 0 (row t l) h d) = X 2 x0 t h l d :=
  (val_main_v8_apply x0 _).trans ((congrArg (val_main_v7 (F := Ideal) x0) (show idx_main_v8 (ix4 0 (row t l) h d) = ix3 0 (row t l) (col h d) from funext fun a => Fin.ext (match a with | ⟨0, _⟩ => rfl | ⟨1, _⟩ => by show (((0 * 4096 + (128 * t.val + l.val)) * 4 + h.val) * 256 + d.val) / 1024 % 4096 = (128 * t.val + l.val); have := d.isLt; have := h.isLt; have := l.isLt; have := t.isLt; omega | ⟨2, _⟩ => by show (((0 * 4096 + (128 * t.val + l.val)) * 4 + h.val) * 256 + d.val) % 1024 = (256 * h.val + d.val); have := d.isLt; have := h.isLt; have := l.isLt; have := t.isLt; omega))).trans (at_v7 x0 t l h d))
/-! ## The states -/
theorem at_v9 (x2 : (⟨S4x32x256x256, .bf16⟩ : BufTy).Contents (Elt Ideal)) (h : Fin 4) (t : Fin 32) (d : Fin 256) (e : Fin 256) : val_main_v9 (F := Ideal) x2 (ix4 h t d e) = x2 (ix4 h t d e) :=
  val_main_v9_apply x2 _
theorem at_v10 (x2 : (⟨S4x32x256x256, .bf16⟩ : BufTy).Contents (Elt Ideal)) (t : Fin 32) (h : Fin 4) (d : Fin 256) (e : Fin 256) : val_main_v10 (F := Ideal) x2 (ix4 t h d e) = x2 (ix4 h t d e) :=
  (val_main_v10_apply x2 _).trans ((congrArg (val_main_v9 (F := Ideal) x2) (show idx_main_v10 (ix4 t h d e) = ix4 h t d e from funext fun a => Fin.ext (match a with | ⟨0, _⟩ => rfl | ⟨1, _⟩ => rfl | ⟨2, _⟩ => rfl | ⟨3, _⟩ => rfl))).trans (at_v9 x2 h t d e))
theorem at_v11 (x2 : (⟨S4x32x256x256, .bf16⟩ : BufTy).Contents (Elt Ideal)) (t : Fin 32) (h : Fin 4) (d : Fin 256) (e : Fin 256) : val_main_v11 (F := Ideal) x2 (ix5 t 0 h d e) = M x2 t h d e :=
  (val_main_v11_apply x2 _).trans ((congrArg (val_main_v10 (F := Ideal) x2) (show idx_main_v11 (ix5 t 0 h d e) = ix4 t h d e from funext fun a => Fin.ext (match a with | ⟨0, _⟩ => rfl | ⟨1, _⟩ => rfl | ⟨2, _⟩ => rfl | ⟨3, _⟩ => rfl))).trans (at_v10 x2 t h d e))
theorem at_v12 (x3 : (⟨S4x32x256x256, .bf16⟩ : BufTy).Contents (Elt Ideal)) (h : Fin 4) (t : Fin 32) (d : Fin 256) (e : Fin 256) : val_main_v12 (F := Ideal) x3 (ix4 h t d e) = x3 (ix4 h t d e) :=
  val_main_v12_apply x3 _
theorem at_v13 (x3 : (⟨S4x32x256x256, .bf16⟩ : BufTy).Contents (Elt Ideal)) (t : Fin 32) (h : Fin 4) (d : Fin 256) (e : Fin 256) : val_main_v13 (F := Ideal) x3 (ix4 t h d e) = x3 (ix4 h t d e) :=
  (val_main_v13_apply x3 _).trans ((congrArg (val_main_v12 (F := Ideal) x3) (show idx_main_v13 (ix4 t h d e) = ix4 h t d e from funext fun a => Fin.ext (match a with | ⟨0, _⟩ => rfl | ⟨1, _⟩ => rfl | ⟨2, _⟩ => rfl | ⟨3, _⟩ => rfl))).trans (at_v12 x3 h t d e))
theorem at_v14 (x3 : (⟨S4x32x256x256, .bf16⟩ : BufTy).Contents (Elt Ideal)) (t : Fin 32) (h : Fin 4) (d : Fin 256) (e : Fin 256) : val_main_v14 (F := Ideal) x3 (ix5 t 0 h d e) = M x3 t h d e :=
  (val_main_v14_apply x3 _).trans ((congrArg (val_main_v13 (F := Ideal) x3) (show idx_main_v14 (ix5 t 0 h d e) = ix4 t h d e from funext fun a => Fin.ext (match a with | ⟨0, _⟩ => rfl | ⟨1, _⟩ => rfl | ⟨2, _⟩ => rfl | ⟨3, _⟩ => rfl))).trans (at_v13 x3 t h d e))
theorem at_v15 (x4 : (⟨S4x32x256x256, .bf16⟩ : BufTy).Contents (Elt Ideal)) (h : Fin 4) (t : Fin 32) (d : Fin 256) (e : Fin 256) : val_main_v15 (F := Ideal) x4 (ix4 h t d e) = x4 (ix4 h t d e) :=
  val_main_v15_apply x4 _
theorem at_v16 (x4 : (⟨S4x32x256x256, .bf16⟩ : BufTy).Contents (Elt Ideal)) (t : Fin 32) (h : Fin 4) (d : Fin 256) (e : Fin 256) : val_main_v16 (F := Ideal) x4 (ix4 t h d e) = x4 (ix4 h t d e) :=
  (val_main_v16_apply x4 _).trans ((congrArg (val_main_v15 (F := Ideal) x4) (show idx_main_v16 (ix4 t h d e) = ix4 h t d e from funext fun a => Fin.ext (match a with | ⟨0, _⟩ => rfl | ⟨1, _⟩ => rfl | ⟨2, _⟩ => rfl | ⟨3, _⟩ => rfl))).trans (at_v15 x4 h t d e))
theorem at_v17 (x4 : (⟨S4x32x256x256, .bf16⟩ : BufTy).Contents (Elt Ideal)) (t : Fin 32) (h : Fin 4) (d : Fin 256) (e : Fin 256) : val_main_v17 (F := Ideal) x4 (ix5 t 0 h d e) = M x4 t h d e :=
  (val_main_v17_apply x4 _).trans ((congrArg (val_main_v16 (F := Ideal) x4) (show idx_main_v17 (ix5 t 0 h d e) = ix4 t h d e from funext fun a => Fin.ext (match a with | ⟨0, _⟩ => rfl | ⟨1, _⟩ => rfl | ⟨2, _⟩ => rfl | ⟨3, _⟩ => rfl))).trans (at_v16 x4 t h d e))
theorem at_v18 (x5 : (⟨S4x32x256x256, .bf16⟩ : BufTy).Contents (Elt Ideal)) (h : Fin 4) (t : Fin 32) (d : Fin 256) (e : Fin 256) : val_main_v18 (F := Ideal) x5 (ix4 h t d e) = x5 (ix4 h t d e) :=
  val_main_v18_apply x5 _
theorem at_v19 (x5 : (⟨S4x32x256x256, .bf16⟩ : BufTy).Contents (Elt Ideal)) (t : Fin 32) (h : Fin 4) (d : Fin 256) (e : Fin 256) : val_main_v19 (F := Ideal) x5 (ix4 t h d e) = x5 (ix4 h t d e) :=
  (val_main_v19_apply x5 _).trans ((congrArg (val_main_v18 (F := Ideal) x5) (show idx_main_v19 (ix4 t h d e) = ix4 h t d e from funext fun a => Fin.ext (match a with | ⟨0, _⟩ => rfl | ⟨1, _⟩ => rfl | ⟨2, _⟩ => rfl | ⟨3, _⟩ => rfl))).trans (at_v18 x5 h t d e))
theorem at_v20 (x5 : (⟨S4x32x256x256, .bf16⟩ : BufTy).Contents (Elt Ideal)) (t : Fin 32) (h : Fin 4) (d : Fin 256) (e : Fin 256) : val_main_v20 (F := Ideal) x5 (ix5 t 0 h d e) = M x5 t h d e :=
  (val_main_v20_apply x5 _).trans ((congrArg (val_main_v19 (F := Ideal) x5) (show idx_main_v20 (ix5 t 0 h d e) = ix4 t h d e from funext fun a => Fin.ext (match a with | ⟨0, _⟩ => rfl | ⟨1, _⟩ => rfl | ⟨2, _⟩ => rfl | ⟨3, _⟩ => rfl))).trans (at_v19 x5 t h d e))
/-! ## The rotary embeddings -/
theorem at_v32 (t : Fin 32) (l : Fin 128) (p : Fin 128) : val_main_v32 (F := Ideal) (ix2 (row t l) p) = C t l p :=
  rfl
theorem at_v34 (t : Fin 32) (l : Fin 128) (p : Fin 128) : val_main_v34 (F := Ideal) (ix2 (row t l) p) = Sn t l p :=
  rfl
theorem at_v55 (t : Fin 32) (l : Fin 128) (p : Fin 128) : val_main_v55 (F := Ideal) (ix2 (row t l) p) = C t l p :=
  rfl
theorem at_v57 (t : Fin 32) (l : Fin 128) (p : Fin 128) : val_main_v57 (F := Ideal) (ix2 (row t l) p) = Sn t l p :=
  rfl
theorem at_v33 (t : Fin 32) (l : Fin 128) (p : Fin 128) : val_main_v33 (F := Ideal) (ix4 0 (row t l) 0 p) = C t l p :=
  (val_main_v33_apply _).trans ((congrArg (val_main_v32 (F := Ideal)) (show idx_main_v33 (ix4 0 (row t l) 0 p) = ix2 (row t l) p from funext fun a => Fin.ext (match a with | ⟨0, _⟩ => rfl | ⟨1, _⟩ => rfl))).trans (at_v32 t l p))
theorem at_v35 (t : Fin 32) (l : Fin 128) (p : Fin 128) : val_main_v35 (F := Ideal) (ix4 0 (row t l) 0 p) = Sn t l p :=
  (val_main_v35_apply _).trans ((congrArg (val_main_v34 (F := Ideal)) (show idx_main_v35 (ix4 0 (row t l) 0 p) = ix2 (row t l) p from funext fun a => Fin.ext (match a with | ⟨0, _⟩ => rfl | ⟨1, _⟩ => rfl))).trans (at_v34 t l p))
theorem at_v56 (t : Fin 32) (l : Fin 128) (p : Fin 128) : val_main_v56 (F := Ideal) (ix4 0 (row t l) 0 p) = C t l p :=
  (val_main_v56_apply _).trans ((congrArg (val_main_v55 (F := Ideal)) (show idx_main_v56 (ix4 0 (row t l) 0 p) = ix2 (row t l) p from funext fun a => Fin.ext (match a with | ⟨0, _⟩ => rfl | ⟨1, _⟩ => rfl))).trans (at_v55 t l p))
theorem at_v58 (t : Fin 32) (l : Fin 128) (p : Fin 128) : val_main_v58 (F := Ideal) (ix4 0 (row t l) 0 p) = Sn t l p :=
  (val_main_v58_apply _).trans ((congrArg (val_main_v57 (F := Ideal)) (show idx_main_v58 (ix4 0 (row t l) 0 p) = ix2 (row t l) p from funext fun a => Fin.ext (match a with | ⟨0, _⟩ => rfl | ⟨1, _⟩ => rfl))).trans (at_v57 t l p))
theorem at_v36 (x0 : (⟨S4096x14848, .f32⟩ : BufTy).Contents (Elt Ideal)) (t : Fin 32) (l : Fin 128) (h : Fin 4) (p : Fin 128) : val_main_v36 (F := Ideal) x0 (ix4 0 (row t l) h p) = X 0 x0 t h l ((Spec.lo p)) :=
  (val_main_v36_apply x0 _).trans ((congrArg (val_main_v2 (F := Ideal) x0) (show idx_main_v36 (ix4 0 (row t l) h p) = ix4 0 (row t l) h (Spec.lo p) from funext fun a => Fin.ext (match a with | ⟨0, _⟩ => rfl | ⟨1, _⟩ => rfl | ⟨2, _⟩ => rfl | ⟨3, _⟩ => rfl))).trans (at_v2 x0 t l h ((Spec.lo p))))
theorem at_v37 (x0 : (⟨S4096x14848, .f32⟩ : BufTy).Contents (Elt Ideal)) (t : Fin 32) (l : Fin 128) (h : Fin 4) (p : Fin 128) : val_main_v37 (F := Ideal) x0 (ix4 0 (row t l) h p) = X 0 x0 t h l ((Spec.hi p)) :=
  (val_main_v37_apply x0 _).trans ((congrArg (val_main_v2 (F := Ideal) x0) (show idx_main_v37 (ix4 0 (row t l) h p) = ix4 0 (row t l) h (Spec.hi p) from funext fun a => Fin.ext (match a with | ⟨0, _⟩ => rfl | ⟨1, _⟩ => rfl | ⟨2, _⟩ => rfl | ⟨3, _⟩ => by show 128 + p.val = (p.val + 128); have := p.isLt; omega))).trans (at_v2 x0 t l h ((Spec.hi p))))
theorem at_v38 (t : Fin 32) (l : Fin 128) (h : Fin 4) (p : Fin 128) : val_main_v38 (F := Ideal) (ix4 0 (row t l) h p) = C t l p :=
  (val_main_v38_apply _).trans ((congrArg (val_main_v33 (F := Ideal)) (show idx_main_v38 (ix4 0 (row t l) h p) = ix4 0 (row t l) 0 p from funext fun a => Fin.ext (match a with | ⟨0, _⟩ => rfl | ⟨1, _⟩ => rfl | ⟨2, _⟩ => rfl | ⟨3, _⟩ => rfl))).trans (at_v33 t l p))
theorem at_v39 (x0 : (⟨S4096x14848, .f32⟩ : BufTy).Contents (Elt Ideal)) (t : Fin 32) (l : Fin 128) (h : Fin 4) (p : Fin 128) : val_main_v39 (F := Ideal) x0 (ix4 0 (row t l) h p) = X 0 x0 t h l ((Spec.lo p)) * C t l p :=
  (val_main_v39_apply x0 _).trans (congrArg₂ (fun u v : EReal => u * v) (at_v36 x0 t l h p) (at_v38 t l h p))
theorem at_v40 (t : Fin 32) (l : Fin 128) (h : Fin 4) (p : Fin 128) : val_main_v40 (F := Ideal) (ix4 0 (row t l) h p) = Sn t l p :=
  (val_main_v40_apply _).trans ((congrArg (val_main_v35 (F := Ideal)) (show idx_main_v40 (ix4 0 (row t l) h p) = ix4 0 (row t l) 0 p from funext fun a => Fin.ext (match a with | ⟨0, _⟩ => rfl | ⟨1, _⟩ => rfl | ⟨2, _⟩ => rfl | ⟨3, _⟩ => rfl))).trans (at_v35 t l p))
theorem at_v41 (x0 : (⟨S4096x14848, .f32⟩ : BufTy).Contents (Elt Ideal)) (t : Fin 32) (l : Fin 128) (h : Fin 4) (p : Fin 128) : val_main_v41 (F := Ideal) x0 (ix4 0 (row t l) h p) = X 0 x0 t h l ((Spec.hi p)) * Sn t l p :=
  (val_main_v41_apply x0 _).trans (congrArg₂ (fun u v : EReal => u * v) (at_v37 x0 t l h p) (at_v40 t l h p))
theorem at_v42 (x0 : (⟨S4096x14848, .f32⟩ : BufTy).Contents (Elt Ideal)) (t : Fin 32) (l : Fin 128) (h : Fin 4) (p : Fin 128) : val_main_v42 (F := Ideal) x0 (ix4 0 (row t l) h p) = (X 0 x0 t h l ((Spec.lo p)) * C t l p) - (X 0 x0 t h l ((Spec.hi p)) * Sn t l p) :=
  (val_main_v42_apply x0 _).trans (congrArg₂ (fun u v : EReal => u - v) (at_v39 x0 t l h p) (at_v41 x0 t l h p))
theorem at_v43 (t : Fin 32) (l : Fin 128) (h : Fin 4) (p : Fin 128) : val_main_v43 (F := Ideal) (ix4 0 (row t l) h p) = C t l p :=
  (val_main_v43_apply _).trans ((congrArg (val_main_v33 (F := Ideal)) (show idx_main_v43 (ix4 0 (row t l) h p) = ix4 0 (row t l) 0 p from funext fun a => Fin.ext (match a with | ⟨0, _⟩ => rfl | ⟨1, _⟩ => rfl | ⟨2, _⟩ => rfl | ⟨3, _⟩ => rfl))).trans (at_v33 t l p))
theorem at_v44 (x0 : (⟨S4096x14848, .f32⟩ : BufTy).Contents (Elt Ideal)) (t : Fin 32) (l : Fin 128) (h : Fin 4) (p : Fin 128) : val_main_v44 (F := Ideal) x0 (ix4 0 (row t l) h p) = X 0 x0 t h l ((Spec.hi p)) * C t l p :=
  (val_main_v44_apply x0 _).trans (congrArg₂ (fun u v : EReal => u * v) (at_v37 x0 t l h p) (at_v43 t l h p))
theorem at_v45 (t : Fin 32) (l : Fin 128) (h : Fin 4) (p : Fin 128) : val_main_v45 (F := Ideal) (ix4 0 (row t l) h p) = Sn t l p :=
  (val_main_v45_apply _).trans ((congrArg (val_main_v35 (F := Ideal)) (show idx_main_v45 (ix4 0 (row t l) h p) = ix4 0 (row t l) 0 p from funext fun a => Fin.ext (match a with | ⟨0, _⟩ => rfl | ⟨1, _⟩ => rfl | ⟨2, _⟩ => rfl | ⟨3, _⟩ => rfl))).trans (at_v35 t l p))
theorem at_v46 (x0 : (⟨S4096x14848, .f32⟩ : BufTy).Contents (Elt Ideal)) (t : Fin 32) (l : Fin 128) (h : Fin 4) (p : Fin 128) : val_main_v46 (F := Ideal) x0 (ix4 0 (row t l) h p) = X 0 x0 t h l ((Spec.lo p)) * Sn t l p :=
  (val_main_v46_apply x0 _).trans (congrArg₂ (fun u v : EReal => u * v) (at_v36 x0 t l h p) (at_v45 t l h p))
theorem at_v47 (x0 : (⟨S4096x14848, .f32⟩ : BufTy).Contents (Elt Ideal)) (t : Fin 32) (l : Fin 128) (h : Fin 4) (p : Fin 128) : val_main_v47 (F := Ideal) x0 (ix4 0 (row t l) h p) = (X 0 x0 t h l ((Spec.hi p)) * C t l p) + (X 0 x0 t h l ((Spec.lo p)) * Sn t l p) :=
  (val_main_v47_apply x0 _).trans (congrArg₂ (fun u v : EReal => u + v) (at_v44 x0 t l h p) (at_v46 x0 t l h p))
theorem at_v48 (x0 : (⟨S4096x14848, .f32⟩ : BufTy).Contents (Elt Ideal)) (t : Fin 32) (l : Fin 128) (h : Fin 4) (d : Fin 256) :
    val_main_v48 (F := Ideal) x0 (ix4 0 (row t l) h d) = Spec.rotQ (C t) (Sn t) (X 0 x0 t h) l d := by
  refine Spec.half_cases (f := fun d => val_main_v48 (F := Ideal) x0 (ix4 0 (row t l) h d))
    (g := fun d => Spec.rotQ (C t) (Sn t) (X 0 x0 t h) l d) (fun p => ?_) (fun p => ?_) d
  · refine Eq.trans ?_ ((at_v42 x0 t l h p).trans (rotQ_lo _ _ _ _ _).symm)
    unfold val_main_v48
    exact concatenate_pair_apply_left (t := S1x4096x4x256) 3 (val_main_v42 (F := Ideal) x0) (val_main_v47 (F := Ideal) x0) concatenates_S1x4096x4x128_S1x4096x4x128_S1x4096x4x256_d3 (ix4 0 (row t l) h (Spec.lo p)) rfl (ix4 0 (row t l) h p)
      (fun b => match b with | ⟨0, _⟩ => rfl | ⟨1, _⟩ => rfl | ⟨2, _⟩ => rfl | ⟨3, _⟩ => rfl)
  · refine Eq.trans ?_ ((at_v47 x0 t l h p).trans (rotQ_hi _ _ _ _ _).symm)
    unfold val_main_v48
    exact concatenate_pair_apply_right (t := S1x4096x4x256) 3 (val_main_v42 (F := Ideal) x0) (val_main_v47 (F := Ideal) x0) concatenates_S1x4096x4x128_S1x4096x4x128_S1x4096x4x256_d3 (ix4 0 (row t l) h (Spec.hi p)) rfl rfl (ix4 0 (row t l) h p)
      (fun b hb => match b with | ⟨0, _⟩ => rfl | ⟨1, _⟩ => rfl | ⟨2, _⟩ => rfl | ⟨3, _⟩ => absurd rfl hb) rfl
theorem at_v59 (x0 : (⟨S4096x14848, .f32⟩ : BufTy).Contents (Elt Ideal)) (t : Fin 32) (l : Fin 128) (h : Fin 4) (p : Fin 128) : val_main_v59 (F := Ideal) x0 (ix4 0 (row t l) h p) = X 1 x0 t h l ((Spec.lo p)) :=
  (val_main_v59_apply x0 _).trans ((congrArg (val_main_v5 (F := Ideal) x0) (show idx_main_v59 (ix4 0 (row t l) h p) = ix4 0 (row t l) h (Spec.lo p) from funext fun a => Fin.ext (match a with | ⟨0, _⟩ => rfl | ⟨1, _⟩ => rfl | ⟨2, _⟩ => rfl | ⟨3, _⟩ => rfl))).trans (at_v5 x0 t l h ((Spec.lo p))))
theorem at_v60 (x0 : (⟨S4096x14848, .f32⟩ : BufTy).Contents (Elt Ideal)) (t : Fin 32) (l : Fin 128) (h : Fin 4) (p : Fin 128) : val_main_v60 (F := Ideal) x0 (ix4 0 (row t l) h p) = X 1 x0 t h l ((Spec.hi p)) :=
  (val_main_v60_apply x0 _).trans ((congrArg (val_main_v5 (F := Ideal) x0) (show idx_main_v60 (ix4 0 (row t l) h p) = ix4 0 (row t l) h (Spec.hi p) from funext fun a => Fin.ext (match a with | ⟨0, _⟩ => rfl | ⟨1, _⟩ => rfl | ⟨2, _⟩ => rfl | ⟨3, _⟩ => by show 128 + p.val = (p.val + 128); have := p.isLt; omega))).trans (at_v5 x0 t l h ((Spec.hi p))))
theorem at_v61 (t : Fin 32) (l : Fin 128) (h : Fin 4) (p : Fin 128) : val_main_v61 (F := Ideal) (ix4 0 (row t l) h p) = C t l p :=
  (val_main_v61_apply _).trans ((congrArg (val_main_v56 (F := Ideal)) (show idx_main_v61 (ix4 0 (row t l) h p) = ix4 0 (row t l) 0 p from funext fun a => Fin.ext (match a with | ⟨0, _⟩ => rfl | ⟨1, _⟩ => rfl | ⟨2, _⟩ => rfl | ⟨3, _⟩ => rfl))).trans (at_v56 t l p))
theorem at_v62 (x0 : (⟨S4096x14848, .f32⟩ : BufTy).Contents (Elt Ideal)) (t : Fin 32) (l : Fin 128) (h : Fin 4) (p : Fin 128) : val_main_v62 (F := Ideal) x0 (ix4 0 (row t l) h p) = X 1 x0 t h l ((Spec.lo p)) * C t l p :=
  (val_main_v62_apply x0 _).trans (congrArg₂ (fun u v : EReal => u * v) (at_v59 x0 t l h p) (at_v61 t l h p))
theorem at_v63 (t : Fin 32) (l : Fin 128) (h : Fin 4) (p : Fin 128) : val_main_v63 (F := Ideal) (ix4 0 (row t l) h p) = Sn t l p :=
  (val_main_v63_apply _).trans ((congrArg (val_main_v58 (F := Ideal)) (show idx_main_v63 (ix4 0 (row t l) h p) = ix4 0 (row t l) 0 p from funext fun a => Fin.ext (match a with | ⟨0, _⟩ => rfl | ⟨1, _⟩ => rfl | ⟨2, _⟩ => rfl | ⟨3, _⟩ => rfl))).trans (at_v58 t l p))
theorem at_v64 (x0 : (⟨S4096x14848, .f32⟩ : BufTy).Contents (Elt Ideal)) (t : Fin 32) (l : Fin 128) (h : Fin 4) (p : Fin 128) : val_main_v64 (F := Ideal) x0 (ix4 0 (row t l) h p) = X 1 x0 t h l ((Spec.hi p)) * Sn t l p :=
  (val_main_v64_apply x0 _).trans (congrArg₂ (fun u v : EReal => u * v) (at_v60 x0 t l h p) (at_v63 t l h p))
theorem at_v65 (x0 : (⟨S4096x14848, .f32⟩ : BufTy).Contents (Elt Ideal)) (t : Fin 32) (l : Fin 128) (h : Fin 4) (p : Fin 128) : val_main_v65 (F := Ideal) x0 (ix4 0 (row t l) h p) = (X 1 x0 t h l ((Spec.lo p)) * C t l p) - (X 1 x0 t h l ((Spec.hi p)) * Sn t l p) :=
  (val_main_v65_apply x0 _).trans (congrArg₂ (fun u v : EReal => u - v) (at_v62 x0 t l h p) (at_v64 x0 t l h p))
theorem at_v66 (t : Fin 32) (l : Fin 128) (h : Fin 4) (p : Fin 128) : val_main_v66 (F := Ideal) (ix4 0 (row t l) h p) = C t l p :=
  (val_main_v66_apply _).trans ((congrArg (val_main_v56 (F := Ideal)) (show idx_main_v66 (ix4 0 (row t l) h p) = ix4 0 (row t l) 0 p from funext fun a => Fin.ext (match a with | ⟨0, _⟩ => rfl | ⟨1, _⟩ => rfl | ⟨2, _⟩ => rfl | ⟨3, _⟩ => rfl))).trans (at_v56 t l p))
theorem at_v67 (x0 : (⟨S4096x14848, .f32⟩ : BufTy).Contents (Elt Ideal)) (t : Fin 32) (l : Fin 128) (h : Fin 4) (p : Fin 128) : val_main_v67 (F := Ideal) x0 (ix4 0 (row t l) h p) = X 1 x0 t h l ((Spec.hi p)) * C t l p :=
  (val_main_v67_apply x0 _).trans (congrArg₂ (fun u v : EReal => u * v) (at_v60 x0 t l h p) (at_v66 t l h p))
theorem at_v68 (t : Fin 32) (l : Fin 128) (h : Fin 4) (p : Fin 128) : val_main_v68 (F := Ideal) (ix4 0 (row t l) h p) = Sn t l p :=
  (val_main_v68_apply _).trans ((congrArg (val_main_v58 (F := Ideal)) (show idx_main_v68 (ix4 0 (row t l) h p) = ix4 0 (row t l) 0 p from funext fun a => Fin.ext (match a with | ⟨0, _⟩ => rfl | ⟨1, _⟩ => rfl | ⟨2, _⟩ => rfl | ⟨3, _⟩ => rfl))).trans (at_v58 t l p))
theorem at_v69 (x0 : (⟨S4096x14848, .f32⟩ : BufTy).Contents (Elt Ideal)) (t : Fin 32) (l : Fin 128) (h : Fin 4) (p : Fin 128) : val_main_v69 (F := Ideal) x0 (ix4 0 (row t l) h p) = X 1 x0 t h l ((Spec.lo p)) * Sn t l p :=
  (val_main_v69_apply x0 _).trans (congrArg₂ (fun u v : EReal => u * v) (at_v59 x0 t l h p) (at_v68 t l h p))
theorem at_v70 (x0 : (⟨S4096x14848, .f32⟩ : BufTy).Contents (Elt Ideal)) (t : Fin 32) (l : Fin 128) (h : Fin 4) (p : Fin 128) : val_main_v70 (F := Ideal) x0 (ix4 0 (row t l) h p) = (X 1 x0 t h l ((Spec.hi p)) * C t l p) + (X 1 x0 t h l ((Spec.lo p)) * Sn t l p) :=
  (val_main_v70_apply x0 _).trans (congrArg₂ (fun u v : EReal => u + v) (at_v67 x0 t l h p) (at_v69 x0 t l h p))
theorem at_v71 (x0 : (⟨S4096x14848, .f32⟩ : BufTy).Contents (Elt Ideal)) (t : Fin 32) (l : Fin 128) (h : Fin 4) (d : Fin 256) :
    val_main_v71 (F := Ideal) x0 (ix4 0 (row t l) h d) = Spec.rotQ (C t) (Sn t) (X 1 x0 t h) l d := by
  refine Spec.half_cases (f := fun d => val_main_v71 (F := Ideal) x0 (ix4 0 (row t l) h d))
    (g := fun d => Spec.rotQ (C t) (Sn t) (X 1 x0 t h) l d) (fun p => ?_) (fun p => ?_) d
  · refine Eq.trans ?_ ((at_v65 x0 t l h p).trans (rotQ_lo _ _ _ _ _).symm)
    unfold val_main_v71
    exact concatenate_pair_apply_left (t := S1x4096x4x256) 3 (val_main_v65 (F := Ideal) x0) (val_main_v70 (F := Ideal) x0) concatenates_S1x4096x4x128_S1x4096x4x128_S1x4096x4x256_d3 (ix4 0 (row t l) h (Spec.lo p)) rfl (ix4 0 (row t l) h p)
      (fun b => match b with | ⟨0, _⟩ => rfl | ⟨1, _⟩ => rfl | ⟨2, _⟩ => rfl | ⟨3, _⟩ => rfl)
  · refine Eq.trans ?_ ((at_v70 x0 t l h p).trans (rotQ_hi _ _ _ _ _).symm)
    unfold val_main_v71
    exact concatenate_pair_apply_right (t := S1x4096x4x256) 3 (val_main_v65 (F := Ideal) x0) (val_main_v70 (F := Ideal) x0) concatenates_S1x4096x4x128_S1x4096x4x128_S1x4096x4x256_d3 (ix4 0 (row t l) h (Spec.hi p)) rfl rfl (ix4 0 (row t l) h p)
      (fun b hb => match b with | ⟨0, _⟩ => rfl | ⟨1, _⟩ => rfl | ⟨2, _⟩ => rfl | ⟨3, _⟩ => absurd rfl hb) rfl
theorem at_v72 (t : Fin 32) (l : Fin 128) (h : Fin 4) (d : Fin 256) : val_main_v72 (F := Ideal) (ix4 0 (row t l) h d) = Ideal.ofBits .f32 0x3D800000#32 :=
  val_main_v72_apply _
theorem at_v73 (x0 : (⟨S4096x14848, .f32⟩ : BufTy).Contents (Elt Ideal)) (t : Fin 32) (l : Fin 128) (h : Fin 4) (d : Fin 256) : val_main_v73 (F := Ideal) x0 (ix4 0 (row t l) h d) = K x0 t h l d :=
  (val_main_v73_apply x0 _).trans (congrArg₂ (fun u v : EReal => u * v) (at_v71 x0 t l h d) (at_v72 t l h d))
/-! ## Decays -/
theorem at_v74 (x6 : (⟨S4, .f32⟩ : BufTy).Contents (Elt Ideal)) (h : Fin 4) : val_main_v74 (F := Ideal) x6 (ix1 h) = Ideal.exp (x6 (ix1 h)) :=
  (val_main_v74_apply x6 _).trans (congrArg (fun u : EReal => Ideal.exp u) (Eq.refl (x6 (ix1 h))))
theorem at_v75 (x6 : (⟨S4, .f32⟩ : BufTy).Contents (Elt Ideal)) (h : Fin 4) : val_main_v75 (F := Ideal) x6 (ix1 h) = Spec.lg (x6 (ix1 h)) :=
  (val_main_v75_apply x6 _).trans (congrArg (fun u : EReal => -u) (at_v74 x6 h))
theorem at_v76 (x7 : (⟨S4, .f32⟩ : BufTy).Contents (Elt Ideal)) (h : Fin 4) : val_main_v76 (F := Ideal) x7 (ix1 h) = Ideal.exp (x7 (ix1 h)) :=
  (val_main_v76_apply x7 _).trans (congrArg (fun u : EReal => Ideal.exp u) (Eq.refl (x7 (ix1 h))))
theorem at_v77 (x7 : (⟨S4, .f32⟩ : BufTy).Contents (Elt Ideal)) (h : Fin 4) : val_main_v77 (F := Ideal) x7 (ix1 h) = Spec.lg (x7 (ix1 h)) :=
  (val_main_v77_apply x7 _).trans (congrArg (fun u : EReal => -u) (at_v76 x7 h))
theorem at_v78 (l : Fin 128) : val_main_v78 (F := Ideal) (ix1 l) = Spec.pos l := rfl
theorem at_v79 (l : Fin 128) : val_main_v79 (F := Ideal) (ix2 l 0) = Spec.pos l :=
  (val_main_v79_apply _).trans ((congrArg (val_main_v78 (F := Ideal)) (show idx_main_v79 (ix2 l 0) = ix1 l from funext fun a => Fin.ext (match a with | ⟨0, _⟩ => rfl))).trans (at_v78 l))
theorem at_v80 (l : Fin 128) : val_main_v80 (F := Ideal) (ix2 0 l) = Spec.pos l :=
  (val_main_v80_apply _).trans ((congrArg (val_main_v78 (F := Ideal)) (show idx_main_v80 (ix2 0 l) = ix1 l from funext fun a => Fin.ext (match a with | ⟨0, _⟩ => rfl))).trans (at_v78 l))
theorem at_v81 (l : Fin 128) (j : Fin 128) : val_main_v81 (F := Ideal) (ix2 l j) = Spec.pos l :=
  (val_main_v81_apply _).trans ((congrArg (val_main_v79 (F := Ideal)) (show idx_main_v81 (ix2 l j) = ix2 l 0 from funext fun a => Fin.ext (match a with | ⟨0, _⟩ => rfl | ⟨1, _⟩ => rfl))).trans (at_v79 l))
theorem at_v82 (l : Fin 128) (j : Fin 128) : val_main_v82 (F := Ideal) (ix2 l j) = Spec.pos j :=
  (val_main_v82_apply _).trans ((congrArg (val_main_v80 (F := Ideal)) (show idx_main_v82 (ix2 l j) = ix2 0 j from funext fun a => Fin.ext (match a with | ⟨0, _⟩ => rfl | ⟨1, _⟩ => rfl))).trans (at_v80 j))
theorem at_v83 (l : Fin 128) (j : Fin 128) : val_main_v83 (F := Ideal) (ix2 l j) = Spec.pos l - Spec.pos j :=
  (val_main_v83_apply _).trans (congrArg₂ (fun u v : EReal => u - v) (at_v81 l j) (at_v82 l j))
theorem at_v84 (l : Fin 128) (j : Fin 128) : val_main_v84 (F := Ideal) (ix2 l j) = Spec.dist l j :=
  (val_main_v84_apply _).trans (congrArg (fun u : EReal => max u (-u)) (at_v83 l j))
theorem at_v85 (l : Fin 128) (j : Fin 128) : val_main_v85 (F := Ideal) (ix3 0 l j) = Spec.dist l j :=
  (val_main_v85_apply _).trans ((congrArg (val_main_v84 (F := Ideal)) (show idx_main_v85 (ix3 0 l j) = ix2 l j from funext fun a => Fin.ext (match a with | ⟨0, _⟩ => rfl | ⟨1, _⟩ => rfl))).trans (at_v84 l j))
theorem at_v86 (l : Fin 128) (j : Fin 128) : val_main_v86 (F := Ideal) (ix3 0 l j) = (Spec.pos l - Spec.pos j) :=
  (val_main_v86_apply _).trans ((congrArg (val_main_v83 (F := Ideal)) (show idx_main_v86 (ix3 0 l j) = ix2 l j from funext fun a => Fin.ext (match a with | ⟨0, _⟩ => rfl | ⟨1, _⟩ => rfl))).trans (at_v83 l j))
theorem at_v87 (l : Fin 128) (j : Fin 128) : val_main_v87 (F := Ideal) (ix3 0 l j) = Ideal.ofBits .f32 0x00000000#32 :=
  val_main_v87_apply _
theorem at_v88 (l : Fin 128) (j : Fin 128) : val_main_v88 (F := Ideal) (ix3 0 l j) = Ideal.cmp .oge (Spec.pos l - Spec.pos j) (Ideal.ofBits .f32 0x00000000#32) :=
  (val_main_v88_apply _).trans (congrArg₂ (fun u v : EReal => Ideal.cmp .oge u v) (at_v86 l j) (at_v87 l j))
theorem at_v89 (x6 : (⟨S4, .f32⟩ : BufTy).Contents (Elt Ideal)) (h : Fin 4) : val_main_v89 (F := Ideal) x6 (ix3 h 0 0) = Spec.lg (x6 (ix1 h)) :=
  (val_main_v89_apply x6 _).trans ((congrArg (val_main_v75 (F := Ideal) x6) (show idx_main_v89 (ix3 h 0 0) = ix1 h from funext fun a => Fin.ext (match a with | ⟨0, _⟩ => rfl))).trans (at_v75 x6 h))
theorem at_v90 (x6 : (⟨S4, .f32⟩ : BufTy).Contents (Elt Ideal)) (h : Fin 4) (l : Fin 128) (j : Fin 128) : val_main_v90 (F := Ideal) x6 (ix3 h l j) = Spec.lg (x6 (ix1 h)) :=
  (val_main_v90_apply x6 _).trans ((congrArg (val_main_v89 (F := Ideal) x6) (show idx_main_v90 (ix3 h l j) = ix3 h 0 0 from funext fun a => Fin.ext (match a with | ⟨0, _⟩ => rfl | ⟨1, _⟩ => rfl | ⟨2, _⟩ => rfl))).trans (at_v89 x6 h))
theorem at_v91 (h : Fin 4) (l : Fin 128) (j : Fin 128) : val_main_v91 (F := Ideal) (ix3 h l j) = Spec.dist l j :=
  (val_main_v91_apply _).trans ((congrArg (val_main_v85 (F := Ideal)) (show idx_main_v91 (ix3 h l j) = ix3 0 l j from funext fun a => Fin.ext (match a with | ⟨0, _⟩ => rfl | ⟨1, _⟩ => rfl | ⟨2, _⟩ => rfl))).trans (at_v85 l j))
theorem at_v92 (x6 : (⟨S4, .f32⟩ : BufTy).Contents (Elt Ideal)) (h : Fin 4) (l : Fin 128) (j : Fin 128) : val_main_v92 (F := Ideal) x6 (ix3 h l j) = Spec.lg (x6 (ix1 h)) * Spec.dist l j :=
  (val_main_v92_apply x6 _).trans (congrArg₂ (fun u v : EReal => u * v) (at_v90 x6 h l j) (at_v91 h l j))
theorem at_v93 (x6 : (⟨S4, .f32⟩ : BufTy).Contents (Elt Ideal)) (h : Fin 4) (l : Fin 128) (j : Fin 128) : val_main_v93 (F := Ideal) x6 (ix3 h l j) = Ideal.exp (Spec.lg (x6 (ix1 h)) * Spec.dist l j) :=
  (val_main_v93_apply x6 _).trans (congrArg (fun u : EReal => Ideal.exp u) (at_v92 x6 h l j))
theorem at_v94 (x7 : (⟨S4, .f32⟩ : BufTy).Contents (Elt Ideal)) (h : Fin 4) : val_main_v94 (F := Ideal) x7 (ix3 h 0 0) = Spec.lg (x7 (ix1 h)) :=
  (val_main_v94_apply x7 _).trans ((congrArg (val_main_v77 (F := Ideal) x7) (show idx_main_v94 (ix3 h 0 0) = ix1 h from funext fun a => Fin.ext (match a with | ⟨0, _⟩ => rfl))).trans (at_v77 x7 h))
theorem at_v95 (x7 : (⟨S4, .f32⟩ : BufTy).Contents (Elt Ideal)) (h : Fin 4) (l : Fin 128) (j : Fin 128) : val_main_v95 (F := Ideal) x7 (ix3 h l j) = Spec.lg (x7 (ix1 h)) :=
  (val_main_v95_apply x7 _).trans ((congrArg (val_main_v94 (F := Ideal) x7) (show idx_main_v95 (ix3 h l j) = ix3 h 0 0 from funext fun a => Fin.ext (match a with | ⟨0, _⟩ => rfl | ⟨1, _⟩ => rfl | ⟨2, _⟩ => rfl))).trans (at_v94 x7 h))
theorem at_v96 (h : Fin 4) (l : Fin 128) (j : Fin 128) : val_main_v96 (F := Ideal) (ix3 h l j) = Spec.dist l j :=
  (val_main_v96_apply _).trans ((congrArg (val_main_v85 (F := Ideal)) (show idx_main_v96 (ix3 h l j) = ix3 0 l j from funext fun a => Fin.ext (match a with | ⟨0, _⟩ => rfl | ⟨1, _⟩ => rfl | ⟨2, _⟩ => rfl))).trans (at_v85 l j))
theorem at_v97 (x7 : (⟨S4, .f32⟩ : BufTy).Contents (Elt Ideal)) (h : Fin 4) (l : Fin 128) (j : Fin 128) : val_main_v97 (F := Ideal) x7 (ix3 h l j) = Spec.lg (x7 (ix1 h)) * Spec.dist l j :=
  (val_main_v97_apply x7 _).trans (congrArg₂ (fun u v : EReal => u * v) (at_v95 x7 h l j) (at_v96 h l j))
theorem at_v98 (x7 : (⟨S4, .f32⟩ : BufTy).Contents (Elt Ideal)) (h : Fin 4) (l : Fin 128) (j : Fin 128) : val_main_v98 (F := Ideal) x7 (ix3 h l j) = Ideal.exp (Spec.lg (x7 (ix1 h)) * Spec.dist l j) :=
  (val_main_v98_apply x7 _).trans (congrArg (fun u : EReal => Ideal.exp u) (at_v97 x7 h l j))
theorem at_call1_v0 (h : Fin 4) (l : Fin 128) (j : Fin 128) : val_main_call1_v0 (F := Ideal) (ix3 h l j) = Ideal.cmp .oge (Spec.pos l - Spec.pos j) (Ideal.ofBits .f32 0x00000000#32) :=
  (val_main_call1_v0_apply _).trans ((congrArg (val_main_v88 (F := Ideal)) (show idx_main_call1_v0 (ix3 h l j) = ix3 0 l j from funext fun a => Fin.ext (match a with | ⟨0, _⟩ => rfl | ⟨1, _⟩ => rfl | ⟨2, _⟩ => rfl))).trans (at_v88 l j))
theorem at_v99 (x6 : (⟨S4, .f32⟩ : BufTy).Contents (Elt Ideal)) (x7 : (⟨S4, .f32⟩ : BufTy).Contents (Elt Ideal)) (h : Fin 4) (l : Fin 128) (j : Fin 128) : val_main_v99 (F := Ideal) x6 x7 (ix3 h l j) = Spec.dm (x6 (ix1 h)) (x7 (ix1 h)) l j :=
  by rw [val_main_v99_apply, at_call1_v0, at_v93, at_v98]; rfl
theorem at_v109 (x6 : (⟨S4, .f32⟩ : BufTy).Contents (Elt Ideal)) (h : Fin 4) : val_main_v109 (F := Ideal) x6 (ix2 0 h) = Spec.lg (x6 (ix1 h)) :=
  (val_main_v109_apply x6 _).trans ((congrArg (val_main_v75 (F := Ideal) x6) (show idx_main_v109 (ix2 0 h) = ix1 h from funext fun a => Fin.ext (match a with | ⟨0, _⟩ => rfl))).trans (at_v75 x6 h))
theorem at_v110 (l : Fin 128) : val_main_v110 (F := Ideal) (ix1 l) = Ideal.ofBits .f32 0x42FE0000#32 :=
  val_main_v110_apply _
theorem at_v111 (l : Fin 128) : val_main_v111 (F := Ideal) (ix1 l) = Ideal.ofBits .f32 0x42FE0000#32 - Spec.pos l :=
  (val_main_v111_apply _).trans (congrArg₂ (fun u v : EReal => u - v) (at_v110 l) (at_v78 l))
theorem at_v112 (l : Fin 128) : val_main_v112 (F := Ideal) (ix2 l 0) = (Ideal.ofBits .f32 0x42FE0000#32 - Spec.pos l) :=
  (val_main_v112_apply _).trans ((congrArg (val_main_v111 (F := Ideal)) (show idx_main_v112 (ix2 l 0) = ix1 l from funext fun a => Fin.ext (match a with | ⟨0, _⟩ => rfl))).trans (at_v111 l))
theorem at_v113 (x6 : (⟨S4, .f32⟩ : BufTy).Contents (Elt Ideal)) (l : Fin 128) (h : Fin 4) : val_main_v113 (F := Ideal) x6 (ix2 l h) = Spec.lg (x6 (ix1 h)) :=
  (val_main_v113_apply x6 _).trans ((congrArg (val_main_v109 (F := Ideal) x6) (show idx_main_v113 (ix2 l h) = ix2 0 h from funext fun a => Fin.ext (match a with | ⟨0, _⟩ => rfl | ⟨1, _⟩ => rfl))).trans (at_v109 x6 h))
theorem at_v114 (l : Fin 128) (h : Fin 4) : val_main_v114 (F := Ideal) (ix2 l h) = (Ideal.ofBits .f32 0x42FE0000#32 - Spec.pos l) :=
  (val_main_v114_apply _).trans ((congrArg (val_main_v112 (F := Ideal)) (show idx_main_v114 (ix2 l h) = ix2 l 0 from funext fun a => Fin.ext (match a with | ⟨0, _⟩ => rfl | ⟨1, _⟩ => rfl))).trans (at_v112 l))
theorem at_v115 (x6 : (⟨S4, .f32⟩ : BufTy).Contents (Elt Ideal)) (l : Fin 128) (h : Fin 4) : val_main_v115 (F := Ideal) x6 (ix2 l h) = Spec.lg (x6 (ix1 h)) * (Ideal.ofBits .f32 0x42FE0000#32 - Spec.pos l) :=
  (val_main_v115_apply x6 _).trans (congrArg₂ (fun u v : EReal => u * v) (at_v113 x6 l h) (at_v114 l h))
theorem at_v116 (x6 : (⟨S4, .f32⟩ : BufTy).Contents (Elt Ideal)) (l : Fin 128) (h : Fin 4) : val_main_v116 (F := Ideal) x6 (ix2 l h) = Spec.wf (x6 (ix1 h)) l :=
  (val_main_v116_apply x6 _).trans (congrArg (fun u : EReal => Ideal.exp u) (at_v115 x6 l h))
theorem at_v117 (x7 : (⟨S4, .f32⟩ : BufTy).Contents (Elt Ideal)) (h : Fin 4) : val_main_v117 (F := Ideal) x7 (ix2 0 h) = Spec.lg (x7 (ix1 h)) :=
  (val_main_v117_apply x7 _).trans ((congrArg (val_main_v77 (F := Ideal) x7) (show idx_main_v117 (ix2 0 h) = ix1 h from funext fun a => Fin.ext (match a with | ⟨0, _⟩ => rfl))).trans (at_v77 x7 h))
theorem at_v118 (l : Fin 128) : val_main_v118 (F := Ideal) (ix2 l 0) = Spec.pos l :=
  (val_main_v118_apply _).trans ((congrArg (val_main_v78 (F := Ideal)) (show idx_main_v118 (ix2 l 0) = ix1 l from funext fun a => Fin.ext (match a with | ⟨0, _⟩ => rfl))).trans (at_v78 l))
theorem at_v119 (x7 : (⟨S4, .f32⟩ : BufTy).Contents (Elt Ideal)) (l : Fin 128) (h : Fin 4) : val_main_v119 (F := Ideal) x7 (ix2 l h) = Spec.lg (x7 (ix1 h)) :=
  (val_main_v119_apply x7 _).trans ((congrArg (val_main_v117 (F := Ideal) x7) (show idx_main_v119 (ix2 l h) = ix2 0 h from funext fun a => Fin.ext (match a with | ⟨0, _⟩ => rfl | ⟨1, _⟩ => rfl))).trans (at_v117 x7 h))
theorem at_v120 (l : Fin 128) (h : Fin 4) : val_main_v120 (F := Ideal) (ix2 l h) = Spec.pos l :=
  (val_main_v120_apply _).trans ((congrArg (val_main_v118 (F := Ideal)) (show idx_main_v120 (ix2 l h) = ix2 l 0 from funext fun a => Fin.ext (match a with | ⟨0, _⟩ => rfl | ⟨1, _⟩ => rfl))).trans (at_v118 l))
theorem at_v121 (x7 : (⟨S4, .f32⟩ : BufTy).Contents (Elt Ideal)) (l : Fin 128) (h : Fin 4) : val_main_v121 (F := Ideal) x7 (ix2 l h) = Spec.lg (x7 (ix1 h)) * Spec.pos l :=
  (val_main_v121_apply x7 _).trans (congrArg₂ (fun u v : EReal => u * v) (at_v119 x7 l h) (at_v120 l h))
theorem at_v122 (x7 : (⟨S4, .f32⟩ : BufTy).Contents (Elt Ideal)) (l : Fin 128) (h : Fin 4) : val_main_v122 (F := Ideal) x7 (ix2 l h) = Spec.wb (x7 (ix1 h)) l :=
  (val_main_v122_apply x7 _).trans (congrArg (fun u : EReal => Ideal.exp u) (at_v121 x7 l h))
theorem at_v131 (x6 : (⟨S4, .f32⟩ : BufTy).Contents (Elt Ideal)) (h : Fin 4) : val_main_v131 (F := Ideal) x6 (ix2 0 h) = Spec.lg (x6 (ix1 h)) :=
  (val_main_v131_apply x6 _).trans ((congrArg (val_main_v75 (F := Ideal) x6) (show idx_main_v131 (ix2 0 h) = ix1 h from funext fun a => Fin.ext (match a with | ⟨0, _⟩ => rfl))).trans (at_v75 x6 h))
theorem at_v132 (l : Fin 128) : val_main_v132 (F := Ideal) (ix1 l) = Ideal.ofBits .f32 0x3F800000#32 :=
  val_main_v132_apply _
theorem at_v133 (l : Fin 128) : val_main_v133 (F := Ideal) (ix1 l) = Spec.pos l + Ideal.ofBits .f32 0x3F800000#32 :=
  (val_main_v133_apply _).trans (congrArg₂ (fun u v : EReal => u + v) (at_v78 l) (at_v132 l))
theorem at_v134 (l : Fin 128) : val_main_v134 (F := Ideal) (ix2 l 0) = (Spec.pos l + Ideal.ofBits .f32 0x3F800000#32) :=
  (val_main_v134_apply _).trans ((congrArg (val_main_v133 (F := Ideal)) (show idx_main_v134 (ix2 l 0) = ix1 l from funext fun a => Fin.ext (match a with | ⟨0, _⟩ => rfl))).trans (at_v133 l))
theorem at_v135 (x6 : (⟨S4, .f32⟩ : BufTy).Contents (Elt Ideal)) (l : Fin 128) (h : Fin 4) : val_main_v135 (F := Ideal) x6 (ix2 l h) = Spec.lg (x6 (ix1 h)) :=
  (val_main_v135_apply x6 _).trans ((congrArg (val_main_v131 (F := Ideal) x6) (show idx_main_v135 (ix2 l h) = ix2 0 h from funext fun a => Fin.ext (match a with | ⟨0, _⟩ => rfl | ⟨1, _⟩ => rfl))).trans (at_v131 x6 h))
theorem at_v136 (l : Fin 128) (h : Fin 4) : val_main_v136 (F := Ideal) (ix2 l h) = (Spec.pos l + Ideal.ofBits .f32 0x3F800000#32) :=
  (val_main_v136_apply _).trans ((congrArg (val_main_v134 (F := Ideal)) (show idx_main_v136 (ix2 l h) = ix2 l 0 from funext fun a => Fin.ext (match a with | ⟨0, _⟩ => rfl | ⟨1, _⟩ => rfl))).trans (at_v134 l))
theorem at_v137 (x6 : (⟨S4, .f32⟩ : BufTy).Contents (Elt Ideal)) (l : Fin 128) (h : Fin 4) : val_main_v137 (F := Ideal) x6 (ix2 l h) = Spec.lg (x6 (ix1 h)) * (Spec.pos l + Ideal.ofBits .f32 0x3F800000#32) :=
  (val_main_v137_apply x6 _).trans (congrArg₂ (fun u v : EReal => u * v) (at_v135 x6 l h) (at_v136 l h))
theorem at_v138 (x6 : (⟨S4, .f32⟩ : BufTy).Contents (Elt Ideal)) (l : Fin 128) (h : Fin 4) : val_main_v138 (F := Ideal) x6 (ix2 l h) = Spec.qf (x6 (ix1 h)) l :=
  (val_main_v138_apply x6 _).trans (congrArg (fun u : EReal => Ideal.exp u) (at_v137 x6 l h))
theorem at_v139 (x7 : (⟨S4, .f32⟩ : BufTy).Contents (Elt Ideal)) (h : Fin 4) : val_main_v139 (F := Ideal) x7 (ix2 0 h) = Spec.lg (x7 (ix1 h)) :=
  (val_main_v139_apply x7 _).trans ((congrArg (val_main_v77 (F := Ideal) x7) (show idx_main_v139 (ix2 0 h) = ix1 h from funext fun a => Fin.ext (match a with | ⟨0, _⟩ => rfl))).trans (at_v77 x7 h))
theorem at_v140 (l : Fin 128) : val_main_v140 (F := Ideal) (ix1 l) = Ideal.ofBits .f32 0x43000000#32 :=
  val_main_v140_apply _
theorem at_v141 (l : Fin 128) : val_main_v141 (F := Ideal) (ix1 l) = Ideal.ofBits .f32 0x43000000#32 - Spec.pos l :=
  (val_main_v141_apply _).trans (congrArg₂ (fun u v : EReal => u - v) (at_v140 l) (at_v78 l))
theorem at_v142 (l : Fin 128) : val_main_v142 (F := Ideal) (ix2 l 0) = (Ideal.ofBits .f32 0x43000000#32 - Spec.pos l) :=
  (val_main_v142_apply _).trans ((congrArg (val_main_v141 (F := Ideal)) (show idx_main_v142 (ix2 l 0) = ix1 l from funext fun a => Fin.ext (match a with | ⟨0, _⟩ => rfl))).trans (at_v141 l))
theorem at_v143 (x7 : (⟨S4, .f32⟩ : BufTy).Contents (Elt Ideal)) (l : Fin 128) (h : Fin 4) : val_main_v143 (F := Ideal) x7 (ix2 l h) = Spec.lg (x7 (ix1 h)) :=
  (val_main_v143_apply x7 _).trans ((congrArg (val_main_v139 (F := Ideal) x7) (show idx_main_v143 (ix2 l h) = ix2 0 h from funext fun a => Fin.ext (match a with | ⟨0, _⟩ => rfl | ⟨1, _⟩ => rfl))).trans (at_v139 x7 h))
theorem at_v144 (l : Fin 128) (h : Fin 4) : val_main_v144 (F := Ideal) (ix2 l h) = (Ideal.ofBits .f32 0x43000000#32 - Spec.pos l) :=
  (val_main_v144_apply _).trans ((congrArg (val_main_v142 (F := Ideal)) (show idx_main_v144 (ix2 l h) = ix2 l 0 from funext fun a => Fin.ext (match a with | ⟨0, _⟩ => rfl | ⟨1, _⟩ => rfl))).trans (at_v142 l))
theorem at_v145 (x7 : (⟨S4, .f32⟩ : BufTy).Contents (Elt Ideal)) (l : Fin 128) (h : Fin 4) : val_main_v145 (F := Ideal) x7 (ix2 l h) = Spec.lg (x7 (ix1 h)) * (Ideal.ofBits .f32 0x43000000#32 - Spec.pos l) :=
  (val_main_v145_apply x7 _).trans (congrArg₂ (fun u v : EReal => u * v) (at_v143 x7 l h) (at_v144 l h))
theorem at_v146 (x7 : (⟨S4, .f32⟩ : BufTy).Contents (Elt Ideal)) (l : Fin 128) (h : Fin 4) : val_main_v146 (F := Ideal) x7 (ix2 l h) = Spec.qb (x7 (ix1 h)) l :=
  (val_main_v146_apply x7 _).trans (congrArg (fun u : EReal => Ideal.exp u) (at_v145 x7 l h))
/-! ## Chunks -/
theorem at_v100 (x0 : (⟨S4096x14848, .f32⟩ : BufTy).Contents (Elt Ideal)) (t : Fin 32) (l : Fin 128) (h : Fin 4) (d : Fin 256) : val_main_v100 (F := Ideal) x0 (ix5 0 t l h d) = Q x0 t h l d :=
  (val_main_v100_apply x0 _).trans ((congrArg (val_main_v48 (F := Ideal) x0) (show idx_main_v100 (ix5 0 t l h d) = ix4 0 (row t l) h d from funext fun a => Fin.ext (match a with | ⟨0, _⟩ => rfl | ⟨1, _⟩ => by show ((((0 * 32 + t.val) * 128 + l.val) * 4 + h.val) * 256 + d.val) / 1024 % 4096 = (128 * t.val + l.val); have := d.isLt; have := h.isLt; have := l.isLt; have := t.isLt; omega | ⟨2, _⟩ => by show ((((0 * 32 + t.val) * 128 + l.val) * 4 + h.val) * 256 + d.val) / 256 % 4 = h.val; have := d.isLt; have := h.isLt; have := l.isLt; have := t.isLt; omega | ⟨3, _⟩ => by show ((((0 * 32 + t.val) * 128 + l.val) * 4 + h.val) * 256 + d.val) % 256 = d.val; have := d.isLt; have := h.isLt; have := l.isLt; have := t.isLt; omega))).trans (at_v48 x0 t l h d))
theorem at_v101 (x0 : (⟨S4096x14848, .f32⟩ : BufTy).Contents (Elt Ideal)) (t : Fin 32) (l : Fin 128) (h : Fin 4) (d : Fin 256) : val_main_v101 (F := Ideal) x0 (ix5 0 t l h d) = K x0 t h l d :=
  (val_main_v101_apply x0 _).trans ((congrArg (val_main_v73 (F := Ideal) x0) (show idx_main_v101 (ix5 0 t l h d) = ix4 0 (row t l) h d from funext fun a => Fin.ext (match a with | ⟨0, _⟩ => rfl | ⟨1, _⟩ => by show ((((0 * 32 + t.val) * 128 + l.val) * 4 + h.val) * 256 + d.val) / 1024 % 4096 = (128 * t.val + l.val); have := d.isLt; have := h.isLt; have := l.isLt; have := t.isLt; omega | ⟨2, _⟩ => by show ((((0 * 32 + t.val) * 128 + l.val) * 4 + h.val) * 256 + d.val) / 256 % 4 = h.val; have := d.isLt; have := h.isLt; have := l.isLt; have := t.isLt; omega | ⟨3, _⟩ => by show ((((0 * 32 + t.val) * 128 + l.val) * 4 + h.val) * 256 + d.val) % 256 = d.val; have := d.isLt; have := h.isLt; have := l.isLt; have := t.isLt; omega))).trans (at_v73 x0 t l h d))
theorem at_v102 (x0 : (⟨S4096x14848, .f32⟩ : BufTy).Contents (Elt Ideal)) (t : Fin 32) (l : Fin 128) (h : Fin 4) (d : Fin 256) : val_main_v102 (F := Ideal) x0 (ix5 0 t l h d) = X 2 x0 t h l d :=
  (val_main_v102_apply x0 _).trans ((congrArg (val_main_v8 (F := Ideal) x0) (show idx_main_v102 (ix5 0 t l h d) = ix4 0 (row t l) h d from funext fun a => Fin.ext (match a with | ⟨0, _⟩ => rfl | ⟨1, _⟩ => by show ((((0 * 32 + t.val) * 128 + l.val) * 4 + h.val) * 256 + d.val) / 1024 % 4096 = (128 * t.val + l.val); have := d.isLt; have := h.isLt; have := l.isLt; have := t.isLt; omega | ⟨2, _⟩ => by show ((((0 * 32 + t.val) * 128 + l.val) * 4 + h.val) * 256 + d.val) / 256 % 4 = h.val; have := d.isLt; have := h.isLt; have := l.isLt; have := t.isLt; omega | ⟨3, _⟩ => by show ((((0 * 32 + t.val) * 128 + l.val) * 4 + h.val) * 256 + d.val) % 256 = d.val; have := d.isLt; have := h.isLt; have := l.isLt; have := t.isLt; omega))).trans (at_v8 x0 t l h d))
theorem at_v160 (x1 : (⟨S4096x1024, .f32⟩ : BufTy).Contents (Elt Ideal)) (t : Fin 32) (l : Fin 128) (h : Fin 4) (d : Fin 256) : val_main_v160 (F := Ideal) x1 (ix3 0 (row t l) (col h d)) = G x1 t h l d :=
  (val_main_v160_apply x1 _).trans (congrArg (x1) (show idx_main_v160 (ix3 0 (row t l) (col h d)) = ix2 (row t l) (col h d) from funext fun a => Fin.ext (match a with | ⟨0, _⟩ => rfl | ⟨1, _⟩ => rfl)))
theorem at_v161 (x1 : (⟨S4096x1024, .f32⟩ : BufTy).Contents (Elt Ideal)) (t : Fin 32) (l : Fin 128) (h : Fin 4) (d : Fin 256) : val_main_v161 (F := Ideal) x1 (ix5 0 t l h d) = G x1 t h l d :=
  (val_main_v161_apply x1 _).trans ((congrArg (val_main_v160 (F := Ideal) x1) (show idx_main_v161 (ix5 0 t l h d) = ix3 0 (row t l) (col h d) from funext fun a => Fin.ext (match a with | ⟨0, _⟩ => rfl | ⟨1, _⟩ => by show ((((0 * 32 + t.val) * 128 + l.val) * 4 + h.val) * 256 + d.val) / 1024 % 4096 = (128 * t.val + l.val); have := d.isLt; have := h.isLt; have := l.isLt; have := t.isLt; omega | ⟨2, _⟩ => by show ((((0 * 32 + t.val) * 128 + l.val) * 4 + h.val) * 256 + d.val) % 1024 = (256 * h.val + d.val); have := d.isLt; have := h.isLt; have := l.isLt; have := t.isLt; omega))).trans (at_v160 x1 t l h d))
theorem at_v123 (x6 : (⟨S4, .f32⟩ : BufTy).Contents (Elt Ideal)) (l : Fin 128) (h : Fin 4) : val_main_v123 (F := Ideal) x6 (ix5 0 0 l h 0) = Spec.wf (x6 (ix1 h)) l :=
  (val_main_v123_apply x6 _).trans ((congrArg (val_main_v116 (F := Ideal) x6) (show idx_main_v123 (ix5 0 0 l h 0) = ix2 l h from funext fun a => Fin.ext (match a with | ⟨0, _⟩ => rfl | ⟨1, _⟩ => rfl))).trans (at_v116 x6 l h))
theorem at_v124 (x6 : (⟨S4, .f32⟩ : BufTy).Contents (Elt Ideal)) (t : Fin 32) (l : Fin 128) (h : Fin 4) (d : Fin 256) : val_main_v124 (F := Ideal) x6 (ix5 0 t l h d) = Spec.wf (x6 (ix1 h)) l :=
  (val_main_v124_apply x6 _).trans ((congrArg (val_main_v123 (F := Ideal) x6) (show idx_main_v124 (ix5 0 t l h d) = ix5 0 0 l h 0 from funext fun a => Fin.ext (match a with | ⟨0, _⟩ => rfl | ⟨1, _⟩ => rfl | ⟨2, _⟩ => rfl | ⟨3, _⟩ => rfl | ⟨4, _⟩ => rfl))).trans (at_v123 x6 l h))
theorem at_v127 (x7 : (⟨S4, .f32⟩ : BufTy).Contents (Elt Ideal)) (l : Fin 128) (h : Fin 4) : val_main_v127 (F := Ideal) x7 (ix5 0 0 l h 0) = Spec.wb (x7 (ix1 h)) l :=
  (val_main_v127_apply x7 _).trans ((congrArg (val_main_v122 (F := Ideal) x7) (show idx_main_v127 (ix5 0 0 l h 0) = ix2 l h from funext fun a => Fin.ext (match a with | ⟨0, _⟩ => rfl | ⟨1, _⟩ => rfl))).trans (at_v122 x7 l h))
theorem at_v128 (x7 : (⟨S4, .f32⟩ : BufTy).Contents (Elt Ideal)) (t : Fin 32) (l : Fin 128) (h : Fin 4) (d : Fin 256) : val_main_v128 (F := Ideal) x7 (ix5 0 t l h d) = Spec.wb (x7 (ix1 h)) l :=
  (val_main_v128_apply x7 _).trans ((congrArg (val_main_v127 (F := Ideal) x7) (show idx_main_v128 (ix5 0 t l h d) = ix5 0 0 l h 0 from funext fun a => Fin.ext (match a with | ⟨0, _⟩ => rfl | ⟨1, _⟩ => rfl | ⟨2, _⟩ => rfl | ⟨3, _⟩ => rfl | ⟨4, _⟩ => rfl))).trans (at_v127 x7 l h))
theorem at_v147 (x6 : (⟨S4, .f32⟩ : BufTy).Contents (Elt Ideal)) (l : Fin 128) (h : Fin 4) : val_main_v147 (F := Ideal) x6 (ix5 0 0 l h 0) = Spec.qf (x6 (ix1 h)) l :=
  (val_main_v147_apply x6 _).trans ((congrArg (val_main_v138 (F := Ideal) x6) (show idx_main_v147 (ix5 0 0 l h 0) = ix2 l h from funext fun a => Fin.ext (match a with | ⟨0, _⟩ => rfl | ⟨1, _⟩ => rfl))).trans (at_v138 x6 l h))
theorem at_v153 (x7 : (⟨S4, .f32⟩ : BufTy).Contents (Elt Ideal)) (l : Fin 128) (h : Fin 4) : val_main_v153 (F := Ideal) x7 (ix5 0 0 l h 0) = Spec.qb (x7 (ix1 h)) l :=
  (val_main_v153_apply x7 _).trans ((congrArg (val_main_v146 (F := Ideal) x7) (show idx_main_v153 (ix5 0 0 l h 0) = ix2 l h from funext fun a => Fin.ext (match a with | ⟨0, _⟩ => rfl | ⟨1, _⟩ => rfl))).trans (at_v146 x7 l h))
theorem at_v165 (x7 : (⟨S4, .f32⟩ : BufTy).Contents (Elt Ideal)) (t : Fin 32) (l : Fin 128) (h : Fin 4) (d : Fin 256) : val_main_v165 (F := Ideal) x7 (ix5 0 t l h d) = Spec.qb (x7 (ix1 h)) l :=
  (val_main_v165_apply x7 _).trans ((congrArg (val_main_v153 (F := Ideal) x7) (show idx_main_v165 (ix5 0 t l h d) = ix5 0 0 l h 0 from funext fun a => Fin.ext (match a with | ⟨0, _⟩ => rfl | ⟨1, _⟩ => rfl | ⟨2, _⟩ => rfl | ⟨3, _⟩ => rfl | ⟨4, _⟩ => rfl))).trans (at_v153 x7 l h))
theorem at_v170 (x6 : (⟨S4, .f32⟩ : BufTy).Contents (Elt Ideal)) (t : Fin 32) (l : Fin 128) (h : Fin 4) (d : Fin 256) : val_main_v170 (F := Ideal) x6 (ix5 0 t l h d) = Spec.qf (x6 (ix1 h)) l :=
  (val_main_v170_apply x6 _).trans ((congrArg (val_main_v147 (F := Ideal) x6) (show idx_main_v170 (ix5 0 t l h d) = ix5 0 0 l h 0 from funext fun a => Fin.ext (match a with | ⟨0, _⟩ => rfl | ⟨1, _⟩ => rfl | ⟨2, _⟩ => rfl | ⟨3, _⟩ => rfl | ⟨4, _⟩ => rfl))).trans (at_v147 x6 l h))
theorem at_v177 (x7 : (⟨S4, .f32⟩ : BufTy).Contents (Elt Ideal)) (t : Fin 32) (l : Fin 128) (h : Fin 4) (d : Fin 256) : val_main_v177 (F := Ideal) x7 (ix5 0 t l h d) = Spec.wb (x7 (ix1 h)) l :=
  (val_main_v177_apply x7 _).trans ((congrArg (val_main_v127 (F := Ideal) x7) (show idx_main_v177 (ix5 0 t l h d) = ix5 0 0 l h 0 from funext fun a => Fin.ext (match a with | ⟨0, _⟩ => rfl | ⟨1, _⟩ => rfl | ⟨2, _⟩ => rfl | ⟨3, _⟩ => rfl | ⟨4, _⟩ => rfl))).trans (at_v127 x7 l h))
theorem at_v184 (x6 : (⟨S4, .f32⟩ : BufTy).Contents (Elt Ideal)) (t : Fin 32) (l : Fin 128) (h : Fin 4) (d : Fin 256) : val_main_v184 (F := Ideal) x6 (ix5 0 t l h d) = Spec.wf (x6 (ix1 h)) l :=
  (val_main_v184_apply x6 _).trans ((congrArg (val_main_v123 (F := Ideal) x6) (show idx_main_v184 (ix5 0 t l h d) = ix5 0 0 l h 0 from funext fun a => Fin.ext (match a with | ⟨0, _⟩ => rfl | ⟨1, _⟩ => rfl | ⟨2, _⟩ => rfl | ⟨3, _⟩ => rfl | ⟨4, _⟩ => rfl))).trans (at_v123 x6 l h))
theorem at_v125 (x0 : (⟨S4096x14848, .f32⟩ : BufTy).Contents (Elt Ideal)) (x6 : (⟨S4, .f32⟩ : BufTy).Contents (Elt Ideal)) (t : Fin 32) (l : Fin 128) (h : Fin 4) (d : Fin 256) : val_main_v125 (F := Ideal) x0 x6 (ix5 0 t l h d) = K x0 t h l d * Spec.wf (x6 (ix1 h)) l :=
  (val_main_v125_apply x0 x6 _).trans (congrArg₂ (fun u v : EReal => u * v) (at_v101 x0 t l h d) (at_v124 x6 t l h d))
theorem at_v129 (x0 : (⟨S4096x14848, .f32⟩ : BufTy).Contents (Elt Ideal)) (x7 : (⟨S4, .f32⟩ : BufTy).Contents (Elt Ideal)) (t : Fin 32) (l : Fin 128) (h : Fin 4) (d : Fin 256) : val_main_v129 (F := Ideal) x0 x7 (ix5 0 t l h d) = K x0 t h l d * Spec.wb (x7 (ix1 h)) l :=
  (val_main_v129_apply x0 x7 _).trans (congrArg₂ (fun u v : EReal => u * v) (at_v101 x0 t l h d) (at_v128 x7 t l h d))
theorem at_v162 (x1 : (⟨S4096x1024, .f32⟩ : BufTy).Contents (Elt Ideal)) (t : Fin 32) (h : Fin 4) (d : Fin 256) (l : Fin 128) : val_main_v162 (F := Ideal) x1 (ix5 0 t h d l) = G x1 t h l d :=
  (val_main_v162_apply x1 _).trans ((congrArg (val_main_v161 (F := Ideal) x1) (show idx_main_v162 (ix5 0 t h d l) = ix5 0 t l h d from funext fun a => Fin.ext (match a with | ⟨0, _⟩ => rfl | ⟨1, _⟩ => rfl | ⟨2, _⟩ => rfl | ⟨3, _⟩ => rfl | ⟨4, _⟩ => rfl))).trans (at_v161 x1 t l h d))
theorem at_v167 (x1 : (⟨S4096x1024, .f32⟩ : BufTy).Contents (Elt Ideal)) (t : Fin 32) (h : Fin 4) (d : Fin 256) (l : Fin 128) : val_main_v167 (F := Ideal) x1 (ix5 0 t h d l) = G x1 t h l d :=
  (val_main_v167_apply x1 _).trans ((congrArg (val_main_v161 (F := Ideal) x1) (show idx_main_v167 (ix5 0 t h d l) = ix5 0 t l h d from funext fun a => Fin.ext (match a with | ⟨0, _⟩ => rfl | ⟨1, _⟩ => rfl | ⟨2, _⟩ => rfl | ⟨3, _⟩ => rfl | ⟨4, _⟩ => rfl))).trans (at_v161 x1 t l h d))
theorem at_v187 (x1 : (⟨S4096x1024, .f32⟩ : BufTy).Contents (Elt Ideal)) (t : Fin 32) (h : Fin 4) (d : Fin 256) (l : Fin 128) : val_main_v187 (F := Ideal) x1 (ix5 0 t h d l) = G x1 t h l d :=
  (val_main_v187_apply x1 _).trans ((congrArg (val_main_v161 (F := Ideal) x1) (show idx_main_v187 (ix5 0 t h d l) = ix5 0 t l h d from funext fun a => Fin.ext (match a with | ⟨0, _⟩ => rfl | ⟨1, _⟩ => rfl | ⟨2, _⟩ => rfl | ⟨3, _⟩ => rfl | ⟨4, _⟩ => rfl))).trans (at_v161 x1 t l h d))
theorem at_v103 (x0 : (⟨S4096x14848, .f32⟩ : BufTy).Contents (Elt Ideal)) (t : Fin 32) (h : Fin 4) (l : Fin 128) (j : Fin 128) : val_main_v103 (F := Ideal) x0 (ix5 0 t h l j) = Spec.prod (Q x0 t h) (K x0 t h) l j :=
  (val_main_v103_apply x0 _).trans (Finset.sum_congr rfl fun e _ => congrArg₂ (fun u v : EReal => u * v) ((congrArg (val_main_v100 (F := Ideal) x0) (show lidx_main_v103 (ix5 0 t h l j) e = ix5 0 t l h e from funext fun a => Fin.ext (match a with | ⟨0, _⟩ => rfl | ⟨1, _⟩ => rfl | ⟨2, _⟩ => rfl | ⟨3, _⟩ => rfl | ⟨4, _⟩ => rfl))).trans (at_v100 x0 t l h e)) ((congrArg (val_main_v101 (F := Ideal) x0) (show ridx_main_v103 (ix5 0 t h l j) e = ix5 0 t j h e from funext fun a => Fin.ext (match a with | ⟨0, _⟩ => rfl | ⟨1, _⟩ => rfl | ⟨2, _⟩ => rfl | ⟨3, _⟩ => rfl | ⟨4, _⟩ => rfl))).trans (at_v101 x0 t j h e)))
theorem at_v104 (x6 : (⟨S4, .f32⟩ : BufTy).Contents (Elt Ideal)) (x7 : (⟨S4, .f32⟩ : BufTy).Contents (Elt Ideal)) (h : Fin 4) (l : Fin 128) (j : Fin 128) : val_main_v104 (F := Ideal) x6 x7 (ix5 0 0 h l j) = Spec.dm (x6 (ix1 h)) (x7 (ix1 h)) l j :=
  (val_main_v104_apply x6 x7 _).trans ((congrArg (val_main_v99 (F := Ideal) x6 x7) (show idx_main_v104 (ix5 0 0 h l j) = ix3 h l j from funext fun a => Fin.ext (match a with | ⟨0, _⟩ => rfl | ⟨1, _⟩ => rfl | ⟨2, _⟩ => rfl))).trans (at_v99 x6 x7 h l j))
theorem at_v105 (x6 : (⟨S4, .f32⟩ : BufTy).Contents (Elt Ideal)) (x7 : (⟨S4, .f32⟩ : BufTy).Contents (Elt Ideal)) (t : Fin 32) (h : Fin 4) (l : Fin 128) (j : Fin 128) : val_main_v105 (F := Ideal) x6 x7 (ix5 0 t h l j) = Spec.dm (x6 (ix1 h)) (x7 (ix1 h)) l j :=
  (val_main_v105_apply x6 x7 _).trans ((congrArg (val_main_v104 (F := Ideal) x6 x7) (show idx_main_v105 (ix5 0 t h l j) = ix5 0 0 h l j from funext fun a => Fin.ext (match a with | ⟨0, _⟩ => rfl | ⟨1, _⟩ => rfl | ⟨2, _⟩ => rfl | ⟨3, _⟩ => rfl | ⟨4, _⟩ => rfl))).trans (at_v104 x6 x7 h l j))
theorem at_v106 (x0 : (⟨S4096x14848, .f32⟩ : BufTy).Contents (Elt Ideal)) (x6 : (⟨S4, .f32⟩ : BufTy).Contents (Elt Ideal)) (x7 : (⟨S4, .f32⟩ : BufTy).Contents (Elt Ideal)) (t : Fin 32) (h : Fin 4) (l : Fin 128) (j : Fin 128) : val_main_v106 (F := Ideal) x0 x6 x7 (ix5 0 t h l j) = Spec.prod (Q x0 t h) (K x0 t h) l j * Spec.dm (x6 (ix1 h)) (x7 (ix1 h)) l j :=
  (val_main_v106_apply x0 x6 x7 _).trans (congrArg₂ (fun u v : EReal => u * v) (at_v103 x0 t h l j) (at_v105 x6 x7 t h l j))
theorem at_v192 (x6 : (⟨S4, .f32⟩ : BufTy).Contents (Elt Ideal)) (x7 : (⟨S4, .f32⟩ : BufTy).Contents (Elt Ideal)) (t : Fin 32) (h : Fin 4) (l : Fin 128) (j : Fin 128) : val_main_v192 (F := Ideal) x6 x7 (ix5 0 t h l j) = Spec.dm (x6 (ix1 h)) (x7 (ix1 h)) l j :=
  (val_main_v192_apply x6 x7 _).trans ((congrArg (val_main_v104 (F := Ideal) x6 x7) (show idx_main_v192 (ix5 0 t h l j) = ix5 0 0 h l j from funext fun a => Fin.ext (match a with | ⟨0, _⟩ => rfl | ⟨1, _⟩ => rfl | ⟨2, _⟩ => rfl | ⟨3, _⟩ => rfl | ⟨4, _⟩ => rfl))).trans (at_v104 x6 x7 h l j))
/-! ## The gradients of the rotated rows -/
theorem at_v163 (x1 : (⟨S4096x1024, .f32⟩ : BufTy).Contents (Elt Ideal)) (x3 : (⟨S4x32x256x256, .bf16⟩ : BufTy).Contents (Elt Ideal)) (t : Fin 32) (h : Fin 4) (l : Fin 128) (d : Fin 256) : val_main_v163 (F := Ideal) x1 x3 (ix5 0 t h l d) = Spec.against (G x1 t h) (M x3 t h) l d :=
  (val_main_v163_apply x1 x3 _).trans (Finset.sum_congr rfl fun e _ => congrArg₂ (fun u v : EReal => u * v) ((congrArg (val_main_v162 (F := Ideal) x1) (show lidx_main_v163 (ix5 0 t h l d) e = ix5 0 t h e l from funext fun a => Fin.ext (match a with | ⟨0, _⟩ => rfl | ⟨1, _⟩ => rfl | ⟨2, _⟩ => rfl | ⟨3, _⟩ => rfl | ⟨4, _⟩ => rfl))).trans (at_v162 x1 t h e l)) ((congrArg (val_main_v14 (F := Ideal) x3) (show ridx_main_v163 (ix5 0 t h l d) e = ix5 t 0 h d e from funext fun a => Fin.ext (match a with | ⟨0, _⟩ => rfl | ⟨1, _⟩ => rfl | ⟨2, _⟩ => rfl | ⟨3, _⟩ => rfl | ⟨4, _⟩ => rfl))).trans (at_v14 x3 t h d e)))
theorem at_v164 (x1 : (⟨S4096x1024, .f32⟩ : BufTy).Contents (Elt Ideal)) (x3 : (⟨S4x32x256x256, .bf16⟩ : BufTy).Contents (Elt Ideal)) (t : Fin 32) (l : Fin 128) (h : Fin 4) (d : Fin 256) : val_main_v164 (F := Ideal) x1 x3 (ix5 0 t l h d) = Spec.against (G x1 t h) (M x3 t h) l d :=
  (val_main_v164_apply x1 x3 _).trans ((congrArg (val_main_v163 (F := Ideal) x1 x3) (show idx_main_v164 (ix5 0 t l h d) = ix5 0 t h l d from funext fun a => Fin.ext (match a with | ⟨0, _⟩ => rfl | ⟨1, _⟩ => rfl | ⟨2, _⟩ => rfl | ⟨3, _⟩ => rfl | ⟨4, _⟩ => rfl))).trans (at_v163 x1 x3 t h l d))
theorem at_v166 (x1 : (⟨S4096x1024, .f32⟩ : BufTy).Contents (Elt Ideal)) (x3 : (⟨S4x32x256x256, .bf16⟩ : BufTy).Contents (Elt Ideal)) (x7 : (⟨S4, .f32⟩ : BufTy).Contents (Elt Ideal)) (t : Fin 32) (l : Fin 128) (h : Fin 4) (d : Fin 256) : val_main_v166 (F := Ideal) x1 x3 x7 (ix5 0 t l h d) = Spec.against (G x1 t h) (M x3 t h) l d * Spec.qb (x7 (ix1 h)) l :=
  (val_main_v166_apply x1 x3 x7 _).trans (congrArg₂ (fun u v : EReal => u * v) (at_v164 x1 x3 t l h d) (at_v165 x7 t l h d))
theorem at_v168 (x1 : (⟨S4096x1024, .f32⟩ : BufTy).Contents (Elt Ideal)) (x2 : (⟨S4x32x256x256, .bf16⟩ : BufTy).Contents (Elt Ideal)) (t : Fin 32) (h : Fin 4) (l : Fin 128) (d : Fin 256) : val_main_v168 (F := Ideal) x1 x2 (ix5 0 t h l d) = Spec.against (G x1 t h) (M x2 t h) l d :=
  (val_main_v168_apply x1 x2 _).trans (Finset.sum_congr rfl fun e _ => congrArg₂ (fun u v : EReal => u * v) ((congrArg (val_main_v167 (F := Ideal) x1) (show lidx_main_v168 (ix5 0 t h l d) e = ix5 0 t h e l from funext fun a => Fin.ext (match a with | ⟨0, _⟩ => rfl | ⟨1, _⟩ => rfl | ⟨2, _⟩ => rfl | ⟨3, _⟩ => rfl | ⟨4, _⟩ => rfl))).trans (at_v167 x1 t h e l)) ((congrArg (val_main_v11 (F := Ideal) x2) (show ridx_main_v168 (ix5 0 t h l d) e = ix5 t 0 h d e from funext fun a => Fin.ext (match a with | ⟨0, _⟩ => rfl | ⟨1, _⟩ => rfl | ⟨2, _⟩ => rfl | ⟨3, _⟩ => rfl | ⟨4, _⟩ => rfl))).trans (at_v11 x2 t h d e)))
theorem at_v169 (x1 : (⟨S4096x1024, .f32⟩ : BufTy).Contents (Elt Ideal)) (x2 : (⟨S4x32x256x256, .bf16⟩ : BufTy).Contents (Elt Ideal)) (t : Fin 32) (l : Fin 128) (h : Fin 4) (d : Fin 256) : val_main_v169 (F := Ideal) x1 x2 (ix5 0 t l h d) = Spec.against (G x1 t h) (M x2 t h) l d :=
  (val_main_v169_apply x1 x2 _).trans ((congrArg (val_main_v168 (F := Ideal) x1 x2) (show idx_main_v169 (ix5 0 t l h d) = ix5 0 t h l d from funext fun a => Fin.ext (match a with | ⟨0, _⟩ => rfl | ⟨1, _⟩ => rfl | ⟨2, _⟩ => rfl | ⟨3, _⟩ => rfl | ⟨4, _⟩ => rfl))).trans (at_v168 x1 x2 t h l d))
theorem at_v171 (x1 : (⟨S4096x1024, .f32⟩ : BufTy).Contents (Elt Ideal)) (x2 : (⟨S4x32x256x256, .bf16⟩ : BufTy).Contents (Elt Ideal)) (x6 : (⟨S4, .f32⟩ : BufTy).Contents (Elt Ideal)) (t : Fin 32) (l : Fin 128) (h : Fin 4) (d : Fin 256) : val_main_v171 (F := Ideal) x1 x2 x6 (ix5 0 t l h d) = Spec.against (G x1 t h) (M x2 t h) l d * Spec.qf (x6 (ix1 h)) l :=
  (val_main_v171_apply x1 x2 x6 _).trans (congrArg₂ (fun u v : EReal => u * v) (at_v169 x1 x2 t l h d) (at_v170 x6 t l h d))
theorem at_v172 (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v172 (F := Ideal) x1 x2 x3 x6 x7 (ix5 0 t l h d) = (Spec.against (G x1 t h) (M x3 t h) l d * Spec.qb (x7 (ix1 h)) l) + (Spec.against (G x1 t h) (M x2 t h) l d * Spec.qf (x6 (ix1 h)) l) :=
  (val_main_v172_apply x1 x2 x3 x6 x7 _).trans (congrArg₂ (fun u v : EReal => u + v) (at_v166 x1 x3 x7 t l h d) (at_v171 x1 x2 x6 t l h d))
theorem at_v173 (x0 : (⟨S4096x14848, .f32⟩ : BufTy).Contents (Elt Ideal)) (x5 : (⟨S4x32x256x256, .bf16⟩ : BufTy).Contents (Elt Ideal)) (x7 : (⟨S4, .f32⟩ : BufTy).Contents (Elt Ideal)) (t : Fin 32) (h : Fin 4) (d : Fin 256) (l : Fin 128) : val_main_v173 (F := Ideal) x0 x5 x7 (ix5 t 0 h d l) = (∑ e : Fin 256, K x0 t h l e * Spec.wb (x7 (ix1 h)) l * M x5 t h e d) :=
  (val_main_v173_apply x0 x5 x7 _).trans (Finset.sum_congr rfl fun e _ => (congrArg₂ (fun u v : EReal => u * v) ((congrArg (val_main_v20 (F := Ideal) x5) (show lidx_main_v173 (ix5 t 0 h d l) e = ix5 t 0 h e d from funext fun a => Fin.ext (match a with | ⟨0, _⟩ => rfl | ⟨1, _⟩ => rfl | ⟨2, _⟩ => rfl | ⟨3, _⟩ => rfl | ⟨4, _⟩ => rfl))).trans (at_v20 x5 t h e d)) ((congrArg (val_main_v129 (F := Ideal) x0 x7) (show ridx_main_v173 (ix5 t 0 h d l) e = ix5 0 t l h e from funext fun a => Fin.ext (match a with | ⟨0, _⟩ => rfl | ⟨1, _⟩ => rfl | ⟨2, _⟩ => rfl | ⟨3, _⟩ => rfl | ⟨4, _⟩ => rfl))).trans (at_v129 x0 x7 t l h e))).trans (mul_comm _ _))
theorem at_v174 (x0 : (⟨S4096x14848, .f32⟩ : BufTy).Contents (Elt Ideal)) (x5 : (⟨S4x32x256x256, .bf16⟩ : BufTy).Contents (Elt Ideal)) (x7 : (⟨S4, .f32⟩ : BufTy).Contents (Elt Ideal)) (t : Fin 32) (l : Fin 128) (h : Fin 4) (d : Fin 256) : val_main_v174 (F := Ideal) x0 x5 x7 (ix5 0 t l h d) = (∑ e : Fin 256, K x0 t h l e * Spec.wb (x7 (ix1 h)) l * M x5 t h e d) :=
  (val_main_v174_apply x0 x5 x7 _).trans ((congrArg (val_main_v173 (F := Ideal) x0 x5 x7) (show idx_main_v174 (ix5 0 t l h d) = ix5 t 0 h d l from funext fun a => Fin.ext (match a with | ⟨0, _⟩ => rfl | ⟨1, _⟩ => rfl | ⟨2, _⟩ => rfl | ⟨3, _⟩ => rfl | ⟨4, _⟩ => rfl))).trans (at_v173 x0 x5 x7 t h d l))
theorem at_v175 (x0 : (⟨S4096x14848, .f32⟩ : BufTy).Contents (Elt Ideal)) (x5 : (⟨S4x32x256x256, .bf16⟩ : BufTy).Contents (Elt Ideal)) (t : Fin 32) (h : Fin 4) (d : Fin 256) (l : Fin 128) : val_main_v175 (F := Ideal) x0 x5 (ix5 t 0 h d l) = Spec.against (X 2 x0 t h) (M x5 t h) l d :=
  (val_main_v175_apply x0 x5 _).trans (Finset.sum_congr rfl fun e _ => (congrArg₂ (fun u v : EReal => u * v) ((congrArg (val_main_v20 (F := Ideal) x5) (show lidx_main_v175 (ix5 t 0 h d l) e = ix5 t 0 h d e from funext fun a => Fin.ext (match a with | ⟨0, _⟩ => rfl | ⟨1, _⟩ => rfl | ⟨2, _⟩ => rfl | ⟨3, _⟩ => rfl | ⟨4, _⟩ => rfl))).trans (at_v20 x5 t h d e)) ((congrArg (val_main_v102 (F := Ideal) x0) (show ridx_main_v175 (ix5 t 0 h d l) e = ix5 0 t l h e from funext fun a => Fin.ext (match a with | ⟨0, _⟩ => rfl | ⟨1, _⟩ => rfl | ⟨2, _⟩ => rfl | ⟨3, _⟩ => rfl | ⟨4, _⟩ => rfl))).trans (at_v102 x0 t l h e))).trans (mul_comm _ _))
theorem at_v176 (x0 : (⟨S4096x14848, .f32⟩ : BufTy).Contents (Elt Ideal)) (x5 : (⟨S4x32x256x256, .bf16⟩ : BufTy).Contents (Elt Ideal)) (t : Fin 32) (l : Fin 128) (h : Fin 4) (d : Fin 256) : val_main_v176 (F := Ideal) x0 x5 (ix5 0 t l h d) = Spec.against (X 2 x0 t h) (M x5 t h) l d :=
  (val_main_v176_apply x0 x5 _).trans ((congrArg (val_main_v175 (F := Ideal) x0 x5) (show idx_main_v176 (ix5 0 t l h d) = ix5 t 0 h d l from funext fun a => Fin.ext (match a with | ⟨0, _⟩ => rfl | ⟨1, _⟩ => rfl | ⟨2, _⟩ => rfl | ⟨3, _⟩ => rfl | ⟨4, _⟩ => rfl))).trans (at_v175 x0 x5 t h d l))
theorem at_v178 (x0 : (⟨S4096x14848, .f32⟩ : BufTy).Contents (Elt Ideal)) (x5 : (⟨S4x32x256x256, .bf16⟩ : BufTy).Contents (Elt Ideal)) (x7 : (⟨S4, .f32⟩ : BufTy).Contents (Elt Ideal)) (t : Fin 32) (l : Fin 128) (h : Fin 4) (d : Fin 256) : val_main_v178 (F := Ideal) x0 x5 x7 (ix5 0 t l h d) = Spec.against (X 2 x0 t h) (M x5 t h) l d * Spec.wb (x7 (ix1 h)) l :=
  (val_main_v178_apply x0 x5 x7 _).trans (congrArg₂ (fun u v : EReal => u * v) (at_v176 x0 x5 t l h d) (at_v177 x7 t l h d))
theorem at_v179 (x0 : (⟨S4096x14848, .f32⟩ : BufTy).Contents (Elt Ideal)) (x4 : (⟨S4x32x256x256, .bf16⟩ : BufTy).Contents (Elt Ideal)) (x6 : (⟨S4, .f32⟩ : BufTy).Contents (Elt Ideal)) (t : Fin 32) (h : Fin 4) (d : Fin 256) (l : Fin 128) : val_main_v179 (F := Ideal) x0 x4 x6 (ix5 t 0 h d l) = (∑ e : Fin 256, K x0 t h l e * Spec.wf (x6 (ix1 h)) l * M x4 t h e d) :=
  (val_main_v179_apply x0 x4 x6 _).trans (Finset.sum_congr rfl fun e _ => (congrArg₂ (fun u v : EReal => u * v) ((congrArg (val_main_v17 (F := Ideal) x4) (show lidx_main_v179 (ix5 t 0 h d l) e = ix5 t 0 h e d from funext fun a => Fin.ext (match a with | ⟨0, _⟩ => rfl | ⟨1, _⟩ => rfl | ⟨2, _⟩ => rfl | ⟨3, _⟩ => rfl | ⟨4, _⟩ => rfl))).trans (at_v17 x4 t h e d)) ((congrArg (val_main_v125 (F := Ideal) x0 x6) (show ridx_main_v179 (ix5 t 0 h d l) e = ix5 0 t l h e from funext fun a => Fin.ext (match a with | ⟨0, _⟩ => rfl | ⟨1, _⟩ => rfl | ⟨2, _⟩ => rfl | ⟨3, _⟩ => rfl | ⟨4, _⟩ => rfl))).trans (at_v125 x0 x6 t l h e))).trans (mul_comm _ _))
theorem at_v180 (x0 : (⟨S4096x14848, .f32⟩ : BufTy).Contents (Elt Ideal)) (x4 : (⟨S4x32x256x256, .bf16⟩ : BufTy).Contents (Elt Ideal)) (x6 : (⟨S4, .f32⟩ : BufTy).Contents (Elt Ideal)) (t : Fin 32) (l : Fin 128) (h : Fin 4) (d : Fin 256) : val_main_v180 (F := Ideal) x0 x4 x6 (ix5 0 t l h d) = (∑ e : Fin 256, K x0 t h l e * Spec.wf (x6 (ix1 h)) l * M x4 t h e d) :=
  (val_main_v180_apply x0 x4 x6 _).trans ((congrArg (val_main_v179 (F := Ideal) x0 x4 x6) (show idx_main_v180 (ix5 0 t l h d) = ix5 t 0 h d l from funext fun a => Fin.ext (match a with | ⟨0, _⟩ => rfl | ⟨1, _⟩ => rfl | ⟨2, _⟩ => rfl | ⟨3, _⟩ => rfl | ⟨4, _⟩ => rfl))).trans (at_v179 x0 x4 x6 t h d l))
theorem at_v182 (x0 : (⟨S4096x14848, .f32⟩ : BufTy).Contents (Elt Ideal)) (x4 : (⟨S4x32x256x256, .bf16⟩ : BufTy).Contents (Elt Ideal)) (t : Fin 32) (h : Fin 4) (d : Fin 256) (l : Fin 128) : val_main_v182 (F := Ideal) x0 x4 (ix5 t 0 h d l) = Spec.against (X 2 x0 t h) (M x4 t h) l d :=
  (val_main_v182_apply x0 x4 _).trans (Finset.sum_congr rfl fun e _ => (congrArg₂ (fun u v : EReal => u * v) ((congrArg (val_main_v17 (F := Ideal) x4) (show lidx_main_v182 (ix5 t 0 h d l) e = ix5 t 0 h d e from funext fun a => Fin.ext (match a with | ⟨0, _⟩ => rfl | ⟨1, _⟩ => rfl | ⟨2, _⟩ => rfl | ⟨3, _⟩ => rfl | ⟨4, _⟩ => rfl))).trans (at_v17 x4 t h d e)) ((congrArg (val_main_v102 (F := Ideal) x0) (show ridx_main_v182 (ix5 t 0 h d l) e = ix5 0 t l h e from funext fun a => Fin.ext (match a with | ⟨0, _⟩ => rfl | ⟨1, _⟩ => rfl | ⟨2, _⟩ => rfl | ⟨3, _⟩ => rfl | ⟨4, _⟩ => rfl))).trans (at_v102 x0 t l h e))).trans (mul_comm _ _))
theorem at_v183 (x0 : (⟨S4096x14848, .f32⟩ : BufTy).Contents (Elt Ideal)) (x4 : (⟨S4x32x256x256, .bf16⟩ : BufTy).Contents (Elt Ideal)) (t : Fin 32) (l : Fin 128) (h : Fin 4) (d : Fin 256) : val_main_v183 (F := Ideal) x0 x4 (ix5 0 t l h d) = Spec.against (X 2 x0 t h) (M x4 t h) l d :=
  (val_main_v183_apply x0 x4 _).trans ((congrArg (val_main_v182 (F := Ideal) x0 x4) (show idx_main_v183 (ix5 0 t l h d) = ix5 t 0 h d l from funext fun a => Fin.ext (match a with | ⟨0, _⟩ => rfl | ⟨1, _⟩ => rfl | ⟨2, _⟩ => rfl | ⟨3, _⟩ => rfl | ⟨4, _⟩ => rfl))).trans (at_v182 x0 x4 t h d l))
theorem at_v185 (x0 : (⟨S4096x14848, .f32⟩ : BufTy).Contents (Elt Ideal)) (x4 : (⟨S4x32x256x256, .bf16⟩ : BufTy).Contents (Elt Ideal)) (x6 : (⟨S4, .f32⟩ : BufTy).Contents (Elt Ideal)) (t : Fin 32) (l : Fin 128) (h : Fin 4) (d : Fin 256) : val_main_v185 (F := Ideal) x0 x4 x6 (ix5 0 t l h d) = Spec.against (X 2 x0 t h) (M x4 t h) l d * Spec.wf (x6 (ix1 h)) l :=
  (val_main_v185_apply x0 x4 x6 _).trans (congrArg₂ (fun u v : EReal => u * v) (at_v183 x0 x4 t l h d) (at_v184 x6 t l h d))
theorem at_v181 (x0 : (⟨S4096x14848, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v181 (F := Ideal) x0 x4 x5 x6 x7 (ix5 0 t l h d) = (∑ e : Fin 256, K x0 t h l e * Spec.wb (x7 (ix1 h)) l * M x5 t h e d) + (∑ e : Fin 256, K x0 t h l e * Spec.wf (x6 (ix1 h)) l * M x4 t h e d) :=
  (val_main_v181_apply x0 x4 x5 x6 x7 _).trans (congrArg₂ (fun u v : EReal => u + v) (at_v174 x0 x5 x7 t l h d) (at_v180 x0 x4 x6 t l h d))
theorem at_v186 (x0 : (⟨S4096x14848, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v186 (F := Ideal) x0 x4 x5 x6 x7 (ix5 0 t l h d) = (Spec.against (X 2 x0 t h) (M x5 t h) l d * Spec.wb (x7 (ix1 h)) l) + (Spec.against (X 2 x0 t h) (M x4 t h) l d * Spec.wf (x6 (ix1 h)) l) :=
  (val_main_v186_apply x0 x4 x5 x6 x7 _).trans (congrArg₂ (fun u v : EReal => u + v) (at_v178 x0 x5 x7 t l h d) (at_v185 x0 x4 x6 t l h d))
theorem at_v188 (x0 : (⟨S4096x14848, .f32⟩ : BufTy).Contents (Elt Ideal)) (x1 : (⟨S4096x1024, .f32⟩ : BufTy).Contents (Elt Ideal)) (t : Fin 32) (h : Fin 4) (l : Fin 128) (j : Fin 128) : val_main_v188 (F := Ideal) x0 x1 (ix5 0 t h l j) = Spec.prod (G x1 t h) (X 2 x0 t h) l j :=
  (val_main_v188_apply x0 x1 _).trans (Finset.sum_congr rfl fun e _ => congrArg₂ (fun u v : EReal => u * v) ((congrArg (val_main_v187 (F := Ideal) x1) (show lidx_main_v188 (ix5 0 t h l j) e = ix5 0 t h e l from funext fun a => Fin.ext (match a with | ⟨0, _⟩ => rfl | ⟨1, _⟩ => rfl | ⟨2, _⟩ => rfl | ⟨3, _⟩ => rfl | ⟨4, _⟩ => rfl))).trans (at_v187 x1 t h e l)) ((congrArg (val_main_v102 (F := Ideal) x0) (show ridx_main_v188 (ix5 0 t h l j) e = ix5 0 t j h e from funext fun a => Fin.ext (match a with | ⟨0, _⟩ => rfl | ⟨1, _⟩ => rfl | ⟨2, _⟩ => rfl | ⟨3, _⟩ => rfl | ⟨4, _⟩ => rfl))).trans (at_v102 x0 t j h e)))
theorem at_v189 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (h : Fin 4) (d : Fin 256) (l : Fin 128) : val_main_v189 (F := Ideal) x0 x1 x6 x7 (ix5 0 t h d l) = (∑ j : Fin 128, Spec.prod (Q x0 t h) (K x0 t h) j l * Spec.dm (x6 (ix1 h)) (x7 (ix1 h)) j l * G x1 t h j d) :=
  (val_main_v189_apply x0 x1 x6 x7 _).trans (Finset.sum_congr rfl fun j _ => (congrArg₂ (fun u v : EReal => u * v) ((congrArg (val_main_v187 (F := Ideal) x1) (show lidx_main_v189 (ix5 0 t h d l) j = ix5 0 t h d j from funext fun a => Fin.ext (match a with | ⟨0, _⟩ => rfl | ⟨1, _⟩ => rfl | ⟨2, _⟩ => rfl | ⟨3, _⟩ => rfl | ⟨4, _⟩ => rfl))).trans (at_v187 x1 t h d j)) ((congrArg (val_main_v106 (F := Ideal) x0 x6 x7) (show ridx_main_v189 (ix5 0 t h d l) j = ix5 0 t h j l from funext fun a => Fin.ext (match a with | ⟨0, _⟩ => rfl | ⟨1, _⟩ => rfl | ⟨2, _⟩ => rfl | ⟨3, _⟩ => rfl | ⟨4, _⟩ => rfl))).trans (at_v106 x0 x6 x7 t h j l))).trans (mul_comm _ _))
theorem at_v190 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v190 (F := Ideal) x0 x1 x6 x7 (ix5 0 t l h d) = (∑ j : Fin 128, Spec.prod (Q x0 t h) (K x0 t h) j l * Spec.dm (x6 (ix1 h)) (x7 (ix1 h)) j l * G x1 t h j d) :=
  (val_main_v190_apply x0 x1 x6 x7 _).trans ((congrArg (val_main_v189 (F := Ideal) x0 x1 x6 x7) (show idx_main_v190 (ix5 0 t l h d) = ix5 0 t h d l from funext fun a => Fin.ext (match a with | ⟨0, _⟩ => rfl | ⟨1, _⟩ => rfl | ⟨2, _⟩ => rfl | ⟨3, _⟩ => rfl | ⟨4, _⟩ => rfl))).trans (at_v189 x0 x1 x6 x7 t h d l))
theorem at_v193 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (h : Fin 4) (l : Fin 128) (j : Fin 128) : val_main_v193 (F := Ideal) x0 x1 x6 x7 (ix5 0 t h l j) = Spec.prod (G x1 t h) (X 2 x0 t h) l j * Spec.dm (x6 (ix1 h)) (x7 (ix1 h)) l j :=
  (val_main_v193_apply x0 x1 x6 x7 _).trans (congrArg₂ (fun u v : EReal => u * v) (at_v188 x0 x1 t h l j) (at_v192 x6 x7 t h l j))
theorem at_v194 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (h : Fin 4) (l : Fin 128) (d : Fin 256) : val_main_v194 (F := Ideal) x0 x1 x6 x7 (ix5 0 t h l d) = (∑ j : Fin 128, Spec.prod (G x1 t h) (X 2 x0 t h) j l * Spec.dm (x6 (ix1 h)) (x7 (ix1 h)) j l * Q x0 t h j d) :=
  (val_main_v194_apply x0 x1 x6 x7 _).trans (Finset.sum_congr rfl fun j _ => congrArg₂ (fun u v : EReal => u * v) ((congrArg (val_main_v193 (F := Ideal) x0 x1 x6 x7) (show lidx_main_v194 (ix5 0 t h l d) j = ix5 0 t h j l from funext fun a => Fin.ext (match a with | ⟨0, _⟩ => rfl | ⟨1, _⟩ => rfl | ⟨2, _⟩ => rfl | ⟨3, _⟩ => rfl | ⟨4, _⟩ => rfl))).trans (at_v193 x0 x1 x6 x7 t h j l)) ((congrArg (val_main_v100 (F := Ideal) x0) (show ridx_main_v194 (ix5 0 t h l d) j = ix5 0 t j h d from funext fun a => Fin.ext (match a with | ⟨0, _⟩ => rfl | ⟨1, _⟩ => rfl | ⟨2, _⟩ => rfl | ⟨3, _⟩ => rfl | ⟨4, _⟩ => rfl))).trans (at_v100 x0 t j h d)))
theorem at_v197 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (h : Fin 4) (l : Fin 128) (d : Fin 256) : val_main_v197 (F := Ideal) x0 x1 x6 x7 (ix5 0 t h l d) = (∑ j : Fin 128, Spec.prod (G x1 t h) (X 2 x0 t h) l j * Spec.dm (x6 (ix1 h)) (x7 (ix1 h)) l j * K x0 t h j d) :=
  (val_main_v197_apply x0 x1 x6 x7 _).trans (Finset.sum_congr rfl fun j _ => congrArg₂ (fun u v : EReal => u * v) ((congrArg (val_main_v193 (F := Ideal) x0 x1 x6 x7) (show lidx_main_v197 (ix5 0 t h l d) j = ix5 0 t h l j from funext fun a => Fin.ext (match a with | ⟨0, _⟩ => rfl | ⟨1, _⟩ => rfl | ⟨2, _⟩ => rfl | ⟨3, _⟩ => rfl | ⟨4, _⟩ => rfl))).trans (at_v193 x0 x1 x6 x7 t h l j)) ((congrArg (val_main_v101 (F := Ideal) x0) (show ridx_main_v197 (ix5 0 t h l d) j = ix5 0 t j h d from funext fun a => Fin.ext (match a with | ⟨0, _⟩ => rfl | ⟨1, _⟩ => rfl | ⟨2, _⟩ => rfl | ⟨3, _⟩ => rfl | ⟨4, _⟩ => rfl))).trans (at_v101 x0 t j h d)))
theorem at_v195 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v195 (F := Ideal) x0 x1 x6 x7 (ix5 0 t l h d) = (∑ j : Fin 128, Spec.prod (G x1 t h) (X 2 x0 t h) j l * Spec.dm (x6 (ix1 h)) (x7 (ix1 h)) j l * Q x0 t h j d) :=
  (val_main_v195_apply x0 x1 x6 x7 _).trans ((congrArg (val_main_v194 (F := Ideal) x0 x1 x6 x7) (show idx_main_v195 (ix5 0 t l h d) = ix5 0 t h l d from funext fun a => Fin.ext (match a with | ⟨0, _⟩ => rfl | ⟨1, _⟩ => rfl | ⟨2, _⟩ => rfl | ⟨3, _⟩ => rfl | ⟨4, _⟩ => rfl))).trans (at_v194 x0 x1 x6 x7 t h l d))
theorem at_v198 (x0 : (⟨S4096x14848, .f32⟩ : BufTy).Contents (Elt Ideal)) (x1 : (⟨S4096x1024, .f32⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v198 (F := Ideal) x0 x1 x6 x7 (ix5 0 t l h d) = (∑ j : Fin 128, Spec.prod (G x1 t h) (X 2 x0 t h) l j * Spec.dm (x6 (ix1 h)) (x7 (ix1 h)) l j * K x0 t h j d) :=
  (val_main_v198_apply x0 x1 x6 x7 _).trans ((congrArg (val_main_v197 (F := Ideal) x0 x1 x6 x7) (show idx_main_v198 (ix5 0 t l h d) = ix5 0 t h l d from funext fun a => Fin.ext (match a with | ⟨0, _⟩ => rfl | ⟨1, _⟩ => rfl | ⟨2, _⟩ => rfl | ⟨3, _⟩ => rfl | ⟨4, _⟩ => rfl))).trans (at_v197 x0 x1 x6 x7 t h l d))
theorem at_v191 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v191 (F := Ideal) x0 x1 x4 x5 x6 x7 (ix5 0 t l h d) = Spec.dv (C t) (Sn t) (X 0 x0 t h) (X 1 x0 t h) (G x1 t h) (M x4 t h) (M x5 t h) (x6 (ix1 h)) (x7 (ix1 h)) l d :=
  (val_main_v191_apply x0 x1 x4 x5 x6 x7 _).trans ((congrArg₂ (fun u v : EReal => u + v) (at_v181 x0 x4 x5 x6 x7 t l h d) (at_v190 x0 x1 x6 x7 t l h d)).trans (turn _ _ _))
theorem at_v196 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v196 (F := Ideal) x0 x1 x4 x5 x6 x7 (ix5 0 t l h d) = Spec.dkPre (Q x0 t h) (X 2 x0 t h) (G x1 t h) (M x4 t h) (M x5 t h) (x6 (ix1 h)) (x7 (ix1 h)) l d :=
  (val_main_v196_apply x0 x1 x4 x5 x6 x7 _).trans ((congrArg₂ (fun u v : EReal => u + v) (at_v186 x0 x4 x5 x6 x7 t l h d) (at_v195 x0 x1 x6 x7 t l h d)).trans (turn _ _ _))
theorem at_v199 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v199 (F := Ideal) x0 x1 x2 x3 x6 x7 (ix5 0 t l h d) = Spec.dqPre (K x0 t h) (X 2 x0 t h) (G x1 t h) (M x2 t h) (M x3 t h) (x6 (ix1 h)) (x7 (ix1 h)) l d :=
  (val_main_v199_apply x0 x1 x2 x3 x6 x7 _).trans ((congrArg₂ (fun u v : EReal => u + v) (at_v172 x1 x2 x3 x6 x7 t l h d) (at_v198 x0 x1 x6 x7 t l h d)).trans (turn _ _ _))
theorem at_v200 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v200 (F := Ideal) x0 x1 x4 x5 x6 x7 (ix4 0 (row t l) h d) = Spec.dv (C t) (Sn t) (X 0 x0 t h) (X 1 x0 t h) (G x1 t h) (M x4 t h) (M x5 t h) (x6 (ix1 h)) (x7 (ix1 h)) l d :=
  (val_main_v200_apply x0 x1 x4 x5 x6 x7 _).trans ((congrArg (val_main_v191 (F := Ideal) x0 x1 x4 x5 x6 x7) (show idx_main_v200 (ix4 0 (row t l) h d) = ix5 0 t l h d from funext fun a => Fin.ext (match a with | ⟨0, _⟩ => rfl | ⟨1, _⟩ => by show (((0 * 4096 + (128 * t.val + l.val)) * 4 + h.val) * 256 + d.val) / 131072 % 32 = t.val; have := d.isLt; have := h.isLt; have := l.isLt; have := t.isLt; omega | ⟨2, _⟩ => by show (((0 * 4096 + (128 * t.val + l.val)) * 4 + h.val) * 256 + d.val) / 1024 % 128 = l.val; have := d.isLt; have := h.isLt; have := l.isLt; have := t.isLt; omega | ⟨3, _⟩ => by show (((0 * 4096 + (128 * t.val + l.val)) * 4 + h.val) * 256 + d.val) / 256 % 4 = h.val; have := d.isLt; have := h.isLt; have := l.isLt; have := t.isLt; omega | ⟨4, _⟩ => by show (((0 * 4096 + (128 * t.val + l.val)) * 4 + h.val) * 256 + d.val) % 256 = d.val; have := d.isLt; have := h.isLt; have := l.isLt; have := t.isLt; omega))).trans (at_v191 x0 x1 x4 x5 x6 x7 t l h d))
theorem at_v201 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v201 (F := Ideal) x0 x1 x4 x5 x6 x7 (ix4 0 (row t l) h d) = Spec.dkPre (Q x0 t h) (X 2 x0 t h) (G x1 t h) (M x4 t h) (M x5 t h) (x6 (ix1 h)) (x7 (ix1 h)) l d :=
  (val_main_v201_apply x0 x1 x4 x5 x6 x7 _).trans ((congrArg (val_main_v196 (F := Ideal) x0 x1 x4 x5 x6 x7) (show idx_main_v201 (ix4 0 (row t l) h d) = ix5 0 t l h d from funext fun a => Fin.ext (match a with | ⟨0, _⟩ => rfl | ⟨1, _⟩ => by show (((0 * 4096 + (128 * t.val + l.val)) * 4 + h.val) * 256 + d.val) / 131072 % 32 = t.val; have := d.isLt; have := h.isLt; have := l.isLt; have := t.isLt; omega | ⟨2, _⟩ => by show (((0 * 4096 + (128 * t.val + l.val)) * 4 + h.val) * 256 + d.val) / 1024 % 128 = l.val; have := d.isLt; have := h.isLt; have := l.isLt; have := t.isLt; omega | ⟨3, _⟩ => by show (((0 * 4096 + (128 * t.val + l.val)) * 4 + h.val) * 256 + d.val) / 256 % 4 = h.val; have := d.isLt; have := h.isLt; have := l.isLt; have := t.isLt; omega | ⟨4, _⟩ => by show (((0 * 4096 + (128 * t.val + l.val)) * 4 + h.val) * 256 + d.val) % 256 = d.val; have := d.isLt; have := h.isLt; have := l.isLt; have := t.isLt; omega))).trans (at_v196 x0 x1 x4 x5 x6 x7 t l h d))
theorem at_v202 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v202 (F := Ideal) x0 x1 x2 x3 x6 x7 (ix4 0 (row t l) h d) = Spec.dqPre (K x0 t h) (X 2 x0 t h) (G x1 t h) (M x2 t h) (M x3 t h) (x6 (ix1 h)) (x7 (ix1 h)) l d :=
  (val_main_v202_apply x0 x1 x2 x3 x6 x7 _).trans ((congrArg (val_main_v199 (F := Ideal) x0 x1 x2 x3 x6 x7) (show idx_main_v202 (ix4 0 (row t l) h d) = ix5 0 t l h d from funext fun a => Fin.ext (match a with | ⟨0, _⟩ => rfl | ⟨1, _⟩ => by show (((0 * 4096 + (128 * t.val + l.val)) * 4 + h.val) * 256 + d.val) / 131072 % 32 = t.val; have := d.isLt; have := h.isLt; have := l.isLt; have := t.isLt; omega | ⟨2, _⟩ => by show (((0 * 4096 + (128 * t.val + l.val)) * 4 + h.val) * 256 + d.val) / 1024 % 128 = l.val; have := d.isLt; have := h.isLt; have := l.isLt; have := t.isLt; omega | ⟨3, _⟩ => by show (((0 * 4096 + (128 * t.val + l.val)) * 4 + h.val) * 256 + d.val) / 256 % 4 = h.val; have := d.isLt; have := h.isLt; have := l.isLt; have := t.isLt; omega | ⟨4, _⟩ => by show (((0 * 4096 + (128 * t.val + l.val)) * 4 + h.val) * 256 + d.val) % 256 = d.val; have := d.isLt; have := h.isLt; have := l.isLt; have := t.isLt; omega))).trans (at_v199 x0 x1 x2 x3 x6 x7 t l h d))
/-! ## The transposed rotary embedding -/
theorem at_v203 (t : Fin 32) (l : Fin 128) (h : Fin 4) (d : Fin 256) : val_main_v203 (F := Ideal) (ix4 0 (row t l) h d) = Ideal.ofBits .f32 0x3D800000#32 :=
  val_main_v203_apply _
theorem at_v204 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v204 (F := Ideal) x0 x1 x4 x5 x6 x7 (ix4 0 (row t l) h d) = Spec.dkPre (Q x0 t h) (X 2 x0 t h) (G x1 t h) (M x4 t h) (M x5 t h) (x6 (ix1 h)) (x7 (ix1 h)) l d * Ideal.ofBits .f32 0x3D800000#32 :=
  (val_main_v204_apply x0 x1 x4 x5 x6 x7 _).trans (congrArg₂ (fun u v : EReal => u * v) (at_v201 x0 x1 x4 x5 x6 x7 t l h d) (at_v203 t l h d))
theorem at_v205 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v205 (F := Ideal) x0 x1 x4 x5 x6 x7 (ix4 0 (row t l) h p) = (Spec.dkPre (Q x0 t h) (X 2 x0 t h) (G x1 t h) (M x4 t h) (M x5 t h) (x6 (ix1 h)) (x7 (ix1 h)) l ((Spec.lo p)) * Ideal.ofBits .f32 0x3D800000#32) :=
  (val_main_v205_apply x0 x1 x4 x5 x6 x7 _).trans ((congrArg (val_main_v204 (F := Ideal) x0 x1 x4 x5 x6 x7) (show idx_main_v205 (ix4 0 (row t l) h p) = ix4 0 (row t l) h (Spec.lo p) from funext fun a => Fin.ext (match a with | ⟨0, _⟩ => rfl | ⟨1, _⟩ => rfl | ⟨2, _⟩ => rfl | ⟨3, _⟩ => rfl))).trans (at_v204 x0 x1 x4 x5 x6 x7 t l h ((Spec.lo p))))
theorem at_v206 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v206 (F := Ideal) x0 x1 x4 x5 x6 x7 (ix4 0 (row t l) h p) = (Spec.dkPre (Q x0 t h) (X 2 x0 t h) (G x1 t h) (M x4 t h) (M x5 t h) (x6 (ix1 h)) (x7 (ix1 h)) l ((Spec.hi p)) * Ideal.ofBits .f32 0x3D800000#32) :=
  (val_main_v206_apply x0 x1 x4 x5 x6 x7 _).trans ((congrArg (val_main_v204 (F := Ideal) x0 x1 x4 x5 x6 x7) (show idx_main_v206 (ix4 0 (row t l) h p) = ix4 0 (row t l) h (Spec.hi p) from funext fun a => Fin.ext (match a with | ⟨0, _⟩ => rfl | ⟨1, _⟩ => rfl | ⟨2, _⟩ => rfl | ⟨3, _⟩ => by show 128 + p.val = (p.val + 128); have := p.isLt; omega))).trans (at_v204 x0 x1 x4 x5 x6 x7 t l h ((Spec.hi p))))
theorem at_v207 (t : Fin 32) (l : Fin 128) (h : Fin 4) (p : Fin 128) : val_main_v207 (F := Ideal) (ix4 0 (row t l) h p) = Sn t l p :=
  (val_main_v207_apply _).trans ((congrArg (val_main_v58 (F := Ideal)) (show idx_main_v207 (ix4 0 (row t l) h p) = ix4 0 (row t l) 0 p from funext fun a => Fin.ext (match a with | ⟨0, _⟩ => rfl | ⟨1, _⟩ => rfl | ⟨2, _⟩ => rfl | ⟨3, _⟩ => rfl))).trans (at_v58 t l p))
theorem at_v208 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v208 (F := Ideal) x0 x1 x4 x5 x6 x7 (ix4 0 (row t l) h p) = (Spec.dkPre (Q x0 t h) (X 2 x0 t h) (G x1 t h) (M x4 t h) (M x5 t h) (x6 (ix1 h)) (x7 (ix1 h)) l ((Spec.hi p)) * Ideal.ofBits .f32 0x3D800000#32) * Sn t l p :=
  (val_main_v208_apply x0 x1 x4 x5 x6 x7 _).trans (congrArg₂ (fun u v : EReal => u * v) (at_v206 x0 x1 x4 x5 x6 x7 t l h p) (at_v207 t l h p))
theorem at_v209 (t : Fin 32) (l : Fin 128) (h : Fin 4) (p : Fin 128) : val_main_v209 (F := Ideal) (ix4 0 (row t l) h p) = C t l p :=
  (val_main_v209_apply _).trans ((congrArg (val_main_v56 (F := Ideal)) (show idx_main_v209 (ix4 0 (row t l) h p) = ix4 0 (row t l) 0 p from funext fun a => Fin.ext (match a with | ⟨0, _⟩ => rfl | ⟨1, _⟩ => rfl | ⟨2, _⟩ => rfl | ⟨3, _⟩ => rfl))).trans (at_v56 t l p))
theorem at_v210 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v210 (F := Ideal) x0 x1 x4 x5 x6 x7 (ix4 0 (row t l) h p) = (Spec.dkPre (Q x0 t h) (X 2 x0 t h) (G x1 t h) (M x4 t h) (M x5 t h) (x6 (ix1 h)) (x7 (ix1 h)) l ((Spec.hi p)) * Ideal.ofBits .f32 0x3D800000#32) * C t l p :=
  (val_main_v210_apply x0 x1 x4 x5 x6 x7 _).trans (congrArg₂ (fun u v : EReal => u * v) (at_v206 x0 x1 x4 x5 x6 x7 t l h p) (at_v209 t l h p))
theorem at_v211 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v211 (F := Ideal) x0 x1 x4 x5 x6 x7 (ix4 0 (row t l) h p) = (-((Spec.dkPre (Q x0 t h) (X 2 x0 t h) (G x1 t h) (M x4 t h) (M x5 t h) (x6 (ix1 h)) (x7 (ix1 h)) l ((Spec.lo p)) * Ideal.ofBits .f32 0x3D800000#32))) :=
  (val_main_v211_apply x0 x1 x4 x5 x6 x7 _).trans (congrArg (fun u : EReal => -u) (at_v205 x0 x1 x4 x5 x6 x7 t l h p))
theorem at_v212 (t : Fin 32) (l : Fin 128) (h : Fin 4) (p : Fin 128) : val_main_v212 (F := Ideal) (ix4 0 (row t l) h p) = Sn t l p :=
  (val_main_v212_apply _).trans ((congrArg (val_main_v58 (F := Ideal)) (show idx_main_v212 (ix4 0 (row t l) h p) = ix4 0 (row t l) 0 p from funext fun a => Fin.ext (match a with | ⟨0, _⟩ => rfl | ⟨1, _⟩ => rfl | ⟨2, _⟩ => rfl | ⟨3, _⟩ => rfl))).trans (at_v58 t l p))
theorem at_v213 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v213 (F := Ideal) x0 x1 x4 x5 x6 x7 (ix4 0 (row t l) h p) = (-((Spec.dkPre (Q x0 t h) (X 2 x0 t h) (G x1 t h) (M x4 t h) (M x5 t h) (x6 (ix1 h)) (x7 (ix1 h)) l ((Spec.lo p)) * Ideal.ofBits .f32 0x3D800000#32))) * Sn t l p :=
  (val_main_v213_apply x0 x1 x4 x5 x6 x7 _).trans (congrArg₂ (fun u v : EReal => u * v) (at_v211 x0 x1 x4 x5 x6 x7 t l h p) (at_v212 t l h p))
theorem at_v214 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v214 (F := Ideal) x0 x1 x4 x5 x6 x7 (ix4 0 (row t l) h p) = ((Spec.dkPre (Q x0 t h) (X 2 x0 t h) (G x1 t h) (M x4 t h) (M x5 t h) (x6 (ix1 h)) (x7 (ix1 h)) l ((Spec.hi p)) * Ideal.ofBits .f32 0x3D800000#32) * C t l p) + ((-((Spec.dkPre (Q x0 t h) (X 2 x0 t h) (G x1 t h) (M x4 t h) (M x5 t h) (x6 (ix1 h)) (x7 (ix1 h)) l ((Spec.lo p)) * Ideal.ofBits .f32 0x3D800000#32))) * Sn t l p) :=
  (val_main_v214_apply x0 x1 x4 x5 x6 x7 _).trans (congrArg₂ (fun u v : EReal => u + v) (at_v210 x0 x1 x4 x5 x6 x7 t l h p) (at_v213 x0 x1 x4 x5 x6 x7 t l h p))
theorem at_v215 (t : Fin 32) (l : Fin 128) (h : Fin 4) (p : Fin 128) : val_main_v215 (F := Ideal) (ix4 0 (row t l) h p) = C t l p :=
  (val_main_v215_apply _).trans ((congrArg (val_main_v56 (F := Ideal)) (show idx_main_v215 (ix4 0 (row t l) h p) = ix4 0 (row t l) 0 p from funext fun a => Fin.ext (match a with | ⟨0, _⟩ => rfl | ⟨1, _⟩ => rfl | ⟨2, _⟩ => rfl | ⟨3, _⟩ => rfl))).trans (at_v56 t l p))
theorem at_v216 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v216 (F := Ideal) x0 x1 x4 x5 x6 x7 (ix4 0 (row t l) h p) = (Spec.dkPre (Q x0 t h) (X 2 x0 t h) (G x1 t h) (M x4 t h) (M x5 t h) (x6 (ix1 h)) (x7 (ix1 h)) l ((Spec.lo p)) * Ideal.ofBits .f32 0x3D800000#32) * C t l p :=
  (val_main_v216_apply x0 x1 x4 x5 x6 x7 _).trans (congrArg₂ (fun u v : EReal => u * v) (at_v205 x0 x1 x4 x5 x6 x7 t l h p) (at_v215 t l h p))
theorem at_v217 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v217 (F := Ideal) x0 x1 x4 x5 x6 x7 (ix4 0 (row t l) h p) = ((Spec.dkPre (Q x0 t h) (X 2 x0 t h) (G x1 t h) (M x4 t h) (M x5 t h) (x6 (ix1 h)) (x7 (ix1 h)) l ((Spec.hi p)) * Ideal.ofBits .f32 0x3D800000#32) * Sn t l p) + ((Spec.dkPre (Q x0 t h) (X 2 x0 t h) (G x1 t h) (M x4 t h) (M x5 t h) (x6 (ix1 h)) (x7 (ix1 h)) l ((Spec.lo p)) * Ideal.ofBits .f32 0x3D800000#32) * C t l p) :=
  (val_main_v217_apply x0 x1 x4 x5 x6 x7 _).trans (congrArg₂ (fun u v : EReal => u + v) (at_v208 x0 x1 x4 x5 x6 x7 t l h p) (at_v216 x0 x1 x4 x5 x6 x7 t l h p))
theorem at_v218_lo (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v218 (F := Ideal) x0 x1 x4 x5 x6 x7 (ix4 0 (row t l) h (Spec.lo p)) = 0 := by
  refine Eq.trans ?_ Ideal.ofBits_zero_f32
  unfold val_main_v218
  exact pad_apply_of_not_inside ![0, 0, 0, 128] ![0, 0, 0, 0] ![0, 0, 0, 0] (val_main_v214 (F := Ideal) x0 x1 x4 x5 x6 x7) (val_main_cst_9 (F := Ideal)) pads_S1x4096x4x128_S1x4096x4x256_000_000_000_12800 h_S_ (ix4 0 (row t l) h (Spec.lo p)) 3 (fun hh => by have h1 : 128 ≤ p.val := hh.1; have := p.isLt; omega)
theorem at_v218_hi (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v218 (F := Ideal) x0 x1 x4 x5 x6 x7 (ix4 0 (row t l) h (Spec.hi p)) = (((Spec.dkPre (Q x0 t h) (X 2 x0 t h) (G x1 t h) (M x4 t h) (M x5 t h) (x6 (ix1 h)) (x7 (ix1 h)) l ((Spec.hi p)) * Ideal.ofBits .f32 0x3D800000#32) * C t l p) + ((-((Spec.dkPre (Q x0 t h) (X 2 x0 t h) (G x1 t h) (M x4 t h) (M x5 t h) (x6 (ix1 h)) (x7 (ix1 h)) l ((Spec.lo p)) * Ideal.ofBits .f32 0x3D800000#32))) * Sn t l p)) := by
  refine Eq.trans ?_ (at_v214 x0 x1 x4 x5 x6 x7 t l h p)
  unfold val_main_v218
  exact pad_apply_of_inside ![0, 0, 0, 128] ![0, 0, 0, 0] ![0, 0, 0, 0] (val_main_v214 (F := Ideal) x0 x1 x4 x5 x6 x7) (val_main_cst_9 (F := Ideal)) pads_S1x4096x4x128_S1x4096x4x256_000_000_000_12800 h_S_ (ix4 0 (row t l) h (Spec.hi p)) (ix4 0 (row t l) h p)
    (fun b => match b with | ⟨0, _⟩ => by show 0 = 0 + 0 * 1; rfl | ⟨1, _⟩ => by show 128 * t.val + l.val = 0 + (128 * t.val + l.val) * 1; omega | ⟨2, _⟩ => by show h.val = 0 + h.val * 1; omega | ⟨3, _⟩ => by show p.val + 128 = 128 + p.val * 1; omega)
theorem at_v219_lo (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v219 (F := Ideal) x0 x1 x4 x5 x6 x7 (ix4 0 (row t l) h (Spec.lo p)) = (((Spec.dkPre (Q x0 t h) (X 2 x0 t h) (G x1 t h) (M x4 t h) (M x5 t h) (x6 (ix1 h)) (x7 (ix1 h)) l ((Spec.hi p)) * Ideal.ofBits .f32 0x3D800000#32) * Sn t l p) + ((Spec.dkPre (Q x0 t h) (X 2 x0 t h) (G x1 t h) (M x4 t h) (M x5 t h) (x6 (ix1 h)) (x7 (ix1 h)) l ((Spec.lo p)) * Ideal.ofBits .f32 0x3D800000#32) * C t l p)) := by
  refine Eq.trans ?_ (at_v217 x0 x1 x4 x5 x6 x7 t l h p)
  unfold val_main_v219
  exact pad_apply_of_inside ![0, 0, 0, 0] ![0, 0, 0, 128] ![0, 0, 0, 0] (val_main_v217 (F := Ideal) x0 x1 x4 x5 x6 x7) (val_main_cst_10 (F := Ideal)) pads_S1x4096x4x128_S1x4096x4x256_000_000_000_01280 h_S_ (ix4 0 (row t l) h (Spec.lo p)) (ix4 0 (row t l) h p)
    (fun b => match b with | ⟨0, _⟩ => by show 0 = 0 + 0 * 1; rfl | ⟨1, _⟩ => by show 128 * t.val + l.val = 0 + (128 * t.val + l.val) * 1; omega | ⟨2, _⟩ => by show h.val = 0 + h.val * 1; omega | ⟨3, _⟩ => by show p.val = 0 + p.val * 1; omega)
theorem at_v219_hi (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v219 (F := Ideal) x0 x1 x4 x5 x6 x7 (ix4 0 (row t l) h (Spec.hi p)) = 0 := by
  refine Eq.trans ?_ Ideal.ofBits_zero_f32
  unfold val_main_v219
  exact pad_apply_of_not_inside ![0, 0, 0, 0] ![0, 0, 0, 128] ![0, 0, 0, 0] (val_main_v217 (F := Ideal) x0 x1 x4 x5 x6 x7) (val_main_cst_10 (F := Ideal)) pads_S1x4096x4x128_S1x4096x4x256_000_000_000_01280 h_S_ (ix4 0 (row t l) h (Spec.hi p)) 3 (fun hh => by have h1 : (p.val + 128 - 0) / 1 < 128 := hh.2.2; omega)
theorem at_v220 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v220 (F := Ideal) x0 x1 x4 x5 x6 x7 (ix4 0 (row t l) h d) = Spec.rotT (C t l) (Sn t l) (fun d => (Spec.dkPre (Q x0 t h) (X 2 x0 t h) (G x1 t h) (M x4 t h) (M x5 t h) (x6 (ix1 h)) (x7 (ix1 h)) l d * Ideal.ofBits .f32 0x3D800000#32)) d := by
  refine Spec.half_cases (f := fun d => val_main_v220 (F := Ideal) x0 x1 x4 x5 x6 x7 (ix4 0 (row t l) h d))
    (g := fun d => Spec.rotT (C t l) (Sn t l) (fun d => (Spec.dkPre (Q x0 t h) (X 2 x0 t h) (G x1 t h) (M x4 t h) (M x5 t h) (x6 (ix1 h)) (x7 (ix1 h)) l d * Ideal.ofBits .f32 0x3D800000#32)) d) (fun p => ?_) (fun p => ?_) d
  · refine Eq.trans (val_main_v220_apply x0 x1 x4 x5 x6 x7 _) (Eq.trans ?_ (Spec.halves_lo _ _ p).symm)
    exact (congrArg₂ (fun u v : EReal => u + v) (at_v218_lo x0 x1 x4 x5 x6 x7 t l h p) (at_v219_lo x0 x1 x4 x5 x6 x7 t l h p)).trans ((zero_add _).trans (add_comm _ _))
  · refine Eq.trans (val_main_v220_apply x0 x1 x4 x5 x6 x7 _) (Eq.trans ?_ (Spec.halves_hi _ _ p).symm)
    exact (congrArg₂ (fun u v : EReal => u + v) (at_v218_hi x0 x1 x4 x5 x6 x7 t l h p) (at_v219_hi x0 x1 x4 x5 x6 x7 t l h p)).trans ((add_zero _).trans (minus _ _ _))
theorem at_v221 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v221 (F := Ideal) x0 x1 x2 x3 x6 x7 (ix4 0 (row t l) h p) = Spec.dqPre (K x0 t h) (X 2 x0 t h) (G x1 t h) (M x2 t h) (M x3 t h) (x6 (ix1 h)) (x7 (ix1 h)) l ((Spec.lo p)) :=
  (val_main_v221_apply x0 x1 x2 x3 x6 x7 _).trans ((congrArg (val_main_v202 (F := Ideal) x0 x1 x2 x3 x6 x7) (show idx_main_v221 (ix4 0 (row t l) h p) = ix4 0 (row t l) h (Spec.lo p) from funext fun a => Fin.ext (match a with | ⟨0, _⟩ => rfl | ⟨1, _⟩ => rfl | ⟨2, _⟩ => rfl | ⟨3, _⟩ => rfl))).trans (at_v202 x0 x1 x2 x3 x6 x7 t l h ((Spec.lo p))))
theorem at_v222 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v222 (F := Ideal) x0 x1 x2 x3 x6 x7 (ix4 0 (row t l) h p) = Spec.dqPre (K x0 t h) (X 2 x0 t h) (G x1 t h) (M x2 t h) (M x3 t h) (x6 (ix1 h)) (x7 (ix1 h)) l ((Spec.hi p)) :=
  (val_main_v222_apply x0 x1 x2 x3 x6 x7 _).trans ((congrArg (val_main_v202 (F := Ideal) x0 x1 x2 x3 x6 x7) (show idx_main_v222 (ix4 0 (row t l) h p) = ix4 0 (row t l) h (Spec.hi p) from funext fun a => Fin.ext (match a with | ⟨0, _⟩ => rfl | ⟨1, _⟩ => rfl | ⟨2, _⟩ => rfl | ⟨3, _⟩ => by show 128 + p.val = (p.val + 128); have := p.isLt; omega))).trans (at_v202 x0 x1 x2 x3 x6 x7 t l h ((Spec.hi p))))
theorem at_v223 (t : Fin 32) (l : Fin 128) (h : Fin 4) (p : Fin 128) : val_main_v223 (F := Ideal) (ix4 0 (row t l) h p) = Sn t l p :=
  (val_main_v223_apply _).trans ((congrArg (val_main_v35 (F := Ideal)) (show idx_main_v223 (ix4 0 (row t l) h p) = ix4 0 (row t l) 0 p from funext fun a => Fin.ext (match a with | ⟨0, _⟩ => rfl | ⟨1, _⟩ => rfl | ⟨2, _⟩ => rfl | ⟨3, _⟩ => rfl))).trans (at_v35 t l p))
theorem at_v224 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v224 (F := Ideal) x0 x1 x2 x3 x6 x7 (ix4 0 (row t l) h p) = Spec.dqPre (K x0 t h) (X 2 x0 t h) (G x1 t h) (M x2 t h) (M x3 t h) (x6 (ix1 h)) (x7 (ix1 h)) l ((Spec.hi p)) * Sn t l p :=
  (val_main_v224_apply x0 x1 x2 x3 x6 x7 _).trans (congrArg₂ (fun u v : EReal => u * v) (at_v222 x0 x1 x2 x3 x6 x7 t l h p) (at_v223 t l h p))
theorem at_v225 (t : Fin 32) (l : Fin 128) (h : Fin 4) (p : Fin 128) : val_main_v225 (F := Ideal) (ix4 0 (row t l) h p) = C t l p :=
  (val_main_v225_apply _).trans ((congrArg (val_main_v33 (F := Ideal)) (show idx_main_v225 (ix4 0 (row t l) h p) = ix4 0 (row t l) 0 p from funext fun a => Fin.ext (match a with | ⟨0, _⟩ => rfl | ⟨1, _⟩ => rfl | ⟨2, _⟩ => rfl | ⟨3, _⟩ => rfl))).trans (at_v33 t l p))
theorem at_v226 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v226 (F := Ideal) x0 x1 x2 x3 x6 x7 (ix4 0 (row t l) h p) = Spec.dqPre (K x0 t h) (X 2 x0 t h) (G x1 t h) (M x2 t h) (M x3 t h) (x6 (ix1 h)) (x7 (ix1 h)) l ((Spec.hi p)) * C t l p :=
  (val_main_v226_apply x0 x1 x2 x3 x6 x7 _).trans (congrArg₂ (fun u v : EReal => u * v) (at_v222 x0 x1 x2 x3 x6 x7 t l h p) (at_v225 t l h p))
theorem at_v227 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v227 (F := Ideal) x0 x1 x2 x3 x6 x7 (ix4 0 (row t l) h p) = (-(Spec.dqPre (K x0 t h) (X 2 x0 t h) (G x1 t h) (M x2 t h) (M x3 t h) (x6 (ix1 h)) (x7 (ix1 h)) l ((Spec.lo p)))) :=
  (val_main_v227_apply x0 x1 x2 x3 x6 x7 _).trans (congrArg (fun u : EReal => -u) (at_v221 x0 x1 x2 x3 x6 x7 t l h p))
theorem at_v228 (t : Fin 32) (l : Fin 128) (h : Fin 4) (p : Fin 128) : val_main_v228 (F := Ideal) (ix4 0 (row t l) h p) = Sn t l p :=
  (val_main_v228_apply _).trans ((congrArg (val_main_v35 (F := Ideal)) (show idx_main_v228 (ix4 0 (row t l) h p) = ix4 0 (row t l) 0 p from funext fun a => Fin.ext (match a with | ⟨0, _⟩ => rfl | ⟨1, _⟩ => rfl | ⟨2, _⟩ => rfl | ⟨3, _⟩ => rfl))).trans (at_v35 t l p))
theorem at_v229 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v229 (F := Ideal) x0 x1 x2 x3 x6 x7 (ix4 0 (row t l) h p) = (-(Spec.dqPre (K x0 t h) (X 2 x0 t h) (G x1 t h) (M x2 t h) (M x3 t h) (x6 (ix1 h)) (x7 (ix1 h)) l ((Spec.lo p)))) * Sn t l p :=
  (val_main_v229_apply x0 x1 x2 x3 x6 x7 _).trans (congrArg₂ (fun u v : EReal => u * v) (at_v227 x0 x1 x2 x3 x6 x7 t l h p) (at_v228 t l h p))
theorem at_v230 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v230 (F := Ideal) x0 x1 x2 x3 x6 x7 (ix4 0 (row t l) h p) = (Spec.dqPre (K x0 t h) (X 2 x0 t h) (G x1 t h) (M x2 t h) (M x3 t h) (x6 (ix1 h)) (x7 (ix1 h)) l ((Spec.hi p)) * C t l p) + ((-(Spec.dqPre (K x0 t h) (X 2 x0 t h) (G x1 t h) (M x2 t h) (M x3 t h) (x6 (ix1 h)) (x7 (ix1 h)) l ((Spec.lo p)))) * Sn t l p) :=
  (val_main_v230_apply x0 x1 x2 x3 x6 x7 _).trans (congrArg₂ (fun u v : EReal => u + v) (at_v226 x0 x1 x2 x3 x6 x7 t l h p) (at_v229 x0 x1 x2 x3 x6 x7 t l h p))
theorem at_v231 (t : Fin 32) (l : Fin 128) (h : Fin 4) (p : Fin 128) : val_main_v231 (F := Ideal) (ix4 0 (row t l) h p) = C t l p :=
  (val_main_v231_apply _).trans ((congrArg (val_main_v33 (F := Ideal)) (show idx_main_v231 (ix4 0 (row t l) h p) = ix4 0 (row t l) 0 p from funext fun a => Fin.ext (match a with | ⟨0, _⟩ => rfl | ⟨1, _⟩ => rfl | ⟨2, _⟩ => rfl | ⟨3, _⟩ => rfl))).trans (at_v33 t l p))
theorem at_v232 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v232 (F := Ideal) x0 x1 x2 x3 x6 x7 (ix4 0 (row t l) h p) = Spec.dqPre (K x0 t h) (X 2 x0 t h) (G x1 t h) (M x2 t h) (M x3 t h) (x6 (ix1 h)) (x7 (ix1 h)) l ((Spec.lo p)) * C t l p :=
  (val_main_v232_apply x0 x1 x2 x3 x6 x7 _).trans (congrArg₂ (fun u v : EReal => u * v) (at_v221 x0 x1 x2 x3 x6 x7 t l h p) (at_v231 t l h p))
theorem at_v233 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v233 (F := Ideal) x0 x1 x2 x3 x6 x7 (ix4 0 (row t l) h p) = (Spec.dqPre (K x0 t h) (X 2 x0 t h) (G x1 t h) (M x2 t h) (M x3 t h) (x6 (ix1 h)) (x7 (ix1 h)) l ((Spec.hi p)) * Sn t l p) + (Spec.dqPre (K x0 t h) (X 2 x0 t h) (G x1 t h) (M x2 t h) (M x3 t h) (x6 (ix1 h)) (x7 (ix1 h)) l ((Spec.lo p)) * C t l p) :=
  (val_main_v233_apply x0 x1 x2 x3 x6 x7 _).trans (congrArg₂ (fun u v : EReal => u + v) (at_v224 x0 x1 x2 x3 x6 x7 t l h p) (at_v232 x0 x1 x2 x3 x6 x7 t l h p))
theorem at_v234_lo (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v234 (F := Ideal) x0 x1 x2 x3 x6 x7 (ix4 0 (row t l) h (Spec.lo p)) = 0 := by
  refine Eq.trans ?_ Ideal.ofBits_zero_f32
  unfold val_main_v234
  exact pad_apply_of_not_inside ![0, 0, 0, 128] ![0, 0, 0, 0] ![0, 0, 0, 0] (val_main_v230 (F := Ideal) x0 x1 x2 x3 x6 x7) (val_main_cst_11 (F := Ideal)) pads_S1x4096x4x128_S1x4096x4x256_000_000_000_12800 h_S_ (ix4 0 (row t l) h (Spec.lo p)) 3 (fun hh => by have h1 : 128 ≤ p.val := hh.1; have := p.isLt; omega)
theorem at_v234_hi (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v234 (F := Ideal) x0 x1 x2 x3 x6 x7 (ix4 0 (row t l) h (Spec.hi p)) = ((Spec.dqPre (K x0 t h) (X 2 x0 t h) (G x1 t h) (M x2 t h) (M x3 t h) (x6 (ix1 h)) (x7 (ix1 h)) l ((Spec.hi p)) * C t l p) + ((-(Spec.dqPre (K x0 t h) (X 2 x0 t h) (G x1 t h) (M x2 t h) (M x3 t h) (x6 (ix1 h)) (x7 (ix1 h)) l ((Spec.lo p)))) * Sn t l p)) := by
  refine Eq.trans ?_ (at_v230 x0 x1 x2 x3 x6 x7 t l h p)
  unfold val_main_v234
  exact pad_apply_of_inside ![0, 0, 0, 128] ![0, 0, 0, 0] ![0, 0, 0, 0] (val_main_v230 (F := Ideal) x0 x1 x2 x3 x6 x7) (val_main_cst_11 (F := Ideal)) pads_S1x4096x4x128_S1x4096x4x256_000_000_000_12800 h_S_ (ix4 0 (row t l) h (Spec.hi p)) (ix4 0 (row t l) h p)
    (fun b => match b with | ⟨0, _⟩ => by show 0 = 0 + 0 * 1; rfl | ⟨1, _⟩ => by show 128 * t.val + l.val = 0 + (128 * t.val + l.val) * 1; omega | ⟨2, _⟩ => by show h.val = 0 + h.val * 1; omega | ⟨3, _⟩ => by show p.val + 128 = 128 + p.val * 1; omega)
theorem at_v235_lo (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v235 (F := Ideal) x0 x1 x2 x3 x6 x7 (ix4 0 (row t l) h (Spec.lo p)) = ((Spec.dqPre (K x0 t h) (X 2 x0 t h) (G x1 t h) (M x2 t h) (M x3 t h) (x6 (ix1 h)) (x7 (ix1 h)) l ((Spec.hi p)) * Sn t l p) + (Spec.dqPre (K x0 t h) (X 2 x0 t h) (G x1 t h) (M x2 t h) (M x3 t h) (x6 (ix1 h)) (x7 (ix1 h)) l ((Spec.lo p)) * C t l p)) := by
  refine Eq.trans ?_ (at_v233 x0 x1 x2 x3 x6 x7 t l h p)
  unfold val_main_v235
  exact pad_apply_of_inside ![0, 0, 0, 0] ![0, 0, 0, 128] ![0, 0, 0, 0] (val_main_v233 (F := Ideal) x0 x1 x2 x3 x6 x7) (val_main_cst_12 (F := Ideal)) pads_S1x4096x4x128_S1x4096x4x256_000_000_000_01280 h_S_ (ix4 0 (row t l) h (Spec.lo p)) (ix4 0 (row t l) h p)
    (fun b => match b with | ⟨0, _⟩ => by show 0 = 0 + 0 * 1; rfl | ⟨1, _⟩ => by show 128 * t.val + l.val = 0 + (128 * t.val + l.val) * 1; omega | ⟨2, _⟩ => by show h.val = 0 + h.val * 1; omega | ⟨3, _⟩ => by show p.val = 0 + p.val * 1; omega)
theorem at_v235_hi (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (p : Fin 128) : val_main_v235 (F := Ideal) x0 x1 x2 x3 x6 x7 (ix4 0 (row t l) h (Spec.hi p)) = 0 := by
  refine Eq.trans ?_ Ideal.ofBits_zero_f32
  unfold val_main_v235
  exact pad_apply_of_not_inside ![0, 0, 0, 0] ![0, 0, 0, 128] ![0, 0, 0, 0] (val_main_v233 (F := Ideal) x0 x1 x2 x3 x6 x7) (val_main_cst_12 (F := Ideal)) pads_S1x4096x4x128_S1x4096x4x256_000_000_000_01280 h_S_ (ix4 0 (row t l) h (Spec.hi p)) 3 (fun hh => by have h1 : (p.val + 128 - 0) / 1 < 128 := hh.2.2; omega)
theorem at_v236 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v236 (F := Ideal) x0 x1 x2 x3 x6 x7 (ix4 0 (row t l) h d) = Spec.rotT (C t l) (Sn t l) (fun d => Spec.dqPre (K x0 t h) (X 2 x0 t h) (G x1 t h) (M x2 t h) (M x3 t h) (x6 (ix1 h)) (x7 (ix1 h)) l d) d := by
  refine Spec.half_cases (f := fun d => val_main_v236 (F := Ideal) x0 x1 x2 x3 x6 x7 (ix4 0 (row t l) h d))
    (g := fun d => Spec.rotT (C t l) (Sn t l) (fun d => Spec.dqPre (K x0 t h) (X 2 x0 t h) (G x1 t h) (M x2 t h) (M x3 t h) (x6 (ix1 h)) (x7 (ix1 h)) l d) d) (fun p => ?_) (fun p => ?_) d
  · refine Eq.trans (val_main_v236_apply x0 x1 x2 x3 x6 x7 _) (Eq.trans ?_ (Spec.halves_lo _ _ p).symm)
    exact (congrArg₂ (fun u v : EReal => u + v) (at_v234_lo x0 x1 x2 x3 x6 x7 t l h p) (at_v235_lo x0 x1 x2 x3 x6 x7 t l h p)).trans ((zero_add _).trans (add_comm _ _))
  · refine Eq.trans (val_main_v236_apply x0 x1 x2 x3 x6 x7 _) (Eq.trans ?_ (Spec.halves_hi _ _ p).symm)
    exact (congrArg₂ (fun u v : EReal => u + v) (at_v234_hi x0 x1 x2 x3 x6 x7 t l h p) (at_v235_hi x0 x1 x2 x3 x6 x7 t l h p)).trans ((add_zero _).trans (minus _ _ _))
/-! ## The results -/
theorem at_v237 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v237 (F := Ideal) x0 x1 x2 x3 x6 x7 (ix2 (row t l) (col h d)) = Spec.rotT (C t l) (Sn t l) (fun d => Spec.dqPre (K x0 t h) (X 2 x0 t h) (G x1 t h) (M x2 t h) (M x3 t h) (x6 (ix1 h)) (x7 (ix1 h)) l d) d :=
  (val_main_v237_apply x0 x1 x2 x3 x6 x7 _).trans ((congrArg (val_main_v236 (F := Ideal) x0 x1 x2 x3 x6 x7) (show idx_main_v237 (ix2 (row t l) (col h d)) = ix4 0 (row t l) h d from funext fun a => Fin.ext (match a with | ⟨0, _⟩ => rfl | ⟨1, _⟩ => by show ((128 * t.val + l.val) * 1024 + (256 * h.val + d.val)) / 1024 % 4096 = (128 * t.val + l.val); have := d.isLt; have := h.isLt; have := l.isLt; have := t.isLt; omega | ⟨2, _⟩ => by show ((128 * t.val + l.val) * 1024 + (256 * h.val + d.val)) / 256 % 4 = h.val; have := d.isLt; have := h.isLt; have := l.isLt; have := t.isLt; omega | ⟨3, _⟩ => by show ((128 * t.val + l.val) * 1024 + (256 * h.val + d.val)) % 256 = d.val; have := d.isLt; have := h.isLt; have := l.isLt; have := t.isLt; omega))).trans (at_v236 x0 x1 x2 x3 x6 x7 t l h d))
theorem at_v238 (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v238 (F := Ideal) x0 x1 x2 x3 x6 x7 (ix2 (row t l) (col h d)) = Spec.dq (C t) (Sn t) (X 1 x0 t h) (X 2 x0 t h) (G x1 t h) (M x2 t h) (M x3 t h) (x6 (ix1 h)) (x7 (ix1 h)) l d :=
  (val_main_v238_apply x0 x1 x2 x3 x6 x7 _).trans ((at_v237 x0 x1 x2 x3 x6 x7 t l h d))
theorem at_v239 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v239 (F := Ideal) x0 x1 x4 x5 x6 x7 (ix2 (row t l) (col h d)) = Spec.rotT (C t l) (Sn t l) (fun d => (Spec.dkPre (Q x0 t h) (X 2 x0 t h) (G x1 t h) (M x4 t h) (M x5 t h) (x6 (ix1 h)) (x7 (ix1 h)) l d * Ideal.ofBits .f32 0x3D800000#32)) d :=
  (val_main_v239_apply x0 x1 x4 x5 x6 x7 _).trans ((congrArg (val_main_v220 (F := Ideal) x0 x1 x4 x5 x6 x7) (show idx_main_v239 (ix2 (row t l) (col h d)) = ix4 0 (row t l) h d from funext fun a => Fin.ext (match a with | ⟨0, _⟩ => rfl | ⟨1, _⟩ => by show ((128 * t.val + l.val) * 1024 + (256 * h.val + d.val)) / 1024 % 4096 = (128 * t.val + l.val); have := d.isLt; have := h.isLt; have := l.isLt; have := t.isLt; omega | ⟨2, _⟩ => by show ((128 * t.val + l.val) * 1024 + (256 * h.val + d.val)) / 256 % 4 = h.val; have := d.isLt; have := h.isLt; have := l.isLt; have := t.isLt; omega | ⟨3, _⟩ => by show ((128 * t.val + l.val) * 1024 + (256 * h.val + d.val)) % 256 = d.val; have := d.isLt; have := h.isLt; have := l.isLt; have := t.isLt; omega))).trans (at_v220 x0 x1 x4 x5 x6 x7 t l h d))
theorem at_v240 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v240 (F := Ideal) x0 x1 x4 x5 x6 x7 (ix2 (row t l) (col h d)) = Spec.dk (C t) (Sn t) (X 0 x0 t h) (X 2 x0 t h) (G x1 t h) (M x4 t h) (M x5 t h) (x6 (ix1 h)) (x7 (ix1 h)) l d :=
  (val_main_v240_apply x0 x1 x4 x5 x6 x7 _).trans ((at_v239 x0 x1 x4 x5 x6 x7 t l h d).trans (Spec.rotT_kap _ _ _ d))
theorem at_v241 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v241 (F := Ideal) x0 x1 x4 x5 x6 x7 (ix2 (row t l) (col h d)) = Spec.dv (C t) (Sn t) (X 0 x0 t h) (X 1 x0 t h) (G x1 t h) (M x4 t h) (M x5 t h) (x6 (ix1 h)) (x7 (ix1 h)) l d :=
  (val_main_v241_apply x0 x1 x4 x5 x6 x7 _).trans ((congrArg (val_main_v200 (F := Ideal) x0 x1 x4 x5 x6 x7) (show idx_main_v241 (ix2 (row t l) (col h d)) = ix4 0 (row t l) h d from funext fun a => Fin.ext (match a with | ⟨0, _⟩ => rfl | ⟨1, _⟩ => by show ((128 * t.val + l.val) * 1024 + (256 * h.val + d.val)) / 1024 % 4096 = (128 * t.val + l.val); have := d.isLt; have := h.isLt; have := l.isLt; have := t.isLt; omega | ⟨2, _⟩ => by show ((128 * t.val + l.val) * 1024 + (256 * h.val + d.val)) / 256 % 4 = h.val; have := d.isLt; have := h.isLt; have := l.isLt; have := t.isLt; omega | ⟨3, _⟩ => by show ((128 * t.val + l.val) * 1024 + (256 * h.val + d.val)) % 256 = d.val; have := d.isLt; have := h.isLt; have := l.isLt; have := t.isLt; omega))).trans (at_v200 x0 x1 x4 x5 x6 x7 t l h d))
theorem at_v242 (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) (t : Fin 32) (l : Fin 128) (h : Fin 4) (d : Fin 256) : val_main_v242 (F := Ideal) x0 x1 x4 x5 x6 x7 (ix2 (row t l) (col h d)) = Spec.dv (C t) (Sn t) (X 0 x0 t h) (X 1 x0 t h) (G x1 t h) (M x4 t h) (M x5 t h) (x6 (ix1 h)) (x7 (ix1 h)) l d :=
  (val_main_v242_apply x0 x1 x4 x5 x6 x7 _).trans ((at_v241 x0 x1 x4 x5 x6 x7 t l h d))
/-- The reference's query gradient is the kernel's. -/
theorem v238_eq (x0 : (⟨S4096x14848, .f32⟩ : BufTy).Contents (Elt Ideal)) (x1 : (⟨S4096x1024, .f32⟩ : BufTy).Contents (Elt Ideal)) (x2 : (⟨S4x32x256x256, .bf16⟩ : BufTy).Contents (Elt Ideal)) (x3 : (⟨S4x32x256x256, .bf16⟩ : BufTy).Contents (Elt Ideal)) (x6 : (⟨S4, .f32⟩ : BufTy).Contents (Elt Ideal)) (x7 : (⟨S4, .f32⟩ : BufTy).Contents (Elt Ideal)) : val_main_v238 (F := Ideal) x0 x1 x2 x3 x6 x7 = outQ (F := Ideal) x0 x1 x2 x3 x6 x7 := by
  funext i
  refine Eq.trans (congrArg (val_main_v238 (F := Ideal) x0 x1 x2 x3 x6 x7) (spot i).symm) (Eq.trans ?_ (congrArg (outQ (F := Ideal) x0 x1 x2 x3 x6 x7) (spot i)))
  refine (at_v238 x0 x1 x2 x3 x6 x7 (blockNo i) (posNo i) (headNo i) (featNo i)).trans ?_
  unfold outQ
  refine Eq.trans ?_ (stack_apply _ (blockNo i) (posNo i) (col (headNo i) (featNo i))).symm
  refine Eq.trans ?_ (glue_apply _ (posNo i) (headNo i) (featNo i)).symm
  exact (Head.hq_apply _ _ _ _ _ _ _ _ _ (posNo i) (featNo i)).symm
/-- The reference's key gradient is the kernel's. -/
theorem v240_eq (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) : val_main_v240 (F := Ideal) x0 x1 x4 x5 x6 x7 = outK (F := Ideal) x0 x1 x4 x5 x6 x7 := by
  funext i
  refine Eq.trans (congrArg (val_main_v240 (F := Ideal) x0 x1 x4 x5 x6 x7) (spot i).symm) (Eq.trans ?_ (congrArg (outK (F := Ideal) x0 x1 x4 x5 x6 x7) (spot i)))
  refine (at_v240 x0 x1 x4 x5 x6 x7 (blockNo i) (posNo i) (headNo i) (featNo i)).trans ?_
  unfold outK
  refine Eq.trans ?_ (stack_apply _ (blockNo i) (posNo i) (col (headNo i) (featNo i))).symm
  refine Eq.trans ?_ (glue_apply _ (posNo i) (headNo i) (featNo i)).symm
  exact (Head.hk_apply _ _ _ _ _ _ _ _ _ (posNo i) (featNo i)).symm
/-- The reference's value gradient is the kernel's. -/
theorem v242_eq (x0 : (⟨S4096x14848, .f32⟩ : BufTy).Contents (Elt Ideal)) (x1 : (⟨S4096x1024, .f32⟩ : BufTy).Contents (Elt Ideal)) (x4 : (⟨S4x32x256x256, .bf16⟩ : BufTy).Contents (Elt Ideal)) (x5 : (⟨S4x32x256x256, .bf16⟩ : BufTy).Contents (Elt Ideal)) (x6 : (⟨S4, .f32⟩ : BufTy).Contents (Elt Ideal)) (x7 : (⟨S4, .f32⟩ : BufTy).Contents (Elt Ideal)) : val_main_v242 (F := Ideal) x0 x1 x4 x5 x6 x7 = outV (F := Ideal) x0 x1 x4 x5 x6 x7 := by
  funext i
  refine Eq.trans (congrArg (val_main_v242 (F := Ideal) x0 x1 x4 x5 x6 x7) (spot i).symm) (Eq.trans ?_ (congrArg (outV (F := Ideal) x0 x1 x4 x5 x6 x7) (spot i)))
  refine (at_v242 x0 x1 x4 x5 x6 x7 (blockNo i) (posNo i) (headNo i) (featNo i)).trans ?_
  unfold outV
  refine Eq.trans ?_ (stack_apply _ (blockNo i) (posNo i) (col (headNo i) (featNo i))).symm
  refine Eq.trans ?_ (glue_apply _ (posNo i) (headNo i) (featNo i)).symm
  exact (Head.hv_apply _ _ _ _ _ _ _ _ _ (posNo i) (featNo i)).symm

end Cert.Proof.RefSide

end
-- ==== Proof.Claims.lean ====
/- Hand-written, untrusted: THE CLAIMS ABOUT THE RETENTION GRADIENT, each from the run it follows from. -/
module

public import proofs.«01_k».proof.Defs
public import proofs.«01_k».proof.Proof.RefSide
public import proofs.«01_k».proof.Proof.Gen.Kernel.Frame
public import proofs.«01_k».proof.Proof.Gen.KernelIdeal.Frame
public import Idealize.ShloMosaic.Lib.Quiescent

@[expose] public section

noncomputable section

namespace Cert.Proof.Claims

open Idealize.ShloMosaic Idealize.SL.Sem

/-- The kernel's frame: the generated one. -/
theorem frame_p : Cert.quiescent_Kernel := fun m ρ _ => Cert.Kernel.Gen.frame m ρ

/-- The idealized kernel's frame: the generated one. -/
theorem frame_pi : Cert.quiescent_KernelIdeal := fun m ρ _ => Cert.KernelIdeal.Gen.frame m ρ

/-- The reference's frame: its run read at the arguments. It declares no semaphore. -/
theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The reference's run, its results at the kernel's functions of the reference's arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v238) = Cert.Proof.Run.outQ (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v240) = Cert.Proof.Run.outK (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v242) = Cert.Proof.Run.outV (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  (θ_run Cert.ReferenceIdeal.defs _ _).mono
    (fun r h c => ⟨((h c).1.trans (Cert.ReferenceIdeal.Read.val_main_v238_eq (F := Ideal) (StableHlo.launchContents m c))).trans (Cert.Proof.RefSide.v238_eq _ _ _ _ _ _),
      ((h c).2.1.trans (Cert.ReferenceIdeal.Read.val_main_v240_eq (F := Ideal) (StableHlo.launchContents m c))).trans (Cert.Proof.RefSide.v240_eq _ _ _ _ _ _),
      ((h c).2.2.1.trans (Cert.ReferenceIdeal.Read.val_main_v242_eq (F := Ideal) (StableHlo.launchContents m c))).trans (Cert.Proof.RefSide.v242_eq _ _ _ _ _ _),
      (h c).2.2.2⟩)
    (Cert.ReferenceIdeal.Value.run (F := Ideal) m ρ)

/-- Equal arguments give equal functions of them. -/
theorem congr₆ {α β γ δ ε ζ η : Type} (f : α → β → γ → δ → ε → ζ → η) {a a' : α} {b b' : β} {c c' : γ} {d d' : δ} {e e' : ε} {g g' : ζ}
    (h1 : a' = a) (h2 : b' = b) (h3 : c' = c) (h4 : d' = d) (h5 : e' = e) (h6 : g' = g) : f a' b' c' d' e' g' = f a b c d e g := by
  subst h1 h2 h3 h4 h5 h6; rfl

/-- The three gradients agree: each side's run read at its results, from equal arguments. -/
theorem algebraic : Cert.algebraic_KernelIdeal_ReferenceIdeal := by
  intro m ρ m' ρ' _ hagree
  refine ⟨_, _, _, Cert.Proof.Run.run (F := Ideal) m ρ, ?_⟩
  refine (θ_run Cert.ReferenceIdeal.defs _ _).mono (fun r h c => ?_) (ref_run m' ρ')
  obtain ⟨e0, e1, e2, e3, e4, e5, e6, e7⟩ := hagree c
  obtain ⟨hq, hk, hv, hargs⟩ := h c
  exact ⟨hq.trans (congr₆ (Cert.Proof.Run.outQ (F := Ideal)) e0 e1 e2 e3 e6 e7),
    hk.trans (congr₆ (Cert.Proof.Run.outK (F := Ideal)) e0 e1 e4 e5 e6 e7),
    hv.trans (congr₆ (Cert.Proof.Run.outV (F := Ideal)) e0 e1 e4 e5 e6 e7), hargs⟩

end Cert.Proof.Claims

end
-- ==== Proof.Products.lean ====
/- Hand-written, untrusted: A MATRIX PRODUCT INTO ZERO READ AT AN INDEX, at the ideal values, for the two arrangements of the
   contracted axes the product kernels use. -/
module

public import Idealize.ShloMosaic.Lib.MatmulPlain
public import Idealize.ShloMosaic.Lib.ValueLayout
public import Idealize.ShloMosaic.Lib.Pipeline.Value
public import Idealize.ShloMosaic.Lib.Pipeline.ValueKit.Acc
public import Idealize.ShloMosaic.Lib.KernelVsHost
public import Idealize.ShloMosaic.PureOps.Ideal.Laws

@[expose] public section

noncomputable section

namespace Cert.Proof.Products

open Idealize.ShloMosaic Idealize.ShloMosaic.ValueIdx

/-- Rows times columns. -/
theorem nn_apply {M K N : ℕ} {φ₁ φ₂ : FTy} (d : DotDims ⟨2, ![M, K]⟩ ⟨2, ![K, N]⟩ ⟨2, ![M, N]⟩)
    (hd : d.lhsContracting = [1] ∧ d.rhsContracting = [0] ∧ d.lhsNonContracting = [0] ∧ d.rhsNonContracting = [1]
      ∧ d.lhsBatch = [] ∧ d.rhsBatch = []) (prec : Option ContractPrecision)
    (x : FVec Ideal ⟨2, ![M, K]⟩ φ₁) (y : FVec Ideal ⟨2, ![K, N]⟩ φ₂) (r : Fin M) (c : Fin N) :
    FloatOps.matmul d prec x y (constant (F := Ideal) ⟨2, ![M, N]⟩ .f32 0x00000000#32) (ix2 r c)
      = ∑ k : Fin K, x (ix2 r k) * y (ix2 k c) := by
  obtain ⟨lc, rc, ln, rn, lbt, rbt, wf⟩ := d
  obtain ⟨rfl, rfl, rfl, rfl, rfl, rfl⟩ := hd
  rw [Ideal.matmul_constant_zero_apply]
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  congr 1
  · exact congrArg x (funext fun a => Fin.ext (by
      match a with
      | ⟨0, _⟩ => rfl
      | ⟨1, _⟩ => exact hk))
  · exact congrArg y (funext fun a => Fin.ext (by
      match a with
      | ⟨0, _⟩ => exact hk
      | ⟨1, _⟩ => rfl))

/-- Rows times rows. -/
theorem nt_apply {M K N : ℕ} {φ₁ φ₂ : FTy} (d : DotDims ⟨2, ![M, K]⟩ ⟨2, ![N, K]⟩ ⟨2, ![M, N]⟩)
    (hd : d.lhsContracting = [1] ∧ d.rhsContracting = [1] ∧ d.lhsNonContracting = [0] ∧ d.rhsNonContracting = [0]
      ∧ d.lhsBatch = [] ∧ d.rhsBatch = []) (prec : Option ContractPrecision)
    (x : FVec Ideal ⟨2, ![M, K]⟩ φ₁) (y : FVec Ideal ⟨2, ![N, K]⟩ φ₂) (r : Fin M) (c : Fin N) :
    FloatOps.matmul d prec x y (constant (F := Ideal) ⟨2, ![M, N]⟩ .f32 0x00000000#32) (ix2 r c)
      = ∑ k : Fin K, x (ix2 r k) * y (ix2 c k) := by
  obtain ⟨lc, rc, ln, rn, lbt, rbt, wf⟩ := d
  obtain ⟨rfl, rfl, rfl, rfl, rfl, rfl⟩ := hd
  rw [Ideal.matmul_constant_zero_apply]
  rw [← Equiv.sum_comp (contrEquiv1 _ K rfl rfl).symm]
  refine Finset.sum_congr rfl fun k _ => ?_
  have hk := contrEquiv1_symm_val (DotDims.mk (sl := ⟨2, ![M, K]⟩) (sr := ⟨2, ![N, K]⟩) (so := ⟨2, ![M, N]⟩) [1] [1] [0] [0] [] [] wf) K rfl rfl k
  congr 1
  · exact congrArg x (funext fun a => Fin.ext (by
      match a with
      | ⟨0, _⟩ => rfl
      | ⟨1, _⟩ => exact hk))
  · exact congrArg y (funext fun a => Fin.ext (by
      match a with
      | ⟨0, _⟩ => rfl
      | ⟨1, _⟩ => exact hk))

end Cert.Proof.Products

end
-- ==== Proof.InProj.lean ====
/- Hand-written, untrusted: THE PROJECTION INTO THE BRANCHES. The kernel's result as one function of its arguments (`G`, a sum over the contracted
   axis at each index), each grid point's block of it, the reference's result as the same function, and the claims. -/
module

public import proofs.«01_k».proof.Defs
public import proofs.«01_k».proof.Proof.Products
public import proofs.«01_k».proof.Proof.Gen.InProj.Frame
public import proofs.«01_k».proof.Proof.Gen.InProjIdeal.Value
public import proofs.«01_k».proof.Proof.Gen.InProjRefIdeal.Read
public import Idealize.ShloMosaic.Lib.Quiescent

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S4096x2048 .bf16) (b : FVec Ideal S14848x2048 .bf16) : FVec Ideal S4096x14848 .f32 := fun i => ∑ k : Fin 2048, a (ix2 (i 0) k) * b (ix2 (i 1) k)

/-- What the body stores, of the blocks. -/
theorem out_eq (a : FVec Ideal S2048x2048 .bf16) (b : FVec Ideal S512x2048 .bf16) : out0_2 (F := Ideal) a b = k0_pay1 (F := Ideal) a b := by
  frame_out

/-- The stored block at an index: the sum over the contracted axis. -/
theorem out_apply (a : FVec Ideal S2048x2048 .bf16) (b : FVec Ideal S512x2048 .bf16) (r : Fin 2048) (q : Fin 512) :
    out0_2 (F := Ideal) a b (ix2 r q) = ∑ k : Fin 2048, a (ix2 r k) * b (ix2 (q) k) := by
  rw [out_eq]
  exact nt_apply dot_S2048x2048_S512x2048_S2048x512_1_1_0_0_n_n ⟨rfl, rfl, rfl, rfl, rfl, rfl⟩ none a b r q

variable (m : (ℓ : Loc nD τ sig) → Buf (Elt Ideal) ℓ) (ρ : Dev nD → PrngReg)

/-- Which blocks of the arguments a grid point reads, by the block of the result it writes. -/
theorem idx : ∀ t : Fin cfg0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0 :=
  (by decide +kernel : ∀ t : Fin grid0.N, _)

/-- The first argument's block at an index of the result's block. -/
theorem blk0 (c : Dev nD) (t : Fin cfg0.N) (y : S2048x512.Idx) (k : Fin 2048) :
    iblk m c 0 t (ix2 (y 0) k) = m ((c : Thread nD τ).loc main_arg0) (ix2 (((cfg0.win 2).blk t).view.emb y 0) k) := by
  obtain ⟨e0, e1, e2, e3⟩ := idx t
  show V m c main_arg0 (((cfg0.win 0).blk t).view.emb (ix2 (y 0) k)) = m ((c : Thread nD τ).loc main_arg0) (ix2 (((cfg0.win 2).blk t).view.emb y 0) k)
  rw [V_main_arg0]
  refine congrArg (m ((c : Thread nD τ).loc main_arg0)) (funext fun a => Fin.ext ?_)
  match a with
  | ⟨0, _⟩ => show win0_0.index t (0 : Fin 2) * 2048 + 1 * (y 0).val = win0_2.index t (0 : Fin 2) * 2048 + 1 * (y 0).val; omega
  | ⟨1, _⟩ => show win0_0.index t (1 : Fin 2) * 2048 + 1 * k.val = k.val; omega

/-- The second argument's block at an index of the result's block. -/
theorem blk1 (c : Dev nD) (t : Fin cfg0.N) (y : S2048x512.Idx) (k : Fin 2048) :
    iblk m c 1 t (ix2 (y 1) k) = m ((c : Thread nD τ).loc main_arg1) (ix2 (((cfg0.win 2).blk t).view.emb y 1) k) := by
  obtain ⟨e0, e1, e2, e3⟩ := idx t
  show V m c main_arg1 (((cfg0.win 1).blk t).view.emb (ix2 (y 1) k)) = m ((c : Thread nD τ).loc main_arg1) (ix2 (((cfg0.win 2).blk t).view.emb y 1) k)
  rw [V_main_arg1]
  refine congrArg (m ((c : Thread nD τ).loc main_arg1)) (funext fun a => Fin.ext ?_)
  match a with
  | ⟨0, _⟩ => show win0_1.index t (0 : Fin 2) * 512 + 1 * (y 1).val = win0_2.index t (1 : Fin 2) * 512 + 1 * (y 1).val; omega
  | ⟨1, _⟩ => show win0_1.index t (1 : Fin 2) * 2048 + 1 * k.val = k.val; omega

/-- What a grid point writes back is its block of the result. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2]
  funext y
  refine (congrArg (out0_2 (F := Ideal) (iblk m c 0 t) (iblk m c 1 t)) (eq_ix2 (n0 := 2048) (n1 := 512) y)).trans ?_
  refine (out_apply (iblk m c 0 t) (iblk m c 1 t) (y 0) (y 1)).trans ?_
  exact Finset.sum_congr rfl fun k _ => congrArg₂ (fun u v : EReal => u * v) (blk0 m c t y k) (blk1 m c t y k)

/-- Every block of the result is some point's. -/
theorem onto : ∀ (q0 : Fin 2) (q1 : Fin 29), ∃ t : Fin cfg0.N, win0_2.index t (0 : Fin 2) = q0.val ∧ win0_2.index t (1 : Fin 2) = q1.val :=
  (by decide +kernel : ∀ (q0 : Fin 2) (q1 : Fin 29), ∃ t : Fin grid0.N, _)

/-- So every index of the result is written. -/
theorem covered (i : S4096x14848.Idx) : ∃ t : Fin cfg0.N, (cfg0.win 2).flush t = true ∧ i ∈ ((cfg0.win 2).blk t).view.set := by
  have h0 : (i 0).val < 4096 := (i 0).isLt
  have h1 : (i 1).val < 14848 := (i 1).isLt
  obtain ⟨t, q0, q1⟩ := onto ⟨(i 0).val / 2048, by omega⟩ ⟨(i 1).val / 512, by omega⟩
  refine ⟨t, flush0_2 t, ?_⟩
  have e : ((cfg0.win 2).blk t).view.emb (ix2 ⟨(i 0).val % 2048, Nat.mod_lt _ (by decide)⟩ ⟨(i 1).val % 512, Nat.mod_lt _ (by decide)⟩ : S2048x512.Idx) = i := by
    funext a; apply Fin.ext
    match a with
    | ⟨0, _⟩ => show win0_2.index t (0 : Fin 2) * 2048 + 1 * ((i 0).val % 2048) = (i 0).val; rw [q0]; show (i 0).val / 2048 * 2048 + 1 * ((i 0).val % 2048) = (i 0).val; omega
    | ⟨1, _⟩ => show win0_2.index t (1 : Fin 2) * 512 + 1 * ((i 1).val % 512) = (i 1).val; rw [q1]; show (i 1).val / 512 * 512 + 1 * ((i 1).val % 512) = (i 1).val; omega
  exact Eq.subst (motive := fun z => z ∈ ((cfg0.win 2).blk t).view.set) e (((cfg0.win 2).blk t).view.emb_mem_set _)

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

/-- The reference's result is the same function. -/
theorem ref_eq (a : FVec Ideal S4096x2048 .bf16) (b : FVec Ideal S14848x2048 .bf16) : Cert.InProjRefIdeal.Read.val_main_v3 (F := Ideal) a b = G a b := by
  funext i
  refine (Cert.InProjRefIdeal.Read.val_main_v3_apply a b i).trans (Finset.sum_congr rfl fun k _ => ?_)
  exact congrArg₂ (fun u v : EReal => u * v) (congrArg a (show Cert.InProjRefIdeal.Read.lidx_main_v3 i k = ix2 (i 0) k from funext fun a => Fin.ext (match a with | ⟨0, _⟩ => rfl | ⟨1, _⟩ => rfl)))
    ((Cert.InProjRefIdeal.Read.val_main_v2_apply (F := Ideal) b _).trans (congrArg b (show Cert.InProjRefIdeal.Read.idx_main_v2 (Cert.InProjRefIdeal.Read.ridx_main_v3 i k) = ix2 (i 1) k from funext fun a => Fin.ext (match a with | ⟨0, _⟩ => rfl | ⟨1, _⟩ => rfl))))

/-- The reference's run with the result at that function. -/
theorem ref_run (m : (ℓ : Loc Cert.InProjRefIdeal.nD Cert.InProjRefIdeal.τ Cert.InProjRefIdeal.sig) → Buf (Elt Ideal) ℓ) (ρ : Dev Cert.InProjRefIdeal.nD → PrngReg) :
    θ_run Cert.InProjRefIdeal.defs (onTc (τ := Cert.InProjRefIdeal.τ) (Cert.InProjRefIdeal.main (F := Ideal))) ⟨m, fun _ => 0, ρ⟩ fun r => ∀ c : Dev Cert.InProjRefIdeal.nD,
      r.2.mem ((c : Thread Cert.InProjRefIdeal.nD Cert.InProjRefIdeal.τ).loc Cert.InProjRefIdeal.main_v3) = G (m ((c : Thread Cert.InProjRefIdeal.nD Cert.InProjRefIdeal.τ).loc Cert.InProjRefIdeal.main_arg0)) (m ((c : Thread Cert.InProjRefIdeal.nD Cert.InProjRefIdeal.τ).loc Cert.InProjRefIdeal.main_arg1))
      ∧ r.2.mem ((c : Thread Cert.InProjRefIdeal.nD Cert.InProjRefIdeal.τ).loc Cert.InProjRefIdeal.main_arg0) = m ((c : Thread Cert.InProjRefIdeal.nD Cert.InProjRefIdeal.τ).loc Cert.InProjRefIdeal.main_arg0)
      ∧ r.2.mem ((c : Thread Cert.InProjRefIdeal.nD Cert.InProjRefIdeal.τ).loc Cert.InProjRefIdeal.main_arg1) = m ((c : Thread Cert.InProjRefIdeal.nD Cert.InProjRefIdeal.τ).loc Cert.InProjRefIdeal.main_arg1) :=
  (θ_run Cert.InProjRefIdeal.defs _ _).mono (fun _ h c => ⟨((h c).1.trans (Cert.InProjRefIdeal.Read.val_main_v3_eq (F := Ideal) _ _ )).trans (ref_eq _ _ ), (h c).2⟩)
    (Cert.InProjRefIdeal.Value.run (F := Ideal) m ρ)

/-- The kernel's frame: the generated one. -/
theorem frame_p : Cert.quiescent_InProj := fun m ρ _ => Cert.InProj.Gen.frame m ρ

/-- The idealized kernel's frame: the generated one. -/
theorem frame_pi : Cert.quiescent_InProjIdeal := fun m ρ _ => Cert.InProjIdeal.Gen.frame m ρ

/-- The reference's frame: its run read at the arguments. It declares no semaphore. -/
theorem frame_ri : Cert.quiescent_InProjRefIdeal := fun m ρ _ =>
  (θ_run Cert.InProjRefIdeal.defs _ _).mono
    (fun r h => ⟨fun c => (h c).2, sem_eq_zero_of_no_sems (by decide) r.2⟩)
    (Cert.InProjRefIdeal.Value.run (F := Ideal) m ρ)

/-- The two results agree: each side's run read at its result, from equal arguments. -/
theorem algebraic : Cert.algebraic_InProjIdeal_InProjRefIdeal := by
  intro m ρ m' ρ' _ hagree
  refine ⟨_, run m ρ, ?_⟩
  refine (θ_run Cert.InProjRefIdeal.defs _ _).mono (fun r h c => ?_) (ref_run m' ρ')
  obtain ⟨e0, e1⟩ := hagree c
  exact ⟨(h c).1.trans (congrArg₂ G e0 e1), (h c).2⟩

end Cert.Proof.InProj

end
-- ==== Proof.DwIn.lean ====
/- Hand-written, untrusted: THE GRADIENT OF THE INPUT PROJECTION'S WEIGHTS. The kernel's result as one function of its arguments (`G`, a sum over the contracted
   axis at each index), each grid point's block of it, the reference's result as the same function, and the claims. -/
module

public import proofs.«01_k».proof.Defs
public import proofs.«01_k».proof.Proof.Products
public import proofs.«01_k».proof.Proof.Gen.DwIn.Frame
public import proofs.«01_k».proof.Proof.Gen.DwInIdeal.Value
public import proofs.«01_k».proof.Proof.Gen.DwInRefIdeal.Read
public import Idealize.ShloMosaic.Lib.Quiescent

@[expose] public section

set_option maxRecDepth 16384

noncomputable section

namespace Cert.Proof.DwIn

open Cert.DwInIdeal Cert.DwInIdeal.Gen Cert.DwInIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S2048x4096 .bf16) (b : FVec Ideal S4096x14848 .bf16) : FVec Ideal S14848x2048 .bf16 := fun i => ∑ k : Fin 4096, a (ix2 (i 1) k) * b (ix2 k (i 0))

/-- What the body stores, of the blocks. -/
theorem out_eq (a : FVec Ideal S1024x4096 .bf16) (b : FVec Ideal S4096x512 .bf16) : out0_2 (F := Ideal) a b = k0_pay1 (F := Ideal) a b := by
  frame_out

/-- The stored block at an index: the sum over the contracted axis. -/
theorem out_apply (a : FVec Ideal S1024x4096 .bf16) (b : FVec Ideal S4096x512 .bf16) (r : Fin 512) (q : Fin 1024) :
    out0_2 (F := Ideal) a b (ix2 r q) = ∑ k : Fin 4096, a (ix2 q k) * b (ix2 k (r)) := by
  rw [out_eq]
  show transpose S512x1024 [1, 0] (matmul dot_S1024x4096_S4096x512_S1024x512_1_0_0_1_n_n none a b (constant (F := Ideal) S1024x512 .f32 0x00000000#32))
    transposes_S1024x512_p1_0_S512x1024 (ix2 r q) = _
  refine (transpose_ix2_apply (a := 1024) (b := 512) _ _ r q).trans ?_
  exact nn_apply dot_S1024x4096_S4096x512_S1024x512_1_0_0_1_n_n ⟨rfl, rfl, rfl, rfl, rfl, rfl⟩ none a b q r

variable (m : (ℓ : Loc nD τ sig) → Buf (Elt Ideal) ℓ) (ρ : Dev nD → PrngReg)

/-- Which blocks of the arguments a grid point reads, by the block of the result it writes. -/
theorem idx : ∀ t : Fin cfg0.N, win0_0.index t (0 : Fin 2) = win0_2.index t (1 : Fin 2) ∧ win0_0.index t (1 : Fin 2) = 0 ∧ win0_1.index t (0 : Fin 2) = 0 ∧ win0_1.index t (1 : Fin 2) = win0_2.index t (0 : Fin 2) :=
  (by decide +kernel : ∀ t : Fin grid0.N, _)

/-- The first argument's block at an index of the result's block. -/
theorem blk0 (c : Dev nD) (t : Fin cfg0.N) (y : S512x1024.Idx) (k : Fin 4096) :
    iblk m c 0 t (ix2 (y 1) k) = m ((c : Thread nD τ).loc main_arg0) (ix2 (((cfg0.win 2).blk t).view.emb y 1) k) := by
  obtain ⟨e0, e1, e2, e3⟩ := idx t
  show V m c main_arg0 (((cfg0.win 0).blk t).view.emb (ix2 (y 1) k)) = m ((c : Thread nD τ).loc main_arg0) (ix2 (((cfg0.win 2).blk t).view.emb y 1) k)
  rw [V_main_arg0]
  refine congrArg (m ((c : Thread nD τ).loc main_arg0)) (funext fun a => Fin.ext ?_)
  match a with
  | ⟨0, _⟩ => show win0_0.index t (0 : Fin 2) * 1024 + 1 * (y 1).val = win0_2.index t (1 : Fin 2) * 1024 + 1 * (y 1).val; omega
  | ⟨1, _⟩ => show win0_0.index t (1 : Fin 2) * 4096 + 1 * k.val = k.val; omega

/-- The second argument's block at an index of the result's block. -/
theorem blk1 (c : Dev nD) (t : Fin cfg0.N) (y : S512x1024.Idx) (k : Fin 4096) :
    iblk m c 1 t (ix2 k (y 0)) = m ((c : Thread nD τ).loc main_arg1) (ix2 k (((cfg0.win 2).blk t).view.emb y 0)) := by
  obtain ⟨e0, e1, e2, e3⟩ := idx t
  show V m c main_arg1 (((cfg0.win 1).blk t).view.emb (ix2 k (y 0))) = m ((c : Thread nD τ).loc main_arg1) (ix2 k (((cfg0.win 2).blk t).view.emb y 0))
  rw [V_main_arg1]
  refine congrArg (m ((c : Thread nD τ).loc main_arg1)) (funext fun a => Fin.ext ?_)
  match a with
  | ⟨0, _⟩ => show win0_1.index t (0 : Fin 2) * 4096 + 1 * k.val = k.val; omega
  | ⟨1, _⟩ => show win0_1.index t (1 : Fin 2) * 512 + 1 * (y 0).val = win0_2.index t (0 : Fin 2) * 512 + 1 * (y 0).val; omega

/-- What a grid point writes back is its block of the result. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2]
  funext y
  refine (congrArg (out0_2 (F := Ideal) (iblk m c 0 t) (iblk m c 1 t)) (eq_ix2 (n0 := 512) (n1 := 1024) y)).trans ?_
  refine (out_apply (iblk m c 0 t) (iblk m c 1 t) (y 0) (y 1)).trans ?_
  exact Finset.sum_congr rfl fun k _ => congrArg₂ (fun u v : EReal => u * v) (blk0 m c t y k) (blk1 m c t y k)

/-- Every block of the result is some point's. -/
theorem onto : ∀ (q0 : Fin 29) (q1 : Fin 2), ∃ t : Fin cfg0.N, win0_2.index t (0 : Fin 2) = q0.val ∧ win0_2.index t (1 : Fin 2) = q1.val :=
  (by decide +kernel : ∀ (q0 : Fin 29) (q1 : Fin 2), ∃ t : Fin grid0.N, _)

/-- So every index of the result is written. -/
theorem covered (i : S14848x2048.Idx) : ∃ t : Fin cfg0.N, (cfg0.win 2).flush t = true ∧ i ∈ ((cfg0.win 2).blk t).view.set := by
  have h0 : (i 0).val < 14848 := (i 0).isLt
  have h1 : (i 1).val < 2048 := (i 1).isLt
  obtain ⟨t, q0, q1⟩ := onto ⟨(i 0).val / 512, by omega⟩ ⟨(i 1).val / 1024, by omega⟩
  refine ⟨t, flush0_2 t, ?_⟩
  have e : ((cfg0.win 2).blk t).view.emb (ix2 ⟨(i 0).val % 512, Nat.mod_lt _ (by decide)⟩ ⟨(i 1).val % 1024, Nat.mod_lt _ (by decide)⟩ : S512x1024.Idx) = i := by
    funext a; apply Fin.ext
    match a with
    | ⟨0, _⟩ => show win0_2.index t (0 : Fin 2) * 512 + 1 * ((i 0).val % 512) = (i 0).val; rw [q0]; show (i 0).val / 512 * 512 + 1 * ((i 0).val % 512) = (i 0).val; omega
    | ⟨1, _⟩ => show win0_2.index t (1 : Fin 2) * 1024 + 1 * ((i 1).val % 1024) = (i 1).val; rw [q1]; show (i 1).val / 1024 * 1024 + 1 * ((i 1).val % 1024) = (i 1).val; omega
  exact Eq.subst (motive := fun z => z ∈ ((cfg0.win 2).blk t).view.set) e (((cfg0.win 2).blk t).view.emb_mem_set _)

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

/-- The reference's result is the same function. -/
theorem ref_eq (a : FVec Ideal S2048x4096 .bf16) (b : FVec Ideal S4096x14848 .bf16) : Cert.DwInRefIdeal.Read.val_main_v6 (F := Ideal) a b = G a b := by
  funext i
  refine (Cert.DwInRefIdeal.Read.val_main_v5_apply (F := Ideal) a b i).trans ((Cert.DwInRefIdeal.Read.val_main_v4_apply (F := Ideal) a b _).trans ?_)
  refine (Cert.DwInRefIdeal.Read.val_main_v3_apply a b (Cert.DwInRefIdeal.Read.idx_main_v4 (Cert.DwInRefIdeal.Read.idx_main_v5 i))).trans (Finset.sum_congr rfl fun k _ => ?_)
  refine (mul_comm _ _).trans ?_
  exact congrArg₂ (fun u v : EReal => u * v) ((Cert.DwInRefIdeal.Read.val_main_v2_apply (F := Ideal) a _).trans (congrArg a (show Cert.DwInRefIdeal.Read.idx_main_v2 (Cert.DwInRefIdeal.Read.ridx_main_v3 (Cert.DwInRefIdeal.Read.idx_main_v4 (Cert.DwInRefIdeal.Read.idx_main_v5 i)) k) = ix2 (i 1) k from funext fun a => Fin.ext (match a with | ⟨0, _⟩ => rfl | ⟨1, _⟩ => rfl))))
    (congrArg b (show Cert.DwInRefIdeal.Read.lidx_main_v3 (Cert.DwInRefIdeal.Read.idx_main_v4 (Cert.DwInRefIdeal.Read.idx_main_v5 i)) k = ix2 k (i 0) from funext fun a => Fin.ext (match a with | ⟨0, _⟩ => rfl | ⟨1, _⟩ => rfl)))

/-- The reference's run with the result at that function. -/
theorem ref_run (m : (ℓ : Loc Cert.DwInRefIdeal.nD Cert.DwInRefIdeal.τ Cert.DwInRefIdeal.sig) → Buf (Elt Ideal) ℓ) (ρ : Dev Cert.DwInRefIdeal.nD → PrngReg) :
    θ_run Cert.DwInRefIdeal.defs (onTc (τ := Cert.DwInRefIdeal.τ) (Cert.DwInRefIdeal.main (F := Ideal))) ⟨m, fun _ => 0, ρ⟩ fun r => ∀ c : Dev Cert.DwInRefIdeal.nD,
      r.2.mem ((c : Thread Cert.DwInRefIdeal.nD Cert.DwInRefIdeal.τ).loc Cert.DwInRefIdeal.main_v6) = G (m ((c : Thread Cert.DwInRefIdeal.nD Cert.DwInRefIdeal.τ).loc Cert.DwInRefIdeal.main_arg0)) (m ((c : Thread Cert.DwInRefIdeal.nD Cert.DwInRefIdeal.τ).loc Cert.DwInRefIdeal.main_arg1))
      ∧ r.2.mem ((c : Thread Cert.DwInRefIdeal.nD Cert.DwInRefIdeal.τ).loc Cert.DwInRefIdeal.main_arg0) = m ((c : Thread Cert.DwInRefIdeal.nD Cert.DwInRefIdeal.τ).loc Cert.DwInRefIdeal.main_arg0)
      ∧ r.2.mem ((c : Thread Cert.DwInRefIdeal.nD Cert.DwInRefIdeal.τ).loc Cert.DwInRefIdeal.main_arg1) = m ((c : Thread Cert.DwInRefIdeal.nD Cert.DwInRefIdeal.τ).loc Cert.DwInRefIdeal.main_arg1) :=
  (θ_run Cert.DwInRefIdeal.defs _ _).mono (fun _ h c => ⟨((h c).1.trans (Cert.DwInRefIdeal.Read.val_main_v6_eq (F := Ideal) _ _ )).trans (ref_eq _ _ ), (h c).2⟩)
    (Cert.DwInRefIdeal.Value.run (F := Ideal) m ρ)

/-- The kernel's frame: the generated one. -/
theorem frame_p : Cert.quiescent_DwIn := fun m ρ _ => Cert.DwIn.Gen.frame m ρ

/-- The idealized kernel's frame: the generated one. -/
theorem frame_pi : Cert.quiescent_DwInIdeal := fun m ρ _ => Cert.DwInIdeal.Gen.frame m ρ

/-- The reference's frame: its run read at the arguments. It declares no semaphore. -/
theorem frame_ri : Cert.quiescent_DwInRefIdeal := fun m ρ _ =>
  (θ_run Cert.DwInRefIdeal.defs _ _).mono
    (fun r h => ⟨fun c => (h c).2, sem_eq_zero_of_no_sems (by decide) r.2⟩)
    (Cert.DwInRefIdeal.Value.run (F := Ideal) m ρ)

/-- The two results agree: each side's run read at its result, from equal arguments. -/
theorem algebraic : Cert.algebraic_DwInIdeal_DwInRefIdeal := by
  intro m ρ m' ρ' _ hagree
  refine ⟨_, run m ρ, ?_⟩
  refine (θ_run Cert.DwInRefIdeal.defs _ _).mono (fun r h c => ?_) (ref_run m' ρ')
  obtain ⟨e0, e1⟩ := hagree c
  exact ⟨(h c).1.trans (congrArg₂ G e0 e1), (h c).2⟩

end Cert.Proof.DwIn

end
-- ==== Proof.Dh.lean ====
/- Hand-written, untrusted: THE GRADIENT OF THE NORMALISED ACTIVATIONS, a product whose contracted axis is taken in four parts.
   The kernel's result as one function of its arguments (`G`, a sum over the contracted axis at each index): the running sum of
   the four parts a block is given, each grid point's part of it, the reference's result as the same function, and the claims. -/
module

public import proofs.«01_k».proof.Defs
public import proofs.«01_k».proof.Proof.Products
public import proofs.«01_k».proof.Proof.Gen.Dh.Frame
public import proofs.«01_k».proof.Proof.Gen.DhIdeal.Value
public import proofs.«01_k».proof.Proof.Gen.DhRefIdeal.Read
public import Idealize.ShloMosaic.Lib.Quiescent

@[expose] public section

set_option maxRecDepth 16384

noncomputable section

namespace Cert.Proof.Dh

open Cert.DhIdeal Cert.DhIdeal.Gen Cert.DhIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S4096x14848 .bf16) (b : FVec Ideal S14848x2048 .bf16) : FVec Ideal S4096x2048 .f32 := fun i =>
  ∑ k : Fin 14848, a (ix2 (i 0) k) * b (ix2 k (i 1))

/-- One part: the product of two blocks. -/
def part (a : FVec Ideal S1024x3712 .bf16) (b : FVec Ideal S3712x1024 .bf16) : S1024x1024.Idx → EReal := fun y =>
  ∑ k : Fin 3712, a (ix2 (y 0) k) * b (ix2 k (y 1))

/-- The block a sum starts from. -/
theorem start (y : S1024x1024.Idx) : k0_pay1 (F := Ideal) y = 0 := by
  unfold k0_pay1
  rw [shapeCast_self]
  exact Ideal.ofBits_zero_f32

/-- One step of the sum: a part added to what is there. -/
theorem step (s : FVec Ideal S1024x1024 .f32) (a : FVec Ideal S1024x3712 .bf16) (b : FVec Ideal S3712x1024 .bf16) (y : S1024x1024.Idx) :
    k0_pay2 (F := Ideal) s a b y = s y + part a b y := by
  unfold k0_pay2
  rw [shapeCast_self]
  refine congrArg (fun u : EReal => s y + u) ?_
  refine (congrArg (FloatOps.matmul dot_S1024x3712_S3712x1024_S1024x1024_1_0_0_1_n_n none a b (constant (F := Ideal) S1024x1024 .f32 0x00000000#32)) (eq_ix2 (n0 := 1024) (n1 := 1024) y)).trans ?_
  exact nn_apply dot_S1024x3712_S3712x1024_S1024x1024_1_0_0_1_n_n ⟨rfl, rfl, rfl, rfl, rfl, rfl⟩ none a b (y 0) (y 1)

variable (m : (ℓ : Loc nD τ sig) → Buf (Elt Ideal) ℓ) (ρ : Dev nD → PrngReg)

/-- The first of a block's four points. -/
theorem first (c : Dev nD) (t : Fin cfg0.N) (h : t.val % 4 = 0) (y : S1024x1024.Idx) :
    (outsAt0 m c t.val t.isLt).2 y = 0 + part (iblk m c 0 t) (iblk m c 1 t) y := by
  rw [outsAt0_A m c t h (by omega)]
  frame_out
  rw [step, start]

/-- The later ones. -/
theorem later (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h3 : t.val % 4 = 3
  · rw [outsAt0_C m c t h h3]
    frame_out
    rw [step]
    exact congrArg (fun u : EReal => u + part (iblk m c 0 t) (iblk m c 1 t) y) (congrFun (Memref.IsWhole.read_unread _ _) y)
  · rw [outsAt0_B m c t h h3]
    frame_out
    rw [step]
    exact congrArg (fun u : EReal => u + part (iblk m c 0 t) (iblk m c 1 t) y) (congrFun (Memref.IsWhole.read_unread _ _) y)

/-- The last stores the sum as it stands. -/
theorem last (c : Dev nD) (t : Fin cfg0.N) (h3 : t.val % 4 = 3) :
    (outsAt0 m c t.val t.isLt).1 = (outsAt0 m c t.val t.isLt).2 := by
  rw [outsAt0_C m c t (by omega) h3]
  frame_out

/-- Which blocks of the arguments a grid point reads and which block of the result it works on. -/
theorem idx : ∀ t : Fin cfg0.N, win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_3.index t (0 : Fin 2) = t.val / 8 ∧ win0_3.index t (1 : Fin 2) = t.val / 4 % 2 :=
  (by decide +kernel : ∀ t : Fin grid0.N, _)

/-- The first argument's block at part `s` of the block that point `t` finishes. -/
theorem blk0 (c : Dev nD) (t u : Fin cfg0.N) (h3 : t.val % 4 = 3) (s : Fin 4) (hu : u.val = 4 * (t.val / 4) + s.val) (y : S1024x1024.Idx)
    (k : Fin 3712) (hl : s.val * 3712 + k.val < 14848) :
    iblk m c 0 u (ix2 (y 0) k) = m ((c : Thread nD τ).loc main_arg0) (ix2 (((cfg0.win 3).blk t).view.emb y 0) ⟨s.val * 3712 + k.val, hl⟩) := by
  obtain ⟨e0, e1, -, -, -, -⟩ := idx u
  obtain ⟨-, -, -, -, e4, e5⟩ := idx t
  have hs := s.isLt
  show V m c main_arg0 (((cfg0.win 0).blk u).view.emb (ix2 (y 0) k)) = _
  rw [V_main_arg0]
  refine congrArg (m ((c : Thread nD τ).loc main_arg0)) (funext fun a => Fin.ext ?_)
  match a with
  | ⟨0, _⟩ => show win0_0.index u (0 : Fin 2) * 1024 + 1 * (y 0).val = win0_3.index t (0 : Fin 2) * 1024 + 1 * (y 0).val; omega
  | ⟨1, _⟩ => show win0_0.index u (1 : Fin 2) * 3712 + 1 * k.val = s.val * 3712 + k.val; rw [e1, show u.val % 4 = s.val by omega, Nat.one_mul]

/-- The second argument's block at part `s` of the block that point `t` finishes. -/
theorem blk1 (c : Dev nD) (t u : Fin cfg0.N) (h3 : t.val % 4 = 3) (s : Fin 4) (hu : u.val = 4 * (t.val / 4) + s.val) (y : S1024x1024.Idx)
    (k : Fin 3712) (hl : s.val * 3712 + k.val < 14848) :
    iblk m c 1 u (ix2 k (y 1)) = m ((c : Thread nD τ).loc main_arg1) (ix2 ⟨s.val * 3712 + k.val, hl⟩ (((cfg0.win 3).blk t).view.emb y 1)) := by
  obtain ⟨-, -, e2, e3, -, -⟩ := idx u
  obtain ⟨-, -, -, -, e4, e5⟩ := idx t
  have hs := s.isLt
  show V m c main_arg1 (((cfg0.win 1).blk u).view.emb (ix2 k (y 1))) = _
  rw [V_main_arg1]
  refine congrArg (m ((c : Thread nD τ).loc main_arg1)) (funext fun a => Fin.ext ?_)
  match a with
  | ⟨0, _⟩ => show win0_1.index u (0 : Fin 2) * 3712 + 1 * k.val = s.val * 3712 + k.val; rw [e2, show u.val % 4 = s.val by omega, Nat.one_mul]
  | ⟨1, _⟩ => show win0_1.index u (1 : Fin 2) * 1024 + 1 * (y 1).val = win0_3.index t (1 : Fin 2) * 1024 + 1 * (y 1).val; omega

/-- What a block's last point leaves at an index: the sum over the whole contracted axis. -/
theorem sum_eq (c : Dev nD) (t : Fin cfg0.N) (h3 : t.val % 4 = 3) (y : S1024x1024.Idx) :
    (outsAt0 m c t.val t.isLt).1 y
      = G (m ((c : Thread nD τ).loc main_arg0)) (m ((c : Thread nD τ).loc main_arg1)) (((cfg0.win 3).blk t).view.emb y) := by
  rw [last m c t h3]
  rw [Pipeline.eq_sum_fin_of_reset_step_apply_of_flush (fun n h => (outsAt0 m c n h).2) 4 (fun _ => (0 : EReal))
    (fun t y => part (iblk m c 0 t) (iblk m c 1 t) y) (first m c) (later m c) t h3 y]
  rw [zero_add]
  exact Fin.sum_mul_add_congr (fun s k hl => congrArg₂ (fun u v : EReal => u * v)
    (blk0 m c t _ h3 s rfl y k hl) (blk1 m c t _ h3 s rfl y k hl))

/-- What a block's last point writes back is its block of the result. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1))) := by
  rw [flushed3]
  funext y
  exact sum_eq m c t ((flush0_3 t).mp hf) y

/-- The result array after the run. -/
theorem final (c : Dev nD) : (dats m 0 c).arrAt 3 cfg0.N
    = G (m ((c : Thread nD τ).loc main_arg0)) (m ((c : Thread nD τ).loc main_arg1)) :=
  (dats m 0 c).arrAt_eq_of_cover 3 _ (fun t hf => flushed_eq m c t hf) (fun i => (covered_iff3 i).2 (by
    have h0 : (i 0).val < 4096 := (i 0).isLt; have h1 : (i 1).val < 2048 := (i 1).isLt; omega))

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

/-- The reference's result is the same function. -/
theorem ref_eq (a : FVec Ideal S4096x14848 .bf16) (b : FVec Ideal S14848x2048 .bf16) : Cert.DhRefIdeal.Read.val_main_v3 (F := Ideal) a b = G a b := by
  funext i
  refine (Cert.DhRefIdeal.Read.val_main_v3_apply a b i).trans (Finset.sum_congr rfl fun k _ => ?_)
  exact congrArg₂ (fun u v : EReal => u * v) (congrArg a (show Cert.DhRefIdeal.Read.lidx_main_v3 i k = ix2 (i 0) k from funext fun a => Fin.ext (match a with | ⟨0, _⟩ => rfl | ⟨1, _⟩ => rfl)))
    ((Cert.DhRefIdeal.Read.val_main_v2_apply (F := Ideal) b _).trans (congrArg b (show Cert.DhRefIdeal.Read.idx_main_v2 (Cert.DhRefIdeal.Read.ridx_main_v3 i k) = ix2 k (i 1) from funext fun a => Fin.ext (match a with | ⟨0, _⟩ => rfl | ⟨1, _⟩ => rfl))))

/-- The reference's run with the result at that function. -/
theorem ref_run (m : (ℓ : Loc Cert.DhRefIdeal.nD Cert.DhRefIdeal.τ Cert.DhRefIdeal.sig) → Buf (Elt Ideal) ℓ) (ρ : Dev Cert.DhRefIdeal.nD → PrngReg) :
    θ_run Cert.DhRefIdeal.defs (onTc (τ := Cert.DhRefIdeal.τ) (Cert.DhRefIdeal.main (F := Ideal))) ⟨m, fun _ => 0, ρ⟩ fun r => ∀ c : Dev Cert.DhRefIdeal.nD,
      r.2.mem ((c : Thread Cert.DhRefIdeal.nD Cert.DhRefIdeal.τ).loc Cert.DhRefIdeal.main_v3) = G (m ((c : Thread Cert.DhRefIdeal.nD Cert.DhRefIdeal.τ).loc Cert.DhRefIdeal.main_arg0)) (m ((c : Thread Cert.DhRefIdeal.nD Cert.DhRefIdeal.τ).loc Cert.DhRefIdeal.main_arg1))
      ∧ r.2.mem ((c : Thread Cert.DhRefIdeal.nD Cert.DhRefIdeal.τ).loc Cert.DhRefIdeal.main_arg0) = m ((c : Thread Cert.DhRefIdeal.nD Cert.DhRefIdeal.τ).loc Cert.DhRefIdeal.main_arg0)
      ∧ r.2.mem ((c : Thread Cert.DhRefIdeal.nD Cert.DhRefIdeal.τ).loc Cert.DhRefIdeal.main_arg1) = m ((c : Thread Cert.DhRefIdeal.nD Cert.DhRefIdeal.τ).loc Cert.DhRefIdeal.main_arg1)
      ∧ r.2.mem ((c : Thread Cert.DhRefIdeal.nD Cert.DhRefIdeal.τ).loc Cert.DhRefIdeal.main_arg2) = m ((c : Thread Cert.DhRefIdeal.nD Cert.DhRefIdeal.τ).loc Cert.DhRefIdeal.main_arg2) :=
  (θ_run Cert.DhRefIdeal.defs _ _).mono (fun _ h c => ⟨((h c).1.trans (Cert.DhRefIdeal.Read.val_main_v3_eq (F := Ideal) _ _ )).trans (ref_eq _ _ ), (h c).2⟩)
    (Cert.DhRefIdeal.Value.run (F := Ideal) m ρ)

/-- The kernel's frame: the generated one. -/
theorem frame_p : Cert.quiescent_Dh := fun m ρ _ => Cert.Dh.Gen.frame m ρ

/-- The idealized kernel's frame: the generated one. -/
theorem frame_pi : Cert.quiescent_DhIdeal := fun m ρ _ => Cert.DhIdeal.Gen.frame m ρ

/-- The reference's frame: its run read at the arguments. It declares no semaphore. -/
theorem frame_ri : Cert.quiescent_DhRefIdeal := fun m ρ _ =>
  (θ_run Cert.DhRefIdeal.defs _ _).mono
    (fun r h => ⟨fun c => (h c).2, sem_eq_zero_of_no_sems (by decide) r.2⟩)
    (Cert.DhRefIdeal.Value.run (F := Ideal) m ρ)

/-- The two results agree: each side's run read at its result, from equal arguments. -/
theorem algebraic : Cert.algebraic_DhIdeal_DhRefIdeal := by
  intro m ρ m' ρ' _ hagree
  refine ⟨_, run m ρ, ?_⟩
  refine (θ_run Cert.DhRefIdeal.defs _ _).mono (fun r h c => ?_) (ref_run m' ρ')
  obtain ⟨e0, e1, e2⟩ := hagree c
  exact ⟨(h c).1.trans (congrArg₂ G e0 e1), (h c).2⟩

end Cert.Proof.Dh

end
-- ==== Proof.Du.lean ====
/- Hand-written, untrusted: THE GRADIENT OF A BRANCH'S OUTPUT. The kernel's result as one function of its arguments (`G`, a sum over the contracted
   axis at each index), each grid point's block of it, the reference's result as the same function, and the claims. -/
module

public import proofs.«01_k».proof.Defs
public import proofs.«01_k».proof.Proof.Products
public import proofs.«01_k».proof.Proof.Gen.Du.Frame
public import proofs.«01_k».proof.Proof.Gen.DuIdeal.Value
public import proofs.«01_k».proof.Proof.Gen.DuRefIdeal.Read
public import Idealize.ShloMosaic.Lib.Quiescent

@[expose] public section

set_option maxRecDepth 16384

noncomputable section

namespace Cert.Proof.Du

open Cert.DuIdeal Cert.DuIdeal.Gen Cert.DuIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S4096x2048 .bf16) (b : FVec Ideal S1024x2048 .bf16) : FVec Ideal S4096x1024 .bf16 := fun i => ∑ k : Fin 2048, a (ix2 (i 0) k) * b (ix2 (i 1) k)

/-- What the body stores, of the blocks. -/
theorem out_eq (a : FVec Ideal S1024x2048 .bf16) (b : FVec Ideal S512x2048 .bf16) : out0_2 (F := Ideal) a b = k0_pay1 (F := Ideal) a b := by
  frame_out

/-- The stored block at an index: the sum over the contracted axis. -/
theorem out_apply (a : FVec Ideal S1024x2048 .bf16) (b : FVec Ideal S512x2048 .bf16) (r : Fin 1024) (q : Fin 512) :
    out0_2 (F := Ideal) a b (ix2 r q) = ∑ k : Fin 2048, a (ix2 r k) * b (ix2 (q) k) := by
  rw [out_eq]
  exact nt_apply dot_S1024x2048_S512x2048_S1024x512_1_1_0_0_n_n ⟨rfl, rfl, rfl, rfl, rfl, rfl⟩ none a b r q

variable (m : (ℓ : Loc nD τ sig) → Buf (Elt Ideal) ℓ) (ρ : Dev nD → PrngReg)

/-- Which blocks of the arguments a grid point reads, by the block of the result it writes. -/
theorem idx : ∀ t : Fin cfg0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0 :=
  (by decide +kernel : ∀ t : Fin grid0.N, _)

/-- The first argument's block at an index of the result's block. -/
theorem blk0 (c : Dev nD) (t : Fin cfg0.N) (y : S1024x512.Idx) (k : Fin 2048) :
    iblk m c 0 t (ix2 (y 0) k) = m ((c : Thread nD τ).loc main_arg0) (ix2 (((cfg0.win 2).blk t).view.emb y 0) k) := by
  obtain ⟨e0, e1, e2, e3⟩ := idx t
  show V m c main_arg0 (((cfg0.win 0).blk t).view.emb (ix2 (y 0) k)) = m ((c : Thread nD τ).loc main_arg0) (ix2 (((cfg0.win 2).blk t).view.emb y 0) k)
  rw [V_main_arg0]
  refine congrArg (m ((c : Thread nD τ).loc main_arg0)) (funext fun a => Fin.ext ?_)
  match a with
  | ⟨0, _⟩ => show win0_0.index t (0 : Fin 2) * 1024 + 1 * (y 0).val = win0_2.index t (0 : Fin 2) * 1024 + 1 * (y 0).val; omega
  | ⟨1, _⟩ => show win0_0.index t (1 : Fin 2) * 2048 + 1 * k.val = k.val; omega

/-- The second argument's block at an index of the result's block. -/
theorem blk1 (c : Dev nD) (t : Fin cfg0.N) (y : S1024x512.Idx) (k : Fin 2048) :
    iblk m c 1 t (ix2 (y 1) k) = m ((c : Thread nD τ).loc main_arg1) (ix2 (((cfg0.win 2).blk t).view.emb y 1) k) := by
  obtain ⟨e0, e1, e2, e3⟩ := idx t
  show V m c main_arg1 (((cfg0.win 1).blk t).view.emb (ix2 (y 1) k)) = m ((c : Thread nD τ).loc main_arg1) (ix2 (((cfg0.win 2).blk t).view.emb y 1) k)
  rw [V_main_arg1]
  refine congrArg (m ((c : Thread nD τ).loc main_arg1)) (funext fun a => Fin.ext ?_)
  match a with
  | ⟨0, _⟩ => show win0_1.index t (0 : Fin 2) * 512 + 1 * (y 1).val = win0_2.index t (1 : Fin 2) * 512 + 1 * (y 1).val; omega
  | ⟨1, _⟩ => show win0_1.index t (1 : Fin 2) * 2048 + 1 * k.val = k.val; omega

/-- What a grid point writes back is its block of the result. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2]
  funext y
  refine (congrArg (out0_2 (F := Ideal) (iblk m c 0 t) (iblk m c 1 t)) (eq_ix2 (n0 := 1024) (n1 := 512) y)).trans ?_
  refine (out_apply (iblk m c 0 t) (iblk m c 1 t) (y 0) (y 1)).trans ?_
  exact Finset.sum_congr rfl fun k _ => congrArg₂ (fun u v : EReal => u * v) (blk0 m c t y k) (blk1 m c t y k)

/-- Every block of the result is some point's. -/
theorem onto : ∀ (q0 : Fin 4) (q1 : Fin 2), ∃ t : Fin cfg0.N, win0_2.index t (0 : Fin 2) = q0.val ∧ win0_2.index t (1 : Fin 2) = q1.val :=
  (by decide +kernel : ∀ (q0 : Fin 4) (q1 : Fin 2), ∃ t : Fin grid0.N, _)

/-- So every index of the result is written. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, q0, q1⟩ := onto ⟨(i 0).val / 1024, by omega⟩ ⟨(i 1).val / 512, by omega⟩
  refine ⟨t, flush0_2 t, ?_⟩
  have e : ((cfg0.win 2).blk t).view.emb (ix2 ⟨(i 0).val % 1024, Nat.mod_lt _ (by decide)⟩ ⟨(i 1).val % 512, Nat.mod_lt _ (by decide)⟩ : S1024x512.Idx) = i := by
    funext a; apply Fin.ext
    match a with
    | ⟨0, _⟩ => show win0_2.index t (0 : Fin 2) * 1024 + 1 * ((i 0).val % 1024) = (i 0).val; rw [q0]; show (i 0).val / 1024 * 1024 + 1 * ((i 0).val % 1024) = (i 0).val; omega
    | ⟨1, _⟩ => show win0_2.index t (1 : Fin 2) * 512 + 1 * ((i 1).val % 512) = (i 1).val; rw [q1]; show (i 1).val / 512 * 512 + 1 * ((i 1).val % 512) = (i 1).val; omega
  exact Eq.subst (motive := fun z => z ∈ ((cfg0.win 2).blk t).view.set) e (((cfg0.win 2).blk t).view.emb_mem_set _)

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

/-- The reference's result is the same function. -/
theorem ref_eq (a : FVec Ideal S4096x2048 .bf16) (b : FVec Ideal S1024x2048 .bf16) : Cert.DuRefIdeal.Read.val_main_v3 (F := Ideal) a b = G a b := by
  funext i
  refine (Cert.DuRefIdeal.Read.val_main_v2_apply a b i).trans (Finset.sum_congr rfl fun k _ => ?_)
  exact congrArg₂ (fun u v : EReal => u * v) (congrArg a (show Cert.DuRefIdeal.Read.lidx_main_v2 i k = ix2 (i 0) k from funext fun a => Fin.ext (match a with | ⟨0, _⟩ => rfl | ⟨1, _⟩ => rfl))) (congrArg b (show Cert.DuRefIdeal.Read.ridx_main_v2 i k = ix2 (i 1) k from funext fun a => Fin.ext (match a with | ⟨0, _⟩ => rfl | ⟨1, _⟩ => rfl)))

/-- The reference's run with the result at that function. -/
theorem ref_run (m : (ℓ : Loc Cert.DuRefIdeal.nD Cert.DuRefIdeal.τ Cert.DuRefIdeal.sig) → Buf (Elt Ideal) ℓ) (ρ : Dev Cert.DuRefIdeal.nD → PrngReg) :
    θ_run Cert.DuRefIdeal.defs (onTc (τ := Cert.DuRefIdeal.τ) (Cert.DuRefIdeal.main (F := Ideal))) ⟨m, fun _ => 0, ρ⟩ fun r => ∀ c : Dev Cert.DuRefIdeal.nD,
      r.2.mem ((c : Thread Cert.DuRefIdeal.nD Cert.DuRefIdeal.τ).loc Cert.DuRefIdeal.main_v3) = G (m ((c : Thread Cert.DuRefIdeal.nD Cert.DuRefIdeal.τ).loc Cert.DuRefIdeal.main_arg0)) (m ((c : Thread Cert.DuRefIdeal.nD Cert.DuRefIdeal.τ).loc Cert.DuRefIdeal.main_arg1))
      ∧ r.2.mem ((c : Thread Cert.DuRefIdeal.nD Cert.DuRefIdeal.τ).loc Cert.DuRefIdeal.main_arg0) = m ((c : Thread Cert.DuRefIdeal.nD Cert.DuRefIdeal.τ).loc Cert.DuRefIdeal.main_arg0)
      ∧ r.2.mem ((c : Thread Cert.DuRefIdeal.nD Cert.DuRefIdeal.τ).loc Cert.DuRefIdeal.main_arg1) = m ((c : Thread Cert.DuRefIdeal.nD Cert.DuRefIdeal.τ).loc Cert.DuRefIdeal.main_arg1) :=
  (θ_run Cert.DuRefIdeal.defs _ _).mono (fun _ h c => ⟨((h c).1.trans (Cert.DuRefIdeal.Read.val_main_v3_eq (F := Ideal) _ _ )).trans (ref_eq _ _ ), (h c).2⟩)
    (Cert.DuRefIdeal.Value.run (F := Ideal) m ρ)

/-- The kernel's frame: the generated one. -/
theorem frame_p : Cert.quiescent_Du := fun m ρ _ => Cert.Du.Gen.frame m ρ

/-- The idealized kernel's frame: the generated one. -/
theorem frame_pi : Cert.quiescent_DuIdeal := fun m ρ _ => Cert.DuIdeal.Gen.frame m ρ

/-- The reference's frame: its run read at the arguments. It declares no semaphore. -/
theorem frame_ri : Cert.quiescent_DuRefIdeal := fun m ρ _ =>
  (θ_run Cert.DuRefIdeal.defs _ _).mono
    (fun r h => ⟨fun c => (h c).2, sem_eq_zero_of_no_sems (by decide) r.2⟩)
    (Cert.DuRefIdeal.Value.run (F := Ideal) m ρ)

/-- The two results agree: each side's run read at its result, from equal arguments. -/
theorem algebraic : Cert.algebraic_DuIdeal_DuRefIdeal := by
  intro m ρ m' ρ' _ hagree
  refine ⟨_, run m ρ, ?_⟩
  refine (θ_run Cert.DuRefIdeal.defs _ _).mono (fun r h c => ?_) (ref_run m' ρ')
  obtain ⟨e0, e1⟩ := hagree c
  exact ⟨(h c).1.trans (congrArg₂ G e0 e1), (h c).2⟩

end Cert.Proof.Du

end
-- ==== Proof.Dw.lean ====
/- Hand-written, untrusted: THE GRADIENT OF A BRANCH'S WEIGHTS. The kernel's result as one function of its arguments (`G`, a sum over the contracted
   axis at each index), each grid point's block of it, the reference's result as the same function, and the claims. -/
module

public import proofs.«01_k».proof.Defs
public import proofs.«01_k».proof.Proof.Products
public import proofs.«01_k».proof.Proof.Gen.Dw.Frame
public import proofs.«01_k».proof.Proof.Gen.DwIdeal.Value
public import proofs.«01_k».proof.Proof.Gen.DwRefIdeal.Read
public import Idealize.ShloMosaic.Lib.Quiescent

@[expose] public section

set_option maxRecDepth 16384

noncomputable section

namespace Cert.Proof.Dw

open Cert.DwIdeal Cert.DwIdeal.Gen Cert.DwIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S1024x4096 .bf16) (b : FVec Ideal S4096x2048 .bf16) : FVec Ideal S1024x2048 .bf16 := fun i => ∑ k : Fin 4096, a (ix2 (i 0) k) * b (ix2 k (i 1))

/-- What the body stores, of the blocks. -/
theorem out_eq (a : FVec Ideal S1024x4096 .bf16) (b : FVec Ideal S4096x512 .bf16) : out0_2 (F := Ideal) a b = k0_pay1 (F := Ideal) a b := by
  frame_out

/-- The stored block at an index: the sum over the contracted axis. -/
theorem out_apply (a : FVec Ideal S1024x4096 .bf16) (b : FVec Ideal S4096x512 .bf16) (r : Fin 1024) (q : Fin 512) :
    out0_2 (F := Ideal) a b (ix2 r q) = ∑ k : Fin 4096, a (ix2 r k) * b (ix2 k (q)) := by
  rw [out_eq]
  exact nn_apply dot_S1024x4096_S4096x512_S1024x512_1_0_0_1_n_n ⟨rfl, rfl, rfl, rfl, rfl, rfl⟩ none a b r q

variable (m : (ℓ : Loc nD τ sig) → Buf (Elt Ideal) ℓ) (ρ : Dev nD → PrngReg)

/-- Which blocks of the arguments a grid point reads, by the block of the result it writes. -/
theorem idx : ∀ t : Fin cfg0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2) :=
  (by decide +kernel : ∀ t : Fin grid0.N, _)

/-- The first argument's block at an index of the result's block. -/
theorem blk0 (c : Dev nD) (t : Fin cfg0.N) (y : S1024x512.Idx) (k : Fin 4096) :
    iblk m c 0 t (ix2 (y 0) k) = m ((c : Thread nD τ).loc main_arg0) (ix2 (((cfg0.win 2).blk t).view.emb y 0) k) := by
  obtain ⟨e0, e1, e2, e3⟩ := idx t
  show V m c main_arg0 (((cfg0.win 0).blk t).view.emb (ix2 (y 0) k)) = m ((c : Thread nD τ).loc main_arg0) (ix2 (((cfg0.win 2).blk t).view.emb y 0) k)
  rw [V_main_arg0]
  refine congrArg (m ((c : Thread nD τ).loc main_arg0)) (funext fun a => Fin.ext ?_)
  match a with
  | ⟨0, _⟩ => show win0_0.index t (0 : Fin 2) * 1024 + 1 * (y 0).val = win0_2.index t (0 : Fin 2) * 1024 + 1 * (y 0).val; omega
  | ⟨1, _⟩ => show win0_0.index t (1 : Fin 2) * 4096 + 1 * k.val = k.val; omega

/-- The second argument's block at an index of the result's block. -/
theorem blk1 (c : Dev nD) (t : Fin cfg0.N) (y : S1024x512.Idx) (k : Fin 4096) :
    iblk m c 1 t (ix2 k (y 1)) = m ((c : Thread nD τ).loc main_arg1) (ix2 k (((cfg0.win 2).blk t).view.emb y 1)) := by
  obtain ⟨e0, e1, e2, e3⟩ := idx t
  show V m c main_arg1 (((cfg0.win 1).blk t).view.emb (ix2 k (y 1))) = m ((c : Thread nD τ).loc main_arg1) (ix2 k (((cfg0.win 2).blk t).view.emb y 1))
  rw [V_main_arg1]
  refine congrArg (m ((c : Thread nD τ).loc main_arg1)) (funext fun a => Fin.ext ?_)
  match a with
  | ⟨0, _⟩ => show win0_1.index t (0 : Fin 2) * 4096 + 1 * k.val = k.val; omega
  | ⟨1, _⟩ => show win0_1.index t (1 : Fin 2) * 512 + 1 * (y 1).val = win0_2.index t (1 : Fin 2) * 512 + 1 * (y 1).val; omega

/-- What a grid point writes back is its block of the result. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2]
  funext y
  refine (congrArg (out0_2 (F := Ideal) (iblk m c 0 t) (iblk m c 1 t)) (eq_ix2 (n0 := 1024) (n1 := 512) y)).trans ?_
  refine (out_apply (iblk m c 0 t) (iblk m c 1 t) (y 0) (y 1)).trans ?_
  exact Finset.sum_congr rfl fun k _ => congrArg₂ (fun u v : EReal => u * v) (blk0 m c t y k) (blk1 m c t y k)

/-- Every block of the result is some point's. -/
theorem onto : ∀ (q0 : Fin 1) (q1 : Fin 4), ∃ t : Fin cfg0.N, win0_2.index t (0 : Fin 2) = q0.val ∧ win0_2.index t (1 : Fin 2) = q1.val :=
  (by decide +kernel : ∀ (q0 : Fin 1) (q1 : Fin 4), ∃ t : Fin grid0.N, _)

/-- So every index of the result is written. -/
theorem covered (i : S1024x2048.Idx) : ∃ t : Fin cfg0.N, (cfg0.win 2).flush t = true ∧ i ∈ ((cfg0.win 2).blk t).view.set := by
  have h0 : (i 0).val < 1024 := (i 0).isLt
  have h1 : (i 1).val < 2048 := (i 1).isLt
  obtain ⟨t, q0, q1⟩ := onto ⟨(i 0).val / 1024, by omega⟩ ⟨(i 1).val / 512, by omega⟩
  refine ⟨t, flush0_2 t, ?_⟩
  have e : ((cfg0.win 2).blk t).view.emb (ix2 ⟨(i 0).val % 1024, Nat.mod_lt _ (by decide)⟩ ⟨(i 1).val % 512, Nat.mod_lt _ (by decide)⟩ : S1024x512.Idx) = i := by
    funext a; apply Fin.ext
    match a with
    | ⟨0, _⟩ => show win0_2.index t (0 : Fin 2) * 1024 + 1 * ((i 0).val % 1024) = (i 0).val; rw [q0]; show (i 0).val / 1024 * 1024 + 1 * ((i 0).val % 1024) = (i 0).val; omega
    | ⟨1, _⟩ => show win0_2.index t (1 : Fin 2) * 512 + 1 * ((i 1).val % 512) = (i 1).val; rw [q1]; show (i 1).val / 512 * 512 + 1 * ((i 1).val % 512) = (i 1).val; omega
  exact Eq.subst (motive := fun z => z ∈ ((cfg0.win 2).blk t).view.set) e (((cfg0.win 2).blk t).view.emb_mem_set _)

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

/-- The reference's result is the same function. -/
theorem ref_eq (a : FVec Ideal S1024x4096 .bf16) (b : FVec Ideal S4096x2048 .bf16) : Cert.DwRefIdeal.Read.val_main_v5 (F := Ideal) a b = G a b := by
  funext i
  refine (Cert.DwRefIdeal.Read.val_main_v4_apply (F := Ideal) a b i).trans ?_
  refine (Cert.DwRefIdeal.Read.val_main_v3_apply a b (Cert.DwRefIdeal.Read.idx_main_v4 i)).trans (Finset.sum_congr rfl fun k _ => ?_)
  refine (mul_comm _ _).trans ?_
  exact congrArg₂ (fun u v : EReal => u * v) ((Cert.DwRefIdeal.Read.val_main_v2_apply (F := Ideal) a _).trans (congrArg a (show Cert.DwRefIdeal.Read.idx_main_v2 (Cert.DwRefIdeal.Read.ridx_main_v3 (Cert.DwRefIdeal.Read.idx_main_v4 i) k) = ix2 (i 0) k from funext fun a => Fin.ext (match a with | ⟨0, _⟩ => rfl | ⟨1, _⟩ => rfl))))
    (congrArg b (show Cert.DwRefIdeal.Read.lidx_main_v3 (Cert.DwRefIdeal.Read.idx_main_v4 i) k = ix2 k (i 1) from funext fun a => Fin.ext (match a with | ⟨0, _⟩ => rfl | ⟨1, _⟩ => rfl)))

/-- The reference's run with the result at that function. -/
theorem ref_run (m : (ℓ : Loc Cert.DwRefIdeal.nD Cert.DwRefIdeal.τ Cert.DwRefIdeal.sig) → Buf (Elt Ideal) ℓ) (ρ : Dev Cert.DwRefIdeal.nD → PrngReg) :
    θ_run Cert.DwRefIdeal.defs (onTc (τ := Cert.DwRefIdeal.τ) (Cert.DwRefIdeal.main (F := Ideal))) ⟨m, fun _ => 0, ρ⟩ fun r => ∀ c : Dev Cert.DwRefIdeal.nD,
      r.2.mem ((c : Thread Cert.DwRefIdeal.nD Cert.DwRefIdeal.τ).loc Cert.DwRefIdeal.main_v5) = G (m ((c : Thread Cert.DwRefIdeal.nD Cert.DwRefIdeal.τ).loc Cert.DwRefIdeal.main_arg0)) (m ((c : Thread Cert.DwRefIdeal.nD Cert.DwRefIdeal.τ).loc Cert.DwRefIdeal.main_arg1))
      ∧ r.2.mem ((c : Thread Cert.DwRefIdeal.nD Cert.DwRefIdeal.τ).loc Cert.DwRefIdeal.main_arg0) = m ((c : Thread Cert.DwRefIdeal.nD Cert.DwRefIdeal.τ).loc Cert.DwRefIdeal.main_arg0)
      ∧ r.2.mem ((c : Thread Cert.DwRefIdeal.nD Cert.DwRefIdeal.τ).loc Cert.DwRefIdeal.main_arg1) = m ((c : Thread Cert.DwRefIdeal.nD Cert.DwRefIdeal.τ).loc Cert.DwRefIdeal.main_arg1) :=
  (θ_run Cert.DwRefIdeal.defs _ _).mono (fun _ h c => ⟨((h c).1.trans (Cert.DwRefIdeal.Read.val_main_v5_eq (F := Ideal) _ _ )).trans (ref_eq _ _ ), (h c).2⟩)
    (Cert.DwRefIdeal.Value.run (F := Ideal) m ρ)

/-- The kernel's frame: the generated one. -/
theorem frame_p : Cert.quiescent_Dw := fun m ρ _ => Cert.Dw.Gen.frame m ρ

/-- The idealized kernel's frame: the generated one. -/
theorem frame_pi : Cert.quiescent_DwIdeal := fun m ρ _ => Cert.DwIdeal.Gen.frame m ρ

/-- The reference's frame: its run read at the arguments. It declares no semaphore. -/
theorem frame_ri : Cert.quiescent_DwRefIdeal := fun m ρ _ =>
  (θ_run Cert.DwRefIdeal.defs _ _).mono
    (fun r h => ⟨fun c => (h c).2, sem_eq_zero_of_no_sems (by decide) r.2⟩)
    (Cert.DwRefIdeal.Value.run (F := Ideal) m ρ)

/-- The two results agree: each side's run read at its result, from equal arguments. -/
theorem algebraic : Cert.algebraic_DwIdeal_DwRefIdeal := by
  intro m ρ m' ρ' _ hagree
  refine ⟨_, run m ρ, ?_⟩
  refine (θ_run Cert.DwRefIdeal.defs _ _).mono (fun r h c => ?_) (ref_run m' ρ')
  obtain ⟨e0, e1⟩ := hagree c
  exact ⟨(h c).1.trans (congrArg₂ G e0 e1), (h c).2⟩

end Cert.Proof.Dw

end
-- ==== Proof.OutProj.lean ====
/- Hand-written, untrusted: THE OUTPUT PROJECTION WITH ITS RESIDUAL. The kernel's result as one function of its arguments (`G`, a sum over the contracted
   axis at each index), each grid point's block of it, the reference's result as the same function, and the claims. -/
module

public import proofs.«01_k».proof.Defs
public import proofs.«01_k».proof.Proof.Products
public import proofs.«01_k».proof.Proof.Gen.OutProj.Frame
public import proofs.«01_k».proof.Proof.Gen.OutProjIdeal.Value
public import proofs.«01_k».proof.Proof.Gen.OutProjRefIdeal.Read
public import Idealize.ShloMosaic.Lib.Quiescent

@[expose] public section

set_option maxRecDepth 16384

noncomputable section

namespace Cert.Proof.OutProj

open Cert.OutProjIdeal Cert.OutProjIdeal.Gen Cert.OutProjIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S4096x2048 .bf16) (b : FVec Ideal S2048x2048 .bf16) (x : FVec Ideal S4096x2048 .f32) : FVec Ideal S4096x2048 .f32 := fun i => (∑ k : Fin 2048, a (ix2 (i 0) k) * b (ix2 k (i 1))) + x i

/-- What the body stores, of the blocks. -/
theorem out_eq (a : FVec Ideal S1024x2048 .bf16) (b : FVec Ideal S2048x512 .bf16) (x : FVec Ideal S1024x512 .f32) : out0_3 (F := Ideal) a b x = k0_pay1 (F := Ideal) a b x := by
  frame_out

/-- The stored block at an index: the sum over the contracted axis. -/
theorem out_apply (a : FVec Ideal S1024x2048 .bf16) (b : FVec Ideal S2048x512 .bf16) (x : FVec Ideal S1024x512 .f32) (r : Fin 1024) (q : Fin 512) :
    out0_3 (F := Ideal) a b x (ix2 r q) = (∑ k : Fin 2048, a (ix2 r k) * b (ix2 k (q))) + x (ix2 r q) := by
  rw [out_eq]
  exact congrArg (fun u : EReal => u + x (ix2 r q)) (nn_apply dot_S1024x2048_S2048x512_S1024x512_1_0_0_1_n_n ⟨rfl, rfl, rfl, rfl, rfl, rfl⟩ none a b r q)

variable (m : (ℓ : Loc nD τ sig) → Buf (Elt Ideal) ℓ) (ρ : Dev nD → PrngReg)

/-- Which blocks of the arguments a grid point reads, by the block of the result it writes. -/
theorem idx : ∀ t : Fin cfg0.N, win0_0.index t (0 : Fin 2) = win0_3.index t (0 : Fin 2) ∧ win0_0.index t (1 : Fin 2) = 0 ∧ win0_1.index t (0 : Fin 2) = 0 ∧ win0_1.index t (1 : Fin 2) = win0_3.index t (1 : Fin 2) ∧ win0_2.index t (0 : Fin 2) = win0_3.index t (0 : Fin 2) ∧ win0_2.index t (1 : Fin 2) = win0_3.index t (1 : Fin 2) :=
  (by decide +kernel : ∀ t : Fin grid0.N, _)

/-- The first argument's block at an index of the result's block. -/
theorem blk0 (c : Dev nD) (t : Fin cfg0.N) (y : S1024x512.Idx) (k : Fin 2048) :
    iblk m c 0 t (ix2 (y 0) k) = m ((c : Thread nD τ).loc main_arg0) (ix2 (((cfg0.win 3).blk t).view.emb y 0) k) := by
  obtain ⟨e0, e1, e2, e3, e4, e5⟩ := idx t
  show V m c main_arg0 (((cfg0.win 0).blk t).view.emb (ix2 (y 0) k)) = m ((c : Thread nD τ).loc main_arg0) (ix2 (((cfg0.win 3).blk t).view.emb y 0) k)
  rw [V_main_arg0]
  refine congrArg (m ((c : Thread nD τ).loc main_arg0)) (funext fun a => Fin.ext ?_)
  match a with
  | ⟨0, _⟩ => show win0_0.index t (0 : Fin 2) * 1024 + 1 * (y 0).val = win0_3.index t (0 : Fin 2) * 1024 + 1 * (y 0).val; omega
  | ⟨1, _⟩ => show win0_0.index t (1 : Fin 2) * 2048 + 1 * k.val = k.val; omega

/-- The second argument's block at an index of the result's block. -/
theorem blk1 (c : Dev nD) (t : Fin cfg0.N) (y : S1024x512.Idx) (k : Fin 2048) :
    iblk m c 1 t (ix2 k (y 1)) = m ((c : Thread nD τ).loc main_arg1) (ix2 k (((cfg0.win 3).blk t).view.emb y 1)) := by
  obtain ⟨e0, e1, e2, e3, e4, e5⟩ := idx t
  show V m c main_arg1 (((cfg0.win 1).blk t).view.emb (ix2 k (y 1))) = m ((c : Thread nD τ).loc main_arg1) (ix2 k (((cfg0.win 3).blk t).view.emb y 1))
  rw [V_main_arg1]
  refine congrArg (m ((c : Thread nD τ).loc main_arg1)) (funext fun a => Fin.ext ?_)
  match a with
  | ⟨0, _⟩ => show win0_1.index t (0 : Fin 2) * 2048 + 1 * k.val = k.val; omega
  | ⟨1, _⟩ => show win0_1.index t (1 : Fin 2) * 512 + 1 * (y 1).val = win0_3.index t (1 : Fin 2) * 512 + 1 * (y 1).val; omega

/-- The residual's block at an index of the result's block. -/
theorem blk2 (c : Dev nD) (t : Fin cfg0.N) (y : S1024x512.Idx) :
    iblk m c 2 t y = m ((c : Thread nD τ).loc main_arg2) (((cfg0.win 3).blk t).view.emb y) := by
  obtain ⟨e0, e1, e2, e3, e4, e5⟩ := idx t
  show V m c main_arg2 (((cfg0.win 2).blk t).view.emb y) = _
  rw [V_main_arg2]
  refine congrArg (m ((c : Thread nD τ).loc main_arg2)) (funext fun a => Fin.ext ?_)
  match a with
  | ⟨0, _⟩ => show win0_2.index t (0 : Fin 2) * 1024 + 1 * (y 0).val = win0_3.index t (0 : Fin 2) * 1024 + 1 * (y 0).val; omega
  | ⟨1, _⟩ => show win0_2.index t (1 : Fin 2) * 512 + 1 * (y 1).val = win0_3.index t (1 : Fin 2) * 512 + 1 * (y 1).val; omega

/-- What a grid point writes back is its block of the result. -/
theorem flushed_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2))) := by
  rw [flushed3]
  funext y
  refine (congrArg (out0_3 (F := Ideal) (iblk m c 0 t) (iblk m c 1 t) (iblk m c 2 t)) (eq_ix2 (n0 := 1024) (n1 := 512) y)).trans ?_
  refine (out_apply (iblk m c 0 t) (iblk m c 1 t) (iblk m c 2 t) (y 0) (y 1)).trans ?_
  exact congrArg₂ (fun u v : EReal => u + v) (Finset.sum_congr rfl fun k _ => congrArg₂ (fun u v : EReal => u * v) (blk0 m c t y k) (blk1 m c t y k)) ((congrArg (iblk m c 2 t) (eq_ix2 (n0 := 1024) (n1 := 512) y).symm).trans (blk2 m c t y))

/-- Every block of the result is some point's. -/
theorem onto : ∀ (q0 : Fin 4) (q1 : Fin 4), ∃ t : Fin cfg0.N, win0_3.index t (0 : Fin 2) = q0.val ∧ win0_3.index t (1 : Fin 2) = q1.val :=
  (by decide +kernel : ∀ (q0 : Fin 4) (q1 : Fin 4), ∃ t : Fin grid0.N, _)

/-- So every index of the result is written. -/
theorem covered (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  obtain ⟨t, q0, q1⟩ := onto ⟨(i 0).val / 1024, by omega⟩ ⟨(i 1).val / 512, by omega⟩
  refine ⟨t, flush0_3 t, ?_⟩
  have e : ((cfg0.win 3).blk t).view.emb (ix2 ⟨(i 0).val % 1024, Nat.mod_lt _ (by decide)⟩ ⟨(i 1).val % 512, Nat.mod_lt _ (by decide)⟩ : S1024x512.Idx) = i := by
    funext a; apply Fin.ext
    match a with
    | ⟨0, _⟩ => show win0_3.index t (0 : Fin 2) * 1024 + 1 * ((i 0).val % 1024) = (i 0).val; rw [q0]; show (i 0).val / 1024 * 1024 + 1 * ((i 0).val % 1024) = (i 0).val; omega
    | ⟨1, _⟩ => show win0_3.index t (1 : Fin 2) * 512 + 1 * ((i 1).val % 512) = (i 1).val; rw [q1]; show (i 1).val / 512 * 512 + 1 * ((i 1).val % 512) = (i 1).val; omega
  exact Eq.subst (motive := fun z => z ∈ ((cfg0.win 3).blk t).view.set) e (((cfg0.win 3).blk t).view.emb_mem_set _)

/-- The result array after the run. -/
theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

/-- The reference's result is the same function. -/
theorem ref_eq (a : FVec Ideal S4096x2048 .bf16) (b : FVec Ideal S2048x2048 .bf16) (x : FVec Ideal S4096x2048 .f32) : Cert.OutProjRefIdeal.Read.val_main_v3 (F := Ideal) a b x = G a b x := by
  funext i
  refine (add_comm (x i) (Cert.OutProjRefIdeal.Read.val_main_v2 (F := Ideal) a b i)).trans (congrArg (fun u : EReal => u + x i) ?_)
  refine (Cert.OutProjRefIdeal.Read.val_main_v2_apply a b i).trans (Finset.sum_congr rfl fun k _ => ?_)
  exact congrArg₂ (fun u v : EReal => u * v) (congrArg a (show Cert.OutProjRefIdeal.Read.lidx_main_v2 i k = ix2 (i 0) k from funext fun a => Fin.ext (match a with | ⟨0, _⟩ => rfl | ⟨1, _⟩ => rfl))) (congrArg b (show Cert.OutProjRefIdeal.Read.ridx_main_v2 i k = ix2 k (i 1) from funext fun a => Fin.ext (match a with | ⟨0, _⟩ => rfl | ⟨1, _⟩ => rfl)))

/-- The reference's run with the result at that function. -/
theorem ref_run (m : (ℓ : Loc Cert.OutProjRefIdeal.nD Cert.OutProjRefIdeal.τ Cert.OutProjRefIdeal.sig) → Buf (Elt Ideal) ℓ) (ρ : Dev Cert.OutProjRefIdeal.nD → PrngReg) :
    θ_run Cert.OutProjRefIdeal.defs (onTc (τ := Cert.OutProjRefIdeal.τ) (Cert.OutProjRefIdeal.main (F := Ideal))) ⟨m, fun _ => 0, ρ⟩ fun r => ∀ c : Dev Cert.OutProjRefIdeal.nD,
      r.2.mem ((c : Thread Cert.OutProjRefIdeal.nD Cert.OutProjRefIdeal.τ).loc Cert.OutProjRefIdeal.main_v3) = G (m ((c : Thread Cert.OutProjRefIdeal.nD Cert.OutProjRefIdeal.τ).loc Cert.OutProjRefIdeal.main_arg0)) (m ((c : Thread Cert.OutProjRefIdeal.nD Cert.OutProjRefIdeal.τ).loc Cert.OutProjRefIdeal.main_arg1)) (m ((c : Thread Cert.OutProjRefIdeal.nD Cert.OutProjRefIdeal.τ).loc Cert.OutProjRefIdeal.main_arg2))
      ∧ r.2.mem ((c : Thread Cert.OutProjRefIdeal.nD Cert.OutProjRefIdeal.τ).loc Cert.OutProjRefIdeal.main_arg0) = m ((c : Thread Cert.OutProjRefIdeal.nD Cert.OutProjRefIdeal.τ).loc Cert.OutProjRefIdeal.main_arg0)
      ∧ r.2.mem ((c : Thread Cert.OutProjRefIdeal.nD Cert.OutProjRefIdeal.τ).loc Cert.OutProjRefIdeal.main_arg1) = m ((c : Thread Cert.OutProjRefIdeal.nD Cert.OutProjRefIdeal.τ).loc Cert.OutProjRefIdeal.main_arg1)
      ∧ r.2.mem ((c : Thread Cert.OutProjRefIdeal.nD Cert.OutProjRefIdeal.τ).loc Cert.OutProjRefIdeal.main_arg2) = m ((c : Thread Cert.OutProjRefIdeal.nD Cert.OutProjRefIdeal.τ).loc Cert.OutProjRefIdeal.main_arg2) :=
  (θ_run Cert.OutProjRefIdeal.defs _ _).mono (fun _ h c => ⟨((h c).1.trans (Cert.OutProjRefIdeal.Read.val_main_v3_eq (F := Ideal) _ _ _ )).trans (ref_eq _ _ _ ), (h c).2⟩)
    (Cert.OutProjRefIdeal.Value.run (F := Ideal) m ρ)

/-- The kernel's frame: the generated one. -/
theorem frame_p : Cert.quiescent_OutProj := fun m ρ _ => Cert.OutProj.Gen.frame m ρ

/-- The idealized kernel's frame: the generated one. -/
theorem frame_pi : Cert.quiescent_OutProjIdeal := fun m ρ _ => Cert.OutProjIdeal.Gen.frame m ρ

/-- The reference's frame: its run read at the arguments. It declares no semaphore. -/
theorem frame_ri : Cert.quiescent_OutProjRefIdeal := fun m ρ _ =>
  (θ_run Cert.OutProjRefIdeal.defs _ _).mono
    (fun r h => ⟨fun c => (h c).2, sem_eq_zero_of_no_sems (by decide) r.2⟩)
    (Cert.OutProjRefIdeal.Value.run (F := Ideal) m ρ)

/-- The two results agree: each side's run read at its result, from equal arguments. -/
theorem algebraic : Cert.algebraic_OutProjIdeal_OutProjRefIdeal := by
  intro m ρ m' ρ' _ hagree
  refine ⟨_, run m ρ, ?_⟩
  refine (θ_run Cert.OutProjRefIdeal.defs _ _).mono (fun r h c => ?_) (ref_run m' ρ')
  obtain ⟨e0, e1, e2⟩ := hagree c
  exact ⟨(h c).1.trans (congr (congrArg₂ G e0 e1) e2), (h c).2⟩

end Cert.Proof.OutProj

end
-- ==== Proof.DwOut.lean ====
/- Hand-written, untrusted: THE GRADIENT OF THE OUTPUT PROJECTION'S WEIGHTS. The kernel's result as one function of its arguments (`G`, a sum over the contracted
   axis at each index), each grid point's block of it, the reference's result as the same function, and the claims. -/
module

public import proofs.«01_k».proof.Defs
public import proofs.«01_k».proof.Proof.Products
public import proofs.«01_k».proof.Proof.Gen.DwOut.Frame
public import proofs.«01_k».proof.Proof.Gen.DwOutIdeal.Value
public import proofs.«01_k».proof.Proof.Gen.DwOutRefIdeal.Read
public import Idealize.ShloMosaic.Lib.Quiescent

@[expose] public section

set_option maxRecDepth 16384

noncomputable section

namespace Cert.Proof.DwOut

open Cert.DwOutIdeal Cert.DwOutIdeal.Gen Cert.DwOutIdeal.Value Idealize.ShloMosaic Idealize.ShloMosaic.TcCoe Idealize.SL.Sem Idealize.ShloMosaic.ValueIdx
open Idealize.ShloMosaic.Tactic Cert.Proof.Products

/-- The result, of the arguments. -/
def G (a : FVec Ideal S2048x4096 .bf16) (b : FVec Ideal S4096x2048 .bf16) : FVec Ideal S2048x2048 .bf16 := fun i => ∑ k : Fin 4096, a (ix2 (i 0) k) * b (ix2 k (i 1))

/-- What the body stores, of the blocks. -/
theorem out_eq (a : FVec Ideal S1024x4096 .bf16) (b : FVec Ideal S4096x512 .bf16) : out0_2 (F := Ideal) a b = k0_pay1 (F := Ideal) a b := by
  frame_out

/-- The stored block at an index: the sum over the contracted axis. -/
theorem out_apply (a : FVec Ideal S1024x4096 .bf16) (b : FVec Ideal S4096x512 .bf16) (r : Fin 1024) (q : Fin 512) :
    out0_2 (F := Ideal) a b (ix2 r q) = ∑ k : Fin 4096, a (ix2 r k) * b (ix2 k (q)) := by
  rw [out_eq]
  exact nn_apply dot_S1024x4096_S4096x512_S1024x512_1_0_0_1_n_n ⟨rfl, rfl, rfl, rfl, rfl, rfl⟩ none a b r q

variable (m : (ℓ : Loc nD τ sig) → Buf (Elt Ideal) ℓ) (ρ : Dev nD → PrngReg)

/-- Which blocks of the arguments a grid point reads, by the block of the result it writes. -/
theorem idx : ∀ t : Fin cfg0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2) :=
  (by decide +kernel : ∀ t : Fin grid0.N, _)

/-- The first argument's block at an index of the result's block. -/
theorem blk0 (c : Dev nD) (t : Fin cfg0.N) (y : S1024x512.Idx) (k : Fin 4096) :
    iblk m c 0 t (ix2 (y 0) k) = m ((c : Thread nD τ).loc main_arg0) (ix2 (((cfg0.win 2).blk t).view.emb y 0) k) := by
  obtain ⟨e0, e1, e2, e3⟩ := idx t
  show V m c main_arg0 (((cfg0.win 0).blk t).view.emb (ix2 (y 0) k)) = m ((c : Thread nD τ).loc main_arg0) (ix2 (((cfg0.win 2).blk t).view.emb y 0) k)
  rw [V_main_arg0]
  refine congrArg (m ((c : Thread nD τ).loc main_arg0)) (funext fun a => Fin.ext ?_)
  match a with
  | ⟨0, _⟩ => show win0_0.index t (0 : Fin 2) * 1024 + 1 * (y 0).val = win0_2.index t (0 : Fin 2) * 1024 + 1 * (y 0).val; omega
  | ⟨1, _⟩ => show win0_0.index t (1 : Fin 2) * 4096 + 1 * k.val = k.val; omega

/-- The second argument's block at an index of the result's block. -/
theorem blk1 (c : Dev nD) (t : Fin cfg0.N) (y : S1024x512.Idx) (k : Fin 4096) :
    iblk m c 1 t (ix2 k (y 1)) = m ((c : Thread nD τ).loc main_arg1) (ix2 k (((cfg0.win 2).blk t).view.emb y 1)) := by
  obtain ⟨e0, e1, e2, e3⟩ := idx t
  show V m c main_arg1 (((cfg0.win 1).blk t).view.emb (ix2 k (y 1))) = m ((c : Thread nD τ).loc main_arg1) (ix2 k (((cfg0.win 2).blk t).view.emb y 1))
  rw [V_main_arg1]
  refine congrArg (m ((c : Thread nD τ).loc main_arg1)) (funext fun a => Fin.ext ?_)
  match a with
  | ⟨0, _⟩ => show win0_1.index t (0 : Fin 2) * 4096 + 1 * k.val = k.val; omega
  | ⟨1, _⟩ => show win0_1.index t (1 : Fin 2) * 512 + 1 * (y 1).val = win0_2.index t (1 : Fin 2) * 512 + 1 * (y 1).val; omega

/-- What a grid point writes back is its block of the result. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2]
  funext y
  refine (congrArg (out0_2 (F := Ideal) (iblk m c 0 t) (iblk m c 1 t)) (eq_ix2 (n0 := 1024) (n1 := 512) y)).trans ?_
  refine (out_apply (iblk m c 0 t) (iblk m c 1 t) (y 0) (y 1)).trans ?_
  exact Finset.sum_congr rfl fun k _ => congrArg₂ (fun u v : EReal => u * v) (blk0 m c t y k) (blk1 m c t y k)

/-- Every block of the result is some point's. -/
theorem onto : ∀ (q0 : Fin 2) (q1 : Fin 4), ∃ t : Fin cfg0.N, win0_2.index t (0 : Fin 2) = q0.val ∧ win0_2.index t (1 : Fin 2) = q1.val :=
  (by decide +kernel : ∀ (q0 : Fin 2) (q1 : Fin 4), ∃ t : Fin grid0.N, _)

/-- So every index of the result is written. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, q0, q1⟩ := onto ⟨(i 0).val / 1024, by omega⟩ ⟨(i 1).val / 512, by omega⟩
  refine ⟨t, flush0_2 t, ?_⟩
  have e : ((cfg0.win 2).blk t).view.emb (ix2 ⟨(i 0).val % 1024, Nat.mod_lt _ (by decide)⟩ ⟨(i 1).val % 512, Nat.mod_lt _ (by decide)⟩ : S1024x512.Idx) = i := by
    funext a; apply Fin.ext
    match a with
    | ⟨0, _⟩ => show win0_2.index t (0 : Fin 2) * 1024 + 1 * ((i 0).val % 1024) = (i 0).val; rw [q0]; show (i 0).val / 1024 * 1024 + 1 * ((i 0).val % 1024) = (i 0).val; omega
    | ⟨1, _⟩ => show win0_2.index t (1 : Fin 2) * 512 + 1 * ((i 1).val % 512) = (i 1).val; rw [q1]; show (i 1).val / 512 * 512 + 1 * ((i 1).val % 512) = (i 1).val; omega
  exact Eq.subst (motive := fun z => z ∈ ((cfg0.win 2).blk t).view.set) e (((cfg0.win 2).blk t).view.emb_mem_set _)

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

/-- The kernel's run with the result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

/-- The reference's result is the same function. -/
theorem ref_eq (a : FVec Ideal S2048x4096 .bf16) (b : FVec Ideal S4096x2048 .bf16) : Cert.DwOutRefIdeal.Read.val_main_v5 (F := Ideal) a b = G a b := by
  funext i
  refine (Cert.DwOutRefIdeal.Read.val_main_v4_apply (F := Ideal) a b i).trans ?_
  refine (Cert.DwOutRefIdeal.Read.val_main_v3_apply a b (Cert.DwOutRefIdeal.Read.idx_main_v4 i)).trans (Finset.sum_congr rfl fun k _ => ?_)
  refine (mul_comm _ _).trans ?_
  exact congrArg₂ (fun u v : EReal => u * v) ((Cert.DwOutRefIdeal.Read.val_main_v2_apply (F := Ideal) a _).trans (congrArg a (show Cert.DwOutRefIdeal.Read.idx_main_v2 (Cert.DwOutRefIdeal.Read.ridx_main_v3 (Cert.DwOutRefIdeal.Read.idx_main_v4 i) k) = ix2 (i 0) k from funext fun a => Fin.ext (match a with | ⟨0, _⟩ => rfl | ⟨1, _⟩ => rfl))))
    (congrArg b (show Cert.DwOutRefIdeal.Read.lidx_main_v3 (Cert.DwOutRefIdeal.Read.idx_main_v4 i) k = ix2 k (i 1) from funext fun a => Fin.ext (match a with | ⟨0, _⟩ => rfl | ⟨1, _⟩ => rfl)))

/-- The reference's run with the result at that function. -/
theorem ref_run (m : (ℓ : Loc Cert.DwOutRefIdeal.nD Cert.DwOutRefIdeal.τ Cert.DwOutRefIdeal.sig) → Buf (Elt Ideal) ℓ) (ρ : Dev Cert.DwOutRefIdeal.nD → PrngReg) :
    θ_run Cert.DwOutRefIdeal.defs (onTc (τ := Cert.DwOutRefIdeal.τ) (Cert.DwOutRefIdeal.main (F := Ideal))) ⟨m, fun _ => 0, ρ⟩ fun r => ∀ c : Dev Cert.DwOutRefIdeal.nD,
      r.2.mem ((c : Thread Cert.DwOutRefIdeal.nD Cert.DwOutRefIdeal.τ).loc Cert.DwOutRefIdeal.main_v5) = G (m ((c : Thread Cert.DwOutRefIdeal.nD Cert.DwOutRefIdeal.τ).loc Cert.DwOutRefIdeal.main_arg0)) (m ((c : Thread Cert.DwOutRefIdeal.nD Cert.DwOutRefIdeal.τ).loc Cert.DwOutRefIdeal.main_arg1))
      ∧ r.2.mem ((c : Thread Cert.DwOutRefIdeal.nD Cert.DwOutRefIdeal.τ).loc Cert.DwOutRefIdeal.main_arg0) = m ((c : Thread Cert.DwOutRefIdeal.nD Cert.DwOutRefIdeal.τ).loc Cert.DwOutRefIdeal.main_arg0)
      ∧ r.2.mem ((c : Thread Cert.DwOutRefIdeal.nD Cert.DwOutRefIdeal.τ).loc Cert.DwOutRefIdeal.main_arg1) = m ((c : Thread Cert.DwOutRefIdeal.nD Cert.DwOutRefIdeal.τ).loc Cert.DwOutRefIdeal.main_arg1) :=
  (θ_run Cert.DwOutRefIdeal.defs _ _).mono (fun _ h c => ⟨((h c).1.trans (Cert.DwOutRefIdeal.Read.val_main_v5_eq (F := Ideal) _ _ )).trans (ref_eq _ _ ), (h c).2⟩)
    (Cert.DwOutRefIdeal.Value.run (F := Ideal) m ρ)

/-- The kernel's frame: the generated one. -/
theorem frame_p : Cert.quiescent_DwOut := fun m ρ _ => Cert.DwOut.Gen.frame m ρ

/-- The idealized kernel's frame: the generated one. -/
theorem frame_pi : Cert.quiescent_DwOutIdeal := fun m ρ _ => Cert.DwOutIdeal.Gen.frame m ρ

/-- The reference's frame: its run read at the arguments. It declares no semaphore. -/
theorem frame_ri : Cert.quiescent_DwOutRefIdeal := fun m ρ _ =>
  (θ_run Cert.DwOutRefIdeal.defs _ _).mono
    (fun r h => ⟨fun c => (h c).2, sem_eq_zero_of_no_sems (by decide) r.2⟩)
    (Cert.DwOutRefIdeal.Value.run (F := Ideal) m ρ)

/-- The two results agree: each side's run read at its result, from equal arguments. -/
theorem algebraic : Cert.algebraic_DwOutIdeal_DwOutRefIdeal := by
  intro m ρ m' ρ' _ hagree
  refine ⟨_, run m ρ, ?_⟩
  refine (θ_run Cert.DwOutRefIdeal.defs _ _).mono (fun r h c => ?_) (ref_run m' ρ')
  obtain ⟨e0, e1⟩ := hagree c
  exact ⟨(h c).1.trans (congrArg₂ G e0 e1), (h c).2⟩

end Cert.Proof.DwOut

end
-- ==== Proof.Gate.lean ====
/- Hand-written, untrusted: THE MERGE'S GATE at the ideal values (the logistic function, as the kernel and as the host write it)
   and where the gates' columns lie in the projected activations. -/
module

public import Idealize.ShloMosaic.Lib.ValueLayout
public import Idealize.ShloMosaic.PureOps.Ideal.Laws

@[expose] public section

noncomputable section

namespace Cert.Proof.Gate

open Idealize.ShloMosaic

/-- The constant one of the programs. -/
def one : EReal := Ideal.ofBits .f32 0x3F800000#32

/-- The gate of one value, as the kernel writes it. -/
def sg (x : EReal) : EReal := Ideal.div one (one + Ideal.exp (Ideal.ofBits .f32 0x00000000#32 - x))

/-- The host negates where the kernel subtracts from zero. -/
theorem sg_neg (x : EReal) : Ideal.div one (one + Ideal.exp (-x)) = sg x := by
  unfold sg
  rw [Ideal.ofBits_zero_f32, sub_eq_add_neg, zero_add]

/-- The column of the projected activations that holds branch `k`'s gate of channel `c`. -/
def gcol (k : Fin 3) (c : Fin 2048) : Fin 14848 := ⟨8704 + k.val * 2048 + c.val, by omega⟩

end Cert.Proof.Gate

end
-- ==== Proof.Merge.lean ====
/- Hand-written, untrusted: THE MERGE OF THE THREE BRANCHES. The kernel's results as functions of its arguments (`Y`, a branch's
   projection; `G`, the gated sum of the three; `GT`, its transposed copy), each grid point's block of them, the reference's results
   as the same functions, and the claims. -/
module

public import proofs.«01_k».proof.Defs
public import proofs.«01_k».proof.Proof.Products
public import proofs.«01_k».proof.Proof.Gate
public import proofs.«01_k».proof.Proof.Gen.Merge.Frame
public import proofs.«01_k».proof.Proof.Gen.MergeIdeal.Value
public import proofs.«01_k».proof.Proof.Gen.MergeRefIdeal.Read
public import Idealize.ShloMosaic.Lib.Quiescent

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem Idealize.ShloMosaic.ValueIdx
open Idealize.ShloMosaic.Tactic Cert.Proof.Products Cert.Proof.Gate

/-- A branch's projection at a row and a channel. -/
def proj (u : FVec Ideal S4096x1024 .bf16) (w : FVec Ideal S1024x2048 .bf16) (r : Fin 4096) (q : Fin 2048) : EReal :=
  ∑ k : Fin 1024, u (ix2 r k) * w (ix2 k q)

/-- A branch's projection. -/
def Y (u : FVec Ideal S4096x1024 .bf16) (w : FVec Ideal S1024x2048 .bf16) : FVec Ideal S4096x2048 .bf16 := fun i => proj u w (i 0) (i 1)

/-- The gated sum of the three branches at a row and a channel. -/
def mix (ua ub uc : FVec Ideal S4096x1024 .bf16) (wr wp wa : FVec Ideal S1024x2048 .bf16) (z : FVec Ideal S4096x14848 .f32) (r : Fin 4096) (q : Fin 2048) : EReal :=
  sg (z (ix2 r (gcol 0 q))) * proj ua wr r q + sg (z (ix2 r (gcol 1 q))) * proj ub wp r q + sg (z (ix2 r (gcol 2 q))) * proj uc wa r q

/-- The gated sum of the three branches. -/
def G (ua ub uc : FVec Ideal S4096x1024 .bf16) (wr wp wa : FVec Ideal S1024x2048 .bf16) (z : FVec Ideal S4096x14848 .f32) : FVec Ideal S4096x2048 .bf16 :=
  fun i => mix ua ub uc wr wp wa z (i 0) (i 1)

/-- Its transposed copy. -/
def GT (ua ub uc : FVec Ideal S4096x1024 .bf16) (wr wp wa : FVec Ideal S1024x2048 .bf16) (z : FVec Ideal S4096x14848 .f32) : FVec Ideal S2048x4096 .bf16 :=
  fun i => mix ua ub uc wr wp wa z (i 1) (i 0)

/-! ## What the body stores -/

section
variable (x0 x1 x2 : FVec Ideal S512x1024 .bf16) (x3 x4 x5 : FVec Ideal S1024x512 .bf16) (x6 x7 x8 : FVec Ideal S512x512 .f32)

/-- A projection's block at an index. -/
def bproj (u : FVec Ideal S512x1024 .bf16) (w : FVec Ideal S1024x512 .bf16) (r q : Fin 512) : EReal := ∑ k : Fin 1024, u (ix2 r k) * w (ix2 k q)

/-- The body's product at an index. -/
theorem prod_apply (u : FVec Ideal S512x1024 .bf16) (w : FVec Ideal S1024x512 .bf16) (r q : Fin 512) : k0_pay4 (F := Ideal) u w (ix2 r q) = bproj u w r q :=
  nn_apply dot_S512x1024_S1024x512_S512x512_1_0_0_1_n_n ⟨rfl, rfl, rfl, rfl, rfl, rfl⟩ none u w r q

/-- The gated sum's block, as the body makes it. -/
def body : FVec Ideal S512x512 .f32 := k0_pay1 (F := Ideal) (k0_pay4 x1 x4) (k0_pay4 x2 x5) (k0_pay10 x0 x3 x6) x7 k0_pay11 x8

/-- The gated sum's block at an index. -/
theorem body_apply (r q : Fin 512) : body x0 x1 x2 x3 x4 x5 x6 x7 x8 (ix2 r q)
    = sg (x6 (ix2 r q)) * bproj x0 x3 r q + sg (x7 (ix2 r q)) * bproj x1 x4 r q + sg (x8 (ix2 r q)) * bproj x2 x5 r q := by
  refine Eq.trans ?_ (congrArg₂ (fun u v : EReal => u + v) (congrArg₂ (fun u v : EReal => u + v)
    (congrArg (fun u : EReal => sg (x6 (ix2 r q)) * u) (prod_apply x0 x3 r q)) (congrArg (fun u : EReal => sg (x7 (ix2 r q)) * u) (prod_apply x1 x4 r q)))
    (congrArg (fun u : EReal => sg (x8 (ix2 r q)) * u) (prod_apply x2 x5 r q)))
  rfl

theorem out9_apply (r q : Fin 512) : out0_9 (F := Ideal) x0 x1 x2 x3 x4 x5 x6 x7 x8 (ix2 r q) = bproj x0 x3 r q := by
  have e : out0_9 (F := Ideal) x0 x1 x2 x3 x4 x5 x6 x7 x8 = k0_pay4 (F := Ideal) x0 x3 := by frame_out; rfl
  rw [e]; exact prod_apply x0 x3 r q

theorem out10_apply (r q : Fin 512) : out0_10 (F := Ideal) x0 x1 x2 x3 x4 x5 x6 x7 x8 (ix2 r q) = bproj x1 x4 r q := by
  have e : out0_10 (F := Ideal) x0 x1 x2 x3 x4 x5 x6 x7 x8 = k0_pay4 (F := Ideal) x1 x4 := by frame_out; rfl
  rw [e]; exact prod_apply x1 x4 r q

theorem out11_apply (r q : Fin 512) : out0_11 (F := Ideal) x0 x1 x2 x3 x4 x5 x6 x7 x8 (ix2 r q) = bproj x2 x5 r q := by
  have e : out0_11 (F := Ideal) x0 x1 x2 x3 x4 x5 x6 x7 x8 = k0_pay4 (F := Ideal) x2 x5 := by frame_out; rfl
  rw [e]; exact prod_apply x2 x5 r q

theorem out12_apply (r q : Fin 512) : out0_12 (F := Ideal) x0 x1 x2 x3 x4 x5 x6 x7 x8 (ix2 r q) = body x0 x1 x2 x3 x4 x5 x6 x7 x8 (ix2 r q) := by
  have e : out0_12 (F := Ideal) x0 x1 x2 x3 x4 x5 x6 x7 x8 = body x0 x1 x2 x3 x4 x5 x6 x7 x8 := by
    frame_out [k0_pay12, k0_pay13, k0_pay14, k0_pay15, r0_0, r0_1, r0_2]; rfl
  rw [e]

theorem out13_apply (r q : Fin 512) : out0_13 (F := Ideal) x0 x1 x2 x3 x4 x5 x6 x7 x8 (ix2 q r) = body x0 x1 x2 x3 x4 x5 x6 x7 x8 (ix2 r q) := by
  have e : out0_13 (F := Ideal) x0 x1 x2 x3 x4 x5 x6 x7 x8 = transpose S512x512 [1, 0] (body x0 x1 x2 x3 x4 x5 x6 x7 x8) transposes_S512x512_p1_0_S512x512 := by
    frame_out [k0_pay12, k0_pay13, k0_pay14, k0_pay15, r0_0, r0_1, r0_2]; rfl
  rw [e]; exact transpose_ix2_apply _ _ _ _

end

variable (m : (ℓ : Loc nD τ sig) → Buf (Elt Ideal) ℓ) (ρ : Dev nD → PrngReg)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-! ## Which blocks a grid point reads and writes -/

/-- The window's block indices, by the block of the first result that the point writes. -/
theorem idx : ∀ t : Fin cfg0.N, (win0_9.index t (0 : Fin 2) < 8 ∧ win0_9.index t (1 : Fin 2) < 4)
    ∧ (win0_0.index t (0 : Fin 2) = win0_9.index t (0 : Fin 2) ∧ win0_0.index t (1 : Fin 2) = 0)
    ∧ (win0_1.index t (0 : Fin 2) = win0_9.index t (0 : Fin 2) ∧ win0_1.index t (1 : Fin 2) = 0)
    ∧ (win0_2.index t (0 : Fin 2) = win0_9.index t (0 : Fin 2) ∧ win0_2.index t (1 : Fin 2) = 0)
    ∧ (win0_3.index t (0 : Fin 2) = 0 ∧ win0_3.index t (1 : Fin 2) = win0_9.index t (1 : Fin 2))
    ∧ (win0_4.index t (0 : Fin 2) = 0 ∧ win0_4.index t (1 : Fin 2) = win0_9.index t (1 : Fin 2))
    ∧ (win0_5.index t (0 : Fin 2) = 0 ∧ win0_5.index t (1 : Fin 2) = win0_9.index t (1 : Fin 2))
    ∧ (win0_6.index t (0 : Fin 2) = win0_9.index t (0 : Fin 2) ∧ win0_6.index t (1 : Fin 2) = win0_9.index t (1 : Fin 2) + 17)
    ∧ (win0_7.index t (0 : Fin 2) = win0_9.index t (0 : Fin 2) ∧ win0_7.index t (1 : Fin 2) = win0_9.index t (1 : Fin 2) + 21)
    ∧ (win0_8.index t (0 : Fin 2) = win0_9.index t (0 : Fin 2) ∧ win0_8.index t (1 : Fin 2) = win0_9.index t (1 : Fin 2) + 25)
    ∧ (win0_10.index t (0 : Fin 2) = win0_9.index t (0 : Fin 2) ∧ win0_10.index t (1 : Fin 2) = win0_9.index t (1 : Fin 2))
    ∧ (win0_11.index t (0 : Fin 2) = win0_9.index t (0 : Fin 2) ∧ win0_11.index t (1 : Fin 2) = win0_9.index t (1 : Fin 2))
    ∧ (win0_12.index t (0 : Fin 2) = win0_9.index t (0 : Fin 2) ∧ win0_12.index t (1 : Fin 2) = win0_9.index t (1 : Fin 2))
    ∧ (win0_13.index t (0 : Fin 2) = win0_9.index t (1 : Fin 2) ∧ win0_13.index t (1 : Fin 2) = win0_9.index t (0 : Fin 2)) :=
  (by decide +kernel : ∀ t : Fin grid0.N, _)

/-- The row of the arrays at a row of the point's block. -/
def R (t : Fin cfg0.N) (r : Fin 512) : Fin 4096 := ⟨win0_9.index t (0 : Fin 2) * 512 + r.val, by have h : win0_9.index t (0 : Fin 2) < 8 := (idx t).1.1; omega⟩

/-- The channel of the arrays at a column of the point's block. -/
def C (t : Fin cfg0.N) (q : Fin 512) : Fin 2048 := ⟨win0_9.index t (1 : Fin 2) * 512 + q.val, by have h : win0_9.index t (1 : Fin 2) < 4 := (idx t).1.2; omega⟩

theorem blk0 (c : Dev nD) (t : Fin cfg0.N) (r : Fin 512) (k : Fin 1024) : iblk m c 0 t (ix2 r k) = A0 m c (ix2 (R t r) k) := by
  obtain ⟨e0, e1⟩ := (idx t).2.1
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 512 + 1 * r.val = win0_9.index t (0 : Fin 2) * 512 + r.val; omega
  | ⟨1, _⟩ => show win0_0.index t (1 : Fin 2) * 1024 + 1 * k.val = k.val; omega

theorem blk1 (c : Dev nD) (t : Fin cfg0.N) (r : Fin 512) (k : Fin 1024) : iblk m c 1 t (ix2 r k) = A1 m c (ix2 (R t r) k) := by
  obtain ⟨e0, e1⟩ := (idx t).2.2.1
  show V m c main_arg1 (((cfg0.win 1).blk t).view.emb (ix2 r k)) = _
  rw [V_main_arg1]
  refine congrArg (A1 m c) (funext fun a => Fin.ext ?_)
  match a with
  | ⟨0, _⟩ => show win0_1.index t (0 : Fin 2) * 512 + 1 * r.val = win0_9.index t (0 : Fin 2) * 512 + r.val; omega
  | ⟨1, _⟩ => show win0_1.index t (1 : Fin 2) * 1024 + 1 * k.val = k.val; omega

theorem blk2 (c : Dev nD) (t : Fin cfg0.N) (r : Fin 512) (k : Fin 1024) : iblk m c 2 t (ix2 r k) = A2 m c (ix2 (R t r) k) := by
  obtain ⟨e0, e1⟩ := (idx t).2.2.2.1
  show V m c main_arg2 (((cfg0.win 2).blk t).view.emb (ix2 r k)) = _
  rw [V_main_arg2]
  refine congrArg (A2 m c) (funext fun a => Fin.ext ?_)
  match a with
  | ⟨0, _⟩ => show win0_2.index t (0 : Fin 2) * 512 + 1 * r.val = win0_9.index t (0 : Fin 2) * 512 + r.val; omega
  | ⟨1, _⟩ => show win0_2.index t (1 : Fin 2) * 1024 + 1 * k.val = k.val; omega

theorem blk3 (c : Dev nD) (t : Fin cfg0.N) (k : Fin 1024) (q : Fin 512) : iblk m c 3 t (ix2 k q) = A3 m c (ix2 k (C t q)) := by
  obtain ⟨e0, e1⟩ := (idx t).2.2.2.2.1
  show V m c main_arg3 (((cfg0.win 3).blk t).view.emb (ix2 k q)) = _
  rw [V_main_arg3]
  refine congrArg (A3 m c) (funext fun a => Fin.ext ?_)
  match a with
  | ⟨0, _⟩ => show win0_3.index t (0 : Fin 2) * 1024 + 1 * k.val = k.val; omega
  | ⟨1, _⟩ => show win0_3.index t (1 : Fin 2) * 512 + 1 * q.val = win0_9.index t (1 : Fin 2) * 512 + q.val; omega

theorem blk4 (c : Dev nD) (t : Fin cfg0.N) (k : Fin 1024) (q : Fin 512) : iblk m c 4 t (ix2 k q) = A4 m c (ix2 k (C t q)) := by
  obtain ⟨e0, e1⟩ := (idx t).2.2.2.2.2.1
  show V m c main_arg4 (((cfg0.win 4).blk t).view.emb (ix2 k q)) = _
  rw [V_main_arg4]
  refine congrArg (A4 m c) (funext fun a => Fin.ext ?_)
  match a with
  | ⟨0, _⟩ => show win0_4.index t (0 : Fin 2) * 1024 + 1 * k.val = k.val; omega
  | ⟨1, _⟩ => show win0_4.index t (1 : Fin 2) * 512 + 1 * q.val = win0_9.index t (1 : Fin 2) * 512 + q.val; omega

theorem blk5 (c : Dev nD) (t : Fin cfg0.N) (k : Fin 1024) (q : Fin 512) : iblk m c 5 t (ix2 k q) = A5 m c (ix2 k (C t q)) := by
  obtain ⟨e0, e1⟩ := (idx t).2.2.2.2.2.2.1
  show V m c main_arg5 (((cfg0.win 5).blk t).view.emb (ix2 k q)) = _
  rw [V_main_arg5]
  refine congrArg (A5 m c) (funext fun a => Fin.ext ?_)
  match a with
  | ⟨0, _⟩ => show win0_5.index t (0 : Fin 2) * 1024 + 1 * k.val = k.val; omega
  | ⟨1, _⟩ => show win0_5.index t (1 : Fin 2) * 512 + 1 * q.val = win0_9.index t (1 : Fin 2) * 512 + q.val; omega

theorem blk6 (c : Dev nD) (t : Fin cfg0.N) (r q : Fin 512) : iblk m c 6 t (ix2 r q) = A6 m c (ix2 (R t r) (gcol 0 (C t q))) := by
  obtain ⟨e0, e1⟩ := (idx t).2.2.2.2.2.2.2.1
  show V m c main_arg6 (((cfg0.win 6).blk t).view.emb (ix2 r q)) = _
  rw [V_main_arg6]
  refine congrArg (A6 m c) (funext fun a => Fin.ext ?_)
  match a with
  | ⟨0, _⟩ => show win0_6.index t (0 : Fin 2) * 512 + 1 * r.val = win0_9.index t (0 : Fin 2) * 512 + r.val; omega
  | ⟨1, _⟩ => show win0_6.index t (1 : Fin 2) * 512 + 1 * q.val = 8704 + 0 * 2048 + (win0_9.index t (1 : Fin 2) * 512 + q.val); omega

theorem blk7 (c : Dev nD) (t : Fin cfg0.N) (r q : Fin 512) : iblk m c 7 t (ix2 r q) = A6 m c (ix2 (R t r) (gcol 1 (C t q))) := by
  obtain ⟨e0, e1⟩ := (idx t).2.2.2.2.2.2.2.2.1
  show V m c main_arg6 (((cfg0.win 7).blk t).view.emb (ix2 r q)) = _
  rw [V_main_arg6]
  refine congrArg (A6 m c) (funext fun a => Fin.ext ?_)
  match a with
  | ⟨0, _⟩ => show win0_7.index t (0 : Fin 2) * 512 + 1 * r.val = win0_9.index t (0 : Fin 2) * 512 + r.val; omega
  | ⟨1, _⟩ => show win0_7.index t (1 : Fin 2) * 512 + 1 * q.val = 8704 + 1 * 2048 + (win0_9.index t (1 : Fin 2) * 512 + q.val); omega

theorem blk8 (c : Dev nD) (t : Fin cfg0.N) (r q : Fin 512) : iblk m c 8 t (ix2 r q) = A6 m c (ix2 (R t r) (gcol 2 (C t q))) := by
  obtain ⟨e0, e1⟩ := (idx t).2.2.2.2.2.2.2.2.2.1
  show V m c main_arg6 (((cfg0.win 8).blk t).view.emb (ix2 r q)) = _
  rw [V_main_arg6]
  refine congrArg (A6 m c) (funext fun a => Fin.ext ?_)
  match a with
  | ⟨0, _⟩ => show win0_8.index t (0 : Fin 2) * 512 + 1 * r.val = win0_9.index t (0 : Fin 2) * 512 + r.val; omega
  | ⟨1, _⟩ => show win0_8.index t (1 : Fin 2) * 512 + 1 * q.val = 8704 + 2 * 2048 + (win0_9.index t (1 : Fin 2) * 512 + q.val); omega

theorem emb9 (t : Fin cfg0.N) (r q : Fin 512) : ((cfg0.win 9).blk t).view.emb (ix2 r q : S512x512.Idx) = (ix2 (R t r) (C t q) : S4096x2048.Idx) := by
  funext a; apply Fin.ext
  match a with
  | ⟨0, _⟩ => show win0_9.index t (0 : Fin 2) * 512 + 1 * r.val = win0_9.index t (0 : Fin 2) * 512 + r.val; omega
  | ⟨1, _⟩ => show win0_9.index t (1 : Fin 2) * 512 + 1 * q.val = win0_9.index t (1 : Fin 2) * 512 + q.val; omega

theorem emb10 (t : Fin cfg0.N) (r q : Fin 512) : ((cfg0.win 10).blk t).view.emb (ix2 r q : S512x512.Idx) = (ix2 (R t r) (C t q) : S4096x2048.Idx) := by
  obtain ⟨e0, e1⟩ := (idx t).2.2.2.2.2.2.2.2.2.2.1
  funext a; apply Fin.ext
  match a with
  | ⟨0, _⟩ => show win0_10.index t (0 : Fin 2) * 512 + 1 * r.val = win0_9.index t (0 : Fin 2) * 512 + r.val; omega
  | ⟨1, _⟩ => show win0_10.index t (1 : Fin 2) * 512 + 1 * q.val = win0_9.index t (1 : Fin 2) * 512 + q.val; omega

theorem emb11 (t : Fin cfg0.N) (r q : Fin 512) : ((cfg0.win 11).blk t).view.emb (ix2 r q : S512x512.Idx) = (ix2 (R t r) (C t q) : S4096x2048.Idx) := by
  obtain ⟨e0, e1⟩ := (idx t).2.2.2.2.2.2.2.2.2.2.2.1
  funext a; apply Fin.ext
  match a with
  | ⟨0, _⟩ => show win0_11.index t (0 : Fin 2) * 512 + 1 * r.val = win0_9.index t (0 : Fin 2) * 512 + r.val; omega
  | ⟨1, _⟩ => show win0_11.index t (1 : Fin 2) * 512 + 1 * q.val = win0_9.index t (1 : Fin 2) * 512 + q.val; omega

theorem emb12 (t : Fin cfg0.N) (r q : Fin 512) : ((cfg0.win 12).blk t).view.emb (ix2 r q : S512x512.Idx) = (ix2 (R t r) (C t q) : S4096x2048.Idx) := by
  obtain ⟨e0, e1⟩ := (idx t).2.2.2.2.2.2.2.2.2.2.2.2.1
  funext a; apply Fin.ext
  match a with
  | ⟨0, _⟩ => show win0_12.index t (0 : Fin 2) * 512 + 1 * r.val = win0_9.index t (0 : Fin 2) * 512 + r.val; omega
  | ⟨1, _⟩ => show win0_12.index t (1 : Fin 2) * 512 + 1 * q.val = win0_9.index t (1 : Fin 2) * 512 + q.val; omega

theorem emb13 (t : Fin cfg0.N) (r q : Fin 512) : ((cfg0.win 13).blk t).view.emb (ix2 q r : S512x512.Idx) = (ix2 (C t q) (R t r) : S2048x4096.Idx) := by
  obtain ⟨e0, e1⟩ := (idx t).2.2.2.2.2.2.2.2.2.2.2.2.2
  funext a; apply Fin.ext
  match a with
  | ⟨0, _⟩ => show win0_13.index t (0 : Fin 2) * 512 + 1 * q.val = win0_9.index t (1 : Fin 2) * 512 + q.val; omega
  | ⟨1, _⟩ => show win0_13.index t (1 : Fin 2) * 512 + 1 * r.val = win0_9.index t (0 : Fin 2) * 512 + r.val; omega

/-! ## What a point writes back -/

/-- A projection's block is the block of the projection. -/
theorem proj_a (c : Dev nD) (t : Fin cfg0.N) (r q : Fin 512) : bproj (iblk m c 0 t) (iblk m c 3 t) r q = proj (A0 m c) (A3 m c) (R t r) (C t q) :=
  Finset.sum_congr rfl fun k _ => congrArg₂ (fun u v : EReal => u * v) (blk0 m c t r k) (blk3 m c t k q)

/-- A projection's block is the block of the projection. -/
theorem proj_b (c : Dev nD) (t : Fin cfg0.N) (r q : Fin 512) : bproj (iblk m c 1 t) (iblk m c 4 t) r q = proj (A1 m c) (A4 m c) (R t r) (C t q) :=
  Finset.sum_congr rfl fun k _ => congrArg₂ (fun u v : EReal => u * v) (blk1 m c t r k) (blk4 m c t k q)

/-- A projection's block is the block of the projection. -/
theorem proj_c (c : Dev nD) (t : Fin cfg0.N) (r q : Fin 512) : bproj (iblk m c 2 t) (iblk m c 5 t) r q = proj (A2 m c) (A5 m c) (R t r) (C t q) :=
  Finset.sum_congr rfl fun k _ => congrArg₂ (fun u v : EReal => u * v) (blk2 m c t r k) (blk5 m c t k q)

/-- The gated sum's block is the block of the gated sum. -/
theorem mix_eq (c : Dev nD) (t : Fin cfg0.N) (r q : Fin 512) : body (iblk m c 0 t) (iblk m c 1 t) (iblk m c 2 t) (iblk m c 3 t) (iblk m c 4 t) (iblk m c 5 t) (iblk m c 6 t) (iblk m c 7 t) (iblk m c 8 t) (ix2 r q) = mix (A0 m c) (A1 m c) (A2 m c) (A3 m c) (A4 m c) (A5 m c) (A6 m c) (R t r) (C t q) := by
  refine (body_apply (iblk m c 0 t) (iblk m c 1 t) (iblk m c 2 t) (iblk m c 3 t) (iblk m c 4 t) (iblk m c 5 t) (iblk m c 6 t) (iblk m c 7 t) (iblk m c 8 t) r q).trans ?_
  exact congrArg₂ (fun u v : EReal => u + v) (congrArg₂ (fun u v : EReal => u + v)
    (congrArg₂ (fun u v : EReal => u * v) (congrArg sg (blk6 m c t r q)) (proj_a m c t r q)) (congrArg₂ (fun u v : EReal => u * v) (congrArg sg (blk7 m c t r q)) (proj_b m c t r q)))
    (congrArg₂ (fun u v : EReal => u * v) (congrArg sg (blk8 m c t r q)) (proj_c m c t r q))

theorem flushed9_eq (c : Dev nD) (t : Fin cfg0.N) : (dats m 0 c).flushed 9 t = ((cfg0.win 9).blk t).view.read (Elt Ideal) (Y (A0 m c) (A3 m c)) := by
  rw [flushed9]
  funext y
  refine (congrArg (out0_9 (F := Ideal) (iblk m c 0 t) (iblk m c 1 t) (iblk m c 2 t) (iblk m c 3 t) (iblk m c 4 t) (iblk m c 5 t) (iblk m c 6 t) (iblk m c 7 t) (iblk m c 8 t)) (eq_ix2 (n0 := 512) (n1 := 512) y)).trans ?_
  refine (out9_apply (iblk m c 0 t) (iblk m c 1 t) (iblk m c 2 t) (iblk m c 3 t) (iblk m c 4 t) (iblk m c 5 t) (iblk m c 6 t) (iblk m c 7 t) (iblk m c 8 t) (y 0) (y 1)).trans ((proj_a m c t (y 0) (y 1)).trans ?_)
  exact (congrArg (Y (A0 m c) (A3 m c)) ((congrArg (((cfg0.win 9).blk t).view.emb) (eq_ix2 (n0 := 512) (n1 := 512) y)).trans (emb9 t (y 0) (y 1)))).symm

theorem flushed10_eq (c : Dev nD) (t : Fin cfg0.N) : (dats m 0 c).flushed 10 t = ((cfg0.win 10).blk t).view.read (Elt Ideal) (Y (A1 m c) (A4 m c)) := by
  rw [flushed10]
  funext y
  refine (congrArg (out0_10 (F := Ideal) (iblk m c 0 t) (iblk m c 1 t) (iblk m c 2 t) (iblk m c 3 t) (iblk m c 4 t) (iblk m c 5 t) (iblk m c 6 t) (iblk m c 7 t) (iblk m c 8 t)) (eq_ix2 (n0 := 512) (n1 := 512) y)).trans ?_
  refine (out10_apply (iblk m c 0 t) (iblk m c 1 t) (iblk m c 2 t) (iblk m c 3 t) (iblk m c 4 t) (iblk m c 5 t) (iblk m c 6 t) (iblk m c 7 t) (iblk m c 8 t) (y 0) (y 1)).trans ((proj_b m c t (y 0) (y 1)).trans ?_)
  exact (congrArg (Y (A1 m c) (A4 m c)) ((congrArg (((cfg0.win 10).blk t).view.emb) (eq_ix2 (n0 := 512) (n1 := 512) y)).trans (emb10 t (y 0) (y 1)))).symm

theorem flushed11_eq (c : Dev nD) (t : Fin cfg0.N) : (dats m 0 c).flushed 11 t = ((cfg0.win 11).blk t).view.read (Elt Ideal) (Y (A2 m c) (A5 m c)) := by
  rw [flushed11]
  funext y
  refine (congrArg (out0_11 (F := Ideal) (iblk m c 0 t) (iblk m c 1 t) (iblk m c 2 t) (iblk m c 3 t) (iblk m c 4 t) (iblk m c 5 t) (iblk m c 6 t) (iblk m c 7 t) (iblk m c 8 t)) (eq_ix2 (n0 := 512) (n1 := 512) y)).trans ?_
  refine (out11_apply (iblk m c 0 t) (iblk m c 1 t) (iblk m c 2 t) (iblk m c 3 t) (iblk m c 4 t) (iblk m c 5 t) (iblk m c 6 t) (iblk m c 7 t) (iblk m c 8 t) (y 0) (y 1)).trans ((proj_c m c t (y 0) (y 1)).trans ?_)
  exact (congrArg (Y (A2 m c) (A5 m c)) ((congrArg (((cfg0.win 11).blk t).view.emb) (eq_ix2 (n0 := 512) (n1 := 512) y)).trans (emb11 t (y 0) (y 1)))).symm

theorem flushed12_eq (c : Dev nD) (t : Fin cfg0.N) : (dats m 0 c).flushed 12 t = ((cfg0.win 12).blk t).view.read (Elt Ideal) (G (A0 m c) (A1 m c) (A2 m c) (A3 m c) (A4 m c) (A5 m c) (A6 m c)) := by
  rw [flushed12]
  funext y
  refine (congrArg (out0_12 (F := Ideal) (iblk m c 0 t) (iblk m c 1 t) (iblk m c 2 t) (iblk m c 3 t) (iblk m c 4 t) (iblk m c 5 t) (iblk m c 6 t) (iblk m c 7 t) (iblk m c 8 t)) (eq_ix2 (n0 := 512) (n1 := 512) y)).trans ?_
  refine (out12_apply (iblk m c 0 t) (iblk m c 1 t) (iblk m c 2 t) (iblk m c 3 t) (iblk m c 4 t) (iblk m c 5 t) (iblk m c 6 t) (iblk m c 7 t) (iblk m c 8 t) (y 0) (y 1)).trans ((mix_eq m c t (y 0) (y 1)).trans ?_)
  exact (congrArg (G (A0 m c) (A1 m c) (A2 m c) (A3 m c) (A4 m c) (A5 m c) (A6 m c)) ((congrArg (((cfg0.win 12).blk t).view.emb) (eq_ix2 (n0 := 512) (n1 := 512) y)).trans (emb12 t (y 0) (y 1)))).symm

theorem flushed13_eq (c : Dev nD) (t : Fin cfg0.N) : (dats m 0 c).flushed 13 t = ((cfg0.win 13).blk t).view.read (Elt Ideal) (GT (A0 m c) (A1 m c) (A2 m c) (A3 m c) (A4 m c) (A5 m c) (A6 m c)) := by
  rw [flushed13]
  funext y
  refine (congrArg (out0_13 (F := Ideal) (iblk m c 0 t) (iblk m c 1 t) (iblk m c 2 t) (iblk m c 3 t) (iblk m c 4 t) (iblk m c 5 t) (iblk m c 6 t) (iblk m c 7 t) (iblk m c 8 t)) (eq_ix2 (n0 := 512) (n1 := 512) y)).trans ?_
  refine (out13_apply (iblk m c 0 t) (iblk m c 1 t) (iblk m c 2 t) (iblk m c 3 t) (iblk m c 4 t) (iblk m c 5 t) (iblk m c 6 t) (iblk m c 7 t) (iblk m c 8 t) (y 1) (y 0)).trans ((mix_eq m c t (y 1) (y 0)).trans ?_)
  exact (congrArg (GT (A0 m c) (A1 m c) (A2 m c) (A3 m c) (A4 m c) (A5 m c) (A6 m c)) ((congrArg (((cfg0.win 13).blk t).view.emb) (eq_ix2 (n0 := 512) (n1 := 512) y)).trans (emb13 t (y 1) (y 0)))).symm

/-- Every block of the results is some point's. -/
theorem onto : ∀ (q0 : Fin 8) (q1 : Fin 4), ∃ t : Fin cfg0.N, win0_9.index t (0 : Fin 2) = q0.val ∧ win0_9.index t (1 : Fin 2) = q1.val :=
  (by decide +kernel : ∀ (q0 : Fin 8) (q1 : Fin 4), ∃ t : Fin grid0.N, _)

/-- Every row and channel is some point's. -/
theorem spot (i : Fin 4096) (j : Fin 2048) : ∃ (t : Fin cfg0.N) (r q : Fin 512), R t r = i ∧ C t q = j := by
  obtain ⟨t, q0, q1⟩ := onto ⟨i.val / 512, by omega⟩ ⟨j.val / 512, by omega⟩
  refine ⟨t, ⟨i.val % 512, Nat.mod_lt _ (by decide)⟩, ⟨j.val % 512, Nat.mod_lt _ (by decide)⟩, Fin.ext ?_, Fin.ext ?_⟩
  · show win0_9.index t (0 : Fin 2) * 512 + i.val % 512 = i.val; rw [q0]; show i.val / 512 * 512 + i.val % 512 = i.val; omega
  · show win0_9.index t (1 : Fin 2) * 512 + j.val % 512 = j.val; rw [q1]; show j.val / 512 * 512 + j.val % 512 = j.val; omega

theorem covered9 (i : S4096x2048.Idx) : ∃ t : Fin cfg0.N, (cfg0.win 9).flush t = true ∧ i ∈ ((cfg0.win 9).blk t).view.set := by
  obtain ⟨t, r, q, h0, h1⟩ := spot (i 0) (i 1)
  refine ⟨t, flush0_9 t, ?_⟩
  have e : ((cfg0.win 9).blk t).view.emb (ix2 r q : S512x512.Idx) = i := (emb9 t r q).trans ((congrArg₂ ix2 h0 h1).trans (eq_ix2 (n0 := 4096) (n1 := 2048) i).symm)
  exact Eq.subst (motive := fun z => z ∈ ((cfg0.win 9).blk t).view.set) e (((cfg0.win 9).blk t).view.emb_mem_set _)

theorem final9 (c : Dev nD) : (dats m 0 c).arrAt 9 cfg0.N = Y (A0 m c) (A3 m c) :=
  (dats m 0 c).arrAt_eq_of_cover 9 _ (fun t _ => flushed9_eq m c t) covered9

theorem covered10 (i : S4096x2048.Idx) : ∃ t : Fin cfg0.N, (cfg0.win 10).flush t = true ∧ i ∈ ((cfg0.win 10).blk t).view.set := by
  obtain ⟨t, r, q, h0, h1⟩ := spot (i 0) (i 1)
  refine ⟨t, flush0_10 t, ?_⟩
  have e : ((cfg0.win 10).blk t).view.emb (ix2 r q : S512x512.Idx) = i := (emb10 t r q).trans ((congrArg₂ ix2 h0 h1).trans (eq_ix2 (n0 := 4096) (n1 := 2048) i).symm)
  exact Eq.subst (motive := fun z => z ∈ ((cfg0.win 10).blk t).view.set) e (((cfg0.win 10).blk t).view.emb_mem_set _)

theorem final10 (c : Dev nD) : (dats m 0 c).arrAt 10 cfg0.N = Y (A1 m c) (A4 m c) :=
  (dats m 0 c).arrAt_eq_of_cover 10 _ (fun t _ => flushed10_eq m c t) covered10

theorem covered11 (i : S4096x2048.Idx) : ∃ t : Fin cfg0.N, (cfg0.win 11).flush t = true ∧ i ∈ ((cfg0.win 11).blk t).view.set := by
  obtain ⟨t, r, q, h0, h1⟩ := spot (i 0) (i 1)
  refine ⟨t, flush0_11 t, ?_⟩
  have e : ((cfg0.win 11).blk t).view.emb (ix2 r q : S512x512.Idx) = i := (emb11 t r q).trans ((congrArg₂ ix2 h0 h1).trans (eq_ix2 (n0 := 4096) (n1 := 2048) i).symm)
  exact Eq.subst (motive := fun z => z ∈ ((cfg0.win 11).blk t).view.set) e (((cfg0.win 11).blk t).view.emb_mem_set _)

theorem final11 (c : Dev nD) : (dats m 0 c).arrAt 11 cfg0.N = Y (A2 m c) (A5 m c) :=
  (dats m 0 c).arrAt_eq_of_cover 11 _ (fun t _ => flushed11_eq m c t) covered11

theorem covered12 (i : S4096x2048.Idx) : ∃ t : Fin cfg0.N, (cfg0.win 12).flush t = true ∧ i ∈ ((cfg0.win 12).blk t).view.set := by
  obtain ⟨t, r, q, h0, h1⟩ := spot (i 0) (i 1)
  refine ⟨t, flush0_12 t, ?_⟩
  have e : ((cfg0.win 12).blk t).view.emb (ix2 r q : S512x512.Idx) = i := (emb12 t r q).trans ((congrArg₂ ix2 h0 h1).trans (eq_ix2 (n0 := 4096) (n1 := 2048) i).symm)
  exact Eq.subst (motive := fun z => z ∈ ((cfg0.win 12).blk t).view.set) e (((cfg0.win 12).blk t).view.emb_mem_set _)

theorem final12 (c : Dev nD) : (dats m 0 c).arrAt 12 cfg0.N = G (A0 m c) (A1 m c) (A2 m c) (A3 m c) (A4 m c) (A5 m c) (A6 m c) :=
  (dats m 0 c).arrAt_eq_of_cover 12 _ (fun t _ => flushed12_eq m c t) covered12

theorem covered13 (i : S2048x4096.Idx) : ∃ t : Fin cfg0.N, (cfg0.win 13).flush t = true ∧ i ∈ ((cfg0.win 13).blk t).view.set := by
  obtain ⟨t, r, q, h0, h1⟩ := spot (i 1) (i 0)
  refine ⟨t, flush0_13 t, ?_⟩
  have e : ((cfg0.win 13).blk t).view.emb (ix2 q r : S512x512.Idx) = i := (emb13 t r q).trans ((congrArg₂ ix2 h1 h0).trans (eq_ix2 (n0 := 2048) (n1 := 4096) i).symm)
  exact Eq.subst (motive := fun z => z ∈ ((cfg0.win 13).blk t).view.set) e (((cfg0.win 13).blk t).view.emb_mem_set _)

theorem final13 (c : Dev nD) : (dats m 0 c).arrAt 13 cfg0.N = GT (A0 m c) (A1 m c) (A2 m c) (A3 m c) (A4 m c) (A5 m c) (A6 m c) :=
  (dats m 0 c).arrAt_eq_of_cover 13 _ (fun t _ => flushed13_eq m c t) covered13

/-- The kernel's run with the results at their functions of the arguments. -/
theorem run : θ_run defs (onTc (τ := τ) (main (F := Ideal))) ⟨m, fun _ => 0, ρ⟩ fun r => ∀ c : Dev nD,
      r.2.mem ((c : Thread nD τ).loc main_v0_0) = Y (A0 m c) (A3 m c)
      ∧ r.2.mem ((c : Thread nD τ).loc main_v0_1) = Y (A1 m c) (A4 m c)
      ∧ r.2.mem ((c : Thread nD τ).loc main_v0_2) = Y (A2 m c) (A5 m c)
      ∧ r.2.mem ((c : Thread nD τ).loc main_v0_3) = G (A0 m c) (A1 m c) (A2 m c) (A3 m c) (A4 m c) (A5 m c) (A6 m c)
      ∧ r.2.mem ((c : Thread nD τ).loc main_v0_4) = GT (A0 m c) (A1 m c) (A2 m c) (A3 m c) (A4 m c) (A5 m c) (A6 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c
      ∧ r.2.mem ((c : Thread nD τ).loc main_arg5) = A5 m c
      ∧ r.2.mem ((c : Thread nD τ).loc main_arg6) = A6 m c :=
  (θ_run defs _ _).mono (fun _ h c => by
    obtain ⟨h9, h10, h11, h12, h13, hr⟩ := h c
    exact ⟨h9.trans (final9 m c), h10.trans (final10 m c), h11.trans (final11 m c), h12.trans (final12 m c), h13.trans (final13 m c), hr⟩) (run_blocks m ρ)

/-! ## The reference -/

section
open Cert.MergeRefIdeal.Read
variable (ua ub uc : FVec Ideal S4096x1024 .bf16) (wr wp wa : FVec Ideal S1024x2048 .bf16) (z : FVec Ideal S4096x14848 .f32)

theorem ref_a (i : S4096x2048.Idx) : val_main_v6 (F := Ideal) ua wr i = proj ua wr (i 0) (i 1) := by
  refine (val_main_v6_apply ua wr i).trans (Finset.sum_congr rfl fun k _ => ?_)
  exact congrArg₂ (fun u v : EReal => u * v) (congrArg ua (show lidx_main_v6 i k = ix2 (i 0) k from funext fun a => Fin.ext (match a with | ⟨0, _⟩ => rfl | ⟨1, _⟩ => rfl)))
    (congrArg wr (show ridx_main_v6 i k = ix2 k (i 1) from funext fun a => Fin.ext (match a with | ⟨0, _⟩ => rfl | ⟨1, _⟩ => rfl)))

theorem ref_b (i : S4096x2048.Idx) : val_main_v7 (F := Ideal) ub wp i = proj ub wp (i 0) (i 1) := by
  refine (val_main_v7_apply ub wp i).trans (Finset.sum_congr rfl fun k _ => ?_)
  exact congrArg₂ (fun u v : EReal => u * v) (congrArg ub (show lidx_main_v7 i k = ix2 (i 0) k from funext fun a => Fin.ext (match a with | ⟨0, _⟩ => rfl | ⟨1, _⟩ => rfl)))
    (congrArg wp (show ridx_main_v7 i k = ix2 k (i 1) from funext fun a => Fin.ext (match a with | ⟨0, _⟩ => rfl | ⟨1, _⟩ => rfl)))

theorem ref_c (i : S4096x2048.Idx) : val_main_v8 (F := Ideal) uc wa i = proj uc wa (i 0) (i 1) := by
  refine (val_main_v8_apply uc wa i).trans (Finset.sum_congr rfl fun k _ => ?_)
  exact congrArg₂ (fun u v : EReal => u * v) (congrArg uc (show lidx_main_v8 i k = ix2 (i 0) k from funext fun a => Fin.ext (match a with | ⟨0, _⟩ => rfl | ⟨1, _⟩ => rfl)))
    (congrArg wa (show ridx_main_v8 i k = ix2 k (i 1) from funext fun a => Fin.ext (match a with | ⟨0, _⟩ => rfl | ⟨1, _⟩ => rfl)))

/-- The reference's gates before their reshaping. -/
theorem ref_gates (j : Cert.MergeRefIdeal.S4096x6144.Idx) : val_main_v15 (F := Ideal) z j = sg (z (idx_main_v9 j)) := by
  refine Eq.trans ?_ (sg_neg (z (idx_main_v9 j)))
  refine (val_main_v15_apply (F := Ideal) z j).trans ?_
  refine congrArg₂ Ideal.div (val_main_v14_apply (F := Ideal) j) ?_
  refine (val_main_v13_apply (F := Ideal) z j).trans ?_
  exact congrArg₂ (fun u v : EReal => u + v) (val_main_v12_apply (F := Ideal) j) (congrArg (fun u : EReal => Ideal.exp (-u)) (val_main_v9_apply (F := Ideal) z j))

theorem ref_gate0 (i : S4096x2048.Idx) : val_main_v18 (F := Ideal) z i = sg (z (ix2 (i 0) (gcol 0 (i 1)))) := by
  rw [val_main_v18_apply, val_main_v17_apply, val_main_v16_apply]
  refine (ref_gates z _).trans (congrArg (fun j => sg (z j)) (funext fun a => Fin.ext ?_))
  have h0 : (i 0).val < 4096 := (i 0).isLt
  have h1 : (i 1).val < 2048 := (i 1).isLt
  match a with
  | ⟨0, _⟩ => show ((((i 0).val * 2048 + (i 1).val) / 2048 * 3 + 0) * 2048 + ((i 0).val * 2048 + (i 1).val) % 2048) / 6144 = (i 0).val; omega
  | ⟨1, _⟩ => show 8704 + ((((i 0).val * 2048 + (i 1).val) / 2048 * 3 + 0) * 2048 + ((i 0).val * 2048 + (i 1).val) % 2048) % 6144 = 8704 + 0 * 2048 + (i 1).val; omega

theorem ref_gate1 (i : S4096x2048.Idx) : val_main_v21 (F := Ideal) z i = sg (z (ix2 (i 0) (gcol 1 (i 1)))) := by
  rw [val_main_v21_apply, val_main_v20_apply, val_main_v16_apply]
  refine (ref_gates z _).trans (congrArg (fun j => sg (z j)) (funext fun a => Fin.ext ?_))
  have h0 : (i 0).val < 4096 := (i 0).isLt
  have h1 : (i 1).val < 2048 := (i 1).isLt
  match a with
  | ⟨0, _⟩ => show ((((i 0).val * 2048 + (i 1).val) / 2048 * 3 + (1 + 0)) * 2048 + ((i 0).val * 2048 + (i 1).val) % 2048) / 6144 = (i 0).val; omega
  | ⟨1, _⟩ => show 8704 + ((((i 0).val * 2048 + (i 1).val) / 2048 * 3 + (1 + 0)) * 2048 + ((i 0).val * 2048 + (i 1).val) % 2048) % 6144 = 8704 + 1 * 2048 + (i 1).val; omega

theorem ref_gate2 (i : S4096x2048.Idx) : val_main_v25 (F := Ideal) z i = sg (z (ix2 (i 0) (gcol 2 (i 1)))) := by
  rw [val_main_v25_apply, val_main_v24_apply, val_main_v16_apply]
  refine (ref_gates z _).trans (congrArg (fun j => sg (z j)) (funext fun a => Fin.ext ?_))
  have h0 : (i 0).val < 4096 := (i 0).isLt
  have h1 : (i 1).val < 2048 := (i 1).isLt
  match a with
  | ⟨0, _⟩ => show ((((i 0).val * 2048 + (i 1).val) / 2048 * 3 + (2 + 0)) * 2048 + ((i 0).val * 2048 + (i 1).val) % 2048) / 6144 = (i 0).val; omega
  | ⟨1, _⟩ => show 8704 + ((((i 0).val * 2048 + (i 1).val) / 2048 * 3 + (2 + 0)) * 2048 + ((i 0).val * 2048 + (i 1).val) % 2048) % 6144 = 8704 + 2 * 2048 + (i 1).val; omega

theorem ref_mix (i : S4096x2048.Idx) : val_main_v27 (F := Ideal) ua ub uc wr wp wa z i = mix ua ub uc wr wp wa z (i 0) (i 1) :=
  congrArg₂ (fun u v : EReal => u + v) (congrArg₂ (fun u v : EReal => u + v)
    (congrArg₂ (fun u v : EReal => u * v) (ref_gate0 z i) (ref_a ua wr i)) (congrArg₂ (fun u v : EReal => u * v) (ref_gate1 z i) (ref_b ub wp i)))
    (congrArg₂ (fun u v : EReal => u * v) (ref_gate2 z i) (ref_c uc wa i))

theorem ref_mixT (i : S2048x4096.Idx) : val_main_v28 (F := Ideal) ua ub uc wr wp wa z i = mix ua ub uc wr wp wa z (i 1) (i 0) := by
  rw [val_main_v28_apply]
  exact ref_mix ua ub uc wr wp wa z _

end

/-- The reference's arguments. -/
abbrev B0 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg0)
abbrev B1 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg1)
abbrev B2 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg2)
abbrev B3 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg3)
abbrev B4 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg4)
abbrev B5 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg5)
abbrev B6 (m : (ℓ : Loc Cert.MergeRefIdeal.nD Cert.MergeRefIdeal.τ Cert.MergeRefIdeal.sig) → Buf (Elt Ideal) ℓ) (c : Dev Cert.MergeRefIdeal.nD) := m ((c : Thread Cert.MergeRefIdeal.nD Cert.MergeRefIdeal.τ).loc Cert.MergeRefIdeal.main_arg6)

/-- The reference's run with the results at the same functions. -/
theorem ref_run (m : (ℓ : Loc Cert.MergeRefIdeal.nD Cert.MergeRefIdeal.τ Cert.MergeRefIdeal.sig) → Buf (Elt Ideal) ℓ) (ρ : Dev Cert.MergeRefIdeal.nD → PrngReg) :
    θ_run Cert.MergeRefIdeal.defs (onTc (τ := Cert.MergeRefIdeal.τ) (Cert.MergeRefIdeal.main (F := Ideal))) ⟨m, fun _ => 0, ρ⟩ fun r => ∀ c : Dev Cert.MergeRefIdeal.nD,
      r.2.mem ((c : Thread Cert.MergeRefIdeal.nD Cert.MergeRefIdeal.τ).loc Cert.MergeRefIdeal.main_v29) = Y (B0 m c) (B3 m c)
      ∧ r.2.mem ((c : Thread Cert.MergeRefIdeal.nD Cert.MergeRefIdeal.τ).loc Cert.MergeRefIdeal.main_v30) = Y (B1 m c) (B4 m c)
      ∧ r.2.mem ((c : Thread Cert.MergeRefIdeal.nD Cert.MergeRefIdeal.τ).loc Cert.MergeRefIdeal.main_v31) = Y (B2 m c) (B5 m c)
      ∧ r.2.mem ((c : Thread Cert.MergeRefIdeal.nD Cert.MergeRefIdeal.τ).loc Cert.MergeRefIdeal.main_v32) = G (B0 m c) (B1 m c) (B2 m c) (B3 m c) (B4 m c) (B5 m c) (B6 m c)
      ∧ r.2.mem ((c : Thread Cert.MergeRefIdeal.nD Cert.MergeRefIdeal.τ).loc Cert.MergeRefIdeal.main_v33) = GT (B0 m c) (B1 m c) (B2 m c) (B3 m c) (B4 m c) (B5 m c) (B6 m c)
      ∧ r.2.mem ((c : Thread Cert.MergeRefIdeal.nD Cert.MergeRefIdeal.τ).loc Cert.MergeRefIdeal.main_arg0) = B0 m c
      ∧ r.2.mem ((c : Thread Cert.MergeRefIdeal.nD Cert.MergeRefIdeal.τ).loc Cert.MergeRefIdeal.main_arg1) = B1 m c
      ∧ r.2.mem ((c : Thread Cert.MergeRefIdeal.nD Cert.MergeRefIdeal.τ).loc Cert.MergeRefIdeal.main_arg2) = B2 m c
      ∧ r.2.mem ((c : Thread Cert.MergeRefIdeal.nD Cert.MergeRefIdeal.τ).loc Cert.MergeRefIdeal.main_arg3) = B3 m c
      ∧ r.2.mem ((c : Thread Cert.MergeRefIdeal.nD Cert.MergeRefIdeal.τ).loc Cert.MergeRefIdeal.main_arg4) = B4 m c
      ∧ r.2.mem ((c : Thread Cert.MergeRefIdeal.nD Cert.MergeRefIdeal.τ).loc Cert.MergeRefIdeal.main_arg5) = B5 m c
      ∧ r.2.mem ((c : Thread Cert.MergeRefIdeal.nD Cert.MergeRefIdeal.τ).loc Cert.MergeRefIdeal.main_arg6) = B6 m c :=
  (θ_run Cert.MergeRefIdeal.defs _ _).mono (fun _ h c => by
    obtain ⟨h0, h1, h2, h3, h4, hr⟩ := h c
    refine ⟨(h0.trans (Cert.MergeRefIdeal.Read.val_main_v29_eq (F := Ideal) _ _)).trans ?_, (h1.trans (Cert.MergeRefIdeal.Read.val_main_v30_eq (F := Ideal) _ _)).trans ?_,
      (h2.trans (Cert.MergeRefIdeal.Read.val_main_v31_eq (F := Ideal) _ _)).trans ?_, (h3.trans (Cert.MergeRefIdeal.Read.val_main_v32_eq (F := Ideal) _ _ _ _ _ _ _)).trans ?_,
      (h4.trans (Cert.MergeRefIdeal.Read.val_main_v33_eq (F := Ideal) _ _ _ _ _ _ _)).trans ?_, hr⟩
    · exact funext fun i => ref_a _ _ i
    · exact funext fun i => ref_b _ _ i
    · exact funext fun i => ref_c _ _ i
    · exact funext fun i => ref_mix _ _ _ _ _ _ _ i
    · exact funext fun i => ref_mixT _ _ _ _ _ _ _ i)
    (Cert.MergeRefIdeal.Value.run (F := Ideal) m ρ)

/-! ## The claims -/

/-- The kernel's frame: the generated one. -/
theorem frame_p : Cert.quiescent_Merge := fun m ρ _ => Cert.Merge.Gen.frame m ρ

/-- The idealized kernel's frame: the generated one. -/
theorem frame_pi : Cert.quiescent_MergeIdeal := fun m ρ _ => Cert.MergeIdeal.Gen.frame m ρ

/-- The reference's frame: its run read at the arguments. It declares no semaphore. -/
theorem frame_ri : Cert.quiescent_MergeRefIdeal := fun m ρ _ =>
  (θ_run Cert.MergeRefIdeal.defs _ _).mono
    (fun r h => ⟨fun c => (h c).2.2.2.2.2, sem_eq_zero_of_no_sems (by decide) r.2⟩)
    (Cert.MergeRefIdeal.Value.run (F := Ideal) m ρ)

/-- The results agree: each side's run read at its results, from equal arguments. -/
theorem algebraic : Cert.algebraic_MergeIdeal_MergeRefIdeal := by
  intro m ρ m' ρ' _ hagree
  refine ⟨_, _, _, _, _, run m ρ, ?_⟩
  refine (θ_run Cert.MergeRefIdeal.defs _ _).mono (fun r h c => ?_) (ref_run m' ρ')
  obtain ⟨e0, e1, e2, e3, e4, e5, e6⟩ := hagree c
  obtain ⟨h0, h1, h2, h3, h4, hr⟩ := h c
  refine ⟨h0.trans (congrArg₂ Y e0 e3), h1.trans (congrArg₂ Y e1 e4), h2.trans (congrArg₂ Y e2 e5), h3.trans ?_, h4.trans ?_, hr⟩
  · exact congr (congr (congr (congr (congr (congrArg₂ G e0 e1) e2) e3) e4) e5) e6
  · exact congr (congr (congr (congr (congr (congrArg₂ GT e0 e1) e2) e3) e4) e5) e6

end Cert.Proof.Merge

end
-- ==== Proof.MergeBwd.lean ====
/- Hand-written, untrusted: THE MERGE'S GRADIENT, through the output projection: of the three branches and of their gates. The
   kernel's results as functions of its arguments (`DY k`, the gradient of branch `k`; `DG k`, of its gate), each grid point's block
   of them, the reference's results as the same functions (it puts the three gates' gradients into one array by padding each with
   zeros and adding), and the claims. -/
module

public import proofs.«01_k».proof.Defs
public import proofs.«01_k».proof.Proof.Products
public import proofs.«01_k».proof.Proof.Gate
public import proofs.«01_k».proof.Proof.Gen.MergeBwd.Frame
public import proofs.«01_k».proof.Proof.Gen.MergeBwdIdeal.Value
public import proofs.«01_k».proof.Proof.Gen.MergeBwdRefIdeal.Read
public import Idealize.ShloMosaic.Lib.Quiescent

@[expose] public section

set_option maxRecDepth 16384

noncomputable section

namespace Cert.Proof.MergeBwd

open Cert.MergeBwdIdeal Cert.MergeBwdIdeal.Gen Cert.MergeBwdIdeal.Value Idealize.ShloMosaic Idealize.ShloMosaic.TcCoe Idealize.SL.Sem Idealize.ShloMosaic.ValueIdx
open Idealize.ShloMosaic.Tactic Cert.Proof.Products Cert.Proof.Gate

/-- The gradient of the gated sum at a row and a channel: the incoming gradient's row times the output weights' row. -/
def dm (dx : FVec Ideal S4096x2048 .bf16) (wo : FVec Ideal S2048x2048 .bf16) (r : Fin 4096) (q : Fin 2048) : EReal :=
  ∑ k : Fin 2048, dx (ix2 r k) * wo (ix2 q k)

/-- The slope of the gate. -/
def slope (x : EReal) : EReal := sg x * (one - sg x)

/-- The gradient of branch `k`. -/
def DY (k : Fin 3) (dx : FVec Ideal S4096x2048 .bf16) (wo : FVec Ideal S2048x2048 .bf16) (z : FVec Ideal S4096x14848 .f32) : FVec Ideal S4096x2048 .bf16 :=
  fun i => sg (z (ix2 (i 0) (gcol k (i 1)))) * dm dx wo (i 0) (i 1)

/-- The gradient of branch `k`'s gate, `y` being the branch. -/
def DG (k : Fin 3) (dx : FVec Ideal S4096x2048 .bf16) (wo : FVec Ideal S2048x2048 .bf16) (y : FVec Ideal S4096x2048 .bf16) (z : FVec Ideal S4096x14848 .f32) : FVec Ideal S4096x2048 .bf16 :=
  fun i => dm dx wo (i 0) (i 1) * y (ix2 (i 0) (i 1)) * slope (z (ix2 (i 0) (gcol k (i 1))))

/-! ## What the body stores -/

section
variable (x0 x1 : FVec Ideal S512x2048 .bf16) (x2 x3 x4 : FVec Ideal S512x512 .bf16) (x5 x6 x7 : FVec Ideal S512x512 .f32)

/-- The product's block at an index. -/
def bdm (u v : FVec Ideal S512x2048 .bf16) (r q : Fin 512) : EReal := ∑ k : Fin 2048, u (ix2 r k) * v (ix2 q k)

/-- The body's product at an index. -/
theorem prod_apply (u v : FVec Ideal S512x2048 .bf16) (r q : Fin 512) : k0_pay5 (F := Ideal) u v (ix2 r q) = bdm u v r q :=
  nt_apply dot_S512x2048_S512x2048_S512x512_1_1_0_0_n_n ⟨rfl, rfl, rfl, rfl, rfl, rfl⟩ none u v r q

/-- A branch's gradient, as the body makes it. -/
def bdy (u v : FVec Ideal S512x2048 .bf16) (g : FVec Ideal S512x512 .f32) : FVec Ideal S512x512 .bf16 := k0_pay7 (F := Ideal) u v g

/-- A gate's gradient, as the body makes it. -/
def bdg (u v : FVec Ideal S512x2048 .bf16) (g : FVec Ideal S512x512 .f32) (y : FVec Ideal S512x512 .bf16) : FVec Ideal S512x512 .bf16 := k0_pay8 (F := Ideal) u v g y

theorem bdy_apply (u v : FVec Ideal S512x2048 .bf16) (g : FVec Ideal S512x512 .f32) (r q : Fin 512) : bdy u v g (ix2 r q) = sg (g (ix2 r q)) * bdm u v r q :=
  Eq.trans rfl (congrArg (fun e : EReal => sg (g (ix2 r q)) * e) (prod_apply u v r q))

theorem bdg_apply (u v : FVec Ideal S512x2048 .bf16) (g : FVec Ideal S512x512 .f32) (y : FVec Ideal S512x512 .bf16) (r q : Fin 512) :
    bdg u v g y (ix2 r q) = bdm u v r q * y (ix2 r q) * slope (g (ix2 r q)) :=
  Eq.trans rfl (congrArg (fun e : EReal => e * y (ix2 r q) * slope (g (ix2 r q))) (prod_apply u v r q))

theorem out8_eq : out0_8 (F := Ideal) x0 x1 x2 x3 x4 x5 x6 x7 = bdy x0 x1 x5 := by
  frame_out [k0_pay11, r0_0, r0_1]; rfl

theorem out9_eq : out0_9 (F := Ideal) x0 x1 x2 x3 x4 x5 x6 x7 = bdy x0 x1 x6 := by
  frame_out [k0_pay11, r0_0, r0_1]; rfl

theorem out10_eq : out0_10 (F := Ideal) x0 x1 x2 x3 x4 x5 x6 x7 = bdy x0 x1 x7 := by
  frame_out [k0_pay11, r0_0, r0_1]; rfl

theorem out11_eq : out0_11 (F := Ideal) x0 x1 x2 x3 x4 x5 x6 x7 = bdg x0 x1 x5 x2 := by
  frame_out [k0_pay11, r0_0, r0_1]; rfl

theorem out12_eq : out0_12 (F := Ideal) x0 x1 x2 x3 x4 x5 x6 x7 = bdg x0 x1 x6 x3 := by
  frame_out [k0_pay11, r0_0, r0_1]; rfl

theorem out13_eq : out0_13 (F := Ideal) x0 x1 x2 x3 x4 x5 x6 x7 = bdg x0 x1 x7 x4 := by
  frame_out [k0_pay11, r0_0, r0_1]; rfl

end

variable (m : (ℓ : Loc nD τ sig) → Buf (Elt Ideal) ℓ) (ρ : Dev nD → PrngReg)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

/-! ## Which blocks a grid point reads and writes -/

/-- The windows' block indices, by the block of the first result that the point writes. -/
theorem idx : ∀ t : Fin cfg0.N, (win0_8.index t (0 : Fin 2) < 8 ∧ win0_8.index t (1 : Fin 2) < 4)
    ∧ (win0_0.index t (0 : Fin 2) = win0_8.index t (0 : Fin 2) ∧ win0_0.index t (1 : Fin 2) = 0)
    ∧ (win0_1.index t (0 : Fin 2) = win0_8.index t (1 : Fin 2) ∧ win0_1.index t (1 : Fin 2) = 0)
    ∧ (win0_2.index t (0 : Fin 2) = win0_8.index t (0 : Fin 2) ∧ win0_2.index t (1 : Fin 2) = win0_8.index t (1 : Fin 2))
    ∧ (win0_3.index t (0 : Fin 2) = win0_8.index t (0 : Fin 2) ∧ win0_3.index t (1 : Fin 2) = win0_8.index t (1 : Fin 2))
    ∧ (win0_4.index t (0 : Fin 2) = win0_8.index t (0 : Fin 2) ∧ win0_4.index t (1 : Fin 2) = win0_8.index t (1 : Fin 2))
    ∧ (win0_5.index t (0 : Fin 2) = win0_8.index t (0 : Fin 2) ∧ win0_5.index t (1 : Fin 2) = win0_8.index t (1 : Fin 2) + 17)
    ∧ (win0_6.index t (0 : Fin 2) = win0_8.index t (0 : Fin 2) ∧ win0_6.index t (1 : Fin 2) = win0_8.index t (1 : Fin 2) + 21)
    ∧ (win0_7.index t (0 : Fin 2) = win0_8.index t (0 : Fin 2) ∧ win0_7.index t (1 : Fin 2) = win0_8.index t (1 : Fin 2) + 25)
    ∧ (win0_9.index t (0 : Fin 2) = win0_8.index t (0 : Fin 2) ∧ win0_9.index t (1 : Fin 2) = win0_8.index t (1 : Fin 2))
    ∧ (win0_10.index t (0 : Fin 2) = win0_8.index t (0 : Fin 2) ∧ win0_10.index t (1 : Fin 2) = win0_8.index t (1 : Fin 2))
    ∧ (win0_11.index t (0 : Fin 2) = win0_8.index t (0 : Fin 2) ∧ win0_11.index t (1 : Fin 2) = win0_8.index t (1 : Fin 2))
    ∧ (win0_12.index t (0 : Fin 2) = win0_8.index t (0 : Fin 2) ∧ win0_12.index t (1 : Fin 2) = win0_8.index t (1 : Fin 2))
    ∧ (win0_13.index t (0 : Fin 2) = win0_8.index t (0 : Fin 2) ∧ win0_13.index t (1 : Fin 2) = win0_8.index t (1 : Fin 2)) :=
  (by decide +kernel : ∀ t : Fin grid0.N, _)

/-- The row of the arrays at a row of the point's block. -/
def R (t : Fin cfg0.N) (r : Fin 512) : Fin 4096 := ⟨win0_8.index t (0 : Fin 2) * 512 + r.val, by have h : win0_8.index t (0 : Fin 2) < 8 := (idx t).1.1; omega⟩

/-- The channel of the arrays at a column of the point's block. -/
def C (t : Fin cfg0.N) (q : Fin 512) : Fin 2048 := ⟨win0_8.index t (1 : Fin 2) * 512 + q.val, by have h : win0_8.index t (1 : Fin 2) < 4 := (idx t).1.2; omega⟩

theorem blk0 (c : Dev nD) (t : Fin cfg0.N) (r : Fin 512) (k : Fin 2048) : iblk m c 0 t (ix2 r k) = A0 m c (ix2 (R t r) k) := by
  obtain ⟨e0, e1⟩ := (idx t).2.1
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 512 + 1 * r.val = win0_8.index t (0 : Fin 2) * 512 + r.val; omega
  | ⟨1, _⟩ => show win0_0.index t (1 : Fin 2) * 2048 + 1 * k.val = k.val; omega

theorem blk1 (c : Dev nD) (t : Fin cfg0.N) (q : Fin 512) (k : Fin 2048) : iblk m c 1 t (ix2 q k) = A1 m c (ix2 (C t q) k) := by
  obtain ⟨e0, e1⟩ := (idx t).2.2.1
  show V m c main_arg1 (((cfg0.win 1).blk t).view.emb (ix2 q k)) = _
  rw [V_main_arg1]
  refine congrArg (A1 m c) (funext fun a => Fin.ext ?_)
  match a with
  | ⟨0, _⟩ => show win0_1.index t (0 : Fin 2) * 512 + 1 * q.val = win0_8.index t (1 : Fin 2) * 512 + q.val; omega
  | ⟨1, _⟩ => show win0_1.index t (1 : Fin 2) * 2048 + 1 * k.val = k.val; omega

theorem blk2 (c : Dev nD) (t : Fin cfg0.N) (r q : Fin 512) : iblk m c 2 t (ix2 r q) = A2 m c (ix2 (R t r) (C t q)) := by
  obtain ⟨e0, e1⟩ := (idx t).2.2.2.1
  show V m c main_arg2 (((cfg0.win 2).blk t).view.emb (ix2 r q)) = _
  rw [V_main_arg2]
  refine congrArg (A2 m c) (funext fun a => Fin.ext ?_)
  match a with
  | ⟨0, _⟩ => show win0_2.index t (0 : Fin 2) * 512 + 1 * r.val = win0_8.index t (0 : Fin 2) * 512 + r.val; omega
  | ⟨1, _⟩ => show win0_2.index t (1 : Fin 2) * 512 + 1 * q.val = win0_8.index t (1 : Fin 2) * 512 + q.val; omega

theorem blk3 (c : Dev nD) (t : Fin cfg0.N) (r q : Fin 512) : iblk m c 3 t (ix2 r q) = A3 m c (ix2 (R t r) (C t q)) := by
  obtain ⟨e0, e1⟩ := (idx t).2.2.2.2.1
  show V m c main_arg3 (((cfg0.win 3).blk t).view.emb (ix2 r q)) = _
  rw [V_main_arg3]
  refine congrArg (A3 m c) (funext fun a => Fin.ext ?_)
  match a with
  | ⟨0, _⟩ => show win0_3.index t (0 : Fin 2) * 512 + 1 * r.val = win0_8.index t (0 : Fin 2) * 512 + r.val; omega
  | ⟨1, _⟩ => show win0_3.index t (1 : Fin 2) * 512 + 1 * q.val = win0_8.index t (1 : Fin 2) * 512 + q.val; omega

theorem blk4 (c : Dev nD) (t : Fin cfg0.N) (r q : Fin 512) : iblk m c 4 t (ix2 r q) = A4 m c (ix2 (R t r) (C t q)) := by
  obtain ⟨e0, e1⟩ := (idx t).2.2.2.2.2.1
  show V m c main_arg4 (((cfg0.win 4).blk t).view.emb (ix2 r q)) = _
  rw [V_main_arg4]
  refine congrArg (A4 m c) (funext fun a => Fin.ext ?_)
  match a with
  | ⟨0, _⟩ => show win0_4.index t (0 : Fin 2) * 512 + 1 * r.val = win0_8.index t (0 : Fin 2) * 512 + r.val; omega
  | ⟨1, _⟩ => show win0_4.index t (1 : Fin 2) * 512 + 1 * q.val = win0_8.index t (1 : Fin 2) * 512 + q.val; omega

theorem blk5 (c : Dev nD) (t : Fin cfg0.N) (r q : Fin 512) : iblk m c 5 t (ix2 r q) = A5 m c (ix2 (R t r) (gcol 0 (C t q))) := by
  obtain ⟨e0, e1⟩ := (idx t).2.2.2.2.2.2.1
  show V m c main_arg5 (((cfg0.win 5).blk t).view.emb (ix2 r q)) = _
  rw [V_main_arg5]
  refine congrArg (A5 m c) (funext fun a => Fin.ext ?_)
  match a with
  | ⟨0, _⟩ => show win0_5.index t (0 : Fin 2) * 512 + 1 * r.val = win0_8.index t (0 : Fin 2) * 512 + r.val; omega
  | ⟨1, _⟩ => show win0_5.index t (1 : Fin 2) * 512 + 1 * q.val = 8704 + 0 * 2048 + (win0_8.index t (1 : Fin 2) * 512 + q.val); omega

theorem blk6 (c : Dev nD) (t : Fin cfg0.N) (r q : Fin 512) : iblk m c 6 t (ix2 r q) = A5 m c (ix2 (R t r) (gcol 1 (C t q))) := by
  obtain ⟨e0, e1⟩ := (idx t).2.2.2.2.2.2.2.1
  show V m c main_arg5 (((cfg0.win 6).blk t).view.emb (ix2 r q)) = _
  rw [V_main_arg5]
  refine congrArg (A5 m c) (funext fun a => Fin.ext ?_)
  match a with
  | ⟨0, _⟩ => show win0_6.index t (0 : Fin 2) * 512 + 1 * r.val = win0_8.index t (0 : Fin 2) * 512 + r.val; omega
  | ⟨1, _⟩ => show win0_6.index t (1 : Fin 2) * 512 + 1 * q.val = 8704 + 1 * 2048 + (win0_8.index t (1 : Fin 2) * 512 + q.val); omega

theorem blk7 (c : Dev nD) (t : Fin cfg0.N) (r q : Fin 512) : iblk m c 7 t (ix2 r q) = A5 m c (ix2 (R t r) (gcol 2 (C t q))) := by
  obtain ⟨e0, e1⟩ := (idx t).2.2.2.2.2.2.2.2.1
  show V m c main_arg5 (((cfg0.win 7).blk t).view.emb (ix2 r q)) = _
  rw [V_main_arg5]
  refine congrArg (A5 m c) (funext fun a => Fin.ext ?_)
  match a with
  | ⟨0, _⟩ => show win0_7.index t (0 : Fin 2) * 512 + 1 * r.val = win0_8.index t (0 : Fin 2) * 512 + r.val; omega
  | ⟨1, _⟩ => show win0_7.index t (1 : Fin 2) * 512 + 1 * q.val = 8704 + 2 * 2048 + (win0_8.index t (1 : Fin 2) * 512 + q.val); omega

theorem emb8 (t : Fin cfg0.N) (r q : Fin 512) : ((cfg0.win 8).blk t).view.emb (ix2 r q : S512x512.Idx) = (ix2 (R t r) (C t q) : S4096x2048.Idx) := by
  funext a; apply Fin.ext
  match a with
  | ⟨0, _⟩ => show win0_8.index t (0 : Fin 2) * 512 + 1 * r.val = win0_8.index t (0 : Fin 2) * 512 + r.val; omega
  | ⟨1, _⟩ => show win0_8.index t (1 : Fin 2) * 512 + 1 * q.val = win0_8.index t (1 : Fin 2) * 512 + q.val; omega

theorem emb9 (t : Fin cfg0.N) (r q : Fin 512) : ((cfg0.win 9).blk t).view.emb (ix2 r q : S512x512.Idx) = (ix2 (R t r) (C t q) : S4096x2048.Idx) := by
  obtain ⟨e0, e1⟩ := (idx t).2.2.2.2.2.2.2.2.2.1
  funext a; apply Fin.ext
  match a with
  | ⟨0, _⟩ => show win0_9.index t (0 : Fin 2) * 512 + 1 * r.val = win0_8.index t (0 : Fin 2) * 512 + r.val; omega
  | ⟨1, _⟩ => show win0_9.index t (1 : Fin 2) * 512 + 1 * q.val = win0_8.index t (1 : Fin 2) * 512 + q.val; omega

theorem emb10 (t : Fin cfg0.N) (r q : Fin 512) : ((cfg0.win 10).blk t).view.emb (ix2 r q : S512x512.Idx) = (ix2 (R t r) (C t q) : S4096x2048.Idx) := by
  obtain ⟨e0, e1⟩ := (idx t).2.2.2.2.2.2.2.2.2.2.1
  funext a; apply Fin.ext
  match a with
  | ⟨0, _⟩ => show win0_10.index t (0 : Fin 2) * 512 + 1 * r.val = win0_8.index t (0 : Fin 2) * 512 + r.val; omega
  | ⟨1, _⟩ => show win0_10.index t (1 : Fin 2) * 512 + 1 * q.val = win0_8.index t (1 : Fin 2) * 512 + q.val; omega

theorem emb11 (t : Fin cfg0.N) (r q : Fin 512) : ((cfg0.win 11).blk t).view.emb (ix2 r q : S512x512.Idx) = (ix2 (R t r) (C t q) : S4096x2048.Idx) := by
  obtain ⟨e0, e1⟩ := (idx t).2.2.2.2.2.2.2.2.2.2.2.1
  funext a; apply Fin.ext
  match a with
  | ⟨0, _⟩ => show win0_11.index t (0 : Fin 2) * 512 + 1 * r.val = win0_8.index t (0 : Fin 2) * 512 + r.val; omega
  | ⟨1, _⟩ => show win0_11.index t (1 : Fin 2) * 512 + 1 * q.val = win0_8.index t (1 : Fin 2) * 512 + q.val; omega

theorem emb12 (t : Fin cfg0.N) (r q : Fin 512) : ((cfg0.win 12).blk t).view.emb (ix2 r q : S512x512.Idx) = (ix2 (R t r) (C t q) : S4096x2048.Idx) := by
  obtain ⟨e0, e1⟩ := (idx t).2.2.2.2.2.2.2.2.2.2.2.2.1
  funext a; apply Fin.ext
  match a with
  | ⟨0, _⟩ => show win0_12.index t (0 : Fin 2) * 512 + 1 * r.val = win0_8.index t (0 : Fin 2) * 512 + r.val; omega
  | ⟨1, _⟩ => show win0_12.index t (1 : Fin 2) * 512 + 1 * q.val = win0_8.index t (1 : Fin 2) * 512 + q.val; omega

theorem emb13 (t : Fin cfg0.N) (r q : Fin 512) : ((cfg0.win 13).blk t).view.emb (ix2 r q : S512x512.Idx) = (ix2 (R t r) (C t q) : S4096x2048.Idx) := by
  obtain ⟨e0, e1⟩ := (idx t).2.2.2.2.2.2.2.2.2.2.2.2.2
  funext a; apply Fin.ext
  match a with
  | ⟨0, _⟩ => show win0_13.index t (0 : Fin 2) * 512 + 1 * r.val = win0_8.index t (0 : Fin 2) * 512 + r.val; omega
  | ⟨1, _⟩ => show win0_13.index t (1 : Fin 2) * 512 + 1 * q.val = win0_8.index t (1 : Fin 2) * 512 + q.val; omega

/-! ## What a point writes back -/

/-- The product's block is the block of the product. -/
theorem dm_eq (c : Dev nD) (t : Fin cfg0.N) (r q : Fin 512) : bdm (iblk m c 0 t) (iblk m c 1 t) r q = dm (A0 m c) (A1 m c) (R t r) (C t q) :=
  Finset.sum_congr rfl fun k _ => congrArg₂ (fun u v : EReal => u * v) (blk0 m c t r k) (blk1 m c t q k)

theorem flushed8_eq (c : Dev nD) (t : Fin cfg0.N) : (dats m 0 c).flushed 8 t = ((cfg0.win 8).blk t).view.read (Elt Ideal) (DY 0 (A0 m c) (A1 m c) (A5 m c)) := by
  rw [flushed8]
  funext y
  refine (congrFun (out8_eq (iblk m c 0 t) (iblk m c 1 t) (iblk m c 2 t) (iblk m c 3 t) (iblk m c 4 t) (iblk m c 5 t) (iblk m c 6 t) (iblk m c 7 t)) y).trans ?_
  refine (congrArg (bdy (iblk m c 0 t) (iblk m c 1 t) (iblk m c 5 t)) (eq_ix2 (n0 := 512) (n1 := 512) y)).trans ?_
  refine (bdy_apply (iblk m c 0 t) (iblk m c 1 t) (iblk m c 5 t) (y 0) (y 1)).trans ((congrArg₂ (fun u v : EReal => u * v) (congrArg sg (blk5 m c t (y 0) (y 1))) (dm_eq m c t (y 0) (y 1))).trans ?_)
  exact (congrArg (DY 0 (A0 m c) (A1 m c) (A5 m c)) ((congrArg (((cfg0.win 8).blk t).view.emb) (eq_ix2 (n0 := 512) (n1 := 512) y)).trans (emb8 t (y 0) (y 1)))).symm

theorem flushed9_eq (c : Dev nD) (t : Fin cfg0.N) : (dats m 0 c).flushed 9 t = ((cfg0.win 9).blk t).view.read (Elt Ideal) (DY 1 (A0 m c) (A1 m c) (A5 m c)) := by
  rw [flushed9]
  funext y
  refine (congrFun (out9_eq (iblk m c 0 t) (iblk m c 1 t) (iblk m c 2 t) (iblk m c 3 t) (iblk m c 4 t) (iblk m c 5 t) (iblk m c 6 t) (iblk m c 7 t)) y).trans ?_
  refine (congrArg (bdy (iblk m c 0 t) (iblk m c 1 t) (iblk m c 6 t)) (eq_ix2 (n0 := 512) (n1 := 512) y)).trans ?_
  refine (bdy_apply (iblk m c 0 t) (iblk m c 1 t) (iblk m c 6 t) (y 0) (y 1)).trans ((congrArg₂ (fun u v : EReal => u * v) (congrArg sg (blk6 m c t (y 0) (y 1))) (dm_eq m c t (y 0) (y 1))).trans ?_)
  exact (congrArg (DY 1 (A0 m c) (A1 m c) (A5 m c)) ((congrArg (((cfg0.win 9).blk t).view.emb) (eq_ix2 (n0 := 512) (n1 := 512) y)).trans (emb9 t (y 0) (y 1)))).symm

theorem flushed10_eq (c : Dev nD) (t : Fin cfg0.N) : (dats m 0 c).flushed 10 t = ((cfg0.win 10).blk t).view.read (Elt Ideal) (DY 2 (A0 m c) (A1 m c) (A5 m c)) := by
  rw [flushed10]
  funext y
  refine (congrFun (out10_eq (iblk m c 0 t) (iblk m c 1 t) (iblk m c 2 t) (iblk m c 3 t) (iblk m c 4 t) (iblk m c 5 t) (iblk m c 6 t) (iblk m c 7 t)) y).trans ?_
  refine (congrArg (bdy (iblk m c 0 t) (iblk m c 1 t) (iblk m c 7 t)) (eq_ix2 (n0 := 512) (n1 := 512) y)).trans ?_
  refine (bdy_apply (iblk m c 0 t) (iblk m c 1 t) (iblk m c 7 t) (y 0) (y 1)).trans ((congrArg₂ (fun u v : EReal => u * v) (congrArg sg (blk7 m c t (y 0) (y 1))) (dm_eq m c t (y 0) (y 1))).trans ?_)
  exact (congrArg (DY 2 (A0 m c) (A1 m c) (A5 m c)) ((congrArg (((cfg0.win 10).blk t).view.emb) (eq_ix2 (n0 := 512) (n1 := 512) y)).trans (emb10 t (y 0) (y 1)))).symm

theorem flushed11_eq (c : Dev nD) (t : Fin cfg0.N) : (dats m 0 c).flushed 11 t = ((cfg0.win 11).blk t).view.read (Elt Ideal) (DG 0 (A0 m c) (A1 m c) (A2 m c) (A5 m c)) := by
  rw [flushed11]
  funext y
  refine (congrFun (out11_eq (iblk m c 0 t) (iblk m c 1 t) (iblk m c 2 t) (iblk m c 3 t) (iblk m c 4 t) (iblk m c 5 t) (iblk m c 6 t) (iblk m c 7 t)) y).trans ?_
  refine (congrArg (bdg (iblk m c 0 t) (iblk m c 1 t) (iblk m c 5 t) (iblk m c 2 t)) (eq_ix2 (n0 := 512) (n1 := 512) y)).trans ?_
  refine (bdg_apply (iblk m c 0 t) (iblk m c 1 t) (iblk m c 5 t) (iblk m c 2 t) (y 0) (y 1)).trans ((congrArg₂ (fun u v : EReal => u * v) (congrArg₂ (fun u v : EReal => u * v) (dm_eq m c t (y 0) (y 1)) (blk2 m c t (y 0) (y 1))) (congrArg slope (blk5 m c t (y 0) (y 1)))).trans ?_)
  exact (congrArg (DG 0 (A0 m c) (A1 m c) (A2 m c) (A5 m c)) ((congrArg (((cfg0.win 11).blk t).view.emb) (eq_ix2 (n0 := 512) (n1 := 512) y)).trans (emb11 t (y 0) (y 1)))).symm

theorem flushed12_eq (c : Dev nD) (t : Fin cfg0.N) : (dats m 0 c).flushed 12 t = ((cfg0.win 12).blk t).view.read (Elt Ideal) (DG 1 (A0 m c) (A1 m c) (A3 m c) (A5 m c)) := by
  rw [flushed12]
  funext y
  refine (congrFun (out12_eq (iblk m c 0 t) (iblk m c 1 t) (iblk m c 2 t) (iblk m c 3 t) (iblk m c 4 t) (iblk m c 5 t) (iblk m c 6 t) (iblk m c 7 t)) y).trans ?_
  refine (congrArg (bdg (iblk m c 0 t) (iblk m c 1 t) (iblk m c 6 t) (iblk m c 3 t)) (eq_ix2 (n0 := 512) (n1 := 512) y)).trans ?_
  refine (bdg_apply (iblk m c 0 t) (iblk m c 1 t) (iblk m c 6 t) (iblk m c 3 t) (y 0) (y 1)).trans ((congrArg₂ (fun u v : EReal => u * v) (congrArg₂ (fun u v : EReal => u * v) (dm_eq m c t (y 0) (y 1)) (blk3 m c t (y 0) (y 1))) (congrArg slope (blk6 m c t (y 0) (y 1)))).trans ?_)
  exact (congrArg (DG 1 (A0 m c) (A1 m c) (A3 m c) (A5 m c)) ((congrArg (((cfg0.win 12).blk t).view.emb) (eq_ix2 (n0 := 512) (n1 := 512) y)).trans (emb12 t (y 0) (y 1)))).symm

theorem flushed13_eq (c : Dev nD) (t : Fin cfg0.N) : (dats m 0 c).flushed 13 t = ((cfg0.win 13).blk t).view.read (Elt Ideal) (DG 2 (A0 m c) (A1 m c) (A4 m c) (A5 m c)) := by
  rw [flushed13]
  funext y
  refine (congrFun (out13_eq (iblk m c 0 t) (iblk m c 1 t) (iblk m c 2 t) (iblk m c 3 t) (iblk m c 4 t) (iblk m c 5 t) (iblk m c 6 t) (iblk m c 7 t)) y).trans ?_
  refine (congrArg (bdg (iblk m c 0 t) (iblk m c 1 t) (iblk m c 7 t) (iblk m c 4 t)) (eq_ix2 (n0 := 512) (n1 := 512) y)).trans ?_
  refine (bdg_apply (iblk m c 0 t) (iblk m c 1 t) (iblk m c 7 t) (iblk m c 4 t) (y 0) (y 1)).trans ((congrArg₂ (fun u v : EReal => u * v) (congrArg₂ (fun u v : EReal => u * v) (dm_eq m c t (y 0) (y 1)) (blk4 m c t (y 0) (y 1))) (congrArg slope (blk7 m c t (y 0) (y 1)))).trans ?_)
  exact (congrArg (DG 2 (A0 m c) (A1 m c) (A4 m c) (A5 m c)) ((congrArg (((cfg0.win 13).blk t).view.emb) (eq_ix2 (n0 := 512) (n1 := 512) y)).trans (emb13 t (y 0) (y 1)))).symm

/-- Every block of the results is some point's. -/
theorem onto : ∀ (q0 : Fin 8) (q1 : Fin 4), ∃ t : Fin cfg0.N, win0_8.index t (0 : Fin 2) = q0.val ∧ win0_8.index t (1 : Fin 2) = q1.val :=
  (by decide +kernel : ∀ (q0 : Fin 8) (q1 : Fin 4), ∃ t : Fin grid0.N, _)

/-- Every index of a result is some point's. -/
theorem spot (i : S4096x2048.Idx) : ∃ (t : Fin cfg0.N) (r q : Fin 512), (ix2 (R t r) (C t q) : S4096x2048.Idx) = i := by
  have b0 : (i 0).val < 4096 := (i 0).isLt
  have b1 : (i 1).val < 2048 := (i 1).isLt
  obtain ⟨t, q0, q1⟩ := onto ⟨(i 0).val / 512, by omega⟩ ⟨(i 1).val / 512, by omega⟩
  refine ⟨t, ⟨(i 0).val % 512, Nat.mod_lt _ (by decide)⟩, ⟨(i 1).val % 512, Nat.mod_lt _ (by decide)⟩, funext fun a => Fin.ext ?_⟩
  match a with
  | ⟨0, _⟩ => show win0_8.index t (0 : Fin 2) * 512 + (i 0).val % 512 = (i 0).val; rw [q0]; show (i 0).val / 512 * 512 + (i 0).val % 512 = (i 0).val; omega
  | ⟨1, _⟩ => show win0_8.index t (1 : Fin 2) * 512 + (i 1).val % 512 = (i 1).val; rw [q1]; show (i 1).val / 512 * 512 + (i 1).val % 512 = (i 1).val; omega

theorem covered8 (i : S4096x2048.Idx) : ∃ t : Fin cfg0.N, (cfg0.win 8).flush t = true ∧ i ∈ ((cfg0.win 8).blk t).view.set := by
  obtain ⟨t, r, q, h⟩ := spot i
  exact ⟨t, flush0_8 t, Eq.subst (motive := fun z => z ∈ ((cfg0.win 8).blk t).view.set) ((emb8 t r q).trans h) (((cfg0.win 8).blk t).view.emb_mem_set _)⟩

theorem final8 (c : Dev nD) : (dats m 0 c).arrAt 8 cfg0.N = DY 0 (A0 m c) (A1 m c) (A5 m c) :=
  (dats m 0 c).arrAt_eq_of_cover 8 _ (fun t _ => flushed8_eq m c t) covered8

theorem covered9 (i : S4096x2048.Idx) : ∃ t : Fin cfg0.N, (cfg0.win 9).flush t = true ∧ i ∈ ((cfg0.win 9).blk t).view.set := by
  obtain ⟨t, r, q, h⟩ := spot i
  exact ⟨t, flush0_9 t, Eq.subst (motive := fun z => z ∈ ((cfg0.win 9).blk t).view.set) ((emb9 t r q).trans h) (((cfg0.win 9).blk t).view.emb_mem_set _)⟩

theorem final9 (c : Dev nD) : (dats m 0 c).arrAt 9 cfg0.N = DY 1 (A0 m c) (A1 m c) (A5 m c) :=
  (dats m 0 c).arrAt_eq_of_cover 9 _ (fun t _ => flushed9_eq m c t) covered9

theorem covered10 (i : S4096x2048.Idx) : ∃ t : Fin cfg0.N, (cfg0.win 10).flush t = true ∧ i ∈ ((cfg0.win 10).blk t).view.set := by
  obtain ⟨t, r, q, h⟩ := spot i
  exact ⟨t, flush0_10 t, Eq.subst (motive := fun z => z ∈ ((cfg0.win 10).blk t).view.set) ((emb10 t r q).trans h) (((cfg0.win 10).blk t).view.emb_mem_set _)⟩

theorem final10 (c : Dev nD) : (dats m 0 c).arrAt 10 cfg0.N = DY 2 (A0 m c) (A1 m c) (A5 m c) :=
  (dats m 0 c).arrAt_eq_of_cover 10 _ (fun t _ => flushed10_eq m c t) covered10

theorem covered11 (i : S4096x2048.Idx) : ∃ t : Fin cfg0.N, (cfg0.win 11).flush t = true ∧ i ∈ ((cfg0.win 11).blk t).view.set := by
  obtain ⟨t, r, q, h⟩ := spot i
  exact ⟨t, flush0_11 t, Eq.subst (motive := fun z => z ∈ ((cfg0.win 11).blk t).view.set) ((emb11 t r q).trans h) (((cfg0.win 11).blk t).view.emb_mem_set _)⟩

theorem final11 (c : Dev nD) : (dats m 0 c).arrAt 11 cfg0.N = DG 0 (A0 m c) (A1 m c) (A2 m c) (A5 m c) :=
  (dats m 0 c).arrAt_eq_of_cover 11 _ (fun t _ => flushed11_eq m c t) covered11

theorem covered12 (i : S4096x2048.Idx) : ∃ t : Fin cfg0.N, (cfg0.win 12).flush t = true ∧ i ∈ ((cfg0.win 12).blk t).view.set := by
  obtain ⟨t, r, q, h⟩ := spot i
  exact ⟨t, flush0_12 t, Eq.subst (motive := fun z => z ∈ ((cfg0.win 12).blk t).view.set) ((emb12 t r q).trans h) (((cfg0.win 12).blk t).view.emb_mem_set _)⟩

theorem final12 (c : Dev nD) : (dats m 0 c).arrAt 12 cfg0.N = DG 1 (A0 m c) (A1 m c) (A3 m c) (A5 m c) :=
  (dats m 0 c).arrAt_eq_of_cover 12 _ (fun t _ => flushed12_eq m c t) covered12

theorem covered13 (i : S4096x2048.Idx) : ∃ t : Fin cfg0.N, (cfg0.win 13).flush t = true ∧ i ∈ ((cfg0.win 13).blk t).view.set := by
  obtain ⟨t, r, q, h⟩ := spot i
  exact ⟨t, flush0_13 t, Eq.subst (motive := fun z => z ∈ ((cfg0.win 13).blk t).view.set) ((emb13 t r q).trans h) (((cfg0.win 13).blk t).view.emb_mem_set _)⟩

theorem final13 (c : Dev nD) : (dats m 0 c).arrAt 13 cfg0.N = DG 2 (A0 m c) (A1 m c) (A4 m c) (A5 m c) :=
  (dats m 0 c).arrAt_eq_of_cover 13 _ (fun t _ => flushed13_eq m c t) covered13

/-- The kernel's run with the results at their functions of the arguments. -/
theorem run : θ_run defs (onTc (τ := τ) (main (F := Ideal))) ⟨m, fun _ => 0, ρ⟩ fun r => ∀ c : Dev nD,
      r.2.mem ((c : Thread nD τ).loc main_v0_0) = DY 0 (A0 m c) (A1 m c) (A5 m c)
      ∧ r.2.mem ((c : Thread nD τ).loc main_v0_1) = DY 1 (A0 m c) (A1 m c) (A5 m c)
      ∧ r.2.mem ((c : Thread nD τ).loc main_v0_2) = DY 2 (A0 m c) (A1 m c) (A5 m c)
      ∧ r.2.mem ((c : Thread nD τ).loc main_v0_3) = DG 0 (A0 m c) (A1 m c) (A2 m c) (A5 m c)
      ∧ r.2.mem ((c : Thread nD τ).loc main_v0_4) = DG 1 (A0 m c) (A1 m c) (A3 m c) (A5 m c)
      ∧ r.2.mem ((c : Thread nD τ).loc main_v0_5) = DG 2 (A0 m c) (A1 m c) (A4 m c) (A5 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c
      ∧ r.2.mem ((c : Thread nD τ).loc main_arg5) = A5 m c :=
  (θ_run defs _ _).mono (fun _ h c => by
    obtain ⟨h0, h1, h2, h3, h4, h5, hr⟩ := h c
    exact ⟨h0.trans (final8 m c), h1.trans (final9 m c), h2.trans (final10 m c), h3.trans (final11 m c), h4.trans (final12 m c), h5.trans (final13 m c), hr⟩) (run_blocks m ρ)

/-! ## The reference -/

section
open Cert.MergeBwdRefIdeal.Read
variable (dx : FVec Ideal S4096x2048 .bf16) (wo : FVec Ideal S2048x2048 .bf16) (ya yb yc : FVec Ideal S4096x2048 .bf16) (z : FVec Ideal S4096x14848 .f32)

/-- The reference's gradient of the gated sum. -/
theorem ref_dm (i : S4096x2048.Idx) : val_main_v28 (F := Ideal) dx wo i = dm dx wo (i 0) (i 1) := by
  refine (val_main_v28_apply dx wo i).trans (Finset.sum_congr rfl fun k _ => ?_)
  exact congrArg₂ (fun u v : EReal => u * v) (congrArg dx (show lidx_main_v28 i k = ix2 (i 0) k from funext fun a => Fin.ext (match a with | ⟨0, _⟩ => rfl | ⟨1, _⟩ => rfl)))
    (congrArg wo (show ridx_main_v28 i k = ix2 (i 1) k from funext fun a => Fin.ext (match a with | ⟨0, _⟩ => rfl | ⟨1, _⟩ => rfl)))

/-- The reference's gates before their reshaping. -/
theorem ref_gates (j : Cert.MergeBwdRefIdeal.S4096x6144.Idx) : val_main_v11 (F := Ideal) z j = sg (z (idx_main_v5 j)) := by
  refine Eq.trans ?_ (sg_neg (z (idx_main_v5 j)))
  refine (val_main_v11_apply (F := Ideal) z j).trans ?_
  refine congrArg₂ Ideal.div (val_main_v10_apply (F := Ideal) j) ?_
  refine (val_main_v9_apply (F := Ideal) z j).trans ?_
  exact congrArg₂ (fun u v : EReal => u + v) (val_main_v8_apply (F := Ideal) j) (congrArg (fun u : EReal => Ideal.exp (-u)) (val_main_v5_apply (F := Ideal) z j))

/-- And their slopes. -/
theorem ref_slope (j : Cert.MergeBwdRefIdeal.S4096x6144.Idx) : val_main_v14 (F := Ideal) z j = slope (z (idx_main_v5 j)) := by
  refine (val_main_v14_apply (F := Ideal) z j).trans ?_
  refine congrArg₂ (fun u v : EReal => u * v) (ref_gates z j) ((val_main_v13_apply (F := Ideal) z j).trans ?_)
  exact congrArg₂ (fun u v : EReal => u - v) (val_main_v12_apply (F := Ideal) j) (ref_gates z j)

theorem ref_gate0 (i : S4096x2048.Idx) : val_main_v17 (F := Ideal) z i = sg (z (ix2 (i 0) (gcol 0 (i 1)))) := by
  rw [val_main_v17_apply, val_main_v16_apply, val_main_v15_apply]
  refine (ref_gates z _).trans (congrArg (fun j => sg (z j)) (funext fun a => Fin.ext ?_))
  have h0 : (i 0).val < 4096 := (i 0).isLt
  have h1 : (i 1).val < 2048 := (i 1).isLt
  match a with
  | ⟨0, _⟩ => show ((((i 0).val * 2048 + (i 1).val) / 2048 * 3 + 0) * 2048 + ((i 0).val * 2048 + (i 1).val) % 2048) / 6144 = (i 0).val; omega
  | ⟨1, _⟩ => show 8704 + ((((i 0).val * 2048 + (i 1).val) / 2048 * 3 + 0) * 2048 + ((i 0).val * 2048 + (i 1).val) % 2048) % 6144 = 8704 + 0 * 2048 + (i 1).val; omega

theorem ref_dy0 (i : S4096x2048.Idx) : val_main_v38 (F := Ideal) dx wo z i = DY 0 dx wo z i :=
  congrArg₂ (fun u v : EReal => u * v) (ref_gate0 z i) (ref_dm dx wo i)

theorem ref_gate1 (i : S4096x2048.Idx) : val_main_v20 (F := Ideal) z i = sg (z (ix2 (i 0) (gcol 1 (i 1)))) := by
  rw [val_main_v20_apply, val_main_v19_apply, val_main_v15_apply]
  refine (ref_gates z _).trans (congrArg (fun j => sg (z j)) (funext fun a => Fin.ext ?_))
  have h0 : (i 0).val < 4096 := (i 0).isLt
  have h1 : (i 1).val < 2048 := (i 1).isLt
  match a with
  | ⟨0, _⟩ => show ((((i 0).val * 2048 + (i 1).val) / 2048 * 3 + (1 + 0)) * 2048 + ((i 0).val * 2048 + (i 1).val) % 2048) / 6144 = (i 0).val; omega
  | ⟨1, _⟩ => show 8704 + ((((i 0).val * 2048 + (i 1).val) / 2048 * 3 + (1 + 0)) * 2048 + ((i 0).val * 2048 + (i 1).val) % 2048) % 6144 = 8704 + 1 * 2048 + (i 1).val; omega

theorem ref_dy1 (i : S4096x2048.Idx) : val_main_v33 (F := Ideal) dx wo z i = DY 1 dx wo z i :=
  congrArg₂ (fun u v : EReal => u * v) (ref_gate1 z i) (ref_dm dx wo i)

theorem ref_gate2 (i : S4096x2048.Idx) : val_main_v24 (F := Ideal) z i = sg (z (ix2 (i 0) (gcol 2 (i 1)))) := by
  rw [val_main_v24_apply, val_main_v23_apply, val_main_v15_apply]
  refine (ref_gates z _).trans (congrArg (fun j => sg (z j)) (funext fun a => Fin.ext ?_))
  have h0 : (i 0).val < 4096 := (i 0).isLt
  have h1 : (i 1).val < 2048 := (i 1).isLt
  match a with
  | ⟨0, _⟩ => show ((((i 0).val * 2048 + (i 1).val) / 2048 * 3 + (2 + 0)) * 2048 + ((i 0).val * 2048 + (i 1).val) % 2048) / 6144 = (i 0).val; omega
  | ⟨1, _⟩ => show 8704 + ((((i 0).val * 2048 + (i 1).val) / 2048 * 3 + (2 + 0)) * 2048 + ((i 0).val * 2048 + (i 1).val) % 2048) % 6144 = 8704 + 2 * 2048 + (i 1).val; omega

theorem ref_dy2 (i : S4096x2048.Idx) : val_main_v29 (F := Ideal) dx wo z i = DY 2 dx wo z i :=
  congrArg₂ (fun u v : EReal => u * v) (ref_gate2 z i) (ref_dm dx wo i)

/-- The gate's gradient before the slope, branch 0, in its place of the padded array. -/
theorem ref_in0 (r : Fin 4096) (q : Fin 2048) : val_main_v41 (F := Ideal) dx wo ya (ix3 r (0 : Fin 3) q) = dm dx wo r q * ya (ix2 r q) := by
  refine Eq.trans ?_ (congrArg (fun u : EReal => u * ya (ix2 r q)) (ref_dm dx wo (ix2 r q)))
  refine Eq.trans ?_ (val_main_v39_apply (F := Ideal) dx wo ya (ix2 r q))
  refine Eq.trans ?_ ((val_main_v40_apply (F := Ideal) dx wo ya (ix3 r (0 : Fin 1) q)).trans (congrArg (val_main_v39 (F := Ideal) dx wo ya) (show idx_main_v40 (ix3 r (0 : Fin 1) q) = ix2 r q from funext fun a => Fin.ext (match a with | ⟨0, _⟩ => rfl | ⟨1, _⟩ => rfl))))
  unfold val_main_v41
  exact pad_apply_of_inside ![0, 0, 0] ![0, 2, 0] ![0, 0, 0] (val_main_v40 (F := Ideal) dx wo ya) (val_main_cst_4 (F := Ideal)) Cert.MergeBwdRefIdeal.Facts₀.pads_S4096x1x2048_S4096x3x2048_000_020_000 Cert.MergeBwdRefIdeal.Facts₀.h_S_ (ix3 r (0 : Fin 3) q) (ix3 r (0 : Fin 1) q)
    (fun b => match b with | ⟨0, _⟩ => by show r.val = 0 + r.val * 1; omega | ⟨1, _⟩ => by show 0 = 0 + 0 * 1; rfl | ⟨2, _⟩ => by show q.val = 0 + q.val * 1; omega)

/-- Elsewhere the padded array is zero. -/
theorem ref_off0 (r : Fin 4096) (p : Fin 3) (hp : p.val ≠ 0) (q : Fin 2048) : val_main_v41 (F := Ideal) dx wo ya (ix3 r p q) = 0 := by
  refine Eq.trans ?_ Ideal.ofBits_zero_f32
  unfold val_main_v41
  exact pad_apply_of_not_inside ![0, 0, 0] ![0, 2, 0] ![0, 0, 0] (val_main_v40 (F := Ideal) dx wo ya) (val_main_cst_4 (F := Ideal)) Cert.MergeBwdRefIdeal.Facts₀.pads_S4096x1x2048_S4096x3x2048_000_020_000 Cert.MergeBwdRefIdeal.Facts₀.h_S_ (ix3 r p q) 1
    (fun hh => by have h1 : 0 ≤ p.val := hh.1; have h2 : (p.val - 0) / 1 < 1 := hh.2.2; omega)

/-- The gate's gradient before the slope, branch 1, in its place of the padded array. -/
theorem ref_in1 (r : Fin 4096) (q : Fin 2048) : val_main_v36 (F := Ideal) dx wo yb (ix3 r (1 : Fin 3) q) = dm dx wo r q * yb (ix2 r q) := by
  refine Eq.trans ?_ (congrArg (fun u : EReal => u * yb (ix2 r q)) (ref_dm dx wo (ix2 r q)))
  refine Eq.trans ?_ (val_main_v34_apply (F := Ideal) dx wo yb (ix2 r q))
  refine Eq.trans ?_ ((val_main_v35_apply (F := Ideal) dx wo yb (ix3 r (0 : Fin 1) q)).trans (congrArg (val_main_v34 (F := Ideal) dx wo yb) (show idx_main_v35 (ix3 r (0 : Fin 1) q) = ix2 r q from funext fun a => Fin.ext (match a with | ⟨0, _⟩ => rfl | ⟨1, _⟩ => rfl))))
  unfold val_main_v36
  exact pad_apply_of_inside ![0, 1, 0] ![0, 1, 0] ![0, 0, 0] (val_main_v35 (F := Ideal) dx wo yb) (val_main_cst_3 (F := Ideal)) Cert.MergeBwdRefIdeal.Facts₀.pads_S4096x1x2048_S4096x3x2048_000_110_000 Cert.MergeBwdRefIdeal.Facts₀.h_S_ (ix3 r (1 : Fin 3) q) (ix3 r (0 : Fin 1) q)
    (fun b => match b with | ⟨0, _⟩ => by show r.val = 0 + r.val * 1; omega | ⟨1, _⟩ => by show 1 = 1 + 0 * 1; rfl | ⟨2, _⟩ => by show q.val = 0 + q.val * 1; omega)

/-- Elsewhere the padded array is zero. -/
theorem ref_off1 (r : Fin 4096) (p : Fin 3) (hp : p.val ≠ 1) (q : Fin 2048) : val_main_v36 (F := Ideal) dx wo yb (ix3 r p q) = 0 := by
  refine Eq.trans ?_ Ideal.ofBits_zero_f32
  unfold val_main_v36
  exact pad_apply_of_not_inside ![0, 1, 0] ![0, 1, 0] ![0, 0, 0] (val_main_v35 (F := Ideal) dx wo yb) (val_main_cst_3 (F := Ideal)) Cert.MergeBwdRefIdeal.Facts₀.pads_S4096x1x2048_S4096x3x2048_000_110_000 Cert.MergeBwdRefIdeal.Facts₀.h_S_ (ix3 r p q) 1
    (fun hh => by have h1 : 1 ≤ p.val := hh.1; have h2 : (p.val - 1) / 1 < 1 := hh.2.2; omega)

/-- The gate's gradient before the slope, branch 2, in its place of the padded array. -/
theorem ref_in2 (r : Fin 4096) (q : Fin 2048) : val_main_v32 (F := Ideal) dx wo yc (ix3 r (2 : Fin 3) q) = dm dx wo r q * yc (ix2 r q) := by
  refine Eq.trans ?_ (congrArg (fun u : EReal => u * yc (ix2 r q)) (ref_dm dx wo (ix2 r q)))
  refine Eq.trans ?_ (val_main_v30_apply (F := Ideal) dx wo yc (ix2 r q))
  refine Eq.trans ?_ ((val_main_v31_apply (F := Ideal) dx wo yc (ix3 r (0 : Fin 1) q)).trans (congrArg (val_main_v30 (F := Ideal) dx wo yc) (show idx_main_v31 (ix3 r (0 : Fin 1) q) = ix2 r q from funext fun a => Fin.ext (match a with | ⟨0, _⟩ => rfl | ⟨1, _⟩ => rfl))))
  unfold val_main_v32
  exact pad_apply_of_inside ![0, 2, 0] ![0, 0, 0] ![0, 0, 0] (val_main_v31 (F := Ideal) dx wo yc) (val_main_cst_2 (F := Ideal)) Cert.MergeBwdRefIdeal.Facts₀.pads_S4096x1x2048_S4096x3x2048_000_200_000 Cert.MergeBwdRefIdeal.Facts₀.h_S_ (ix3 r (2 : Fin 3) q) (ix3 r (0 : Fin 1) q)
    (fun b => match b with | ⟨0, _⟩ => by show r.val = 0 + r.val * 1; omega | ⟨1, _⟩ => by show 2 = 2 + 0 * 1; rfl | ⟨2, _⟩ => by show q.val = 0 + q.val * 1; omega)

/-- Elsewhere the padded array is zero. -/
theorem ref_off2 (r : Fin 4096) (p : Fin 3) (hp : p.val ≠ 2) (q : Fin 2048) : val_main_v32 (F := Ideal) dx wo yc (ix3 r p q) = 0 := by
  refine Eq.trans ?_ Ideal.ofBits_zero_f32
  unfold val_main_v32
  exact pad_apply_of_not_inside ![0, 2, 0] ![0, 0, 0] ![0, 0, 0] (val_main_v31 (F := Ideal) dx wo yc) (val_main_cst_2 (F := Ideal)) Cert.MergeBwdRefIdeal.Facts₀.pads_S4096x1x2048_S4096x3x2048_000_200_000 Cert.MergeBwdRefIdeal.Facts₀.h_S_ (ix3 r p q) 1
    (fun hh => by have h1 : 2 ≤ p.val := hh.1; have h2 : (p.val - 2) / 1 < 1 := hh.2.2; omega)

/-- The three padded arrays' sum in the place of branch 0. -/
theorem ref_sum0 (r : Fin 4096) (q : Fin 2048) : val_main_v42 (F := Ideal) dx wo ya yb yc (ix3 r (0 : Fin 3) q) = dm dx wo r q * ya (ix2 r q) := by
  refine (val_main_v42_apply (F := Ideal) dx wo ya yb yc _).trans ((congrArg₂ (fun u v : EReal => u + v) ((val_main_v37_apply (F := Ideal) dx wo yb yc _).trans (congrArg₂ (fun u v : EReal => u + v) (ref_off2 dx wo yc r (0 : Fin 3) (by decide) q) (ref_off1 dx wo yb r (0 : Fin 3) (by decide) q))) (ref_in0 dx wo ya r q)).trans ?_)
  rw [zero_add, zero_add]

theorem ref_dg0 (i : S4096x2048.Idx) : val_main_v45 (F := Ideal) dx wo ya yb yc z i = DG 0 dx wo ya z i := by
  have h0 : (i 0).val < 4096 := (i 0).isLt
  have h1 : (i 1).val < 2048 := (i 1).isLt
  rw [val_main_v45_apply]
  refine (val_main_v44_apply (F := Ideal) dx wo ya yb yc z _).trans (congrArg₂ (fun u v : EReal => u * v) ?_ ?_)
  · refine (val_main_v43_apply (F := Ideal) dx wo ya yb yc _).trans (Eq.trans (congrArg (val_main_v42 (F := Ideal) dx wo ya yb yc) ?_) (ref_sum0 dx wo ya yb yc (i 0) (i 1)))
    refine (show idx_main_v43 (idx_main_v45 i) = ix3 (i 0) (0 : Fin 3) (i 1) from funext fun a => Fin.ext ?_)
    match a with
    | ⟨0, _⟩ => show ((i 0).val * 6144 + ((i 1).val)) / 6144 = (i 0).val; omega
    | ⟨1, _⟩ => show ((i 0).val * 6144 + ((i 1).val)) / 2048 % 3 = 0; omega
    | ⟨2, _⟩ => show ((i 0).val * 6144 + ((i 1).val)) % 2048 = (i 1).val; omega
  · refine (ref_slope z _).trans (congrArg (fun j => slope (z j)) (show idx_main_v5 (idx_main_v45 i) = ix2 (i 0) (gcol 0 (i 1)) from funext fun a => Fin.ext ?_))
    match a with
    | ⟨0, _⟩ => rfl
    | ⟨1, _⟩ => show 8704 + ((i 1).val) = 8704 + 0 * 2048 + (i 1).val; omega

/-- The three padded arrays' sum in the place of branch 1. -/
theorem ref_sum1 (r : Fin 4096) (q : Fin 2048) : val_main_v42 (F := Ideal) dx wo ya yb yc (ix3 r (1 : Fin 3) q) = dm dx wo r q * yb (ix2 r q) := by
  refine (val_main_v42_apply (F := Ideal) dx wo ya yb yc _).trans ((congrArg₂ (fun u v : EReal => u + v) ((val_main_v37_apply (F := Ideal) dx wo yb yc _).trans (congrArg₂ (fun u v : EReal => u + v) (ref_off2 dx wo yc r (1 : Fin 3) (by decide) q) (ref_in1 dx wo yb r q))) (ref_off0 dx wo ya r (1 : Fin 3) (by decide) q)).trans ?_)
  rw [zero_add, add_zero]

theorem ref_dg1 (i : S4096x2048.Idx) : val_main_v46 (F := Ideal) dx wo ya yb yc z i = DG 1 dx wo yb z i := by
  have h0 : (i 0).val < 4096 := (i 0).isLt
  have h1 : (i 1).val < 2048 := (i 1).isLt
  rw [val_main_v46_apply]
  refine (val_main_v44_apply (F := Ideal) dx wo ya yb yc z _).trans (congrArg₂ (fun u v : EReal => u * v) ?_ ?_)
  · refine (val_main_v43_apply (F := Ideal) dx wo ya yb yc _).trans (Eq.trans (congrArg (val_main_v42 (F := Ideal) dx wo ya yb yc) ?_) (ref_sum1 dx wo ya yb yc (i 0) (i 1)))
    refine (show idx_main_v43 (idx_main_v46 i) = ix3 (i 0) (1 : Fin 3) (i 1) from funext fun a => Fin.ext ?_)
    match a with
    | ⟨0, _⟩ => show ((i 0).val * 6144 + (2048 + (i 1).val)) / 6144 = (i 0).val; omega
    | ⟨1, _⟩ => show ((i 0).val * 6144 + (2048 + (i 1).val)) / 2048 % 3 = 1; omega
    | ⟨2, _⟩ => show ((i 0).val * 6144 + (2048 + (i 1).val)) % 2048 = (i 1).val; omega
  · refine (ref_slope z _).trans (congrArg (fun j => slope (z j)) (show idx_main_v5 (idx_main_v46 i) = ix2 (i 0) (gcol 1 (i 1)) from funext fun a => Fin.ext ?_))
    match a with
    | ⟨0, _⟩ => rfl
    | ⟨1, _⟩ => show 8704 + (2048 + (i 1).val) = 8704 + 1 * 2048 + (i 1).val; omega

/-- The three padded arrays' sum in the place of branch 2. -/
theorem ref_sum2 (r : Fin 4096) (q : Fin 2048) : val_main_v42 (F := Ideal) dx wo ya yb yc (ix3 r (2 : Fin 3) q) = dm dx wo r q * yc (ix2 r q) := by
  refine (val_main_v42_apply (F := Ideal) dx wo ya yb yc _).trans ((congrArg₂ (fun u v : EReal => u + v) ((val_main_v37_apply (F := Ideal) dx wo yb yc _).trans (congrArg₂ (fun u v : EReal => u + v) (ref_in2 dx wo yc r q) (ref_off1 dx wo yb r (2 : Fin 3) (by decide) q))) (ref_off0 dx wo ya r (2 : Fin 3) (by decide) q)).trans ?_)
  rw [add_zero, add_zero]

theorem ref_dg2 (i : S4096x2048.Idx) : val_main_v47 (F := Ideal) dx wo ya yb yc z i = DG 2 dx wo yc z i := by
  have h0 : (i 0).val < 4096 := (i 0).isLt
  have h1 : (i 1).val < 2048 := (i 1).isLt
  rw [val_main_v47_apply]
  refine (val_main_v44_apply (F := Ideal) dx wo ya yb yc z _).trans (congrArg₂ (fun u v : EReal => u * v) ?_ ?_)
  · refine (val_main_v43_apply (F := Ideal) dx wo ya yb yc _).trans (Eq.trans (congrArg (val_main_v42 (F := Ideal) dx wo ya yb yc) ?_) (ref_sum2 dx wo ya yb yc (i 0) (i 1)))
    refine (show idx_main_v43 (idx_main_v47 i) = ix3 (i 0) (2 : Fin 3) (i 1) from funext fun a => Fin.ext ?_)
    match a with
    | ⟨0, _⟩ => show ((i 0).val * 6144 + (4096 + (i 1).val)) / 6144 = (i 0).val; omega
    | ⟨1, _⟩ => show ((i 0).val * 6144 + (4096 + (i 1).val)) / 2048 % 3 = 2; omega
    | ⟨2, _⟩ => show ((i 0).val * 6144 + (4096 + (i 1).val)) % 2048 = (i 1).val; omega
  · refine (ref_slope z _).trans (congrArg (fun j => slope (z j)) (show idx_main_v5 (idx_main_v47 i) = ix2 (i 0) (gcol 2 (i 1)) from funext fun a => Fin.ext ?_))
    match a with
    | ⟨0, _⟩ => rfl
    | ⟨1, _⟩ => show 8704 + (4096 + (i 1).val) = 8704 + 2 * 2048 + (i 1).val; omega

end

/-- The reference's arguments. -/
abbrev B0 (m : (ℓ : Loc Cert.MergeBwdRefIdeal.nD Cert.MergeBwdRefIdeal.τ Cert.MergeBwdRefIdeal.sig) → Buf (Elt Ideal) ℓ) (c : Dev Cert.MergeBwdRefIdeal.nD) := m ((c : Thread Cert.MergeBwdRefIdeal.nD Cert.MergeBwdRefIdeal.τ).loc Cert.MergeBwdRefIdeal.main_arg0)
abbrev B1 (m : (ℓ : Loc Cert.MergeBwdRefIdeal.nD Cert.MergeBwdRefIdeal.τ Cert.MergeBwdRefIdeal.sig) → Buf (Elt Ideal) ℓ) (c : Dev Cert.MergeBwdRefIdeal.nD) := m ((c : Thread Cert.MergeBwdRefIdeal.nD Cert.MergeBwdRefIdeal.τ).loc Cert.MergeBwdRefIdeal.main_arg1)
abbrev B2 (m : (ℓ : Loc Cert.MergeBwdRefIdeal.nD Cert.MergeBwdRefIdeal.τ Cert.MergeBwdRefIdeal.sig) → Buf (Elt Ideal) ℓ) (c : Dev Cert.MergeBwdRefIdeal.nD) := m ((c : Thread Cert.MergeBwdRefIdeal.nD Cert.MergeBwdRefIdeal.τ).loc Cert.MergeBwdRefIdeal.main_arg2)
abbrev B3 (m : (ℓ : Loc Cert.MergeBwdRefIdeal.nD Cert.MergeBwdRefIdeal.τ Cert.MergeBwdRefIdeal.sig) → Buf (Elt Ideal) ℓ) (c : Dev Cert.MergeBwdRefIdeal.nD) := m ((c : Thread Cert.MergeBwdRefIdeal.nD Cert.MergeBwdRefIdeal.τ).loc Cert.MergeBwdRefIdeal.main_arg3)
abbrev B4 (m : (ℓ : Loc Cert.MergeBwdRefIdeal.nD Cert.MergeBwdRefIdeal.τ Cert.MergeBwdRefIdeal.sig) → Buf (Elt Ideal) ℓ) (c : Dev Cert.MergeBwdRefIdeal.nD) := m ((c : Thread Cert.MergeBwdRefIdeal.nD Cert.MergeBwdRefIdeal.τ).loc Cert.MergeBwdRefIdeal.main_arg4)
abbrev B5 (m : (ℓ : Loc Cert.MergeBwdRefIdeal.nD Cert.MergeBwdRefIdeal.τ Cert.MergeBwdRefIdeal.sig) → Buf (Elt Ideal) ℓ) (c : Dev Cert.MergeBwdRefIdeal.nD) := m ((c : Thread Cert.MergeBwdRefIdeal.nD Cert.MergeBwdRefIdeal.τ).loc Cert.MergeBwdRefIdeal.main_arg5)

/-- The reference's run with the results at the same functions. -/
theorem ref_run (m : (ℓ : Loc Cert.MergeBwdRefIdeal.nD Cert.MergeBwdRefIdeal.τ Cert.MergeBwdRefIdeal.sig) → Buf (Elt Ideal) ℓ) (ρ : Dev Cert.MergeBwdRefIdeal.nD → PrngReg) :
    θ_run Cert.MergeBwdRefIdeal.defs (onTc (τ := Cert.MergeBwdRefIdeal.τ) (Cert.MergeBwdRefIdeal.main (F := Ideal))) ⟨m, fun _ => 0, ρ⟩ fun r => ∀ c : Dev Cert.MergeBwdRefIdeal.nD,
      r.2.mem ((c : Thread Cert.MergeBwdRefIdeal.nD Cert.MergeBwdRefIdeal.τ).loc Cert.MergeBwdRefIdeal.main_v48) = DY 0 (B0 m c) (B1 m c) (B5 m c)
      ∧ r.2.mem ((c : Thread Cert.MergeBwdRefIdeal.nD Cert.MergeBwdRefIdeal.τ).loc Cert.MergeBwdRefIdeal.main_v49) = DY 1 (B0 m c) (B1 m c) (B5 m c)
      ∧ r.2.mem ((c : Thread Cert.MergeBwdRefIdeal.nD Cert.MergeBwdRefIdeal.τ).loc Cert.MergeBwdRefIdeal.main_v50) = DY 2 (B0 m c) (B1 m c) (B5 m c)
      ∧ r.2.mem ((c : Thread Cert.MergeBwdRefIdeal.nD Cert.MergeBwdRefIdeal.τ).loc Cert.MergeBwdRefIdeal.main_v51) = DG 0 (B0 m c) (B1 m c) (B2 m c) (B5 m c)
      ∧ r.2.mem ((c : Thread Cert.MergeBwdRefIdeal.nD Cert.MergeBwdRefIdeal.τ).loc Cert.MergeBwdRefIdeal.main_v52) = DG 1 (B0 m c) (B1 m c) (B3 m c) (B5 m c)
      ∧ r.2.mem ((c : Thread Cert.MergeBwdRefIdeal.nD Cert.MergeBwdRefIdeal.τ).loc Cert.MergeBwdRefIdeal.main_v53) = DG 2 (B0 m c) (B1 m c) (B4 m c) (B5 m c)
      ∧ r.2.mem ((c : Thread Cert.MergeBwdRefIdeal.nD Cert.MergeBwdRefIdeal.τ).loc Cert.MergeBwdRefIdeal.main_arg0) = B0 m c
      ∧ r.2.mem ((c : Thread Cert.MergeBwdRefIdeal.nD Cert.MergeBwdRefIdeal.τ).loc Cert.MergeBwdRefIdeal.main_arg1) = B1 m c
      ∧ r.2.mem ((c : Thread Cert.MergeBwdRefIdeal.nD Cert.MergeBwdRefIdeal.τ).loc Cert.MergeBwdRefIdeal.main_arg2) = B2 m c
      ∧ r.2.mem ((c : Thread Cert.MergeBwdRefIdeal.nD Cert.MergeBwdRefIdeal.τ).loc Cert.MergeBwdRefIdeal.main_arg3) = B3 m c
      ∧ r.2.mem ((c : Thread Cert.MergeBwdRefIdeal.nD Cert.MergeBwdRefIdeal.τ).loc Cert.MergeBwdRefIdeal.main_arg4) = B4 m c
      ∧ r.2.mem ((c : Thread Cert.MergeBwdRefIdeal.nD Cert.MergeBwdRefIdeal.τ).loc Cert.MergeBwdRefIdeal.main_arg5) = B5 m c :=
  (θ_run Cert.MergeBwdRefIdeal.defs _ _).mono (fun _ h c => by
    obtain ⟨h0, h1, h2, h3, h4, h5, hr⟩ := h c
    refine ⟨(h0.trans (Cert.MergeBwdRefIdeal.Read.val_main_v48_eq (F := Ideal) _ _ _)).trans ?_, (h1.trans (Cert.MergeBwdRefIdeal.Read.val_main_v49_eq (F := Ideal) _ _ _)).trans ?_,
      (h2.trans (Cert.MergeBwdRefIdeal.Read.val_main_v50_eq (F := Ideal) _ _ _)).trans ?_, (h3.trans (Cert.MergeBwdRefIdeal.Read.val_main_v51_eq (F := Ideal) _ _ _ _ _ _)).trans ?_,
      (h4.trans (Cert.MergeBwdRefIdeal.Read.val_main_v52_eq (F := Ideal) _ _ _ _ _ _)).trans ?_, (h5.trans (Cert.MergeBwdRefIdeal.Read.val_main_v53_eq (F := Ideal) _ _ _ _ _ _)).trans ?_, hr⟩
    · exact funext fun i => ref_dy0 _ _ _ i
    · exact funext fun i => ref_dy1 _ _ _ i
    · exact funext fun i => ref_dy2 _ _ _ i
    · exact funext fun i => ref_dg0 _ _ _ _ _ _ i
    · exact funext fun i => ref_dg1 _ _ _ _ _ _ i
    · exact funext fun i => ref_dg2 _ _ _ _ _ _ i)
    (Cert.MergeBwdRefIdeal.Value.run (F := Ideal) m ρ)

/-! ## The claims -/

/-- The kernel's frame: the generated one. -/
theorem frame_p : Cert.quiescent_MergeBwd := fun m ρ _ => Cert.MergeBwd.Gen.frame m ρ

/-- The idealized kernel's frame: the generated one. -/
theorem frame_pi : Cert.quiescent_MergeBwdIdeal := fun m ρ _ => Cert.MergeBwdIdeal.Gen.frame m ρ

/-- The reference's frame: its run read at the arguments. It declares no semaphore. -/
theorem frame_ri : Cert.quiescent_MergeBwdRefIdeal := fun m ρ _ =>
  (θ_run Cert.MergeBwdRefIdeal.defs _ _).mono
    (fun r h => ⟨fun c => (h c).2.2.2.2.2.2, sem_eq_zero_of_no_sems (by decide) r.2⟩)
    (Cert.MergeBwdRefIdeal.Value.run (F := Ideal) m ρ)

/-- The results agree: each side's run read at its results, from equal arguments. -/
theorem algebraic : Cert.algebraic_MergeBwdIdeal_MergeBwdRefIdeal := by
  intro m ρ m' ρ' _ hagree
  refine ⟨_, _, _, _, _, _, run m ρ, ?_⟩
  refine (θ_run Cert.MergeBwdRefIdeal.defs _ _).mono (fun r h c => ?_) (ref_run m' ρ')
  obtain ⟨e0, e1, e2, e3, e4, e5⟩ := hagree c
  obtain ⟨h0, h1, h2, h3, h4, h5, hr⟩ := h c
  exact ⟨h0.trans (congr (congrArg₂ (DY 0) e0 e1) e5), h1.trans (congr (congrArg₂ (DY 1) e0 e1) e5), h2.trans (congr (congrArg₂ (DY 2) e0 e1) e5),
    h3.trans (congr (congr (congrArg₂ (DG 0) e0 e1) e2) e5), h4.trans (congr (congr (congrArg₂ (DG 1) e0 e1) e3) e5), h5.trans (congr (congr (congrArg₂ (DG 2) e0 e1) e4) e5), hr⟩

end Cert.Proof.MergeBwd

end
-- ==== Proof.Rms.lean ====
/- Hand-written, untrusted: THE ROOT-MEAN-SQUARE NORM at the ideal values: the reciprocal root it divides a row by (never infinite,
   never negative, so it goes through sums and differences whatever the row holds) and the row's gradient in the two forms in which
   the kernels and the reference write it. -/
module

public import Idealize.ShloMosaic.Lib.ValueLayout
public import Idealize.ShloMosaic.PureOps.Ideal.Laws

@[expose] public section

noncomputable section

namespace Cert.Proof.Rms

open Idealize.ShloMosaic

/-- The constant added to the mean square. -/
def eps : EReal := Ideal.ofBits .f32 0x358637BD#32

/-- The mean square, `d` being the row's length and `s` its sum of squares, with the constant added. -/
def mean (d s : EReal) : EReal := Ideal.div s d + eps

/-- The reciprocal root of the mean square. -/
def invRoot (d s : EReal) : EReal := Ideal.rsqrt (mean d s)

theorem eps_pos : ∃ e : ℝ, 0 < e ∧ eps = (e : EReal) := by
  refine ⟨8796093 / 8796093022208, by norm_num, ?_⟩
  unfold eps
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem len2048 : Ideal.ofBits .f32 0x45000000#32 = ((2048 : ℝ) : EReal) := by
  simp [Ideal.ofBits, Ideal.ieee, -EReal.coe_mul]; norm_num

theorem len256 : Ideal.ofBits .f32 0x43800000#32 = ((256 : ℝ) : EReal) := by
  simp [Ideal.ofBits, Ideal.ieee, -EReal.coe_mul]; norm_num

theorem div_real (x : EReal) {d : ℝ} (hd : d ≠ 0) : Ideal.div x (d : EReal) = x * ((d⁻¹ : ℝ) : EReal) := by
  unfold Ideal.div
  rw [if_neg (by exact_mod_cast hd), EReal.coe_inv]

theorem mul_self_nonneg (x : EReal) : 0 ≤ x * x := by
  induction x using EReal.rec with
  | bot => simp
  | top => simp
  | coe x => exact_mod_cast _root_.mul_self_nonneg x

/-- The reciprocal root of a sum of squares: a real, not negative, and its quotient by the mean square is its cube. -/
theorem inv_real {d : ℝ} (hd : 0 < d) {s : EReal} (hs : 0 ≤ s) :
    ∃ r : ℝ, 0 ≤ r ∧ invRoot (d : EReal) s = (r : EReal) ∧ Ideal.div (invRoot (d : EReal) s) (mean (d : EReal) s) = ((r * r * r : ℝ) : EReal) := by
  obtain ⟨e, he, hE⟩ := eps_pos
  have hd' : (0 : EReal) < ((d⁻¹ : ℝ) : EReal) := by exact_mod_cast inv_pos.mpr hd
  unfold invRoot mean
  rw [hE, div_real s hd.ne']
  induction s using EReal.rec with
  | bot => exact absurd hs (by simp)
  | top =>
    refine ⟨0, le_refl _, ?_, ?_⟩
    · rw [EReal.top_mul_of_pos hd', EReal.top_add_coe]; rfl
    · rw [EReal.top_mul_of_pos hd', EReal.top_add_coe]
      show Ideal.div 0 ⊤ = _
      unfold Ideal.div
      simp
  | coe s =>
    have hs' : 0 ≤ s := by exact_mod_cast hs
    have ha : 0 < s * d⁻¹ + e := by have := mul_nonneg hs' (inv_pos.mpr hd).le; linarith
    have hr : Ideal.rsqrt ((s : EReal) * ((d⁻¹ : ℝ) : EReal) + (e : EReal)) = (((Real.sqrt (s * d⁻¹ + e))⁻¹ : ℝ) : EReal) := by
      rw [← EReal.coe_mul, ← EReal.coe_add, Ideal.rsqrt_coe, if_neg (not_lt.mpr ha.le), if_neg ha.ne']
    refine ⟨_, inv_nonneg.mpr (Real.sqrt_nonneg _), hr, ?_⟩
    rw [hr, ← EReal.coe_mul, ← EReal.coe_add, div_real _ ha.ne', ← EReal.coe_mul]
    refine congrArg _ ?_
    have hq : Real.sqrt (s * d⁻¹ + e) * Real.sqrt (s * d⁻¹ + e) = s * d⁻¹ + e := Real.mul_self_sqrt ha.le
    rw [mul_assoc]
    refine congrArg _ ?_
    rw [← mul_inv, hq]

/-- A factor that is a real and not negative goes out of a sum. -/
theorem sum_mul {n : ℕ} (f : Fin n → EReal) {r : ℝ} (hr : 0 ≤ r) : ∑ k, f k * (r : EReal) = (∑ k, f k) * (r : EReal) := by
  have h : ∀ t : Finset (Fin n), ∑ k ∈ t, f k * (r : EReal) = (∑ k ∈ t, f k) * (r : EReal) := by
    intro t
    induction t using Finset.induction_on with
    | empty => simp
    | insert a t ha ih =>
      rw [Finset.sum_insert ha, Finset.sum_insert ha, ih]
      exact (EReal.right_distrib_of_nonneg_of_ne_top (by exact_mod_cast hr) (EReal.coe_ne_top _) _ _).symm
  exact h Finset.univ

/-- Two halves of the opposite make the opposite. -/
theorem halves (w : EReal) : ((-(1 / 2) : ℝ) : EReal) * w + ((-(1 / 2) : ℝ) : EReal) * w = -w := by
  induction w using EReal.rec with
  | bot => rw [EReal.coe_mul_bot_of_neg (by norm_num)]; rfl
  | top => rw [EReal.coe_mul_top_of_neg (by norm_num)]; rfl
  | coe w => rw [← EReal.coe_mul, ← EReal.coe_add, ← EReal.coe_neg]; exact congrArg _ (by ring)

/-- THE ROW'S GRADIENT. The kernels subtract from the incoming gradient its mean along the normalised row and scale by the reciprocal
    root; the reference differentiates the reciprocal root and adds the two halves of the square's derivative. -/
theorem back {n : ℕ} (U X : Fin n → EReal) (u x : EReal) {d : ℝ} (hd : 0 < d) {s : EReal} (hs : 0 ≤ s) :
    invRoot (d : EReal) s * (u - x * invRoot (d : EReal) s * Ideal.div (∑ k, U k * (X k * invRoot (d : EReal) s)) (d : EReal))
      = u * invRoot (d : EReal) s + x * Ideal.div ((∑ k, X k * U k) * (((-(1 / 2) : ℝ) : EReal) * Ideal.div (invRoot (d : EReal) s) (mean (d : EReal) s))) (d : EReal)
        + Ideal.div ((∑ k, X k * U k) * (((-(1 / 2) : ℝ) : EReal) * Ideal.div (invRoot (d : EReal) s) (mean (d : EReal) s))) (d : EReal) * x := by
  obtain ⟨r, hr, e1, e2⟩ := inv_real hd hs
  rw [e2, e1]
  have hS : ∑ k, U k * (X k * (r : EReal)) = (∑ k, X k * U k) * (r : EReal) := by
    rw [← sum_mul _ hr]
    exact Finset.sum_congr rfl fun k _ => by rw [← mul_assoc, mul_comm (U k)]
  rw [hS]
  generalize (∑ k, X k * U k) = S
  rw [div_real _ hd.ne', div_real _ hd.ne', sub_eq_add_neg, EReal.left_distrib_of_nonneg_of_ne_top (by exact_mod_cast hr) (EReal.coe_ne_top _),
    mul_comm (r : EReal) u, mul_neg, ← halves, add_assoc, EReal.coe_mul, EReal.coe_mul]
  refine congrArg (fun v => u * (r : EReal) + v) (congrArg₂ (fun u v : EReal => u + v) ?_ ?_)
  · ac_rfl
  · ac_rfl

end Cert.Proof.Rms

end
-- ==== Proof.Norm.lean ====
/- Hand-written, untrusted: THE NORM, forward: the normalised activations and their transpose. The kernel's results as functions of
   its arguments (`H`, `HT`), each grid point's block of them, the reference's results as the same functions, and the claims. -/
module

public import proofs.«01_k».proof.Defs
public import proofs.«01_k».proof.Proof.Rms
public import proofs.«01_k».proof.Proof.Gen.Norm.Frame
public import proofs.«01_k».proof.Proof.Gen.NormIdeal.Value
public import proofs.«01_k».proof.Proof.Gen.NormRefIdeal.Read
public import Idealize.ShloMosaic.Lib.Pointwise
public import Idealize.ShloMosaic.Lib.Pipeline.ValueKit.Acc
public import Idealize.ShloMosaic.Lib.Quiescent

@[expose] public section

set_option maxRecDepth 16384

noncomputable section

namespace Cert.Proof.Norm

open Cert.NormIdeal Cert.NormIdeal.Gen Cert.NormIdeal.Value Idealize.ShloMosaic Idealize.ShloMosaic.TcCoe Idealize.SL.Sem
open Idealize.ShloMosaic.Tactic Cert.Proof.Rms

/-- A row's length, as the programs write it. -/
def L : EReal := Ideal.ofBits .f32 0x45000000#32

/-- One element normalised, `g` being the gain along the row. -/
def unit {n : ℕ} (x : FVec Ideal ⟨2, ![n, 2048]⟩ .f32) (g : Fin 2048 → EReal) (r : Fin n) (q : Fin 2048) : EReal :=
  x (ix2 r q) * invRoot L (∑ k : Fin 2048, x (ix2 r k) * x (ix2 r k)) * g q

/-- The normalised activations. -/
def H (x : FVec Ideal S4096x2048 .f32) (g : FVec Ideal S2048 .f32) : FVec Ideal S4096x2048 .bf16 := fun i => unit x (fun k => g (ix1 k)) (i 0) (i 1)

/-- Their transpose. -/
def HT (x : FVec Ideal S4096x2048 .f32) (g : FVec Ideal S2048 .f32) : FVec Ideal S2048x4096 .bf16 := fun i => unit x (fun k => g (ix1 k)) (i 1) (i 0)

section
variable (x : FVec Ideal S512x2048 .f32) (g : FVec Ideal S1x2048 .f32)

theorem unit_apply (r : Fin 512) (q : Fin 2048) : k0_pay2 (F := Ideal) x g (ix2 r q) = unit x (fun k => g (ix2 (0 : Fin 1) k)) r q := by
  unfold unit invRoot mean L eps
  pointwise [k0_pay2, k0_pay1]

theorem turn_apply (r : Fin 512) (q : Fin 2048) : k0_pay3 (F := Ideal) x g (ix2 q r) = unit x (fun k => g (ix2 (0 : Fin 1) k)) r q := by
  unfold unit invRoot mean L eps
  pointwise [k0_pay3, k0_pay1]

theorem out2_eq : out0_2 (F := Ideal) x g = k0_pay2 (F := Ideal) x g := by frame_out

theorem out3_eq : out0_3 (F := Ideal) x g = k0_pay3 (F := Ideal) x g := by frame_out
end

variable (m : (ℓ : Loc nD τ sig) → Buf (Elt Ideal) ℓ) (ρ : Dev nD → PrngReg)

/-- The arguments. -/
abbrev A0 (c : Dev nD) := m ((c : Thread nD τ).loc main_arg0)
abbrev A1 (c : Dev nD) := m ((c : Thread nD τ).loc main_arg1)

/-! ## Which blocks a grid point reads and writes -/

theorem idx : ∀ t : Fin cfg0.N, (t.val < 8)
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = t.val) :=
  (by decide +kernel : ∀ t : Fin grid0.N, _)

/-- The row of the arrays at a row of the point's block. -/
def R (t : Fin cfg0.N) (r : Fin 512) : Fin 4096 := ⟨t.val * 512 + r.val, by have h := (idx t).1; omega⟩

theorem blk0 (c : Dev nD) (t : Fin cfg0.N) (r : Fin 512) (k : Fin 2048) : iblk m c 0 t (ix2 r k) = A0 m c (ix2 (R t r) k) := by
  obtain ⟨e0, e1⟩ := (idx t).2.1
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * k.val = k.val; omega

/-- The gain as the region finds it: one row. -/
theorem V_gain (c : Dev nD) : V m c main_v0 = broadcastInDim S1x2048 ![1] bcast_S2048_S1x2048_1 (A1 m c) := by sl_kernel_rfl

theorem blk1 (c : Dev nD) (t : Fin cfg0.N) (k : Fin 2048) : iblk m c 1 t (ix2 (0 : Fin 1) k) = A1 m c (ix1 k) := by
  obtain ⟨e0, e1⟩ := (idx t).2.2.1
  show V m c main_v0 (((cfg0.win 1).blk t).view.emb (ix2 (0 : Fin 1) k)) = _
  have h : (((cfg0.win 1).blk t).view.emb (ix2 (0 : Fin 1) k : S1x2048.Idx)) = (ix2 (0 : Fin 1) k : S1x2048.Idx) := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  refine (congrArg (V m c main_v0) h).trans ?_
  rw [V_gain]
  pointwise

theorem emb2 (t : Fin cfg0.N) (r : Fin 512) (q : Fin 2048) : ((cfg0.win 2).blk t).view.emb (ix2 r q : S512x2048.Idx) = (ix2 (R t r) q : S4096x2048.Idx) := by
  obtain ⟨e0, e1⟩ := (idx t).2.2.2.1
  funext a; apply Fin.ext
  match a with
  | ⟨0, _⟩ => show win0_2.index t (0 : Fin 2) * 512 + 1 * r.val = t.val * 512 + r.val; omega
  | ⟨1, _⟩ => show win0_2.index t (1 : Fin 2) * 2048 + 1 * q.val = q.val; omega

theorem emb3 (t : Fin cfg0.N) (r : Fin 512) (q : Fin 2048) : ((cfg0.win 3).blk t).view.emb (ix2 q r : S2048x512.Idx) = (ix2 q (R t r) : S2048x4096.Idx) := by
  obtain ⟨e0, e1⟩ := (idx t).2.2.2.2
  funext a; apply Fin.ext
  match a with
  | ⟨0, _⟩ => show win0_3.index t (0 : Fin 2) * 2048 + 1 * q.val = q.val; omega
  | ⟨1, _⟩ => show win0_3.index t (1 : Fin 2) * 512 + 1 * r.val = t.val * 512 + r.val; omega

/-! ## What a point writes back -/

theorem unit_eq (c : Dev nD) (t : Fin cfg0.N) (r : Fin 512) (q : Fin 2048) :
    unit (iblk m c 0 t) (fun k => iblk m c 1 t (ix2 (0 : Fin 1) k)) r q = unit (A0 m c) (fun k => (A1 m c) (ix1 k)) (R t r) q :=
  congrArg₂ (fun u v : EReal => u * v) (congrArg₂ (fun u v : EReal => u * invRoot L v) (blk0 m c t r q)
    (Finset.sum_congr rfl fun k _ => congrArg₂ (fun u v : EReal => u * v) (blk0 m c t r k) (blk0 m c t r k))) (blk1 m c t q)

theorem flushed2_eq (c : Dev nD) (t : Fin cfg0.N) : (dats m 0 c).flushed 2 t = ((cfg0.win 2).blk t).view.read (Elt Ideal) (H (A0 m c) (A1 m c)) := by
  rw [flushed2]
  funext y
  refine (congrFun (out2_eq (iblk m c 0 t) (iblk m c 1 t)) y).trans ?_
  refine (congrArg (k0_pay2 (F := Ideal) (iblk m c 0 t) (iblk m c 1 t)) (eq_ix2 (n0 := 512) (n1 := 2048) y)).trans ?_
  refine (unit_apply (iblk m c 0 t) (iblk m c 1 t) (y 0) (y 1)).trans ((unit_eq m c t (y 0) (y 1)).trans ?_)
  exact (congrArg (H (A0 m c) (A1 m c)) ((congrArg (((cfg0.win 2).blk t).view.emb) (eq_ix2 (n0 := 512) (n1 := 2048) y)).trans (emb2 t (y 0) (y 1)))).symm

theorem flushed3_eq (c : Dev nD) (t : Fin cfg0.N) : (dats m 0 c).flushed 3 t = ((cfg0.win 3).blk t).view.read (Elt Ideal) (HT (A0 m c) (A1 m c)) := by
  rw [flushed3]
  funext y
  refine (congrFun (out3_eq (iblk m c 0 t) (iblk m c 1 t)) y).trans ?_
  refine (congrArg (k0_pay3 (F := Ideal) (iblk m c 0 t) (iblk m c 1 t)) (eq_ix2 (n0 := 2048) (n1 := 512) y)).trans ?_
  refine (turn_apply (iblk m c 0 t) (iblk m c 1 t) (y 1) (y 0)).trans ((unit_eq m c t (y 1) (y 0)).trans ?_)
  exact (congrArg (HT (A0 m c) (A1 m c)) ((congrArg (((cfg0.win 3).blk t).view.emb) (eq_ix2 (n0 := 2048) (n1 := 512) y)).trans (emb3 t (y 1) (y 0)))).symm

/-- Every row is some point's. -/
theorem spot (i : Fin 4096) : ∃ (t : Fin cfg0.N) (r : Fin 512), R t r = i :=
  ⟨⟨i.val / 512, lt_of_lt_of_eq (by omega) (show 8 = cfg0.N from N_0.symm)⟩, ⟨i.val % 512, Nat.mod_lt _ (by decide)⟩,
    Fin.ext (by show i.val / 512 * 512 + i.val % 512 = i.val; omega)⟩

theorem final2 (c : Dev nD) : (dats m 0 c).arrAt 2 cfg0.N = H (A0 m c) (A1 m c) :=
  (dats m 0 c).arrAt_eq_of_cover 2 _ (fun t _ => flushed2_eq m c t) (fun i => by
    obtain ⟨t, r, h⟩ := spot (i 0)
    refine ⟨t, flush0_2 t, Eq.subst (motive := fun z => z ∈ ((cfg0.win 2).blk t).view.set) ((emb2 t r (i 1)).trans ?_) (((cfg0.win 2).blk t).view.emb_mem_set _)⟩
    exact (congrArg (fun a => (ix2 a (i 1) : S4096x2048.Idx)) h).trans (eq_ix2 (n0 := 4096) (n1 := 2048) i).symm)

theorem final3 (c : Dev nD) : (dats m 0 c).arrAt 3 cfg0.N = HT (A0 m c) (A1 m c) :=
  (dats m 0 c).arrAt_eq_of_cover 3 _ (fun t _ => flushed3_eq m c t) (fun i => by
    obtain ⟨t, r, h⟩ := spot (i 1)
    refine ⟨t, flush0_3 t, Eq.subst (motive := fun z => z ∈ ((cfg0.win 3).blk t).view.set) ((emb3 t r (i 0)).trans ?_) (((cfg0.win 3).blk t).view.emb_mem_set _)⟩
    exact (congrArg (fun a => (ix2 (i 0) a : S2048x4096.Idx)) h).trans (eq_ix2 (n0 := 2048) (n1 := 4096) i).symm)

/-- The kernel's run with the results at their functions of the arguments. -/
theorem run : θ_run defs (onTc (τ := τ) (main (F := Ideal))) ⟨m, fun _ => 0, ρ⟩ fun r => ∀ c : Dev nD,
      r.2.mem ((c : Thread nD τ).loc main_v1_0) = H (A0 m c) (A1 m c)
      ∧ r.2.mem ((c : Thread nD τ).loc main_v1_1) = HT (A0 m c) (A1 m c)
      ∧ r.2.mem ((c : Thread nD τ).loc main_arg0) = A0 m c
      ∧ r.2.mem ((c : Thread nD τ).loc main_arg1) = A1 m c :=
  (θ_run defs _ _).mono (fun _ h c => ⟨(h c).1.trans (final2 m c), (h c).2.1.trans (final3 m c), (h c).2.2⟩) (run_blocks m ρ)

/-! ## The reference -/

section
open Cert.NormRefIdeal.Read
variable (x : FVec Ideal S4096x2048 .f32) (g : FVec Ideal S2048 .f32)

theorem ref_unit (r : Fin 4096) (q : Fin 2048) : val_main_v12 (F := Ideal) x g (ix2 r q) = unit x (fun k => g (ix1 k)) r q := by
  unfold unit invRoot mean L eps
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_h (i : S4096x2048.Idx) : val_main_v13 (F := Ideal) x g i = H x g i :=
  (congrArg (val_main_v12 (F := Ideal) x g) (eq_ix2 (n0 := 4096) (n1 := 2048) i)).trans (ref_unit x g (i 0) (i 1))

theorem ref_ht (i : S2048x4096.Idx) : val_main_v15 (F := Ideal) x g i = HT x g i := by
  refine Eq.trans ?_ (ref_unit x g (i 1) (i 0))
  obtain ⟨q, r, rfl⟩ : ∃ (a : Fin 2048) (b : Fin 4096), i = ix2 a b := ⟨i 0, i 1, eq_ix2 (n0 := 2048) (n1 := 4096) i⟩
  show _ = val_main_v12 (F := Ideal) x g (ix2 r q)
  pointwise [val_main_v15, val_main_v14]
end

/-- The reference's arguments. -/
abbrev B0 (m : (ℓ : Loc Cert.NormRefIdeal.nD Cert.NormRefIdeal.τ Cert.NormRefIdeal.sig) → Buf (Elt Ideal) ℓ) (c : Dev Cert.NormRefIdeal.nD) := m ((c : Thread Cert.NormRefIdeal.nD Cert.NormRefIdeal.τ).loc Cert.NormRefIdeal.main_arg0)
abbrev B1 (m : (ℓ : Loc Cert.NormRefIdeal.nD Cert.NormRefIdeal.τ Cert.NormRefIdeal.sig) → Buf (Elt Ideal) ℓ) (c : Dev Cert.NormRefIdeal.nD) := m ((c : Thread Cert.NormRefIdeal.nD Cert.NormRefIdeal.τ).loc Cert.NormRefIdeal.main_arg1)

/-- The reference's run with the results at the same functions. -/
theorem ref_run (m : (ℓ : Loc Cert.NormRefIdeal.nD Cert.NormRefIdeal.τ Cert.NormRefIdeal.sig) → Buf (Elt Ideal) ℓ) (ρ : Dev Cert.NormRefIdeal.nD → PrngReg) :
    θ_run Cert.NormRefIdeal.defs (onTc (τ := Cert.NormRefIdeal.τ) (Cert.NormRefIdeal.main (F := Ideal))) ⟨m, fun _ => 0, ρ⟩ fun r => ∀ c : Dev Cert.NormRefIdeal.nD,
      r.2.mem ((c : Thread Cert.NormRefIdeal.nD Cert.NormRefIdeal.τ).loc Cert.NormRefIdeal.main_v13) = H (B0 m c) (B1 m c)
      ∧ r.2.mem ((c : Thread Cert.NormRefIdeal.nD Cert.NormRefIdeal.τ).loc Cert.NormRefIdeal.main_v15) = HT (B0 m c) (B1 m c)
      ∧ r.2.mem ((c : Thread Cert.NormRefIdeal.nD Cert.NormRefIdeal.τ).loc Cert.NormRefIdeal.main_arg0) = B0 m c
      ∧ r.2.mem ((c : Thread Cert.NormRefIdeal.nD Cert.NormRefIdeal.τ).loc Cert.NormRefIdeal.main_arg1) = B1 m c :=
  (θ_run Cert.NormRefIdeal.defs _ _).mono (fun _ h c =>
    ⟨((h c).1.trans (Cert.NormRefIdeal.Read.val_main_v13_eq (F := Ideal) _ _)).trans (funext fun i => ref_h _ _ i),
      ((h c).2.1.trans (Cert.NormRefIdeal.Read.val_main_v15_eq (F := Ideal) _ _)).trans (funext fun i => ref_ht _ _ i), (h c).2.2⟩)
    (Cert.NormRefIdeal.Value.run (F := Ideal) m ρ)

/-! ## The claims -/

/-- The kernel's frame: the generated one. -/
theorem frame_p : Cert.quiescent_Norm := fun m ρ _ => Cert.Norm.Gen.frame m ρ

/-- The idealized kernel's frame: the generated one. -/
theorem frame_pi : Cert.quiescent_NormIdeal := fun m ρ _ => Cert.NormIdeal.Gen.frame m ρ

/-- The reference's frame: its run read at the arguments. It declares no semaphore. -/
theorem frame_ri : Cert.quiescent_NormRefIdeal := fun m ρ _ =>
  (θ_run Cert.NormRefIdeal.defs _ _).mono
    (fun r h => ⟨fun c => (h c).2.2, sem_eq_zero_of_no_sems (by decide) r.2⟩)
    (Cert.NormRefIdeal.Value.run (F := Ideal) m ρ)

/-- The results agree: each side's run read at its results, from equal arguments. -/
theorem algebraic : Cert.algebraic_NormIdeal_NormRefIdeal := by
  intro m ρ m' ρ' _ hagree
  refine ⟨_, _, run m ρ, ?_⟩
  refine (θ_run Cert.NormRefIdeal.defs _ _).mono (fun r h c => ?_) (ref_run m' ρ')
  obtain ⟨e0, e1⟩ := hagree c
  exact ⟨(h c).1.trans (congrArg₂ H e0 e1), (h c).2.1.trans (congrArg₂ HT e0 e1), (h c).2.2⟩

end Cert.Proof.Norm

end
-- ==== Proof.DNorm.lean ====
/- Hand-written, untrusted: THE NORM'S GRADIENT: of the residual stream (in two formats) and of the gain. The kernel's results as
   functions of its arguments (`DX`, and `DGain`, a sum over all rows that the grid's sixteen points add up), each grid point's block
   of them, the reference's results as the same functions, and the claims. -/
module

public import proofs.«01_k».proof.Defs
public import proofs.«01_k».proof.Proof.Rms
public import proofs.«01_k».proof.Proof.Gen.DNorm.Frame
public import proofs.«01_k».proof.Proof.Gen.DNormIdeal.Value
public import proofs.«01_k».proof.Proof.Gen.DNormRefIdeal.Read
public import Idealize.ShloMosaic.Lib.Pointwise
public import Idealize.ShloMosaic.Lib.Pipeline.ValueKit.Acc
public import Idealize.ShloMosaic.Lib.Quiescent

@[expose] public section

set_option maxRecDepth 16384

noncomputable section

namespace Cert.Proof.DNorm

open Cert.DNormIdeal Cert.DNormIdeal.Gen Cert.DNormIdeal.Value Idealize.ShloMosaic Idealize.ShloMosaic.TcCoe Idealize.SL.Sem
open Idealize.ShloMosaic.Tactic Cert.Proof.Rms

/-- A row's length, as the programs write it. -/
def L : EReal := Ideal.ofBits .f32 0x45000000#32

/-- The reciprocal root of a row. -/
def root {n : ℕ} (x : FVec Ideal ⟨2, ![n, 2048]⟩ .f32) (r : Fin n) : EReal := invRoot L (∑ k : Fin 2048, x (ix2 r k) * x (ix2 r k))

/-- The gradient of one element, `g` being the gain along the row. -/
def grad {n : ℕ} (x dh dr : FVec Ideal ⟨2, ![n, 2048]⟩ .f32) (g : Fin 2048 → EReal) (r : Fin n) (q : Fin 2048) : EReal :=
  root x r * (dh (ix2 r q) * g q - x (ix2 r q) * root x r * Ideal.div (∑ k : Fin 2048, dh (ix2 r k) * g k * (x (ix2 r k) * root x r)) L) + dr (ix2 r q)

/-- The gradient of the residual stream. -/
def DX (x : FVec Ideal S4096x2048 .f32) (g : FVec Ideal S2048 .f32) (dh dr : FVec Ideal S4096x2048 .f32) : FVec Ideal S4096x2048 .f32 :=
  fun i => grad x dh dr (fun k => g (ix1 k)) (i 0) (i 1)

/-- A row's share of the gradient of the gain. -/
def share {n : ℕ} (x dh : FVec Ideal ⟨2, ![n, 2048]⟩ .f32) (q : Fin 2048) (k : Fin n) : EReal := dh (ix2 k q) * (x (ix2 k q) * root x k)

/-- The gradient of the gain. -/
def DGain (x dh : FVec Ideal S4096x2048 .f32) : FVec Ideal S1x2048 .f32 :=
  fun i => ∑ k : Fin 4096, share x dh (i 1) k

/-! ## What the body stores -/

section
variable (x dh dr : FVec Ideal S256x2048 .f32) (g acc : FVec Ideal S1x2048 .f32)

theorem root_apply (r : Fin 256) : k0_pay2 (F := Ideal) x (ix2 r (0 : Fin 1)) = root x r := by
  unfold root invRoot mean L eps
  pointwise [k0_pay2]

theorem unit_apply (r : Fin 256) (q : Fin 2048) : k0_pay3 (F := Ideal) x (ix2 r q) = x (ix2 r q) * root x r := by
  rw [← root_apply]
  pointwise [k0_pay3]

theorem grad_apply (r : Fin 256) (q : Fin 2048) : k0_pay4 (F := Ideal) x dh g dr (ix2 r q) = grad x dh dr (fun k => g (ix2 (0 : Fin 1) k)) r q := by
  unfold grad L
  simp only [← root_apply]
  pointwise [k0_pay4, k0_pay3]

/-- What a point adds to the gradient of the gain. -/
def part (q : Fin 2048) : EReal := ∑ k : Fin 256, share x dh q k

theorem step (y : S1x2048.Idx) : k0_pay1 (F := Ideal) (k0_pay3 (F := Ideal) x) dh acc y = acc y + part x dh (y 1) := by
  obtain ⟨a, q, rfl⟩ : ∃ (a : Fin 1) (b : Fin 2048), y = ix2 a b := ⟨y 0, y 1, eq_ix2 (n0 := 1) (n1 := 2048) y⟩
  show _ = acc (ix2 a q) + part x dh q
  unfold part share
  simp only [← unit_apply]
  obtain rfl := Subsingleton.elim a 0
  pointwise [k0_pay1]

theorem start (y : S1x2048.Idx) : k0_pay6 (F := Ideal) y = 0 := Ideal.ofBits_zero_f32
end

variable (m : (ℓ : Loc nD τ sig) → Buf (Elt Ideal) ℓ) (ρ : Dev nD → PrngReg)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- What a point leaves of the first two results. -/
theorem out4_eq (c : Dev nD) (t : Fin cfg0.N) : (outsAt0 m c t.val t.isLt).1 = k0_pay4 (F := Ideal) (iblk m c 0 t) (iblk m c 2 t) (iblk m c 1 t) (iblk m c 3 t) := by
  by_cases h : t.val % 16 = 0
  · rw [outsAt0_A m c t h]
    frame_out
  · rw [outsAt0_B m c t h]
    frame_out

theorem out5_eq (c : Dev nD) (t : Fin cfg0.N) : (outsAt0 m c t.val t.isLt).2.1 = k0_pay5 (F := Ideal) (iblk m c 0 t) (iblk m c 2 t) (iblk m c 1 t) (iblk m c 3 t) := by
  by_cases h : t.val % 16 = 0
  · rw [outsAt0_A m c t h]
    frame_out
  · rw [outsAt0_B m c t h]
    frame_out

/-- The sum over the rows after the first point … -/
theorem first (c : Dev nD) (t : Fin cfg0.N) (h : t.val % 16 = 0) (y : S1x2048.Idx) :
    (outsAt0 m c t.val t.isLt).2.2 y = 0 + part (iblk m c 0 t) (iblk m c 2 t) (y 1) := by
  rw [outsAt0_A m c t h]
  frame_out
  refine (step _ _ _ y).trans ?_
  exact congrArg (fun u : EReal => u + part (iblk m c 0 t) (iblk m c 2 t) (y 1)) (start y)

/-- … and after a later one. -/
theorem later (c : Dev nD) (t : Fin cfg0.N) (h : ¬t.val % 16 = 0) (y : S1x2048.Idx) :
    (outsAt0 m c t.val t.isLt).2.2 y
      = (outsAt0 m c (t.val - 1) (Nat.lt_of_le_of_lt (Nat.sub_le _ _) t.isLt)).2.2 y + part (iblk m c 0 t) (iblk m c 2 t) (y 1) := by
  rw [outsAt0_B m c t h]
  frame_out
  refine (step _ _ _ y).trans ?_
  rfl

/-! ## Which blocks a grid point reads and writes -/

theorem idx : ∀ t : Fin cfg0.N, (t.val < 16)
    ∧ (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_1.index t (0 : Fin 2) = 0 ∧ win0_1.index t (1 : Fin 2) = 0)
    ∧ (win0_6.index t (0 : Fin 2) = 0 ∧ win0_6.index t (1 : Fin 2) = 0) :=
  (by decide +kernel : ∀ t : Fin grid0.N, _)

/-- The row of the arrays at a row of the point's block. -/
def R (t : Fin cfg0.N) (r : Fin 256) : Fin 4096 := ⟨t.val * 256 + r.val, by have h := (idx t).1; omega⟩

theorem blk0 (c : Dev nD) (t : Fin cfg0.N) (r : Fin 256) (k : Fin 2048) : iblk m c 0 t (ix2 r k) = A0 m c (ix2 (R t r) k) := by
  obtain ⟨e0, e1⟩ := (idx t).2.1
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 256 + 1 * r.val = t.val * 256 + r.val; omega
  | ⟨1, _⟩ => show win0_0.index t (1 : Fin 2) * 2048 + 1 * k.val = k.val; omega

theorem blk2 (c : Dev nD) (t : Fin cfg0.N) (r : Fin 256) (k : Fin 2048) : iblk m c 2 t (ix2 r k) = A2 m c (ix2 (R t r) k) := by
  obtain ⟨e0, e1⟩ := (idx t).2.2.1
  show V m c main_arg2 (((cfg0.win 2).blk t).view.emb (ix2 r k)) = _
  rw [V_main_arg2]
  refine congrArg (A2 m c) (funext fun a => Fin.ext ?_)
  match a with
  | ⟨0, _⟩ => show win0_2.index t (0 : Fin 2) * 256 + 1 * r.val = t.val * 256 + r.val; omega
  | ⟨1, _⟩ => show win0_2.index t (1 : Fin 2) * 2048 + 1 * k.val = k.val; omega

theorem blk3 (c : Dev nD) (t : Fin cfg0.N) (r : Fin 256) (k : Fin 2048) : iblk m c 3 t (ix2 r k) = A3 m c (ix2 (R t r) k) := by
  obtain ⟨e0, e1⟩ := (idx t).2.2.2.1
  show V m c main_arg3 (((cfg0.win 3).blk t).view.emb (ix2 r k)) = _
  rw [V_main_arg3]
  refine congrArg (A3 m c) (funext fun a => Fin.ext ?_)
  match a with
  | ⟨0, _⟩ => show win0_3.index t (0 : Fin 2) * 256 + 1 * r.val = t.val * 256 + r.val; omega
  | ⟨1, _⟩ => show win0_3.index t (1 : Fin 2) * 2048 + 1 * k.val = k.val; omega

/-- The gain as the region finds it: one row. -/
theorem V_gain (c : Dev nD) : V m c main_v0 = broadcastInDim S1x2048 ![1] bcast_S2048_S1x2048_1 (A1 m c) := by sl_kernel_rfl

theorem blk1 (c : Dev nD) (t : Fin cfg0.N) (k : Fin 2048) : iblk m c 1 t (ix2 (0 : Fin 1) k) = A1 m c (ix1 k) := by
  obtain ⟨e0, e1⟩ := (idx t).2.2.2.2.2.2.1
  show V m c main_v0 (((cfg0.win 1).blk t).view.emb (ix2 (0 : Fin 1) k)) = _
  have h : (((cfg0.win 1).blk t).view.emb (ix2 (0 : Fin 1) k : S1x2048.Idx)) = (ix2 (0 : Fin 1) k : S1x2048.Idx) := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  refine (congrArg (V m c main_v0) h).trans ?_
  rw [V_gain]
  pointwise

theorem emb6 (t : Fin cfg0.N) (y : S1x2048.Idx) : (((cfg0.win 6).blk t).view.emb y 1).val = (y 1).val := by
  obtain ⟨e0, e1⟩ := (idx t).2.2.2.2.2.2.2
  show win0_6.index t (1 : Fin 2) * 2048 + 1 * (y 1).val = (y 1).val; omega

theorem emb4 (t : Fin cfg0.N) (r : Fin 256) (q : Fin 2048) : ((cfg0.win 4).blk t).view.emb (ix2 r q : S256x2048.Idx) = (ix2 (R t r) q : S4096x2048.Idx) := by
  obtain ⟨e0, e1⟩ := (idx t).2.2.2.2.1
  funext a; apply Fin.ext
  match a with
  | ⟨0, _⟩ => show win0_4.index t (0 : Fin 2) * 256 + 1 * r.val = t.val * 256 + r.val; omega
  | ⟨1, _⟩ => show win0_4.index t (1 : Fin 2) * 2048 + 1 * q.val = q.val; omega

theorem emb5 (t : Fin cfg0.N) (r : Fin 256) (q : Fin 2048) : ((cfg0.win 5).blk t).view.emb (ix2 r q : S256x2048.Idx) = (ix2 (R t r) q : S4096x2048.Idx) := by
  obtain ⟨e0, e1⟩ := (idx t).2.2.2.2.2.1
  funext a; apply Fin.ext
  match a with
  | ⟨0, _⟩ => show win0_5.index t (0 : Fin 2) * 256 + 1 * r.val = t.val * 256 + r.val; omega
  | ⟨1, _⟩ => show win0_5.index t (1 : Fin 2) * 2048 + 1 * q.val = q.val; omega

/-! ## What a point writes back -/

theorem root_eq (c : Dev nD) (t : Fin cfg0.N) (r : Fin 256) : root (iblk m c 0 t) r = root (A0 m c) (R t r) :=
  congrArg (invRoot L) (Finset.sum_congr rfl fun k _ => congrArg₂ (fun u v : EReal => u * v) (blk0 m c t r k) (blk0 m c t r k))

theorem grad_eq (c : Dev nD) (t : Fin cfg0.N) (r : Fin 256) (q : Fin 2048) :
    grad (iblk m c 0 t) (iblk m c 2 t) (iblk m c 3 t) (fun k => iblk m c 1 t (ix2 (0 : Fin 1) k)) r q = DX (A0 m c) (A1 m c) (A2 m c) (A3 m c) (ix2 (R t r) q) := by
  unfold DX
  show grad _ _ _ _ _ _ = grad _ _ _ _ (R t r) q
  unfold grad
  rw [root_eq m c t r]
  have hs : ∀ k : Fin 2048, (fun u v : EReal => u * v) (iblk m c 2 t (ix2 r k)) (iblk m c 1 t (ix2 (0 : Fin 1) k)) = (fun u v : EReal => u * v) ((A2 m c) (ix2 (R t r) k)) ((A1 m c) (ix1 k)) :=
    fun k => congrArg₂ (fun u v : EReal => u * v) (blk2 m c t r k) (blk1 m c t k)
  refine congrArg₂ (fun u v : EReal => u + v) (congrArg (fun u : EReal => root (A0 m c) (R t r) * u) (congrArg₂ (fun u v : EReal => u - v) (hs q) ?_)) (blk3 m c t r q)
  refine congrArg₂ (fun u v : EReal => u * root (A0 m c) (R t r) * Ideal.div v L) (blk0 m c t r q) (Finset.sum_congr rfl fun k _ => ?_)
  exact congrArg₂ (fun u v : EReal => u * (v * root (A0 m c) (R t r))) (hs k) (blk0 m c t r k)

theorem flushed4_eq (c : Dev nD) (t : Fin cfg0.N) : (dats m 0 c).flushed 4 t = ((cfg0.win 4).blk t).view.read (Elt Ideal) (DX (A0 m c) (A1 m c) (A2 m c) (A3 m c)) := by
  rw [flushed4]
  funext y
  refine (congrFun (out4_eq m c t) y).trans ?_
  refine (congrArg (k0_pay4 (F := Ideal) (iblk m c 0 t) (iblk m c 2 t) (iblk m c 1 t) (iblk m c 3 t)) (eq_ix2 (n0 := 256) (n1 := 2048) y)).trans ?_
  refine (grad_apply (iblk m c 0 t) (iblk m c 2 t) (iblk m c 3 t) (iblk m c 1 t) (y 0) (y 1)).trans ((grad_eq m c t (y 0) (y 1)).trans ?_)
  exact (congrArg (DX (A0 m c) (A1 m c) (A2 m c) (A3 m c)) ((congrArg (((cfg0.win 4).blk t).view.emb) (eq_ix2 (n0 := 256) (n1 := 2048) y)).trans (emb4 t (y 0) (y 1)))).symm

theorem flushed5_eq (c : Dev nD) (t : Fin cfg0.N) : (dats m 0 c).flushed 5 t = ((cfg0.win 5).blk t).view.read (Elt Ideal) (DX (A0 m c) (A1 m c) (A2 m c) (A3 m c)) := by
  rw [flushed5]
  funext y
  refine (congrFun (out5_eq m c t) y).trans ?_
  refine (congrArg (k0_pay5 (F := Ideal) (iblk m c 0 t) (iblk m c 2 t) (iblk m c 1 t) (iblk m c 3 t)) (eq_ix2 (n0 := 256) (n1 := 2048) y)).trans ?_
  refine (grad_apply (iblk m c 0 t) (iblk m c 2 t) (iblk m c 3 t) (iblk m c 1 t) (y 0) (y 1)).trans ((grad_eq m c t (y 0) (y 1)).trans ?_)
  exact (congrArg (DX (A0 m c) (A1 m c) (A2 m c) (A3 m c)) ((congrArg (((cfg0.win 5).blk t).view.emb) (eq_ix2 (n0 := 256) (n1 := 2048) y)).trans (emb5 t (y 0) (y 1)))).symm

/-- The whole sum, at the point that writes it back. -/
theorem flushed6_eq (c : Dev nD) (t : Fin cfg0.N) (hf : (cfg0.win 6).flush t = true) : (dats m 0 c).flushed 6 t = ((cfg0.win 6).blk t).view.read (Elt Ideal) (DGain (A0 m c) (A2 m c)) := by
  have h3 : t.val % 16 = 15 := (flush0_6 t).mp hf
  have ht := (idx t).1
  rw [flushed6]
  funext y
  refine (Pipeline.eq_sum_fin_of_reset_step_apply_of_flush (fun n h => (outsAt0 m c n h).2.2) 16 (fun _ => (0 : EReal))
    (fun t y => part (iblk m c 0 t) (iblk m c 2 t) (y 1)) (first m c) (later m c) t h3 y).trans ?_
  rw [zero_add]
  refine (Fin.sum_mul_add_congr (f := share (A0 m c) (A2 m c) (y 1)) (fun s k hl => ?_)).trans ?_
  · refine (congrArg₂ (fun u v : EReal => u * v) (blk2 m c _ k (y 1)) (congrArg₂ (fun u v : EReal => u * v) (blk0 m c _ k (y 1)) (root_eq m c _ k))).trans ?_
    have hR : ∀ h, R ⟨16 * (t.val / 16) + s.val, h⟩ k = (⟨s.val * 256 + k.val, hl⟩ : Fin 4096) := fun h => Fin.ext (by show (16 * (t.val / 16) + s.val) * 256 + k.val = s.val * 256 + k.val; omega)
    rw [hR]
    rfl
  · have he : (y 1 : Fin 2048) = ((cfg0.win 6).blk t).view.emb y 1 := Fin.ext (emb6 t y).symm
    exact congrArg (fun q : Fin 2048 => ∑ k : Fin 4096, share (A0 m c) (A2 m c) q k) he

/-- Every index of a result is some point's. -/
theorem spot (i : S4096x2048.Idx) : ∃ (t : Fin cfg0.N) (r : Fin 256) (q : Fin 2048), (ix2 (R t r) q : S4096x2048.Idx) = i := by
  have b0 : (i 0).val < 4096 := (i 0).isLt
  refine ⟨⟨(i 0).val / 256, lt_of_lt_of_eq (by omega) (show 16 = cfg0.N from N_0.symm)⟩, ⟨(i 0).val % 256, Nat.mod_lt _ (by decide)⟩, i 1, funext fun a => Fin.ext ?_⟩
  match a with
  | ⟨0, _⟩ => show (i 0).val / 256 * 256 + (i 0).val % 256 = (i 0).val; omega
  | ⟨1, _⟩ => rfl

theorem final4 (c : Dev nD) : (dats m 0 c).arrAt 4 cfg0.N = DX (A0 m c) (A1 m c) (A2 m c) (A3 m c) :=
  (dats m 0 c).arrAt_eq_of_cover 4 _ (fun t _ => flushed4_eq m c t) (fun i => by
    obtain ⟨t, r, q, h⟩ := spot i
    exact ⟨t, flush0_4 t, Eq.subst (motive := fun z => z ∈ ((cfg0.win 4).blk t).view.set) ((emb4 t r q).trans h) (((cfg0.win 4).blk t).view.emb_mem_set _)⟩)

theorem final5 (c : Dev nD) : (dats m 0 c).arrAt 5 cfg0.N = DX (A0 m c) (A1 m c) (A2 m c) (A3 m c) :=
  (dats m 0 c).arrAt_eq_of_cover 5 _ (fun t _ => flushed5_eq m c t) (fun i => by
    obtain ⟨t, r, q, h⟩ := spot i
    exact ⟨t, flush0_5 t, Eq.subst (motive := fun z => z ∈ ((cfg0.win 5).blk t).view.set) ((emb5 t r q).trans h) (((cfg0.win 5).blk t).view.emb_mem_set _)⟩)

theorem final6 (c : Dev nD) : (dats m 0 c).arrAt 6 cfg0.N = DGain (A0 m c) (A2 m c) :=
  (dats m 0 c).arrAt_eq_of_cover 6 _ (fun t hf => flushed6_eq m c t hf) (fun i => by
    have hN : 15 < cfg0.N := lt_of_lt_of_eq (by decide) (show 16 = cfg0.N from N_0.symm)
    refine ⟨⟨15, hN⟩, (flush0_6 _).mpr rfl, ?_⟩
    have h : ((cfg0.win 6).blk ⟨15, hN⟩).view.emb (i : S1x2048.Idx) = i := by
      obtain ⟨e0, e1⟩ := (idx ⟨15, hN⟩).2.2.2.2.2.2.2
      funext a; apply Fin.ext
      match a with
      | ⟨0, _⟩ => show win0_6.index ⟨15, hN⟩ (0 : Fin 2) * 1 + 1 * (i 0).val = (i 0).val; omega
      | ⟨1, _⟩ => show win0_6.index ⟨15, hN⟩ (1 : Fin 2) * 2048 + 1 * (i 1).val = (i 1).val; omega
    exact Eq.subst (motive := fun z => z ∈ ((cfg0.win 6).blk ⟨15, hN⟩).view.set) h (((cfg0.win 6).blk ⟨15, hN⟩).view.emb_mem_set _))

/-- The kernel's run with the results at their functions of the arguments. -/
theorem run : θ_run defs (onTc (τ := τ) (main (F := Ideal))) ⟨m, fun _ => 0, ρ⟩ fun r => ∀ c : Dev nD,
      r.2.mem ((c : Thread nD τ).loc main_v1_0) = DX (A0 m c) (A1 m c) (A2 m c) (A3 m c)
      ∧ r.2.mem ((c : Thread nD τ).loc main_v1_1) = DX (A0 m c) (A1 m c) (A2 m c) (A3 m c)
      ∧ r.2.mem ((c : Thread nD τ).loc main_v1_2) = DGain (A0 m c) (A2 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c :=
  (θ_run defs _ _).mono (fun _ h c => by
    obtain ⟨h0, h1, h2, hr⟩ := h c
    exact ⟨h0.trans (final4 m c), h1.trans (final5 m c), h2.trans (final6 m c), hr⟩) (run_blocks m ρ)

/-! ## The reference -/

section
open Cert.DNormRefIdeal.Read
variable (x : FVec Ideal S4096x2048 .f32) (g : FVec Ideal S2048 .f32) (dh dr : FVec Ideal S4096x2048 .f32)

theorem ref_mean (r : Fin 4096) : val_main_v6 (F := Ideal) x (ix2 r (0 : Fin 1)) = mean L (∑ k : Fin 2048, x (ix2 r k) * x (ix2 r k)) := by
  unfold mean L eps
  pointwise [val_main_v6, val_main_v5, val_main_v4, val_main_v3, val_main_v2, val_main_v1, val_main_v0, val_main_cst, val_main_cst_0, val_main_cst_1]

theorem ref_root (r : Fin 4096) : val_main_v7 (F := Ideal) x (ix2 r (0 : Fin 1)) = root x r :=
  congrArg Ideal.rsqrt (ref_mean x r)

/-- The reference's derivative of the reciprocal root, spread over the row. -/
theorem ref_slope (r : Fin 4096) : val_main_v29 (F := Ideal) x g dh (ix2 r (0 : Fin 1))
    = Ideal.div ((∑ k : Fin 2048, x (ix2 r k) * (dh (ix2 r k) * g (ix1 k))) * (((-(1 / 2) : ℝ) : EReal) * Ideal.div (root x r) (mean L (∑ k : Fin 2048, x (ix2 r k) * x (ix2 r k))))) L := by
  rw [← ref_root, ← ref_mean, ← half_eq]
  unfold L
  pointwise [val_main_v29, val_main_v28, val_main_v27, val_main_v24, val_main_v23, val_main_v22, val_main_v20, val_main_v19, val_main_v13, val_main_v10, val_main_v9, val_main_v8, val_main_cst_2, val_main_cst_5, val_main_cst_6]

theorem ref_dx (i : S4096x2048.Idx) : val_main_v36 (F := Ideal) x g dh dr i = DX x g dh dr i := by
  obtain ⟨r, q, rfl⟩ : ∃ (r : Fin 4096) (q : Fin 2048), i = ix2 r q := ⟨i 0, i 1, eq_ix2 (n0 := 4096) (n1 := 2048) i⟩
  show _ = grad x dh dr (fun k => g (ix1 k)) r q
  unfold grad root
  have hb := back (fun k : Fin 2048 => dh (ix2 r k) * g (ix1 k)) (fun k => x (ix2 r k)) (dh (ix2 r q) * g (ix1 q)) (x (ix2 r q)) (d := 2048) (by norm_num)
    (s := ∑ k : Fin 2048, x (ix2 r k) * x (ix2 r k)) (Finset.sum_nonneg fun k _ => mul_self_nonneg _)
  rw [← len2048] at hb
  refine Eq.trans ?_ (congrArg (fun u : EReal => u + dr (ix2 r q)) hb.symm)
  have h1 : val_main_v30 (F := Ideal) x g dh (ix1 r) = val_main_v29 (F := Ideal) x g dh (ix2 r (0 : Fin 1)) := by
    pointwise [val_main_v30, val_main_cst_7]
    exact Fin.sum_univ_one _
  have h2 := h1.trans (ref_slope x g dh r)
  unfold root L at h2
  rw [← h2]
  have h3 := ref_root x r
  unfold root L at h3
  rw [← h3]
  pointwise [val_main_v36, val_main_v35, val_main_v34, val_main_v33, val_main_v32, val_main_v31, val_main_v26, val_main_v25, val_main_v20, val_main_v19, val_main_v13]

theorem ref_dg (i : S1x2048.Idx) : val_main_v38 (F := Ideal) x dh i = DGain x dh i := by
  obtain ⟨y0, q, rfl⟩ : ∃ (a : Fin 1) (b : Fin 2048), i = ix2 a b := ⟨i 0, i 1, eq_ix2 (n0 := 1) (n1 := 2048) i⟩
  show _ = ∑ k : Fin 4096, share x dh q k
  unfold share
  simp only [← ref_root]
  refine Eq.trans ?_ (Finset.sum_congr rfl fun k _ => mul_comm (G := EReal) _ _)
  pointwise [val_main_v38, val_main_v21, val_main_v18, val_main_v17, val_main_v16, val_main_v12, val_main_v11, val_main_cst_3, val_main_cst_4]
  exact Fin.sum_univ_one _
end

/-- The reference's arguments. -/
abbrev B0 (m : (ℓ : Loc Cert.DNormRefIdeal.nD Cert.DNormRefIdeal.τ Cert.DNormRefIdeal.sig) → Buf (Elt Ideal) ℓ) (c : Dev Cert.DNormRefIdeal.nD) := m ((c : Thread Cert.DNormRefIdeal.nD Cert.DNormRefIdeal.τ).loc Cert.DNormRefIdeal.main_arg0)
abbrev B1 (m : (ℓ : Loc Cert.DNormRefIdeal.nD Cert.DNormRefIdeal.τ Cert.DNormRefIdeal.sig) → Buf (Elt Ideal) ℓ) (c : Dev Cert.DNormRefIdeal.nD) := m ((c : Thread Cert.DNormRefIdeal.nD Cert.DNormRefIdeal.τ).loc Cert.DNormRefIdeal.main_arg1)
abbrev B2 (m : (ℓ : Loc Cert.DNormRefIdeal.nD Cert.DNormRefIdeal.τ Cert.DNormRefIdeal.sig) → Buf (Elt Ideal) ℓ) (c : Dev Cert.DNormRefIdeal.nD) := m ((c : Thread Cert.DNormRefIdeal.nD Cert.DNormRefIdeal.τ).loc Cert.DNormRefIdeal.main_arg2)
abbrev B3 (m : (ℓ : Loc Cert.DNormRefIdeal.nD Cert.DNormRefIdeal.τ Cert.DNormRefIdeal.sig) → Buf (Elt Ideal) ℓ) (c : Dev Cert.DNormRefIdeal.nD) := m ((c : Thread Cert.DNormRefIdeal.nD Cert.DNormRefIdeal.τ).loc Cert.DNormRefIdeal.main_arg3)

/-- The reference's run with the results at the same functions. -/
theorem ref_run (m : (ℓ : Loc Cert.DNormRefIdeal.nD Cert.DNormRefIdeal.τ Cert.DNormRefIdeal.sig) → Buf (Elt Ideal) ℓ) (ρ : Dev Cert.DNormRefIdeal.nD → PrngReg) :
    θ_run Cert.DNormRefIdeal.defs (onTc (τ := Cert.DNormRefIdeal.τ) (Cert.DNormRefIdeal.main (F := Ideal))) ⟨m, fun _ => 0, ρ⟩ fun r => ∀ c : Dev Cert.DNormRefIdeal.nD,
      r.2.mem ((c : Thread Cert.DNormRefIdeal.nD Cert.DNormRefIdeal.τ).loc Cert.DNormRefIdeal.main_v36) = DX (B0 m c) (B1 m c) (B2 m c) (B3 m c)
      ∧ r.2.mem ((c : Thread Cert.DNormRefIdeal.nD Cert.DNormRefIdeal.τ).loc Cert.DNormRefIdeal.main_v37) = DX (B0 m c) (B1 m c) (B2 m c) (B3 m c)
      ∧ r.2.mem ((c : Thread Cert.DNormRefIdeal.nD Cert.DNormRefIdeal.τ).loc Cert.DNormRefIdeal.main_v38) = DGain (B0 m c) (B2 m c)
      ∧ r.2.mem ((c : Thread Cert.DNormRefIdeal.nD Cert.DNormRefIdeal.τ).loc Cert.DNormRefIdeal.main_arg0) = B0 m c
      ∧ r.2.mem ((c : Thread Cert.DNormRefIdeal.nD Cert.DNormRefIdeal.τ).loc Cert.DNormRefIdeal.main_arg1) = B1 m c
      ∧ r.2.mem ((c : Thread Cert.DNormRefIdeal.nD Cert.DNormRefIdeal.τ).loc Cert.DNormRefIdeal.main_arg2) = B2 m c
      ∧ r.2.mem ((c : Thread Cert.DNormRefIdeal.nD Cert.DNormRefIdeal.τ).loc Cert.DNormRefIdeal.main_arg3) = B3 m c :=
  (θ_run Cert.DNormRefIdeal.defs _ _).mono (fun _ h c => by
    obtain ⟨h0, h1, h2, hr⟩ := h c
    refine ⟨(h0.trans (Cert.DNormRefIdeal.Read.val_main_v36_eq (F := Ideal) _ _ _ _)).trans ?_, (h1.trans (Cert.DNormRefIdeal.Read.val_main_v37_eq (F := Ideal) _ _ _ _)).trans ?_,
      (h2.trans (Cert.DNormRefIdeal.Read.val_main_v38_eq (F := Ideal) _ _)).trans ?_, hr⟩
    · exact funext fun i => ref_dx _ _ _ _ i
    · exact funext fun i => ref_dx _ _ _ _ i
    · exact funext fun i => ref_dg _ _ i)
    (Cert.DNormRefIdeal.Value.run (F := Ideal) m ρ)

/-! ## The claims -/

/-- The kernel's frame: the generated one. -/
theorem frame_p : Cert.quiescent_DNorm := fun m ρ _ => Cert.DNorm.Gen.frame m ρ

/-- The idealized kernel's frame: the generated one. -/
theorem frame_pi : Cert.quiescent_DNormIdeal := fun m ρ _ => Cert.DNormIdeal.Gen.frame m ρ

/-- The reference's frame: its run read at the arguments. It declares no semaphore. -/
theorem frame_ri : Cert.quiescent_DNormRefIdeal := fun m ρ _ =>
  (θ_run Cert.DNormRefIdeal.defs _ _).mono
    (fun r h => ⟨fun c => (h c).2.2.2, sem_eq_zero_of_no_sems (by decide) r.2⟩)
    (Cert.DNormRefIdeal.Value.run (F := Ideal) m ρ)

/-- The results agree: each side's run read at its results, from equal arguments. -/
theorem algebraic : Cert.algebraic_DNormIdeal_DNormRefIdeal := by
  intro m ρ m' ρ' _ hagree
  refine ⟨_, _, _, run m ρ, ?_⟩
  refine (θ_run Cert.DNormRefIdeal.defs _ _).mono (fun r h c => ?_) (ref_run m' ρ')
  obtain ⟨e0, e1, e2, e3⟩ := hagree c
  obtain ⟨h0, h1, h2, hr⟩ := h c
  exact ⟨h0.trans (congr (congr (congrArg₂ DX e0 e1) e2) e3), h1.trans (congr (congr (congrArg₂ DX e0 e1) e2) e3), h2.trans (congrArg₂ DGain e0 e2), hr⟩

end Cert.Proof.DNorm

end
-- ==== Proof.DGate.lean ====
/- Hand-written, untrusted: THE RETENTION'S GATE AND GROUP NORM, backward: the gradients of its output and of the gate. The kernel's
   results as functions of its arguments (`DO`, `DG`), each grid point's block of them, the reference's results as the same functions,
   and the claims, of incoming gradients that are finite. -/
module

public import proofs.«01_k».proof.Defs
public import proofs.«01_k».proof.Proof.Rms
public import proofs.«01_k».proof.Proof.Gate
public import proofs.«01_k».proof.Proof.Gen.Pre_du_finite
public import proofs.«01_k».proof.Proof.Gen.DGate.Frame
public import proofs.«01_k».proof.Proof.Gen.DGateIdeal.Value
public import proofs.«01_k».proof.Proof.Gen.DGateRefIdeal.Read
public import Idealize.ShloMosaic.Lib.Pointwise
public import Idealize.ShloMosaic.Lib.Pipeline.ValueKit.Acc
public import Idealize.ShloMosaic.Lib.Quiescent

@[expose] public section

set_option maxRecDepth 16384

noncomputable section

namespace Cert.Proof.DGate

open Cert.DGateIdeal Cert.DGateIdeal.Gen Cert.DGateIdeal.Value Idealize.ShloMosaic Idealize.ShloMosaic.TcCoe Idealize.SL.Sem
open Idealize.ShloMosaic.Tactic Cert.Proof.Rms Cert.Proof.Gate

/-- A head's width, as the programs write it. -/
def L : EReal := Ideal.ofBits .f32 0x43800000#32

/-- A row of one head. -/
abbrev Row := Fin 256 → EReal

/-- Its reciprocal root. -/
def root (X : Row) : EReal := invRoot L (∑ j : Fin 256, X j * X j)

/-- The gradient of the retention's output: `U` incoming, `X` the output, `G` the gate. -/
def dout (U X G : Row) (k : Fin 256) : EReal :=
  root X * (U k * (G k * sg (G k)) - X k * root X * Ideal.div (∑ j : Fin 256, U j * (G j * sg (G j)) * (X j * root X)) L)

/-- The gradient of the gate. -/
def dgate (U X G : Row) (k : Fin 256) : EReal := U k * (X k * root X) * (sg (G k) * (one + G k * (one - sg (G k))))

/-! ## The slope of the gate -/

/-- A normalised element is a real: of an infinite row the reciprocal root is zero. -/
theorem unit_real (X : Row) (k : Fin 256) : ∃ u : ℝ, X k * root X = (u : EReal) := by
  have hs : (0 : EReal) ≤ ∑ j : Fin 256, X j * X j := Finset.sum_nonneg fun j _ => Rms.mul_self_nonneg (X j)
  have h0 : X k * X k = ⊤ → root X = 0 := by
    intro h
    have e : ∑ j : Fin 256, X j * X j = ⊤ :=
      top_le_iff.mp (h ▸ Finset.single_le_sum (f := fun j => X j * X j) (fun j _ => Rms.mul_self_nonneg (X j)) (Finset.mem_univ k))
    obtain ⟨c, _, hc⟩ := eps_pos
    unfold root invRoot mean
    rw [e, L, len256, div_real ⊤ (by norm_num), EReal.top_mul_of_pos (by exact_mod_cast (by norm_num : (0 : ℝ) < (256 : ℝ)⁻¹)), hc, EReal.top_add_coe]
    rfl
  obtain ⟨r, _, hr, _⟩ := inv_real (d := 256) (by norm_num) hs
  have hr' : root X = (r : EReal) := by unfold root L; rw [len256]; exact hr
  generalize X k = x at h0 ⊢
  induction x using EReal.rec with
  | bot => exact ⟨0, by rw [h0 (by simp)]; simp⟩
  | top => exact ⟨0, by rw [h0 (by simp)]; simp⟩
  | coe x => exact ⟨x * r, by rw [hr', EReal.coe_mul]⟩

theorem one_eq : one = ((1 : ℝ) : EReal) := by unfold one; rw [Ideal.ofBits_one_f32]; rfl

/-- The logistic function of a real is a real … -/
theorem sg_real (g : ℝ) : ∃ s : ℝ, sg (g : EReal) = (s : EReal) := by
  refine ⟨(1 + Real.exp (-g))⁻¹, ?_⟩
  rw [← sg_neg, one_eq]
  show Ideal.div ((1 : ℝ) : EReal) (((1 : ℝ) : EReal) + ((Real.exp (-g) : ℝ) : EReal)) = _
  rw [← EReal.coe_add, div_real _ (by have := Real.exp_pos (-g); linarith), ← EReal.coe_mul, one_mul]

/-- … one at the top … -/
theorem sg_top : sg ⊤ = ((1 : ℝ) : EReal) := by
  rw [← sg_neg, one_eq]
  show Ideal.div ((1 : ℝ) : EReal) (((1 : ℝ) : EReal) + 0) = _
  rw [add_zero, div_real _ one_ne_zero]
  simp

/-- … and zero at the bottom. -/
theorem sg_bot : sg ⊥ = 0 := by
  rw [← sg_neg, one_eq]
  show Ideal.div ((1 : ℝ) : EReal) (((1 : ℝ) : EReal) + ⊤) = _
  rw [EReal.coe_add_top]
  unfold Ideal.div
  simp

/-- The two forms of the gate's slope agree at a real. -/
theorem slope (c : ℝ) (g : EReal) :
    (c : EReal) * sg g + g * (c : EReal) * (sg g * (one - sg g)) = (c : EReal) * (sg g * (one + g * (one - sg g))) := by
  induction g using EReal.rec with
  | bot => rw [sg_bot]; simp
  | top => rw [sg_top, one_eq, ← EReal.coe_sub]; simp
  | coe g =>
    obtain ⟨s, hs⟩ := sg_real g
    rw [hs, one_eq]
    simp only [← EReal.coe_mul, ← EReal.coe_add, ← EReal.coe_sub]
    exact congrArg _ (by ring)

/-! ## What the body stores -/

/-- A block's row. -/
def brow (x : S512x256.Idx → EReal) (r : Fin 512) : Row := fun k => x (ix2 r k)

section
variable (u : FVec Ideal S512x256 .bf16) (x g : FVec Ideal S512x256 .f32)

theorem root_apply (r : Fin 512) : k0_pay2 (F := Ideal) x (ix2 r (0 : Fin 1)) = root (brow x r) := by
  unfold root brow invRoot mean L eps
  pointwise [k0_pay2]

theorem unit_apply (r : Fin 512) (q : Fin 256) : k0_pay3 (F := Ideal) x (ix2 r q) = brow x r q * root (brow x r) := by
  rw [← root_apply]
  unfold brow
  pointwise [k0_pay3]

theorem sg_apply (r : Fin 512) (q : Fin 256) : k0_pay4 (F := Ideal) g (ix2 r q) = sg (brow g r q) := by
  unfold sg brow one
  pointwise [k0_pay4]

theorem gated_apply (r : Fin 512) (q : Fin 256) : k0_pay5 (F := Ideal) g u (ix2 r q) = brow u r q * (brow g r q * sg (brow g r q)) := by
  rw [← sg_apply]
  unfold brow
  pointwise [k0_pay5]

theorem dout_apply (r : Fin 512) (q : Fin 256) :
    k0_pay1 (F := Ideal) (k0_pay2 (F := Ideal) x) (k0_pay3 (F := Ideal) x) (k0_pay5 (F := Ideal) g u) (k0_pay7 (F := Ideal) x g u) (ix2 r q)
      = dout (brow u r) (brow x r) (brow g r) q := by
  unfold dout L
  simp only [← unit_apply, ← gated_apply]
  rw [← root_apply]
  pointwise [k0_pay1, k0_pay7]

theorem dgate_apply (r : Fin 512) (q : Fin 256) : k0_pay6 (F := Ideal) x g u (ix2 r q) = dgate (brow u r) (brow x r) (brow g r) q := by
  unfold dgate
  rw [← unit_apply, ← sg_apply]
  unfold brow one
  pointwise [k0_pay6]

theorem out3_eq : out0_3 (F := Ideal) u x g = k0_pay1 (F := Ideal) (k0_pay2 (F := Ideal) x) (k0_pay3 (F := Ideal) x) (k0_pay5 (F := Ideal) g u) (k0_pay7 (F := Ideal) x g u) := by
  frame_out

theorem out4_eq : out0_4 (F := Ideal) u x g = k0_pay6 (F := Ideal) x g u := by
  frame_out
end

/-! ## The results -/

/-- The column of head `h`'s channel `k`. -/
def hcol (h : Fin 4) (k : Fin 256) : Fin 1024 := ⟨h.val * 256 + k.val, by omega⟩

/-- The column of the projected activations that holds its gate. -/
def zcol (h : Fin 4) (k : Fin 256) : Fin 14848 := ⟨3072 + (h.val * 256 + k.val), by omega⟩

/-- A head and a channel of a column. -/
def hd (i : Fin 1024) : Fin 4 := ⟨i.val / 256, by omega⟩
def ch (i : Fin 1024) : Fin 256 := ⟨i.val % 256, by omega⟩

theorem hcol_hd (i : Fin 1024) : hcol (hd i) (ch i) = i := Fin.ext (by show i.val / 256 * 256 + i.val % 256 = i.val; omega)
theorem hd_hcol (h : Fin 4) (k : Fin 256) : hd (hcol h k) = h := Fin.ext (by show (h.val * 256 + k.val) / 256 = h.val; omega)
theorem ch_hcol (h : Fin 4) (k : Fin 256) : ch (hcol h k) = k := Fin.ext (by show (h.val * 256 + k.val) % 256 = k.val; omega)

/-- A head's row of an array, and of the gates. -/
def row (x : S4096x1024.Idx → EReal) (r : Fin 4096) (h : Fin 4) : Row := fun k => x (ix2 r (hcol h k))
def grow (z : FVec Ideal S4096x14848 .f32) (r : Fin 4096) (h : Fin 4) : Row := fun k => z (ix2 r (zcol h k))

/-- The gradient of the retention's output. -/
def DO (u : FVec Ideal S4096x1024 .bf16) (x : FVec Ideal S4096x1024 .f32) (z : FVec Ideal S4096x14848 .f32) : FVec Ideal S4096x1024 .f32 :=
  fun i => dout (row u (i 0) (hd (i 1))) (row x (i 0) (hd (i 1))) (grow z (i 0) (hd (i 1))) (ch (i 1))

/-- The gradient of the gate. -/
def DG (u : FVec Ideal S4096x1024 .bf16) (x : FVec Ideal S4096x1024 .f32) (z : FVec Ideal S4096x14848 .f32) : FVec Ideal S4096x1024 .bf16 :=
  fun i => dgate (row u (i 0) (hd (i 1))) (row x (i 0) (hd (i 1))) (grow z (i 0) (hd (i 1))) (ch (i 1))

variable (m : (ℓ : Loc nD τ sig) → Buf (Elt Ideal) ℓ) (ρ : Dev nD → PrngReg)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)

/-! ## Which blocks a grid point reads and writes -/

theorem idx : ∀ t : Fin cfg0.N, (t.val < 32)
    ∧ (win0_0.index t (0 : Fin 2) = t.val / 4 ∧ win0_0.index t (1 : Fin 2) = t.val % 4)
    ∧ (win0_1.index t (0 : Fin 2) = t.val / 4 ∧ win0_1.index t (1 : Fin 2) = t.val % 4)
    ∧ (win0_2.index t (0 : Fin 2) = t.val / 4 ∧ win0_2.index t (1 : Fin 2) = 12 + t.val % 4)
    ∧ (win0_3.index t (0 : Fin 2) = t.val / 4 ∧ win0_3.index t (1 : Fin 2) = t.val % 4)
    ∧ (win0_4.index t (0 : Fin 2) = t.val / 4 ∧ win0_4.index t (1 : Fin 2) = t.val % 4) :=
  (by decide +kernel : ∀ t : Fin grid0.N, _)

/-- The row of the arrays at a row of the point's block, and its head. -/
def R (t : Fin cfg0.N) (r : Fin 512) : Fin 4096 := ⟨t.val / 4 * 512 + r.val, by have h := (idx t).1; omega⟩
def T (t : Fin cfg0.N) : Fin 4 := ⟨t.val % 4, by omega⟩

theorem blk0 (c : Dev nD) (t : Fin cfg0.N) (r : Fin 512) : brow (iblk m c 0 t) r = row (A0 m c) (R t r) (T t) := by
  obtain ⟨e0, e1⟩ := (idx t).2.1
  funext k
  show V m c main_arg0 (((cfg0.win 0).blk t).view.emb (ix2 r k)) = A0 m c (ix2 (R t r) (hcol (T t) k))
  rw [V_main_arg0]
  refine congrArg (A0 m c) (funext fun a => Fin.ext ?_)
  match a with
  | ⟨0, _⟩ => show win0_0.index t (0 : Fin 2) * 512 + 1 * r.val = t.val / 4 * 512 + r.val; omega
  | ⟨1, _⟩ => show win0_0.index t (1 : Fin 2) * 256 + 1 * k.val = t.val % 4 * 256 + k.val; omega

theorem blk1 (c : Dev nD) (t : Fin cfg0.N) (r : Fin 512) : brow (iblk m c 1 t) r = row (A1 m c) (R t r) (T t) := by
  obtain ⟨e0, e1⟩ := (idx t).2.2.1
  funext k
  show V m c main_arg1 (((cfg0.win 1).blk t).view.emb (ix2 r k)) = A1 m c (ix2 (R t r) (hcol (T t) k))
  rw [V_main_arg1]
  refine congrArg (A1 m c) (funext fun a => Fin.ext ?_)
  match a with
  | ⟨0, _⟩ => show win0_1.index t (0 : Fin 2) * 512 + 1 * r.val = t.val / 4 * 512 + r.val; omega
  | ⟨1, _⟩ => show win0_1.index t (1 : Fin 2) * 256 + 1 * k.val = t.val % 4 * 256 + k.val; omega

theorem blk2 (c : Dev nD) (t : Fin cfg0.N) (r : Fin 512) : brow (iblk m c 2 t) r = grow (A2 m c) (R t r) (T t) := by
  obtain ⟨e0, e1⟩ := (idx t).2.2.2.1
  funext k
  show V m c main_arg2 (((cfg0.win 2).blk t).view.emb (ix2 r k)) = A2 m c (ix2 (R t r) (zcol (T t) k))
  rw [V_main_arg2]
  refine congrArg (A2 m c) (funext fun a => Fin.ext ?_)
  match a with
  | ⟨0, _⟩ => show win0_2.index t (0 : Fin 2) * 512 + 1 * r.val = t.val / 4 * 512 + r.val; omega
  | ⟨1, _⟩ => show win0_2.index t (1 : Fin 2) * 256 + 1 * k.val = 3072 + (t.val % 4 * 256 + k.val); omega

theorem emb3 (t : Fin cfg0.N) (r : Fin 512) (q : Fin 256) : ((cfg0.win 3).blk t).view.emb (ix2 r q : S512x256.Idx) = (ix2 (R t r) (hcol (T t) q) : S4096x1024.Idx) := by
  obtain ⟨e0, e1⟩ := (idx t).2.2.2.2.1
  funext a; apply Fin.ext
  match a with
  | ⟨0, _⟩ => show win0_3.index t (0 : Fin 2) * 512 + 1 * r.val = t.val / 4 * 512 + r.val; omega
  | ⟨1, _⟩ => show win0_3.index t (1 : Fin 2) * 256 + 1 * q.val = t.val % 4 * 256 + q.val; omega

theorem DO_apply (u : FVec Ideal S4096x1024 .bf16) (x : FVec Ideal S4096x1024 .f32) (z : FVec Ideal S4096x14848 .f32) (r : Fin 4096) (h : Fin 4) (k : Fin 256) :
    DO u x z (ix2 r (hcol h k)) = dout (row u r h) (row x r h) (grow z r h) k := by
  show dout (row u r (hd (hcol h k))) (row x r (hd (hcol h k))) (grow z r (hd (hcol h k))) (ch (hcol h k)) = _
  rw [hd_hcol, ch_hcol]

theorem flushed3_eq (c : Dev nD) (t : Fin cfg0.N) : (dats m 0 c).flushed 3 t = ((cfg0.win 3).blk t).view.read (Elt Ideal) (DO (A0 m c) (A1 m c) (A2 m c)) := by
  rw [flushed3]
  funext y
  refine (congrFun (out3_eq (iblk m c 0 t) (iblk m c 1 t) (iblk m c 2 t)) y).trans ?_
  obtain ⟨r, q, rfl⟩ : ∃ (a : Fin 512) (b : Fin 256), y = ix2 a b := ⟨y 0, y 1, eq_ix2 (n0 := 512) (n1 := 256) y⟩
  refine (dout_apply (iblk m c 0 t) (iblk m c 1 t) (iblk m c 2 t) r q).trans ?_
  rw [blk0, blk1, blk2]
  exact ((congrArg (DO (A0 m c) (A1 m c) (A2 m c)) (emb3 t r q)).trans (DO_apply _ _ _ (R t r) (T t) q)).symm

theorem emb4 (t : Fin cfg0.N) (r : Fin 512) (q : Fin 256) : ((cfg0.win 4).blk t).view.emb (ix2 r q : S512x256.Idx) = (ix2 (R t r) (hcol (T t) q) : S4096x1024.Idx) := by
  obtain ⟨e0, e1⟩ := (idx t).2.2.2.2.2
  funext a; apply Fin.ext
  match a with
  | ⟨0, _⟩ => show win0_4.index t (0 : Fin 2) * 512 + 1 * r.val = t.val / 4 * 512 + r.val; omega
  | ⟨1, _⟩ => show win0_4.index t (1 : Fin 2) * 256 + 1 * q.val = t.val % 4 * 256 + q.val; omega

theorem DG_apply (u : FVec Ideal S4096x1024 .bf16) (x : FVec Ideal S4096x1024 .f32) (z : FVec Ideal S4096x14848 .f32) (r : Fin 4096) (h : Fin 4) (k : Fin 256) :
    DG u x z (ix2 r (hcol h k)) = dgate (row u r h) (row x r h) (grow z r h) k := by
  show dgate (row u r (hd (hcol h k))) (row x r (hd (hcol h k))) (grow z r (hd (hcol h k))) (ch (hcol h k)) = _
  rw [hd_hcol, ch_hcol]

theorem flushed4_eq (c : Dev nD) (t : Fin cfg0.N) : (dats m 0 c).flushed 4 t = ((cfg0.win 4).blk t).view.read (Elt Ideal) (DG (A0 m c) (A1 m c) (A2 m c)) := by
  rw [flushed4]
  funext y
  refine (congrFun (out4_eq (iblk m c 0 t) (iblk m c 1 t) (iblk m c 2 t)) y).trans ?_
  obtain ⟨r, q, rfl⟩ : ∃ (a : Fin 512) (b : Fin 256), y = ix2 a b := ⟨y 0, y 1, eq_ix2 (n0 := 512) (n1 := 256) y⟩
  refine (dgate_apply (iblk m c 0 t) (iblk m c 1 t) (iblk m c 2 t) r q).trans ?_
  rw [blk0, blk1, blk2]
  exact ((congrArg (DG (A0 m c) (A1 m c) (A2 m c)) (emb4 t r q)).trans (DG_apply _ _ _ (R t r) (T t) q)).symm

/-- Every row and head are some point's. -/
theorem spot (i : Fin 4096) (h : Fin 4) : ∃ (t : Fin cfg0.N) (r : Fin 512), R t r = i ∧ T t = h :=
  ⟨⟨i.val / 512 * 4 + h.val, lt_of_lt_of_eq (by omega) (show 32 = cfg0.N from N_0.symm)⟩, ⟨i.val % 512, Nat.mod_lt _ (by decide)⟩,
    Fin.ext (by show (i.val / 512 * 4 + h.val) / 4 * 512 + i.val % 512 = i.val; omega),
    Fin.ext (by show (i.val / 512 * 4 + h.val) % 4 = h.val; omega)⟩

theorem final3 (c : Dev nD) : (dats m 0 c).arrAt 3 cfg0.N = DO (A0 m c) (A1 m c) (A2 m c) :=
  (dats m 0 c).arrAt_eq_of_cover 3 _ (fun t _ => flushed3_eq m c t) (fun i => by
    obtain ⟨t, r, h, h'⟩ := spot (i 0) (hd (i 1))
    refine ⟨t, flush0_3 t, Eq.subst (motive := fun z => z ∈ ((cfg0.win 3).blk t).view.set) ((emb3 t r (ch (i 1))).trans ?_) (((cfg0.win 3).blk t).view.emb_mem_set _)⟩
    exact (congrArg₂ (fun a b => (ix2 a b : S4096x1024.Idx)) h ((congrArg (fun b => hcol b (ch (i 1))) h').trans (hcol_hd (i 1)))).trans
      (eq_ix2 (n0 := 4096) (n1 := 1024) i).symm)

theorem final4 (c : Dev nD) : (dats m 0 c).arrAt 4 cfg0.N = DG (A0 m c) (A1 m c) (A2 m c) :=
  (dats m 0 c).arrAt_eq_of_cover 4 _ (fun t _ => flushed4_eq m c t) (fun i => by
    obtain ⟨t, r, h, h'⟩ := spot (i 0) (hd (i 1))
    refine ⟨t, flush0_4 t, Eq.subst (motive := fun z => z ∈ ((cfg0.win 4).blk t).view.set) ((emb4 t r (ch (i 1))).trans ?_) (((cfg0.win 4).blk t).view.emb_mem_set _)⟩
    exact (congrArg₂ (fun a b => (ix2 a b : S4096x1024.Idx)) h ((congrArg (fun b => hcol b (ch (i 1))) h').trans (hcol_hd (i 1)))).trans
      (eq_ix2 (n0 := 4096) (n1 := 1024) i).symm)

/-- The kernel's run with the results at their functions of the arguments. -/
theorem run : θ_run defs (onTc (τ := τ) (main (F := Ideal))) ⟨m, fun _ => 0, ρ⟩ fun r => ∀ c : Dev nD,
      r.2.mem ((c : Thread nD τ).loc main_v0_0) = DO (A0 m c) (A1 m c) (A2 m c)
      ∧ r.2.mem ((c : Thread nD τ).loc main_v0_1) = DG (A0 m c) (A1 m c) (A2 m c)
      ∧ r.2.mem ((c : Thread nD τ).loc main_arg0) = A0 m c
      ∧ r.2.mem ((c : Thread nD τ).loc main_arg1) = A1 m c
      ∧ r.2.mem ((c : Thread nD τ).loc main_arg2) = A2 m c :=
  (θ_run defs _ _).mono (fun _ h c => ⟨(h c).1.trans (final3 m c), (h c).2.1.trans (final4 m c), (h c).2.2⟩) (run_blocks m ρ)

/-! ## The reference -/

section
open Cert.DGateRefIdeal.Read
variable (u : FVec Ideal S4096x1024 .bf16) (x : FVec Ideal S4096x1024 .f32) (z : FVec Ideal S4096x14848 .f32)

theorem cut {α : Type} (y : S4096x1024.Idx → α) (h : S4096x1024.ShapeCasts ⟨3, ![4096, 4, 256]⟩) (r : Fin 4096) (a : Fin 4) (k : Fin 256) :
    shapeCast ⟨3, ![4096, 4, 256]⟩ y h (ix3 r a k) = y (ix2 r (hcol a k)) := by
  unfold hcol
  pointwise

theorem uncut {α : Type} (y : (⟨3, ![4096, 4, 256]⟩ : Shape).Idx → α) (h : (⟨3, ![4096, 4, 256]⟩ : Shape).ShapeCasts S4096x1024) (r : Fin 4096) (a : Fin 4) (k : Fin 256) :
    shapeCast S4096x1024 y h (ix2 r (hcol a k)) = y (ix3 r a k) := by
  unfold hcol
  pointwise

theorem ref_x (r : Fin 4096) (a : Fin 4) (k : Fin 256) : val_main_v1 (F := Ideal) x (ix3 r a k) = row x r a k := cut _ _ r a k

theorem ref_mean (r : Fin 4096) (a : Fin 4) : val_main_v8 (F := Ideal) x (ix3 r a (0 : Fin 1)) = mean L (∑ j : Fin 256, row x r a j * row x r a j) := by
  simp only [← ref_x]
  unfold mean L eps
  pointwise [val_main_v8, val_main_v7, val_main_v6, val_main_v5, val_main_v4, val_main_v3, val_main_v2, val_main_cst, val_main_cst_0, val_main_cst_1]

theorem ref_root (r : Fin 4096) (a : Fin 4) : val_main_v9 (F := Ideal) x (ix3 r a (0 : Fin 1)) = root (row x r a) := by
  unfold root invRoot
  rw [← ref_mean]
  pointwise [val_main_v9]

theorem ref_unit (r : Fin 4096) (a : Fin 4) (k : Fin 256) : val_main_v15 (F := Ideal) x (ix2 r (hcol a k)) = row x r a k * root (row x r a) := by
  refine (uncut _ _ r a k).trans ?_
  rw [← ref_root, ← ref_x]
  pointwise [val_main_v14, val_main_v13]

theorem ref_gate (r : Fin 4096) (a : Fin 4) (k : Fin 256) : val_main_v0 (F := Ideal) z (ix2 r (hcol a k)) = grow z r a k := by
  unfold grow zcol hcol
  pointwise [val_main_v0]

theorem ref_sg (r : Fin 4096) (a : Fin 4) (k : Fin 256) : val_main_v16_2 (F := Ideal) z (ix2 r (hcol a k)) = sg (grow z r a k) := by
  rw [← sg_neg, ← ref_gate]
  unfold one
  pointwise [val_main_v16_2, val_main_call0_v4, val_main_call0_v3, val_main_call0_v2, val_main_call0_v1, val_main_call0_v0, val_main_call0_cst, val_main_call0_cst_0]

theorem ref_in (r : Fin 4096) (a : Fin 4) (k : Fin 256) :
    val_main_v22 (F := Ideal) u z (ix3 r a k) = row u r a k * (grow z r a k * sg (grow z r a k)) := by
  refine (cut _ _ r a k).trans ?_
  rw [← ref_sg, ← ref_gate]
  unfold row
  pointwise [val_main_v20, val_main_v18, val_main_v16_0]

theorem ref_slope (r : Fin 4096) (a : Fin 4) :
    val_main_v31 (F := Ideal) u x z (ix2 r a) = Ideal.div ((∑ j : Fin 256, row x r a j * (row u r a j * (grow z r a j * sg (grow z r a j))))
      * (((-(1 / 2) : ℝ) : EReal) * Ideal.div (root (row x r a)) (mean L (∑ j : Fin 256, row x r a j * row x r a j)))) L := by
  simp only [← ref_in]
  rw [← ref_root, ← ref_mean, ← half_eq]
  simp only [← ref_x]
  unfold L
  pointwise [val_main_v31, val_main_v30, val_main_v29, val_main_v28, val_main_v25, val_main_v24, val_main_v23, val_main_v12, val_main_v11, val_main_v10, val_main_cst_2, val_main_cst_3, val_main_cst_4, val_main_cst_5]
  exact Fin.sum_univ_one _

theorem ref_dout (r : Fin 4096) (a : Fin 4) (k : Fin 256) : val_main_v37 (F := Ideal) u x z (ix2 r (hcol a k)) = dout (row u r a) (row x r a) (grow z r a) k := by
  have h := back (fun j => row u r a j * (grow z r a j * sg (grow z r a j))) (row x r a) (row u r a k * (grow z r a k * sg (grow z r a k))) (row x r a k)
    (d := 256) (by norm_num) (s := ∑ j : Fin 256, row x r a j * row x r a j) (Finset.sum_nonneg fun j _ => Rms.mul_self_nonneg (row x r a j))
  rw [← len256] at h
  refine Eq.trans ?_ h.symm
  refine (uncut _ _ r a k).trans ?_
  have e : val_main_v36 (F := Ideal) u x z (ix3 r a k) = val_main_v22 (F := Ideal) u z (ix3 r a k) * val_main_v9 (F := Ideal) x (ix3 r a (0 : Fin 1))
      + val_main_v1 (F := Ideal) x (ix3 r a k) * val_main_v31 (F := Ideal) u x z (ix2 r a) + val_main_v31 (F := Ideal) u x z (ix2 r a) * val_main_v1 (F := Ideal) x (ix3 r a k) := by
    pointwise [val_main_v36, val_main_v35, val_main_v34, val_main_v33, val_main_v32, val_main_v27, val_main_v26]
  rw [e, ref_slope, ref_root, ref_in, ref_x]
  rfl

theorem ref_dgate (hu : ∀ i, ∃ v : ℝ, u i = (v : EReal)) (r : Fin 4096) (a : Fin 4) (k : Fin 256) :
    val_main_v38 (F := Ideal) u x z (ix2 r (hcol a k)) = dgate (row u r a) (row x r a) (grow z r a) k := by
  obtain ⟨v, hv⟩ := hu (ix2 r (hcol a k))
  obtain ⟨n, hn⟩ := unit_real (row x r a) k
  have hv' : row u r a k = (v : EReal) := hv
  have e : val_main_v38 (F := Ideal) u x z (ix2 r (hcol a k))
      = val_main_v15 (F := Ideal) x (ix2 r (hcol a k)) * row u r a k * val_main_v16_2 (F := Ideal) z (ix2 r (hcol a k))
        + val_main_v0 (F := Ideal) z (ix2 r (hcol a k)) * (val_main_v15 (F := Ideal) x (ix2 r (hcol a k)) * row u r a k)
          * (val_main_v16_2 (F := Ideal) z (ix2 r (hcol a k)) * (one - val_main_v16_2 (F := Ideal) z (ix2 r (hcol a k)))) := by
    unfold row one
    pointwise [val_main_v38, val_main_v21, val_main_call1_v2, val_main_call1_v1, val_main_call1_v0, val_main_v19, val_main_v18, val_main_v16_1, val_main_call0_v7, val_main_call0_v6, val_main_call0_cst_1]
  rw [e, ref_unit, ref_sg, ref_gate]
  unfold dgate
  rw [hn, hv', mul_comm (v : EReal), ← EReal.coe_mul]
  exact slope (n * v) (grow z r a k)

theorem ref_do (i : S4096x1024.Idx) : val_main_v37 (F := Ideal) u x z i = DO u x z i := by
  obtain ⟨r, a, k, rfl⟩ : ∃ (r : Fin 4096) (a : Fin 4) (k : Fin 256), i = ix2 r (hcol a k) :=
    ⟨i 0, hd (i 1), ch (i 1), (eq_ix2 (n0 := 4096) (n1 := 1024) i).trans (congrArg (ix2 (i 0)) (hcol_hd (i 1)).symm)⟩
  exact (ref_dout u x z r a k).trans (DO_apply u x z r a k).symm

theorem ref_dg (hu : ∀ i, ∃ v : ℝ, u i = (v : EReal)) (i : S4096x1024.Idx) : val_main_v38 (F := Ideal) u x z i = DG u x z i := by
  obtain ⟨r, a, k, rfl⟩ : ∃ (r : Fin 4096) (a : Fin 4) (k : Fin 256), i = ix2 r (hcol a k) :=
    ⟨i 0, hd (i 1), ch (i 1), (eq_ix2 (n0 := 4096) (n1 := 1024) i).trans (congrArg (ix2 (i 0)) (hcol_hd (i 1)).symm)⟩
  exact (ref_dgate u x z hu r a k).trans (DG_apply u x z r a k).symm

/-- What the precondition says of an element. -/
theorem finite (h : Cert.Pre_du_finite.fn (F := Ideal) u x z = fun _ => 1#1) (i : S4096x1024.Idx) : ∃ v : ℝ, u i = (v : EReal) := by
  obtain ⟨r, q, rfl⟩ : ∃ (r : Fin 4096) (q : Fin 1024), i = ix2 r q := ⟨i 0, i 1, eq_ix2 (n0 := 4096) (n1 := 1024) i⟩
  have e := congrFun h (ix2 r q)
  have t : Ideal.cmp .olt (FloatOps.absf (u (ix2 r q))) (Ideal.ofBits .bf16 0x7F80#16) = 1#1 := by
    refine Eq.trans ?_ e
    pointwise [Cert.Pre_du_finite.fn]
  have hi : Ideal.ofBits .bf16 0x7F80#16 = ⊤ := by simp [Ideal.ofBits, Ideal.ieee]
  rw [hi] at t
  generalize u (ix2 r q) = v at t
  induction v using EReal.rec with
  | bot => exact absurd t (by simp [Ideal.cmp, Ideal.absf_def])
  | top => exact absurd t (by simp [Ideal.cmp, Ideal.absf_def])
  | coe v => exact ⟨v, rfl⟩
end

/-- The reference's arguments. -/
abbrev B0 (m : (ℓ : Loc Cert.DGateRefIdeal.nD Cert.DGateRefIdeal.τ Cert.DGateRefIdeal.sig) → Buf (Elt Ideal) ℓ) (c : Dev Cert.DGateRefIdeal.nD) := m ((c : Thread Cert.DGateRefIdeal.nD Cert.DGateRefIdeal.τ).loc Cert.DGateRefIdeal.main_arg0)
abbrev B1 (m : (ℓ : Loc Cert.DGateRefIdeal.nD Cert.DGateRefIdeal.τ Cert.DGateRefIdeal.sig) → Buf (Elt Ideal) ℓ) (c : Dev Cert.DGateRefIdeal.nD) := m ((c : Thread Cert.DGateRefIdeal.nD Cert.DGateRefIdeal.τ).loc Cert.DGateRefIdeal.main_arg1)
abbrev B2 (m : (ℓ : Loc Cert.DGateRefIdeal.nD Cert.DGateRefIdeal.τ Cert.DGateRefIdeal.sig) → Buf (Elt Ideal) ℓ) (c : Dev Cert.DGateRefIdeal.nD) := m ((c : Thread Cert.DGateRefIdeal.nD Cert.DGateRefIdeal.τ).loc Cert.DGateRefIdeal.main_arg2)

/-- The reference's run with the results at the same functions. -/
theorem ref_run (m : (ℓ : Loc Cert.DGateRefIdeal.nD Cert.DGateRefIdeal.τ Cert.DGateRefIdeal.sig) → Buf (Elt Ideal) ℓ) (ρ : Dev Cert.DGateRefIdeal.nD → PrngReg)
    (hu : ∀ (c : Dev Cert.DGateRefIdeal.nD) (i : S4096x1024.Idx), ∃ v : ℝ, (B0 m c) i = (v : EReal)) :
    θ_run Cert.DGateRefIdeal.defs (onTc (τ := Cert.DGateRefIdeal.τ) (Cert.DGateRefIdeal.main (F := Ideal))) ⟨m, fun _ => 0, ρ⟩ fun r => ∀ c : Dev Cert.DGateRefIdeal.nD,
      r.2.mem ((c : Thread Cert.DGateRefIdeal.nD Cert.DGateRefIdeal.τ).loc Cert.DGateRefIdeal.main_v37) = DO (B0 m c) (B1 m c) (B2 m c)
      ∧ r.2.mem ((c : Thread Cert.DGateRefIdeal.nD Cert.DGateRefIdeal.τ).loc Cert.DGateRefIdeal.main_v38) = DG (B0 m c) (B1 m c) (B2 m c)
      ∧ r.2.mem ((c : Thread Cert.DGateRefIdeal.nD Cert.DGateRefIdeal.τ).loc Cert.DGateRefIdeal.main_arg0) = B0 m c
      ∧ r.2.mem ((c : Thread Cert.DGateRefIdeal.nD Cert.DGateRefIdeal.τ).loc Cert.DGateRefIdeal.main_arg1) = B1 m c
      ∧ r.2.mem ((c : Thread Cert.DGateRefIdeal.nD Cert.DGateRefIdeal.τ).loc Cert.DGateRefIdeal.main_arg2) = B2 m c :=
  (θ_run Cert.DGateRefIdeal.defs _ _).mono (fun _ h c =>
    ⟨((h c).1.trans (Cert.DGateRefIdeal.Read.val_main_v37_eq (F := Ideal) _ _)).trans (funext fun i => ref_do _ _ _ i),
      ((h c).2.1.trans (Cert.DGateRefIdeal.Read.val_main_v38_eq (F := Ideal) _ _ _)).trans (funext fun i => ref_dg _ _ _ (hu c) i), (h c).2.2⟩)
    (Cert.DGateRefIdeal.Value.run (F := Ideal) m ρ)

/-! ## The claims -/

/-- The kernel's frame: the generated one. -/
theorem frame_p : Cert.quiescent_DGate := fun m ρ _ => Cert.DGate.Gen.frame m ρ

/-- The idealized kernel's frame: the generated one. -/
theorem frame_pi : Cert.quiescent_DGateIdeal := fun m ρ _ => Cert.DGateIdeal.Gen.frame m ρ

/-- The reference's frame: its run read at the arguments. It declares no semaphore. -/
theorem frame_ri : Cert.quiescent_DGateRefIdeal := fun m ρ _ =>
  (θ_run Cert.DGateRefIdeal.defs _ _).mono
    (fun r h => ⟨fun c => (h c).2.2, sem_eq_zero_of_no_sems (by decide) r.2⟩)
    (Cert.DGateRefIdeal.Value.run (F := Ideal) m ρ)

/-- The results agree: each side's run read at its results, from equal arguments. -/
theorem algebraic : Cert.algebraic_DGateIdeal_DGateRefIdeal := by
  intro m ρ m' ρ' hpre hagree
  refine ⟨_, _, run m ρ, ?_⟩
  refine (θ_run Cert.DGateRefIdeal.defs _ _).mono (fun r h c => ?_) (ref_run m' ρ' (fun c i => by
    obtain ⟨v, hv⟩ := finite _ _ _ (hpre c) i
    exact ⟨v, (congrFun (hagree c).1 i).trans hv⟩))
  obtain ⟨e0, e1, e2⟩ := hagree c
  refine ⟨(h c).1.trans ?_, (h c).2.1.trans ?_, (h c).2.2⟩
  · exact (congrArg₂ (fun u v => DO u v _) e0 e1).trans (congrArg (DO _ _) e2)
  · exact (congrArg₂ (fun u v => DG u v _) e0 e1).trans (congrArg (DG _ _) e2)

end Cert.Proof.DGate

end
-- ==== Proof.Adam.lean ====
/- Hand-written, untrusted: THE OPTIMISER'S STEP on one layer's shard of the input projection's weights: the gradient summed over the
   devices' parts, the two moments and the weights' change. The kernel's results as functions of its arguments (`G`, `DW`, `NM`, `NV`),
   each grid point's block of them, the reference's results as the same functions, and the claims. -/
module

public import proofs.«01_k».proof.Defs
public import proofs.«01_k».proof.Proof.Rms
public import proofs.«01_k».proof.Proof.Gen.Adam.Frame
public import proofs.«01_k».proof.Proof.Gen.AdamIdeal.Value
public import proofs.«01_k».proof.Proof.Gen.AdamRefIdeal.Read
public import Idealize.ShloMosaic.Lib.Pointwise
public import Idealize.ShloMosaic.Lib.Pipeline.ValueKit.Acc
public import Idealize.ShloMosaic.Lib.Quiescent

@[expose] public section

set_option maxRecDepth 16384

noncomputable section

namespace Cert.Proof.Adam

open Cert.AdamIdeal Cert.AdamIdeal.Gen Cert.AdamIdeal.Value Idealize.ShloMosaic Idealize.ShloMosaic.TcCoe Idealize.SL.Sem
open Idealize.ShloMosaic.Tactic

/-! ## The step of one weight -/

/-- The reciprocals of the two corrections' divisors. -/
def c1 : EReal := ((8388608 / 5463681 : ℝ) : EReal)
def c2 : EReal := ((268435456 / 2672307 : ℝ) : EReal)

/-- The new first moment, of a gradient and the old one. -/
def nm (g a : EReal) : EReal := Ideal.ofBits .f32 0x3F666666#32 * a + Ideal.ofBits .f32 0x3DCCCCCD#32 * g

/-- The new second moment. -/
def nv (g b : EReal) : EReal := Ideal.ofBits .f32 0x3F7FBE77#32 * b + Ideal.ofBits .f32 0x3A83126F#32 * (g * g)

/-- The change of a weight. -/
def dw (x g a b : EReal) : EReal :=
  Ideal.ofBits .f32 0xBA83126F#32 * (Ideal.div (nm g a * c1) (Ideal.sqrt (nv g b * c2) + Ideal.ofBits .f32 0x322BCC77#32) + Ideal.ofBits .f32 0x3C23D70A#32 * x)

theorem c1_eq : Named.named (F := Ideal) κ "c1" (φ := .f32) 0x3FC48605#32 = c1 := IdealRules.named_const.ideal_named_scalar _ _ _ _ rfl

theorem c2_eq : Named.named (F := Ideal) κ "c2" (φ := .f32) 0x42C8E6D3#32 = c2 := IdealRules.named_const.ideal_named_scalar _ _ _ _ rfl

theorem d1_eq : Ideal.ofBits .f32 0x3F26BD02#32 = ((5463681 / 8388608 : ℝ) : EReal) := by
  simp [Ideal.ofBits, Ideal.ieee, -EReal.coe_mul]; norm_num

theorem d2_eq : Ideal.ofBits .f32 0x3C231ACC#32 = ((2672307 / 268435456 : ℝ) : EReal) := by
  simp [Ideal.ofBits, Ideal.ieee, -EReal.coe_mul]; norm_num

/-- The reference divides where the kernel multiplies by the reciprocal. -/
theorem div_d1 (x : EReal) : Ideal.div x (Ideal.ofBits .f32 0x3F26BD02#32) = x * c1 := by
  rw [d1_eq, Rms.div_real x (by norm_num)]
  unfold c1
  norm_num

theorem div_d2 (x : EReal) : Ideal.div x (Ideal.ofBits .f32 0x3C231ACC#32) = x * c2 := by
  rw [d2_eq, Rms.div_real x (by norm_num)]
  unfold c2
  norm_num

/-! ## What the body stores -/

section
variable (x a b : FVec Ideal S1x64x2048 .f32) (p : FVec Ideal S8x64x2048 .bf16)

theorem sum_apply (r : Fin 64) (q : Fin 2048) : k0_pay5 (F := Ideal) x p a b (ix2 r q) = ∑ d : Fin 8, p (ix3 d r q) := by
  rw [Fin.sum_univ_eight]
  pointwise [k0_pay5, k0_pay1]

theorem nm_apply (g : FVec Ideal S64x2048 .f32) (r : Fin 64) (q : Fin 2048) : k0_pay2 (F := Ideal) g a (ix2 r q) = nm (g (ix2 r q)) (a (ix3 0 r q)) := by
  unfold nm
  pointwise [k0_pay2]

theorem nv_apply (g : FVec Ideal S64x2048 .f32) (r : Fin 64) (q : Fin 2048) : k0_pay3 (F := Ideal) g b (ix2 r q) = nv (g (ix2 r q)) (b (ix3 0 r q)) := by
  unfold nv
  pointwise [k0_pay3]

theorem dw_apply (g : FVec Ideal S64x2048 .f32) (r : Fin 64) (q : Fin 2048) :
    k0_pay4 (F := Ideal) g a b x (ix2 r q) = dw (x (ix3 0 r q)) (g (ix2 r q)) (a (ix3 0 r q)) (b (ix3 0 r q)) := by
  unfold dw
  rw [← nm_apply, ← nv_apply]
  pointwise [k0_pay4, c1_eq, c2_eq]

theorem out4_eq : out0_4 (F := Ideal) x p a b = k0_pay5 (F := Ideal) x p a b := by frame_out

theorem out5_eq : out0_5 (F := Ideal) x p a b = k0_pay4 (F := Ideal) (k0_pay5 (F := Ideal) x p a b) a b x := by frame_out

theorem out6_eq : out0_6 (F := Ideal) x p a b = k0_pay2 (F := Ideal) (k0_pay5 (F := Ideal) x p a b) a := by frame_out

theorem out7_eq : out0_7 (F := Ideal) x p a b = k0_pay3 (F := Ideal) (k0_pay5 (F := Ideal) x p a b) b := by frame_out
end

/-! ## The results -/

/-- The sum of the devices' parts of one weight's gradient. -/
def total (p : FVec Ideal S8x1856x2048 .bf16) (r : Fin 1856) (q : Fin 2048) : EReal := ∑ d : Fin 8, p (ix3 d r q)

/-- The gradient. -/
def G (p : FVec Ideal S8x1856x2048 .bf16) : FVec Ideal S1856x2048 .f32 := fun i => total p (i 0) (i 1)

/-- The weights' change: the first of the four layers' weights and moments are the step's. -/
def DW (x : FVec Ideal S4x1856x2048 .f32) (p : FVec Ideal S8x1856x2048 .bf16) (a b : FVec Ideal S4x1856x2048 .f32) : FVec Ideal S1856x2048 .f32 :=
  fun i => dw (x (ix3 0 (i 0) (i 1))) (total p (i 0) (i 1)) (a (ix3 0 (i 0) (i 1))) (b (ix3 0 (i 0) (i 1)))

/-- The moments. -/
def NM (p : FVec Ideal S8x1856x2048 .bf16) (a : FVec Ideal S4x1856x2048 .f32) : FVec Ideal S1856x2048 .f32 :=
  fun i => nm (total p (i 0) (i 1)) (a (ix3 0 (i 0) (i 1)))
def NV (p : FVec Ideal S8x1856x2048 .bf16) (b : FVec Ideal S4x1856x2048 .f32) : FVec Ideal S1856x2048 .f32 :=
  fun i => nv (total p (i 0) (i 1)) (b (ix3 0 (i 0) (i 1)))

variable (m : (ℓ : Loc nD τ sig) → Buf (Elt Ideal) ℓ) (ρ : Dev nD → PrngReg)

/-- The arguments: the weights, the parts of the gradient, the moments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-! ## Which blocks a grid point reads and writes -/

theorem idx : ∀ t : Fin cfg0.N, (t.val < 29)
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The row of the arrays at a row of the point's block. -/
def R (t : Fin cfg0.N) (r : Fin 64) : Fin 1856 := ⟨t.val * 64 + r.val, by have h := (idx t).1; omega⟩

theorem blk0 (c : Dev nD) (t : Fin cfg0.N) (r : Fin 64) (q : Fin 2048) : iblk m c 0 t (ix3 (0 : Fin 1) r q) = A0 m c (ix3 (0 : Fin 4) (R t r) q) := by
  obtain ⟨e0, e1, e2⟩ := (idx t).2.1
  show V m c main_arg0 (((cfg0.win 0).blk t).view.emb (ix3 (0 : Fin 1) r q)) = _
  rw [V_main_arg0]
  refine congrArg (m ((c : Thread nD τ).loc main_arg0)) (funext fun a => Fin.ext ?_)
  match a with
  | ⟨0, _⟩ => show win0_0.index t (0 : Fin 3) * 1 + 1 * 0 = 0; omega
  | ⟨1, _⟩ => show win0_0.index t (1 : Fin 3) * 64 + 1 * r.val = t.val * 64 + r.val; omega
  | ⟨2, _⟩ => show win0_0.index t (2 : Fin 3) * 2048 + 1 * q.val = q.val; omega

theorem blk1 (c : Dev nD) (t : Fin cfg0.N) (d : Fin 8) (r : Fin 64) (q : Fin 2048) : iblk m c 1 t (ix3 d r q) = A1 m c (ix3 d (R t r) q) := by
  obtain ⟨e0, e1, e2⟩ := (idx t).2.2.1
  show V m c main_arg1 (((cfg0.win 1).blk t).view.emb (ix3 d r q)) = _
  rw [V_main_arg1]
  refine congrArg (m ((c : Thread nD τ).loc main_arg1)) (funext fun a => Fin.ext ?_)
  match a with
  | ⟨0, _⟩ => show win0_1.index t (0 : Fin 3) * 8 + 1 * d.val = d.val; omega
  | ⟨1, _⟩ => show win0_1.index t (1 : Fin 3) * 64 + 1 * r.val = t.val * 64 + r.val; omega
  | ⟨2, _⟩ => show win0_1.index t (2 : Fin 3) * 2048 + 1 * q.val = q.val; omega

theorem blk2 (c : Dev nD) (t : Fin cfg0.N) (r : Fin 64) (q : Fin 2048) : iblk m c 2 t (ix3 (0 : Fin 1) r q) = A2 m c (ix3 (0 : Fin 4) (R t r) q) := by
  obtain ⟨e0, e1, e2⟩ := (idx t).2.2.2.1
  show V m c main_arg2 (((cfg0.win 2).blk t).view.emb (ix3 (0 : Fin 1) r q)) = _
  rw [V_main_arg2]
  refine congrArg (m ((c : Thread nD τ).loc main_arg2)) (funext fun a => Fin.ext ?_)
  match a with
  | ⟨0, _⟩ => show win0_2.index t (0 : Fin 3) * 1 + 1 * 0 = 0; omega
  | ⟨1, _⟩ => show win0_2.index t (1 : Fin 3) * 64 + 1 * r.val = t.val * 64 + r.val; omega
  | ⟨2, _⟩ => show win0_2.index t (2 : Fin 3) * 2048 + 1 * q.val = q.val; omega

theorem blk3 (c : Dev nD) (t : Fin cfg0.N) (r : Fin 64) (q : Fin 2048) : iblk m c 3 t (ix3 (0 : Fin 1) r q) = A3 m c (ix3 (0 : Fin 4) (R t r) q) := by
  obtain ⟨e0, e1, e2⟩ := (idx t).2.2.2.2.1
  show V m c main_arg3 (((cfg0.win 3).blk t).view.emb (ix3 (0 : Fin 1) r q)) = _
  rw [V_main_arg3]
  refine congrArg (m ((c : Thread nD τ).loc main_arg3)) (funext fun a => Fin.ext ?_)
  match a with
  | ⟨0, _⟩ => show win0_3.index t (0 : Fin 3) * 1 + 1 * 0 = 0; omega
  | ⟨1, _⟩ => show win0_3.index t (1 : Fin 3) * 64 + 1 * r.val = t.val * 64 + r.val; omega
  | ⟨2, _⟩ => show win0_3.index t (2 : Fin 3) * 2048 + 1 * q.val = q.val; omega

theorem sum_eq (c : Dev nD) (t : Fin cfg0.N) (r : Fin 64) (q : Fin 2048) :
    k0_pay5 (F := Ideal) (iblk m c 0 t) (iblk m c 1 t) (iblk m c 2 t) (iblk m c 3 t) (ix2 r q) = total (A1 m c) (R t r) q :=
  (sum_apply _ _ _ _ r q).trans (Finset.sum_congr rfl fun d _ => blk1 m c t d r q)

theorem emb4 (t : Fin cfg0.N) (r : Fin 64) (q : Fin 2048) : ((cfg0.win 4).blk t).view.emb (ix2 r q : S64x2048.Idx) = (ix2 (R t r) q : S1856x2048.Idx) := by
  obtain ⟨e0, e1⟩ := (idx t).2.2.2.2.2.1
  funext a; apply Fin.ext
  match a with
  | ⟨0, _⟩ => show win0_4.index t (0 : Fin 2) * 64 + 1 * r.val = t.val * 64 + r.val; omega
  | ⟨1, _⟩ => show win0_4.index t (1 : Fin 2) * 2048 + 1 * q.val = q.val; omega

theorem flushed4_eq (c : Dev nD) (t : Fin cfg0.N) : (dats m 0 c).flushed 4 t = ((cfg0.win 4).blk t).view.read (Elt Ideal) (G (A1 m c)) := by
  rw [flushed4]
  funext y
  refine (congrFun (out4_eq (iblk m c 0 t) (iblk m c 2 t) (iblk m c 3 t) (iblk m c 1 t)) y).trans ?_
  obtain ⟨r, q, rfl⟩ : ∃ (a : Fin 64) (b : Fin 2048), y = ix2 a b := ⟨y 0, y 1, eq_ix2 (n0 := 64) (n1 := 2048) y⟩
  refine Eq.trans ?_ (congrArg (G (A1 m c)) (emb4 t r q)).symm
  show _ = total (A1 m c) (R t r) q
  exact (sum_eq m c t r q)

theorem emb5 (t : Fin cfg0.N) (r : Fin 64) (q : Fin 2048) : ((cfg0.win 5).blk t).view.emb (ix2 r q : S64x2048.Idx) = (ix2 (R t r) q : S1856x2048.Idx) := by
  obtain ⟨e0, e1⟩ := (idx t).2.2.2.2.2.2.1
  funext a; apply Fin.ext
  match a with
  | ⟨0, _⟩ => show win0_5.index t (0 : Fin 2) * 64 + 1 * r.val = t.val * 64 + r.val; omega
  | ⟨1, _⟩ => show win0_5.index t (1 : Fin 2) * 2048 + 1 * q.val = q.val; omega

theorem flushed5_eq (c : Dev nD) (t : Fin cfg0.N) : (dats m 0 c).flushed 5 t = ((cfg0.win 5).blk t).view.read (Elt Ideal) (DW (A0 m c) (A1 m c) (A2 m c) (A3 m c)) := by
  rw [flushed5]
  funext y
  refine (congrFun (out5_eq (iblk m c 0 t) (iblk m c 2 t) (iblk m c 3 t) (iblk m c 1 t)) y).trans ?_
  obtain ⟨r, q, rfl⟩ : ∃ (a : Fin 64) (b : Fin 2048), y = ix2 a b := ⟨y 0, y 1, eq_ix2 (n0 := 64) (n1 := 2048) y⟩
  refine Eq.trans ?_ (congrArg (DW (A0 m c) (A1 m c) (A2 m c) (A3 m c)) (emb5 t r q)).symm
  show _ = dw ((A0 m c) (ix3 0 (R t r) q)) (total (A1 m c) (R t r) q) ((A2 m c) (ix3 0 (R t r) q)) ((A3 m c) (ix3 0 (R t r) q))
  refine (dw_apply _ _ _ _ r q).trans ?_
  rw [sum_eq, blk0, blk2, blk3]

theorem emb6 (t : Fin cfg0.N) (r : Fin 64) (q : Fin 2048) : ((cfg0.win 6).blk t).view.emb (ix2 r q : S64x2048.Idx) = (ix2 (R t r) q : S1856x2048.Idx) := by
  obtain ⟨e0, e1⟩ := (idx t).2.2.2.2.2.2.2.1
  funext a; apply Fin.ext
  match a with
  | ⟨0, _⟩ => show win0_6.index t (0 : Fin 2) * 64 + 1 * r.val = t.val * 64 + r.val; omega
  | ⟨1, _⟩ => show win0_6.index t (1 : Fin 2) * 2048 + 1 * q.val = q.val; omega

theorem flushed6_eq (c : Dev nD) (t : Fin cfg0.N) : (dats m 0 c).flushed 6 t = ((cfg0.win 6).blk t).view.read (Elt Ideal) (NM (A1 m c) (A2 m c)) := by
  rw [flushed6]
  funext y
  refine (congrFun (out6_eq (iblk m c 0 t) (iblk m c 2 t) (iblk m c 3 t) (iblk m c 1 t)) y).trans ?_
  obtain ⟨r, q, rfl⟩ : ∃ (a : Fin 64) (b : Fin 2048), y = ix2 a b := ⟨y 0, y 1, eq_ix2 (n0 := 64) (n1 := 2048) y⟩
  refine Eq.trans ?_ (congrArg (NM (A1 m c) (A2 m c)) (emb6 t r q)).symm
  show _ = nm (total (A1 m c) (R t r) q) ((A2 m c) (ix3 0 (R t r) q))
  refine (nm_apply _ _ r q).trans ?_
  rw [sum_eq, blk2]

theorem emb7 (t : Fin cfg0.N) (r : Fin 64) (q : Fin 2048) : ((cfg0.win 7).blk t).view.emb (ix2 r q : S64x2048.Idx) = (ix2 (R t r) q : S1856x2048.Idx) := by
  obtain ⟨e0, e1⟩ := (idx t).2.2.2.2.2.2.2.2
  funext a; apply Fin.ext
  match a with
  | ⟨0, _⟩ => show win0_7.index t (0 : Fin 2) * 64 + 1 * r.val = t.val * 64 + r.val; omega
  | ⟨1, _⟩ => show win0_7.index t (1 : Fin 2) * 2048 + 1 * q.val = q.val; omega

theorem flushed7_eq (c : Dev nD) (t : Fin cfg0.N) : (dats m 0 c).flushed 7 t = ((cfg0.win 7).blk t).view.read (Elt Ideal) (NV (A1 m c) (A3 m c)) := by
  rw [flushed7]
  funext y
  refine (congrFun (out7_eq (iblk m c 0 t) (iblk m c 2 t) (iblk m c 3 t) (iblk m c 1 t)) y).trans ?_
  obtain ⟨r, q, rfl⟩ : ∃ (a : Fin 64) (b : Fin 2048), y = ix2 a b := ⟨y 0, y 1, eq_ix2 (n0 := 64) (n1 := 2048) y⟩
  refine Eq.trans ?_ (congrArg (NV (A1 m c) (A3 m c)) (emb7 t r q)).symm
  show _ = nv (total (A1 m c) (R t r) q) ((A3 m c) (ix3 0 (R t r) q))
  refine (nv_apply _ _ r q).trans ?_
  rw [sum_eq, blk3]

/-- Every row is some point's. -/
theorem spot (i : Fin 1856) : ∃ (t : Fin cfg0.N) (r : Fin 64), R t r = i :=
  ⟨⟨i.val / 64, lt_of_lt_of_eq (by omega) (show 29 = cfg0.N from N_0.symm)⟩, ⟨i.val % 64, Nat.mod_lt _ (by decide)⟩,
    Fin.ext (by show i.val / 64 * 64 + i.val % 64 = i.val; omega)⟩

/-- A map of the points' blocks that puts each entry in its row and column reaches every entry. -/
theorem hit {f : Fin cfg0.N → S64x2048.Idx → S1856x2048.Idx} (h : ∀ t r q, f t (ix2 r q) = ix2 (R t r) q) (i : S1856x2048.Idx) : ∃ t y, f t y = i :=
  have ⟨t, r, e⟩ := spot (i 0)
  ⟨t, ix2 r (i 1), (h t r (i 1)).trans ((congrArg (fun a => (ix2 a (i 1) : S1856x2048.Idx)) e).trans (eq_ix2 (n0 := 1856) (n1 := 2048) i).symm)⟩

theorem final4 (c : Dev nD) : (dats m 0 c).arrAt 4 cfg0.N = G (A1 m c) :=
  (dats m 0 c).arrAt_eq_of_cover 4 _ (fun t _ => flushed4_eq m c t) (fun i => by
    obtain ⟨t, y, rfl⟩ := hit (f := fun t => ((cfg0.win 4).blk t).view.emb) emb4 i
    exact ⟨t, flush0_4 t, ((cfg0.win 4).blk t).view.emb_mem_set _⟩)

theorem final5 (c : Dev nD) : (dats m 0 c).arrAt 5 cfg0.N = DW (A0 m c) (A1 m c) (A2 m c) (A3 m c) :=
  (dats m 0 c).arrAt_eq_of_cover 5 _ (fun t _ => flushed5_eq m c t) (fun i => by
    obtain ⟨t, y, rfl⟩ := hit (f := fun t => ((cfg0.win 5).blk t).view.emb) emb5 i
    exact ⟨t, flush0_5 t, ((cfg0.win 5).blk t).view.emb_mem_set _⟩)

theorem final6 (c : Dev nD) : (dats m 0 c).arrAt 6 cfg0.N = NM (A1 m c) (A2 m c) :=
  (dats m 0 c).arrAt_eq_of_cover 6 _ (fun t _ => flushed6_eq m c t) (fun i => by
    obtain ⟨t, y, rfl⟩ := hit (f := fun t => ((cfg0.win 6).blk t).view.emb) emb6 i
    exact ⟨t, flush0_6 t, ((cfg0.win 6).blk t).view.emb_mem_set _⟩)

theorem final7 (c : Dev nD) : (dats m 0 c).arrAt 7 cfg0.N = NV (A1 m c) (A3 m c) :=
  (dats m 0 c).arrAt_eq_of_cover 7 _ (fun t _ => flushed7_eq m c t) (fun i => by
    obtain ⟨t, y, rfl⟩ := hit (f := fun t => ((cfg0.win 7).blk t).view.emb) emb7 i
    exact ⟨t, flush0_7 t, ((cfg0.win 7).blk t).view.emb_mem_set _⟩)

/-- The kernel's run with the results at their functions of the arguments. -/
theorem run : θ_run defs (onTc (τ := τ) (main (F := Ideal))) ⟨m, fun _ => 0, ρ⟩ fun r => ∀ c : Dev nD,
      r.2.mem ((c : Thread nD τ).loc main_v0_0) = G (A1 m c)
      ∧ r.2.mem ((c : Thread nD τ).loc main_v0_1) = DW (A0 m c) (A1 m c) (A2 m c) (A3 m c)
      ∧ r.2.mem ((c : Thread nD τ).loc main_v0_2) = NM (A1 m c) (A2 m c)
      ∧ r.2.mem ((c : Thread nD τ).loc main_v0_3) = NV (A1 m c) (A3 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c :=
  (θ_run defs _ _).mono (fun _ h c => ⟨(h c).1.trans (final4 m c), (h c).2.1.trans (final5 m c), (h c).2.2.1.trans (final6 m c), (h c).2.2.2.1.trans (final7 m c), (h c).2.2.2.2⟩) (run_blocks m ρ)

/-! ## The reference -/

section
open Cert.AdamRefIdeal.Read
variable (x a b : FVec Ideal S4x1856x2048 .f32) (p : FVec Ideal S8x1856x2048 .bf16)

theorem ref_total (r : Fin 1856) (q : Fin 2048) : val_main_v1 (F := Ideal) p (ix2 r q) = total p r q := by
  unfold total
  pointwise [val_main_v1, val_main_v0, val_main_cst]

theorem ref_nm (r : Fin 1856) (q : Fin 2048) : val_main_v12 (F := Ideal) p a (ix2 r q) = nm (total p r q) (a (ix3 0 r q)) := by
  unfold nm
  rw [← ref_total]
  pointwise [val_main_v12, val_main_v11, val_main_v10, val_main_v9, val_main_v8, val_main_v5, val_main_v4, val_main_cst_0, val_main_cst_1]

theorem ref_nv (r : Fin 1856) (q : Fin 2048) : val_main_v18 (F := Ideal) p b (ix2 r q) = nv (total p r q) (b (ix3 0 r q)) := by
  unfold nv
  rw [← ref_total]
  pointwise [val_main_v18, val_main_v17, val_main_v16, val_main_v15, val_main_v14, val_main_v13, val_main_v7, val_main_v6, val_main_cst_2, val_main_cst_3]

theorem ref_dw (r : Fin 1856) (q : Fin 2048) :
    val_main_v31 (F := Ideal) x p a b (ix2 r q) = dw (x (ix3 0 r q)) (total p r q) (a (ix3 0 r q)) (b (ix3 0 r q)) := by
  unfold dw
  rw [← ref_nm, ← ref_nv, ← div_d1, ← div_d2]
  pointwise [val_main_v31, val_main_v30, val_main_v29, val_main_v28, val_main_v27, val_main_v26, val_main_v25, val_main_v24, val_main_v23, val_main_v22, val_main_v21, val_main_v20, val_main_v19, val_main_v3, val_main_v2, val_main_cst_4, val_main_cst_5, val_main_cst_6, val_main_cst_7, val_main_cst_8]

theorem ref_G (i : S1856x2048.Idx) : val_main_v1 (F := Ideal) p i = G p i :=
  (congrArg (val_main_v1 (F := Ideal) p) (eq_ix2 (n0 := 1856) (n1 := 2048) i)).trans (ref_total p (i 0) (i 1))

theorem ref_DW (i : S1856x2048.Idx) : val_main_v31 (F := Ideal) x p a b i = DW x p a b i :=
  (congrArg (val_main_v31 (F := Ideal) x p a b) (eq_ix2 (n0 := 1856) (n1 := 2048) i)).trans (ref_dw x a b p (i 0) (i 1))

theorem ref_NM (i : S1856x2048.Idx) : val_main_v12 (F := Ideal) p a i = NM p a i :=
  (congrArg (val_main_v12 (F := Ideal) p a) (eq_ix2 (n0 := 1856) (n1 := 2048) i)).trans (ref_nm a p (i 0) (i 1))

theorem ref_NV (i : S1856x2048.Idx) : val_main_v18 (F := Ideal) p b i = NV p b i :=
  (congrArg (val_main_v18 (F := Ideal) p b) (eq_ix2 (n0 := 1856) (n1 := 2048) i)).trans (ref_nv b p (i 0) (i 1))
end

/-- Its arguments. -/
abbrev B0 (m : (ℓ : Loc Cert.AdamRefIdeal.nD Cert.AdamRefIdeal.τ Cert.AdamRefIdeal.sig) → Buf (Elt Ideal) ℓ) (c : Dev Cert.AdamRefIdeal.nD) := m ((c : Thread Cert.AdamRefIdeal.nD Cert.AdamRefIdeal.τ).loc Cert.AdamRefIdeal.main_arg0)
abbrev B1 (m : (ℓ : Loc Cert.AdamRefIdeal.nD Cert.AdamRefIdeal.τ Cert.AdamRefIdeal.sig) → Buf (Elt Ideal) ℓ) (c : Dev Cert.AdamRefIdeal.nD) := m ((c : Thread Cert.AdamRefIdeal.nD Cert.AdamRefIdeal.τ).loc Cert.AdamRefIdeal.main_arg1)
abbrev B2 (m : (ℓ : Loc Cert.AdamRefIdeal.nD Cert.AdamRefIdeal.τ Cert.AdamRefIdeal.sig) → Buf (Elt Ideal) ℓ) (c : Dev Cert.AdamRefIdeal.nD) := m ((c : Thread Cert.AdamRefIdeal.nD Cert.AdamRefIdeal.τ).loc Cert.AdamRefIdeal.main_arg2)
abbrev B3 (m : (ℓ : Loc Cert.AdamRefIdeal.nD Cert.AdamRefIdeal.τ Cert.AdamRefIdeal.sig) → Buf (Elt Ideal) ℓ) (c : Dev Cert.AdamRefIdeal.nD) := m ((c : Thread Cert.AdamRefIdeal.nD Cert.AdamRefIdeal.τ).loc Cert.AdamRefIdeal.main_arg3)

/-- The reference's run with the results at the same functions. -/
theorem ref_run (m : (ℓ : Loc Cert.AdamRefIdeal.nD Cert.AdamRefIdeal.τ Cert.AdamRefIdeal.sig) → Buf (Elt Ideal) ℓ) (ρ : Dev Cert.AdamRefIdeal.nD → PrngReg) :
    θ_run Cert.AdamRefIdeal.defs (onTc (τ := Cert.AdamRefIdeal.τ) (Cert.AdamRefIdeal.main (F := Ideal))) ⟨m, fun _ => 0, ρ⟩ fun r => ∀ c : Dev Cert.AdamRefIdeal.nD,
      r.2.mem ((c : Thread Cert.AdamRefIdeal.nD Cert.AdamRefIdeal.τ).loc Cert.AdamRefIdeal.main_v1) = G (B1 m c)
      ∧ r.2.mem ((c : Thread Cert.AdamRefIdeal.nD Cert.AdamRefIdeal.τ).loc Cert.AdamRefIdeal.main_v31) = DW (B0 m c) (B1 m c) (B2 m c) (B3 m c)
      ∧ r.2.mem ((c : Thread Cert.AdamRefIdeal.nD Cert.AdamRefIdeal.τ).loc Cert.AdamRefIdeal.main_v12) = NM (B1 m c) (B2 m c)
      ∧ r.2.mem ((c : Thread Cert.AdamRefIdeal.nD Cert.AdamRefIdeal.τ).loc Cert.AdamRefIdeal.main_v18) = NV (B1 m c) (B3 m c)
      ∧ r.2.mem ((c : Thread Cert.AdamRefIdeal.nD Cert.AdamRefIdeal.τ).loc Cert.AdamRefIdeal.main_arg0) = B0 m c
      ∧ r.2.mem ((c : Thread Cert.AdamRefIdeal.nD Cert.AdamRefIdeal.τ).loc Cert.AdamRefIdeal.main_arg1) = B1 m c
      ∧ r.2.mem ((c : Thread Cert.AdamRefIdeal.nD Cert.AdamRefIdeal.τ).loc Cert.AdamRefIdeal.main_arg2) = B2 m c
      ∧ r.2.mem ((c : Thread Cert.AdamRefIdeal.nD Cert.AdamRefIdeal.τ).loc Cert.AdamRefIdeal.main_arg3) = B3 m c :=
  (θ_run Cert.AdamRefIdeal.defs _ _).mono (fun _ h c =>
    ⟨((h c).1.trans (Cert.AdamRefIdeal.Read.val_main_v1_eq (F := Ideal) _)).trans (funext fun i => ref_G _ i), ((h c).2.1.trans (Cert.AdamRefIdeal.Read.val_main_v31_eq (F := Ideal) _ _ _ _)).trans (funext fun i => ref_DW _ _ _ _ i), ((h c).2.2.1.trans (Cert.AdamRefIdeal.Read.val_main_v12_eq (F := Ideal) _ _)).trans (funext fun i => ref_NM _ _ i), ((h c).2.2.2.1.trans (Cert.AdamRefIdeal.Read.val_main_v18_eq (F := Ideal) _ _)).trans (funext fun i => ref_NV _ _ i), (h c).2.2.2.2⟩)
    (Cert.AdamRefIdeal.Value.run (F := Ideal) m ρ)

/-! ## The claims -/

/-- The kernel's frame: the generated one. -/
theorem frame_p : Cert.quiescent_Adam := fun m ρ _ => Cert.Adam.Gen.frame m ρ

/-- The idealized kernel's frame: the generated one. -/
theorem frame_pi : Cert.quiescent_AdamIdeal := fun m ρ _ => Cert.AdamIdeal.Gen.frame m ρ

/-- The reference's frame: its run read at the arguments. It declares no semaphore. -/
theorem frame_ri : Cert.quiescent_AdamRefIdeal := fun m ρ _ =>
  (θ_run Cert.AdamRefIdeal.defs _ _).mono
    (fun r h => ⟨fun c => (h c).2.2.2.2, sem_eq_zero_of_no_sems (by decide) r.2⟩)
    (Cert.AdamRefIdeal.Value.run (F := Ideal) m ρ)

/-- The two named reciprocals denote what the table says. -/
theorem preserves : Cert.preserves_Adam_AdamIdeal :=
  ⟨IdealRules.named_const.statement _ _ _ _ _ rfl, IdealRules.named_const.statement _ _ _ _ _ rfl⟩

/-- The results agree: each side's run read at its results, from equal arguments. -/
theorem algebraic : Cert.algebraic_AdamIdeal_AdamRefIdeal := by
  intro m ρ m' ρ' _ hagree
  refine ⟨_, _, _, _, run m ρ, ?_⟩
  refine (θ_run Cert.AdamRefIdeal.defs _ _).mono (fun r h c => ?_) (ref_run m' ρ')
  obtain ⟨e0, e1, e2, e3⟩ := hagree c
  refine ⟨(h c).1.trans (congrArg G e1), (h c).2.1.trans ?_, (h c).2.2.1.trans (congrArg₂ NM e1 e2), (h c).2.2.2.1.trans (congrArg₂ NV e1 e3), (h c).2.2.2.2⟩
  exact (congrArg₂ (fun u v => DW u v _ _) e0 e1).trans (congrArg₂ (DW _ _) e2 e3)

end Cert.Proof.Adam

end
-- ==== Proof.AdamBranch.lean ====
/- Hand-written, untrusted: THE OPTIMISER'S STEP on one layer's shard of a branch projection's weights: the gradient summed over the
   devices' parts, the two moments and the weights' change. The kernel's results as functions of its arguments (`G`, `DW`, `NM`, `NV`),
   each grid point's block of them, the reference's results as the same functions, and the claims. -/
module

public import proofs.«01_k».proof.Defs
public import proofs.«01_k».proof.Proof.Adam
public import proofs.«01_k».proof.Proof.Gen.AdamBranch.Frame
public import proofs.«01_k».proof.Proof.Gen.AdamBranchIdeal.Value
public import proofs.«01_k».proof.Proof.Gen.AdamBranchRefIdeal.Read
public import Idealize.ShloMosaic.Lib.Pointwise
public import Idealize.ShloMosaic.Lib.Pipeline.ValueKit.Acc
public import Idealize.ShloMosaic.Lib.Quiescent

@[expose] public section

set_option maxRecDepth 16384

noncomputable section

namespace Cert.Proof.AdamBranch

open Cert.AdamBranchIdeal Cert.AdamBranchIdeal.Gen Cert.AdamBranchIdeal.Value Idealize.ShloMosaic Idealize.ShloMosaic.TcCoe Idealize.SL.Sem
open Idealize.ShloMosaic.Tactic
open Cert.Proof.Adam (c1 c2 nm nv dw div_d1 div_d2)

/-! ## The named reciprocals; the step of one weight is that of Proof/Adam.lean -/

theorem c1_eq : Named.named (F := Ideal) κ "c1" (φ := .f32) 0x3FC48605#32 = c1 := IdealRules.named_const.ideal_named_scalar _ _ _ _ rfl

theorem c2_eq : Named.named (F := Ideal) κ "c2" (φ := .f32) 0x42C8E6D3#32 = c2 := IdealRules.named_const.ideal_named_scalar _ _ _ _ rfl

/-! ## What the body stores -/

section
variable (x a b : FVec Ideal S1x1024x256 .f32) (p : FVec Ideal S8x1024x256 .bf16)

theorem sum_apply (r : Fin 1024) (q : Fin 256) : k0_pay5 (F := Ideal) x p a b (ix2 r q) = ∑ d : Fin 8, p (ix3 d r q) := by
  rw [Fin.sum_univ_eight]
  pointwise [k0_pay5, k0_pay1]

theorem nm_apply (g : FVec Ideal S1024x256 .f32) (r : Fin 1024) (q : Fin 256) : k0_pay2 (F := Ideal) g a (ix2 r q) = nm (g (ix2 r q)) (a (ix3 0 r q)) := by
  unfold nm
  pointwise [k0_pay2]

theorem nv_apply (g : FVec Ideal S1024x256 .f32) (r : Fin 1024) (q : Fin 256) : k0_pay3 (F := Ideal) g b (ix2 r q) = nv (g (ix2 r q)) (b (ix3 0 r q)) := by
  unfold nv
  pointwise [k0_pay3]

theorem dw_apply (g : FVec Ideal S1024x256 .f32) (r : Fin 1024) (q : Fin 256) :
    k0_pay4 (F := Ideal) g a b x (ix2 r q) = dw (x (ix3 0 r q)) (g (ix2 r q)) (a (ix3 0 r q)) (b (ix3 0 r q)) := by
  unfold dw
  rw [← nm_apply, ← nv_apply]
  pointwise [k0_pay4, c1_eq, c2_eq]

theorem out4_eq : out0_4 (F := Ideal) x p a b = k0_pay5 (F := Ideal) x p a b := by frame_out

theorem out5_eq : out0_5 (F := Ideal) x p a b = k0_pay4 (F := Ideal) (k0_pay5 (F := Ideal) x p a b) a b x := by frame_out

theorem out6_eq : out0_6 (F := Ideal) x p a b = k0_pay2 (F := Ideal) (k0_pay5 (F := Ideal) x p a b) a := by frame_out

theorem out7_eq : out0_7 (F := Ideal) x p a b = k0_pay3 (F := Ideal) (k0_pay5 (F := Ideal) x p a b) b := by frame_out
end

/-! ## The results -/

/-- The sum of the devices' parts of one weight's gradient. -/
def total (p : FVec Ideal S8x1024x256 .bf16) (r : Fin 1024) (q : Fin 256) : EReal := ∑ d : Fin 8, p (ix3 d r q)

/-- The gradient. -/
def G (p : FVec Ideal S8x1024x256 .bf16) : FVec Ideal S1024x256 .f32 := fun i => total p (i 0) (i 1)

/-- The weights' change: the first of the four layers' weights and moments are the step's. -/
def DW (x : FVec Ideal S4x1024x256 .f32) (p : FVec Ideal S8x1024x256 .bf16) (a b : FVec Ideal S4x1024x256 .f32) : FVec Ideal S1024x256 .f32 :=
  fun i => dw (x (ix3 0 (i 0) (i 1))) (total p (i 0) (i 1)) (a (ix3 0 (i 0) (i 1))) (b (ix3 0 (i 0) (i 1)))

/-- The moments. -/
def NM (p : FVec Ideal S8x1024x256 .bf16) (a : FVec Ideal S4x1024x256 .f32) : FVec Ideal S1024x256 .f32 :=
  fun i => nm (total p (i 0) (i 1)) (a (ix3 0 (i 0) (i 1)))
def NV (p : FVec Ideal S8x1024x256 .bf16) (b : FVec Ideal S4x1024x256 .f32) : FVec Ideal S1024x256 .f32 :=
  fun i => nv (total p (i 0) (i 1)) (b (ix3 0 (i 0) (i 1)))

variable (m : (ℓ : Loc nD τ sig) → Buf (Elt Ideal) ℓ) (ρ : Dev nD → PrngReg)

/-- The arguments: the weights, the parts of the gradient, the moments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-! ## Which blocks a grid point reads and writes -/

theorem idx : ∀ t : Fin cfg0.N, (t.val < 1)
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The row of the arrays at a row of the point's block. -/
def R (t : Fin cfg0.N) (r : Fin 1024) : Fin 1024 := ⟨t.val * 1024 + r.val, by have h := (idx t).1; omega⟩

theorem blk0 (c : Dev nD) (t : Fin cfg0.N) (r : Fin 1024) (q : Fin 256) : iblk m c 0 t (ix3 (0 : Fin 1) r q) = A0 m c (ix3 (0 : Fin 4) (R t r) q) := by
  obtain ⟨e0, e1, e2⟩ := (idx t).2.1
  show V m c main_arg0 (((cfg0.win 0).blk t).view.emb (ix3 (0 : Fin 1) r q)) = _
  rw [V_main_arg0]
  refine congrArg (m ((c : Thread nD τ).loc main_arg0)) (funext fun a => Fin.ext ?_)
  match a with
  | ⟨0, _⟩ => show win0_0.index t (0 : Fin 3) * 1 + 1 * 0 = 0; omega
  | ⟨1, _⟩ => show win0_0.index t (1 : Fin 3) * 1024 + 1 * r.val = t.val * 1024 + r.val; omega
  | ⟨2, _⟩ => show win0_0.index t (2 : Fin 3) * 256 + 1 * q.val = q.val; omega

theorem blk1 (c : Dev nD) (t : Fin cfg0.N) (d : Fin 8) (r : Fin 1024) (q : Fin 256) : iblk m c 1 t (ix3 d r q) = A1 m c (ix3 d (R t r) q) := by
  obtain ⟨e0, e1, e2⟩ := (idx t).2.2.1
  show V m c main_arg1 (((cfg0.win 1).blk t).view.emb (ix3 d r q)) = _
  rw [V_main_arg1]
  refine congrArg (m ((c : Thread nD τ).loc main_arg1)) (funext fun a => Fin.ext ?_)
  match a with
  | ⟨0, _⟩ => show win0_1.index t (0 : Fin 3) * 8 + 1 * d.val = d.val; omega
  | ⟨1, _⟩ => show win0_1.index t (1 : Fin 3) * 1024 + 1 * r.val = t.val * 1024 + r.val; omega
  | ⟨2, _⟩ => show win0_1.index t (2 : Fin 3) * 256 + 1 * q.val = q.val; omega

theorem blk2 (c : Dev nD) (t : Fin cfg0.N) (r : Fin 1024) (q : Fin 256) : iblk m c 2 t (ix3 (0 : Fin 1) r q) = A2 m c (ix3 (0 : Fin 4) (R t r) q) := by
  obtain ⟨e0, e1, e2⟩ := (idx t).2.2.2.1
  show V m c main_arg2 (((cfg0.win 2).blk t).view.emb (ix3 (0 : Fin 1) r q)) = _
  rw [V_main_arg2]
  refine congrArg (m ((c : Thread nD τ).loc main_arg2)) (funext fun a => Fin.ext ?_)
  match a with
  | ⟨0, _⟩ => show win0_2.index t (0 : Fin 3) * 1 + 1 * 0 = 0; omega
  | ⟨1, _⟩ => show win0_2.index t (1 : Fin 3) * 1024 + 1 * r.val = t.val * 1024 + r.val; omega
  | ⟨2, _⟩ => show win0_2.index t (2 : Fin 3) * 256 + 1 * q.val = q.val; omega

theorem blk3 (c : Dev nD) (t : Fin cfg0.N) (r : Fin 1024) (q : Fin 256) : iblk m c 3 t (ix3 (0 : Fin 1) r q) = A3 m c (ix3 (0 : Fin 4) (R t r) q) := by
  obtain ⟨e0, e1, e2⟩ := (idx t).2.2.2.2.1
  show V m c main_arg3 (((cfg0.win 3).blk t).view.emb (ix3 (0 : Fin 1) r q)) = _
  rw [V_main_arg3]
  refine congrArg (m ((c : Thread nD τ).loc main_arg3)) (funext fun a => Fin.ext ?_)
  match a with
  | ⟨0, _⟩ => show win0_3.index t (0 : Fin 3) * 1 + 1 * 0 = 0; omega
  | ⟨1, _⟩ => show win0_3.index t (1 : Fin 3) * 1024 + 1 * r.val = t.val * 1024 + r.val; omega
  | ⟨2, _⟩ => show win0_3.index t (2 : Fin 3) * 256 + 1 * q.val = q.val; omega

theorem sum_eq (c : Dev nD) (t : Fin cfg0.N) (r : Fin 1024) (q : Fin 256) :
    k0_pay5 (F := Ideal) (iblk m c 0 t) (iblk m c 1 t) (iblk m c 2 t) (iblk m c 3 t) (ix2 r q) = total (A1 m c) (R t r) q :=
  (sum_apply _ _ _ _ r q).trans (Finset.sum_congr rfl fun d _ => blk1 m c t d r q)

theorem emb4 (t : Fin cfg0.N) (r : Fin 1024) (q : Fin 256) : ((cfg0.win 4).blk t).view.emb (ix2 r q : S1024x256.Idx) = (ix2 (R t r) q : S1024x256.Idx) := by
  obtain ⟨e0, e1⟩ := (idx t).2.2.2.2.2.1
  funext a; apply Fin.ext
  match a with
  | ⟨0, _⟩ => show win0_4.index t (0 : Fin 2) * 1024 + 1 * r.val = t.val * 1024 + r.val; omega
  | ⟨1, _⟩ => show win0_4.index t (1 : Fin 2) * 256 + 1 * q.val = q.val; omega

theorem flushed4_eq (c : Dev nD) (t : Fin cfg0.N) : (dats m 0 c).flushed 4 t = ((cfg0.win 4).blk t).view.read (Elt Ideal) (G (A1 m c)) := by
  rw [flushed4]
  funext y
  refine (congrFun (out4_eq (iblk m c 0 t) (iblk m c 2 t) (iblk m c 3 t) (iblk m c 1 t)) y).trans ?_
  obtain ⟨r, q, rfl⟩ : ∃ (a : Fin 1024) (b : Fin 256), y = ix2 a b := ⟨y 0, y 1, eq_ix2 (n0 := 1024) (n1 := 256) y⟩
  refine Eq.trans ?_ (congrArg (G (A1 m c)) (emb4 t r q)).symm
  show _ = total (A1 m c) (R t r) q
  exact (sum_eq m c t r q)

theorem emb5 (t : Fin cfg0.N) (r : Fin 1024) (q : Fin 256) : ((cfg0.win 5).blk t).view.emb (ix2 r q : S1024x256.Idx) = (ix2 (R t r) q : S1024x256.Idx) := by
  obtain ⟨e0, e1⟩ := (idx t).2.2.2.2.2.2.1
  funext a; apply Fin.ext
  match a with
  | ⟨0, _⟩ => show win0_5.index t (0 : Fin 2) * 1024 + 1 * r.val = t.val * 1024 + r.val; omega
  | ⟨1, _⟩ => show win0_5.index t (1 : Fin 2) * 256 + 1 * q.val = q.val; omega

theorem flushed5_eq (c : Dev nD) (t : Fin cfg0.N) : (dats m 0 c).flushed 5 t = ((cfg0.win 5).blk t).view.read (Elt Ideal) (DW (A0 m c) (A1 m c) (A2 m c) (A3 m c)) := by
  rw [flushed5]
  funext y
  refine (congrFun (out5_eq (iblk m c 0 t) (iblk m c 2 t) (iblk m c 3 t) (iblk m c 1 t)) y).trans ?_
  obtain ⟨r, q, rfl⟩ : ∃ (a : Fin 1024) (b : Fin 256), y = ix2 a b := ⟨y 0, y 1, eq_ix2 (n0 := 1024) (n1 := 256) y⟩
  refine Eq.trans ?_ (congrArg (DW (A0 m c) (A1 m c) (A2 m c) (A3 m c)) (emb5 t r q)).symm
  show _ = dw ((A0 m c) (ix3 0 (R t r) q)) (total (A1 m c) (R t r) q) ((A2 m c) (ix3 0 (R t r) q)) ((A3 m c) (ix3 0 (R t r) q))
  refine (dw_apply _ _ _ _ r q).trans ?_
  rw [sum_eq, blk0, blk2, blk3]

theorem emb6 (t : Fin cfg0.N) (r : Fin 1024) (q : Fin 256) : ((cfg0.win 6).blk t).view.emb (ix2 r q : S1024x256.Idx) = (ix2 (R t r) q : S1024x256.Idx) := by
  obtain ⟨e0, e1⟩ := (idx t).2.2.2.2.2.2.2.1
  funext a; apply Fin.ext
  match a with
  | ⟨0, _⟩ => show win0_6.index t (0 : Fin 2) * 1024 + 1 * r.val = t.val * 1024 + r.val; omega
  | ⟨1, _⟩ => show win0_6.index t (1 : Fin 2) * 256 + 1 * q.val = q.val; omega

theorem flushed6_eq (c : Dev nD) (t : Fin cfg0.N) : (dats m 0 c).flushed 6 t = ((cfg0.win 6).blk t).view.read (Elt Ideal) (NM (A1 m c) (A2 m c)) := by
  rw [flushed6]
  funext y
  refine (congrFun (out6_eq (iblk m c 0 t) (iblk m c 2 t) (iblk m c 3 t) (iblk m c 1 t)) y).trans ?_
  obtain ⟨r, q, rfl⟩ : ∃ (a : Fin 1024) (b : Fin 256), y = ix2 a b := ⟨y 0, y 1, eq_ix2 (n0 := 1024) (n1 := 256) y⟩
  refine Eq.trans ?_ (congrArg (NM (A1 m c) (A2 m c)) (emb6 t r q)).symm
  show _ = nm (total (A1 m c) (R t r) q) ((A2 m c) (ix3 0 (R t r) q))
  refine (nm_apply _ _ r q).trans ?_
  rw [sum_eq, blk2]

theorem emb7 (t : Fin cfg0.N) (r : Fin 1024) (q : Fin 256) : ((cfg0.win 7).blk t).view.emb (ix2 r q : S1024x256.Idx) = (ix2 (R t r) q : S1024x256.Idx) := by
  obtain ⟨e0, e1⟩ := (idx t).2.2.2.2.2.2.2.2
  funext a; apply Fin.ext
  match a with
  | ⟨0, _⟩ => show win0_7.index t (0 : Fin 2) * 1024 + 1 * r.val = t.val * 1024 + r.val; omega
  | ⟨1, _⟩ => show win0_7.index t (1 : Fin 2) * 256 + 1 * q.val = q.val; omega

theorem flushed7_eq (c : Dev nD) (t : Fin cfg0.N) : (dats m 0 c).flushed 7 t = ((cfg0.win 7).blk t).view.read (Elt Ideal) (NV (A1 m c) (A3 m c)) := by
  rw [flushed7]
  funext y
  refine (congrFun (out7_eq (iblk m c 0 t) (iblk m c 2 t) (iblk m c 3 t) (iblk m c 1 t)) y).trans ?_
  obtain ⟨r, q, rfl⟩ : ∃ (a : Fin 1024) (b : Fin 256), y = ix2 a b := ⟨y 0, y 1, eq_ix2 (n0 := 1024) (n1 := 256) y⟩
  refine Eq.trans ?_ (congrArg (NV (A1 m c) (A3 m c)) (emb7 t r q)).symm
  show _ = nv (total (A1 m c) (R t r) q) ((A3 m c) (ix3 0 (R t r) q))
  refine (nv_apply _ _ r q).trans ?_
  rw [sum_eq, blk3]

/-- Every row is some point's. -/
theorem spot (i : Fin 1024) : ∃ (t : Fin cfg0.N) (r : Fin 1024), R t r = i :=
  ⟨⟨i.val / 1024, lt_of_lt_of_eq (by omega) (show 1 = cfg0.N from N_0.symm)⟩, ⟨i.val % 1024, Nat.mod_lt _ (by decide)⟩,
    Fin.ext (by show i.val / 1024 * 1024 + i.val % 1024 = i.val; omega)⟩

/-- A map of the points' blocks that puts each entry in its row and column reaches every entry. -/
theorem hit {f : Fin cfg0.N → S1024x256.Idx → S1024x256.Idx} (h : ∀ t r q, f t (ix2 r q) = ix2 (R t r) q) (i : S1024x256.Idx) : ∃ t y, f t y = i :=
  have ⟨t, r, e⟩ := spot (i 0)
  ⟨t, ix2 r (i 1), (h t r (i 1)).trans ((congrArg (fun a => (ix2 a (i 1) : S1024x256.Idx)) e).trans (eq_ix2 (n0 := 1024) (n1 := 256) i).symm)⟩

theorem final4 (c : Dev nD) : (dats m 0 c).arrAt 4 cfg0.N = G (A1 m c) :=
  (dats m 0 c).arrAt_eq_of_cover 4 _ (fun t _ => flushed4_eq m c t) (fun i => by
    obtain ⟨t, y, rfl⟩ := hit (f := fun t => ((cfg0.win 4).blk t).view.emb) emb4 i
    exact ⟨t, flush0_4 t, ((cfg0.win 4).blk t).view.emb_mem_set _⟩)

theorem final5 (c : Dev nD) : (dats m 0 c).arrAt 5 cfg0.N = DW (A0 m c) (A1 m c) (A2 m c) (A3 m c) :=
  (dats m 0 c).arrAt_eq_of_cover 5 _ (fun t _ => flushed5_eq m c t) (fun i => by
    obtain ⟨t, y, rfl⟩ := hit (f := fun t => ((cfg0.win 5).blk t).view.emb) emb5 i
    exact ⟨t, flush0_5 t, ((cfg0.win 5).blk t).view.emb_mem_set _⟩)

theorem final6 (c : Dev nD) : (dats m 0 c).arrAt 6 cfg0.N = NM (A1 m c) (A2 m c) :=
  (dats m 0 c).arrAt_eq_of_cover 6 _ (fun t _ => flushed6_eq m c t) (fun i => by
    obtain ⟨t, y, rfl⟩ := hit (f := fun t => ((cfg0.win 6).blk t).view.emb) emb6 i
    exact ⟨t, flush0_6 t, ((cfg0.win 6).blk t).view.emb_mem_set _⟩)

theorem final7 (c : Dev nD) : (dats m 0 c).arrAt 7 cfg0.N = NV (A1 m c) (A3 m c) :=
  (dats m 0 c).arrAt_eq_of_cover 7 _ (fun t _ => flushed7_eq m c t) (fun i => by
    obtain ⟨t, y, rfl⟩ := hit (f := fun t => ((cfg0.win 7).blk t).view.emb) emb7 i
    exact ⟨t, flush0_7 t, ((cfg0.win 7).blk t).view.emb_mem_set _⟩)

/-- The kernel's run with the results at their functions of the arguments. -/
theorem run : θ_run defs (onTc (τ := τ) (main (F := Ideal))) ⟨m, fun _ => 0, ρ⟩ fun r => ∀ c : Dev nD,
      r.2.mem ((c : Thread nD τ).loc main_v0_0) = G (A1 m c)
      ∧ r.2.mem ((c : Thread nD τ).loc main_v0_1) = DW (A0 m c) (A1 m c) (A2 m c) (A3 m c)
      ∧ r.2.mem ((c : Thread nD τ).loc main_v0_2) = NM (A1 m c) (A2 m c)
      ∧ r.2.mem ((c : Thread nD τ).loc main_v0_3) = NV (A1 m c) (A3 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c :=
  (θ_run defs _ _).mono (fun _ h c => ⟨(h c).1.trans (final4 m c), (h c).2.1.trans (final5 m c), (h c).2.2.1.trans (final6 m c), (h c).2.2.2.1.trans (final7 m c), (h c).2.2.2.2⟩) (run_blocks m ρ)

/-! ## The reference -/

section
open Cert.AdamBranchRefIdeal.Read
variable (x a b : FVec Ideal S4x1024x256 .f32) (p : FVec Ideal S8x1024x256 .bf16)

theorem ref_total (r : Fin 1024) (q : Fin 256) : val_main_v1 (F := Ideal) p (ix2 r q) = total p r q := by
  unfold total
  pointwise [val_main_v1, val_main_v0, val_main_cst]

theorem ref_nm (r : Fin 1024) (q : Fin 256) : val_main_v12 (F := Ideal) p a (ix2 r q) = nm (total p r q) (a (ix3 0 r q)) := by
  unfold nm
  rw [← ref_total]
  pointwise [val_main_v12, val_main_v11, val_main_v10, val_main_v9, val_main_v8, val_main_v5, val_main_v4, val_main_cst_0, val_main_cst_1]

theorem ref_nv (r : Fin 1024) (q : Fin 256) : val_main_v18 (F := Ideal) p b (ix2 r q) = nv (total p r q) (b (ix3 0 r q)) := by
  unfold nv
  rw [← ref_total]
  pointwise [val_main_v18, val_main_v17, val_main_v16, val_main_v15, val_main_v14, val_main_v13, val_main_v7, val_main_v6, val_main_cst_2, val_main_cst_3]

theorem ref_dw (r : Fin 1024) (q : Fin 256) :
    val_main_v31 (F := Ideal) x p a b (ix2 r q) = dw (x (ix3 0 r q)) (total p r q) (a (ix3 0 r q)) (b (ix3 0 r q)) := by
  unfold dw
  rw [← ref_nm, ← ref_nv, ← div_d1, ← div_d2]
  pointwise [val_main_v31, val_main_v30, val_main_v29, val_main_v28, val_main_v27, val_main_v26, val_main_v25, val_main_v24, val_main_v23, val_main_v22, val_main_v21, val_main_v20, val_main_v19, val_main_v3, val_main_v2, val_main_cst_4, val_main_cst_5, val_main_cst_6, val_main_cst_7, val_main_cst_8]

theorem ref_G (i : S1024x256.Idx) : val_main_v1 (F := Ideal) p i = G p i :=
  (congrArg (val_main_v1 (F := Ideal) p) (eq_ix2 (n0 := 1024) (n1 := 256) i)).trans (ref_total p (i 0) (i 1))

theorem ref_DW (i : S1024x256.Idx) : val_main_v31 (F := Ideal) x p a b i = DW x p a b i :=
  (congrArg (val_main_v31 (F := Ideal) x p a b) (eq_ix2 (n0 := 1024) (n1 := 256) i)).trans (ref_dw x a b p (i 0) (i 1))

theorem ref_NM (i : S1024x256.Idx) : val_main_v12 (F := Ideal) p a i = NM p a i :=
  (congrArg (val_main_v12 (F := Ideal) p a) (eq_ix2 (n0 := 1024) (n1 := 256) i)).trans (ref_nm a p (i 0) (i 1))

theorem ref_NV (i : S1024x256.Idx) : val_main_v18 (F := Ideal) p b i = NV p b i :=
  (congrArg (val_main_v18 (F := Ideal) p b) (eq_ix2 (n0 := 1024) (n1 := 256) i)).trans (ref_nv b p (i 0) (i 1))
end

/-- Its arguments. -/
abbrev B0 (m : (ℓ : Loc Cert.AdamBranchRefIdeal.nD Cert.AdamBranchRefIdeal.τ Cert.AdamBranchRefIdeal.sig) → Buf (Elt Ideal) ℓ) (c : Dev Cert.AdamBranchRefIdeal.nD) := m ((c : Thread Cert.AdamBranchRefIdeal.nD Cert.AdamBranchRefIdeal.τ).loc Cert.AdamBranchRefIdeal.main_arg0)
abbrev B1 (m : (ℓ : Loc Cert.AdamBranchRefIdeal.nD Cert.AdamBranchRefIdeal.τ Cert.AdamBranchRefIdeal.sig) → Buf (Elt Ideal) ℓ) (c : Dev Cert.AdamBranchRefIdeal.nD) := m ((c : Thread Cert.AdamBranchRefIdeal.nD Cert.AdamBranchRefIdeal.τ).loc Cert.AdamBranchRefIdeal.main_arg1)
abbrev B2 (m : (ℓ : Loc Cert.AdamBranchRefIdeal.nD Cert.AdamBranchRefIdeal.τ Cert.AdamBranchRefIdeal.sig) → Buf (Elt Ideal) ℓ) (c : Dev Cert.AdamBranchRefIdeal.nD) := m ((c : Thread Cert.AdamBranchRefIdeal.nD Cert.AdamBranchRefIdeal.τ).loc Cert.AdamBranchRefIdeal.main_arg2)
abbrev B3 (m : (ℓ : Loc Cert.AdamBranchRefIdeal.nD Cert.AdamBranchRefIdeal.τ Cert.AdamBranchRefIdeal.sig) → Buf (Elt Ideal) ℓ) (c : Dev Cert.AdamBranchRefIdeal.nD) := m ((c : Thread Cert.AdamBranchRefIdeal.nD Cert.AdamBranchRefIdeal.τ).loc Cert.AdamBranchRefIdeal.main_arg3)

/-- The reference's run with the results at the same functions. -/
theorem ref_run (m : (ℓ : Loc Cert.AdamBranchRefIdeal.nD Cert.AdamBranchRefIdeal.τ Cert.AdamBranchRefIdeal.sig) → Buf (Elt Ideal) ℓ) (ρ : Dev Cert.AdamBranchRefIdeal.nD → PrngReg) :
    θ_run Cert.AdamBranchRefIdeal.defs (onTc (τ := Cert.AdamBranchRefIdeal.τ) (Cert.AdamBranchRefIdeal.main (F := Ideal))) ⟨m, fun _ => 0, ρ⟩ fun r => ∀ c : Dev Cert.AdamBranchRefIdeal.nD,
      r.2.mem ((c : Thread Cert.AdamBranchRefIdeal.nD Cert.AdamBranchRefIdeal.τ).loc Cert.AdamBranchRefIdeal.main_v1) = G (B1 m c)
      ∧ r.2.mem ((c : Thread Cert.AdamBranchRefIdeal.nD Cert.AdamBranchRefIdeal.τ).loc Cert.AdamBranchRefIdeal.main_v31) = DW (B0 m c) (B1 m c) (B2 m c) (B3 m c)
      ∧ r.2.mem ((c : Thread Cert.AdamBranchRefIdeal.nD Cert.AdamBranchRefIdeal.τ).loc Cert.AdamBranchRefIdeal.main_v12) = NM (B1 m c) (B2 m c)
      ∧ r.2.mem ((c : Thread Cert.AdamBranchRefIdeal.nD Cert.AdamBranchRefIdeal.τ).loc Cert.AdamBranchRefIdeal.main_v18) = NV (B1 m c) (B3 m c)
      ∧ r.2.mem ((c : Thread Cert.AdamBranchRefIdeal.nD Cert.AdamBranchRefIdeal.τ).loc Cert.AdamBranchRefIdeal.main_arg0) = B0 m c
      ∧ r.2.mem ((c : Thread Cert.AdamBranchRefIdeal.nD Cert.AdamBranchRefIdeal.τ).loc Cert.AdamBranchRefIdeal.main_arg1) = B1 m c
      ∧ r.2.mem ((c : Thread Cert.AdamBranchRefIdeal.nD Cert.AdamBranchRefIdeal.τ).loc Cert.AdamBranchRefIdeal.main_arg2) = B2 m c
      ∧ r.2.mem ((c : Thread Cert.AdamBranchRefIdeal.nD Cert.AdamBranchRefIdeal.τ).loc Cert.AdamBranchRefIdeal.main_arg3) = B3 m c :=
  (θ_run Cert.AdamBranchRefIdeal.defs _ _).mono (fun _ h c =>
    ⟨((h c).1.trans (Cert.AdamBranchRefIdeal.Read.val_main_v1_eq (F := Ideal) _)).trans (funext fun i => ref_G _ i), ((h c).2.1.trans (Cert.AdamBranchRefIdeal.Read.val_main_v31_eq (F := Ideal) _ _ _ _)).trans (funext fun i => ref_DW _ _ _ _ i), ((h c).2.2.1.trans (Cert.AdamBranchRefIdeal.Read.val_main_v12_eq (F := Ideal) _ _)).trans (funext fun i => ref_NM _ _ i), ((h c).2.2.2.1.trans (Cert.AdamBranchRefIdeal.Read.val_main_v18_eq (F := Ideal) _ _)).trans (funext fun i => ref_NV _ _ i), (h c).2.2.2.2⟩)
    (Cert.AdamBranchRefIdeal.Value.run (F := Ideal) m ρ)

/-! ## The claims -/

/-- The kernel's frame: the generated one. -/
theorem frame_p : Cert.quiescent_AdamBranch := fun m ρ _ => Cert.AdamBranch.Gen.frame m ρ

/-- The idealized kernel's frame: the generated one. -/
theorem frame_pi : Cert.quiescent_AdamBranchIdeal := fun m ρ _ => Cert.AdamBranchIdeal.Gen.frame m ρ

/-- The reference's frame: its run read at the arguments. It declares no semaphore. -/
theorem frame_ri : Cert.quiescent_AdamBranchRefIdeal := fun m ρ _ =>
  (θ_run Cert.AdamBranchRefIdeal.defs _ _).mono
    (fun r h => ⟨fun c => (h c).2.2.2.2, sem_eq_zero_of_no_sems (by decide) r.2⟩)
    (Cert.AdamBranchRefIdeal.Value.run (F := Ideal) m ρ)

/-- The two named reciprocals denote what the table says. -/
theorem preserves : Cert.preserves_AdamBranch_AdamBranchIdeal :=
  ⟨IdealRules.named_const.statement _ _ _ _ _ rfl, IdealRules.named_const.statement _ _ _ _ _ rfl⟩

/-- The results agree: each side's run read at its results, from equal arguments. -/
theorem algebraic : Cert.algebraic_AdamBranchIdeal_AdamBranchRefIdeal := by
  intro m ρ m' ρ' _ hagree
  refine ⟨_, _, _, _, run m ρ, ?_⟩
  refine (θ_run Cert.AdamBranchRefIdeal.defs _ _).mono (fun r h c => ?_) (ref_run m' ρ')
  obtain ⟨e0, e1, e2, e3⟩ := hagree c
  refine ⟨(h c).1.trans (congrArg G e1), (h c).2.1.trans ?_, (h c).2.2.1.trans (congrArg₂ NM e1 e2), (h c).2.2.2.1.trans (congrArg₂ NV e1 e3), (h c).2.2.2.2⟩
  exact (congrArg₂ (fun u v => DW u v _ _) e0 e1).trans (congrArg₂ (DW _ _) e2 e3)

end Cert.Proof.AdamBranch

end
-- ==== Proof.AdamOut.lean ====
/- Hand-written, untrusted: THE OPTIMISER'S STEP on one layer's shard of the output projection's weights: the gradient summed over the
   devices' parts, the two moments and the weights' change. The kernel's results as functions of its arguments (`G`, `DW`, `NM`, `NV`),
   each grid point's block of them, the reference's results as the same functions, and the claims. -/
module

public import proofs.«01_k».proof.Defs
public import proofs.«01_k».proof.Proof.Adam
public import proofs.«01_k».proof.Proof.Gen.AdamOut.Frame
public import proofs.«01_k».proof.Proof.Gen.AdamOutIdeal.Value
public import proofs.«01_k».proof.Proof.Gen.AdamOutRefIdeal.Read
public import Idealize.ShloMosaic.Lib.Pointwise
public import Idealize.ShloMosaic.Lib.Pipeline.ValueKit.Acc
public import Idealize.ShloMosaic.Lib.Quiescent

@[expose] public section

set_option maxRecDepth 16384

noncomputable section

namespace Cert.Proof.AdamOut

open Cert.AdamOutIdeal Cert.AdamOutIdeal.Gen Cert.AdamOutIdeal.Value Idealize.ShloMosaic Idealize.ShloMosaic.TcCoe Idealize.SL.Sem
open Idealize.ShloMosaic.Tactic
open Cert.Proof.Adam (c1 c2 nm nv dw div_d1 div_d2)

/-! ## The named reciprocals; the step of one weight is that of Proof/Adam.lean -/

theorem c1_eq : Named.named (F := Ideal) κ "c1" (φ := .f32) 0x3FC48605#32 = c1 := IdealRules.named_const.ideal_named_scalar _ _ _ _ rfl

theorem c2_eq : Named.named (F := Ideal) κ "c2" (φ := .f32) 0x42C8E6D3#32 = c2 := IdealRules.named_const.ideal_named_scalar _ _ _ _ rfl

/-! ## What the body stores -/

section
variable (x a b : FVec Ideal S1x128x2048 .f32) (p : FVec Ideal S8x128x2048 .bf16)

theorem sum_apply (r : Fin 128) (q : Fin 2048) : k0_pay5 (F := Ideal) x p a b (ix2 r q) = ∑ d : Fin 8, p (ix3 d r q) := by
  rw [Fin.sum_univ_eight]
  pointwise [k0_pay5, k0_pay1]

theorem nm_apply (g : FVec Ideal S128x2048 .f32) (r : Fin 128) (q : Fin 2048) : k0_pay2 (F := Ideal) g a (ix2 r q) = nm (g (ix2 r q)) (a (ix3 0 r q)) := by
  unfold nm
  pointwise [k0_pay2]

theorem nv_apply (g : FVec Ideal S128x2048 .f32) (r : Fin 128) (q : Fin 2048) : k0_pay3 (F := Ideal) g b (ix2 r q) = nv (g (ix2 r q)) (b (ix3 0 r q)) := by
  unfold nv
  pointwise [k0_pay3]

theorem dw_apply (g : FVec Ideal S128x2048 .f32) (r : Fin 128) (q : Fin 2048) :
    k0_pay4 (F := Ideal) g a b x (ix2 r q) = dw (x (ix3 0 r q)) (g (ix2 r q)) (a (ix3 0 r q)) (b (ix3 0 r q)) := by
  unfold dw
  rw [← nm_apply, ← nv_apply]
  pointwise [k0_pay4, c1_eq, c2_eq]

theorem out4_eq : out0_4 (F := Ideal) x p a b = k0_pay5 (F := Ideal) x p a b := by frame_out

theorem out5_eq : out0_5 (F := Ideal) x p a b = k0_pay4 (F := Ideal) (k0_pay5 (F := Ideal) x p a b) a b x := by frame_out

theorem out6_eq : out0_6 (F := Ideal) x p a b = k0_pay2 (F := Ideal) (k0_pay5 (F := Ideal) x p a b) a := by frame_out

theorem out7_eq : out0_7 (F := Ideal) x p a b = k0_pay3 (F := Ideal) (k0_pay5 (F := Ideal) x p a b) b := by frame_out
end

/-! ## The results -/

/-- The sum of the devices' parts of one weight's gradient. -/
def total (p : FVec Ideal S8x256x2048 .bf16) (r : Fin 256) (q : Fin 2048) : EReal := ∑ d : Fin 8, p (ix3 d r q)

/-- The gradient. -/
def G (p : FVec Ideal S8x256x2048 .bf16) : FVec Ideal S256x2048 .f32 := fun i => total p (i 0) (i 1)

/-- The weights' change: the first of the four layers' weights and moments are the step's. -/
def DW (x : FVec Ideal S4x256x2048 .f32) (p : FVec Ideal S8x256x2048 .bf16) (a b : FVec Ideal S4x256x2048 .f32) : FVec Ideal S256x2048 .f32 :=
  fun i => dw (x (ix3 0 (i 0) (i 1))) (total p (i 0) (i 1)) (a (ix3 0 (i 0) (i 1))) (b (ix3 0 (i 0) (i 1)))

/-- The moments. -/
def NM (p : FVec Ideal S8x256x2048 .bf16) (a : FVec Ideal S4x256x2048 .f32) : FVec Ideal S256x2048 .f32 :=
  fun i => nm (total p (i 0) (i 1)) (a (ix3 0 (i 0) (i 1)))
def NV (p : FVec Ideal S8x256x2048 .bf16) (b : FVec Ideal S4x256x2048 .f32) : FVec Ideal S256x2048 .f32 :=
  fun i => nv (total p (i 0) (i 1)) (b (ix3 0 (i 0) (i 1)))

variable (m : (ℓ : Loc nD τ sig) → Buf (Elt Ideal) ℓ) (ρ : Dev nD → PrngReg)

/-- The arguments: the weights, the parts of the gradient, the moments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-! ## Which blocks a grid point reads and writes -/

theorem idx : ∀ t : Fin cfg0.N, (t.val < 2)
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The row of the arrays at a row of the point's block. -/
def R (t : Fin cfg0.N) (r : Fin 128) : Fin 256 := ⟨t.val * 128 + r.val, by have h := (idx t).1; omega⟩

theorem blk0 (c : Dev nD) (t : Fin cfg0.N) (r : Fin 128) (q : Fin 2048) : iblk m c 0 t (ix3 (0 : Fin 1) r q) = A0 m c (ix3 (0 : Fin 4) (R t r) q) := by
  obtain ⟨e0, e1, e2⟩ := (idx t).2.1
  show V m c main_arg0 (((cfg0.win 0).blk t).view.emb (ix3 (0 : Fin 1) r q)) = _
  rw [V_main_arg0]
  refine congrArg (m ((c : Thread nD τ).loc main_arg0)) (funext fun a => Fin.ext ?_)
  match a with
  | ⟨0, _⟩ => show win0_0.index t (0 : Fin 3) * 1 + 1 * 0 = 0; omega
  | ⟨1, _⟩ => show win0_0.index t (1 : Fin 3) * 128 + 1 * r.val = t.val * 128 + r.val; omega
  | ⟨2, _⟩ => show win0_0.index t (2 : Fin 3) * 2048 + 1 * q.val = q.val; omega

theorem blk1 (c : Dev nD) (t : Fin cfg0.N) (d : Fin 8) (r : Fin 128) (q : Fin 2048) : iblk m c 1 t (ix3 d r q) = A1 m c (ix3 d (R t r) q) := by
  obtain ⟨e0, e1, e2⟩ := (idx t).2.2.1
  show V m c main_arg1 (((cfg0.win 1).blk t).view.emb (ix3 d r q)) = _
  rw [V_main_arg1]
  refine congrArg (m ((c : Thread nD τ).loc main_arg1)) (funext fun a => Fin.ext ?_)
  match a with
  | ⟨0, _⟩ => show win0_1.index t (0 : Fin 3) * 8 + 1 * d.val = d.val; omega
  | ⟨1, _⟩ => show win0_1.index t (1 : Fin 3) * 128 + 1 * r.val = t.val * 128 + r.val; omega
  | ⟨2, _⟩ => show win0_1.index t (2 : Fin 3) * 2048 + 1 * q.val = q.val; omega

theorem blk2 (c : Dev nD) (t : Fin cfg0.N) (r : Fin 128) (q : Fin 2048) : iblk m c 2 t (ix3 (0 : Fin 1) r q) = A2 m c (ix3 (0 : Fin 4) (R t r) q) := by
  obtain ⟨e0, e1, e2⟩ := (idx t).2.2.2.1
  show V m c main_arg2 (((cfg0.win 2).blk t).view.emb (ix3 (0 : Fin 1) r q)) = _
  rw [V_main_arg2]
  refine congrArg (m ((c : Thread nD τ).loc main_arg2)) (funext fun a => Fin.ext ?_)
  match a with
  | ⟨0, _⟩ => show win0_2.index t (0 : Fin 3) * 1 + 1 * 0 = 0; omega
  | ⟨1, _⟩ => show win0_2.index t (1 : Fin 3) * 128 + 1 * r.val = t.val * 128 + r.val; omega
  | ⟨2, _⟩ => show win0_2.index t (2 : Fin 3) * 2048 + 1 * q.val = q.val; omega

theorem blk3 (c : Dev nD) (t : Fin cfg0.N) (r : Fin 128) (q : Fin 2048) : iblk m c 3 t (ix3 (0 : Fin 1) r q) = A3 m c (ix3 (0 : Fin 4) (R t r) q) := by
  obtain ⟨e0, e1, e2⟩ := (idx t).2.2.2.2.1
  show V m c main_arg3 (((cfg0.win 3).blk t).view.emb (ix3 (0 : Fin 1) r q)) = _
  rw [V_main_arg3]
  refine congrArg (m ((c : Thread nD τ).loc main_arg3)) (funext fun a => Fin.ext ?_)
  match a with
  | ⟨0, _⟩ => show win0_3.index t (0 : Fin 3) * 1 + 1 * 0 = 0; omega
  | ⟨1, _⟩ => show win0_3.index t (1 : Fin 3) * 128 + 1 * r.val = t.val * 128 + r.val; omega
  | ⟨2, _⟩ => show win0_3.index t (2 : Fin 3) * 2048 + 1 * q.val = q.val; omega

theorem sum_eq (c : Dev nD) (t : Fin cfg0.N) (r : Fin 128) (q : Fin 2048) :
    k0_pay5 (F := Ideal) (iblk m c 0 t) (iblk m c 1 t) (iblk m c 2 t) (iblk m c 3 t) (ix2 r q) = total (A1 m c) (R t r) q :=
  (sum_apply _ _ _ _ r q).trans (Finset.sum_congr rfl fun d _ => blk1 m c t d r q)

theorem emb4 (t : Fin cfg0.N) (r : Fin 128) (q : Fin 2048) : ((cfg0.win 4).blk t).view.emb (ix2 r q : S128x2048.Idx) = (ix2 (R t r) q : S256x2048.Idx) := by
  obtain ⟨e0, e1⟩ := (idx t).2.2.2.2.2.1
  funext a; apply Fin.ext
  match a with
  | ⟨0, _⟩ => show win0_4.index t (0 : Fin 2) * 128 + 1 * r.val = t.val * 128 + r.val; omega
  | ⟨1, _⟩ => show win0_4.index t (1 : Fin 2) * 2048 + 1 * q.val = q.val; omega

theorem flushed4_eq (c : Dev nD) (t : Fin cfg0.N) : (dats m 0 c).flushed 4 t = ((cfg0.win 4).blk t).view.read (Elt Ideal) (G (A1 m c)) := by
  rw [flushed4]
  funext y
  refine (congrFun (out4_eq (iblk m c 0 t) (iblk m c 2 t) (iblk m c 3 t) (iblk m c 1 t)) y).trans ?_
  obtain ⟨r, q, rfl⟩ : ∃ (a : Fin 128) (b : Fin 2048), y = ix2 a b := ⟨y 0, y 1, eq_ix2 (n0 := 128) (n1 := 2048) y⟩
  refine Eq.trans ?_ (congrArg (G (A1 m c)) (emb4 t r q)).symm
  show _ = total (A1 m c) (R t r) q
  exact (sum_eq m c t r q)

theorem emb5 (t : Fin cfg0.N) (r : Fin 128) (q : Fin 2048) : ((cfg0.win 5).blk t).view.emb (ix2 r q : S128x2048.Idx) = (ix2 (R t r) q : S256x2048.Idx) := by
  obtain ⟨e0, e1⟩ := (idx t).2.2.2.2.2.2.1
  funext a; apply Fin.ext
  match a with
  | ⟨0, _⟩ => show win0_5.index t (0 : Fin 2) * 128 + 1 * r.val = t.val * 128 + r.val; omega
  | ⟨1, _⟩ => show win0_5.index t (1 : Fin 2) * 2048 + 1 * q.val = q.val; omega

theorem flushed5_eq (c : Dev nD) (t : Fin cfg0.N) : (dats m 0 c).flushed 5 t = ((cfg0.win 5).blk t).view.read (Elt Ideal) (DW (A0 m c) (A1 m c) (A2 m c) (A3 m c)) := by
  rw [flushed5]
  funext y
  refine (congrFun (out5_eq (iblk m c 0 t) (iblk m c 2 t) (iblk m c 3 t) (iblk m c 1 t)) y).trans ?_
  obtain ⟨r, q, rfl⟩ : ∃ (a : Fin 128) (b : Fin 2048), y = ix2 a b := ⟨y 0, y 1, eq_ix2 (n0 := 128) (n1 := 2048) y⟩
  refine Eq.trans ?_ (congrArg (DW (A0 m c) (A1 m c) (A2 m c) (A3 m c)) (emb5 t r q)).symm
  show _ = dw ((A0 m c) (ix3 0 (R t r) q)) (total (A1 m c) (R t r) q) ((A2 m c) (ix3 0 (R t r) q)) ((A3 m c) (ix3 0 (R t r) q))
  refine (dw_apply _ _ _ _ r q).trans ?_
  rw [sum_eq, blk0, blk2, blk3]

theorem emb6 (t : Fin cfg0.N) (r : Fin 128) (q : Fin 2048) : ((cfg0.win 6).blk t).view.emb (ix2 r q : S128x2048.Idx) = (ix2 (R t r) q : S256x2048.Idx) := by
  obtain ⟨e0, e1⟩ := (idx t).2.2.2.2.2.2.2.1
  funext a; apply Fin.ext
  match a with
  | ⟨0, _⟩ => show win0_6.index t (0 : Fin 2) * 128 + 1 * r.val = t.val * 128 + r.val; omega
  | ⟨1, _⟩ => show win0_6.index t (1 : Fin 2) * 2048 + 1 * q.val = q.val; omega

theorem flushed6_eq (c : Dev nD) (t : Fin cfg0.N) : (dats m 0 c).flushed 6 t = ((cfg0.win 6).blk t).view.read (Elt Ideal) (NM (A1 m c) (A2 m c)) := by
  rw [flushed6]
  funext y
  refine (congrFun (out6_eq (iblk m c 0 t) (iblk m c 2 t) (iblk m c 3 t) (iblk m c 1 t)) y).trans ?_
  obtain ⟨r, q, rfl⟩ : ∃ (a : Fin 128) (b : Fin 2048), y = ix2 a b := ⟨y 0, y 1, eq_ix2 (n0 := 128) (n1 := 2048) y⟩
  refine Eq.trans ?_ (congrArg (NM (A1 m c) (A2 m c)) (emb6 t r q)).symm
  show _ = nm (total (A1 m c) (R t r) q) ((A2 m c) (ix3 0 (R t r) q))
  refine (nm_apply _ _ r q).trans ?_
  rw [sum_eq, blk2]

theorem emb7 (t : Fin cfg0.N) (r : Fin 128) (q : Fin 2048) : ((cfg0.win 7).blk t).view.emb (ix2 r q : S128x2048.Idx) = (ix2 (R t r) q : S256x2048.Idx) := by
  obtain ⟨e0, e1⟩ := (idx t).2.2.2.2.2.2.2.2
  funext a; apply Fin.ext
  match a with
  | ⟨0, _⟩ => show win0_7.index t (0 : Fin 2) * 128 + 1 * r.val = t.val * 128 + r.val; omega
  | ⟨1, _⟩ => show win0_7.index t (1 : Fin 2) * 2048 + 1 * q.val = q.val; omega

theorem flushed7_eq (c : Dev nD) (t : Fin cfg0.N) : (dats m 0 c).flushed 7 t = ((cfg0.win 7).blk t).view.read (Elt Ideal) (NV (A1 m c) (A3 m c)) := by
  rw [flushed7]
  funext y
  refine (congrFun (out7_eq (iblk m c 0 t) (iblk m c 2 t) (iblk m c 3 t) (iblk m c 1 t)) y).trans ?_
  obtain ⟨r, q, rfl⟩ : ∃ (a : Fin 128) (b : Fin 2048), y = ix2 a b := ⟨y 0, y 1, eq_ix2 (n0 := 128) (n1 := 2048) y⟩
  refine Eq.trans ?_ (congrArg (NV (A1 m c) (A3 m c)) (emb7 t r q)).symm
  show _ = nv (total (A1 m c) (R t r) q) ((A3 m c) (ix3 0 (R t r) q))
  refine (nv_apply _ _ r q).trans ?_
  rw [sum_eq, blk3]

/-- Every row is some point's. -/
theorem spot (i : Fin 256) : ∃ (t : Fin cfg0.N) (r : Fin 128), R t r = i :=
  ⟨⟨i.val / 128, lt_of_lt_of_eq (by omega) (show 2 = cfg0.N from N_0.symm)⟩, ⟨i.val % 128, Nat.mod_lt _ (by decide)⟩,
    Fin.ext (by show i.val / 128 * 128 + i.val % 128 = i.val; omega)⟩

/-- A map of the points' blocks that puts each entry in its row and column reaches every entry. -/
theorem hit {f : Fin cfg0.N → S128x2048.Idx → S256x2048.Idx} (h : ∀ t r q, f t (ix2 r q) = ix2 (R t r) q) (i : S256x2048.Idx) : ∃ t y, f t y = i :=
  have ⟨t, r, e⟩ := spot (i 0)
  ⟨t, ix2 r (i 1), (h t r (i 1)).trans ((congrArg (fun a => (ix2 a (i 1) : S256x2048.Idx)) e).trans (eq_ix2 (n0 := 256) (n1 := 2048) i).symm)⟩

theorem final4 (c : Dev nD) : (dats m 0 c).arrAt 4 cfg0.N = G (A1 m c) :=
  (dats m 0 c).arrAt_eq_of_cover 4 _ (fun t _ => flushed4_eq m c t) (fun i => by
    obtain ⟨t, y, rfl⟩ := hit (f := fun t => ((cfg0.win 4).blk t).view.emb) emb4 i
    exact ⟨t, flush0_4 t, ((cfg0.win 4).blk t).view.emb_mem_set _⟩)

theorem final5 (c : Dev nD) : (dats m 0 c).arrAt 5 cfg0.N = DW (A0 m c) (A1 m c) (A2 m c) (A3 m c) :=
  (dats m 0 c).arrAt_eq_of_cover 5 _ (fun t _ => flushed5_eq m c t) (fun i => by
    obtain ⟨t, y, rfl⟩ := hit (f := fun t => ((cfg0.win 5).blk t).view.emb) emb5 i
    exact ⟨t, flush0_5 t, ((cfg0.win 5).blk t).view.emb_mem_set _⟩)

theorem final6 (c : Dev nD) : (dats m 0 c).arrAt 6 cfg0.N = NM (A1 m c) (A2 m c) :=
  (dats m 0 c).arrAt_eq_of_cover 6 _ (fun t _ => flushed6_eq m c t) (fun i => by
    obtain ⟨t, y, rfl⟩ := hit (f := fun t => ((cfg0.win 6).blk t).view.emb) emb6 i
    exact ⟨t, flush0_6 t, ((cfg0.win 6).blk t).view.emb_mem_set _⟩)

theorem final7 (c : Dev nD) : (dats m 0 c).arrAt 7 cfg0.N = NV (A1 m c) (A3 m c) :=
  (dats m 0 c).arrAt_eq_of_cover 7 _ (fun t _ => flushed7_eq m c t) (fun i => by
    obtain ⟨t, y, rfl⟩ := hit (f := fun t => ((cfg0.win 7).blk t).view.emb) emb7 i
    exact ⟨t, flush0_7 t, ((cfg0.win 7).blk t).view.emb_mem_set _⟩)

/-- The kernel's run with the results at their functions of the arguments. -/
theorem run : θ_run defs (onTc (τ := τ) (main (F := Ideal))) ⟨m, fun _ => 0, ρ⟩ fun r => ∀ c : Dev nD,
      r.2.mem ((c : Thread nD τ).loc main_v0_0) = G (A1 m c)
      ∧ r.2.mem ((c : Thread nD τ).loc main_v0_1) = DW (A0 m c) (A1 m c) (A2 m c) (A3 m c)
      ∧ r.2.mem ((c : Thread nD τ).loc main_v0_2) = NM (A1 m c) (A2 m c)
      ∧ r.2.mem ((c : Thread nD τ).loc main_v0_3) = NV (A1 m c) (A3 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c :=
  (θ_run defs _ _).mono (fun _ h c => ⟨(h c).1.trans (final4 m c), (h c).2.1.trans (final5 m c), (h c).2.2.1.trans (final6 m c), (h c).2.2.2.1.trans (final7 m c), (h c).2.2.2.2⟩) (run_blocks m ρ)

/-! ## The reference -/

section
open Cert.AdamOutRefIdeal.Read
variable (x a b : FVec Ideal S4x256x2048 .f32) (p : FVec Ideal S8x256x2048 .bf16)

theorem ref_total (r : Fin 256) (q : Fin 2048) : val_main_v1 (F := Ideal) p (ix2 r q) = total p r q := by
  unfold total
  pointwise [val_main_v1, val_main_v0, val_main_cst]

theorem ref_nm (r : Fin 256) (q : Fin 2048) : val_main_v12 (F := Ideal) p a (ix2 r q) = nm (total p r q) (a (ix3 0 r q)) := by
  unfold nm
  rw [← ref_total]
  pointwise [val_main_v12, val_main_v11, val_main_v10, val_main_v9, val_main_v8, val_main_v5, val_main_v4, val_main_cst_0, val_main_cst_1]

theorem ref_nv (r : Fin 256) (q : Fin 2048) : val_main_v18 (F := Ideal) p b (ix2 r q) = nv (total p r q) (b (ix3 0 r q)) := by
  unfold nv
  rw [← ref_total]
  pointwise [val_main_v18, val_main_v17, val_main_v16, val_main_v15, val_main_v14, val_main_v13, val_main_v7, val_main_v6, val_main_cst_2, val_main_cst_3]

theorem ref_dw (r : Fin 256) (q : Fin 2048) :
    val_main_v31 (F := Ideal) x p a b (ix2 r q) = dw (x (ix3 0 r q)) (total p r q) (a (ix3 0 r q)) (b (ix3 0 r q)) := by
  unfold dw
  rw [← ref_nm, ← ref_nv, ← div_d1, ← div_d2]
  pointwise [val_main_v31, val_main_v30, val_main_v29, val_main_v28, val_main_v27, val_main_v26, val_main_v25, val_main_v24, val_main_v23, val_main_v22, val_main_v21, val_main_v20, val_main_v19, val_main_v3, val_main_v2, val_main_cst_4, val_main_cst_5, val_main_cst_6, val_main_cst_7, val_main_cst_8]

theorem ref_G (i : S256x2048.Idx) : val_main_v1 (F := Ideal) p i = G p i :=
  (congrArg (val_main_v1 (F := Ideal) p) (eq_ix2 (n0 := 256) (n1 := 2048) i)).trans (ref_total p (i 0) (i 1))

theorem ref_DW (i : S256x2048.Idx) : val_main_v31 (F := Ideal) x p a b i = DW x p a b i :=
  (congrArg (val_main_v31 (F := Ideal) x p a b) (eq_ix2 (n0 := 256) (n1 := 2048) i)).trans (ref_dw x a b p (i 0) (i 1))

theorem ref_NM (i : S256x2048.Idx) : val_main_v12 (F := Ideal) p a i = NM p a i :=
  (congrArg (val_main_v12 (F := Ideal) p a) (eq_ix2 (n0 := 256) (n1 := 2048) i)).trans (ref_nm a p (i 0) (i 1))

theorem ref_NV (i : S256x2048.Idx) : val_main_v18 (F := Ideal) p b i = NV p b i :=
  (congrArg (val_main_v18 (F := Ideal) p b) (eq_ix2 (n0 := 256) (n1 := 2048) i)).trans (ref_nv b p (i 0) (i 1))
end

/-- Its arguments. -/
abbrev B0 (m : (ℓ : Loc Cert.AdamOutRefIdeal.nD Cert.AdamOutRefIdeal.τ Cert.AdamOutRefIdeal.sig) → Buf (Elt Ideal) ℓ) (c : Dev Cert.AdamOutRefIdeal.nD) := m ((c : Thread Cert.AdamOutRefIdeal.nD Cert.AdamOutRefIdeal.τ).loc Cert.AdamOutRefIdeal.main_arg0)
abbrev B1 (m : (ℓ : Loc Cert.AdamOutRefIdeal.nD Cert.AdamOutRefIdeal.τ Cert.AdamOutRefIdeal.sig) → Buf (Elt Ideal) ℓ) (c : Dev Cert.AdamOutRefIdeal.nD) := m ((c : Thread Cert.AdamOutRefIdeal.nD Cert.AdamOutRefIdeal.τ).loc Cert.AdamOutRefIdeal.main_arg1)
abbrev B2 (m : (ℓ : Loc Cert.AdamOutRefIdeal.nD Cert.AdamOutRefIdeal.τ Cert.AdamOutRefIdeal.sig) → Buf (Elt Ideal) ℓ) (c : Dev Cert.AdamOutRefIdeal.nD) := m ((c : Thread Cert.AdamOutRefIdeal.nD Cert.AdamOutRefIdeal.τ).loc Cert.AdamOutRefIdeal.main_arg2)
abbrev B3 (m : (ℓ : Loc Cert.AdamOutRefIdeal.nD Cert.AdamOutRefIdeal.τ Cert.AdamOutRefIdeal.sig) → Buf (Elt Ideal) ℓ) (c : Dev Cert.AdamOutRefIdeal.nD) := m ((c : Thread Cert.AdamOutRefIdeal.nD Cert.AdamOutRefIdeal.τ).loc Cert.AdamOutRefIdeal.main_arg3)

/-- The reference's run with the results at the same functions. -/
theorem ref_run (m : (ℓ : Loc Cert.AdamOutRefIdeal.nD Cert.AdamOutRefIdeal.τ Cert.AdamOutRefIdeal.sig) → Buf (Elt Ideal) ℓ) (ρ : Dev Cert.AdamOutRefIdeal.nD → PrngReg) :
    θ_run Cert.AdamOutRefIdeal.defs (onTc (τ := Cert.AdamOutRefIdeal.τ) (Cert.AdamOutRefIdeal.main (F := Ideal))) ⟨m, fun _ => 0, ρ⟩ fun r => ∀ c : Dev Cert.AdamOutRefIdeal.nD,
      r.2.mem ((c : Thread Cert.AdamOutRefIdeal.nD Cert.AdamOutRefIdeal.τ).loc Cert.AdamOutRefIdeal.main_v1) = G (B1 m c)
      ∧ r.2.mem ((c : Thread Cert.AdamOutRefIdeal.nD Cert.AdamOutRefIdeal.τ).loc Cert.AdamOutRefIdeal.main_v31) = DW (B0 m c) (B1 m c) (B2 m c) (B3 m c)
      ∧ r.2.mem ((c : Thread Cert.AdamOutRefIdeal.nD Cert.AdamOutRefIdeal.τ).loc Cert.AdamOutRefIdeal.main_v12) = NM (B1 m c) (B2 m c)
      ∧ r.2.mem ((c : Thread Cert.AdamOutRefIdeal.nD Cert.AdamOutRefIdeal.τ).loc Cert.AdamOutRefIdeal.main_v18) = NV (B1 m c) (B3 m c)
      ∧ r.2.mem ((c : Thread Cert.AdamOutRefIdeal.nD Cert.AdamOutRefIdeal.τ).loc Cert.AdamOutRefIdeal.main_arg0) = B0 m c
      ∧ r.2.mem ((c : Thread Cert.AdamOutRefIdeal.nD Cert.AdamOutRefIdeal.τ).loc Cert.AdamOutRefIdeal.main_arg1) = B1 m c
      ∧ r.2.mem ((c : Thread Cert.AdamOutRefIdeal.nD Cert.AdamOutRefIdeal.τ).loc Cert.AdamOutRefIdeal.main_arg2) = B2 m c
      ∧ r.2.mem ((c : Thread Cert.AdamOutRefIdeal.nD Cert.AdamOutRefIdeal.τ).loc Cert.AdamOutRefIdeal.main_arg3) = B3 m c :=
  (θ_run Cert.AdamOutRefIdeal.defs _ _).mono (fun _ h c =>
    ⟨((h c).1.trans (Cert.AdamOutRefIdeal.Read.val_main_v1_eq (F := Ideal) _)).trans (funext fun i => ref_G _ i), ((h c).2.1.trans (Cert.AdamOutRefIdeal.Read.val_main_v31_eq (F := Ideal) _ _ _ _)).trans (funext fun i => ref_DW _ _ _ _ i), ((h c).2.2.1.trans (Cert.AdamOutRefIdeal.Read.val_main_v12_eq (F := Ideal) _ _)).trans (funext fun i => ref_NM _ _ i), ((h c).2.2.2.1.trans (Cert.AdamOutRefIdeal.Read.val_main_v18_eq (F := Ideal) _ _)).trans (funext fun i => ref_NV _ _ i), (h c).2.2.2.2⟩)
    (Cert.AdamOutRefIdeal.Value.run (F := Ideal) m ρ)

/-! ## The claims -/

/-- The kernel's frame: the generated one. -/
theorem frame_p : Cert.quiescent_AdamOut := fun m ρ _ => Cert.AdamOut.Gen.frame m ρ

/-- The idealized kernel's frame: the generated one. -/
theorem frame_pi : Cert.quiescent_AdamOutIdeal := fun m ρ _ => Cert.AdamOutIdeal.Gen.frame m ρ

/-- The reference's frame: its run read at the arguments. It declares no semaphore. -/
theorem frame_ri : Cert.quiescent_AdamOutRefIdeal := fun m ρ _ =>
  (θ_run Cert.AdamOutRefIdeal.defs _ _).mono
    (fun r h => ⟨fun c => (h c).2.2.2.2, sem_eq_zero_of_no_sems (by decide) r.2⟩)
    (Cert.AdamOutRefIdeal.Value.run (F := Ideal) m ρ)

/-- The two named reciprocals denote what the table says. -/
theorem preserves : Cert.preserves_AdamOut_AdamOutIdeal :=
  ⟨IdealRules.named_const.statement _ _ _ _ _ rfl, IdealRules.named_const.statement _ _ _ _ _ rfl⟩

/-- The results agree: each side's run read at its results, from equal arguments. -/
theorem algebraic : Cert.algebraic_AdamOutIdeal_AdamOutRefIdeal := by
  intro m ρ m' ρ' _ hagree
  refine ⟨_, _, _, _, run m ρ, ?_⟩
  refine (θ_run Cert.AdamOutRefIdeal.defs _ _).mono (fun r h c => ?_) (ref_run m' ρ')
  obtain ⟨e0, e1, e2, e3⟩ := hagree c
  refine ⟨(h c).1.trans (congrArg G e1), (h c).2.1.trans ?_, (h c).2.2.1.trans (congrArg₂ NM e1 e2), (h c).2.2.2.1.trans (congrArg₂ NV e1 e3), (h c).2.2.2.2⟩
  exact (congrArg₂ (fun u v => DW u v _ _) e0 e1).trans (congrArg₂ (DW _ _) e2 e3)

end Cert.Proof.AdamOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.Du
public import proofs.«01_k».proof.Proof.Gen.Du.Skeleton
public import proofs.«01_k».proof.Proof.Gen.Du.Launch
public import proofs.«01_k».proof.Proof.Gen.Du.Points
public import proofs.«01_k».proof.Proof.Gen.Du.Frame
public import proofs.«01_k».proof.Proof.Gen.DuIdeal
public import proofs.«01_k».proof.Proof.Gen.DuIdeal.Skeleton
public import proofs.«01_k».proof.Proof.Gen.DuIdeal.Launch
public import proofs.«01_k».proof.Proof.Gen.DuIdeal.Points
public import proofs.«01_k».proof.Proof.Gen.DuIdeal.Frame
public import proofs.«01_k».proof.Proof.Gen.DuRefIdeal
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.DNorm
public import proofs.«01_k».proof.Proof.Gen.DNorm.Skeleton
public import proofs.«01_k».proof.Proof.Gen.DNorm.Launch
public import proofs.«01_k».proof.Proof.Gen.DNorm.Points
public import proofs.«01_k».proof.Proof.Gen.DNorm.Frame
public import proofs.«01_k».proof.Proof.Gen.DNormIdeal
public import proofs.«01_k».proof.Proof.Gen.DNormIdeal.Skeleton
public import proofs.«01_k».proof.Proof.Gen.DNormIdeal.Launch
public import proofs.«01_k».proof.Proof.Gen.DNormIdeal.Points
public import proofs.«01_k».proof.Proof.Gen.DNormIdeal.Frame
public import proofs.«01_k».proof.Proof.Gen.DNormRefIdeal
public import proofs.«01_k».proof.Proof.Gen.DGate
public import proofs.«01_k».proof.Proof.Gen.DGate.Skeleton
public import proofs.«01_k».proof.Proof.Gen.DGate.Launch
public import proofs.«01_k».proof.Proof.Gen.DGate.Points
public import proofs.«01_k».proof.Proof.Gen.DGate.Frame
public import proofs.«01_k».proof.Proof.Gen.DGateIdeal
public import proofs.«01_k».proof.Proof.Gen.DGateIdeal.Skeleton
public import proofs.«01_k».proof.Proof.Gen.DGateIdeal.Launch
public import proofs.«01_k».proof.Proof.Gen.DGateIdeal.Points
public import proofs.«01_k».proof.Proof.Gen.DGateIdeal.Frame
public import proofs.«01_k».proof.Proof.Gen.DGateRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.Pre_du_finite
public import proofs.«01_k».proof.Proof.Claims
public import proofs.«01_k».proof.Proof.InProj
public import proofs.«01_k».proof.Proof.DwIn
public import proofs.«01_k».proof.Proof.Dh
public import proofs.«01_k».proof.Proof.Du
public import proofs.«01_k».proof.Proof.Dw
public import proofs.«01_k».proof.Proof.OutProj
public import proofs.«01_k».proof.Proof.DwOut
public import proofs.«01_k».proof.Proof.Merge
public import proofs.«01_k».proof.Proof.MergeBwd
public import proofs.«01_k».proof.Proof.Norm
public import proofs.«01_k».proof.Proof.DNorm
public import proofs.«01_k».proof.Proof.DGate
public import proofs.«01_k».proof.Proof.Adam
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DhIdeal.Value
public import proofs.«01_k».proof.Proof.Gen.DhRefIdeal.Run
public import proofs.«01_k».proof.Proof.Gen.DhRefIdeal.Read
public import proofs.«01_k».proof.Proof.Gen.DuIdeal.Value
public import proofs.«01_k».proof.Proof.Gen.DuRefIdeal.Run
public import proofs.«01_k».proof.Proof.Gen.DuRefIdeal.Read
public import proofs.«01_k».proof.Proof.Gen.DwIdeal.Value
public import proofs.«01_k».proof.Proof.Gen.DwRefIdeal.Run
public import proofs.«01_k».proof.Proof.Gen.DwRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.DNormIdeal.Value
public import proofs.«01_k».proof.Proof.Gen.DNormRefIdeal.Run
public import proofs.«01_k».proof.Proof.Gen.DNormRefIdeal.Read
public import proofs.«01_k».proof.Proof.Gen.DGateIdeal.Value
public import proofs.«01_k».proof.Proof.Gen.DGateRefIdeal.Run
public import proofs.«01_k».proof.Proof.Gen.DGateRefIdeal.Read
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchRefIdeal
public import proofs.«01_k».proof.Proof.AdamBranch
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.AdamOut
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts, Cert.DwIn.Gen.facts, Cert.DwInIdeal.Gen.facts, Cert.DwInRefIdeal.Gen.facts, Cert.Dh.Gen.facts, Cert.DhIdeal.Gen.facts, Cert.DhRefIdeal.Gen.facts, Cert.Du.Gen.facts, Cert.DuIdeal.Gen.facts, Cert.DuRefIdeal.Gen.facts, Cert.Dw.Gen.facts, Cert.DwIdeal.Gen.facts, Cert.DwRefIdeal.Gen.facts, Cert.OutProj.Gen.facts, Cert.OutProjIdeal.Gen.facts, Cert.OutProjRefIdeal.Gen.facts, Cert.DwOut.Gen.facts, Cert.DwOutIdeal.Gen.facts, Cert.DwOutRefIdeal.Gen.facts, Cert.Merge.Gen.facts, Cert.MergeIdeal.Gen.facts, Cert.MergeRefIdeal.Gen.facts, Cert.MergeBwd.Gen.facts, Cert.MergeBwdIdeal.Gen.facts, Cert.MergeBwdRefIdeal.Gen.facts, Cert.Norm.Gen.facts, Cert.NormIdeal.Gen.facts, Cert.NormRefIdeal.Gen.facts, Cert.DNorm.Gen.facts, Cert.DNormIdeal.Gen.facts, Cert.DNormRefIdeal.Gen.facts, Cert.DGate.Gen.facts, Cert.DGateIdeal.Gen.facts, Cert.DGateRefIdeal.Gen.facts, Cert.Adam.Gen.facts, Cert.AdamIdeal.Gen.facts, Cert.AdamRefIdeal.Gen.facts, Cert.AdamBranch.Gen.facts, Cert.AdamBranchIdeal.Gen.facts, Cert.AdamBranchRefIdeal.Gen.facts, Cert.AdamOut.Gen.facts, Cert.AdamOutIdeal.Gen.facts, Cert.AdamOutRefIdeal.Gen.facts, Cert.Pre_du_finite.Gen.facts,
    Cert.Proof.Claims.frame_p, Cert.Proof.Claims.frame_pi, Cert.Proof.Claims.frame_ri, Cert.Proof.InProj.frame_p, Cert.Proof.InProj.frame_pi, Cert.Proof.InProj.frame_ri, Cert.Proof.DwIn.frame_p, Cert.Proof.DwIn.frame_pi, Cert.Proof.DwIn.frame_ri, Cert.Proof.Dh.frame_p, Cert.Proof.Dh.frame_pi, Cert.Proof.Dh.frame_ri, Cert.Proof.Du.frame_p, Cert.Proof.Du.frame_pi, Cert.Proof.Du.frame_ri, Cert.Proof.Dw.frame_p, Cert.Proof.Dw.frame_pi, Cert.Proof.Dw.frame_ri, Cert.Proof.OutProj.frame_p, Cert.Proof.OutProj.frame_pi, Cert.Proof.OutProj.frame_ri, Cert.Proof.DwOut.frame_p, Cert.Proof.DwOut.frame_pi, Cert.Proof.DwOut.frame_ri, Cert.Proof.Merge.frame_p, Cert.Proof.Merge.frame_pi, Cert.Proof.Merge.frame_ri, Cert.Proof.MergeBwd.frame_p, Cert.Proof.MergeBwd.frame_pi, Cert.Proof.MergeBwd.frame_ri, Cert.Proof.Norm.frame_p, Cert.Proof.Norm.frame_pi, Cert.Proof.Norm.frame_ri, Cert.Proof.DNorm.frame_p, Cert.Proof.DNorm.frame_pi, Cert.Proof.DNorm.frame_ri, Cert.Proof.DGate.frame_p, fun m ρ _ => Cert.DGate.Gen.frame m ρ, Cert.Proof.DGate.frame_pi, fun m ρ _ => Cert.DGateIdeal.Gen.frame m ρ, Cert.Proof.DGate.frame_ri, fun m ρ _ => Cert.Proof.DGate.frame_ri m ρ trivial, Cert.Proof.Adam.frame_p, Cert.Proof.Adam.frame_pi, Cert.Proof.Adam.frame_ri, Cert.Proof.AdamBranch.frame_p, Cert.Proof.AdamBranch.frame_pi, Cert.Proof.AdamBranch.frame_ri, Cert.Proof.AdamOut.frame_p, Cert.Proof.AdamOut.frame_pi, Cert.Proof.AdamOut.frame_ri,
    trivial, Cert.Proof.Claims.algebraic, trivial, Cert.Proof.InProj.algebraic, trivial, Cert.Proof.DwIn.algebraic, trivial, Cert.Proof.Dh.algebraic, trivial, Cert.Proof.Du.algebraic, trivial, Cert.Proof.Dw.algebraic, trivial, Cert.Proof.OutProj.algebraic, trivial, Cert.Proof.DwOut.algebraic, trivial, Cert.Proof.Merge.algebraic, trivial, Cert.Proof.MergeBwd.algebraic, trivial, Cert.Proof.Norm.algebraic, trivial, Cert.Proof.DNorm.algebraic, trivial, Cert.Proof.DGate.algebraic, Cert.Proof.Adam.preserves, Cert.Proof.Adam.algebraic, Cert.Proof.AdamBranch.preserves, Cert.Proof.AdamBranch.algebraic, Cert.Proof.AdamOut.preserves, Cert.Proof.AdamOut.algebraic⟩

end Cert.Proof

end
